-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_inproj [hPre_finite_inproj : Cert.Pre_finite_inproj.Facts] (m : (ℓ : Loc Cert.InprojIdeal.nD Cert.InprojIdeal.τ Cert.InprojIdeal.sig) → Buf (Elt Ideal) ℓ) : Prop :=
  ∀ c : Dev Cert.InprojIdeal.nD,
    (Cert.Pre_finite_inproj.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_inproj [hPre_finite_inproj : Cert.Pre_finite_inproj.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8)) (m ((c.tc : Thread Cert.UpIdeal.nD Cert.UpIdeal.τ).loc Cert.UpIdeal.main_arg9))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7)) (m ((c.tc : Thread Cert.UpRefIdeal.nD Cert.UpRefIdeal.τ).loc Cert.UpRefIdeal.main_arg8)) (m ((c.tc : Thread Cert.UpRefIdeal.nD Cert.UpRefIdeal.τ).loc Cert.UpRefIdeal.main_arg9))) = (fun _ => 1#1)

def Pre_Mixers (m : (ℓ : Loc Cert.Mixers.nD Cert.Mixers.τ Cert.Mixers.sig) → Buf (Elt Bits) ℓ) : Prop :=
  True

def Pre_MixersIdeal (m : (ℓ : Loc Cert.MixersIdeal.nD Cert.MixersIdeal.τ Cert.MixersIdeal.sig) → Buf (Elt Ideal) ℓ) : Prop :=
  True

def Pre_MixersIdeal_finite_mixers [hPre_finite_mixers : Cert.Pre_finite_mixers.Facts] (m : (ℓ : Loc Cert.MixersIdeal.nD Cert.MixersIdeal.τ Cert.MixersIdeal.sig) → Buf (Elt Ideal) ℓ) : Prop :=
  ∀ c : Dev Cert.MixersIdeal.nD,
    (Cert.Pre_finite_mixers.fn (F := Ideal) (m ((c.tc : Thread Cert.MixersIdeal.nD Cert.MixersIdeal.τ).loc Cert.MixersIdeal.main_arg0)) (m ((c.tc : Thread Cert.MixersIdeal.nD Cert.MixersIdeal.τ).loc Cert.MixersIdeal.main_arg1)) (m ((c.tc : Thread Cert.MixersIdeal.nD Cert.MixersIdeal.τ).loc Cert.MixersIdeal.main_arg2)) (m ((c.tc : Thread Cert.MixersIdeal.nD Cert.MixersIdeal.τ).loc Cert.MixersIdeal.main_arg3)) (m ((c.tc : Thread Cert.MixersIdeal.nD Cert.MixersIdeal.τ).loc Cert.MixersIdeal.main_arg4)) (m ((c.tc : Thread Cert.MixersIdeal.nD Cert.MixersIdeal.τ).loc Cert.MixersIdeal.main_arg5))) = (fun _ => 1#1)

def Pre_MixersRefIdeal (m : (ℓ : Loc Cert.MixersRefIdeal.nD Cert.MixersRefIdeal.τ Cert.MixersRefIdeal.sig) → Buf (Elt Ideal) ℓ) : Prop :=
  True

def Pre_MixersRefIdeal_finite_mixers [hPre_finite_mixers : Cert.Pre_finite_mixers.Facts] (m : (ℓ : Loc Cert.MixersRefIdeal.nD Cert.MixersRefIdeal.τ Cert.MixersRefIdeal.sig) → Buf (Elt Ideal) ℓ) : Prop :=
  ∀ c : Dev Cert.MixersRefIdeal.nD,
    (Cert.Pre_finite_mixers.fn (F := Ideal) (m ((c.tc : Thread Cert.MixersRefIdeal.nD Cert.MixersRefIdeal.τ).loc Cert.MixersRefIdeal.main_arg0)) (m ((c.tc : Thread Cert.MixersRefIdeal.nD Cert.MixersRefIdeal.τ).loc Cert.MixersRefIdeal.main_arg1)) (m ((c.tc : Thread Cert.MixersRefIdeal.nD Cert.MixersRefIdeal.τ).loc Cert.MixersRefIdeal.main_arg2)) (m ((c.tc : Thread Cert.MixersRefIdeal.nD Cert.MixersRefIdeal.τ).loc Cert.MixersRefIdeal.main_arg3)) (m ((c.tc : Thread Cert.MixersRefIdeal.nD Cert.MixersRefIdeal.τ).loc Cert.MixersRefIdeal.main_arg4)) (m ((c.tc : Thread Cert.MixersRefIdeal.nD Cert.MixersRefIdeal.τ).loc Cert.MixersRefIdeal.main_arg5))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_down [hPre_finite_down : Cert.Pre_finite_down.Facts] (m : (ℓ : Loc Cert.GateIdeal.nD Cert.GateIdeal.τ Cert.GateIdeal.sig) → Buf (Elt Ideal) ℓ) : Prop :=
  ∀ c : Dev Cert.GateIdeal.nD,
    (Cert.Pre_finite_down.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_down [hPre_finite_down : Cert.Pre_finite_down.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_down.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_finite_inproj [hInprojIdeal : Cert.InprojIdeal.Facts] [hPre_finite_inproj : Cert.Pre_finite_inproj.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_inproj m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_finite_inproj [hInprojRefIdeal : Cert.InprojRefIdeal.Facts] [hPre_finite_inproj : Cert.Pre_finite_inproj.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_inproj m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7)
      ∧ r.2.mem ((c.tc : Thread Cert.Up.nD Cert.Up.τ).loc Cert.Up.main_arg8) = m ((c.tc : Thread Cert.Up.nD Cert.Up.τ).loc Cert.Up.main_arg8)
      ∧ r.2.mem ((c.tc : Thread Cert.Up.nD Cert.Up.τ).loc Cert.Up.main_arg9) = m ((c.tc : Thread Cert.Up.nD Cert.Up.τ).loc Cert.Up.main_arg9))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
      ∧ r.2.mem ((c.tc : Thread Cert.UpIdeal.nD Cert.UpIdeal.τ).loc Cert.UpIdeal.main_arg8) = m ((c.tc : Thread Cert.UpIdeal.nD Cert.UpIdeal.τ).loc Cert.UpIdeal.main_arg8)
      ∧ r.2.mem ((c.tc : Thread Cert.UpIdeal.nD Cert.UpIdeal.τ).loc Cert.UpIdeal.main_arg9) = m ((c.tc : Thread Cert.UpIdeal.nD Cert.UpIdeal.τ).loc Cert.UpIdeal.main_arg9))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
      ∧ r.2.mem ((c.tc : Thread Cert.UpIdeal.nD Cert.UpIdeal.τ).loc Cert.UpIdeal.main_arg8) = m ((c.tc : Thread Cert.UpIdeal.nD Cert.UpIdeal.τ).loc Cert.UpIdeal.main_arg8)
      ∧ r.2.mem ((c.tc : Thread Cert.UpIdeal.nD Cert.UpIdeal.τ).loc Cert.UpIdeal.main_arg9) = m ((c.tc : Thread Cert.UpIdeal.nD Cert.UpIdeal.τ).loc Cert.UpIdeal.main_arg9))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7)
      ∧ r.2.mem ((c.tc : Thread Cert.UpRefIdeal.nD Cert.UpRefIdeal.τ).loc Cert.UpRefIdeal.main_arg8) = m ((c.tc : Thread Cert.UpRefIdeal.nD Cert.UpRefIdeal.τ).loc Cert.UpRefIdeal.main_arg8)
      ∧ r.2.mem ((c.tc : Thread Cert.UpRefIdeal.nD Cert.UpRefIdeal.τ).loc Cert.UpRefIdeal.main_arg9) = m ((c.tc : Thread Cert.UpRefIdeal.nD Cert.UpRefIdeal.τ).loc Cert.UpRefIdeal.main_arg9))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7)
      ∧ r.2.mem ((c.tc : Thread Cert.UpRefIdeal.nD Cert.UpRefIdeal.τ).loc Cert.UpRefIdeal.main_arg8) = m ((c.tc : Thread Cert.UpRefIdeal.nD Cert.UpRefIdeal.τ).loc Cert.UpRefIdeal.main_arg8)
      ∧ r.2.mem ((c.tc : Thread Cert.UpRefIdeal.nD Cert.UpRefIdeal.τ).loc Cert.UpRefIdeal.main_arg9) = m ((c.tc : Thread Cert.UpRefIdeal.nD Cert.UpRefIdeal.τ).loc Cert.UpRefIdeal.main_arg9))
      ∧ r.2.sem = fun _ => 0)

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2)
      ∧ r.2.mem ((c.tc : Thread Cert.Mixers.nD Cert.Mixers.τ).loc Cert.Mixers.main_arg3) = m ((c.tc : Thread Cert.Mixers.nD Cert.Mixers.τ).loc Cert.Mixers.main_arg3)
      ∧ r.2.mem ((c.tc : Thread Cert.Mixers.nD Cert.Mixers.τ).loc Cert.Mixers.main_arg4) = m ((c.tc : Thread Cert.Mixers.nD Cert.Mixers.τ).loc Cert.Mixers.main_arg4)
      ∧ r.2.mem ((c.tc : Thread Cert.Mixers.nD Cert.Mixers.τ).loc Cert.Mixers.main_arg5) = m ((c.tc : Thread Cert.Mixers.nD Cert.Mixers.τ).loc Cert.Mixers.main_arg5))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5))
      ∧ r.2.sem = fun _ => 0)

def quiescent_MixersIdeal_pre_finite_mixers [hMixersIdeal : Cert.MixersIdeal.Facts] [hPre_finite_mixers : Cert.Pre_finite_mixers.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal_finite_mixers m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5))
      ∧ r.2.sem = fun _ => 0)

def quiescent_MixersRefIdeal [hMixersRefIdeal : Cert.MixersRefIdeal.Facts] : Prop :=
  ∀ (m : (ℓ : Loc Cert.MixersRefIdeal.nD Cert.MixersRefIdeal.τ Cert.MixersRefIdeal.sig) → Buf (Elt Ideal) ℓ) (g : Dev Cert.MixersRefIdeal.nD → PrngReg), Pre_MixersRefIdeal m →
    θ_run (Cert.MixersRefIdeal.defs (F := Ideal)) (onTc (τ := Cert.MixersRefIdeal.τ) (Cert.MixersRefIdeal.main (F := Ideal))) ⟨m, fun _ => 0, g⟩ (fun r => (∀ c : Dev Cert.MixersRefIdeal.nD,
      r.2.mem ((c.tc : Thread Cert.MixersRefIdeal.nD Cert.MixersRefIdeal.τ).loc Cert.MixersRefIdeal.main_arg0) = m ((c.tc : Thread Cert.MixersRefIdeal.nD Cert.MixersRefIdeal.τ).loc Cert.MixersRefIdeal.main_arg0)
      ∧ r.2.mem ((c.tc : Thread Cert.MixersRefIdeal.nD Cert.MixersRefIdeal.τ).loc Cert.MixersRefIdeal.main_arg1) = m ((c.tc : Thread Cert.MixersRefIdeal.nD Cert.MixersRefIdeal.τ).loc Cert.MixersRefIdeal.main_arg1)
      ∧ r.2.mem ((c.tc : Thread Cert.MixersRefIdeal.nD Cert.MixersRefIdeal.τ).loc Cert.MixersRefIdeal.main_arg2) = m ((c.tc : Thread Cert.MixersRefIdeal.nD Cert.MixersRefIdeal.τ).loc Cert.MixersRefIdeal.main_arg2)
      ∧ r.2.mem ((c.tc : Thread Cert.MixersRefIdeal.nD Cert.MixersRefIdeal.τ).loc Cert.MixersRefIdeal.main_arg3) = m ((c.tc : Thread Cert.MixersRefIdeal.nD Cert.MixersRefIdeal.τ).loc Cert.MixersRefIdeal.main_arg3)
      ∧ r.2.mem ((c.tc : Thread Cert.MixersRefIdeal.nD Cert.MixersRefIdeal.τ).loc Cert.MixersRefIdeal.main_arg4) = m ((c.tc : Thread Cert.MixersRefIdeal.nD Cert.MixersRefIdeal.τ).loc Cert.MixersRefIdeal.main_arg4)
      ∧ r.2.mem ((c.tc : Thread Cert.MixersRefIdeal.nD Cert.MixersRefIdeal.τ).loc Cert.MixersRefIdeal.main_arg5) = m ((c.tc : Thread Cert.MixersRefIdeal.nD Cert.MixersRefIdeal.τ).loc Cert.MixersRefIdeal.main_arg5))
      ∧ r.2.sem = fun _ => 0)

def quiescent_MixersRefIdeal_pre_finite_mixers [hMixersRefIdeal : Cert.MixersRefIdeal.Facts] [hPre_finite_mixers : Cert.Pre_finite_mixers.Facts] : Prop :=
  ∀ (m : (ℓ : Loc Cert.MixersRefIdeal.nD Cert.MixersRefIdeal.τ Cert.MixersRefIdeal.sig) → Buf (Elt Ideal) ℓ) (g : Dev Cert.MixersRefIdeal.nD → PrngReg), Pre_MixersRefIdeal_finite_mixers m →
    θ_run (Cert.MixersRefIdeal.defs (F := Ideal)) (onTc (τ := Cert.MixersRefIdeal.τ) (Cert.MixersRefIdeal.main (F := Ideal))) ⟨m, fun _ => 0, g⟩ (fun r => (∀ c : Dev Cert.MixersRefIdeal.nD,
      r.2.mem ((c.tc : Thread Cert.MixersRefIdeal.nD Cert.MixersRefIdeal.τ).loc Cert.MixersRefIdeal.main_arg0) = m ((c.tc : Thread Cert.MixersRefIdeal.nD Cert.MixersRefIdeal.τ).loc Cert.MixersRefIdeal.main_arg0)
      ∧ r.2.mem ((c.tc : Thread Cert.MixersRefIdeal.nD Cert.MixersRefIdeal.τ).loc Cert.MixersRefIdeal.main_arg1) = m ((c.tc : Thread Cert.MixersRefIdeal.nD Cert.MixersRefIdeal.τ).loc Cert.MixersRefIdeal.main_arg1)
      ∧ r.2.mem ((c.tc : Thread Cert.MixersRefIdeal.nD Cert.MixersRefIdeal.τ).loc Cert.MixersRefIdeal.main_arg2) = m ((c.tc : Thread Cert.MixersRefIdeal.nD Cert.MixersRefIdeal.τ).loc Cert.MixersRefIdeal.main_arg2)
      ∧ r.2.mem ((c.tc : Thread Cert.MixersRefIdeal.nD Cert.MixersRefIdeal.τ).loc Cert.MixersRefIdeal.main_arg3) = m ((c.tc : Thread Cert.MixersRefIdeal.nD Cert.MixersRefIdeal.τ).loc Cert.MixersRefIdeal.main_arg3)
      ∧ r.2.mem ((c.tc : Thread Cert.MixersRefIdeal.nD Cert.MixersRefIdeal.τ).loc Cert.MixersRefIdeal.main_arg4) = m ((c.tc : Thread Cert.MixersRefIdeal.nD Cert.MixersRefIdeal.τ).loc Cert.MixersRefIdeal.main_arg4)
      ∧ r.2.mem ((c.tc : Thread Cert.MixersRefIdeal.nD Cert.MixersRefIdeal.τ).loc Cert.MixersRefIdeal.main_arg5) = m ((c.tc : Thread Cert.MixersRefIdeal.nD Cert.MixersRefIdeal.τ).loc Cert.MixersRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_finite_down [hGateIdeal : Cert.GateIdeal.Facts] [hPre_finite_down : Cert.Pre_finite_down.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_down m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_finite_down [hGateRefIdeal : Cert.GateRefIdeal.Facts] [hPre_finite_down : Cert.Pre_finite_down.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_down m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def preserves_Inproj_InprojIdeal : Prop :=
  True

def algebraic_InprojIdeal_InprojRefIdeal_pre_finite_inproj [hInprojIdeal : Cert.InprojIdeal.Facts] [hInprojRefIdeal : Cert.InprojRefIdeal.Facts] [hPre_finite_inproj : Cert.Pre_finite_inproj.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_inproj m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v6_0)) (v1 : (c : Dev Cert.InprojIdeal.nD) → Buf (Elt Ideal) ((c.tc : Thread Cert.InprojIdeal.nD Cert.InprojIdeal.τ).loc Cert.InprojIdeal.main_v6_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v6_0) = v0 c
          ∧ r.2.mem ((c.tc : Thread Cert.InprojIdeal.nD Cert.InprojIdeal.τ).loc Cert.InprojIdeal.main_v6_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v44) = v0 c
          ∧ r.2.mem ((c.tc : Thread Cert.InprojRefIdeal.nD Cert.InprojRefIdeal.τ).loc Cert.InprojRefIdeal.main_v45) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v7_0)) (v1 : (c : Dev Cert.LossIdeal.nD) → Buf (Elt Ideal) ((c.tc : Thread Cert.LossIdeal.nD Cert.LossIdeal.τ).loc Cert.LossIdeal.main_v7_1)) (v2 : (c : Dev Cert.LossIdeal.nD) → Buf (Elt Ideal) ((c.tc : Thread Cert.LossIdeal.nD Cert.LossIdeal.τ).loc Cert.LossIdeal.main_v7_2)) (v3 : (c : Dev Cert.LossIdeal.nD) → Buf (Elt Ideal) ((c.tc : Thread Cert.LossIdeal.nD Cert.LossIdeal.τ).loc Cert.LossIdeal.main_v7_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v7_0) = v0 c
          ∧ r.2.mem ((c.tc : Thread Cert.LossIdeal.nD Cert.LossIdeal.τ).loc Cert.LossIdeal.main_v7_1) = v1 c
          ∧ r.2.mem ((c.tc : Thread Cert.LossIdeal.nD Cert.LossIdeal.τ).loc Cert.LossIdeal.main_v7_2) = v2 c
          ∧ r.2.mem ((c.tc : Thread Cert.LossIdeal.nD Cert.LossIdeal.τ).loc Cert.LossIdeal.main_v7_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v58) = v0 c
          ∧ r.2.mem ((c.tc : Thread Cert.LossRefIdeal.nD Cert.LossRefIdeal.τ).loc Cert.LossRefIdeal.main_v59) = v1 c
          ∧ r.2.mem ((c.tc : Thread Cert.LossRefIdeal.nD Cert.LossRefIdeal.τ).loc Cert.LossRefIdeal.main_v60) = v2 c
          ∧ r.2.mem ((c.tc : Thread Cert.LossRefIdeal.nD Cert.LossRefIdeal.τ).loc Cert.LossRefIdeal.main_v61) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)
      ∧ m' ((c.tc : Thread Cert.UpRefIdeal.nD Cert.UpRefIdeal.τ).loc Cert.UpRefIdeal.main_arg7) = m ((c.tc : Thread Cert.UpIdeal.nD Cert.UpIdeal.τ).loc Cert.UpIdeal.main_arg7)
      ∧ m' ((c.tc : Thread Cert.UpRefIdeal.nD Cert.UpRefIdeal.τ).loc Cert.UpRefIdeal.main_arg8) = m ((c.tc : Thread Cert.UpIdeal.nD Cert.UpIdeal.τ).loc Cert.UpIdeal.main_arg8)
      ∧ m' ((c.tc : Thread Cert.UpRefIdeal.nD Cert.UpRefIdeal.τ).loc Cert.UpRefIdeal.main_arg9) = m ((c.tc : Thread Cert.UpIdeal.nD Cert.UpIdeal.τ).loc Cert.UpIdeal.main_arg9)) →
    ∃ (v0 : (c : Dev Cert.UpIdeal.nD) → Buf (Elt Ideal) ((c.tc : Thread Cert.UpIdeal.nD Cert.UpIdeal.τ).loc Cert.UpIdeal.main_v13_2)) (v1 : (c : Dev Cert.UpIdeal.nD) → Buf (Elt Ideal) ((c.tc : Thread Cert.UpIdeal.nD Cert.UpIdeal.τ).loc Cert.UpIdeal.main_v19_0)) (v2 : (c : Dev Cert.UpIdeal.nD) → Buf (Elt Ideal) ((c.tc : Thread Cert.UpIdeal.nD Cert.UpIdeal.τ).loc Cert.UpIdeal.main_v19_1)) (v3 : (c : Dev Cert.UpIdeal.nD) → Buf (Elt Ideal) ((c.tc : Thread Cert.UpIdeal.nD Cert.UpIdeal.τ).loc Cert.UpIdeal.main_v19_2)) (v4 : (c : Dev Cert.UpIdeal.nD) → Buf (Elt Ideal) ((c.tc : Thread Cert.UpIdeal.nD Cert.UpIdeal.τ).loc Cert.UpIdeal.main_v19_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v13_2) = v0 c
          ∧ r.2.mem ((c.tc : Thread Cert.UpIdeal.nD Cert.UpIdeal.τ).loc Cert.UpIdeal.main_v19_0) = v1 c
          ∧ r.2.mem ((c.tc : Thread Cert.UpIdeal.nD Cert.UpIdeal.τ).loc Cert.UpIdeal.main_v19_1) = v2 c
          ∧ r.2.mem ((c.tc : Thread Cert.UpIdeal.nD Cert.UpIdeal.τ).loc Cert.UpIdeal.main_v19_2) = v3 c
          ∧ r.2.mem ((c.tc : Thread Cert.UpIdeal.nD Cert.UpIdeal.τ).loc Cert.UpIdeal.main_v19_3) = v4 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
          ∧ r.2.mem ((c.tc : Thread Cert.UpIdeal.nD Cert.UpIdeal.τ).loc Cert.UpIdeal.main_arg8) = m ((c.tc : Thread Cert.UpIdeal.nD Cert.UpIdeal.τ).loc Cert.UpIdeal.main_arg8)
          ∧ r.2.mem ((c.tc : Thread Cert.UpIdeal.nD Cert.UpIdeal.τ).loc Cert.UpIdeal.main_arg9) = m ((c.tc : Thread Cert.UpIdeal.nD Cert.UpIdeal.τ).loc Cert.UpIdeal.main_arg9))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v124) = v0 c
          ∧ r.2.mem ((c.tc : Thread Cert.UpRefIdeal.nD Cert.UpRefIdeal.τ).loc Cert.UpRefIdeal.main_v125) = v1 c
          ∧ r.2.mem ((c.tc : Thread Cert.UpRefIdeal.nD Cert.UpRefIdeal.τ).loc Cert.UpRefIdeal.main_v127) = v2 c
          ∧ r.2.mem ((c.tc : Thread Cert.UpRefIdeal.nD Cert.UpRefIdeal.τ).loc Cert.UpRefIdeal.main_v128) = v3 c
          ∧ r.2.mem ((c.tc : Thread Cert.UpRefIdeal.nD Cert.UpRefIdeal.τ).loc Cert.UpRefIdeal.main_v129) = v4 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6)
          ∧ r.2.mem ((c.tc : Thread Cert.UpRefIdeal.nD Cert.UpRefIdeal.τ).loc Cert.UpRefIdeal.main_arg7) = m' ((c.tc : Thread Cert.UpRefIdeal.nD Cert.UpRefIdeal.τ).loc Cert.UpRefIdeal.main_arg7)
          ∧ r.2.mem ((c.tc : Thread Cert.UpRefIdeal.nD Cert.UpRefIdeal.τ).loc Cert.UpRefIdeal.main_arg8) = m' ((c.tc : Thread Cert.UpRefIdeal.nD Cert.UpRefIdeal.τ).loc Cert.UpRefIdeal.main_arg8)
          ∧ r.2.mem ((c.tc : Thread Cert.UpRefIdeal.nD Cert.UpRefIdeal.τ).loc Cert.UpRefIdeal.main_arg9) = m' ((c.tc : Thread Cert.UpRefIdeal.nD Cert.UpRefIdeal.τ).loc Cert.UpRefIdeal.main_arg9))

def preserves_Mixers_MixersIdeal : Prop :=
  True

def algebraic_MixersIdeal_MixersRefIdeal_pre_finite_mixers [hMixersIdeal : Cert.MixersIdeal.Facts] [hMixersRefIdeal : Cert.MixersRefIdeal.Facts] [hPre_finite_mixers : Cert.Pre_finite_mixers.Facts] : Prop :=
  ∀ (m : (ℓ : Loc Cert.MixersIdeal.nD Cert.MixersIdeal.τ Cert.MixersIdeal.sig) → Buf (Elt Ideal) ℓ) (g : Dev Cert.MixersIdeal.nD → PrngReg)
    (m' : (ℓ : Loc Cert.MixersRefIdeal.nD Cert.MixersRefIdeal.τ Cert.MixersRefIdeal.sig) → Buf (Elt Ideal) ℓ) (g' : Dev Cert.MixersRefIdeal.nD → PrngReg), Pre_MixersIdeal_finite_mixers m →
    (∀ c : Dev Cert.MixersIdeal.nD,
      m' ((c.tc : Thread Cert.MixersRefIdeal.nD Cert.MixersRefIdeal.τ).loc Cert.MixersRefIdeal.main_arg0) = m ((c.tc : Thread Cert.MixersIdeal.nD Cert.MixersIdeal.τ).loc Cert.MixersIdeal.main_arg0)
      ∧ m' ((c.tc : Thread Cert.MixersRefIdeal.nD Cert.MixersRefIdeal.τ).loc Cert.MixersRefIdeal.main_arg1) = m ((c.tc : Thread Cert.MixersIdeal.nD Cert.MixersIdeal.τ).loc Cert.MixersIdeal.main_arg1)
      ∧ m' ((c.tc : Thread Cert.MixersRefIdeal.nD Cert.MixersRefIdeal.τ).loc Cert.MixersRefIdeal.main_arg2) = m ((c.tc : Thread Cert.MixersIdeal.nD Cert.MixersIdeal.τ).loc Cert.MixersIdeal.main_arg2)
      ∧ m' ((c.tc : Thread Cert.MixersRefIdeal.nD Cert.MixersRefIdeal.τ).loc Cert.MixersRefIdeal.main_arg3) = m ((c.tc : Thread Cert.MixersIdeal.nD Cert.MixersIdeal.τ).loc Cert.MixersIdeal.main_arg3)
      ∧ m' ((c.tc : Thread Cert.MixersRefIdeal.nD Cert.MixersRefIdeal.τ).loc Cert.MixersRefIdeal.main_arg4) = m ((c.tc : Thread Cert.MixersIdeal.nD Cert.MixersIdeal.τ).loc Cert.MixersIdeal.main_arg4)
      ∧ m' ((c.tc : Thread Cert.MixersRefIdeal.nD Cert.MixersRefIdeal.τ).loc Cert.MixersRefIdeal.main_arg5) = m ((c.tc : Thread Cert.MixersIdeal.nD Cert.MixersIdeal.τ).loc Cert.MixersIdeal.main_arg5)) →
    ∃ (v0 : (c : Dev Cert.MixersIdeal.nD) → Buf (Elt Ideal) ((c.tc : Thread Cert.MixersIdeal.nD Cert.MixersIdeal.τ).loc Cert.MixersIdeal.main_v39_3)) (v1 : (c : Dev Cert.MixersIdeal.nD) → Buf (Elt Ideal) ((c.tc : Thread Cert.MixersIdeal.nD Cert.MixersIdeal.τ).loc Cert.MixersIdeal.main_v39_4)) (v2 : (c : Dev Cert.MixersIdeal.nD) → Buf (Elt Ideal) ((c.tc : Thread Cert.MixersIdeal.nD Cert.MixersIdeal.τ).loc Cert.MixersIdeal.main_v40)) (v3 : (c : Dev Cert.MixersIdeal.nD) → Buf (Elt Ideal) ((c.tc : Thread Cert.MixersIdeal.nD Cert.MixersIdeal.τ).loc Cert.MixersIdeal.main_v41)),
      θ_run (Cert.MixersIdeal.defs (F := Ideal)) (onTc (τ := Cert.MixersIdeal.τ) (Cert.MixersIdeal.main (F := Ideal))) ⟨m, fun _ => 0, g⟩ (fun r => ∀ c : Dev Cert.MixersIdeal.nD,
          r.2.mem ((c.tc : Thread Cert.MixersIdeal.nD Cert.MixersIdeal.τ).loc Cert.MixersIdeal.main_v39_3) = v0 c
          ∧ r.2.mem ((c.tc : Thread Cert.MixersIdeal.nD Cert.MixersIdeal.τ).loc Cert.MixersIdeal.main_v39_4) = v1 c
          ∧ r.2.mem ((c.tc : Thread Cert.MixersIdeal.nD Cert.MixersIdeal.τ).loc Cert.MixersIdeal.main_v40) = v2 c
          ∧ r.2.mem ((c.tc : Thread Cert.MixersIdeal.nD Cert.MixersIdeal.τ).loc Cert.MixersIdeal.main_v41) = v3 c
          ∧ r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
          ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
          ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
          ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
          ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
          ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5))
      ∧ θ_run (Cert.MixersRefIdeal.defs (F := Ideal)) (onTc (τ := Cert.MixersRefIdeal.τ) (Cert.MixersRefIdeal.main (F := Ideal))) ⟨m', fun _ => 0, g'⟩ (fun r => ∀ c : Dev Cert.MixersRefIdeal.nD,
          r.2.mem ((c.tc : Thread Cert.MixersRefIdeal.nD Cert.MixersRefIdeal.τ).loc Cert.MixersRefIdeal.main_v358) = v0 c
          ∧ r.2.mem ((c.tc : Thread Cert.MixersRefIdeal.nD Cert.MixersRefIdeal.τ).loc Cert.MixersRefIdeal.main_v359) = v1 c
          ∧ r.2.mem ((c.tc : Thread Cert.MixersRefIdeal.nD Cert.MixersRefIdeal.τ).loc Cert.MixersRefIdeal.main_v361) = v2 c
          ∧ r.2.mem ((c.tc : Thread Cert.MixersRefIdeal.nD Cert.MixersRefIdeal.τ).loc Cert.MixersRefIdeal.main_v363) = v3 c
          ∧ r.2.mem ((c.tc : Thread Cert.MixersRefIdeal.nD Cert.MixersRefIdeal.τ).loc Cert.MixersRefIdeal.main_arg0) = m' ((c.tc : Thread Cert.MixersRefIdeal.nD Cert.MixersRefIdeal.τ).loc Cert.MixersRefIdeal.main_arg0)
          ∧ r.2.mem ((c.tc : Thread Cert.MixersRefIdeal.nD Cert.MixersRefIdeal.τ).loc Cert.MixersRefIdeal.main_arg1) = m' ((c.tc : Thread Cert.MixersRefIdeal.nD Cert.MixersRefIdeal.τ).loc Cert.MixersRefIdeal.main_arg1)
          ∧ r.2.mem ((c.tc : Thread Cert.MixersRefIdeal.nD Cert.MixersRefIdeal.τ).loc Cert.MixersRefIdeal.main_arg2) = m' ((c.tc : Thread Cert.MixersRefIdeal.nD Cert.MixersRefIdeal.τ).loc Cert.MixersRefIdeal.main_arg2)
          ∧ r.2.mem ((c.tc : Thread Cert.MixersRefIdeal.nD Cert.MixersRefIdeal.τ).loc Cert.MixersRefIdeal.main_arg3) = m' ((c.tc : Thread Cert.MixersRefIdeal.nD Cert.MixersRefIdeal.τ).loc Cert.MixersRefIdeal.main_arg3)
          ∧ r.2.mem ((c.tc : Thread Cert.MixersRefIdeal.nD Cert.MixersRefIdeal.τ).loc Cert.MixersRefIdeal.main_arg4) = m' ((c.tc : Thread Cert.MixersRefIdeal.nD Cert.MixersRefIdeal.τ).loc Cert.MixersRefIdeal.main_arg4)
          ∧ r.2.mem ((c.tc : Thread Cert.MixersRefIdeal.nD Cert.MixersRefIdeal.τ).loc Cert.MixersRefIdeal.main_arg5) = m' ((c.tc : Thread Cert.MixersRefIdeal.nD Cert.MixersRefIdeal.τ).loc Cert.MixersRefIdeal.main_arg5))

def preserves_Gate_GateIdeal : Prop :=
  True

def algebraic_GateIdeal_GateRefIdeal_pre_finite_down [hGateIdeal : Cert.GateIdeal.Facts] [hGateRefIdeal : Cert.GateRefIdeal.Facts] [hPre_finite_down : Cert.Pre_finite_down.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_down m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v13_2)) (v1 : (c : Dev Cert.GateIdeal.nD) → Buf (Elt Ideal) ((c.tc : Thread Cert.GateIdeal.nD Cert.GateIdeal.τ).loc Cert.GateIdeal.main_v16_0)) (v2 : (c : Dev Cert.GateIdeal.nD) → Buf (Elt Ideal) ((c.tc : Thread Cert.GateIdeal.nD Cert.GateIdeal.τ).loc Cert.GateIdeal.main_v16_1)) (v3 : (c : Dev Cert.GateIdeal.nD) → Buf (Elt Ideal) ((c.tc : Thread Cert.GateIdeal.nD Cert.GateIdeal.τ).loc Cert.GateIdeal.main_v16_2)) (v4 : (c : Dev Cert.GateIdeal.nD) → Buf (Elt Ideal) ((c.tc : Thread Cert.GateIdeal.nD Cert.GateIdeal.τ).loc Cert.GateIdeal.main_v16_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v13_2) = v0 c
          ∧ r.2.mem ((c.tc : Thread Cert.GateIdeal.nD Cert.GateIdeal.τ).loc Cert.GateIdeal.main_v16_0) = v1 c
          ∧ r.2.mem ((c.tc : Thread Cert.GateIdeal.nD Cert.GateIdeal.τ).loc Cert.GateIdeal.main_v16_1) = v2 c
          ∧ r.2.mem ((c.tc : Thread Cert.GateIdeal.nD Cert.GateIdeal.τ).loc Cert.GateIdeal.main_v16_2) = v3 c
          ∧ r.2.mem ((c.tc : Thread Cert.GateIdeal.nD Cert.GateIdeal.τ).loc Cert.GateIdeal.main_v16_3) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v33) = v0 c
          ∧ r.2.mem ((c.tc : Thread Cert.GateRefIdeal.nD Cert.GateRefIdeal.τ).loc Cert.GateRefIdeal.main_v35) = v1 c
          ∧ r.2.mem ((c.tc : Thread Cert.GateRefIdeal.nD Cert.GateRefIdeal.τ).loc Cert.GateRefIdeal.main_v37) = v2 c
          ∧ r.2.mem ((c.tc : Thread Cert.GateRefIdeal.nD Cert.GateRefIdeal.τ).loc Cert.GateRefIdeal.main_v42) = v3 c
          ∧ r.2.mem ((c.tc : Thread Cert.GateRefIdeal.nD Cert.GateRefIdeal.τ).loc Cert.GateRefIdeal.main_v47) = v4 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def Claim : Prop :=
  ∃ (hInproj : Cert.Inproj.Facts) (hInprojIdeal : Cert.InprojIdeal.Facts) (hInprojRefIdeal : Cert.InprojRefIdeal.Facts) (hLoss : Cert.Loss.Facts) (hLossIdeal : Cert.LossIdeal.Facts) (hLossRefIdeal : Cert.LossRefIdeal.Facts) (hUp : Cert.Up.Facts) (hUpIdeal : Cert.UpIdeal.Facts) (hUpRefIdeal : Cert.UpRefIdeal.Facts) (hMixers : Cert.Mixers.Facts) (hMixersIdeal : Cert.MixersIdeal.Facts) (hMixersRefIdeal : Cert.MixersRefIdeal.Facts) (hGate : Cert.Gate.Facts) (hGateIdeal : Cert.GateIdeal.Facts) (hGateRefIdeal : Cert.GateRefIdeal.Facts) (hPre_finite_inproj : Cert.Pre_finite_inproj.Facts) (hPre_finite_loss : Cert.Pre_finite_loss.Facts) (hPre_finite_up : Cert.Pre_finite_up.Facts) (hPre_finite_mixers : Cert.Pre_finite_mixers.Facts) (hPre_finite_down : Cert.Pre_finite_down.Facts),
    quiescent_Inproj (hInproj := hInproj)
    ∧ quiescent_InprojIdeal (hInprojIdeal := hInprojIdeal)
    ∧ quiescent_InprojIdeal_pre_finite_inproj (hInprojIdeal := hInprojIdeal) (hPre_finite_inproj := hPre_finite_inproj)
    ∧ quiescent_InprojRefIdeal (hInprojRefIdeal := hInprojRefIdeal)
    ∧ quiescent_InprojRefIdeal_pre_finite_inproj (hInprojRefIdeal := hInprojRefIdeal) (hPre_finite_inproj := hPre_finite_inproj)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Mixers (hMixers := hMixers)
    ∧ quiescent_MixersIdeal (hMixersIdeal := hMixersIdeal)
    ∧ quiescent_MixersIdeal_pre_finite_mixers (hMixersIdeal := hMixersIdeal) (hPre_finite_mixers := hPre_finite_mixers)
    ∧ quiescent_MixersRefIdeal (hMixersRefIdeal := hMixersRefIdeal)
    ∧ quiescent_MixersRefIdeal_pre_finite_mixers (hMixersRefIdeal := hMixersRefIdeal) (hPre_finite_mixers := hPre_finite_mixers)
    ∧ quiescent_Gate (hGate := hGate)
    ∧ quiescent_GateIdeal (hGateIdeal := hGateIdeal)
    ∧ quiescent_GateIdeal_pre_finite_down (hGateIdeal := hGateIdeal) (hPre_finite_down := hPre_finite_down)
    ∧ quiescent_GateRefIdeal (hGateRefIdeal := hGateRefIdeal)
    ∧ quiescent_GateRefIdeal_pre_finite_down (hGateRefIdeal := hGateRefIdeal) (hPre_finite_down := hPre_finite_down)
    ∧ preserves_Inproj_InprojIdeal
    ∧ algebraic_InprojIdeal_InprojRefIdeal_pre_finite_inproj (hInprojIdeal := hInprojIdeal) (hInprojRefIdeal := hInprojRefIdeal) (hPre_finite_inproj := hPre_finite_inproj)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Up_UpIdeal
    ∧ algebraic_UpIdeal_UpRefIdeal_pre_finite_up (hUpIdeal := hUpIdeal) (hUpRefIdeal := hUpRefIdeal) (hPre_finite_up := hPre_finite_up)
    ∧ preserves_Mixers_MixersIdeal
    ∧ algebraic_MixersIdeal_MixersRefIdeal_pre_finite_mixers (hMixersIdeal := hMixersIdeal) (hMixersRefIdeal := hMixersRefIdeal) (hPre_finite_mixers := hPre_finite_mixers)
    ∧ preserves_Gate_GateIdeal
    ∧ algebraic_GateIdeal_GateRefIdeal_pre_finite_down (hGateIdeal := hGateIdeal) (hGateRefIdeal := hGateRefIdeal) (hPre_finite_down := hPre_finite_down)
-- ==== Pre_finite_down.lean ====
abbrev S1x4096x1024 : Shape := ⟨3, ![1, 4096, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x4096x1024 .f32) (main_v13 : IVec S_ 1) (main_v16 : IVec S1x2816x1024 1) : IVec S_ 1 :=
  let main_c_5 : IVec S_ 1 := constantI S_ 1 1#1
  let main_v17 : IVec S_ 1 := (fun x v => Host.reduce IntOp.andi x v reducesTo_S1x2816x1024_S_d0_1_2 h_S_) main_v16 main_c_5
  let main_v18 : IVec S_ 1 := andi main_v13 main_v17
  let main_v19 : FVec F S1x4096x1024 .f32 := Host.absf main_arg4
  let main_cst_6 : FVec F S_ .f32 := constant S_ .f32 0x7F800000#32
  let main_v20 : FVec F S1x4096x1024 .f32 := broadcastInDim S1x4096x1024 ![] bcast_S_S1x4096x1024 main_cst_6
  let main_v21 : IVec S1x4096x1024 1 := cmpf .olt main_v19 main_v20
  let main_c_7 : IVec S_ 1 := constantI S_ 1 1#1
  let main_v22 : IVec S_ 1 := (fun x v => Host.reduce IntOp.andi x v reducesTo_S1x4096x1024_S_d0_1_2 h_S_) main_v21 main_c_7
  let main_v23 : IVec S_ 1 := andi main_v18 main_v22
  main_v23

def fn {F : FTy → Type} [FloatOps F] (main_arg0 : FVec F S1x4096x1024 .f32) (main_arg1 : FVec F S1x1024x2816 .f32) (main_arg2 : FVec F S1x1024x2816 .f32) (main_arg3 : FVec F S1x2816x1024 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024x2816 .f32 := Host.absf main_arg1
  let main_cst_0 : FVec F S_ .f32 := constant S_ .f32 0x7F800000#32
  let main_v5 : FVec F S1x1024x2816 .f32 := broadcastInDim S1x1024x2816 ![] bcast_S_S1x1024x2816 main_cst_0
  let main_v6 : IVec S1x1024x2816 1 := cmpf .olt main_v4 main_v5
  let main_c_1 : IVec S_ 1 := constantI S_ 1 1#1
  let main_v7 : IVec S_ 1 := (fun x v => Host.reduce IntOp.andi x v reducesTo_S1x1024x2816_S_d0_1_2 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x2816x1024 .f32 := Host.absf main_arg3
  let main_cst_4 : FVec F S_ .f32 := constant S_ .f32 0x7F800000#32
  let main_v15 : FVec F S1x2816x1024 .f32 := broadcastInDim S1x2816x1024 ![] bcast_S_S1x2816x1024 main_cst_4
  let main_v16 : IVec S1x2816x1024 1 := cmpf .olt main_v14 main_v15
  fn_part1 (F := F) main_arg4 main_v13 main_v16
-- ==== Pre_finite_inproj.lean ====
abbrev S1x4096x1024 : Shape := ⟨3, ![1, 4096, 1024]⟩
abbrev S1x1024 : Shape := ⟨2, ![1, 1024]⟩
abbrev S1x1024x1280 : Shape := ⟨3, ![1, 1024, 1280]⟩
abbrev S4096x1280 : Shape := ⟨2, ![4096, 1280]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1280 : S_.BroadcastsInDim S1x1024x1280 (![] : Fin 0 → Fin S1x1024x1280.rank)
  reducesTo_S1x1024x1280_S_d0_1_2 : S1x1024x1280.ReducesTo [0, 1, 2] S_
  bcast_S_S4096x1280 : S_.BroadcastsInDim S4096x1280 (![] : Fin 0 → Fin S4096x1280.rank)
  reducesTo_S4096x1280_S_d0_1 : S4096x1280.ReducesTo [0, 1] S_

variable [Facts]

def fn_part1 {F : FTy → Type} [FloatOps F] (main_v13 : IVec S_ 1) (main_v16 : IVec S4096x1280 1) : IVec S_ 1 :=
  let main_c_5 : IVec S_ 1 := constantI S_ 1 1#1
  let main_v17 : IVec S_ 1 := (fun x v => Host.reduce IntOp.andi x v reducesTo_S4096x1280_S_d0_1 h_S_) main_v16 main_c_5
  let main_v18 : IVec S_ 1 := andi main_v13 main_v17
  main_v18

def fn {F : FTy → Type} [FloatOps F] (main_arg0 : FVec F S1x4096x1024 .f32) (main_arg1 : FVec F S1x1024 .f32) (main_arg2 : FVec F S1x1024x1280 .f32) (main_arg3 : FVec F S4096x1280 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1280 .f32 := Host.absf main_arg2
  let main_cst_2 : FVec F S_ .f32 := constant S_ .f32 0x7F800000#32
  let main_v10 : FVec F S1x1024x1280 .f32 := broadcastInDim S1x1024x1280 ![] bcast_S_S1x1024x1280 main_cst_2
  let main_v11 : IVec S1x1024x1280 1 := cmpf .olt main_v9 main_v10
  let main_c_3 : IVec S_ 1 := constantI S_ 1 1#1
  let main_v12 : IVec S_ 1 := (fun x v => Host.reduce IntOp.andi x v reducesTo_S1x1024x1280_S_d0_1_2 h_S_) main_v11 main_c_3
  let main_v13 : IVec S_ 1 := andi main_v8 main_v12
  let main_v14 : FVec F S4096x1280 .f32 := Host.absf main_arg3
  let main_cst_4 : FVec F S_ .f32 := constant S_ .f32 0x7F800000#32
  let main_v15 : FVec F S4096x1280 .f32 := broadcastInDim S4096x1280 ![] bcast_S_S4096x1280 main_cst_4
  let main_v16 : IVec S4096x1280 1 := cmpf .olt main_v14 main_v15
  fn_part1 (F := F) main_v13 main_v16
-- ==== Pre_finite_loss.lean ====
abbrev S1x4096x2816 : Shape := ⟨3, ![1, 4096, 2816]⟩
abbrev S1x2816x1024 : Shape := ⟨3, ![1, 2816, 1024]⟩
abbrev S1x4096x1024 : Shape := ⟨3, ![1, 4096, 1024]⟩
abbrev S1x1024 : Shape := ⟨2, ![1, 1024]⟩
abbrev S_ : Shape := ⟨0, ![]⟩

class Facts : Prop where
  bcast_S_S1x4096x2816 : S_.BroadcastsInDim S1x4096x2816 (![] : Fin 0 → Fin S1x4096x2816.rank)
  reducesTo_S1x4096x2816_S_d0_1_2 : S1x4096x2816.ReducesTo [0, 1, 2] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x4096x1024 .f32 := Host.absf main_arg4
  let main_cst_6 : FVec F S_ .f32 := constant S_ .f32 0x7F800000#32
  let main_v20 : FVec F S1x4096x1024 .f32 := broadcastInDim S1x4096x1024 ![] bcast_S_S1x4096x1024 main_cst_6
  let main_v21 : IVec S1x4096x1024 1 := cmpf .olt main_v19 main_v20
  let main_c_7 : IVec S_ 1 := constantI S_ 1 1#1
  let main_v22 : IVec S_ 1 := (fun x v => Host.reduce IntOp.andi x v reducesTo_S1x4096x1024_S_d0_1_2 h_S_) main_v21 main_c_7
  let main_v23 : IVec S_ 1 := andi main_v18 main_v22
  main_v23

def fn {F : FTy → Type} [FloatOps F] (main_arg0 : FVec F S1x4096x2816 .f32) (main_arg1 : FVec F S1x2816x1024 .f32) (main_arg2 : FVec F S1x4096x1024 .f32) (main_arg3 : FVec F S1x1024 .f32) (main_arg4 : FVec F S1x4096x1024 .f32) : IVec S_ 1 :=
  let main_v0 : FVec F S1x4096x2816 .f32 := Host.absf main_arg0
  let main_cst : FVec F S_ .f32 := constant S_ .f32 0x7F800000#32
  let main_v1 : FVec F S1x4096x2816 .f32 := broadcastInDim S1x4096x2816 ![] bcast_S_S1x4096x2816 main_cst
  let main_v2 : IVec S1x4096x2816 1 := cmpf .olt main_v0 main_v1
  let main_c : IVec S_ 1 := constantI S_ 1 1#1
  let main_v3 : IVec S_ 1 := (fun x v => Host.reduce IntOp.andi x v reducesTo_S1x4096x2816_S_d0_1_2 h_S_) main_v2 main_c
  let main_v4 : FVec F S1x2816x1024 .f32 := Host.absf main_arg1
  let main_cst_0 : FVec F S_ .f32 := constant S_ .f32 0x7F800000#32
  let main_v5 : FVec F S1x2816x1024 .f32 := broadcastInDim S1x2816x1024 ![] bcast_S_S1x2816x1024 main_cst_0
  let main_v6 : IVec S1x2816x1024 1 := cmpf .olt main_v4 main_v5
  let main_c_1 : IVec S_ 1 := constantI S_ 1 1#1
  let main_v7 : IVec S_ 1 := (fun x v => Host.reduce IntOp.andi x v reducesTo_S1x2816x1024_S_d0_1_2 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Pre_finite_mixers.lean ====
abbrev S4096x1280 : Shape := ⟨2, ![4096, 1280]⟩
abbrev S1x4x128x128 : Shape := ⟨4, ![1, 4, 128, 128]⟩
abbrev S1x512 : Shape := ⟨2, ![1, 512]⟩
abbrev S32x8 : Shape := ⟨2, ![32, 8]⟩
abbrev S1x8 : Shape := ⟨2, ![1, 8]⟩
abbrev S4096x1024 : Shape := ⟨2, ![4096, 1024]⟩
abbrev S_ : Shape := ⟨0, ![]⟩

class Facts : Prop where
  bcast_S_S4096x1280 : S_.BroadcastsInDim S4096x1280 (![] : Fin 0 → Fin S4096x1280.rank)
  reducesTo_S4096x1280_S_d0_1 : S4096x1280.ReducesTo [0, 1] S_
  h_S_ : 0 < S_.numel
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1280 .f32) (main_arg1 : FVec F S1x4x128x128 .f32) (main_arg2 : FVec F S1x512 .f32) (main_arg3 : FVec F S32x8 .f32) (main_arg4 : FVec F S1x8 .f32) (main_arg5 : FVec F S4096x1024 .f32) : IVec S_ 1 :=
  let main_v0 : FVec F S4096x1280 .f32 := Host.absf main_arg0
  let main_cst : FVec F S_ .f32 := constant S_ .f32 0x7F800000#32
  let main_v1 : FVec F S4096x1280 .f32 := broadcastInDim S4096x1280 ![] bcast_S_S4096x1280 main_cst
  let main_v2 : IVec S4096x1280 1 := cmpf .olt main_v0 main_v1
  let main_c : IVec S_ 1 := constantI S_ 1 1#1
  let main_v3 : IVec S_ 1 := (fun x v => Host.reduce IntOp.andi x v reducesTo_S4096x1280_S_d0_1 h_S_) main_v2 main_c
  let main_v4 : FVec F S1x4x128x128 .f32 := Host.absf main_arg1
  let main_cst_0 : FVec F S_ .f32 := constant S_ .f32 0x7F800000#32
  let main_v5 : FVec F S1x4x128x128 .f32 := broadcastInDim S1x4x128x128 ![] bcast_S_S1x4x128x128 main_cst_0
  let main_v6 : IVec S1x4x128x128 1 := cmpf .olt main_v4 main_v5
  let main_c_1 : IVec S_ 1 := constantI S_ 1 1#1
  let main_v7 : IVec S_ 1 := (fun x v => Host.reduce IntOp.andi x v reducesTo_S1x4x128x128_S_d0_1_2_3 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S4096x1024 .f32 := Host.absf main_arg5
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_up.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x4096x2816 : Shape := ⟨3, ![1, 4096, 2816]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x4096x2816 : S_.BroadcastsInDim S1x4096x2816 (![] : Fin 0 → Fin S1x4096x2816.rank)
  reducesTo_S1x4096x2816_S_d0_1_2 : S1x4096x2816.ReducesTo [0, 1, 2] S_

variable [Facts]

def fn_part2 {F : FTy → Type} [FloatOps F] (main_arg7 : FVec F S1x4096x2816 .f32) (main_arg8 : FVec F S1x4096x2816 .f32) (main_arg9 : FVec F S1x4096x1024 .f32) (main_v33 : IVec S_ 1) : IVec S_ 1 :=
  let main_v34 : FVec F S1x4096x2816 .f32 := Host.absf main_arg7
  let main_cst_12 : FVec F S_ .f32 := constant S_ .f32 0x7F800000#32
  let main_v35 : FVec F S1x4096x2816 .f32 := broadcastInDim S1x4096x2816 ![] bcast_S_S1x4096x2816 main_cst_12
  let main_v36 : IVec S1x4096x2816 1 := cmpf .olt main_v34 main_v35
  let main_c_13 : IVec S_ 1 := constantI S_ 1 1#1
  let main_v37 : IVec S_ 1 := (fun x v => Host.reduce IntOp.andi x v reducesTo_S1x4096x2816_S_d0_1_2 h_S_) main_v36 main_c_13
  let main_v38 : IVec S_ 1 := andi main_v33 main_v37
  let main_v39 : FVec F S1x4096x2816 .f32 := Host.absf main_arg8
  let main_cst_14 : FVec F S_ .f32 := constant S_ .f32 0x7F800000#32
  let main_v40 : FVec F S1x4096x2816 .f32 := broadcastInDim S1x4096x2816 ![] bcast_S_S1x4096x2816 main_cst_14
  let main_v41 : IVec S1x4096x2816 1 := cmpf .olt main_v39 main_v40
  let main_c_15 : IVec S_ 1 := constantI S_ 1 1#1
  let main_v42 : IVec S_ 1 := (fun x v => Host.reduce IntOp.andi x v reducesTo_S1x4096x2816_S_d0_1_2 h_S_) main_v41 main_c_15
  let main_v43 : IVec S_ 1 := andi main_v38 main_v42
  let main_v44 : FVec F S1x4096x1024 .f32 := Host.absf main_arg9
  let main_cst_16 : FVec F S_ .f32 := constant S_ .f32 0x7F800000#32
  let main_v45 : FVec F S1x4096x1024 .f32 := broadcastInDim S1x4096x1024 ![] bcast_S_S1x4096x1024 main_cst_16
  let main_v46 : IVec S1x4096x1024 1 := cmpf .olt main_v44 main_v45
  let main_c_17 : IVec S_ 1 := constantI S_ 1 1#1
  let main_v47 : IVec S_ 1 := (fun x v => Host.reduce IntOp.andi x v reducesTo_S1x4096x1024_S_d0_1_2 h_S_) main_v46 main_c_17
  let main_v48 : IVec S_ 1 := andi main_v43 main_v47
  main_v48

def fn_part1 {F : FTy → Type} [FloatOps F] (main_arg4 : FVec F S1x1024 .f32) (main_arg5 : FVec F S1x1024x2816 .f32) (main_arg6 : FVec F S1x1024x2816 .f32) (main_arg7 : FVec F S1x4096x2816 .f32) (main_arg8 : FVec F S1x4096x2816 .f32) (main_arg9 : FVec F S1x4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024x2816 .f32 := Host.absf main_arg5
  let main_cst_8 : FVec F S_ .f32 := constant S_ .f32 0x7F800000#32
  let main_v25 : FVec F S1x1024x2816 .f32 := broadcastInDim S1x1024x2816 ![] bcast_S_S1x1024x2816 main_cst_8
  let main_v26 : IVec S1x1024x2816 1 := cmpf .olt main_v24 main_v25
  let main_c_9 : IVec S_ 1 := constantI S_ 1 1#1
  let main_v27 : IVec S_ 1 := (fun x v => Host.reduce IntOp.andi x v reducesTo_S1x1024x2816_S_d0_1_2 h_S_) main_v26 main_c_9
  let main_v28 : IVec S_ 1 := andi main_v23 main_v27
  let main_v29 : FVec F S1x1024x2816 .f32 := Host.absf main_arg6
  let main_cst_10 : FVec F S_ .f32 := constant S_ .f32 0x7F800000#32
  let main_v30 : FVec F S1x1024x2816 .f32 := broadcastInDim S1x1024x2816 ![] bcast_S_S1x1024x2816 main_cst_10
  let main_v31 : IVec S1x1024x2816 1 := cmpf .olt main_v29 main_v30
  let main_c_11 : IVec S_ 1 := constantI S_ 1 1#1
  let main_v32 : IVec S_ 1 := (fun x v => Host.reduce IntOp.andi x v reducesTo_S1x1024x2816_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S1x4096x1024 .f32) (main_arg1 : FVec F S1x1024x1024 .f32) (main_arg2 : FVec F S1x4096x1024 .f32) (main_arg3 : FVec F S1x1024 .f32) (main_arg4 : FVec F S1x1024 .f32) (main_arg5 : FVec F S1x1024x2816 .f32) (main_arg6 : FVec F S1x1024x2816 .f32) (main_arg7 : FVec F S1x4096x2816 .f32) (main_arg8 : FVec F S1x4096x2816 .f32) (main_arg9 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_arg9 main_v13 main_v16
-- ==== Inproj.lean ====
abbrev S1x4096x1024 : Shape := ⟨3, ![1, 4096, 1024]⟩
abbrev S1x1024 : Shape := ⟨2, ![1, 1024]⟩
abbrev S1x1024x1280 : Shape := ⟨3, ![1, 1024, 1280]⟩
abbrev S4096x1280 : Shape := ⟨2, ![4096, 1280]⟩
abbrev S1024x1280 : Shape := ⟨2, ![1024, 1280]⟩
abbrev S1280x1024 : Shape := ⟨2, ![1280, 1024]⟩
abbrev S4096x1024 : Shape := ⟨2, ![4096, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1x128 : Shape := ⟨2, ![1, 128]⟩

abbrev nBuf : Space → Nat
  | .hbm => 13
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x1280, .f32⟩
  | .hbm, ⟨3, _⟩ => ⟨S4096x1280, .f32⟩
  | .hbm, ⟨4, _⟩ => ⟨S1x4096x1024, .f32⟩
  | .hbm, ⟨5, _⟩ => ⟨S1024x1280, .f32⟩
  | .hbm, ⟨6, _⟩ => ⟨S1280x1024, .f32⟩
  | .hbm, ⟨7, _⟩ => ⟨S1280x1024, .bf16⟩
  | .hbm, ⟨8, _⟩ => ⟨S4096x1280, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S8x128, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InprojRefIdeal.lean ====
abbrev S1x4096x1024 : Shape := ⟨3, ![1, 4096, 1024]⟩
abbrev S1x1024 : Shape := ⟨2, ![1, 1024]⟩
abbrev S1x1024x1280 : Shape := ⟨3, ![1, 1024, 1280]⟩
abbrev S4096x1280 : Shape := ⟨2, ![4096, 1280]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x1280 : Shape := ⟨2, ![1024, 1280]⟩
abbrev S1x4096x1280 : Shape := ⟨3, ![1, 4096, 1280]⟩
abbrev S4096 : Shape := ⟨1, ![4096]⟩
abbrev S4096x1024 : Shape := ⟨2, ![4096, 1024]⟩
abbrev S8x128 : Shape := ⟨2, ![8, 128]⟩

abbrev nBuf : Space → Nat
  | .hbm => 60
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x1280, .f32⟩
  | .hbm, ⟨3, _⟩ => ⟨S4096x1280, .f32⟩
  | .hbm, ⟨4, _⟩ => ⟨S1x4096x1024, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x1280, .f32⟩
  | .hbm, ⟨27, _⟩ => ⟨S1x4096x1280, .f32⟩
  | .hbm, ⟨28, _⟩ => ⟨S1x4096x1280, .f32⟩
  | .hbm, ⟨29, _⟩ => ⟨S1x4096x1024, .f32⟩
  | .hbm, ⟨30, _⟩ => ⟨S1x4096x1024, .f32⟩
  | .hbm, ⟨31, _⟩ => ⟨S_, .f32⟩
  | .hbm, ⟨32, _⟩ => ⟨S1x1024, .f32⟩
  | .hbm, ⟨33, _⟩ => ⟨S1x1x1024, .f32⟩
  | .hbm, ⟨34, _⟩ => ⟨S1x4096x1024, .f32⟩
  | .hbm, ⟨35, _⟩ => ⟨S1x4096x1024, .f32⟩
  | .hbm, ⟨36, _⟩ => ⟨S_, .f32⟩
  | .hbm, ⟨37, _⟩ => ⟨S1024, .f32⟩
  | .hbm, ⟨38, _⟩ => ⟨S1x4096x1024, .f32⟩
  | .hbm, ⟨39, _⟩ => ⟨S_, .f32⟩
  | .hbm, ⟨40, _⟩ => ⟨S1x4096, .f32⟩
  | .hbm, ⟨41, _⟩ => ⟨S1x4096x1, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S1x4096x1, .f32⟩
  | .hbm, ⟨46, _⟩ => ⟨S_, .f32⟩
  | .hbm, ⟨47, _⟩ => ⟨S1x4096x1, .f32⟩
  | .hbm, ⟨48, _⟩ => ⟨S1x4096x1, .f32⟩
  | .hbm, ⟨49, _⟩ => ⟨S_, .f32⟩
  | .hbm, ⟨50, _⟩ => ⟨S4096, .f32⟩
  | .hbm, ⟨51, _⟩ => ⟨S1x4096, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x1024, .f32⟩
  | .hbm, ⟨58, _⟩ => ⟨S4096x1024, .f32⟩
  | .hbm, ⟨59, _⟩ => ⟨S8x128, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Loss.lean ====
abbrev S1x4096x2816 : Shape := ⟨3, ![1, 4096, 2816]⟩
abbrev S1x2816x1024 : Shape := ⟨3, ![1, 2816, 1024]⟩
abbrev S1x4096x1024 : Shape := ⟨3, ![1, 4096, 1024]⟩
abbrev S1x1024 : Shape := ⟨2, ![1, 1024]⟩
abbrev S2816x1024 : Shape := ⟨2, ![2816, 1024]⟩
abbrev S8x352x1024 : Shape := ⟨3, ![8, 352, 1024]⟩
abbrev S4096x2816 : Shape := ⟨2, ![4096, 2816]⟩
abbrev S4096x1024 : Shape := ⟨2, ![4096, 1024]⟩
abbrev S8x128 : Shape := ⟨2, ![8, 128]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 16
  | .vmem => 14
  | .smem => 0
  | _ => 0

abbrev bufTy : (tb : Table) → Fin (tcTables nBuf tb) → BufTy
  | .hbm, ⟨0, _⟩ => ⟨S1x4096x2816, .f32⟩
  | .hbm, ⟨1, _⟩ => ⟨S1x2816x1024, .f32⟩
  | .hbm, ⟨2, _⟩ => ⟨S1x4096x1024, .f32⟩
  | .hbm, ⟨3, _⟩ => ⟨S1x1024, .f32⟩
  | .hbm, ⟨4, _⟩ => ⟨S1x4096x1024, .f32⟩
  | .hbm, ⟨5, _⟩ => ⟨S2816x1024, .f32⟩
  | .hbm, ⟨6, _⟩ => ⟨S2816x1024, .bf16⟩
  | .hbm, ⟨7, _⟩ => ⟨S8x352x1024, .bf16⟩
  | .hbm, ⟨8, _⟩ => ⟨S4096x2816, .f32⟩
  | .hbm, ⟨9, _⟩ => ⟨S4096x2816, .bf16⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S8x128, .f32⟩
  | .hbm, ⟨15, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S8x352x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S1x128, .f32⟩
  | _, _ => ⟨S1x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S1x4096x2816 : Shape := ⟨3, ![1, 4096, 2816]⟩
abbrev S1x2816x1024 : Shape := ⟨3, ![1, 2816, 1024]⟩
abbrev S1x4096x1024 : Shape := ⟨3, ![1, 4096, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096 : Shape := ⟨1, ![4096]⟩
abbrev S4096x1024 : Shape := ⟨2, ![4096, 1024]⟩
abbrev S8x128 : Shape := ⟨2, ![8, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S1x4096x2816, .f32⟩
  | .hbm, ⟨1, _⟩ => ⟨S1x2816x1024, .f32⟩
  | .hbm, ⟨2, _⟩ => ⟨S1x4096x1024, .f32⟩
  | .hbm, ⟨3, _⟩ => ⟨S1x1024, .f32⟩
  | .hbm, ⟨4, _⟩ => ⟨S1x4096x1024, .f32⟩
  | .hbm, ⟨5, _⟩ => ⟨S2816x1024, .f32⟩
  | .hbm, ⟨6, _⟩ => ⟨S1x4096x1024, .f32⟩
  | .hbm, ⟨7, _⟩ => ⟨S1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x1024, .f32⟩
  | .hbm, ⟨24, _⟩ => ⟨S1x4096x1024, .f32⟩
  | .hbm, ⟨25, _⟩ => ⟨S1x1x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S_, .f32⟩
  | .hbm, ⟨32, _⟩ => ⟨S1x4096x1024, .f32⟩
  | .hbm, ⟨33, _⟩ => ⟨S1x4096x1024, .f32⟩
  | .hbm, ⟨34, _⟩ => ⟨S_, .f32⟩
  | .hbm, ⟨35, _⟩ => ⟨S1x4096, .f32⟩
  | .hbm, ⟨36, _⟩ => ⟨S_, .f32⟩
  | .hbm, ⟨37, _⟩ => ⟨S1x4096, .f32⟩
  | .hbm, ⟨38, _⟩ => ⟨S1x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S1x4096x1024, .f32⟩
  | .hbm, ⟨57, _⟩ => ⟨S1x4096x1024, .f32⟩
  | .hbm, ⟨58, _⟩ => ⟨S_, .f32⟩
  | .hbm, ⟨59, _⟩ => ⟨S1024, .f32⟩
  | .hbm, ⟨60, _⟩ => ⟨S1x4096x1024, .f32⟩
  | .hbm, ⟨61, _⟩ => ⟨S_, .f32⟩
  | .hbm, ⟨62, _⟩ => ⟨S1x4096, .f32⟩
  | .hbm, ⟨63, _⟩ => ⟨S1x4096x1, .f32⟩
  | .hbm, ⟨64, _⟩ => ⟨S1x4096x1024, .f32⟩
  | .hbm, ⟨65, _⟩ => ⟨S1x4096x1024, .f32⟩
  | .hbm, ⟨66, _⟩ => ⟨S1x4096x1, .f32⟩
  | .hbm, ⟨67, _⟩ => ⟨S_, .f32⟩
  | .hbm, ⟨68, _⟩ => ⟨S1x4096x1, .f32⟩
  | .hbm, ⟨69, _⟩ => ⟨S1x4096x1, .f32⟩
  | .hbm, ⟨70, _⟩ => ⟨S_, .f32⟩
  | .hbm, ⟨71, _⟩ => ⟨S4096, .f32⟩
  | .hbm, ⟨72, _⟩ => ⟨S1x4096, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S1x4096x1024, .f32⟩
  | .hbm, ⟨77, _⟩ => ⟨S1x4096x1024, .f32⟩
  | .hbm, ⟨78, _⟩ => ⟨S1x1024, .f32⟩
  | .hbm, ⟨79, _⟩ => ⟨S4096x1024, .f32⟩
  | .hbm, ⟨80, _⟩ => ⟨S4096x1024, .bf16⟩
  | .hbm, ⟨81, _⟩ => ⟨S4096x1024, .f32⟩
  | .hbm, ⟨82, _⟩ => ⟨S8x128, .f32⟩
  | .hbm, ⟨83, _⟩ => ⟨S1x128, .f32⟩
  | _, _ => ⟨S1x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Up.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x4096x2816 : Shape := ⟨3, ![1, 4096, 2816]⟩
abbrev S1024x2816 : Shape := ⟨2, ![1024, 2816]⟩
abbrev S2816x1024 : Shape := ⟨2, ![2816, 1024]⟩
abbrev S8x352x1024 : Shape := ⟨3, ![8, 352, 1024]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩
abbrev S4096x2816 : Shape := ⟨2, ![4096, 2816]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x128 : Shape := ⟨2, ![1, 128]⟩

abbrev nBuf : Space → Nat
  | .hbm => 35
  | .vmem => 33
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1024, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x4096x2816, .f32⟩
  | .hbm, ⟨8, _⟩ => ⟨S1x4096x2816, .f32⟩
  | .hbm, ⟨9, _⟩ => ⟨S1x4096x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S8x352x1024, .bf16⟩
  | .hbm, ⟨14, _⟩ => ⟨S1024x2816, .f32⟩
  | .hbm, ⟨15, _⟩ => ⟨S2816x1024, .f32⟩
  | .hbm, ⟨16, _⟩ => ⟨S2816x1024, .bf16⟩
  | .hbm, ⟨17, _⟩ => ⟨S8x352x1024, .bf16⟩
  | .hbm, ⟨18, _⟩ => ⟨S4096x1024, .f32⟩
  | .hbm, ⟨19, _⟩ => ⟨S4096x1024, .bf16⟩
  | .hbm, ⟨20, _⟩ => ⟨S1024x1024, .f32⟩
  | .hbm, ⟨21, _⟩ => ⟨S1024x1024, .bf16⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x2816, .f32⟩
  | .hbm, ⟨27, _⟩ => ⟨S4096x2816, .bf16⟩
  | .hbm, ⟨28, _⟩ => ⟨S4096x2816, .f32⟩
  | .hbm, ⟨29, _⟩ => ⟨S4096x2816, .bf16⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S8x128, .f32⟩
  | .hbm, ⟨34, _⟩ => ⟨S8x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S8x352x1024, .bf16⟩
  | .local _ .vmem, ⟨18, _⟩ => ⟨S8x352x1024, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | .local _ .vmem, ⟨31, _⟩ => ⟨S8x128, .f32⟩
  | .local _ .vmem, ⟨32, _⟩ => ⟨S8x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg12_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem12_0 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x352x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x352x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S8x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S8x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== UpRefIdeal.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x4096x2816 : Shape := ⟨3, ![1, 4096, 2816]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2816 : Shape := ⟨2, ![1024, 2816]⟩
abbrev S4096 : Shape := ⟨1, ![4096]⟩
abbrev S4096x1024 : Shape := ⟨2, ![4096, 1024]⟩
abbrev S8x128 : Shape := ⟨2, ![8, 128]⟩

abbrev nBuf : Space → Nat
  | .hbm => 164
  | .vmem => 0
  | .smem => 0
  | _ => 0

abbrev hbmTy0_0 (i : Nat) : BufTy := match i % 128 with
  | 0 => ⟨S1x4096x1024, .f32⟩
  | 1 => ⟨S1x1024x1024, .f32⟩
  | 2 => ⟨S1x4096x1024, .f32⟩
  | 3 => ⟨S1x1024, .f32⟩
  | 4 => ⟨S1x1024, .f32⟩
  | 5 => ⟨S1x1024x2816, .f32⟩
  | 6 => ⟨S1x1024x2816, .f32⟩
  | 7 => ⟨S1x4096x2816, .f32⟩
  | 8 => ⟨S1x4096x2816, .f32⟩
  | 9 => ⟨S1x4096x1024, .f32⟩
  | 10 => ⟨S1024x1024, .f32⟩
  | 11 => ⟨S1x4096x1024, .f32⟩
  | 12 => ⟨S1024, .f32⟩
  | 13 => ⟨S1x4096x1024, .f32⟩
  | 14 => ⟨S_, .f32⟩
  | 15 => ⟨S1x4096, .f32⟩
  | 16 => ⟨S1x4096x1, .f32⟩
  | 17 => ⟨S_, .f32⟩
  | 18 => ⟨S1x4096x1, .f32⟩
  | 19 => ⟨S1x4096x1, .f32⟩
  | 20 => ⟨S_, .f32⟩
  | 21 => ⟨S1x4096x1, .f32⟩
  | 22 => ⟨S1x4096x1, .f32⟩
  | 23 => ⟨S1x4096x1, .f32⟩
  | 24 => ⟨S1x4096x1, .f32⟩
  | 25 => ⟨S_, .f32⟩
  | 26 => ⟨S1x4096x1, .f32⟩
  | 27 => ⟨S1x4096x1, .f32⟩
  | 28 => ⟨S1x4096x1024, .f32⟩
  | 29 => ⟨S1x4096x1024, .f32⟩
  | 30 => ⟨S1x1x1024, .f32⟩
  | 31 => ⟨S1x4096x1024, .f32⟩
  | 32 => ⟨S1x4096x1024, .f32⟩
  | 33 => ⟨S1x4096x1024, .f32⟩
  | 34 => ⟨S1024, .f32⟩
  | 35 => ⟨S1x4096x1024, .f32⟩
  | 36 => ⟨S_, .f32⟩
  | 37 => ⟨S1x4096, .f32⟩
  | 38 => ⟨S1x4096x1, .f32⟩
  | 39 => ⟨S_, .f32⟩
  | 40 => ⟨S1x4096x1, .f32⟩
  | 41 => ⟨S1x4096x1, .f32⟩
  | 42 => ⟨S_, .f32⟩
  | 43 => ⟨S1x4096x1, .f32⟩
  | 44 => ⟨S1x4096x1, .f32⟩
  | 45 => ⟨S1x4096x1, .f32⟩
  | 46 => ⟨S1x4096x1, .f32⟩
  | 47 => ⟨S_, .f32⟩
  | 48 => ⟨S1x4096x1, .f32⟩
  | 49 => ⟨S1x4096x1, .f32⟩
  | 50 => ⟨S1x4096x1024, .f32⟩
  | 51 => ⟨S1x4096x1024, .f32⟩
  | 52 => ⟨S1x1x1024, .f32⟩
  | 53 => ⟨S1x4096x1024, .f32⟩
  | 54 => ⟨S1x4096x1024, .f32⟩
  | 55 => ⟨S1024x2816, .f32⟩
  | 56 => ⟨S1x4096x2816, .f32⟩
  | 57 => ⟨S1024x2816, .f32⟩
  | 58 => ⟨S1x4096x2816, .f32⟩
  | 59 => ⟨S1x4096x1024, .f32⟩
  | 60 => ⟨S1x4096x1024, .f32⟩
  | 61 => ⟨S1x4096x1024, .f32⟩
  | 62 => ⟨S1x4096x1024, .f32⟩
  | 63 => ⟨S_, .f32⟩
  | 64 => ⟨S1x1024, .f32⟩
  | 65 => ⟨S1x1x1024, .f32⟩
  | 66 => ⟨S1x4096x1024, .f32⟩
  | 67 => ⟨S1x4096x1024, .f32⟩
  | 68 => ⟨S_, .f32⟩
  | 69 => ⟨S1024, .f32⟩
  | 70 => ⟨S1x4096x1024, .f32⟩
  | 71 => ⟨S_, .f32⟩
  | 72 => ⟨S1x4096, .f32⟩
  | 73 => ⟨S1x4096x1, .f32⟩
  | 74 => ⟨S1x4096x1024, .f32⟩
  | 75 => ⟨S1x4096x1024, .f32⟩
  | 76 => ⟨S1x4096x1024, .f32⟩
  | 77 => ⟨S1x4096x1, .f32⟩
  | 78 => ⟨S_, .f32⟩
  | 79 => ⟨S1x4096x1, .f32⟩
  | 80 => ⟨S1x4096x1, .f32⟩
  | 81 => ⟨S_, .f32⟩
  | 82 => ⟨S4096, .f32⟩
  | 83 => ⟨S1x4096, .f32⟩
  | 84 => ⟨S1x4096x1024, .f32⟩
  | 85 => ⟨S1x4096x1024, .f32⟩
  | 86 => ⟨S1x4096x1024, .f32⟩
  | 87 => ⟨S1x4096x1024, .f32⟩
  | 88 => ⟨S1x4096x1024, .f32⟩
  | 89 => ⟨S1x1024, .f32⟩
  | 90 => ⟨S1x4096x1024, .f32⟩
  | 91 => ⟨S1x4096x1024, .f32⟩
  | 92 => ⟨S_, .f32⟩
  | 93 => ⟨S1x1024, .f32⟩
  | 94 => ⟨S1x1x1024, .f32⟩
  | 95 => ⟨S1x4096x1024, .f32⟩
  | 96 => ⟨S1x4096x1024, .f32⟩
  | 97 => ⟨S_, .f32⟩
  | 98 => ⟨S1024, .f32⟩
  | 99 => ⟨S1x4096x1024, .f32⟩
  | 100 => ⟨S_, .f32⟩
  | 101 => ⟨S1x4096, .f32⟩
  | 102 => ⟨S1x4096x1, .f32⟩
  | 103 => ⟨S1x4096x1024, .f32⟩
  | 104 => ⟨S1x4096x1024, .f32⟩
  | 105 => ⟨S1x4096x1, .f32⟩
  | 106 => ⟨S_, .f32⟩
  | 107 => ⟨S1x4096x1, .f32⟩
  | 108 => ⟨S1x4096x1, .f32⟩
  | 109 => ⟨S_, .f32⟩
  | 110 => ⟨S4096, .f32⟩
  | 111 => ⟨S1x4096, .f32⟩
  | 112 => ⟨S1x4096x1024, .f32⟩
  | 113 => ⟨S1x4096x1024, .f32⟩
  | 114 => ⟨S1x4096x1024, .f32⟩
  | 115 => ⟨S1x4096x1024, .f32⟩
  | 116 => ⟨S1x4096x1024, .f32⟩
  | 117 => ⟨S1x1024, .f32⟩
  | 118 => ⟨S1024, .f32⟩
  | 119 => ⟨S1x4096x1024, .f32⟩
  | 120 => ⟨S_, .f32⟩
  | 121 => ⟨S1x4096, .f32⟩
  | 122 => ⟨S1x4096x1, .f32⟩
  | 123 => ⟨S_, .f32⟩
  | 124 => ⟨S1x4096x1, .f32⟩
  | 125 => ⟨S1x4096x1, .f32⟩
  | 126 => ⟨S_, .f32⟩
  | 127 => ⟨S1x4096x1, .f32⟩
  | _ => ⟨S1x4096x1024, .f32⟩

abbrev hbmTy0_1 (i : Nat) : BufTy := match i % 128 with
  | 0 => ⟨S1x4096x1, .f32⟩
  | 1 => ⟨S1x4096x1, .f32⟩
  | 2 => ⟨S1x4096x1024, .f32⟩
  | 3 => ⟨S1x4096x1024, .f32⟩
  | 4 => ⟨S1x1x1024, .f32⟩
  | 5 => ⟨S1x4096x1024, .f32⟩
  | 6 => ⟨S1x4096x1024, .f32⟩
  | 7 => ⟨S1x4096x1024, .f32⟩
  | 8 => ⟨S1024, .f32⟩
  | 9 => ⟨S1x4096x1024, .f32⟩
  | 10 => ⟨S_, .f32⟩
  | 11 => ⟨S1x4096, .f32⟩
  | 12 => ⟨S1x4096x1, .f32⟩
  | 13 => ⟨S_, .f32⟩
  | 14 => ⟨S1x4096x1, .f32⟩
  | 15 => ⟨S1x4096x1, .f32⟩
  | 16 => ⟨S_, .f32⟩
  | 17 => ⟨S1x4096x1, .f32⟩
  | 18 => ⟨S1x4096x1, .f32⟩
  | 19 => ⟨S1x4096x1, .f32⟩
  | 20 => ⟨S1x4096x1024, .f32⟩
  | 21 => ⟨S1x4096x1024, .f32⟩
  | 22 => ⟨S1x1x1024, .f32⟩
  | 23 => ⟨S1x4096x1024, .f32⟩
  | 24 => ⟨S1x4096x1024, .f32⟩
  | 25 => ⟨S1024x2816, .f32⟩
  | 26 => ⟨S1x4096x2816, .f32⟩
  | 27 => ⟨S1024x2816, .f32⟩
  | 28 => ⟨S1x4096x2816, .f32⟩
  | 29 => ⟨S4096x1024, .f32⟩
  | 30 => ⟨S4096x1024, .bf16⟩
  | 31 => ⟨S4096x1024, .f32⟩
  | 32 => ⟨S4096x1024, .f32⟩
  | 33 => ⟨S4096x1024, .bf16⟩
  | 34 => ⟨S8x128, .f32⟩
  | 35 => ⟨S8x128, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_v92 : Ref sig .tc := ⟨.hbm, 121, rfl⟩
abbrev main_v93 : Ref sig .tc := ⟨.hbm, 122, rfl⟩
abbrev main_cst_18 : Ref sig .tc := ⟨.hbm, 123, rfl⟩
abbrev main_v94 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_20 : Ref sig .tc := ⟨.hbm, 138, rfl⟩
abbrev main_v107 : Ref sig .tc := ⟨.hbm, 139, rfl⟩
abbrev main_v108 : Ref sig .tc := ⟨.hbm, 140, rfl⟩
abbrev main_cst_21 : Ref sig .tc := ⟨.hbm, 141, rfl⟩
abbrev main_v109 : Ref sig .tc := ⟨.hbm, 142, rfl⟩
abbrev main_v110 : Ref sig .tc := ⟨.hbm, 143, rfl⟩
abbrev main_cst_22 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩

abbrev nD : Nat := 1
abbrev τ : Topo := Topo.v7x

variable {F : FTy → Type} [FloatOps F]
-- ==== Mixers.lean ====
abbrev S4096x1280 : Shape := ⟨2, ![4096, 1280]⟩
abbrev S1x4x128x128 : Shape := ⟨4, ![1, 4, 128, 128]⟩
abbrev S1x512 : Shape := ⟨2, ![1, 512]⟩
abbrev S32x8 : Shape := ⟨2, ![32, 8]⟩
abbrev S1x8 : Shape := ⟨2, ![1, 8]⟩
abbrev S4096x1024 : Shape := ⟨2, ![4096, 1024]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S4x128x128 : Shape := ⟨3, ![4, 128, 128]⟩
abbrev S4096x512 : Shape := ⟨2, ![4096, 512]⟩
abbrev S8x4096x256 : Shape := ⟨3, ![8, 4096, 256]⟩
abbrev S4096x128 : Shape := ⟨2, ![4096, 128]⟩
abbrev S128x512 : Shape := ⟨2, ![128, 512]⟩
abbrev S16x512 : Shape := ⟨2, ![16, 512]⟩
abbrev S128x1024 : Shape := ⟨2, ![128, 1024]⟩
abbrev S8x128x256 : Shape := ⟨3, ![8, 128, 256]⟩
abbrev S128x128 : Shape := ⟨2, ![128, 128]⟩
abbrev S144x512 : Shape := ⟨2, ![144, 512]⟩
abbrev S1x1 : Shape := ⟨2, ![1, 1]⟩
abbrev S1x128x256 : Shape := ⟨3, ![1, 128, 256]⟩
abbrev S1x128x128 : Shape := ⟨3, ![1, 128, 128]⟩
abbrev S1x128 : Shape := ⟨2, ![1, 128]⟩
abbrev S256x256 : Shape := ⟨2, ![256, 256]⟩
abbrev S256x128 : Shape := ⟨2, ![256, 128]⟩
abbrev S1x32x256 : Shape := ⟨3, ![1, 32, 256]⟩
abbrev S32x256 : Shape := ⟨2, ![32, 256]⟩
abbrev S32 : Shape := ⟨1, ![32]⟩
abbrev S32x1 : Shape := ⟨2, ![32, 1]⟩
abbrev S4x128 : Shape := ⟨2, ![4, 128]⟩
abbrev S8x32 : Shape := ⟨2, ![8, 32]⟩
abbrev S128x1280 : Shape := ⟨2, ![128, 1280]⟩
abbrev S16x128 : Shape := ⟨2, ![16, 128]⟩
abbrev S32x128 : Shape := ⟨2, ![32, 128]⟩
abbrev S2x128x256 : Shape := ⟨3, ![2, 128, 256]⟩
abbrev S1 : Shape := ⟨1, ![1]⟩
abbrev S1x1x1 : Shape := ⟨3, ![1, 1, 1]⟩

abbrev nBuf : Space → Nat
  | .hbm => 67
  | .vmem => 55
  | .smem => 3
  | _ => 0

abbrev bufTy : (tb : Table) → Fin (tcTables nBuf tb) → BufTy
  | .hbm, ⟨0, _⟩ => ⟨S4096x1280, .f32⟩
  | .hbm, ⟨1, _⟩ => ⟨S1x4x128x128, .f32⟩
  | .hbm, ⟨2, _⟩ => ⟨S1x512, .f32⟩
  | .hbm, ⟨3, _⟩ => ⟨S32x8, .f32⟩
  | .hbm, ⟨4, _⟩ => ⟨S1x8, .f32⟩
  | .hbm, ⟨5, _⟩ => ⟨S4096x1024, .f32⟩
  | .hbm, ⟨6, _⟩ => ⟨S128, .i32⟩
  | .hbm, ⟨7, _⟩ => ⟨S128x1, .i32⟩
  | .hbm, ⟨8, _⟩ => ⟨S256, .i32⟩
  | .hbm, ⟨9, _⟩ => ⟨S1x256, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i1⟩
  | .hbm, ⟨51, _⟩ => ⟨S128x256, .f32⟩
  | .hbm, ⟨52, _⟩ => ⟨S128x256, .f32⟩
  | .hbm, ⟨53, _⟩ => ⟨S4x128x128, .f32⟩
  | .hbm, ⟨54, _⟩ => ⟨S4x128x128, .bf16⟩
  | .hbm, ⟨55, _⟩ => ⟨S4096x1024, .bf16⟩
  | .hbm, ⟨56, _⟩ => ⟨S4096x512, .bf16⟩
  | .hbm, ⟨57, _⟩ => ⟨S8x4096x256, .bf16⟩
  | .hbm, ⟨58, _⟩ => ⟨S4096x128, .f32⟩
  | .hbm, ⟨59, _⟩ => ⟨S4096x1280, .bf16⟩
  | .hbm, ⟨60, _⟩ => ⟨S8x128x256, .f32⟩
  | .hbm, ⟨61, _⟩ => ⟨S1x128, .f32⟩
  | .hbm, ⟨62, _⟩ => ⟨S4x128x128, .f32⟩
  | .hbm, ⟨63, _⟩ => ⟨S4x128, .f32⟩
  | .hbm, ⟨64, _⟩ => ⟨S8x32, .f32⟩
  | .hbm, ⟨65, _⟩ => ⟨S4096x512, .bf16⟩
  | .hbm, ⟨66, _⟩ => ⟨S4096x512, .bf16⟩
  | .local _ .vmem, ⟨0, _⟩ => ⟨S128x512, .f32⟩
  | .local _ .vmem, ⟨1, _⟩ => ⟨S128x512, .f32⟩
  | .local _ .vmem, ⟨2, _⟩ => ⟨S16x512, .f32⟩
  | .local _ .vmem, ⟨3, _⟩ => ⟨S16x512, .f32⟩
  | .local _ .vmem, ⟨4, _⟩ => ⟨S128x512, .f32⟩
  | .local _ .vmem, ⟨5, _⟩ => ⟨S128x512, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S4x128x128, .bf16⟩
  | .local _ .vmem, ⟨13, _⟩ => ⟨S1x512, .f32⟩
  | .local _ .vmem, ⟨14, _⟩ => ⟨S128x1024, .bf16⟩
  | .local _ .vmem, ⟨15, _⟩ => ⟨S128x1024, .bf16⟩
  | .local _ .vmem, ⟨16, _⟩ => ⟨S128x512, .bf16⟩
  | .local _ .vmem, ⟨17, _⟩ => ⟨S128x512, .bf16⟩
  | .local _ .vmem, ⟨18, _⟩ => ⟨S8x128x256, .bf16⟩
  | .local _ .vmem, ⟨19, _⟩ => ⟨S8x128x256, .bf16⟩
  | .local _ .vmem, ⟨20, _⟩ => ⟨S128x128, .f32⟩
  | .local _ .vmem, ⟨21, _⟩ => ⟨S128x128, .f32⟩
  | .local _ .vmem, ⟨22, _⟩ => ⟨S144x512, .f32⟩
  | .local _ .vmem, ⟨23, _⟩ => ⟨S8x128x256, .f32⟩
  | .local _ .vmem, ⟨24, _⟩ => ⟨S8x128x256, .f32⟩
  | .local _ .vmem, ⟨25, _⟩ => ⟨S128x512, .f32⟩
  | .local _ .vmem, ⟨26, _⟩ => ⟨S128x512, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x1024, .f32⟩
  | .local _ .vmem, ⟨32, _⟩ => ⟨S128x1024, .f32⟩
  | .local _ .vmem, ⟨33, _⟩ => ⟨S128x512, .bf16⟩
  | .local _ .vmem, ⟨34, _⟩ => ⟨S128x512, .bf16⟩
  | .local _ .vmem, ⟨35, _⟩ => ⟨S8x128x256, .bf16⟩
  | .local _ .vmem, ⟨36, _⟩ => ⟨S8x128x256, .bf16⟩
  | .local _ .vmem, ⟨37, _⟩ => ⟨S128x128, .f32⟩
  | .local _ .vmem, ⟨38, _⟩ => ⟨S128x128, .f32⟩
  | .local _ .vmem, ⟨39, _⟩ => ⟨S4x128x128, .bf16⟩
  | .local _ .vmem, ⟨40, _⟩ => ⟨S1x512, .f32⟩
  | .local _ .vmem, ⟨41, _⟩ => ⟨S128x256, .f32⟩
  | .local _ .vmem, ⟨42, _⟩ => ⟨S128x1280, .bf16⟩
  | .local _ .vmem, ⟨43, _⟩ => ⟨S128x1280, .bf16⟩
  | .local _ .vmem, ⟨44, _⟩ => ⟨S8x128x256, .f32⟩
  | .local _ .vmem, ⟨45, _⟩ => ⟨S1x128, .f32⟩
  | .local _ .vmem, ⟨46, _⟩ => ⟨S4x128x128, .f32⟩
  | .local _ .vmem, ⟨47, _⟩ => ⟨S4x128, .f32⟩
  | .local _ .vmem, ⟨48, _⟩ => ⟨S144x512, .f32⟩
  | .local _ .vmem, ⟨49, _⟩ => ⟨S128x512, .f32⟩
  | .local _ .vmem, ⟨50, _⟩ => ⟨S128x512, .f32⟩
  | .local _ .vmem, ⟨51, _⟩ => ⟨S128x256, .f32⟩
  | .local _ .vmem, ⟨52, _⟩ => ⟨S8x128x256, .f32⟩
  | .local _ .vmem, ⟨53, _⟩ => ⟨S8x128x256, .bf16⟩
  | .local _ .vmem, ⟨54, _⟩ => ⟨S128x128, .f32⟩
  | .local _ .smem, ⟨0, _⟩ => ⟨S32x8, .f32⟩
  | .local _ .smem, ⟨1, _⟩ => ⟨S1x8, .f32⟩
  | .local _ .smem, ⟨2, _⟩ => ⟨S8x32, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev main_v38_3 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_v39_3 : Ref sig .tc := ⟨.hbm, 62, rfl⟩
abbrev main_v39_4 : Ref sig .tc := ⟨.hbm, 63, rfl⟩
abbrev main_v39_5 : Ref sig .tc := ⟨.hbm, 64, rfl⟩
abbrev main_v40 : Ref sig .tc := ⟨.hbm, 65, rfl⟩
abbrev main_v41 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg5_1 : Ref sig .tc := ⟨.vmem, 36, rfl⟩
abbrev cc1_stg6_0 : Ref sig .tc := ⟨.vmem, 37, rfl⟩
abbrev cc1_stg6_1 : Ref sig .tc := ⟨.vmem, 38, rfl⟩
abbrev cc1_stg7_0 : Ref sig .tc := ⟨.vmem, 39, rfl⟩
abbrev cc1_stg8_0 : Ref sig .tc := ⟨.vmem, 40, rfl⟩
abbrev cc1_stg9_0 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg12_0 : Ref sig .tc := ⟨.vmem, 45, rfl⟩
abbrev cc1_stg13_0 : Ref sig .tc := ⟨.vmem, 46, rfl⟩
abbrev cc1_stg14_0 : Ref sig .tc := ⟨.vmem, 47, rfl⟩
abbrev cc1_scratch0 : Ref sig .tc := ⟨.vmem, 48, rfl⟩
abbrev cc1_scratch1 : Ref sig .tc := ⟨.vmem, 49, rfl⟩
abbrev cc1_scratch2 : Ref sig .tc := ⟨.vmem, 50, rfl⟩
abbrev cc1_scratch3 : Ref sig .tc := ⟨.vmem, 51, rfl⟩
abbrev cc1_scratch4 : Ref sig .tc := ⟨.vmem, 52, rfl⟩
abbrev cc1_scratch5 : Ref sig .tc := ⟨.vmem, 53, rfl⟩
abbrev cc1_scratch6 : Ref sig .tc := ⟨.vmem, 54, rfl⟩
abbrev cc0_stg7_0 : Ref sig .tc := ⟨.smem, 0, rfl⟩
abbrev cc0_stg8_0 : Ref sig .tc := ⟨.smem, 1, rfl⟩
abbrev cc1_stg15_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem8_0 : DmaSem sig := 39
abbrev cc1_sem9_0 : DmaSem sig := 40
abbrev cc1_sem10_0 : DmaSem sig := 41
abbrev cc1_sem10_1 : DmaSem sig := 42
abbrev cc1_sem11_0 : DmaSem sig := 43
abbrev cc1_sem12_0 : DmaSem sig := 44
abbrev cc1_sem13_0 : DmaSem sig := 45
abbrev cc1_sem14_0 : DmaSem sig := 46
abbrev cc1_sem15_0 : DmaSem sig := 47

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S32x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![33], ![false]⟩

def k1_cond2 (i : grid1.Coords) : BitVec 1 :=
  let arg0 : BitVec 32 := BitVec.ofNat 32 (i 0).val
  let c32_i32 : BitVec 32 := 32#32
  let v4 : BitVec 1 := Scalar.cmpi .slt arg0 c32_i32
  let v5 : BitVec 32 := Scalar.extui v4
  let c0_i32_1 : BitVec 32 := 0#32
  let v6 : BitVec 1 := Scalar.cmpi .ne v5 c0_i32_1
  v6

def k1_cond3 (i : grid1.Coords) : BitVec 1 :=
  let arg0 : BitVec 32 := BitVec.ofNat 32 (i 0).val
  let c32_i32_2 : BitVec 32 := 32#32
  let v7 : BitVec 1 := Scalar.cmpi .eq arg0 c32_i32_2
  let v8 : BitVec 32 := Scalar.extui v7
  let c0_i32_3 : BitVec 32 := 0#32
  let v9 : BitVec 1 := Scalar.cmpi .ne v8 c0_i32_3
  v9

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc1_transform_0 (i : grid1.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc1_transform_1 (i : grid1.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc1_transform_2 (i : grid1.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc1_transform_3 (i : grid1.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc1_transform_5 (i : grid1.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc1_transform_6 (i : grid1.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4x128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x1280 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S8x128x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S4x128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S4x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .smem S8x32 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== MixersRefIdeal.lean ====
abbrev S4096x1280 : Shape := ⟨2, ![4096, 1280]⟩
abbrev S1x4x128x128 : Shape := ⟨4, ![1, 4, 128, 128]⟩
abbrev S1x512 : Shape := ⟨2, ![1, 512]⟩
abbrev S32x8 : Shape := ⟨2, ![32, 8]⟩
abbrev S1x8 : Shape := ⟨2, ![1, 8]⟩
abbrev S4096x1024 : Shape := ⟨2, ![4096, 1024]⟩
abbrev S1x4096x1280 : Shape := ⟨3, ![1, 4096, 1280]⟩
abbrev S1x4096x512 : Shape := ⟨3, ![1, 4096, 512]⟩
abbrev S1x4096x8x64 : Shape := ⟨4, ![1, 4096, 8, 64]⟩
abbrev S1x4096x128 : Shape := ⟨3, ![1, 4096, 128]⟩
abbrev S1x4096x2x64 : Shape := ⟨4, ![1, 4096, 2, 64]⟩
abbrev S4x128x128 : Shape := ⟨3, ![4, 128, 128]⟩
abbrev S512 : Shape := ⟨1, ![512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x2x128 : Shape := ⟨3, ![1, 2, 128]⟩
abbrev S1x4094x128 : Shape := ⟨3, ![1, 4094, 128]⟩
abbrev S1x4096x1 : Shape := ⟨3, ![1, 4096, 1]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S4x128x1x4096 : Shape := ⟨4, ![4, 128, 1, 4096]⟩
abbrev S1x1x512 : Shape := ⟨3, ![1, 1, 512]⟩
abbrev S8 : Shape := ⟨1, ![8]⟩
abbrev S1x32x128x2x4x64 : Shape := ⟨6, ![1, 32, 128, 2, 4, 64]⟩
abbrev S1x128x2x64 : Shape := ⟨4, ![1, 128, 2, 64]⟩
abbrev S1x3968x2x64 : Shape := ⟨4, ![1, 3968, 2, 64]⟩
abbrev S1x32x128x2x64 : Shape := ⟨5, ![1, 32, 128, 2, 64]⟩
abbrev S1x32x256x2x64 : Shape := ⟨5, ![1, 32, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x2x256x128x4 : Shape := ⟨6, ![1, 32, 2, 256, 128, 4]⟩
abbrev S1x32x2x4x128x256 : Shape := ⟨6, ![1, 32, 2, 4, 128, 256]⟩
abbrev S1x1x2x4x128x256 : Shape := ⟨6, ![1, 1, 2, 4, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x4096x1024 : Shape := ⟨3, ![1, 4096, 1024]⟩
abbrev S1x32x2x64x256 : Shape := ⟨5, ![1, 32, 2, 64, 256]⟩
abbrev S1x2x4x1 : Shape := ⟨4, ![1, 2, 4, 1]⟩
abbrev S32x2x4x128 : Shape := ⟨4, ![32, 2, 4, 128]⟩
abbrev S1x2x4x128x256 : Shape := ⟨5, ![1, 2, 4, 128, 256]⟩
abbrev S1x32x2x128x4x64 : Shape := ⟨6, ![1, 32, 2, 128, 4, 64]⟩
abbrev S1x32x2x256x64 : Shape := ⟨5, ![1, 32, 2, 256, 64]⟩
abbrev S4x1x4096x128 : Shape := ⟨4, ![4, 1, 4096, 128]⟩
abbrev S4x128 : Shape := ⟨2, ![4, 128]⟩
abbrev S4096x512 : Shape := ⟨2, ![4096, 512]⟩

abbrev nBuf : Space → Nat
  | .hbm => 453
  | .vmem => 0
  | .smem => 0
  | _ => 0

abbrev hbmTy0_0 (i : Nat) : BufTy := match i % 128 with
  | 0 => ⟨S4096x1280, .f32⟩
  | 1 => ⟨S1x4x128x128, .f32⟩
  | 2 => ⟨S1x512, .f32⟩
  | 3 => ⟨S32x8, .f32⟩
  | 4 => ⟨S1x8, .f32⟩
  | 5 => ⟨S4096x1024, .f32⟩
  | 6 => ⟨S1x4096x1280, .f32⟩
  | 7 => ⟨S1x4096x512, .f32⟩
  | 8 => ⟨S1x4096x512, .f32⟩
  | 9 => ⟨S1x4096x8x64, .f32⟩
  | 10 => ⟨S1x4096x128, .f32⟩
  | 11 => ⟨S1x4096x2x64, .f32⟩
  | 12 => ⟨S1x4096x128, .f32⟩
  | 13 => ⟨S1x4096x2x64, .f32⟩
  | 14 => ⟨S4x128x128, .f32⟩
  | 15 => ⟨S512, .f32⟩
  | 16 => ⟨S1x4096x4x128, .f32⟩
  | 17 => ⟨S_, .f32⟩
  | 18 => ⟨S_, .f32⟩
  | 19 => ⟨S1x4096x4x128, .f32⟩
  | 20 => ⟨S4096, .f32⟩
  | 21 => ⟨S_, .f32⟩
  | 22 => ⟨S4096, .f32⟩
  | 23 => ⟨S4096, .f32⟩
  | 24 => ⟨S1x4096x1x128, .f32⟩
  | 25 => ⟨S1x4096x128, .f32⟩
  | 26 => ⟨S_, .f32⟩
  | 27 => ⟨S1x2x128, .f32⟩
  | 28 => ⟨S1x4094x128, .f32⟩
  | 29 => ⟨S1x4096x128, .f32⟩
  | 30 => ⟨S_, .f32⟩
  | 31 => ⟨S1x2x128, .f32⟩
  | 32 => ⟨S_, .f32⟩
  | 33 => ⟨S4096, .f32⟩
  | 34 => ⟨S4096, .f32⟩
  | 35 => ⟨S1x4096x1, .f32⟩
  | 36 => ⟨S1x4096x128, .f32⟩
  | 37 => ⟨S1x4096x128, .f32⟩
  | 38 => ⟨S1x4096x128, .f32⟩
  | 39 => ⟨S1x4096x1x128, .f32⟩
  | 40 => ⟨S1x4096x128, .f32⟩
  | 41 => ⟨S_, .f32⟩
  | 42 => ⟨S1x4x128, .f32⟩
  | 43 => ⟨S1x4092x128, .f32⟩
  | 44 => ⟨S1x4096x128, .f32⟩
  | 45 => ⟨S_, .f32⟩
  | 46 => ⟨S1x4x128, .f32⟩
  | 47 => ⟨S_, .f32⟩
  | 48 => ⟨S4096, .f32⟩
  | 49 => ⟨S4096, .f32⟩
  | 50 => ⟨S1x4096x1, .f32⟩
  | 51 => ⟨S1x4096x128, .f32⟩
  | 52 => ⟨S1x4096x128, .f32⟩
  | 53 => ⟨S1x4096x128, .f32⟩
  | 54 => ⟨S1x4096x1x128, .f32⟩
  | 55 => ⟨S1x4096x128, .f32⟩
  | 56 => ⟨S_, .f32⟩
  | 57 => ⟨S1x8x128, .f32⟩
  | 58 => ⟨S1x4088x128, .f32⟩
  | 59 => ⟨S1x4096x128, .f32⟩
  | 60 => ⟨S_, .f32⟩
  | 61 => ⟨S1x8x128, .f32⟩
  | 62 => ⟨S_, .f32⟩
  | 63 => ⟨S4096, .f32⟩
  | 64 => ⟨S4096, .f32⟩
  | 65 => ⟨S1x4096x1, .f32⟩
  | 66 => ⟨S1x4096x128, .f32⟩
  | 67 => ⟨S1x4096x128, .f32⟩
  | 68 => ⟨S1x4096x128, .f32⟩
  | 69 => ⟨S1x4096x1x128, .f32⟩
  | 70 => ⟨S1x4096x128, .f32⟩
  | 71 => ⟨S_, .f32⟩
  | 72 => ⟨S1x16x128, .f32⟩
  | 73 => ⟨S1x4080x128, .f32⟩
  | 74 => ⟨S1x4096x128, .f32⟩
  | 75 => ⟨S_, .f32⟩
  | 76 => ⟨S1x16x128, .f32⟩
  | 77 => ⟨S_, .f32⟩
  | 78 => ⟨S4096, .f32⟩
  | 79 => ⟨S4096, .f32⟩
  | 80 => ⟨S1x4096x1, .f32⟩
  | 81 => ⟨S1x4096x128, .f32⟩
  | 82 => ⟨S1x4096x128, .f32⟩
  | 83 => ⟨S1x4096x128, .f32⟩
  | 84 => ⟨S1x4096x1x128, .f32⟩
  | 85 => ⟨S1x4096x1x128, .f32⟩
  | 86 => ⟨S1x4096x1x128, .f32⟩
  | 87 => ⟨S1x4096x1x128, .f32⟩
  | 88 => ⟨S1x4096x4x128, .f32⟩
  | 89 => ⟨S1x4096x4x128, .f32⟩
  | 90 => ⟨S4x128x1x4096, .f32⟩
  | 91 => ⟨S1x4096x4x128, .f32⟩
  | 92 => ⟨S1x4096x512, .f32⟩
  | 93 => ⟨S1x1x512, .f32⟩
  | 94 => ⟨S1x4096x512, .f32⟩
  | 95 => ⟨S1x4096x512, .f32⟩
  | 96 => ⟨S8, .f32⟩
  | 97 => ⟨S1x32x128x2x4x64, .f32⟩
  | 98 => ⟨S_, .f32⟩
  | 99 => ⟨S1x128x2x64, .f32⟩
  | 100 => ⟨S1x3968x2x64, .f32⟩
  | 101 => ⟨S1x4096x2x64, .f32⟩
  | 102 => ⟨S_, .f32⟩
  | 103 => ⟨S1x128x2x64, .f32⟩
  | 104 => ⟨S1x32x128x2x64, .f32⟩
  | 105 => ⟨S1x32x128x2x64, .f32⟩
  | 106 => ⟨S1x32x256x2x64, .f32⟩
  | 107 => ⟨S_, .f32⟩
  | 108 => ⟨S1x128x2x64, .f32⟩
  | 109 => ⟨S1x3968x2x64, .f32⟩
  | 110 => ⟨S1x4096x2x64, .f32⟩
  | 111 => ⟨S_, .f32⟩
  | 112 => ⟨S1x128x2x64, .f32⟩
  | 113 => ⟨S1x32x128x2x64, .f32⟩
  | 114 => ⟨S1x32x128x2x64, .f32⟩
  | 115 => ⟨S1x32x256x2x64, .f32⟩
  | 116 => ⟨S128, .i32⟩
  | 117 => ⟨S128x1, .i32⟩
  | 118 => ⟨S256, .i32⟩
  | 119 => ⟨S1x256, .i32⟩
  | 120 => ⟨S_, .i32⟩
  | 121 => ⟨S128x1, .i32⟩
  | 122 => ⟨S128x1, .i32⟩
  | 123 => ⟨S128x256, .i32⟩
  | 124 => ⟨S128x256, .i32⟩
  | 125 => ⟨S128x256, .i32⟩
  | 126 => ⟨S_, .i32⟩
  | 127 => ⟨S128x256, .i32⟩
  | _ => ⟨S4096x1280, .f32⟩

abbrev hbmTy0_1 (i : Nat) : BufTy := match i % 128 with
  | 0 => ⟨S128x256, .i32⟩
  | 1 => ⟨S_, .i32⟩
  | 2 => ⟨S128x256, .i32⟩
  | 3 => ⟨S128x256, .i32⟩
  | 4 => ⟨S128x256, .f32⟩
  | 5 => ⟨S_, .f32⟩
  | 6 => ⟨S128x256, .f32⟩
  | 7 => ⟨S128x256, .f32⟩
  | 8 => ⟨S128x256, .f32⟩
  | 9 => ⟨S_, .f32⟩
  | 10 => ⟨S128x256, .f32⟩
  | 11 => ⟨S128x256, .f32⟩
  | 12 => ⟨S_, .f32⟩
  | 13 => ⟨S128x256, .f32⟩
  | 14 => ⟨S128x256, .f32⟩
  | 15 => ⟨S128x256, .i32⟩
  | 16 => ⟨S_, .i32⟩
  | 17 => ⟨S128x256, .i32⟩
  | 18 => ⟨S128x256, .i32⟩
  | 19 => ⟨S_, .i32⟩
  | 20 => ⟨S128x256, .i32⟩
  | 21 => ⟨S128x256, .i32⟩
  | 22 => ⟨S_, .i32⟩
  | 23 => ⟨S128x256, .i32⟩
  | 24 => ⟨S128x256, .i1⟩
  | 25 => ⟨S128x256, .i32⟩
  | 26 => ⟨S_, .i32⟩
  | 27 => ⟨S128x256, .i32⟩
  | 28 => ⟨S128x256, .i1⟩
  | 29 => ⟨S_, .i32⟩
  | 30 => ⟨S128x256, .i32⟩
  | 31 => ⟨S128x256, .i32⟩
  | 32 => ⟨S128x256, .i32⟩
  | 33 => ⟨S128x256x1, .i32⟩
  | 34 => ⟨S128x256x8, .f32⟩
  | 35 => ⟨S8x128x256, .f32⟩
  | 36 => ⟨S2x4x128x256, .f32⟩
  | 37 => ⟨S_, .i32⟩
  | 38 => ⟨S128x256, .i32⟩
  | 39 => ⟨S128x256, .i1⟩
  | 40 => ⟨S_, .i32⟩
  | 41 => ⟨S128x256, .i32⟩
  | 42 => ⟨S128x256, .i1⟩
  | 43 => ⟨S128x256, .i1⟩
  | 44 => ⟨S32, .i32⟩
  | 45 => ⟨S32x1, .i32⟩
  | 46 => ⟨S_, .i32⟩
  | 47 => ⟨S32x1, .i32⟩
  | 48 => ⟨S32x1, .i1⟩
  | 49 => ⟨S256, .i32⟩
  | 50 => ⟨S1x256, .i32⟩
  | 51 => ⟨S_, .i32⟩
  | 52 => ⟨S1x256, .i32⟩
  | 53 => ⟨S1x256, .i1⟩
  | 54 => ⟨S32x256, .i1⟩
  | 55 => ⟨S32x256, .i1⟩
  | 56 => ⟨S32x256, .i1⟩
  | 57 => ⟨S1x128x256, .i1⟩
  | 58 => ⟨S32x1x256, .i1⟩
  | 59 => ⟨S32x128x256, .i1⟩
  | 60 => ⟨S32x128x256, .i1⟩
  | 61 => ⟨S32x128x256, .i1⟩
  | 62 => ⟨S1x32x2x256x128x4, .f32⟩
  | 63 => ⟨S1x32x2x4x128x256, .f32⟩
  | 64 => ⟨S_, .f32⟩
  | 65 => ⟨S1x32x2x4x128x256, .f32⟩
  | 66 => ⟨S1x32x2x4x128x256, .f32⟩
  | 67 => ⟨S1x1x2x4x128x256, .f32⟩
  | 68 => ⟨S1x32x2x4x128x256, .f32⟩
  | 69 => ⟨S1x32x2x4x128x256, .f32⟩
  | 70 => ⟨S1x32x1x1x128x256, .i1⟩
  | 71 => ⟨S_, .f32⟩
  | 72 => ⟨S_, .f32⟩
  | 73 => ⟨S1x32x2x4x128x256, .i1⟩
  | 74 => ⟨S1x32x2x4x128x256, .f32⟩
  | 75 => ⟨S1x32x2x4x128x256, .f32⟩
  | 76 => ⟨S_, .f32⟩
  | 77 => ⟨S1x32x2x4x128x256, .f32⟩
  | 78 => ⟨S2x4, .f32⟩
  | 79 => ⟨S1x1x2x4x1x1, .f32⟩
  | 80 => ⟨S_, .f32⟩
  | 81 => ⟨S1x32x2x4x128, .f32⟩
  | 82 => ⟨S1x32x2x4x128x1, .f32⟩
  | 83 => ⟨S1x32x2x4x128x256, .f32⟩
  | 84 => ⟨S1x32x2x4x128x256, .i1⟩
  | 85 => ⟨S1x32x2x4x128x256, .f32⟩
  | 86 => ⟨S_, .f32⟩
  | 87 => ⟨S1x32x2x4x128, .f32⟩
  | 88 => ⟨S1x32x2x4x128x1, .f32⟩
  | 89 => ⟨S1x32x2x4x128x1, .f32⟩
  | 90 => ⟨S1x32x2x4x128x1, .f32⟩
  | 91 => ⟨S1x32x2x4x128x1, .f32⟩
  | 92 => ⟨S1x32x2x4x128x1, .i1⟩
  | 93 => ⟨S1x32x2x4x128x1, .f32⟩
  | 94 => ⟨S1x32x2x4x128x1, .i1⟩
  | 95 => ⟨S_, .f32⟩
  | 96 => ⟨S1x32x2x4x128x1, .f32⟩
  | 97 => ⟨S_, .f32⟩
  | 98 => ⟨S1x32x2x4x128x1, .f32⟩
  | 99 => ⟨S_, .f32⟩
  | 100 => ⟨S1x32x2x4x128x1, .f32⟩
  | 101 => ⟨S1x32x2x4x128x1, .f32⟩
  | 102 => ⟨S1x32x2x4x128x1, .f32⟩
  | 103 => ⟨S1x32x2x4x128x1, .f32⟩
  | 104 => ⟨S1x32x2x4x128x1, .i1⟩
  | 105 => ⟨S1x32x2x4x128x1, .f32⟩
  | 106 => ⟨S1x32x2x4x128x1, .i1⟩
  | 107 => ⟨S_, .f32⟩
  | 108 => ⟨S1x32x2x4x128x1, .f32⟩
  | 109 => ⟨S_, .f32⟩
  | 110 => ⟨S1x32x2x4x128x1, .f32⟩
  | 111 => ⟨S_, .f32⟩
  | 112 => ⟨S1x32x2x4x128x1, .f32⟩
  | 113 => ⟨S1x32x2x4x128x1, .f32⟩
  | 114 => ⟨S1x32x2x4x128x1, .f32⟩
  | 115 => ⟨S1x32x2x4x128x256, .f32⟩
  | 116 => ⟨S1x32x2x4x128x256, .f32⟩
  | 117 => ⟨S1x32x2x4x128x256, .f32⟩
  | 118 => ⟨S_, .f32⟩
  | 119 => ⟨S1x32x2x4x128, .f32⟩
  | 120 => ⟨S1x32x2x4x128x1, .f32⟩
  | 121 => ⟨S1x32x2x4x128x1, .f32⟩
  | 122 => ⟨S1x32x2x4x128x1, .f32⟩
  | 123 => ⟨S1x32x2x4x128x1, .f32⟩
  | 124 => ⟨S1x32x2x4x128x1, .f32⟩
  | 125 => ⟨S1x32x2x4x128x256, .f32⟩
  | 126 => ⟨S1x32x2x4x128x256, .f32⟩
  | 127 => ⟨S1x32x2x4x128x1, .f32⟩
  | _ => ⟨S4096x1280, .f32⟩

abbrev hbmTy0_2 (i : Nat) : BufTy := match i % 128 with
  | 0 => ⟨S_, .f32⟩
  | 1 => ⟨S1x32x2x4x128x1, .f32⟩
  | 2 => ⟨S1x32x2x4x128x1, .f32⟩
  | 3 => ⟨S1x32x2x64x4x128, .f32⟩
  | 4 => ⟨S1x32x128x2x4x64, .f32⟩
  | 5 => ⟨S1x4096x512, .f32⟩
  | 6 => ⟨S1x4096x1024, .f32⟩
  | 7 => ⟨S4096x1024, .f32⟩
  | 8 => ⟨S1x4096x1024, .f32⟩
  | 9 => ⟨S1x4096x512, .f32⟩
  | 10 => ⟨S1x4096x512, .f32⟩
  | 11 => ⟨S1x32x128x2x4x64, .f32⟩
  | 12 => ⟨S1x32x2x64x4x128, .f32⟩
  | 13 => ⟨S1x32x2x4x128x256, .f32⟩
  | 14 => ⟨S1x32x2x64x256, .f32⟩
  | 15 => ⟨S1x32x256x2x64, .f32⟩
  | 16 => ⟨S1x32x2x4x128x256, .f32⟩
  | 17 => ⟨S1x32x2x4x128x256, .f32⟩
  | 18 => ⟨S1x32x2x4x128x256, .f32⟩
  | 19 => ⟨S_, .f32⟩
  | 20 => ⟨S1x32x2x4x128, .f32⟩
  | 21 => ⟨S1x32x2x4x128x1, .f32⟩
  | 22 => ⟨S1x32x2x4x128x1, .f32⟩
  | 23 => ⟨S1x32x2x4x128x256, .f32⟩
  | 24 => ⟨S1x32x2x4x128x256, .f32⟩
  | 25 => ⟨S1x32x2x4x128x1, .f32⟩
  | 26 => ⟨S_, .f32⟩
  | 27 => ⟨S1x2x4x1, .f32⟩
  | 28 => ⟨S1x1x2x4x1x1, .f32⟩
  | 29 => ⟨S1x32x2x4x128x1, .f32⟩
  | 30 => ⟨S_, .f32⟩
  | 31 => ⟨S32x2x4x128, .f32⟩
  | 32 => ⟨S1x32x2x4x128, .f32⟩
  | 33 => ⟨S1x32x2x4x128x256, .f32⟩
  | 34 => ⟨S1x32x2x4x128x256, .f32⟩
  | 35 => ⟨S1x32x2x4x128x256, .f32⟩
  | 36 => ⟨S1x32x2x4x128x256, .f32⟩
  | 37 => ⟨S_, .f32⟩
  | 38 => ⟨S1x32x2x4x128, .f32⟩
  | 39 => ⟨S1x32x2x4x128x1, .f32⟩
  | 40 => ⟨S1x32x2x4x128x1, .f32⟩
  | 41 => ⟨S1x32x2x4x128x1, .f32⟩
  | 42 => ⟨S_, .f32⟩
  | 43 => ⟨S1x2x4x1, .f32⟩
  | 44 => ⟨S1x1x2x4x1x1, .f32⟩
  | 45 => ⟨S1x1x2x4x1x1, .f32⟩
  | 46 => ⟨S1x32x2x4x128x1, .f32⟩
  | 47 => ⟨S_, .f32⟩
  | 48 => ⟨S32x2x4x128, .f32⟩
  | 49 => ⟨S1x32x2x4x128, .f32⟩
  | 50 => ⟨S1x32x2x4x128, .f32⟩
  | 51 => ⟨S1x32x2x4x128x256, .f32⟩
  | 52 => ⟨S1x32x2x4x128x256, .f32⟩
  | 53 => ⟨S1x32x2x4x128x256, .f32⟩
  | 54 => ⟨S_, .f32⟩
  | 55 => ⟨S2x4, .f32⟩
  | 56 => ⟨S8, .f32⟩
  | 57 => ⟨S_, .f32⟩
  | 58 => ⟨S1x32x2x4x128x256, .f32⟩
  | 59 => ⟨S1x32x2x4x128x256, .f32⟩
  | 60 => ⟨S_, .f32⟩
  | 61 => ⟨S1x2x4x128x256, .f32⟩
  | 62 => ⟨S1x1x2x4x128x256, .f32⟩
  | 63 => ⟨S_, .f32⟩
  | 64 => ⟨S2x4x128x256, .f32⟩
  | 65 => ⟨S_, .f32⟩
  | 66 => ⟨S1x32x2x4x128x256, .f32⟩
  | 67 => ⟨S1x32x2x4x128x256, .f32⟩
  | 68 => ⟨S1x32x2x256x128x4, .f32⟩
  | 69 => ⟨S1x32x2x128x4x64, .f32⟩
  | 70 => ⟨S1x32x128x2x4x64, .f32⟩
  | 71 => ⟨S1x32x2x256x64, .f32⟩
  | 72 => ⟨S1x32x256x2x64, .f32⟩
  | 73 => ⟨S8x128x256, .f32⟩
  | 74 => ⟨S128x256x8, .f32⟩
  | 75 => ⟨S_, .f32⟩
  | 76 => ⟨S32x8, .f32⟩
  | 77 => ⟨S32x8, .f32⟩
  | 78 => ⟨S1x32x128x2x64, .f32⟩
  | 79 => ⟨S1x32x128x2x64, .f32⟩
  | 80 => ⟨S1x4096x2x64, .f32⟩
  | 81 => ⟨S1x4096x2x64, .f32⟩
  | 82 => ⟨S1x128x2x64, .f32⟩
  | 83 => ⟨S1x3968x2x64, .f32⟩
  | 84 => ⟨S_, .f32⟩
  | 85 => ⟨S1x4096x2x64, .f32⟩
  | 86 => ⟨S1x4096x2x64, .f32⟩
  | 87 => ⟨S1x32x128x2x64, .f32⟩
  | 88 => ⟨S1x32x128x2x64, .f32⟩
  | 89 => ⟨S1x4096x2x64, .f32⟩
  | 90 => ⟨S1x4096x2x64, .f32⟩
  | 91 => ⟨S1x128x2x64, .f32⟩
  | 92 => ⟨S1x3968x2x64, .f32⟩
  | 93 => ⟨S_, .f32⟩
  | 94 => ⟨S1x4096x2x64, .f32⟩
  | 95 => ⟨S1x4096x2x64, .f32⟩
  | 96 => ⟨S1x4096x8x64, .f32⟩
  | 97 => ⟨S1x8, .f32⟩
  | 98 => ⟨S1x4096x512, .f32⟩
  | 99 => ⟨S_, .f32⟩
  | 100 => ⟨S1x512, .f32⟩
  | 101 => ⟨S1x1x512, .f32⟩
  | 102 => ⟨S1x4096x512, .f32⟩
  | 103 => ⟨S1x4096x512, .f32⟩
  | 104 => ⟨S_, .f32⟩
  | 105 => ⟨S512, .f32⟩
  | 106 => ⟨S1x4096x4x128, .f32⟩
  | 107 => ⟨S4x128x1x4096, .f32⟩
  | 108 => ⟨S4x1x4096x128, .f32⟩
  | 109 => ⟨S1x4096x4x128, .f32⟩
  | 110 => ⟨S4x128x128, .f32⟩
  | 111 => ⟨S4x128x128, .f32⟩
  | 112 => ⟨S1x4096x4x128, .f32⟩
  | 113 => ⟨S1x4096x1x128, .f32⟩
  | 114 => ⟨S1x4096x128, .f32⟩
  | 115 => ⟨S1x4096x1x128, .f32⟩
  | 116 => ⟨S1x4096x128, .f32⟩
  | 117 => ⟨S1x4096x1x128, .f32⟩
  | 118 => ⟨S1x4096x128, .f32⟩
  | 119 => ⟨S1x4096x1x128, .f32⟩
  | 120 => ⟨S1x4096x128, .f32⟩
  | 121 => ⟨S1x4096x128, .f32⟩
  | 122 => ⟨S1x4096x128, .f32⟩
  | 123 => ⟨S1x4096x128, .f32⟩
  | 124 => ⟨S1x16x128, .f32⟩
  | 125 => ⟨S1x4080x128, .f32⟩
  | 126 => ⟨S_, .f32⟩
  | 127 => ⟨S1x4096x128, .f32⟩
  | _ => ⟨S4096x1280, .f32⟩

abbrev hbmTy0_3 (i : Nat) : BufTy := match i % 128 with
  | 0 => ⟨S1x4096x128, .f32⟩
  | 1 => ⟨S1x4096x1x128, .f32⟩
  | 2 => ⟨S_, .f32⟩
  | 3 => ⟨S1x4096x4x128, .f32⟩
  | 4 => ⟨S1x4096x128, .f32⟩
  | 5 => ⟨S1x4096x128, .f32⟩
  | 6 => ⟨S1x4096x128, .f32⟩
  | 7 => ⟨S1x8x128, .f32⟩
  | 8 => ⟨S1x4088x128, .f32⟩
  | 9 => ⟨S_, .f32⟩
  | 10 => ⟨S1x4096x128, .f32⟩
  | 11 => ⟨S1x4096x128, .f32⟩
  | 12 => ⟨S1x4096x1x128, .f32⟩
  | 13 => ⟨S_, .f32⟩
  | 14 => ⟨S1x4096x4x128, .f32⟩
  | 15 => ⟨S1x4096x4x128, .f32⟩
  | 16 => ⟨S1x4096x128, .f32⟩
  | 17 => ⟨S1x4096x128, .f32⟩
  | 18 => ⟨S1x4096x128, .f32⟩
  | 19 => ⟨S1x4x128, .f32⟩
  | 20 => ⟨S1x4092x128, .f32⟩
  | 21 => ⟨S_, .f32⟩
  | 22 => ⟨S1x4096x128, .f32⟩
  | 23 => ⟨S1x4096x128, .f32⟩
  | 24 => ⟨S1x4096x1x128, .f32⟩
  | 25 => ⟨S_, .f32⟩
  | 26 => ⟨S1x4096x4x128, .f32⟩
  | 27 => ⟨S1x4096x4x128, .f32⟩
  | 28 => ⟨S1x4096x128, .f32⟩
  | 29 => ⟨S1x4096x128, .f32⟩
  | 30 => ⟨S1x4096x128, .f32⟩
  | 31 => ⟨S1x2x128, .f32⟩
  | 32 => ⟨S1x4094x128, .f32⟩
  | 33 => ⟨S_, .f32⟩
  | 34 => ⟨S1x4096x128, .f32⟩
  | 35 => ⟨S1x4096x128, .f32⟩
  | 36 => ⟨S1x4096x1x128, .f32⟩
  | 37 => ⟨S_, .f32⟩
  | 38 => ⟨S1x4096x4x128, .f32⟩
  | 39 => ⟨S1x4096x4x128, .f32⟩
  | 40 => ⟨S_, .f32⟩
  | 41 => ⟨S_, .f32⟩
  | 42 => ⟨S1x4096x4x128, .f32⟩
  | 43 => ⟨S1x4096x4x128, .f32⟩
  | 44 => ⟨S1x4096x512, .f32⟩
  | 45 => ⟨S1x512, .f32⟩
  | 46 => ⟨S1x4x128x128, .f32⟩
  | 47 => ⟨S1x4096x128, .f32⟩
  | 48 => ⟨S_, .f32⟩
  | 49 => ⟨S1x4096x1280, .f32⟩
  | 50 => ⟨S1x4096x128, .f32⟩
  | 51 => ⟨S_, .f32⟩
  | 52 => ⟨S1x4096x1280, .f32⟩
  | 53 => ⟨S1x4096x1280, .f32⟩
  | 54 => ⟨S1x4096x512, .f32⟩
  | 55 => ⟨S_, .f32⟩
  | 56 => ⟨S1x4096x1280, .f32⟩
  | 57 => ⟨S1x4096x1280, .f32⟩
  | 58 => ⟨S_, .f32⟩
  | 59 => ⟨S1x4096x1280, .f32⟩
  | 60 => ⟨S1x4096x1280, .f32⟩
  | 61 => ⟨S_, .f32⟩
  | 62 => ⟨S4096x1280, .f32⟩
  | 63 => ⟨S4x128x128, .f32⟩
  | 64 => ⟨S4x128, .f32⟩
  | 65 => ⟨S4096x512, .f32⟩
  | 66 => ⟨S4096x512, .bf16⟩
  | 67 => ⟨S4096x512, .f32⟩
  | 68 => ⟨S4096x512, .bf16⟩
  | _ => ⟨S4096x1280, .f32⟩

abbrev hbmTy (i : Nat) : BufTy := match i / 128 with
  | 0 => hbmTy0_0 i
  | 1 => hbmTy0_1 i
  | 2 => hbmTy0_2 i
  | 3 => hbmTy0_3 i
  | _ => ⟨S4096x1280, .f32⟩

abbrev bufTy : (tb : Table) → Fin (tcTables nBuf tb) → BufTy
  | .hbm, ⟨i, _⟩ => hbmTy i
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_15 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_c_16 : Ref sig .tc := ⟨.hbm, 126, rfl⟩
abbrev main_v100 : Ref sig .tc := ⟨.hbm, 127, rfl⟩
abbrev main_v101 : Ref sig .tc := ⟨.hbm, 128, rfl⟩
abbrev main_c_17 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_18 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_19 : Ref sig .tc := ⟨.hbm, 137, rfl⟩
abbrev main_v108 : Ref sig .tc := ⟨.hbm, 138, rfl⟩
abbrev main_v109 : Ref sig .tc := ⟨.hbm, 139, rfl⟩
abbrev main_cst_20 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_c_21 : Ref sig .tc := ⟨.hbm, 144, rfl⟩
abbrev main_v113 : Ref sig .tc := ⟨.hbm, 145, rfl⟩
abbrev main_v114 : Ref sig .tc := ⟨.hbm, 146, rfl⟩
abbrev main_c_22 : Ref sig .tc := ⟨.hbm, 147, rfl⟩
abbrev main_v115 : Ref sig .tc := ⟨.hbm, 148, rfl⟩
abbrev main_v116 : Ref sig .tc := ⟨.hbm, 149, rfl⟩
abbrev main_c_23 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_c_24 : Ref sig .tc := ⟨.hbm, 154, rfl⟩
abbrev main_v120 : Ref sig .tc := ⟨.hbm, 155, rfl⟩
abbrev main_v121 : Ref sig .tc := ⟨.hbm, 156, rfl⟩
abbrev main_c_25 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_c_26 : Ref sig .tc := ⟨.hbm, 165, rfl⟩
abbrev main_v129 : Ref sig .tc := ⟨.hbm, 166, rfl⟩
abbrev main_v130 : Ref sig .tc := ⟨.hbm, 167, rfl⟩
abbrev main_c_27 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_c_28 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_c_29 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_30 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_31 : Ref sig .tc := ⟨.hbm, 199, rfl⟩
abbrev main_call2_v0 : Ref sig .tc := ⟨.hbm, 200, rfl⟩
abbrev main_v158_1 : Ref sig .tc := ⟨.hbm, 201, rfl⟩
abbrev main_call2_v2 : Ref sig .tc := ⟨.hbm, 202, rfl⟩
abbrev main_v158_0 : Ref sig .tc := ⟨.hbm, 203, rfl⟩
abbrev main_call2_cst : Ref sig .tc := ⟨.hbm, 204, rfl⟩
abbrev main_v158_2 : Ref sig .tc := ⟨.hbm, 205, rfl⟩
abbrev main_v159 : Ref sig .tc := ⟨.hbm, 206, rfl⟩
abbrev main_v160 : Ref sig .tc := ⟨.hbm, 207, rfl⟩
abbrev main_cst_32 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_33 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_34 : Ref sig .tc := ⟨.hbm, 223, rfl⟩
abbrev main_v174 : Ref sig .tc := ⟨.hbm, 224, rfl⟩
abbrev main_cst_35 : Ref sig .tc := ⟨.hbm, 225, rfl⟩
abbrev main_v175 : Ref sig .tc := ⟨.hbm, 226, rfl⟩
abbrev main_cst_36 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_cst_37 : Ref sig .tc := ⟨.hbm, 235, rfl⟩
abbrev main_v183 : Ref sig .tc := ⟨.hbm, 236, rfl⟩
abbrev main_cst_38 : Ref sig .tc := ⟨.hbm, 237, rfl⟩
abbrev main_v184 : Ref sig .tc := ⟨.hbm, 238, rfl⟩
abbrev main_cst_39 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_40 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_cst_41 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_cst_42 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_cst_43 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_cst_44 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_cst_45 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_cst_46 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_cst_47 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_cst_48 : Ref sig .tc := ⟨.hbm, 310, rfl⟩
abbrev main_v247 : Ref sig .tc := ⟨.hbm, 311, rfl⟩
abbrev main_v248 : Ref sig .tc := ⟨.hbm, 312, rfl⟩
abbrev main_call3_cst : Ref sig .tc := ⟨.hbm, 313, rfl⟩
abbrev main_call3_v0 : Ref sig .tc := ⟨.hbm, 314, rfl⟩
abbrev main_v249 : Ref sig .tc := ⟨.hbm, 315, rfl⟩
abbrev main_cst_49 : Ref sig .tc := ⟨.hbm, 316, rfl⟩
abbrev main_v250 : Ref sig .tc := ⟨.hbm, 317, rfl⟩
abbrev main_v251 : Ref sig .tc := ⟨.hbm, 318, rfl⟩
abbrev main_cst_50 : Ref sig .tc := ⟨.hbm, 319, rfl⟩
abbrev main_v252 : Ref sig .tc := ⟨.hbm, 320, rfl⟩
abbrev main_cst_51 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_cst_52 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_cst_53 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_cst_54 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_cst_55 : Ref sig .tc := ⟨.hbm, 355, rfl⟩
abbrev main_v283 : Ref sig .tc := ⟨.hbm, 356, rfl⟩
abbrev main_v284 : Ref sig .tc := ⟨.hbm, 357, rfl⟩
abbrev main_v285 : Ref sig .tc := ⟨.hbm, 358, rfl⟩
abbrev main_v286 : Ref sig .tc := ⟨.hbm, 359, rfl⟩
abbrev main_cst_56 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_v290 : Ref sig .tc := ⟨.hbm, 364, rfl⟩
abbrev main_v291 : Ref sig .tc := ⟨.hbm, 365, rfl⟩
abbrev main_v292 : Ref sig .tc := ⟨.hbm, 366, rfl⟩
abbrev main_v293 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_v298 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_cst_57 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_cst_58 : Ref sig .tc := ⟨.hbm, 386, rfl⟩
abbrev main_v311 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_v316 : Ref sig .tc := ⟨.hbm, 392, rfl⟩
abbrev main_cst_59 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_cst_60 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_cst_61 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_cst_62 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_cst_63 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_cst_64 : Ref sig .tc := ⟨.hbm, 421, rfl⟩
abbrev main_v340 : Ref sig .tc := ⟨.hbm, 422, rfl⟩
abbrev main_v341 : Ref sig .tc := ⟨.hbm, 423, rfl⟩
abbrev main_call4_call0_cst : Ref sig .tc := ⟨.hbm, 424, rfl⟩
abbrev main_call4_call0_v0 : Ref sig .tc := ⟨.hbm, 425, rfl⟩
abbrev main_v342 : Ref sig .tc := ⟨.hbm, 426, rfl⟩
abbrev main_v343 : Ref sig .tc := ⟨.hbm, 427, rfl⟩
abbrev main_v344 : Ref sig .tc := ⟨.hbm, 428, rfl⟩
abbrev main_v345 : Ref sig .tc := ⟨.hbm, 429, rfl⟩
abbrev main_v346 : Ref sig .tc := ⟨.hbm, 430, rfl⟩
abbrev main_v347 : Ref sig .tc := ⟨.hbm, 431, rfl⟩
abbrev main_cst_65 : Ref sig .tc := ⟨.hbm, 432, rfl⟩
abbrev main_v348 : Ref sig .tc := ⟨.hbm, 433, rfl⟩
abbrev main_v349 : Ref sig .tc := ⟨.hbm, 434, rfl⟩
abbrev main_cst_66 : Ref sig .tc := ⟨.hbm, 435, rfl⟩
abbrev main_v350 : Ref sig .tc := ⟨.hbm, 436, rfl⟩
abbrev main_v351 : Ref sig .tc := ⟨.hbm, 437, rfl⟩
abbrev main_v352 : Ref sig .tc := ⟨.hbm, 438, rfl⟩
abbrev main_cst_67 : Ref sig .tc := ⟨.hbm, 439, rfl⟩
abbrev main_v353 : Ref sig .tc := ⟨.hbm, 440, rfl⟩
abbrev main_v354 : Ref sig .tc := ⟨.hbm, 441, rfl⟩
abbrev main_cst_68 : Ref sig .tc := ⟨.hbm, 442, rfl⟩
abbrev main_v355 : Ref sig .tc := ⟨.hbm, 443, rfl⟩
abbrev main_v356 : Ref sig .tc := ⟨.hbm, 444, rfl⟩
abbrev main_cst_69 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_v360 : Ref sig .tc := ⟨.hbm, 449, rfl⟩
abbrev main_v361 : Ref sig .tc := ⟨.hbm, 450, rfl⟩
abbrev main_v362 : Ref sig .tc := ⟨.hbm, 451, rfl⟩
abbrev main_v363 : Ref sig .tc := ⟨.hbm, 452, rfl⟩

abbrev nD : Nat := 1
abbrev τ : Topo := Topo.v7x

variable {F : FTy → Type} [FloatOps F]
-- ==== Gate.lean ====
abbrev S1x4096x1024 : Shape := ⟨3, ![1, 4096, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S8x352x1024 : Shape := ⟨3, ![8, 352, 1024]⟩
abbrev S4096x1024 : Shape := ⟨2, ![4096, 1024]⟩
abbrev S4096x2816 : Shape := ⟨2, ![4096, 2816]⟩
abbrev S1024x1024 : Shape := ⟨2, ![1024, 1024]⟩
abbrev S4x352x1024 : Shape := ⟨3, ![4, 352, 1024]⟩
abbrev S1024x1408 : Shape := ⟨2, ![1024, 1408]⟩
abbrev S1408x1024 : Shape := ⟨2, ![1408, 1024]⟩
abbrev S2x4x352x1024 : Shape := ⟨4, ![2, 4, 352, 1024]⟩
abbrev S512x1024 : Shape := ⟨2, ![512, 1024]⟩
abbrev S512x1408 : Shape := ⟨2, ![512, 1408]⟩
abbrev S2x2x352x1024 : Shape := ⟨4, ![2, 2, 352, 1024]⟩
abbrev S2x1408x1024 : Shape := ⟨3, ![2, 1408, 1024]⟩
abbrev S1x1408x1024 : Shape := ⟨3, ![1, 1408, 1024]⟩
abbrev S1x1x352x1024 : Shape := ⟨4, ![1, 1, 352, 1024]⟩
abbrev S352x1024 : Shape := ⟨2, ![352, 1024]⟩

abbrev nBuf : Space → Nat
  | .hbm => 27
  | .vmem => 31
  | .smem => 0
  | _ => 0

abbrev bufTy : (tb : Table) → Fin (tcTables nBuf tb) → BufTy
  | .hbm, ⟨0, _⟩ => ⟨S1x4096x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S8x352x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S8x352x1024, .bf16⟩
  | .hbm, ⟨13, _⟩ => ⟨S2816x1024, .f32⟩
  | .hbm, ⟨14, _⟩ => ⟨S2816x1024, .bf16⟩
  | .hbm, ⟨15, _⟩ => ⟨S8x352x1024, .bf16⟩
  | .hbm, ⟨16, _⟩ => ⟨S4096x1024, .f32⟩
  | .hbm, ⟨17, _⟩ => ⟨S4096x1024, .bf16⟩
  | .hbm, ⟨18, _⟩ => ⟨S4096x2816, .bf16⟩
  | .hbm, ⟨19, _⟩ => ⟨S4096x2816, .bf16⟩
  | .hbm, ⟨20, _⟩ => ⟨S4096x2816, .bf16⟩
  | .hbm, ⟨21, _⟩ => ⟨S4096x1024, .f32⟩
  | .hbm, ⟨22, _⟩ => ⟨S4096x1024, .bf16⟩
  | .hbm, ⟨23, _⟩ => ⟨S4096x2816, .bf16⟩
  | .hbm, ⟨24, _⟩ => ⟨S4096x2816, .bf16⟩
  | .hbm, ⟨25, _⟩ => ⟨S2x4x352x1024, .bf16⟩
  | .hbm, ⟨26, _⟩ => ⟨S2x4x352x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S512x1024, .bf16⟩
  | .local _ .vmem, ⟨13, _⟩ => ⟨S512x1024, .bf16⟩
  | .local _ .vmem, ⟨14, _⟩ => ⟨S4x352x1024, .bf16⟩
  | .local _ .vmem, ⟨15, _⟩ => ⟨S4x352x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1024, .bf16⟩
  | .local _ .vmem, ⟨21, _⟩ => ⟨S512x1024, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S2x2x352x1024, .bf16⟩
  | .local _ .vmem, ⟨27, _⟩ => ⟨S2x2x352x1024, .bf16⟩
  | .local _ .vmem, ⟨28, _⟩ => ⟨S2x2x352x1024, .bf16⟩
  | .local _ .vmem, ⟨29, _⟩ => ⟨S2x2x352x1024, .bf16⟩
  | .local _ .vmem, ⟨30, _⟩ => ⟨S2x1408x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_35 : BitVec 32 := 0#32
  let v56 : BitVec 1 := Scalar.cmpi .ne v55 c0_i32_35
  v56

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4x352x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1408 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x2x352x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2x2x352x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== GateRefIdeal.lean ====
abbrev S1x4096x1024 : Shape := ⟨3, ![1, 4096, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1x4096x2816 : Shape := ⟨3, ![1, 4096, 2816]⟩
abbrev S_ : Shape := ⟨0, ![]⟩
abbrev S2816x1024 : Shape := ⟨2, ![2816, 1024]⟩
abbrev S4096x2816 : Shape := ⟨2, ![4096, 2816]⟩
abbrev S4x2x352x1024 : Shape := ⟨4, ![4, 2, 352, 1024]⟩
abbrev S2x4x352x1024 : Shape := ⟨4, ![2, 4, 352, 1024]⟩

abbrev nBuf : Space → Nat
  | .hbm => 91
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x4096x1024, .f32⟩
  | .hbm, ⟨5, _⟩ => ⟨S1024x2816, .f32⟩
  | .hbm, ⟨6, _⟩ => ⟨S1x4096x2816, .f32⟩
  | .hbm, ⟨7, _⟩ => ⟨S1024x2816, .f32⟩
  | .hbm, ⟨8, _⟩ => ⟨S1x4096x2816, .f32⟩
  | .hbm, ⟨9, _⟩ => ⟨S1x4096x2816, .f32⟩
  | .hbm, ⟨10, _⟩ => ⟨S1x4096x2816, .f32⟩
  | .hbm, ⟨11, _⟩ => ⟨S_, .f32⟩
  | .hbm, ⟨12, _⟩ => ⟨S1x4096x2816, .f32⟩
  | .hbm, ⟨13, _⟩ => ⟨S1x4096x2816, .f32⟩
  | .hbm, ⟨14, _⟩ => ⟨S_, .f32⟩
  | .hbm, ⟨15, _⟩ => ⟨S1x4096x2816, .f32⟩
  | .hbm, ⟨16, _⟩ => ⟨S1x4096x2816, .f32⟩
  | .hbm, ⟨17, _⟩ => ⟨S_, .f32⟩
  | .hbm, ⟨18, _⟩ => ⟨S1x4096x2816, .f32⟩
  | .hbm, ⟨19, _⟩ => ⟨S1x4096x2816, .f32⟩
  | .hbm, ⟨20, _⟩ => ⟨S1x4096x2816, .f32⟩
  | .hbm, ⟨21, _⟩ => ⟨S1x4096x2816, .f32⟩
  | .hbm, ⟨22, _⟩ => ⟨S1x4096x2816, .f32⟩
  | .hbm, ⟨23, _⟩ => ⟨S2816x1024, .f32⟩
  | .hbm, ⟨24, _⟩ => ⟨S1x4096x1024, .f32⟩
  | .hbm, ⟨25, _⟩ => ⟨S1x4096x2816, .f32⟩
  | .hbm, ⟨26, _⟩ => ⟨S1x4096x2816, .f32⟩
  | .hbm, ⟨27, _⟩ => ⟨S1x4096x2816, .f32⟩
  | .hbm, ⟨28, _⟩ => ⟨S1x4096x2816, .f32⟩
  | .hbm, ⟨29, _⟩ => ⟨S1x4096x2816, .f32⟩
  | .hbm, ⟨30, _⟩ => ⟨S1x4096x2816, .f32⟩
  | .hbm, ⟨31, _⟩ => ⟨S1x4096x2816, .f32⟩
  | .hbm, ⟨32, _⟩ => ⟨S1024x2816, .f32⟩
  | .hbm, ⟨33, _⟩ => ⟨S1x4096x2816, .f32⟩
  | .hbm, ⟨34, _⟩ => ⟨S1024x2816, .f32⟩
  | .hbm, ⟨35, _⟩ => ⟨S1x4096x2816, .f32⟩
  | .hbm, ⟨36, _⟩ => ⟨S1x4096x2816, .f32⟩
  | .hbm, ⟨37, _⟩ => ⟨S1x4096x2816, .f32⟩
  | .hbm, ⟨38, _⟩ => ⟨S_, .f32⟩
  | .hbm, ⟨39, _⟩ => ⟨S1x4096x2816, .f32⟩
  | .hbm, ⟨40, _⟩ => ⟨S1x4096x2816, .f32⟩
  | .hbm, ⟨41, _⟩ => ⟨S_, .f32⟩
  | .hbm, ⟨42, _⟩ => ⟨S1x4096x2816, .f32⟩
  | .hbm, ⟨43, _⟩ => ⟨S1x4096x2816, .f32⟩
  | .hbm, ⟨44, _⟩ => ⟨S_, .f32⟩
  | .hbm, ⟨45, _⟩ => ⟨S1x4096x2816, .f32⟩
  | .hbm, ⟨46, _⟩ => ⟨S1x4096x2816, .f32⟩
  | .hbm, ⟨47, _⟩ => ⟨S1x4096x2816, .f32⟩
  | .hbm, ⟨48, _⟩ => ⟨S1x4096x2816, .f32⟩
  | .hbm, ⟨49, _⟩ => ⟨S1x4096x2816, .f32⟩
  | .hbm, ⟨50, _⟩ => ⟨S2816x1024, .f32⟩
  | .hbm, ⟨51, _⟩ => ⟨S1x4096x1024, .f32⟩
  | .hbm, ⟨52, _⟩ => ⟨S1x4096x2816, .f32⟩
  | .hbm, ⟨53, _⟩ => ⟨S1x4096x2816, .f32⟩
  | .hbm, ⟨54, _⟩ => ⟨S1x4096x2816, .f32⟩
  | .hbm, ⟨55, _⟩ => ⟨S1x4096x2816, .f32⟩
  | .hbm, ⟨56, _⟩ => ⟨S1x4096x2816, .f32⟩
  | .hbm, ⟨57, _⟩ => ⟨S1x4096x2816, .f32⟩
  | .hbm, ⟨58, _⟩ => ⟨S1x4096x2816, .f32⟩
  | .hbm, ⟨59, _⟩ => ⟨S2816x1024, .f32⟩
  | .hbm, ⟨60, _⟩ => ⟨S1024x2816, .f32⟩
  | .hbm, ⟨61, _⟩ => ⟨S1x1024x2816, .f32⟩
  | .hbm, ⟨62, _⟩ => ⟨S2816x1024, .f32⟩
  | .hbm, ⟨63, _⟩ => ⟨S1024x2816, .f32⟩
  | .hbm, ⟨64, _⟩ => ⟨S1x1024x2816, .f32⟩
  | .hbm, ⟨65, _⟩ => ⟨S1x4096x2816, .f32⟩
  | .hbm, ⟨66, _⟩ => ⟨S1x4096x2816, .f32⟩
  | .hbm, ⟨67, _⟩ => ⟨S_, .f32⟩
  | .hbm, ⟨68, _⟩ => ⟨S1x4096x2816, .f32⟩
  | .hbm, ⟨69, _⟩ => ⟨S1x4096x2816, .f32⟩
  | .hbm, ⟨70, _⟩ => ⟨S_, .f32⟩
  | .hbm, ⟨71, _⟩ => ⟨S1x4096x2816, .f32⟩
  | .hbm, ⟨72, _⟩ => ⟨S1x4096x2816, .f32⟩
  | .hbm, ⟨73, _⟩ => ⟨S1x4096x2816, .f32⟩
  | .hbm, ⟨74, _⟩ => ⟨S1x4096x2816, .f32⟩
  | .hbm, ⟨75, _⟩ => ⟨S4096x2816, .f32⟩
  | .hbm, ⟨76, _⟩ => ⟨S4096x2816, .bf16⟩
  | .hbm, ⟨77, _⟩ => ⟨S4096x2816, .f32⟩
  | .hbm, ⟨78, _⟩ => ⟨S4096x2816, .bf16⟩
  | .hbm, ⟨79, _⟩ => ⟨S4096x2816, .f32⟩
  | .hbm, ⟨80, _⟩ => ⟨S4096x2816, .bf16⟩
  | .hbm, ⟨81, _⟩ => ⟨S1024x2816, .f32⟩
  | .hbm, ⟨82, _⟩ => ⟨S2816x1024, .f32⟩
  | .hbm, ⟨83, _⟩ => ⟨S4x2x352x1024, .f32⟩
  | .hbm, ⟨84, _⟩ => ⟨S2x4x352x1024, .f32⟩
  | .hbm, ⟨85, _⟩ => ⟨S2x4x352x1024, .bf16⟩
  | .hbm, ⟨86, _⟩ => ⟨S1024x2816, .f32⟩
  | .hbm, ⟨87, _⟩ => ⟨S2816x1024, .f32⟩
  | .hbm, ⟨88, _⟩ => ⟨S4x2x352x1024, .f32⟩
  | .hbm, ⟨89, _⟩ => ⟨S2x4x352x1024, .f32⟩
  | .hbm, ⟨90, _⟩ => ⟨S2x4x352x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_v16_2 : Ref sig .tc := ⟨.hbm, 43, rfl⟩
abbrev main_call2_cst_1 : Ref sig .tc := ⟨.hbm, 44, rfl⟩
abbrev main_call2_v6 : Ref sig .tc := ⟨.hbm, 45, rfl⟩
abbrev main_call2_v7 : Ref sig .tc := ⟨.hbm, 46, rfl⟩
abbrev main_v16_1 : Ref sig .tc := ⟨.hbm, 47, rfl⟩
abbrev main_v16_0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_call4_v0 : Ref sig .tc := ⟨.hbm, 65, rfl⟩
abbrev main_call4_v1 : Ref sig .tc := ⟨.hbm, 66, rfl⟩
abbrev main_call4_cst : Ref sig .tc := ⟨.hbm, 67, rfl⟩
abbrev main_call4_v2 : Ref sig .tc := ⟨.hbm, 68, rfl⟩
abbrev main_call4_v3 : Ref sig .tc := ⟨.hbm, 69, rfl⟩
abbrev main_call4_cst_0 : Ref sig .tc := ⟨.hbm, 70, rfl⟩
abbrev main_call4_v4 : Ref sig .tc := ⟨.hbm, 71, rfl⟩
abbrev main_call4_v5 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩

abbrev nD : Nat := 1
abbrev τ : Topo := Topo.v7x

variable {F : FTy → Type} [FloatOps F]
-- ==== Proof.Tile.lean ====
/-
  An index of an array and the tile that holds it, one axis at a time: `k` is the tile's number, `n` its extent.
-/
module

public import Idealize.ShloMosaic.Lib.Pipeline.Value

@[expose] public section

namespace Cert

open Idealize.ShloMosaic

/-- An index lies in the tile its quotient names. -/
theorem tile_div {k n i : Nat} (hn : 0 < n) (h : k = i / n) : k * n ≤ i ∧ i < k * n + n := by
  subst h
  have := Nat.div_add_mod i n
  have := Nat.mod_lt i hn
  rw [Nat.mul_comm]
  omega

/-- On an axis with one tile every index lies in it. -/
theorem tile_zero {k n i : Nat} (h : k = 0) (hi : i < n) : k * n ≤ i ∧ i < k * n + n := by
  subst h; omega

/-- Row `r` of tile `q`. -/
theorem tile_row_at {k n q r j : Nat} (h : k = q) (hj : j = r) : k * n + 1 * j = n * q + r := by
  subst h hj; rw [Nat.mul_comm, Nat.one_mul]
theorem tile_row {k n q r : Nat} (h : k = q) : k * n + 1 * r = n * q + r := tile_row_at h rfl

/-- The same on an axis with one tile. -/
theorem tile_col_at {k n r j : Nat} (h : k = 0) (hj : j = r) : k * n + 1 * j = r := by
  subst h hj; omega
theorem tile_col {k n r : Nat} (h : k = 0) : k * n + 1 * r = r := tile_col_at h rfl

/-- An index lies in the tile of a whole buffer when it does so on every axis. -/
theorem mem_tile {sig : RefSig} {κ : Kind} {b : Ref sig κ} {off size : Fin b.ty.shape.rank → ℕ} {inb} {i : b.ty.shape.Idx}
    (h : ∀ a, off a ≤ i a ∧ (i a : ℕ) < off a + size a) : i ∈ ((View.whole b).slice (Rect.unit off size inb)).set := by
  rw [View.set_slice_whole, Rect.mem_set_unit]; exact h

end Cert
end
-- ==== Proof.Reals.lean ====
/-
  Finite values inside the extended reals: sums, quotients, reciprocal square roots and the printed constants of
  operands that are reals, each stated as a real. Everything a value proof needs to leave the extended reals.
-/
module

public import Idealize.ShloMosaic.PureOps.Ideal.Laws
public import Idealize.ShloMosaic.Lib.IdealHost
public import Idealize.ShloMosaic.Lib.ReduceAll
public import Idealize.ShloMosaic.Lib.ValueIdx

@[expose] public section

noncomputable section

namespace Cert.Reals

open Idealize.ShloMosaic
open scoped BigOperators

/-- A finite sum of reals, taken in the extended reals, is the real sum. -/
theorem sum_coe {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A sum of products of reals is the real sum of products. -/
theorem sum_mul_coe {ι : Type*} (s : Finset ι) (f g : ι → ℝ) :
    (∑ k ∈ s, (f k : EReal) * (g k : EReal)) = ((∑ k ∈ s, f k * g k : ℝ) : EReal) := by
  rw [← sum_coe]; exact Finset.sum_congr rfl fun k _ => (EReal.coe_mul _ _).symm

/-- The quotient of reals by a real that is not zero. -/
theorem div_coe_coe (a : ℝ) {b : ℝ} (hb : b ≠ 0) : Ideal.div (a : EReal) (b : EReal) = ((a / b : ℝ) : EReal) := by
  rw [Ideal.div_coe hb, ← EReal.coe_mul]; congr 1; ring

/-- The reciprocal square root of a positive real. -/
theorem rsqrt_pos {y : ℝ} (hy : 0 < y) : Ideal.rsqrt (y : EReal) = (((Real.sqrt y)⁻¹ : ℝ) : EReal) := by
  rw [Ideal.rsqrt_coe, if_neg (not_lt.mpr hy.le), if_neg hy.ne']

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_top : Ideal.ofBits .f32 0x7F800000#32 = (⊤ : EReal) := by
  simp [Ideal.ofBits, Ideal.ieee]

/-- The small constant a root mean square is kept from zero by. -/
def eps : ℝ := 8796093 * 2 ^ (-43 : ℤ)

theorem eps_pos : 0 < eps := by unfold eps; positivity

theorem ofBits_eps : Ideal.ofBits .f32 0x358637BD#32 = (eps : EReal) := by
  simp [Ideal.ofBits, Ideal.ieee, eps, -EReal.coe_mul]

/-- An extended real of magnitude below the greatest is a real. -/
theorem exists_real {x : EReal} (h : max x (-x) < ⊤) : ∃ r : ℝ, x = (r : EReal) := by
  induction x with
  | bot => simp at h
  | top => simp at h
  | coe r => exact ⟨r, rfl⟩

/-- An array below the greatest extended real in magnitude, by the test a precondition writes, is an array of reals. -/
theorem real_of_test {s : Shape} (x : FVec Ideal s .f32) (y : FVec Ideal s .f32) (hy : ∀ i, y i = Ideal.ofBits .f32 0x7F800000#32)
    (h : ∀ i, cmpf .olt (Host.absf x) y i = 1#1) : ∃ r : s.Idx → ℝ, ∀ i, x i = (r i : EReal) := by
  have hx : ∀ i, ∃ r : ℝ, x i = (r : EReal) := fun i => by
    have hi := h i
    apply exists_real
    by_contra hn
    have e : cmpf .olt (Host.absf x) y i = 0#1 := by
      show Ideal.cmp .olt (max (x i) (-(x i))) (y i) = 0#1
      rw [hy, ofBits_top]
      simp [Ideal.cmp, hn]
    rw [e] at hi; exact absurd hi (by decide)
  exact ⟨fun i => (hx i).choose, fun i => (hx i).choose_spec⟩

end Cert.Reals
end
-- ==== Proof.Norm.lean ====
/-
  The gradient of a root-mean-square norm over rows of 1024 entries, as one real, and the two forms it is computed in:
  the one that scales by the reciprocal root once at the end, and the one the chain rule gives term by term.
-/
module

public import proofs.«01_k».proof.Proof.Reals
public import Idealize.ShloMosaic.Lib.Pointwise

@[expose] public section

noncomputable section

namespace Cert.Norm

open Idealize.ShloMosaic Cert.Reals
open scoped BigOperators

/-- Summing away the axes of extent one on either side of the rows keeps the row, -/
theorem drop_rows {n : ℕ} (h : (⟨3, ![1, n, 1]⟩ : Shape).ReducesTo [0, 2] ⟨1, ![n]⟩) (t : Fin n) (i : (⟨3, ![1, n, 1]⟩ : Shape).Idx) :
    h.drop i = ix1 t ↔ i = ix3 0 t 0 := by
  constructor
  · intro e
    have h1 : (i 1).val = t.val := congrArg Fin.val (congrFun e 0)
    funext a; apply Fin.ext
    match a with
    | ⟨0, _⟩ => have : (i 0).val < 1 := (i 0).isLt; show (i 0).val = 0; omega
    | ⟨1, _⟩ => exact h1
    | ⟨2, _⟩ => have : (i 2).val < 1 := (i 2).isLt; show (i 2).val = 0; omega
  · rintro rfl
    funext b; apply Fin.ext
    match b with
    | ⟨0, _⟩ => rfl

/-- and the two before a gain keep its entry. -/
theorem drop_gain {n : ℕ} (h : (⟨3, ![1, 1, n]⟩ : Shape).ReducesTo [0, 1] ⟨1, ![n]⟩) (d : Fin n) (i : (⟨3, ![1, 1, n]⟩ : Shape).Idx) :
    h.drop i = ix1 d ↔ i = ix3 0 0 d := by
  constructor
  · intro e
    have h1 : (i 2).val = d.val := congrArg Fin.val (congrFun e 0)
    funext a; apply Fin.ext
    match a with
    | ⟨0, _⟩ => have : (i 0).val < 1 := (i 0).isLt; show (i 0).val = 0; omega
    | ⟨1, _⟩ => have : (i 1).val < 1 := (i 1).isLt; show (i 1).val = 0; omega
    | ⟨2, _⟩ => exact h1
  · rintro rfl
    funext b; apply Fin.ext
    match b with
    | ⟨0, _⟩ => rfl

/-- The mean square of a row, kept from zero. -/
def ms (v : Fin 1024 → ℝ) : ℝ := (∑ k, v k * v k) / 1024 + eps

theorem ms_pos (v : Fin 1024 → ℝ) : 0 < ms v := by
  have : 0 ≤ ∑ k, v k * v k := Finset.sum_nonneg fun k _ => mul_self_nonneg _
  have := eps_pos
  unfold ms; positivity

/-- The reciprocal root mean square of a row. -/
def rs (v : Fin 1024 → ℝ) : ℝ := (Real.sqrt (ms v))⁻¹

theorem rs_sq (v : Fin 1024 → ℝ) : rs v * rs v = (ms v)⁻¹ := by
  unfold rs; rw [← mul_inv, Real.mul_self_sqrt (ms_pos v).le]

/-- The gradient of the norm at entry `d` of the row `v`, against the cotangent `dn` of the normalised row. -/
def grad (v dn : Fin 1024 → ℝ) (d : Fin 1024) : ℝ := rs v * (dn d - v d * rs v * ((∑ k, dn k * (v k * rs v)) / 1024))

/-- The reciprocal root, read from a row of the extended reals all of whose entries are reals. -/
theorem rs_eq (v : Fin 1024 → EReal) (v' : Fin 1024 → ℝ) (hv : ∀ k, v k = (v' k : EReal)) :
    Ideal.rsqrt (Ideal.div (∑ k, v k * v k) (Ideal.ofBits .f32 0x44800000#32) + Ideal.ofBits .f32 0x358637BD#32) = (rs v' : EReal) := by
  simp only [hv]
  rw [sum_mul_coe, ofBits_1024, ofBits_eps, div_coe_coe _ (by norm_num), ← EReal.coe_add]
  exact rsqrt_pos (ms_pos v')

/-- The same with the sum's initial zero written out, as a host sum has it. -/
theorem ms_eq (v : Fin 1024 → EReal) (v' : Fin 1024 → ℝ) (hv : ∀ k, v k = (v' k : EReal)) :
    Ideal.div (∑ k, v k * v k) (Ideal.ofBits .f32 0x44800000#32) + Ideal.ofBits .f32 0x358637BD#32 = (ms v' : EReal) := by
  simp only [hv]
  rw [sum_mul_coe, ofBits_1024, ofBits_eps, div_coe_coe _ (by norm_num), ← EReal.coe_add]
  rfl

/-- The gradient in the form that divides by the root once, at the end. -/
theorem grad_eq (v dn : Fin 1024 → ℝ) (d : Fin 1024) :
    (rs v : EReal) * ((dn d : EReal) - (v d : EReal) * (rs v : EReal)
      * Ideal.div (∑ k, (dn k : EReal) * ((v k : EReal) * (rs v : EReal))) (Ideal.ofBits .f32 0x44800000#32)) = (grad v dn d : EReal) := by
  have e : (∑ k, (dn k : EReal) * ((v k : EReal) * (rs v : EReal))) = ((∑ k, dn k * (v k * rs v) : ℝ) : EReal) := by
    rw [← sum_coe]; exact Finset.sum_congr rfl fun k _ => by push_cast; rfl
  rw [e, ofBits_1024, div_coe_coe _ (by norm_num), ← EReal.coe_mul, ← EReal.coe_mul, ← EReal.coe_sub, ← EReal.coe_mul]
  rfl

/-- The part of the gradient that comes through the reciprocal root, as the chain rule writes it. -/
def through (v dn : Fin 1024 → ℝ) : ℝ := (∑ k, v k * dn k) * (-(1 / 2) * (rs v / ms v)) / 1024

theorem through_eq (v dn : Fin 1024 → ℝ) :
    Ideal.div ((∑ k, (v k : EReal) * (dn k : EReal)) * (Ideal.ofBits .f32 0xBF000000#32 * Ideal.div (rs v : EReal) (ms v : EReal)))
      (Ideal.ofBits .f32 0x44800000#32) = (through v dn : EReal) := by
  rw [sum_mul_coe, ofBits_neg_half, div_coe_coe _ (ms_pos v).ne', ofBits_1024, ← EReal.coe_mul, ← EReal.coe_mul, div_coe_coe _ (by norm_num)]
  rfl

/-- The two forms agree. -/
theorem chain (v dn : Fin 1024 → ℝ) (d : Fin 1024) :
    dn d * rs v + v d * through v dn + through v dn * v d = grad v dn d := by
  have h : rs v / ms v = rs v * (rs v * rs v) := by rw [rs_sq]; rfl
  have s : (∑ k, dn k * (v k * rs v)) = (∑ k, v k * dn k) * rs v := by
    rw [Finset.sum_mul]; exact Finset.sum_congr rfl fun k _ => by ring
  unfold grad through
  rw [h, s]; ring

/-- The chain rule's three terms added to any extended real are the gradient added to it. -/
theorem chain_add (y : EReal) (v dn : Fin 1024 → ℝ) (d : Fin 1024) :
    y + (dn d : EReal) * (rs v : EReal) + (v d : EReal) * (through v dn : EReal) + (through v dn : EReal) * (v d : EReal)
      = y + (grad v dn d : EReal) := by
  rw [← chain, EReal.coe_add, EReal.coe_add, EReal.coe_mul, EReal.coe_mul, EReal.coe_mul, ← add_assoc, ← add_assoc]

/-- A host sum over axes whose fibre at `j` holds one entry is that entry. -/
theorem hostReduceAdd_one {s t : Shape} {axes : List (Fin s.rank)} (h : s.ReducesTo axes t) (x : s.Idx → EReal) (init : EReal)
    (j : t.Idx) (i₀ : s.Idx) (hd : ∀ i, h.drop i = j ↔ i = i₀) : Ideal.hostReduceAdd h x init j = init + x i₀ := by
  unfold Ideal.hostReduceAdd
  rw [Finset.sum_eq_single_of_mem i₀ (by simp [hd])]
  intro b hb hne
  exact absurd ((hd b).mp (Finset.mem_filter.mp hb).2) hne

/-- A row of `n` reals continued by zero. -/
def ext {n : ℕ} (g : Fin n → ℝ) (k : ℕ) : ℝ := if h : k < n then g ⟨k, h⟩ else 0

theorem ext_lt {n : ℕ} (g : Fin n → ℝ) {k : ℕ} (h : k < n) : ext g k = g ⟨k, h⟩ := dif_pos h

/-- The sum of the first `k` entries. -/
def upto {n : ℕ} (g : Fin n → ℝ) (k : ℕ) : ℝ := ∑ t ∈ Finset.range k, ext g t

theorem upto_all {n : ℕ} (g : Fin n → ℝ) : upto g n = ∑ t, g t := by
  unfold upto
  rw [Finset.sum_range]
  exact Finset.sum_congr rfl fun t _ => ext_lt g t.isLt

/-- One more tile of `b` entries. -/
theorem upto_add {n : ℕ} (g : Fin n → ℝ) (k b : ℕ) (h : k + b ≤ n) :
    upto g (k + b) = upto g k + ∑ r : Fin b, g ⟨k + r.val, by omega⟩ := by
  unfold upto
  rw [Finset.sum_range_add, Finset.sum_range (n := b)]
  exact congrArg _ (Finset.sum_congr rfl fun r _ => ext_lt g (by omega))

theorem upto_zero {n : ℕ} (g : Fin n → ℝ) : upto g 0 = 0 := rfl

end Cert.Norm
end
-- ==== Proof.InprojRef.lean ====
/-
  The derivative of the input projection's forward lines, read at an index: the row's norm gradient against the cotangent
  that came through the projection, and the gain's gradient summed over all 4096 tokens.
-/
module

public import proofs.«01_k».proof.Proof.Gen.InprojRefIdeal.Read
public import proofs.«01_k».proof.Proof.Norm

@[expose] public section

set_option maxRecDepth 16384

noncomputable section

namespace Cert.InprojRefIdeal.Val

open Cert.InprojRefIdeal Cert.InprojRefIdeal.Gen Cert.InprojRefIdeal.Read Idealize.ShloMosaic Idealize.ShloMosaic.TcCoe
open Cert.Reals Cert.Norm
open scoped BigOperators

variable (x0 : Vec Ideal S1x4096x1024 .f32) (x1 : Vec Ideal S1x1024 .f32) (x2 : Vec Ideal S1x1024x1280 .f32)
  (x3 : Vec Ideal S4096x1280 .f32) (x4 : Vec Ideal S1x4096x1024 .f32)

/-- The sum over the two unit axes is the entry. -/
theorem rows_apply (t : Fin 4096) : val_main_v36 (F := Ideal) x0 x1 x2 x3 (ix1 t) = 0 + val_main_v35 (F := Ideal) x0 x1 x2 x3 (ix3 0 t 0) := by
  unfold val_main_v36
  generalize val_main_v35 (F := Ideal) x0 x1 x2 x3 = y
  simp only [Host.reduceAdd, Ideal.hostReduceAdd_def]
  rw [hostReduceAdd_one _ _ _ _ _ (drop_rows _ t)]
  congr 1
  exact Ideal.ofBits_zero_f32

theorem gain_apply (d : Fin 1024) : val_main_v26 (F := Ideal) x0 x2 x3 (ix1 d) = 0 + val_main_v23 (F := Ideal) x0 x2 x3 (ix3 0 0 d) := by
  unfold val_main_v26
  generalize val_main_v23 (F := Ideal) x0 x2 x3 = y
  simp only [Host.reduceAdd, Ideal.hostReduceAdd_def]
  rw [hostReduceAdd_one _ _ _ _ _ (drop_gain _ d)]
  congr 1
  exact Ideal.ofBits_zero_f32

variable (a0 : S1x4096x1024.Idx → ℝ) (a1 : S1x1024.Idx → ℝ) (a2 : S1x1024x1280.Idx → ℝ) (a3 : S4096x1280.Idx → ℝ)

/-- The cotangent of the normalised and scaled row `t`: what came back through the projection. -/
def dh (t : Fin 4096) (d : Fin 1024) : ℝ := ∑ n : Fin 1280, a3 (ix2 t n) * a2 (ix3 0 d n)

/-- The row `t` of the activations. -/
def row (t : Fin 4096) (d : Fin 1024) : ℝ := a0 (ix3 0 t d)

/-- The cotangent of the normalised row, before the gain. -/
def dn (t : Fin 4096) (d : Fin 1024) : ℝ := dh a2 a3 t d * a1 (ix2 0 d)

/-- The gradient of the gain at `d`. -/
def dgain (d : Fin 1024) : ℝ := ∑ t : Fin 4096, dh a2 a3 t d * (row a0 t d * rs (row a0 t))

variable (h0 : ∀ i, x0 i = (a0 i : EReal)) (h1 : ∀ i, x1 i = (a1 i : EReal)) (h2 : ∀ i, x2 i = (a2 i : EReal)) (h3 : ∀ i, x3 i = (a3 i : EReal))
include h2 h3

theorem dh_eq (t : Fin 4096) (d : Fin 1024) : (∑ n : Fin 1280, x3 (ix2 t n) * x2 (ix3 0 d n)) = (dh a2 a3 t d : EReal) := by
  simp only [h2, h3]; exact sum_mul_coe _ _ _

include h0

/-- The gain's gradient, as the reference's second result lays it out. -/
theorem gain_eq (p : Fin 8) (q : Fin 128) :
    val_main_v45 (F := Ideal) x0 x2 x3 (ix2 p q) = (dgain a0 a2 a3 ⟨p.val * 128 + q.val, by omega⟩ : EReal) := by
  unfold val_main_v45 val_main_v43
  pointwise []
  rw [gain_apply]
  unfold val_main_v23 val_main_v22 val_main_v21 val_main_v13 val_main_v12 val_main_v20 val_main_v19 val_main_v17 val_main_v8 val_main_v7 val_main_v6 val_main_v5 val_main_v4 val_main_v3 val_main_v2 val_main_v1
  pointwise [val_main_cst, val_main_cst_0, val_main_cst_1, val_main_cst_3]
  unfold dgain
  rw [← sum_coe]
  refine Finset.sum_congr rfl fun t _ => ?_
  rw [rs_eq (fun k => x0 (ix3 0 t k)) (row a0 t) (fun k => h0 _), dh_eq x2 x3 a2 a3 h2 h3, h0, mul_comm]
  push_cast
  rfl

include h1

theorem through_row (t : Fin 4096) :
    val_main_v36 (F := Ideal) x0 x1 x2 x3 (ix1 t) = (through (row a0 t) (dn a1 a2 a3 t) : EReal) := by
  rw [rows_apply, ← through_eq, zero_add, ← ms_eq (fun k => x0 (ix3 0 t k)) (row a0 t) (fun k => h0 _), ← rs_eq (fun k => x0 (ix3 0 t k)) (row a0 t) (fun k => h0 _)]
  simp only [val_main_v35, val_main_v34, val_main_v33, val_main_v29, val_main_v28, val_main_v27, val_main_v25, val_main_v24, val_main_v20, val_main_v19,
    val_main_v17, val_main_v14, val_main_v11, val_main_v10, val_main_v9, val_main_v8, val_main_v7, val_main_v6, val_main_v5, val_main_v4,
    val_main_v3, val_main_v2, val_main_v1, val_main_v0]
  pointwise [val_main_cst, val_main_cst_0, val_main_cst_1, val_main_cst_2, val_main_cst_5, val_main_cst_6, val_main_cst_7]
  have e : (∑ k, x0 (ix3 0 t k) * ((∑ n, x3 (ix2 t n) * x2 (ix3 0 k n)) * x1 (ix2 0 k))) = ∑ k, (row a0 t k : EReal) * (dn a1 a2 a3 t k : EReal) :=
    Finset.sum_congr rfl fun k _ => by
      rw [dh_eq x2 x3 a2 a3 h2 h3, h0, h1, ← EReal.coe_mul]; rfl
  rw [e]

/-- The activation's gradient: what came down the residual plus the norm's gradient. -/
theorem dx_eq (t : Fin 4096) (d : Fin 1024) :
    val_main_v44 (F := Ideal) x0 x1 x2 x3 x4 (ix2 t d) = x4 (ix3 0 t d) + (grad (row a0 t) (dn a1 a2 a3 t) d : EReal) := by
  simp only [val_main_v44, val_main_v42, val_main_v41, val_main_v40, val_main_v39, val_main_v38, val_main_v37, val_main_v32, val_main_v31, val_main_v30,
    val_main_v25, val_main_v24, val_main_v20, val_main_v19,
    val_main_v17, val_main_v14, val_main_v8, val_main_v7, val_main_v6, val_main_v5, val_main_v4,
    val_main_v3, val_main_v2, val_main_v1, val_main_v0]
  pointwise [val_main_cst, val_main_cst_0, val_main_cst_1, val_main_cst_2]
  rw [through_row x0 x1 x2 x3 a0 a1 a2 a3 h0 h1 h2 h3, rs_eq (fun k => x0 (ix3 0 t k)) (row a0 t) (fun k => h0 _), dh_eq x2 x3 a2 a3 h2 h3, h0, h1, ← EReal.coe_mul]
  exact chain_add _ (row a0 t) (dn a1 a2 a3 t) d

end Cert.InprojRefIdeal.Val
end
-- ==== Proof.InprojKernel.lean ====
/-
  What the input projection's backward call leaves in its two result arrays: each tile of tokens the row's norm gradient
  added to the residual's cotangent, and the gain's gradient accumulated over the four tiles.
-/
module

public import proofs.«01_k».proof.Proof.Tile
public import proofs.«01_k».proof.Proof.Gen.InprojIdeal.Value
public import proofs.«01_k».proof.Proof.InprojRef

@[expose] public section

set_option maxRecDepth 16384

noncomputable section

namespace Cert.InprojIdeal.Val

open Cert.InprojIdeal Cert.InprojIdeal.Gen Idealize.ShloMosaic Idealize.ShloMosaic.TcCoe
open Cert.Reals Cert.Norm
open Cert.InprojRefIdeal.Val (dh row dn dgain dh_eq)
open scoped BigOperators

theorem hz : (![0, 0] : Fin 2 → Nat) = fun _ => 0 := funext fun a => by fin_cases a <;> rfl

section cases
variable {F : FTy → Type} [FloatOps F] (c : Dev nD) (i : grid0.Coords)
  (a1 : Memref sig .tc .vmem S1024x1280 .bf16) (h1 : a1.IsWhole) (a2 : Memref sig .tc .vmem S1280x1024 .bf16) (h2 : a2.IsWhole)
  (a3 : Memref sig .tc .vmem S1024x1024 .f32) (h3 : a3.IsWhole) (a4 : Memref sig .tc .vmem S1x1024 .f32) (h4 : a4.IsWhole)
  (a5 : Memref sig .tc .vmem S1024x1024 .f32) (h5 : a5.IsWhole) (a6 : Memref sig .tc .vmem S1024x1024 .f32) (h6 : a6.IsWhole)
  (a7 : Memref sig .tc .vmem S8x128 .f32) (h7 : a7.IsWhole)
  (x0 : Vec F S1024x1280 .bf16) (x1 : Vec F S1280x1024 .bf16) (x2 : Vec F S1024x1024 .f32) (x3 : Vec F S1x1024 .f32)
  (x4 : Vec F S1024x1024 .f32) (xo : Vec F S8x128 .f32)

theorem outs_A (hc : cond0_0 i) :
    out0_A_5 c i a1 h1 a2 h2 a3 h3 a4 h4 a5 h5 a6 h6 a7 h7 hc x0 x1 x2 x3 x4 = k0_pay8 x0 x1 x2 x3 x4 ∧ out0_A_6 c i a1 h1 a2 h2 a3 h3 a4 h4 a5 h5 a6 h6 a7 h7 hc x0 x1 x2 x3 x4 = k0_pay1 (k0_pay7 x0 x1 x2) k0_pay2 := by
  rw [out0_A_5, out0_A_6, View.read_writes_eq_canon _ _ _ (by intro; apply cover0_A_5), View.read_writes_eq_canon _ _ _ (by intro; apply cover0_A_6)]
  refine ⟨?_, ?_⟩
  all_goals
    unfold kernelRun0_A
    dsimp only
    sl_unfold_words
    first
    | rw [View.canon_unit_zero hz]
    | rw [View.canon_cons_unit_zero (S := S8x128) hz, View.readCov_unit_zero (S := S8x128) _ hz]
    simp only [View.readAt_eq_ld, h1.read_unread, h2.read_unread, h3.read_unread, h4.read_unread, h5.read_unread,
      View.ld_unit_zero (S := S1024x1280) hz, View.ld_unit_zero (S := S1280x1024) hz, View.ld_unit_zero (S := S1024x1024) hz, View.ld_unit_zero (S := S1x1024) hz]

theorem outs_B (hc : ¬cond0_0 i) :
    out0_B_5 c i a1 h1 a2 h2 a3 h3 a4 h4 a5 h5 a6 h6 a7 h7 hc x0 x1 x2 x3 x4 xo = k0_pay8 x0 x1 x2 x3 x4 ∧ out0_B_6 c i a1 h1 a2 h2 a3 h3 a4 h4 a5 h5 a6 h6 a7 h7 hc x0 x1 x2 x3 x4 xo = k0_pay1 (k0_pay7 x0 x1 x2) xo := by
  rw [out0_B_5, out0_B_6, View.read_writes_eq_canon _ _ _ (by intro; apply cover0_B_5), View.read_writes_eq_canon _ _ _ (by intro; apply cover0_B_6)]
  refine ⟨?_, ?_⟩
  all_goals
    unfold kernelRun0_B
    dsimp only
    sl_unfold_words
    rw [View.canon_unit_zero hz]
    simp only [View.readAt_eq_ld, h1.read_unread, h2.read_unread, h3.read_unread, h4.read_unread, h5.read_unread, h7.read_unread,
      View.ld_unit_zero (S := S1024x1280) hz, View.ld_unit_zero (S := S1280x1024) hz, View.ld_unit_zero (S := S1024x1024) hz, View.ld_unit_zero (S := S1x1024) hz,
      View.ld_unit_zero (S := S8x128) hz]

variable (m : (ℓ : Loc nD τ sig) → Buf (Elt F) ℓ)

theorem point5 (t : Fin cfg0.N) :
    (outsAt0 m c t.val t.isLt).1 = k0_pay8 (iblk m c 0 t) (iblk m c 1 t) (iblk m c 2 t) (iblk m c 3 t) (iblk m c 4 t) := by
  by_cases hA : t.val % 4 = 0
  · rw [outsAt0_A m c t hA, (outs_A ..).1]
  · rw [outsAt0_B m c t hA, (outs_B ..).1]

theorem point6_zero (hn : 0 < cfg0.N) :
    (outsAt0 m c 0 hn).2 = k0_pay1 (k0_pay7 (iblk m c 0 ⟨0, hn⟩) (iblk m c 1 ⟨0, hn⟩) (iblk m c 2 ⟨0, hn⟩)) (k0_pay2 (F := F)) := by
  rw [outsAt0_A m c ⟨0, hn⟩ rfl, (outs_A ..).2]

theorem point6_succ (n : ℕ) (hn : n + 1 < cfg0.N) :
    (outsAt0 m c (n + 1) hn).2 = k0_pay1 (k0_pay7 (iblk m c 0 ⟨n + 1, hn⟩) (iblk m c 1 ⟨n + 1, hn⟩) (iblk m c 2 ⟨n + 1, hn⟩))
      (outsAt0 m c n (Nat.lt_of_succ_lt hn)).2 := by
  have hN : cfg0.N = 4 := N_0
  have hB : ¬(⟨n + 1, hn⟩ : Fin cfg0.N).val % 4 = 0 := by dsimp only; omega
  rw [outsAt0_B m c ⟨n + 1, hn⟩ hB, (outs_B ..).2]
  rfl

end cases

variable (m : (ℓ : Loc nD τ sig) → Buf (Elt Ideal) ℓ) (c : Dev nD)

abbrev X0 : S1x4096x1024.Idx → EReal := m ((c : Thread nD τ).loc main_arg0)
abbrev X1 : S1x1024.Idx → EReal := m ((c : Thread nD τ).loc main_arg1)
abbrev X2 : S1x1024x1280.Idx → EReal := m ((c : Thread nD τ).loc main_arg2)
abbrev X3 : S4096x1280.Idx → EReal := m ((c : Thread nD τ).loc main_arg3)
abbrev X4 : S1x4096x1024.Idx → EReal := m ((c : Thread nD τ).loc main_arg4)

theorem V_v3 (j : S4096x1280.Idx) : (V m c main_v3 : S4096x1280.Idx → EReal) j = X3 m c j := by
  have e : (V m c main_v3 : S4096x1280.Idx → EReal) = truncf (F := Ideal) .bf16 (X3 m c : FVec Ideal S4096x1280 .f32) bitsLt_bf16_f32 := by
    unfold V
    after_results_simp
    <;> rfl
  rw [e]; rfl

theorem V_v2 (k : Fin 1280) (d : Fin 1024) : (V m c main_v2 : S1280x1024.Idx → EReal) (ix2 k d) = X2 m c (ix3 0 d k) := by
  have e : (V m c main_v2 : S1280x1024.Idx → EReal) = truncf (F := Ideal) .bf16 (transpose S1280x1024 [1, 0] (shapeCast S1024x1280 (X2 m c : FVec Ideal S1x1024x1280 .f32) shapeCasts_S1x1024x1280_S1024x1280) transposes_S1024x1280_S1280x1024_1_0) bitsLt_bf16_f32 := by
    unfold V
    after_results_simp
    <;> rfl
  rw [e]
  pointwise []

theorem V_v4 (t : Fin 4096) (d : Fin 1024) : (V m c main_v4 : S4096x1024.Idx → EReal) (ix2 t d) = X0 m c (ix3 0 t d) := by
  have e : (V m c main_v4 : S4096x1024.Idx → EReal) = shapeCast S4096x1024 (X0 m c : FVec Ideal S1x4096x1024 .f32) shapeCasts_S1x4096x1024_S4096x1024 := by
    unfold V
    after_results_simp
    <;> rfl
  rw [e]
  pointwise []

theorem V_v5 (t : Fin 4096) (d : Fin 1024) : (V m c main_v5 : S4096x1024.Idx → EReal) (ix2 t d) = X4 m c (ix3 0 t d) := by
  have e : (V m c main_v5 : S4096x1024.Idx → EReal) = shapeCast S4096x1024 (X4 m c : FVec Ideal S1x4096x1024 .f32) shapeCasts_S1x4096x1024_S4096x1024 := by
    unfold V
    after_results_simp
    <;> rfl
  rw [e]
  pointwise []

/-- Row `r` of tile `t` is token `1024 t + r`. -/
abbrev tok (t : Fin cfg0.N) (r : Fin 1024) : Fin 4096 := ⟨1024 * t.val + r.val, by have := t.isLt; have : cfg0.N = 4 := N_0; omega⟩

theorem idx0_0 : ∀ t : Fin grid0.N, win0_0.index t 0 = t.val ∧ win0_0.index t 1 = 0 := by decide +kernel
theorem idx0_1 : ∀ t : Fin grid0.N, win0_1.index t 0 = 0 ∧ win0_1.index t 1 = 0 := by decide +kernel
theorem idx0_2 : ∀ t : Fin grid0.N, win0_2.index t 0 = t.val ∧ win0_2.index t 1 = 0 := by decide +kernel
theorem idx0_3 : ∀ t : Fin grid0.N, win0_3.index t 0 = 0 ∧ win0_3.index t 1 = 0 := by decide +kernel
theorem idx0_4 : ∀ t : Fin grid0.N, win0_4.index t 0 = t.val ∧ win0_4.index t 1 = 0 := by decide +kernel
theorem idx0_5 : ∀ t : Fin grid0.N, win0_5.index t 0 = t.val ∧ win0_5.index t 1 = 0 := by decide +kernel
theorem idx0_6 : ∀ t : Fin grid0.N, win0_6.index t 0 = 0 ∧ win0_6.index t 1 = 0 := by decide +kernel

/-- The five tiles point `t` reads. -/
abbrev B0 (t : Fin cfg0.N) : Vec Ideal S1024x1280 .bf16 := iblk m c 0 t
abbrev B1 (t : Fin cfg0.N) : Vec Ideal S1280x1024 .bf16 := iblk m c 1 t
abbrev B2 (t : Fin cfg0.N) : Vec Ideal S1024x1024 .f32 := iblk m c 2 t
abbrev B3 (t : Fin cfg0.N) : Vec Ideal S1x1024 .f32 := iblk m c 3 t
abbrev B4 (t : Fin cfg0.N) : Vec Ideal S1024x1024 .f32 := iblk m c 4 t

theorem iblk0 (t : Fin cfg0.N) (r : Fin 1024) (k : Fin 1280) : B0 m c t (ix2 r k) = X3 m c (ix2 (tok t r) k) := by
  unfold B0 iblk
  rw [View.read_apply]
  show V m c main_v3 _ = _
  rw [V_v3]
  congr 1; funext a; apply Fin.ext
  match a with
  | ⟨0, _⟩ => exact tile_row (idx0_0 t).1
  | ⟨1, _⟩ => exact tile_col (idx0_0 t).2

theorem iblk1 (t : Fin cfg0.N) (k : Fin 1280) (d : Fin 1024) : B1 m c t (ix2 k d) = X2 m c (ix3 0 d k) := by
  rw [← V_v2]
  unfold B1 iblk
  rw [View.read_apply]
  show V m c main_v2 _ = _
  congr 1; funext a; apply Fin.ext
  match a with
  | ⟨0, _⟩ => exact tile_col (idx0_1 t).1
  | ⟨1, _⟩ => exact tile_col (idx0_1 t).2

theorem iblk2 (t : Fin cfg0.N) (r d : Fin 1024) : B2 m c t (ix2 r d) = X0 m c (ix3 0 (tok t r) d) := by
  rw [← V_v4]
  unfold B2 iblk
  rw [View.read_apply]
  show V m c main_v4 _ = _
  congr 1; funext a; apply Fin.ext
  match a with
  | ⟨0, _⟩ => exact tile_row (idx0_2 t).1
  | ⟨1, _⟩ => exact tile_col (idx0_2 t).2

theorem iblk3 (t : Fin cfg0.N) (d : Fin 1024) : B3 m c t (ix2 0 d) = X1 m c (ix2 0 d) := by
  unfold B3 iblk
  rw [View.read_apply]
  show V m c main_arg1 _ = _
  rw [V_main_arg1]
  congr 1; funext a; apply Fin.ext
  match a with
  | ⟨0, _⟩ => show win0_3.index t 0 * 1 + 1 * 0 = 0; rw [(idx0_3 t).1]
  | ⟨1, _⟩ => exact tile_col (idx0_3 t).2

theorem iblk4 (t : Fin cfg0.N) (r d : Fin 1024) : B4 m c t (ix2 r d) = X4 m c (ix3 0 (tok t r) d) := by
  rw [← V_v5]
  unfold B4 iblk
  rw [View.read_apply]
  show V m c main_v5 _ = _
  congr 1; funext a; apply Fin.ext
  match a with
  | ⟨0, _⟩ => exact tile_row (idx0_4 t).1
  | ⟨1, _⟩ => exact tile_col (idx0_4 t).2

/-! ### The payloads at an index -/

section payload
variable (v3 : Vec Ideal S1024x1280 .bf16) (v5 : Vec Ideal S1280x1024 .bf16) (v8 : Vec Ideal S1024x1024 .f32) (v18 : Vec Ideal S1x1024 .f32)
  (v34 : Vec Ideal S1024x1024 .f32) (r : Fin 1024) (y dy g' : Fin 1024 → ℝ)
  (hy : ∀ k, v8 (ix2 r k) = (y k : EReal)) (hd : ∀ k, (∑ n, v3 (ix2 r n) * v5 (ix2 n k)) = (dy k : EReal))
  (hg : ∀ k, v18 (ix2 0 k) = (g' k : EReal))
include hy hd

theorem pay7_eq (d : Fin 1024) : k0_pay7 (F := Ideal) v3 v5 v8 (ix2 r d) = ((dy d * (y d * rs y) : ℝ) : EReal) := by
  unfold k0_pay7 k0_pay6 k0_pay5 k0_pay4 k0_pay3
  pointwise []
  rw [rs_eq (fun k => v8 (ix2 r k)) y hy, hd, hy]
  push_cast
  rfl

include hg

theorem pay8_eq (d : Fin 1024) :
    k0_pay8 (F := Ideal) v3 v5 v8 v18 v34 (ix2 r d) = v34 (ix2 r d) + (grad y (fun k => dy k * g' k) d : EReal) := by
  rw [← grad_eq]
  unfold k0_pay8 k0_pay6 k0_pay5 k0_pay4 k0_pay3
  pointwise []
  rw [rs_eq (fun k => v8 (ix2 r k)) y hy]
  simp only [hd, hy, hg, EReal.coe_mul]

end payload

theorem pay1_eq (v33 : Vec Ideal S1024x1024 .f32) (v38 : Vec Ideal S8x128 .f32) (p : Fin 8) (q : Fin 128) :
    k0_pay1 (F := Ideal) v33 v38 (ix2 p q) = v38 (ix2 p q) + ∑ r : Fin 1024, v33 (ix2 r ⟨p.val * 128 + q.val, by omega⟩) := by
  unfold k0_pay1
  pointwise []
  congr 1
  split_ifs <;> exact Finset.sum_congr rfl fun x _ => congrArg (fun k => v33 (ix2 x k)) (Fin.ext (by dsimp only; omega))

theorem pay2_eq (p : Fin 8) (q : Fin 128) : k0_pay2 (F := Ideal) (ix2 p q) = 0 := by
  unfold k0_pay2
  pointwise []

/-! ### The two result arrays -/

variable (a0 : S1x4096x1024.Idx → ℝ) (a1 : S1x1024.Idx → ℝ) (a2 : S1x1024x1280.Idx → ℝ) (a3 : S4096x1280.Idx → ℝ)
  (h0 : ∀ i, X0 m c i = (a0 i : EReal)) (h1 : ∀ i, X1 m c i = (a1 i : EReal)) (h2 : ∀ i, X2 m c i = (a2 i : EReal)) (h3 : ∀ i, X3 m c i = (a3 i : EReal))

/-- The first result: the residual's cotangent plus the norm's gradient, token by token. -/
def dxOut : S4096x1024.Idx → EReal := fun j => X4 m c (ix3 0 (j 0) (j 1)) + (grad (row a0 (j 0)) (dn a1 a2 a3 (j 0)) (j 1) : EReal)

/-- The second result: the gain's gradient in rows of 128. -/
def dgOut : S8x128.Idx → EReal := fun j => (dgain a0 a2 a3 ⟨(j 0).val * 128 + (j 1).val, by have h : (j 0).val < 8 := (j 0).isLt; have h' : (j 1).val < 128 := (j 1).isLt; omega⟩ : EReal)

include h2 h3

theorem tile_dh (t : Fin cfg0.N) (r k : Fin 1024) :
    (∑ n : Fin 1280, B0 m c t (ix2 r n) * B1 m c t (ix2 n k)) = (dh a2 a3 (tok t r) k : EReal) := by
  simp only [iblk0, iblk1]
  exact dh_eq (X2 m c) (X3 m c) a2 a3 h2 h3 (tok t r) k

include h0 h1

theorem outs5 (t : Fin cfg0.N) (r d : Fin 1024) : (outsAt0 m c t.val t.isLt).1 (ix2 r d) = dxOut m c a0 a1 a2 a3 (ix2 (tok t r) d) := by
  have e : (outsAt0 m c t.val t.isLt).1 = k0_pay8 (B0 m c t) (B1 m c t) (B2 m c t) (B3 m c t) (B4 m c t) := point5 c m t
  rw [e, pay8_eq (B0 m c t) (B1 m c t) (B2 m c t) (B3 m c t) (B4 m c t) r (row a0 (tok t r)) (dh a2 a3 (tok t r)) (fun k => a1 (ix2 0 k))
    (fun k => (iblk2 m c t r k).trans (h0 _)) (tile_dh m c a2 a3 h2 h3 t r) (fun k => (iblk3 m c t k).trans (h1 _)), iblk4]
  rfl

theorem final5 : (dats m 0 c).arrAt 5 cfg0.N = dxOut m c a0 a1 a2 a3 := by
  refine (dats m 0 c).arrAt_eq_of_cover 5 (dxOut m c a0 a1 a2 a3) (fun t hf => ?_) fun i => ?_
  · rw [Cert.InprojIdeal.Value.flushed5]
    funext j
    show (outsAt0 m c t.val t.isLt).1 j = dxOut m c a0 a1 a2 a3 (((cfg0.win 5).blk t).view.emb j)
    obtain ⟨r, d, rfl⟩ : ∃ r d : Fin 1024, j = ix2 r d := ⟨_, _, eq_ix2 j⟩
    rw [outs5 m c a0 a1 a2 a3 h0 h1 h2 h3]
    congr 1; funext a; apply Fin.ext
    match a with
    | ⟨0, _⟩ => exact (tile_row (idx0_5 t).1).symm
    | ⟨1, _⟩ => exact (tile_col (idx0_5 t).2).symm
  · have i0 : (i 0 : Nat) < 4096 := (i 0).isLt
    have i1 : (i 1 : Nat) < 1024 := (i 1).isLt
    have hN : cfg0.N = 4 := N_0
    let t : Fin cfg0.N := ⟨(i 0 : Nat) / 1024, by omega⟩
    refine ⟨t, flush0_5 t, mem_tile fun a => ?_⟩
    match a with
    | ⟨0, _⟩ => exact tile_div (Nat.succ_pos _) (idx0_5 t).1
    | ⟨1, _⟩ => exact tile_zero (idx0_5 t).2 i1

omit h1

/-- The summand of the gain's gradient at token `t`. -/
def gterm (d : Fin 1024) (t : Fin 4096) : ℝ := dh a2 a3 t d * (row a0 t d * rs (row a0 t))

theorem outs6 (p : Fin 8) (q : Fin 128) : ∀ (n : ℕ) (hn : n < cfg0.N),
    (outsAt0 m c n hn).2 (ix2 p q) = (upto (gterm a0 a2 a3 ⟨p.val * 128 + q.val, by omega⟩) (1024 * n + 1024) : EReal)
  | 0, hn => by
    have e : (outsAt0 m c 0 hn).2 = k0_pay1 (k0_pay7 (B0 m c ⟨0, hn⟩) (B1 m c ⟨0, hn⟩) (B2 m c ⟨0, hn⟩)) (k0_pay2 (F := Ideal)) := point6_zero c m hn
    rw [e, pay1_eq, pay2_eq, zero_add, upto_add _ _ _ (by norm_num), upto_zero, zero_add, ← sum_coe]
    refine Finset.sum_congr rfl fun r _ => ?_
    rw [pay7_eq (B0 m c ⟨0, hn⟩) (B1 m c ⟨0, hn⟩) (B2 m c ⟨0, hn⟩) r (row a0 (tok ⟨0, hn⟩ r)) (dh a2 a3 (tok ⟨0, hn⟩ r))
      (fun k => (iblk2 m c _ r k).trans (h0 _)) (tile_dh m c a2 a3 h2 h3 _ r)]
    rfl
  | n + 1, hn => by
    have hN : cfg0.N = 4 := N_0
    have e : (outsAt0 m c (n + 1) hn).2 = k0_pay1 (k0_pay7 (B0 m c ⟨n + 1, hn⟩) (B1 m c ⟨n + 1, hn⟩) (B2 m c ⟨n + 1, hn⟩)) (outsAt0 m c n (Nat.lt_of_succ_lt hn)).2 := point6_succ c m n hn
    rw [e, pay1_eq, outs6 p q n, show 1024 * (n + 1) + 1024 = (1024 * n + 1024) + 1024 by ring, upto_add _ (1024 * n + 1024) _ (by omega), EReal.coe_add, ← sum_coe]
    refine congrArg _ (Finset.sum_congr rfl fun r _ => ?_)
    rw [pay7_eq (B0 m c ⟨n + 1, hn⟩) (B1 m c ⟨n + 1, hn⟩) (B2 m c ⟨n + 1, hn⟩) r (row a0 (tok ⟨n + 1, hn⟩ r)) (dh a2 a3 (tok ⟨n + 1, hn⟩ r))
      (fun k => (iblk2 m c _ r k).trans (h0 _)) (tile_dh m c a2 a3 h2 h3 _ r)]
    rfl

theorem final6 : (dats m 0 c).arrAt 6 cfg0.N = dgOut a0 a2 a3 := by
  have hN : cfg0.N = 4 := N_0
  refine (dats m 0 c).arrAt_eq_of_cover 6 (dgOut a0 a2 a3) (fun t hf => ?_) fun i => ?_
  · have h3' : t.val = 3 := by have := (flush0_6 t).mp hf; have := t.isLt; omega
    rw [Cert.InprojIdeal.Value.flushed6]
    funext j
    show (outsAt0 m c t.val t.isLt).2 j = dgOut a0 a2 a3 (((cfg0.win 6).blk t).view.emb j)
    obtain ⟨p, q, rfl⟩ : ∃ (p : Fin 8) (q : Fin 128), j = ix2 p q := ⟨_, _, eq_ix2 j⟩
    have ej : ((cfg0.win 6).blk t).view.emb (ix2 p q) = (ix2 p q : S8x128.Idx) := by
      funext a; apply Fin.ext
      match a with
      | ⟨0, _⟩ => exact tile_col (idx0_6 t).1
      | ⟨1, _⟩ => exact tile_col (idx0_6 t).2
    rw [ej, outs6 m c a0 a2 a3 h0 h2 h3 p q t.val t.isLt, h3', upto_all]
    rfl
  · have i0 : (i 0 : Nat) < 8 := (i 0).isLt
    have i1 : (i 1 : Nat) < 128 := (i 1).isLt
    let t : Fin cfg0.N := ⟨3, by omega⟩
    refine ⟨t, (flush0_6 t).mpr rfl, mem_tile fun a => ?_⟩
    match a with
    | ⟨0, _⟩ => exact tile_zero (idx0_6 t).1 i0
    | ⟨1, _⟩ => exact tile_zero (idx0_6 t).2 i1

end Cert.InprojIdeal.Val
end
-- ==== Proof.Inproj.lean ====
/-
  The input projection's backward call: its frames and the equality of its two results with the derivative of the
  forward lines, on finite arguments.
-/
module

public import proofs.«01_k».proof.Defs
public import proofs.«01_k».proof.Proof.Gen.Inproj.Frame
public import proofs.«01_k».proof.Proof.Gen.Pre_finite_inproj
public import proofs.«01_k».proof.Proof.InprojKernel
public import Idealize.ShloMosaic.Lib.Quiescent

@[expose] public section

noncomputable section

namespace Cert.InprojProof

open Idealize.ShloMosaic Idealize.ShloMosaic.TcCoe Idealize.SL.Sem
open Cert.Reals

instance : Subsingleton (Cert.Pre_finite_inproj.S_).Idx := ⟨fun a b => funext fun k => k.elim0⟩

/-- The precondition, opened: four arrays of reals. -/
theorem pre_reals (x0 : FVec Ideal Cert.Pre_finite_inproj.S1x4096x1024 .f32) (x1 : FVec Ideal Cert.Pre_finite_inproj.S1x1024 .f32)
    (x2 : FVec Ideal Cert.Pre_finite_inproj.S1x1024x1280 .f32) (x3 : FVec Ideal Cert.Pre_finite_inproj.S4096x1280 .f32)
    (x4 : FVec Ideal Cert.Pre_finite_inproj.S1x4096x1024 .f32)
    (h : Cert.Pre_finite_inproj.fn (F := Ideal) x0 x1 x2 x3 x4 = fun _ => 1#1) :
    (∃ r : Cert.Pre_finite_inproj.S1x4096x1024.Idx → ℝ, ∀ i, x0 i = (r i : EReal)) ∧ (∃ r : Cert.Pre_finite_inproj.S1x1024.Idx → ℝ, ∀ i, x1 i = (r i : EReal))
      ∧ (∃ r : Cert.Pre_finite_inproj.S1x1024x1280.Idx → ℝ, ∀ i, x2 i = (r i : EReal)) ∧ (∃ r : Cert.Pre_finite_inproj.S4096x1280.Idx → ℝ, ∀ i, x3 i = (r i : EReal)) := by
  have e := congrFun h (fun a => a.elim0)
  obtain ⟨e, e3⟩ := IntOp.andi_eq_one.mp e
  obtain ⟨e, e2⟩ := IntOp.andi_eq_one.mp e
  obtain ⟨e0, e1⟩ := IntOp.andi_eq_one.mp e
  exact ⟨real_of_test _ _ (fun _ => rfl) (Host.reduce_andi_all _ _ _ _ _ e0), real_of_test _ _ (fun _ => rfl) (Host.reduce_andi_all _ _ _ _ _ e1),
    real_of_test _ _ (fun _ => rfl) (Host.reduce_andi_all _ _ _ _ _ e2), real_of_test _ _ (fun _ => rfl) (Host.reduce_andi_all _ _ _ _ _ e3)⟩

/-- The reference's frame. -/
theorem frame_ref : Cert.quiescent_InprojRefIdeal := fun m ρ _ =>
  (θ_run Cert.InprojRefIdeal.defs _ _).mono (fun r h => ⟨fun c => (h c).2.2, Idealize.ShloMosaic.sem_eq_zero_of_no_sems (by decide) r.2⟩)
    (Cert.InprojRefIdeal.Value.run (F := Ideal) m ρ)

/-- The value: on finite arguments both results are the derivative's. -/
theorem value : Cert.algebraic_InprojIdeal_InprojRefIdeal_pre_finite_inproj := by
  intro m ρ m' ρ' hpre hagree
  have hr := fun c => pre_reals _ _ _ _ _ (hpre c)
  choose b0 b1 b2 b3 using hr
  choose a0 h0 using b0
  choose a1 h1 using b1
  choose a2 h2 using b2
  choose a3 h3 using b3
  refine ⟨fun c => Cert.InprojIdeal.Val.dxOut m c (a0 c) (a1 c) (a2 c) (a3 c), fun c => Cert.InprojIdeal.Val.dgOut (a0 c) (a2 c) (a3 c), ?_, ?_⟩
  · refine (θ_run Cert.InprojIdeal.defs _ _).mono (fun _ h c => ⟨(h c).1.trans ?_, (h c).2.1.trans ?_, (h c).2.2⟩) (Cert.InprojIdeal.Value.run_blocks (F := Ideal) m ρ)
    · exact Cert.InprojIdeal.Val.final5 m c (a0 c) (a1 c) (a2 c) (a3 c) (h0 c) (h1 c) (h2 c) (h3 c)
    · exact Cert.InprojIdeal.Val.final6 m c (a0 c) (a2 c) (a3 c) (h0 c) (h2 c) (h3 c)
  · refine (θ_run Cert.InprojRefIdeal.defs _ _).mono (fun _ h c => ⟨(h c).1.trans ?_, (h c).2.1.trans ?_, (h c).2.2⟩) (Cert.InprojRefIdeal.Value.run (F := Ideal) m' ρ')
    · obtain ⟨e0, e1, e2, e3, e4⟩ := hagree c
      rw [Cert.InprojRefIdeal.Read.val_main_v44_eq, e0, e1, e2, e3, e4]
      funext j
      obtain ⟨t, d, rfl⟩ : ∃ (t : Fin 4096) (d : Fin 1024), j = ix2 t d := ⟨_, _, eq_ix2 j⟩
      exact Cert.InprojRefIdeal.Val.dx_eq _ _ _ _ _ (a0 c) (a1 c) (a2 c) (a3 c) (h0 c) (h1 c) (h2 c) (h3 c) t d
    · obtain ⟨e0, e1, e2, e3, e4⟩ := hagree c
      rw [Cert.InprojRefIdeal.Read.val_main_v45_eq, e0, e2, e3]
      funext j
      obtain ⟨p, q, rfl⟩ : ∃ (p : Fin 8) (q : Fin 128), j = ix2 p q := ⟨_, _, eq_ix2 j⟩
      exact Cert.InprojRefIdeal.Val.gain_eq _ _ _ (a0 c) (a2 c) (a3 c) (h0 c) (h2 c) (h3 c) p q

end Cert.InprojProof
end
-- ==== Proof.LossRef.lean ====
/-
  The loss and its gradients, read at an index of the derivative of the forward lines: the token's error, the residual's
  cotangent, the output norm's gradient, the gain's gradient and the loss itself.
-/
module

public import proofs.«01_k».proof.Proof.Gen.LossRefIdeal.Read
public import proofs.«01_k».proof.Proof.Norm

@[expose] public section

set_option maxRecDepth 16384

noncomputable section

namespace Cert.LossRefIdeal.Val

open Cert.LossRefIdeal Cert.LossRefIdeal.Gen Cert.LossRefIdeal.Read Idealize.ShloMosaic Idealize.ShloMosaic.TcCoe
open Cert.Reals Cert.Norm
open scoped BigOperators

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

variable (x0 : Vec Ideal S1x4096x2816 .f32) (x1 : Vec Ideal S1x2816x1024 .f32) (x2 : Vec Ideal S1x4096x1024 .f32)
  (x3 : Vec Ideal S1x1024 .f32) (x4 : Vec Ideal S1x4096x1024 .f32)

theorem rows_apply (t : Fin 4096) : val_main_v49 (F := Ideal) x0 x1 x2 x3 x4 (ix1 t) = 0 + val_main_v48 (F := Ideal) x0 x1 x2 x3 x4 (ix3 0 t 0) := by
  unfold val_main_v49
  generalize val_main_v48 (F := Ideal) x0 x1 x2 x3 x4 = y
  simp only [Host.reduceAdd, Ideal.hostReduceAdd_def]
  rw [hostReduceAdd_one _ _ _ _ _ (drop_rows _ t)]
  congr 1
  exact Ideal.ofBits_zero_f32

theorem gain_apply (d : Fin 1024) : val_main_v40 (F := Ideal) x0 x1 x2 x3 x4 (ix1 d) = 0 + val_main_v37 (F := Ideal) x0 x1 x2 x3 x4 (ix3 0 0 d) := by
  unfold val_main_v40
  generalize val_main_v37 (F := Ideal) x0 x1 x2 x3 x4 = y
  simp only [Host.reduceAdd, Ideal.hostReduceAdd_def]
  rw [hostReduceAdd_one _ _ _ _ _ (drop_gain _ d)]
  congr 1
  exact Ideal.ofBits_zero_f32

variable (a0 : S1x4096x2816.Idx → ℝ) (a1 : S1x2816x1024.Idx → ℝ) (a2 : S1x4096x1024.Idx → ℝ) (a3 : S1x1024.Idx → ℝ) (a4 : S1x4096x1024.Idx → ℝ)

/-- The down projection's row of token `t`. -/
def fr (t : Fin 4096) (d : Fin 1024) : ℝ := ∑ n : Fin 2816, a0 (ix3 0 t n) * a1 (ix3 0 n d)

/-- The error of token `t` at entry `d`. -/
def err (t : Fin 4096) (d : Fin 1024) : ℝ := a2 (ix3 0 t d) + fr a0 a1 t d * rs (fr a0 a1 t) * a3 (ix2 0 d) - a4 (ix3 0 t d)

/-- The residual's cotangent. -/
def dy (t : Fin 4096) (d : Fin 1024) : ℝ := err a0 a1 a2 a3 a4 t d * (1 / 1024)

/-- The cotangent of the normalised row, before the gain. -/
def dn (t : Fin 4096) (d : Fin 1024) : ℝ := dy a0 a1 a2 a3 a4 t d * a3 (ix2 0 d)

/-- The gradient of the gain at `d`, token by token. -/
def gterm (d : Fin 1024) (t : Fin 4096) : ℝ := dy a0 a1 a2 a3 a4 t d * (fr a0 a1 t d * rs (fr a0 a1 t))

/-- The loss of token `t`: half its mean squared error. -/
def lterm (t : Fin 4096) : ℝ := 1 / 2 * ((∑ d : Fin 1024, err a0 a1 a2 a3 a4 t d * err a0 a1 a2 a3 a4 t d) / 1024)

variable (h0 : ∀ i, x0 i = (a0 i : EReal)) (h1 : ∀ i, x1 i = (a1 i : EReal)) (h2 : ∀ i, x2 i = (a2 i : EReal)) (h3 : ∀ i, x3 i = (a3 i : EReal))
  (h4 : ∀ i, x4 i = (a4 i : EReal))
include h0 h1

theorem f_eq (t : Fin 4096) (d : Fin 1024) : (∑ n : Fin 2816, x0 (ix3 0 t n) * x1 (ix3 0 n d)) = (fr a0 a1 t d : EReal) := by
  simp only [h0, h1]; exact sum_mul_coe _ _ _

theorem v1_eq (t : Fin 4096) (d : Fin 1024) : val_main_v1 (F := Ideal) x0 x1 (ix3 0 t d) = (fr a0 a1 t d : EReal) := by
  unfold val_main_v1 val_main_v0
  pointwise []
  exact f_eq x0 x1 a0 a1 h0 h1 t d

theorem v9_eq (t : Fin 4096) : val_main_v9 (F := Ideal) x0 x1 (ix3 0 t 0) = (ms (fr a0 a1 t) : EReal) := by
  rw [← ms_eq (fun k => val_main_v1 (F := Ideal) x0 x1 (ix3 0 t k)) (fr a0 a1 t) (fun k => v1_eq x0 x1 a0 a1 h0 h1 t k)]
  simp only [val_main_v9, val_main_v8, val_main_v7, val_main_v6, val_main_v5, val_main_v4, val_main_v3]
  generalize val_main_v1 (F := Ideal) x0 x1 = y
  pointwise [val_main_cst, val_main_cst_0, val_main_cst_1]

theorem v10_eq (t : Fin 4096) : val_main_v10 (F := Ideal) x0 x1 (ix3 0 t 0) = (rs (fr a0 a1 t) : EReal) := by
  rw [show (rs (fr a0 a1 t) : EReal) = Ideal.rsqrt (ms (fr a0 a1 t) : EReal) from (rsqrt_pos (ms_pos _)).symm, ← v9_eq x0 x1 a0 a1 h0 h1 t]
  rfl

theorem v15_eq (t : Fin 4096) (d : Fin 1024) : val_main_v15 (F := Ideal) x0 x1 (ix3 0 t d) = ((fr a0 a1 t d * rs (fr a0 a1 t) : ℝ) : EReal) := by
  rw [EReal.coe_mul, ← v1_eq x0 x1 a0 a1 h0 h1 t d, ← v10_eq x0 x1 a0 a1 h0 h1 t]
  simp only [val_main_v15, val_main_v14]
  generalize val_main_v1 (F := Ideal) x0 x1 = y
  generalize val_main_v10 (F := Ideal) x0 x1 = z
  pointwise []

include h2 h3 h4

theorem v20_eq (t : Fin 4096) (d : Fin 1024) : val_main_v20 (F := Ideal) x0 x1 x2 x3 x4 (ix3 0 t d) = (err a0 a1 a2 a3 a4 t d : EReal) := by
  unfold err
  rw [EReal.coe_sub, EReal.coe_add, EReal.coe_mul, ← v15_eq x0 x1 a0 a1 h0 h1 t d, ← h2, ← h3, ← h4]
  simp only [val_main_v20, val_main_v19, val_main_v18, val_main_v17, val_main_v16, val_main_v2]
  generalize val_main_v15 (F := Ideal) x0 x1 = y
  pointwise []

/-- The residual's cotangent. -/
theorem v34_eq (t : Fin 4096) (d : Fin 1024) : val_main_v34 (F := Ideal) x0 x1 x2 x3 x4 (ix3 0 t d) = (dy a0 a1 a2 a3 a4 t d : EReal) := by
  have e : val_main_v34 (F := Ideal) x0 x1 x2 x3 x4 (ix3 0 t d)
      = Ideal.div (Ideal.ofBits .f32 0x3F000000#32 * Ideal.ofBits .f32 0x3F800000#32) (Ideal.ofBits .f32 0x44800000#32)
        * (Ideal.ofBits .f32 0x40000000#32 * val_main_v20 (F := Ideal) x0 x1 x2 x3 x4 (ix3 0 t d)) := by
    simp only [val_main_v34, val_main_v33, val_main_v32, val_main_v31, val_main_v30, val_main_v29, val_main_v23, val_main_v22]
    generalize val_main_v20 (F := Ideal) x0 x1 x2 x3 x4 = y
    pointwise [val_main_cst_3, val_main_cst_8, val_main_cst_9, val_main_cst_10]
  rw [e, v20_eq x0 x1 x2 x3 x4 a0 a1 a2 a3 a4 h0 h1 h2 h3 h4, ofBits_half, ofBits_one, ofBits_two, ofBits_1024, ← EReal.coe_mul, ← EReal.coe_mul,
    div_coe_coe _ (by norm_num), ← EReal.coe_mul]
  congr 1; unfold dy; ring

theorem v39_eq (t : Fin 4096) (d : Fin 1024) : val_main_v39 (F := Ideal) x0 x1 x2 x3 x4 (ix3 0 t d) = (dn a0 a1 a2 a3 a4 t d : EReal) := by
  unfold dn
  rw [EReal.coe_mul, ← v34_eq x0 x1 x2 x3 x4 a0 a1 a2 a3 a4 h0 h1 h2 h3 h4, ← h3]
  simp only [val_main_v39, val_main_v38, val_main_v16, val_main_v2]
  generalize val_main_v34 (F := Ideal) x0 x1 x2 x3 x4 = y
  pointwise []

theorem through_row (t : Fin 4096) :
    val_main_v49 (F := Ideal) x0 x1 x2 x3 x4 (ix1 t) = (through (fr a0 a1 t) (dn a0 a1 a2 a3 a4 t) : EReal) := by
  rw [rows_apply, ← through_eq, zero_add, ← v9_eq x0 x1 a0 a1 h0 h1 t, ← v10_eq x0 x1 a0 a1 h0 h1 t]
  simp only [← v39_eq x0 x1 x2 x3 x4 a0 a1 a2 a3 a4 h0 h1 h2 h3 h4, ← v1_eq x0 x1 a0 a1 h0 h1]
  simp only [val_main_v48, val_main_v47, val_main_v46, val_main_v43, val_main_v42, val_main_v41, val_main_v13, val_main_v12, val_main_v11]
  generalize val_main_v39 (F := Ideal) x0 x1 x2 x3 x4 = y
  generalize val_main_v1 (F := Ideal) x0 x1 = z
  generalize val_main_v10 (F := Ideal) x0 x1 = u
  generalize val_main_v9 (F := Ideal) x0 x1 = v
  pointwise [val_main_cst_2, val_main_cst_13, val_main_cst_14]

/-- The down projection's cotangent. -/
theorem df_eq (t : Fin 4096) (d : Fin 1024) :
    val_main_v58 (F := Ideal) x0 x1 x2 x3 x4 (ix2 t d) = (grad (fr a0 a1 t) (dn a0 a1 a2 a3 a4 t) d : EReal) := by
  rw [← chain, EReal.coe_add, EReal.coe_add, EReal.coe_mul, EReal.coe_mul, EReal.coe_mul,
    ← through_row x0 x1 x2 x3 x4 a0 a1 a2 a3 a4 h0 h1 h2 h3 h4, ← v10_eq x0 x1 a0 a1 h0 h1 t, ← v1_eq x0 x1 a0 a1 h0 h1,
    ← v39_eq x0 x1 x2 x3 x4 a0 a1 a2 a3 a4 h0 h1 h2 h3 h4]
  simp only [val_main_v58, val_main_v57, val_main_v55, val_main_v54, val_main_v53, val_main_v52, val_main_v51, val_main_v50, val_main_v45, val_main_v44]
  generalize val_main_v39 (F := Ideal) x0 x1 x2 x3 x4 = y
  generalize val_main_v49 (F := Ideal) x0 x1 x2 x3 x4 = w
  generalize val_main_v1 (F := Ideal) x0 x1 = z
  generalize val_main_v10 (F := Ideal) x0 x1 = u
  pointwise []

theorem dy_eq (t : Fin 4096) (d : Fin 1024) :
    val_main_v59 (F := Ideal) x0 x1 x2 x3 x4 (ix2 t d) = (dy a0 a1 a2 a3 a4 t d : EReal) := by
  rw [← v34_eq x0 x1 x2 x3 x4 a0 a1 a2 a3 a4 h0 h1 h2 h3 h4]
  simp only [val_main_v59]
  generalize val_main_v34 (F := Ideal) x0 x1 x2 x3 x4 = y
  pointwise []

/-- The gain's gradient in rows of 128. -/
theorem gain_eq (p : Fin 8) (q : Fin 128) :
    val_main_v60 (F := Ideal) x0 x1 x2 x3 x4 (ix2 p q) = ((∑ t, gterm a0 a1 a2 a3 a4 ⟨p.val * 128 + q.val, by omega⟩ t : ℝ) : EReal) := by
  unfold val_main_v60 val_main_v56
  pointwise []
  rw [gain_apply, ← sum_coe, zero_add]
  unfold gterm
  simp only [EReal.coe_mul, ← v34_eq x0 x1 x2 x3 x4 a0 a1 a2 a3 a4 h0 h1 h2 h3 h4, ← v1_eq x0 x1 a0 a1 h0 h1, ← v10_eq x0 x1 a0 a1 h0 h1]
  simp only [val_main_v37, val_main_v36, val_main_v35, val_main_v15, val_main_v14]
  generalize val_main_v34 (F := Ideal) x0 x1 x2 x3 x4 = y
  generalize val_main_v1 (F := Ideal) x0 x1 = z
  generalize val_main_v10 (F := Ideal) x0 x1 = u
  pointwise [val_main_cst_11]
  exact Finset.sum_congr rfl fun t _ => mul_comm _ _

/-- The loss. -/
theorem loss_eq (q : Fin 128) :
    val_main_v61 (F := Ideal) x0 x1 x2 x3 x4 (ix2 0 q) = ((∑ t, lterm a0 a1 a2 a3 a4 t : ℝ) : EReal) := by
  have e : ∀ t : Fin 4096, val_main_v26 (F := Ideal) x0 x1 x2 x3 x4 (ix2 0 t)
      = (((∑ d : Fin 1024, err a0 a1 a2 a3 a4 t d * err a0 a1 a2 a3 a4 t d) / 1024 : ℝ) : EReal) := fun t => by
    rw [← div_coe_coe _ (by norm_num), ← ofBits_1024, ← sum_mul_coe]
    simp only [← v20_eq x0 x1 x2 x3 x4 a0 a1 a2 a3 a4 h0 h1 h2 h3 h4]
    simp only [val_main_v26, val_main_v25, val_main_v24, val_main_v21]
    generalize val_main_v20 (F := Ideal) x0 x1 x2 x3 x4 = y
    pointwise [val_main_cst_4, val_main_cst_5]
  unfold lterm
  rw [← Finset.mul_sum, EReal.coe_mul, ← sum_coe, ← ofBits_half]
  simp only [← e]
  simp only [val_main_v61, val_main_v28, val_main_v27]
  generalize val_main_v26 (F := Ideal) x0 x1 x2 x3 x4 = y
  pointwise [val_main_cst_6, val_main_cst_7]
  rw [Fin.sum_univ_one]

end Cert.LossRefIdeal.Val
end
-- ==== Proof.LossKernel.lean ====
/-
  What the loss call leaves in its four result arrays: tile by tile the down projection's cotangent and the residual's,
  and the output gain's gradient and the loss accumulated over the eight tiles.
-/
module

public import proofs.«01_k».proof.Proof.Tile
public import proofs.«01_k».proof.Proof.Gen.LossIdeal.Value
public import proofs.«01_k».proof.Proof.LossRef

@[expose] public section

set_option maxRecDepth 16384

noncomputable section

namespace Cert.LossIdeal.Val

open Cert.LossIdeal Cert.LossIdeal.Gen Idealize.ShloMosaic Idealize.ShloMosaic.TcCoe
open Cert.Reals Cert.Norm
open Cert.LossRefIdeal.Val (fr err dy dn gterm lterm f_eq ofBits_half ofBits_inv1024)
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

section cases
variable {F : FTy → Type} [FloatOps F] (c : Dev nD) (i : grid0.Coords)
  (a1 : Memref sig .tc .vmem S512x2816 .bf16) (h1 : a1.IsWhole) (a2 : Memref sig .tc .vmem S8x352x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .bf16) (h6 : a6.IsWhole) (a7 : Memref sig .tc .vmem S512x1024 .f32) (h7 : a7.IsWhole) (a8 : Memref sig .tc .vmem S8x128 .f32) (h8 : a8.IsWhole) (a9 : Memref sig .tc .vmem S1x128 .f32) (h9 : a9.IsWhole)
  (x0 : Vec F S512x2816 .bf16) (x1 : Vec F S8x352x1024 .bf16) (x2 : Vec F S512x1024 .f32) (x3 : Vec F S1x1024 .f32)
  (x4 : Vec F S512x1024 .f32) (o7 : Vec F S8x128 .f32) (o8 : Vec F S1x128 .f32)

/-- The results of a point in case A. -/
theorem outs_A (hc : cond0_0 i) :
    out0_A_5 c i a1 h1 a2 h2 a3 h3 a4 h4 a5 h5 a6 h6 a7 h7 a8 h8 a9 h9 hc x0 x1 x2 x3 x4 = k0_pay11 (k0_pay3 x0 x1) (k0_pay4 x0 x1) x3 (k0_pay5 x0 x1 x3 x2 x4)
    ∧ out0_A_6 c i a1 h1 a2 h2 a3 h3 a4 h4 a5 h5 a6 h6 a7 h7 a8 h8 a9 h9 hc x0 x1 x2 x3 x4 = k0_pay9 (k0_pay5 x0 x1 x3 x2 x4)
    ∧ out0_A_7 c i a1 h1 a2 h2 a3 h3 a4 h4 a5 h5 a6 h6 a7 h7 a8 h8 a9 h9 hc x0 x1 x2 x3 x4 = k0_pay12 (k0_pay3 x0 x1) (k0_pay4 x0 x1) (k0_pay5 x0 x1 x3 x2 x4) (k0_pay1 (F := F))
    ∧ out0_A_8 c i a1 h1 a2 h2 a3 h3 a4 h4 a5 h5 a6 h6 a7 h7 a8 h8 a9 h9 hc x0 x1 x2 x3 x4 = k0_pay8 (k0_pay6 (k0_pay2 (F := F))) (k0_pay7 x0 x1 x3 x2 x4) := by
  rw [out0_A_5, View.read_writes_eq_canon _ _ _ (by intro; apply cover0_A_5),
    out0_A_6, View.read_writes_eq_canon _ _ _ (by intro; apply cover0_A_6),
    out0_A_7, View.read_writes_eq_canon _ _ _ (by intro; apply cover0_A_7),
    out0_A_8, View.read_writes_eq_canon _ _ _ (by intro; apply cover0_A_8)]
  refine ⟨?_, ?_, ?_, ?_⟩
  all_goals
    unfold kernelRun0_A
    dsimp only
    sl_unfold_words
    first | rw [View.canon_unit_zero hz] | rw [View.canon_cons_unit_zero (S := S8x128) hz, View.readCov_unit_zero (S := S8x128) _ hz] | rw [View.canon_cons_unit_zero (S := S1x128) hz, View.readCov_unit_zero (S := S1x128) _ hz]
    simp only [View.readAt_eq_ld, h1.read_unread, h2.read_unread, h3.read_unread, h4.read_unread, h5.read_unread, h8.read_unread, h9.read_unread,
      View.ld_unit_zero (S := S512x2816) hz, View.ld_unit_zero (S := S8x352x1024) hz3, View.ld_unit_zero (S := S512x1024) hz, View.ld_unit_zero (S := S1x1024) hz, View.ld_unit_zero (S := S8x128) hz, View.ld_unit_zero (S := S1x128) hz]

/-- The results of a point in case B. -/
theorem outs_B (hc : ¬cond0_0 i) :
    out0_B_5 c i a1 h1 a2 h2 a3 h3 a4 h4 a5 h5 a6 h6 a7 h7 a8 h8 a9 h9 hc x0 x1 x2 x3 x4 o7 o8 = k0_pay11 (k0_pay3 x0 x1) (k0_pay4 x0 x1) x3 (k0_pay5 x0 x1 x3 x2 x4)
    ∧ out0_B_6 c i a1 h1 a2 h2 a3 h3 a4 h4 a5 h5 a6 h6 a7 h7 a8 h8 a9 h9 hc x0 x1 x2 x3 x4 o7 o8 = k0_pay9 (k0_pay5 x0 x1 x3 x2 x4)
    ∧ out0_B_7 c i a1 h1 a2 h2 a3 h3 a4 h4 a5 h5 a6 h6 a7 h7 a8 h8 a9 h9 hc x0 x1 x2 x3 x4 o7 o8 = k0_pay12 (k0_pay3 x0 x1) (k0_pay4 x0 x1) (k0_pay5 x0 x1 x3 x2 x4) o7
    ∧ out0_B_8 c i a1 h1 a2 h2 a3 h3 a4 h4 a5 h5 a6 h6 a7 h7 a8 h8 a9 h9 hc x0 x1 x2 x3 x4 o7 o8 = k0_pay8 (k0_pay6 o8) (k0_pay7 x0 x1 x3 x2 x4) := by
  rw [out0_B_5, View.read_writes_eq_canon _ _ _ (by intro; apply cover0_B_5),
    out0_B_6, View.read_writes_eq_canon _ _ _ (by intro; apply cover0_B_6),
    out0_B_7, View.read_writes_eq_canon _ _ _ (by intro; apply cover0_B_7),
    out0_B_8, View.read_writes_eq_canon _ _ _ (by intro; apply cover0_B_8)]
  refine ⟨?_, ?_, ?_, ?_⟩
  all_goals
    unfold kernelRun0_B
    dsimp only
    sl_unfold_words
    rw [View.canon_unit_zero hz]
    simp only [View.readAt_eq_ld, h1.read_unread, h2.read_unread, h3.read_unread, h4.read_unread, h5.read_unread, h8.read_unread, h9.read_unread,
      View.ld_unit_zero (S := S512x2816) hz, View.ld_unit_zero (S := S8x352x1024) hz3, View.ld_unit_zero (S := S512x1024) hz, View.ld_unit_zero (S := S1x1024) hz, View.ld_unit_zero (S := S8x128) hz, View.ld_unit_zero (S := S1x128) hz]

variable (m : (ℓ : Loc nD τ sig) → Buf (Elt F) ℓ)

/-- The payloads at a point's tiles. -/
abbrev P3 (t : Fin cfg0.N) := k0_pay3 (iblk m c 0 t) (iblk m c 1 t)
abbrev P4 (t : Fin cfg0.N) := k0_pay4 (iblk m c 0 t) (iblk m c 1 t)
abbrev P5 (t : Fin cfg0.N) := k0_pay5 (iblk m c 0 t) (iblk m c 1 t) (iblk m c 3 t) (iblk m c 2 t) (iblk m c 4 t)
abbrev P7 (t : Fin cfg0.N) := k0_pay7 (iblk m c 0 t) (iblk m c 1 t) (iblk m c 3 t) (iblk m c 2 t) (iblk m c 4 t)

theorem point5 (t : Fin cfg0.N) : (outsAt0 m c t.val t.isLt).1 = k0_pay11 (P3 c m t) (P4 c m t) (iblk m c 3 t) (P5 c m t) := by
  by_cases hA : t.val % 8 = 0
  · rw [outsAt0_A m c t hA, (outs_A ..).1]
  · rw [outsAt0_B m c t hA, (outs_B ..).1]

theorem point6 (t : Fin cfg0.N) : (outsAt0 m c t.val t.isLt).2.1 = k0_pay9 (P5 c m t) := by
  by_cases hA : t.val % 8 = 0
  · rw [outsAt0_A m c t hA, (outs_A ..).2.1]
  · rw [outsAt0_B m c t hA, (outs_B ..).2.1]

theorem point7_zero (hn : 0 < cfg0.N) :
    (outsAt0 m c 0 hn).2.2.1 = k0_pay12 (P3 c m ⟨0, hn⟩) (P4 c m ⟨0, hn⟩) (P5 c m ⟨0, hn⟩) (k0_pay1 (F := F)) := by
  rw [outsAt0_A m c ⟨0, hn⟩ rfl, (outs_A ..).2.2.1]

theorem point7_succ (n : ℕ) (hn : n + 1 < cfg0.N) :
    (outsAt0 m c (n + 1) hn).2.2.1 = k0_pay12 (P3 c m ⟨n + 1, hn⟩) (P4 c m ⟨n + 1, hn⟩) (P5 c m ⟨n + 1, hn⟩) (outsAt0 m c n (Nat.lt_of_succ_lt hn)).2.2.1 := by
  have hN : cfg0.N = 8 := N_0
  have hB : ¬(⟨n + 1, hn⟩ : Fin cfg0.N).val % 8 = 0 := by dsimp only; omega
  rw [outsAt0_B m c ⟨n + 1, hn⟩ hB, (outs_B ..).2.2.1]
  rfl

theorem point8_zero (hn : 0 < cfg0.N) :
    (outsAt0 m c 0 hn).2.2.2 = k0_pay8 (k0_pay6 (k0_pay2 (F := F))) (P7 c m ⟨0, hn⟩) := by
  rw [outsAt0_A m c ⟨0, hn⟩ rfl, (outs_A ..).2.2.2]

theorem point8_succ (n : ℕ) (hn : n + 1 < cfg0.N) :
    (outsAt0 m c (n + 1) hn).2.2.2 = k0_pay8 (k0_pay6 (outsAt0 m c n (Nat.lt_of_succ_lt hn)).2.2.2) (P7 c m ⟨n + 1, hn⟩) := by
  have hN : cfg0.N = 8 := N_0
  have hB : ¬(⟨n + 1, hn⟩ : Fin cfg0.N).val % 8 = 0 := by dsimp only; omega
  rw [outsAt0_B m c ⟨n + 1, hn⟩ hB, (outs_B ..).2.2.2]
  rfl

end cases

variable (m : (ℓ : Loc nD τ sig) → Buf (Elt Ideal) ℓ) (c : Dev nD)

abbrev X0 : S1x4096x2816.Idx → EReal := m ((c : Thread nD τ).loc main_arg0)
abbrev X1 : S1x2816x1024.Idx → EReal := m ((c : Thread nD τ).loc main_arg1)
abbrev X2 : S1x4096x1024.Idx → EReal := m ((c : Thread nD τ).loc main_arg2)
abbrev X3 : S1x1024.Idx → EReal := m ((c : Thread nD τ).loc main_arg3)
abbrev X4 : S1x4096x1024.Idx → EReal := m ((c : Thread nD τ).loc main_arg4)

theorem V_v4 (t : Fin 4096) (n : Fin 2816) : (V m c main_v4 : S4096x2816.Idx → EReal) (ix2 t n) = X0 m c (ix3 0 t n) := by
  have e : (V m c main_v4 : S4096x2816.Idx → EReal) = truncf (F := Ideal) .bf16 (shapeCast S4096x2816 (X0 m c : FVec Ideal S1x4096x2816 .f32) shapeCasts_S1x4096x2816_S4096x2816) bitsLt_bf16_f32 := by
    unfold V
    after_results_simp
    <;> rfl
  rw [e]
  pointwise []

theorem V_v2 (a : Fin 8) (b : Fin 352) (d : Fin 1024) : (V m c main_v2 : S8x352x1024.Idx → EReal) (ix3 a b d) = X1 m c (ix3 0 ⟨a.val * 352 + b.val, by omega⟩ d) := by
  have e : (V m c main_v2 : S8x352x1024.Idx → EReal) = shapeCast S8x352x1024 (truncf (F := Ideal) .bf16 (shapeCast S2816x1024 (X1 m c : FVec Ideal S1x2816x1024 .f32) shapeCasts_S1x2816x1024_S2816x1024) bitsLt_bf16_f32) shapeCasts_S2816x1024_S8x352x1024 := by
    unfold V
    after_results_simp
    <;> rfl
  rw [e]
  pointwise []

theorem V_v5 (t : Fin 4096) (d : Fin 1024) : (V m c main_v5 : S4096x1024.Idx → EReal) (ix2 t d) = X2 m c (ix3 0 t d) := by
  have e : (V m c main_v5 : S4096x1024.Idx → EReal) = shapeCast S4096x1024 (X2 m c : FVec Ideal S1x4096x1024 .f32) shapeCasts_S1x4096x1024_S4096x1024 := by
    unfold V
    after_results_simp
    <;> rfl
  rw [e]
  pointwise []

theorem V_v6 (t : Fin 4096) (d : Fin 1024) : (V m c main_v6 : S4096x1024.Idx → EReal) (ix2 t d) = X4 m c (ix3 0 t d) := by
  have e : (V m c main_v6 : S4096x1024.Idx → EReal) = shapeCast S4096x1024 (X4 m c : FVec Ideal S1x4096x1024 .f32) shapeCasts_S1x4096x1024_S4096x1024 := by
    unfold V
    after_results_simp
    <;> rfl
  rw [e]
  pointwise []

/-- Row `r` of tile `t` is token `512 t + r`. -/
abbrev tok (t : Fin cfg0.N) (r : Fin 512) : Fin 4096 := ⟨512 * t.val + r.val, by have := t.isLt; have : cfg0.N = 8 := N_0; omega⟩

theorem idx0_0 : ∀ t : Fin grid0.N, win0_0.index t 0 = t.val ∧ win0_0.index t 1 = 0 := by decide +kernel
theorem idx0_1 : ∀ t : Fin grid0.N, win0_1.index t 0 = 0 ∧ win0_1.index t 1 = 0 ∧ win0_1.index t 2 = 0 := by decide +kernel
theorem idx0_2 : ∀ t : Fin grid0.N, win0_2.index t 0 = t.val ∧ win0_2.index t 1 = 0 := by decide +kernel
theorem idx0_3 : ∀ t : Fin grid0.N, win0_3.index t 0 = 0 ∧ win0_3.index t 1 = 0 := by decide +kernel
theorem idx0_4 : ∀ t : Fin grid0.N, win0_4.index t 0 = t.val ∧ win0_4.index t 1 = 0 := by decide +kernel
theorem idx0_5 : ∀ t : Fin grid0.N, win0_5.index t 0 = t.val ∧ win0_5.index t 1 = 0 := by decide +kernel
theorem idx0_6 : ∀ t : Fin grid0.N, win0_6.index t 0 = t.val ∧ win0_6.index t 1 = 0 := by decide +kernel
theorem idx0_7 : ∀ t : Fin grid0.N, win0_7.index t 0 = 0 ∧ win0_7.index t 1 = 0 := by decide +kernel
theorem idx0_8 : ∀ t : Fin grid0.N, win0_8.index t 0 = 0 ∧ win0_8.index t 1 = 0 := by decide +kernel

/-- The five tiles point `t` reads. -/
abbrev B0 (t : Fin cfg0.N) : Vec Ideal S512x2816 .bf16 := iblk m c 0 t
abbrev B1 (t : Fin cfg0.N) : Vec Ideal S8x352x1024 .bf16 := iblk m c 1 t
abbrev B2 (t : Fin cfg0.N) : Vec Ideal S512x1024 .f32 := iblk m c 2 t
abbrev B3 (t : Fin cfg0.N) : Vec Ideal S1x1024 .f32 := iblk m c 3 t
abbrev B4 (t : Fin cfg0.N) : Vec Ideal S512x1024 .f32 := iblk m c 4 t

theorem iblk0 (t : Fin cfg0.N) (r : Fin 512) (k : Fin 2816) : B0 m c t (ix2 r k) = X0 m c (ix3 0 (tok t r) k) := by
  rw [← V_v4]
  unfold B0 iblk
  rw [View.read_apply]
  show V m c main_v4 _ = _
  congr 1; funext a; apply Fin.ext
  match a with
  | ⟨0, _⟩ => exact tile_row (idx0_0 t).1
  | ⟨1, _⟩ => exact tile_col (idx0_0 t).2

theorem iblk1 (t : Fin cfg0.N) (a : Fin 8) (b : Fin 352) (d : Fin 1024) : B1 m c t (ix3 a b d) = X1 m c (ix3 0 ⟨a.val * 352 + b.val, by omega⟩ d) := by
  rw [← V_v2]
  unfold B1 iblk
  rw [View.read_apply]
  show V m c main_v2 _ = _
  congr 1; funext e; apply Fin.ext
  match e with
  | ⟨0, _⟩ => exact tile_col (idx0_1 t).1
  | ⟨1, _⟩ => exact tile_col (idx0_1 t).2.1
  | ⟨2, _⟩ => exact tile_col (idx0_1 t).2.2

theorem iblk2 (t : Fin cfg0.N) (r : Fin 512) (d : Fin 1024) : B2 m c t (ix2 r d) = X2 m c (ix3 0 (tok t r) d) := by
  rw [← V_v5]
  unfold B2 iblk
  rw [View.read_apply]
  show V m c main_v5 _ = _
  congr 1; funext a; apply Fin.ext
  match a with
  | ⟨0, _⟩ => exact tile_row (idx0_2 t).1
  | ⟨1, _⟩ => exact tile_col (idx0_2 t).2

theorem iblk4 (t : Fin cfg0.N) (r : Fin 512) (d : Fin 1024) : B4 m c t (ix2 r d) = X4 m c (ix3 0 (tok t r) d) := by
  rw [← V_v6]
  unfold B4 iblk
  rw [View.read_apply]
  show V m c main_v6 _ = _
  congr 1; funext a; apply Fin.ext
  match a with
  | ⟨0, _⟩ => exact tile_row (idx0_4 t).1
  | ⟨1, _⟩ => exact tile_col (idx0_4 t).2

theorem iblk3 (t : Fin cfg0.N) (d : Fin 1024) : B3 m c t (ix2 0 d) = X3 m c (ix2 0 d) := by
  unfold B3 iblk
  rw [View.read_apply]
  show V m c main_arg3 _ = _
  rw [V_main_arg3]
  congr 1; funext a; apply Fin.ext
  match a with
  | ⟨0, _⟩ => show win0_3.index t 0 * 1 + 1 * 0 = 0; rw [(idx0_3 t).1]
  | ⟨1, _⟩ => exact tile_col (idx0_3 t).2

/-! ### The payloads at an index -/

/-- The product with the weight's eight pieces merged. -/
theorem pay3_apply (v3 : Vec Ideal S512x2816 .bf16) (v5 : Vec Ideal S8x352x1024 .bf16) (r : Fin 512) (d : Fin 1024) :
    k0_pay3 (F := Ideal) v3 v5 (ix2 r d) = ∑ n : Fin 2816, v3 (ix2 r n) * v5 (ix3 ⟨n.val / 352, by omega⟩ ⟨n.val % 352, by omega⟩ d) := by
  unfold k0_pay3
  pointwise []

section payload
variable (v3 : Vec Ideal S512x2816 .bf16) (v5 : Vec Ideal S8x352x1024 .bf16) (v17 : Vec Ideal S1x1024 .f32) (v18 v25 : Vec Ideal S512x1024 .f32)
  (r : Fin 512) (f e g' : Fin 1024 → ℝ)

theorem pay4_eq (hf : ∀ k, k0_pay3 (F := Ideal) v3 v5 (ix2 r k) = (f k : EReal)) : k0_pay4 (F := Ideal) v3 v5 (ix2 r 0) = (rs f : EReal) := by
  rw [← rs_eq (fun k => k0_pay3 (F := Ideal) v3 v5 (ix2 r k)) f hf]
  unfold k0_pay4
  generalize k0_pay3 (F := Ideal) v3 v5 = y
  pointwise []

theorem pay5_apply (d : Fin 1024) : k0_pay5 (F := Ideal) v3 v5 v17 v18 v25 (ix2 r d)
    = v18 (ix2 r d) + k0_pay3 (F := Ideal) v3 v5 (ix2 r d) * k0_pay4 (F := Ideal) v3 v5 (ix2 r 0) * v17 (ix2 0 d) - v25 (ix2 r d) := by
  unfold k0_pay5
  generalize k0_pay3 (F := Ideal) v3 v5 = y
  generalize k0_pay4 (F := Ideal) v3 v5 = z
  pointwise []

theorem pay7_eq (he : ∀ k, k0_pay5 (F := Ideal) v3 v5 v17 v18 v25 (ix2 r k) = (e k : EReal)) :
    k0_pay7 (F := Ideal) v3 v5 v17 v18 v25 (ix3 0 r 0) = (((∑ k, e k * e k) / 1024 : ℝ) : EReal) := by
  rw [← div_coe_coe _ (by norm_num), ← ofBits_1024, ← sum_mul_coe]
  simp only [← he]
  unfold k0_pay7
  generalize k0_pay5 (F := Ideal) v3 v5 v17 v18 v25 = y
  pointwise []

theorem pay9_eq (v27 : Vec Ideal S512x1024 .f32) (d : Fin 1024) (x : ℝ) (hx : v27 (ix2 r d) = (x : EReal)) :
    k0_pay9 (F := Ideal) v27 (ix2 r d) = ((x * (1 / 1024) : ℝ) : EReal) := by
  rw [EReal.coe_mul, ← ofBits_inv1024, ← hx]
  unfold k0_pay9
  pointwise []

theorem pay10_apply (v8 : Vec Ideal S512x1024 .f32) (v16 : Vec Ideal S512x1 .f32) (d : Fin 1024) :
    k0_pay10 (F := Ideal) v8 v16 (ix2 r d) = v8 (ix2 r d) * v16 (ix2 r 0) := by
  unfold k0_pay10
  pointwise []

theorem pay11_eq (v8 : Vec Ideal S512x1024 .f32) (v16 : Vec Ideal S512x1 .f32) (v27 : Vec Ideal S512x1024 .f32)
    (hf : ∀ k, v8 (ix2 r k) = (f k : EReal)) (hr : v16 (ix2 r 0) = (rs f : EReal))
    (hd : ∀ k, k0_pay9 (F := Ideal) v27 (ix2 r k) * v17 (ix2 0 k) = (e k : EReal)) (d : Fin 1024) :
    k0_pay11 (F := Ideal) v8 v16 v17 v27 (ix2 r d) = (grad f e d : EReal) := by
  rw [← grad_eq]
  simp only [← hr, ← hf, ← hd]
  unfold k0_pay11 k0_pay10
  generalize k0_pay9 (F := Ideal) v27 = y
  pointwise []

end payload

theorem pay12_apply (v8 : Vec Ideal S512x1024 .f32) (v16 : Vec Ideal S512x1 .f32) (v27 : Vec Ideal S512x1024 .f32) (v63 : Vec Ideal S8x128 .f32) (p : Fin 8) (q : Fin 128) :
    k0_pay12 (F := Ideal) v8 v16 v27 v63 (ix2 p q) = v63 (ix2 p q)
      + ∑ r : Fin 512, k0_pay9 (F := Ideal) v27 (ix2 r ⟨p.val * 128 + q.val, by omega⟩) * k0_pay10 (F := Ideal) v8 v16 (ix2 r ⟨p.val * 128 + q.val, by omega⟩) := by
  unfold k0_pay12
  generalize k0_pay9 (F := Ideal) v27 = y
  generalize k0_pay10 (F := Ideal) v8 v16 = z
  pointwise []
  congr 1
  split_ifs <;> exact Finset.sum_congr rfl fun x _ => congrArg (fun k => y (ix2 x k) * z (ix2 x k)) (Fin.ext (by dsimp only; omega))

theorem pay8_apply (v28 : Vec Ideal S1x128 .f32) (v35 : Vec Ideal S1x512x1 .f32) (q : Fin 128) :
    k0_pay8 (F := Ideal) (k0_pay6 v28) v35 (ix2 0 q) = v28 (ix2 0 q) + Ideal.ofBits .f32 0x3F000000#32 * ∑ r : Fin 512, v35 (ix3 0 r 0) := by
  unfold k0_pay8 k0_pay6
  pointwise []
  simp only [Fin.sum_univ_one]

theorem pay1_eq (p : Fin 8) (q : Fin 128) : k0_pay1 (F := Ideal) (ix2 p q) = 0 := by
  unfold k0_pay1
  pointwise []

theorem pay2_eq (q : Fin 128) : k0_pay2 (F := Ideal) (ix2 0 q) = 0 := by
  unfold k0_pay2
  pointwise []

/-! ### The four result arrays -/

variable (a0 : S1x4096x2816.Idx → ℝ) (a1 : S1x2816x1024.Idx → ℝ) (a2 : S1x4096x1024.Idx → ℝ) (a3 : S1x1024.Idx → ℝ) (a4 : S1x4096x1024.Idx → ℝ)
  (h0 : ∀ i, X0 m c i = (a0 i : EReal)) (h1 : ∀ i, X1 m c i = (a1 i : EReal)) (h2 : ∀ i, X2 m c i = (a2 i : EReal)) (h3 : ∀ i, X3 m c i = (a3 i : EReal))
  (h4 : ∀ i, X4 m c i = (a4 i : EReal))

/-- The down projection's cotangent. -/
def dfOut : S4096x1024.Idx → EReal := fun j => (grad (fr a0 a1 (j 0)) (dn a0 a1 a2 a3 a4 (j 0)) (j 1) : EReal)

/-- The residual's cotangent. -/
def dyOut : S4096x1024.Idx → EReal := fun j => (dy a0 a1 a2 a3 a4 (j 0) (j 1) : EReal)

/-- The gain's gradient in rows of 128. -/
def dgOut : S8x128.Idx → EReal := fun j => ((∑ t, gterm a0 a1 a2 a3 a4 ⟨(j 0).val * 128 + (j 1).val, by have h : (j 0).val < 8 := (j 0).isLt; have h' : (j 1).val < 128 := (j 1).isLt; omega⟩ t : ℝ) : EReal)

/-- The loss along a row of 128. -/
def lossOut : S1x128.Idx → EReal := fun _ => ((∑ t, lterm a0 a1 a2 a3 a4 t : ℝ) : EReal)

include h0 h1

theorem tile_f (t : Fin cfg0.N) (r : Fin 512) (d : Fin 1024) : k0_pay3 (F := Ideal) (B0 m c t) (B1 m c t) (ix2 r d) = (fr a0 a1 (tok t r) d : EReal) := by
  rw [pay3_apply]
  simp only [iblk0, iblk1]
  rw [← f_eq (X0 m c) (X1 m c) a0 a1 h0 h1 (tok t r) d]
  exact Finset.sum_congr rfl fun n _ => congrArg (fun k => X0 m c (ix3 0 (tok t r) n) * X1 m c (ix3 0 k d)) (Fin.ext (by dsimp only; omega))

theorem tile_r (t : Fin cfg0.N) (r : Fin 512) : k0_pay4 (F := Ideal) (B0 m c t) (B1 m c t) (ix2 r 0) = (rs (fr a0 a1 (tok t r)) : EReal) :=
  pay4_eq _ _ r _ fun k => tile_f m c a0 a1 h0 h1 t r k

include h2 h3 h4

/-- The tile's errors. -/
abbrev E5 (t : Fin cfg0.N) : Vec Ideal S512x1024 .f32 := k0_pay5 (B0 m c t) (B1 m c t) (B3 m c t) (B2 m c t) (B4 m c t)

theorem tile_e (t : Fin cfg0.N) (r : Fin 512) (d : Fin 1024) : E5 m c t (ix2 r d) = (err a0 a1 a2 a3 a4 (tok t r) d : EReal) := by
  unfold E5
  rw [pay5_apply, tile_f m c a0 a1 h0 h1, tile_r m c a0 a1 h0 h1, iblk2, iblk3, iblk4, h2, h3, h4]
  unfold err
  push_cast
  rfl

theorem tile_dy (t : Fin cfg0.N) (r : Fin 512) (d : Fin 1024) : k0_pay9 (F := Ideal) (E5 m c t) (ix2 r d) = (dy a0 a1 a2 a3 a4 (tok t r) d : EReal) :=
  pay9_eq r (E5 m c t) d _ (tile_e m c a0 a1 a2 a3 a4 h0 h1 h2 h3 h4 t r d)

theorem outs5 (t : Fin cfg0.N) (r : Fin 512) (d : Fin 1024) : (outsAt0 m c t.val t.isLt).1 (ix2 r d) = dfOut a0 a1 a2 a3 a4 (ix2 (tok t r) d) := by
  have e : (outsAt0 m c t.val t.isLt).1 = k0_pay11 (k0_pay3 (B0 m c t) (B1 m c t)) (k0_pay4 (B0 m c t) (B1 m c t)) (B3 m c t) (E5 m c t) := point5 c m t
  rw [e]
  exact pay11_eq (B3 m c t) r (fr a0 a1 (tok t r)) (dn a0 a1 a2 a3 a4 (tok t r)) _ _ (E5 m c t) (tile_f m c a0 a1 h0 h1 t r) (tile_r m c a0 a1 h0 h1 t r)
    (fun k => by rw [tile_dy m c a0 a1 a2 a3 a4 h0 h1 h2 h3 h4, iblk3, h3, ← EReal.coe_mul]; rfl) d

theorem outs6 (t : Fin cfg0.N) (r : Fin 512) (d : Fin 1024) : (outsAt0 m c t.val t.isLt).2.1 (ix2 r d) = dyOut a0 a1 a2 a3 a4 (ix2 (tok t r) d) := by
  have e : (outsAt0 m c t.val t.isLt).2.1 = k0_pay9 (F := Ideal) (E5 m c t) := point6 c m t
  rw [e]
  exact tile_dy m c a0 a1 a2 a3 a4 h0 h1 h2 h3 h4 t r d

theorem final5 : (dats m 0 c).arrAt 5 cfg0.N = dfOut a0 a1 a2 a3 a4 := by
  refine (dats m 0 c).arrAt_eq_of_cover 5 (dfOut a0 a1 a2 a3 a4) (fun t hf => ?_) fun i => ?_
  · rw [Cert.LossIdeal.Value.flushed5]
    funext j
    show (outsAt0 m c t.val t.isLt).1 j = dfOut a0 a1 a2 a3 a4 (((cfg0.win 5).blk t).view.emb j)
    obtain ⟨r, d, rfl⟩ : ∃ (r : Fin 512) (d : Fin 1024), j = ix2 r d := ⟨_, _, eq_ix2 j⟩
    rw [outs5 m c a0 a1 a2 a3 a4 h0 h1 h2 h3 h4]
    congr 1; funext a; apply Fin.ext
    match a with
    | ⟨0, _⟩ => exact (tile_row (idx0_5 t).1).symm
    | ⟨1, _⟩ => exact (tile_col (idx0_5 t).2).symm
  · have i0 : (i 0 : Nat) < 4096 := (i 0).isLt
    have i1 : (i 1 : Nat) < 1024 := (i 1).isLt
    have hN : cfg0.N = 8 := N_0
    let t : Fin cfg0.N := ⟨(i 0 : Nat) / 512, by omega⟩
    refine ⟨t, flush0_5 t, mem_tile fun a => ?_⟩
    match a with
    | ⟨0, _⟩ => exact tile_div (Nat.succ_pos _) (idx0_5 t).1
    | ⟨1, _⟩ => exact tile_zero (idx0_5 t).2 i1

theorem final6 : (dats m 0 c).arrAt 6 cfg0.N = dyOut a0 a1 a2 a3 a4 := by
  refine (dats m 0 c).arrAt_eq_of_cover 6 (dyOut a0 a1 a2 a3 a4) (fun t hf => ?_) fun i => ?_
  · rw [Cert.LossIdeal.Value.flushed6]
    funext j
    show (outsAt0 m c t.val t.isLt).2.1 j = dyOut a0 a1 a2 a3 a4 (((cfg0.win 6).blk t).view.emb j)
    obtain ⟨r, d, rfl⟩ : ∃ (r : Fin 512) (d : Fin 1024), j = ix2 r d := ⟨_, _, eq_ix2 j⟩
    rw [outs6 m c a0 a1 a2 a3 a4 h0 h1 h2 h3 h4]
    congr 1; funext a; apply Fin.ext
    match a with
    | ⟨0, _⟩ => exact (tile_row (idx0_6 t).1).symm
    | ⟨1, _⟩ => exact (tile_col (idx0_6 t).2).symm
  · have i0 : (i 0 : Nat) < 4096 := (i 0).isLt
    have i1 : (i 1 : Nat) < 1024 := (i 1).isLt
    have hN : cfg0.N = 8 := N_0
    let t : Fin cfg0.N := ⟨(i 0 : Nat) / 512, by omega⟩
    refine ⟨t, flush0_6 t, mem_tile fun a => ?_⟩
    match a with
    | ⟨0, _⟩ => exact tile_div (Nat.succ_pos _) (idx0_6 t).1
    | ⟨1, _⟩ => exact tile_zero (idx0_6 t).2 i1

/-- The tile's share of the gain's gradient. -/
theorem tile_g (t : Fin cfg0.N) (d : Fin 1024) :
    (∑ r : Fin 512, k0_pay9 (F := Ideal) (E5 m c t) (ix2 r d) * k0_pay10 (F := Ideal) (k0_pay3 (B0 m c t) (B1 m c t)) (k0_pay4 (B0 m c t) (B1 m c t)) (ix2 r d))
      = ((∑ r : Fin 512, gterm a0 a1 a2 a3 a4 d (tok t r) : ℝ) : EReal) := by
  rw [← sum_coe]
  refine Finset.sum_congr rfl fun r _ => ?_
  rw [pay10_apply, tile_dy m c a0 a1 a2 a3 a4 h0 h1 h2 h3 h4, tile_f m c a0 a1 h0 h1, tile_r m c a0 a1 h0 h1, ← EReal.coe_mul, ← EReal.coe_mul]
  rfl

theorem outs7 (p : Fin 8) (q : Fin 128) : ∀ (n : ℕ) (hn : n < cfg0.N),
    (outsAt0 m c n hn).2.2.1 (ix2 p q) = (upto (gterm a0 a1 a2 a3 a4 ⟨p.val * 128 + q.val, by omega⟩) (512 * n + 512) : EReal)
  | 0, hn => by
    have e : (outsAt0 m c 0 hn).2.2.1 = k0_pay12 (k0_pay3 (B0 m c ⟨0, hn⟩) (B1 m c ⟨0, hn⟩)) (k0_pay4 (B0 m c ⟨0, hn⟩) (B1 m c ⟨0, hn⟩)) (E5 m c ⟨0, hn⟩) (k0_pay1 (F := Ideal)) := point7_zero c m hn
    rw [e, pay12_apply, pay1_eq, zero_add, tile_g m c a0 a1 a2 a3 a4 h0 h1 h2 h3 h4, upto_add _ _ _ (by norm_num), upto_zero, zero_add]
  | n + 1, hn => by
    have hN : cfg0.N = 8 := N_0
    have e : (outsAt0 m c (n + 1) hn).2.2.1 = k0_pay12 (k0_pay3 (B0 m c ⟨n + 1, hn⟩) (B1 m c ⟨n + 1, hn⟩)) (k0_pay4 (B0 m c ⟨n + 1, hn⟩) (B1 m c ⟨n + 1, hn⟩)) (E5 m c ⟨n + 1, hn⟩) (outsAt0 m c n (Nat.lt_of_succ_lt hn)).2.2.1 := point7_succ c m n hn
    rw [e, pay12_apply, outs7 p q n, tile_g m c a0 a1 a2 a3 a4 h0 h1 h2 h3 h4, show 512 * (n + 1) + 512 = (512 * n + 512) + 512 by ring, upto_add _ (512 * n + 512) _ (by omega), EReal.coe_add]
    rfl

/-- The tile's share of the loss. -/
theorem tile_l (t : Fin cfg0.N) :
    Ideal.ofBits .f32 0x3F000000#32 * (∑ r : Fin 512, k0_pay7 (F := Ideal) (B0 m c t) (B1 m c t) (B3 m c t) (B2 m c t) (B4 m c t) (ix3 0 r 0))
      = ((∑ r : Fin 512, lterm a0 a1 a2 a3 a4 (tok t r) : ℝ) : EReal) := by
  unfold lterm
  rw [← Finset.mul_sum, EReal.coe_mul, ← sum_coe, ← ofBits_half]
  exact congrArg _ (Finset.sum_congr rfl fun r _ => pay7_eq _ _ _ _ _ r _ (tile_e m c a0 a1 a2 a3 a4 h0 h1 h2 h3 h4 t r))

theorem outs8 (q : Fin 128) : ∀ (n : ℕ) (hn : n < cfg0.N),
    (outsAt0 m c n hn).2.2.2 (ix2 0 q) = (upto (lterm a0 a1 a2 a3 a4) (512 * n + 512) : EReal)
  | 0, hn => by
    have e : (outsAt0 m c 0 hn).2.2.2 = k0_pay8 (k0_pay6 (k0_pay2 (F := Ideal))) (k0_pay7 (B0 m c ⟨0, hn⟩) (B1 m c ⟨0, hn⟩) (B3 m c ⟨0, hn⟩) (B2 m c ⟨0, hn⟩) (B4 m c ⟨0, hn⟩)) := point8_zero c m hn
    rw [e, pay8_apply, pay2_eq, zero_add, tile_l m c a0 a1 a2 a3 a4 h0 h1 h2 h3 h4, upto_add _ _ _ (by norm_num), upto_zero, zero_add]
  | n + 1, hn => by
    have hN : cfg0.N = 8 := N_0
    have e : (outsAt0 m c (n + 1) hn).2.2.2 = k0_pay8 (k0_pay6 (outsAt0 m c n (Nat.lt_of_succ_lt hn)).2.2.2) (k0_pay7 (B0 m c ⟨n + 1, hn⟩) (B1 m c ⟨n + 1, hn⟩) (B3 m c ⟨n + 1, hn⟩) (B2 m c ⟨n + 1, hn⟩) (B4 m c ⟨n + 1, hn⟩)) := point8_succ c m n hn
    rw [e, pay8_apply, outs8 q n, tile_l m c a0 a1 a2 a3 a4 h0 h1 h2 h3 h4, show 512 * (n + 1) + 512 = (512 * n + 512) + 512 by ring, upto_add _ (512 * n + 512) _ (by omega), EReal.coe_add]
    rfl

theorem final7 : (dats m 0 c).arrAt 7 cfg0.N = dgOut a0 a1 a2 a3 a4 := by
  have hN : cfg0.N = 8 := N_0
  refine (dats m 0 c).arrAt_eq_of_cover 7 (dgOut a0 a1 a2 a3 a4) (fun t hf => ?_) fun i => ?_
  · have h3' : t.val = 7 := by have := (flush0_7 t).mp hf; have := t.isLt; omega
    rw [Cert.LossIdeal.Value.flushed7]
    funext j
    show (outsAt0 m c t.val t.isLt).2.2.1 j = dgOut a0 a1 a2 a3 a4 (((cfg0.win 7).blk t).view.emb j)
    obtain ⟨p, q, rfl⟩ : ∃ (p : Fin 8) (q : Fin 128), j = ix2 p q := ⟨_, _, eq_ix2 j⟩
    have ej : ((cfg0.win 7).blk t).view.emb (ix2 p q) = (ix2 p q : S8x128.Idx) := by
      funext a; apply Fin.ext
      match a with
      | ⟨0, _⟩ => exact tile_col (idx0_7 t).1
      | ⟨1, _⟩ => exact tile_col (idx0_7 t).2
    rw [ej, outs7 m c a0 a1 a2 a3 a4 h0 h1 h2 h3 h4 p q t.val t.isLt, h3', upto_all]
    rfl
  · have i0 : (i 0 : Nat) < 8 := (i 0).isLt
    have i1 : (i 1 : Nat) < 128 := (i 1).isLt
    let t : Fin cfg0.N := ⟨7, by omega⟩
    refine ⟨t, (flush0_7 t).mpr rfl, mem_tile fun a => ?_⟩
    match a with
    | ⟨0, _⟩ => exact tile_zero (idx0_7 t).1 i0
    | ⟨1, _⟩ => exact tile_zero (idx0_7 t).2 i1

theorem final8 : (dats m 0 c).arrAt 8 cfg0.N = lossOut a0 a1 a2 a3 a4 := by
  have hN : cfg0.N = 8 := N_0
  refine (dats m 0 c).arrAt_eq_of_cover 8 (lossOut a0 a1 a2 a3 a4) (fun t hf => ?_) fun i => ?_
  · have h3' : t.val = 7 := by have := (flush0_8 t).mp hf; have := t.isLt; omega
    rw [Cert.LossIdeal.Value.flushed8]
    funext j
    show (outsAt0 m c t.val t.isLt).2.2.2 j = lossOut a0 a1 a2 a3 a4 (((cfg0.win 8).blk t).view.emb j)
    obtain ⟨q, rfl⟩ : ∃ (q : Fin 128), j = ix2 0 q := ⟨j 1, funext fun a => by fin_cases a; exacts [Subsingleton.elim (α := Fin 1) _ _, rfl]⟩
    rw [outs8 m c a0 a1 a2 a3 a4 h0 h1 h2 h3 h4 q t.val t.isLt, h3', upto_all]
    rfl
  · have i0 : (i 0 : Nat) < 1 := (i 0).isLt
    have i1 : (i 1 : Nat) < 128 := (i 1).isLt
    let t : Fin cfg0.N := ⟨7, by omega⟩
    refine ⟨t, (flush0_8 t).mpr rfl, mem_tile fun a => ?_⟩
    match a with
    | ⟨0, _⟩ => exact tile_zero (idx0_8 t).1 i0
    | ⟨1, _⟩ => exact tile_zero (idx0_8 t).2 i1

end Cert.LossIdeal.Val
end
-- ==== Proof.Loss.lean ====
/-
  The loss call: its reference's frame and the equality of its four results with the loss and the derivative of the
  forward lines, on finite arguments.
-/
module

public import proofs.«01_k».proof.Defs
public import proofs.«01_k».proof.Proof.Gen.Loss.Frame
public import proofs.«01_k».proof.Proof.Gen.Pre_finite_loss
public import proofs.«01_k».proof.Proof.LossKernel
public import Idealize.ShloMosaic.Lib.Quiescent

@[expose] public section

noncomputable section

namespace Cert.LossProof

open Idealize.ShloMosaic Idealize.ShloMosaic.TcCoe Idealize.SL.Sem
open Cert.Reals

instance : Subsingleton (Cert.Pre_finite_loss.S_).Idx := ⟨fun a b => funext fun k => k.elim0⟩

/-- The precondition, opened: five arrays of reals. -/
theorem pre_reals (x0 : FVec Ideal Cert.Pre_finite_loss.S1x4096x2816 .f32) (x1 : FVec Ideal Cert.Pre_finite_loss.S1x2816x1024 .f32)
    (x2 : FVec Ideal Cert.Pre_finite_loss.S1x4096x1024 .f32) (x3 : FVec Ideal Cert.Pre_finite_loss.S1x1024 .f32)
    (x4 : FVec Ideal Cert.Pre_finite_loss.S1x4096x1024 .f32)
    (h : Cert.Pre_finite_loss.fn (F := Ideal) x0 x1 x2 x3 x4 = fun _ => 1#1) :
    (∃ r : Cert.Pre_finite_loss.S1x4096x2816.Idx → ℝ, ∀ i, x0 i = (r i : EReal)) ∧ (∃ r : Cert.Pre_finite_loss.S1x2816x1024.Idx → ℝ, ∀ i, x1 i = (r i : EReal))
      ∧ (∃ r : Cert.Pre_finite_loss.S1x4096x1024.Idx → ℝ, ∀ i, x2 i = (r i : EReal)) ∧ (∃ r : Cert.Pre_finite_loss.S1x1024.Idx → ℝ, ∀ i, x3 i = (r i : EReal))
      ∧ (∃ r : Cert.Pre_finite_loss.S1x4096x1024.Idx → ℝ, ∀ i, x4 i = (r i : EReal)) := by
  have e := congrFun h (fun a => a.elim0)
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_of_test _ _ (fun _ => rfl) (Host.reduce_andi_all _ _ _ _ _ e0), real_of_test _ _ (fun _ => rfl) (Host.reduce_andi_all _ _ _ _ _ e1),
    real_of_test _ _ (fun _ => rfl) (Host.reduce_andi_all _ _ _ _ _ e2), real_of_test _ _ (fun _ => rfl) (Host.reduce_andi_all _ _ _ _ _ e3),
    real_of_test _ _ (fun _ => rfl) (Host.reduce_andi_all _ _ _ _ _ e4)⟩

/-- The reference's frame. -/
theorem frame_ref : Cert.quiescent_LossRefIdeal := fun m ρ _ =>
  (θ_run Cert.LossRefIdeal.defs _ _).mono (fun r h => ⟨fun c => (h c).2.2.2.2, Idealize.ShloMosaic.sem_eq_zero_of_no_sems (by decide) r.2⟩)
    (Cert.LossRefIdeal.Value.run (F := Ideal) m ρ)

/-- The value: on finite arguments the four results are the loss and the derivative's. -/
theorem value : Cert.algebraic_LossIdeal_LossRefIdeal_pre_finite_loss := by
  intro m ρ m' ρ' hpre hagree
  have hr := fun c => pre_reals _ _ _ _ _ (hpre c)
  choose b0 b1 b2 b3 b4 using hr
  choose a0 h0 using b0
  choose a1 h1 using b1
  choose a2 h2 using b2
  choose a3 h3 using b3
  choose a4 h4 using b4
  refine ⟨fun c => Cert.LossIdeal.Val.dfOut (a0 c) (a1 c) (a2 c) (a3 c) (a4 c), fun c => Cert.LossIdeal.Val.dyOut (a0 c) (a1 c) (a2 c) (a3 c) (a4 c),
    fun c => Cert.LossIdeal.Val.dgOut (a0 c) (a1 c) (a2 c) (a3 c) (a4 c), fun c => Cert.LossIdeal.Val.lossOut (a0 c) (a1 c) (a2 c) (a3 c) (a4 c), ?_, ?_⟩
  · refine (θ_run Cert.LossIdeal.defs _ _).mono (fun _ h c => ⟨(h c).1.trans ?_, (h c).2.1.trans ?_, (h c).2.2.1.trans ?_, (h c).2.2.2.1.trans ?_, (h c).2.2.2.2⟩) (Cert.LossIdeal.Value.run_blocks (F := Ideal) m ρ)
    · exact Cert.LossIdeal.Val.final5 m c _ _ _ _ _ (h0 c) (h1 c) (h2 c) (h3 c) (h4 c)
    · exact Cert.LossIdeal.Val.final6 m c _ _ _ _ _ (h0 c) (h1 c) (h2 c) (h3 c) (h4 c)
    · exact Cert.LossIdeal.Val.final7 m c _ _ _ _ _ (h0 c) (h1 c) (h2 c) (h3 c) (h4 c)
    · exact Cert.LossIdeal.Val.final8 m c _ _ _ _ _ (h0 c) (h1 c) (h2 c) (h3 c) (h4 c)
  · refine (θ_run Cert.LossRefIdeal.defs _ _).mono (fun _ h c => ⟨(h c).1.trans ?_, (h c).2.1.trans ?_, (h c).2.2.1.trans ?_, (h c).2.2.2.1.trans ?_, (h c).2.2.2.2⟩) (Cert.LossRefIdeal.Value.run (F := Ideal) m' ρ')
    · obtain ⟨e0, e1, e2, e3, e4⟩ := hagree c
      rw [Cert.LossRefIdeal.Read.val_main_v58_eq, e0, e1, e2, e3, e4]
      funext j
      obtain ⟨t, d, rfl⟩ : ∃ (t : Fin 4096) (d : Fin 1024), j = ix2 t d := ⟨_, _, eq_ix2 j⟩
      exact Cert.LossRefIdeal.Val.df_eq _ _ _ _ _ _ _ _ _ _ (h0 c) (h1 c) (h2 c) (h3 c) (h4 c) t d
    · obtain ⟨e0, e1, e2, e3, e4⟩ := hagree c
      rw [Cert.LossRefIdeal.Read.val_main_v59_eq, e0, e1, e2, e3, e4]
      funext j
      obtain ⟨t, d, rfl⟩ : ∃ (t : Fin 4096) (d : Fin 1024), j = ix2 t d := ⟨_, _, eq_ix2 j⟩
      exact Cert.LossRefIdeal.Val.dy_eq _ _ _ _ _ _ _ _ _ _ (h0 c) (h1 c) (h2 c) (h3 c) (h4 c) t d
    · obtain ⟨e0, e1, e2, e3, e4⟩ := hagree c
      rw [Cert.LossRefIdeal.Read.val_main_v60_eq, e0, e1, e2, e3, e4]
      funext j
      obtain ⟨p, q, rfl⟩ : ∃ (p : Fin 8) (q : Fin 128), j = ix2 p q := ⟨_, _, eq_ix2 j⟩
      exact Cert.LossRefIdeal.Val.gain_eq _ _ _ _ _ _ _ _ _ _ (h0 c) (h1 c) (h2 c) (h3 c) (h4 c) p q
    · obtain ⟨e0, e1, e2, e3, e4⟩ := hagree c
      rw [Cert.LossRefIdeal.Read.val_main_v61_eq, e0, e1, e2, e3, e4]
      funext j
      obtain ⟨q, rfl⟩ : ∃ (q : Fin 128), j = ix2 0 q := ⟨j 1, funext fun a => by fin_cases a; exacts [Subsingleton.elim (α := Fin 1) _ _, rfl]⟩
      exact Cert.LossRefIdeal.Val.loss_eq _ _ _ _ _ _ _ _ _ _ (h0 c) (h1 c) (h2 c) (h3 c) (h4 c) q

end Cert.LossProof
end
-- ==== Proof.UpCases.lean ====
/-
  What the feed-forward norm's backward call leaves at each grid point, over the two cases of its body (the first point
  clears the two gain accumulators), as the printed payloads of its input blocks.
-/
module

public import proofs.«01_k».proof.Proof.Gen.UpIdeal.Frame
public import Idealize.ShloMosaic.Lib.Pipeline.Value

@[expose] public section

set_option maxRecDepth 16384

noncomputable section

namespace Cert.UpIdeal.Val

open Cert.UpIdeal Cert.UpIdeal.Gen Idealize.ShloMosaic Idealize.ShloMosaic.TcCoe

theorem hz : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

/-! ### The forward call's three results -/

section forward
variable (x0 x1 : Vec F S1024x1024 .bf16) (x2 : Vec F S1024x1024 .f32) (x3 x4 : Vec F S1x1024 .f32)

theorem out0_5_eq : out0_5 x0 x1 x2 x3 x4 = k0_pay2 x0 x1 := by
  unfold out0_5
  rw [View.canon_unit_zero hz]
  simp only [View.ld_unit_zero (S := S1024x1024) hz]

theorem out0_6_eq : out0_6 x0 x1 x2 x3 x4 = k0_pay3 x0 x1 x2 x3 := by
  unfold out0_6
  rw [View.canon_unit_zero hz]
  simp only [View.ld_unit_zero (S := S1024x1024) hz, View.ld_unit_zero (S := S1x1024) hz]

theorem out0_7_eq : out0_7 x0 x1 x2 x3 x4 = k0_pay1 (k0_pay4 x0 x1 x2 x3 x4) := by
  unfold out0_7
  rw [View.canon_unit_zero hz]
  simp only [View.ld_unit_zero (S := S1024x1024) hz, View.ld_unit_zero (S := S1x1024) hz]

end forward

/-! ### The backward call's four results -/

section payloads
variable (x0 x1 : Vec F S512x2816 .bf16) (x2 x3 : Vec F S8x352x1024 .bf16) (x4 : Vec F S512x1024 .f32) (x5 : Vec F S1x1024 .f32)
  (x6 x7 : Vec F S512x1024 .f32) (x8 : Vec F S1x1024 .f32)

/-- The residual stream's cotangent. -/
abbrev tdx : Vec F S512x1024 .f32 :=
  k1_pay12 (k1_pay7 x4) (k1_pay8 x4) (k1_pay9 x0 x2 x1 x3 x5) (k1_pay10 x0 x2 x1 x3 x4 x5) (k1_pay11 (F := F)) x6

/-- The projected mixers' output's cotangent. -/
abbrev tdm : Vec F S512x1024 .bf16 :=
  k1_pay1 (k1_pay15 x7) (k1_pay16 x7)
    (k1_pay17 (k1_pay7 x4) (k1_pay8 x4) (k1_pay9 x0 x2 x1 x3 x5) (k1_pay10 x0 x2 x1 x3 x4 x5) (k1_pay11 (F := F)) x6 x8)
    (k1_pay18 (k1_pay7 x4) (k1_pay8 x4) (k1_pay9 x0 x2 x1 x3 x5) (k1_pay10 x0 x2 x1 x3 x4 x5) (k1_pay11 (F := F)) x6 x7 x8)

end payloads

section caseA
variable (c : Dev nD) (i : grid1.Coords)
  (a1 : Memref sig .tc .vmem S512x2816 .bf16) (h1 : a1.IsWhole)
  (a2 : Memref sig .tc .vmem S512x2816 .bf16) (h2 : a2.IsWhole)
  (a3 : Memref sig .tc .vmem S8x352x1024 .bf16) (h3 : a3.IsWhole)
  (a4 : Memref sig .tc .vmem S8x352x1024 .bf16) (h4 : a4.IsWhole)
  (a5 : Memref sig .tc .vmem S512x1024 .f32) (h5 : a5.IsWhole)
  (a6 : Memref sig .tc .vmem S1x1024 .f32) (h6 : a6.IsWhole)
  (a7 : Memref sig .tc .vmem S512x1024 .f32) (h7 : a7.IsWhole)
  (a8 : Memref sig .tc .vmem S512x1024 .f32) (h8 : a8.IsWhole)
  (a9 : Memref sig .tc .vmem S1x1024 .f32) (h9 : a9.IsWhole)
  (a10 : Memref sig .tc .vmem S512x1024 .f32) (h10 : a10.IsWhole)
  (a11 : Memref sig .tc .vmem S512x1024 .bf16) (h11 : a11.IsWhole)
  (a12 : Memref sig .tc .vmem S8x128 .f32) (h12 : a12.IsWhole)
  (a13 : Memref sig .tc .vmem S8x128 .f32) (h13 : a13.IsWhole)
  (hc : cond1_0 i)
  (x0 : Vec F S512x2816 .bf16)  (x1 : Vec F S512x2816 .bf16)  (x2 : Vec F S8x352x1024 .bf16)  (x3 : Vec F S8x352x1024 .bf16)  (x4 : Vec F S512x1024 .f32)  (x5 : Vec F S1x1024 .f32)  (x6 : Vec F S512x1024 .f32)  (x7 : Vec F S512x1024 .f32)  (x8 : Vec F S1x1024 .f32)

/-- The results of a point in case A. -/
theorem outs_A :
    out1_A_9 c i a1 h1 a2 h2 a3 h3 a4 h4 a5 h5 a6 h6 a7 h7 a8 h8 a9 h9 a10 h10 a11 h11 a12 h12 a13 h13 hc x0 x1 x2 x3 x4 x5 x6 x7 x8 = tdx x0 x1 x2 x3 x4 x5 x6
    ∧ out1_A_10 c i a1 h1 a2 h2 a3 h3 a4 h4 a5 h5 a6 h6 a7 h7 a8 h8 a9 h9 a10 h10 a11 h11 a12 h12 a13 h13 hc x0 x1 x2 x3 x4 x5 x6 x7 x8 = tdm x0 x1 x2 x3 x4 x5 x6 x7 x8
    ∧ out1_A_11 c i a1 h1 a2 h2 a3 h3 a4 h4 a5 h5 a6 h6 a7 h7 a8 h8 a9 h9 a10 h10 a11 h11 a12 h12 a13 h13 hc x0 x1 x2 x3 x4 x5 x6 x7 x8 = k1_pay13 (k1_pay5 x0 x2 x1 x3) (k1_pay8 x4) (k1_pay3 (F := F))
    ∧ out1_A_12 c i a1 h1 a2 h2 a3 h3 a4 h4 a5 h5 a6 h6 a7 h7 a8 h8 a9 h9 a10 h10 a11 h11 a12 h12 a13 h13 hc x0 x1 x2 x3 x4 x5 x6 x7 x8 = k1_pay2 (tdx x0 x1 x2 x3 x4 x5 x6) (k1_pay16 x7) (k1_pay4 (F := F)) := by
  rw [out1_A_9, View.read_writes_eq_canon _ _ _ (by intro; apply cover1_A_9),
    out1_A_10, View.read_writes_eq_canon _ _ _ (by intro; apply cover1_A_10),
    out1_A_11, View.read_writes_eq_canon _ _ _ (by intro; apply cover1_A_11),
    out1_A_12, View.read_writes_eq_canon _ _ _ (by intro; apply cover1_A_12)]
  refine ⟨?_, ?_, ?_, ?_⟩
  all_goals
    unfold kernelRun1_A
    dsimp only
    sl_unfold_words
    first | rw [View.canon_unit_zero hz] | rw [View.canon_cons_unit_zero (S := S8x128) hz, View.readCov_unit_zero (S := S8x128) _ hz]
    simp only [View.readAt_eq_ld, h1.read_unread, h2.read_unread, h3.read_unread, h4.read_unread, h5.read_unread, h6.read_unread, h7.read_unread, h8.read_unread, h9.read_unread,
      View.ld_unit_zero (S := S512x2816) hz, View.ld_unit_zero (S := S8x352x1024) hz3, View.ld_unit_zero (S := S512x1024) hz, View.ld_unit_zero (S := S1x1024) hz, View.ld_unit_zero (S := S8x128) hz]

end caseA

section caseB
variable (c : Dev nD) (i : grid1.Coords)
  (a1 : Memref sig .tc .vmem S512x2816 .bf16) (h1 : a1.IsWhole)
  (a2 : Memref sig .tc .vmem S512x2816 .bf16) (h2 : a2.IsWhole)
  (a3 : Memref sig .tc .vmem S8x352x1024 .bf16) (h3 : a3.IsWhole)
  (a4 : Memref sig .tc .vmem S8x352x1024 .bf16) (h4 : a4.IsWhole)
  (a5 : Memref sig .tc .vmem S512x1024 .f32) (h5 : a5.IsWhole)
  (a6 : Memref sig .tc .vmem S1x1024 .f32) (h6 : a6.IsWhole)
  (a7 : Memref sig .tc .vmem S512x1024 .f32) (h7 : a7.IsWhole)
  (a8 : Memref sig .tc .vmem S512x1024 .f32) (h8 : a8.IsWhole)
  (a9 : Memref sig .tc .vmem S1x1024 .f32) (h9 : a9.IsWhole)
  (a10 : Memref sig .tc .vmem S512x1024 .f32) (h10 : a10.IsWhole)
  (a11 : Memref sig .tc .vmem S512x1024 .bf16) (h11 : a11.IsWhole)
  (a12 : Memref sig .tc .vmem S8x128 .f32) (h12 : a12.IsWhole)
  (a13 : Memref sig .tc .vmem S8x128 .f32) (h13 : a13.IsWhole)
  (hc : ¬cond1_0 i)
  (x0 : Vec F S512x2816 .bf16)  (x1 : Vec F S512x2816 .bf16)  (x2 : Vec F S8x352x1024 .bf16)  (x3 : Vec F S8x352x1024 .bf16)  (x4 : Vec F S512x1024 .f32)  (x5 : Vec F S1x1024 .f32)  (x6 : Vec F S512x1024 .f32)  (x7 : Vec F S512x1024 .f32)  (x8 : Vec F S1x1024 .f32)
  (y11 y12 : Vec F S8x128 .f32)

/-- The results of a point in case B. -/
theorem outs_B :
    out1_B_9 c i a1 h1 a2 h2 a3 h3 a4 h4 a5 h5 a6 h6 a7 h7 a8 h8 a9 h9 a10 h10 a11 h11 a12 h12 a13 h13 hc x0 x1 x2 x3 x4 x5 x6 x7 x8 y11 y12 = tdx x0 x1 x2 x3 x4 x5 x6
    ∧ out1_B_10 c i a1 h1 a2 h2 a3 h3 a4 h4 a5 h5 a6 h6 a7 h7 a8 h8 a9 h9 a10 h10 a11 h11 a12 h12 a13 h13 hc x0 x1 x2 x3 x4 x5 x6 x7 x8 y11 y12 = tdm x0 x1 x2 x3 x4 x5 x6 x7 x8
    ∧ out1_B_11 c i a1 h1 a2 h2 a3 h3 a4 h4 a5 h5 a6 h6 a7 h7 a8 h8 a9 h9 a10 h10 a11 h11 a12 h12 a13 h13 hc x0 x1 x2 x3 x4 x5 x6 x7 x8 y11 y12 = k1_pay13 (k1_pay5 x0 x2 x1 x3) (k1_pay8 x4) y11
    ∧ out1_B_12 c i a1 h1 a2 h2 a3 h3 a4 h4 a5 h5 a6 h6 a7 h7 a8 h8 a9 h9 a10 h10 a11 h11 a12 h12 a13 h13 hc x0 x1 x2 x3 x4 x5 x6 x7 x8 y11 y12 = k1_pay2 (tdx x0 x1 x2 x3 x4 x5 x6) (k1_pay16 x7) y12 := by
  rw [out1_B_9, View.read_writes_eq_canon _ _ _ (by intro; apply cover1_B_9),
    out1_B_10, View.read_writes_eq_canon _ _ _ (by intro; apply cover1_B_10),
    out1_B_11, View.read_writes_eq_canon _ _ _ (by intro; apply cover1_B_11),
    out1_B_12, View.read_writes_eq_canon _ _ _ (by intro; apply cover1_B_12)]
  refine ⟨?_, ?_, ?_, ?_⟩
  all_goals
    unfold kernelRun1_B
    dsimp only
    sl_unfold_words
    first | rw [View.canon_unit_zero hz] | rw [View.canon_unit_zero (S := S8x128) hz]
    simp only [View.readAt_eq_ld, h1.read_unread, h2.read_unread, h3.read_unread, h4.read_unread, h5.read_unread, h6.read_unread, h7.read_unread, h8.read_unread, h9.read_unread, h12.read_unread, h13.read_unread,
      View.ld_unit_zero (S := S512x2816) hz, View.ld_unit_zero (S := S8x352x1024) hz3, View.ld_unit_zero (S := S512x1024) hz, View.ld_unit_zero (S := S1x1024) hz, View.ld_unit_zero (S := S8x128) hz]

end caseB

/-! ### The recursion over the grid -/

section points
variable (V : (c : Dev nD) → (b : Ref sig .tc) → Buf (Elt F) ((c : Thread nD τ).loc b)) (c : Dev nD)

/-- The tiles point `t` reads. -/
abbrev B0 (t : Fin cfg1.N) : Vec F S512x2816 .bf16 := iblk1 V c 0 t
abbrev B1 (t : Fin cfg1.N) : Vec F S512x2816 .bf16 := iblk1 V c 1 t
abbrev B2 (t : Fin cfg1.N) : Vec F S8x352x1024 .bf16 := iblk1 V c 2 t
abbrev B3 (t : Fin cfg1.N) : Vec F S8x352x1024 .bf16 := iblk1 V c 3 t
abbrev B4 (t : Fin cfg1.N) : Vec F S512x1024 .f32 := iblk1 V c 4 t
abbrev B5 (t : Fin cfg1.N) : Vec F S1x1024 .f32 := iblk1 V c 5 t
abbrev B6 (t : Fin cfg1.N) : Vec F S512x1024 .f32 := iblk1 V c 6 t
abbrev B7 (t : Fin cfg1.N) : Vec F S512x1024 .f32 := iblk1 V c 7 t
abbrev B8 (t : Fin cfg1.N) : Vec F S1x1024 .f32 := iblk1 V c 8 t

/-- The tile's cotangent of the residual stream, and of the projected mixers' output. -/
abbrev Tdx (t : Fin cfg1.N) : Vec F S512x1024 .f32 := tdx (B0 V c t) (B1 V c t) (B2 V c t) (B3 V c t) (B4 V c t) (B5 V c t) (B6 V c t)
abbrev Tdm (t : Fin cfg1.N) : Vec F S512x1024 .bf16 := tdm (B0 V c t) (B1 V c t) (B2 V c t) (B3 V c t) (B4 V c t) (B5 V c t) (B6 V c t) (B7 V c t) (B8 V c t)

theorem point9 (t : Fin cfg1.N) : (outsAt1 V c t.val t.isLt).1 = Tdx V c t := by
  by_cases hA : t.val % 8 = 0
  · rw [outsAt1_A V c t hA, (outs_A ..).1]
  · rw [outsAt1_B V c t hA, (outs_B ..).1]

theorem point10 (t : Fin cfg1.N) : (outsAt1 V c t.val t.isLt).2.1 = Tdm V c t := by
  by_cases hA : t.val % 8 = 0
  · rw [outsAt1_A V c t hA, (outs_A ..).2.1]
  · rw [outsAt1_B V c t hA, (outs_B ..).2.1]

theorem point11_zero (hn : 0 < cfg1.N) : (outsAt1 V c 0 hn).2.2.1
    = k1_pay13 (k1_pay5 (B0 V c ⟨0, hn⟩) (B2 V c ⟨0, hn⟩) (B1 V c ⟨0, hn⟩) (B3 V c ⟨0, hn⟩)) (k1_pay8 (B4 V c ⟨0, hn⟩)) (k1_pay3 (F := F)) := by
  rw [outsAt1_A V c ⟨0, hn⟩ rfl, (outs_A ..).2.2.1]

theorem point12_zero (hn : 0 < cfg1.N) : (outsAt1 V c 0 hn).2.2.2
    = k1_pay2 (Tdx V c ⟨0, hn⟩) (k1_pay16 (B7 V c ⟨0, hn⟩)) (k1_pay4 (F := F)) := by
  rw [outsAt1_A V c ⟨0, hn⟩ rfl, (outs_A ..).2.2.2]

theorem point11_succ (n : ℕ) (hn : n + 1 < cfg1.N) : (outsAt1 V c (n + 1) hn).2.2.1
    = k1_pay13 (k1_pay5 (B0 V c ⟨n + 1, hn⟩) (B2 V c ⟨n + 1, hn⟩) (B1 V c ⟨n + 1, hn⟩) (B3 V c ⟨n + 1, hn⟩)) (k1_pay8 (B4 V c ⟨n + 1, hn⟩))
        (outsAt1 V c n (Nat.lt_of_succ_lt hn)).2.2.1 := by
  have hN : cfg1.N = 8 := N_1
  have hB : ¬(⟨n + 1, hn⟩ : Fin cfg1.N).val % 8 = 0 := by dsimp only; omega
  rw [outsAt1_B V c ⟨n + 1, hn⟩ hB, (outs_B ..).2.2.1]
  rfl

theorem point12_succ (n : ℕ) (hn : n + 1 < cfg1.N) : (outsAt1 V c (n + 1) hn).2.2.2
    = k1_pay2 (Tdx V c ⟨n + 1, hn⟩) (k1_pay16 (B7 V c ⟨n + 1, hn⟩)) (outsAt1 V c n (Nat.lt_of_succ_lt hn)).2.2.2 := by
  have hN : cfg1.N = 8 := N_1
  have hB : ¬(⟨n + 1, hn⟩ : Fin cfg1.N).val % 8 = 0 := by dsimp only; omega
  rw [outsAt1_B V c ⟨n + 1, hn⟩ hB, (outs_B ..).2.2.2]
  rfl

end points

end Cert.UpIdeal.Val
end
-- ==== Proof.UpRef.lean ====
/-
  The derivative of the lines from the mixers' output to the gated unit's products, read at an index: the two norms'
  gradients one after the other, the residual stream's cotangent between them, and the two gains' gradients.
-/
module

public import proofs.«01_k».proof.Proof.Gen.UpRefIdeal.Read
public import proofs.«01_k».proof.Proof.Norm

@[expose] public section

set_option maxRecDepth 16384

noncomputable section

namespace Cert.UpRefIdeal.Val

open Cert.UpRefIdeal Cert.UpRefIdeal.Gen Cert.UpRefIdeal.Read Idealize.ShloMosaic Idealize.ShloMosaic.TcCoe
open Cert.Reals Cert.Norm
open scoped BigOperators

/-- A host sum of one entry a token is that entry. -/
theorem rows_apply (y : FVec Ideal S1x4096x1 .f32) (z : FVec Ideal S_ .f32) (hz : ∀ i, z i = 0) (t : Fin 4096) :
    Host.reduceAdd y z reducesTo_S1x4096x1_S4096_d0_2 h_S_ (ix1 t) = y (ix3 0 t 0) := by
  simp only [Host.reduceAdd, Ideal.hostReduceAdd_def]
  rw [hostReduceAdd_one _ _ _ _ _ (drop_rows _ t), hz, zero_add]

theorem gain_apply (y : FVec Ideal S1x1x1024 .f32) (z : FVec Ideal S_ .f32) (hz : ∀ i, z i = 0) (d : Fin 1024) :
    Host.reduceAdd y z reducesTo_S1x1x1024_S1024_d0_1 h_S_ (ix1 d) = y (ix3 0 0 d) := by
  simp only [Host.reduceAdd, Ideal.hostReduceAdd_def]
  rw [hostReduceAdd_one _ _ _ _ _ (drop_gain _ d), hz, zero_add]

/-! ### The reals -/

section reals
variable (a0 : S1x4096x1024.Idx → ℝ) (a1 : S1x1024x1024.Idx → ℝ) (a2 : S1x4096x1024.Idx → ℝ) (a3 a4 : S1x1024.Idx → ℝ)
  (a5 a6 : S1x1024x2816.Idx → ℝ) (a7 a8 : S1x4096x2816.Idx → ℝ) (a9 : S1x4096x1024.Idx → ℝ)

/-- The mixers' output, projected. -/
def mix (t : Fin 4096) (d : Fin 1024) : ℝ := ∑ k : Fin 1024, a0 (ix3 0 t k) * a1 (ix3 0 k d)

/-- The residual stream after the mixers. -/
def x1r (t : Fin 4096) (d : Fin 1024) : ℝ := a2 (ix3 0 t d) + mix a0 a1 t d * rs (mix a0 a1 t) * a3 (ix2 0 d)

/-- The gated unit's input. -/
def h2r (t : Fin 4096) (d : Fin 1024) : ℝ := x1r a0 a1 a2 a3 t d * rs (x1r a0 a1 a2 a3 t) * a4 (ix2 0 d)

/-- What comes back through the gate's and the up projection. -/
def dh (t : Fin 4096) (d : Fin 1024) : ℝ := (∑ n : Fin 2816, a7 (ix3 0 t n) * a5 (ix3 0 d n)) + ∑ n : Fin 2816, a8 (ix3 0 t n) * a6 (ix3 0 d n)

/-- The same times the input gain. -/
def dnf (t : Fin 4096) (d : Fin 1024) : ℝ := dh a5 a6 a7 a8 t d * a4 (ix2 0 d)

/-- The residual stream's cotangent after the mixers. -/
def dx1 (t : Fin 4096) (d : Fin 1024) : ℝ := a9 (ix3 0 t d) + grad (x1r a0 a1 a2 a3 t) (dnf a4 a5 a6 a7 a8 t) d

/-- The same times the mixers' output gain. -/
def dnm (t : Fin 4096) (d : Fin 1024) : ℝ := dx1 a0 a1 a2 a3 a4 a5 a6 a7 a8 a9 t d * a3 (ix2 0 d)

/-- The cotangent of the projected mixers' output. -/
def dmix (t : Fin 4096) (d : Fin 1024) : ℝ := grad (mix a0 a1 t) (dnm a0 a1 a2 a3 a4 a5 a6 a7 a8 a9 t) d

/-- A token's part of the input gain's gradient. -/
def fterm (d : Fin 1024) (t : Fin 4096) : ℝ := dh a5 a6 a7 a8 t d * (x1r a0 a1 a2 a3 t d * rs (x1r a0 a1 a2 a3 t))

/-- A token's part of the output gain's gradient. -/
def mterm (d : Fin 1024) (t : Fin 4096) : ℝ := dx1 a0 a1 a2 a3 a4 a5 a6 a7 a8 a9 t d * (mix a0 a1 t d * rs (mix a0 a1 t))

end reals

/-! ### The reference, stage by stage -/

variable (x0 : Vec Ideal S1x4096x1024 .f32) (x1 : Vec Ideal S1x1024x1024 .f32) (x2 : Vec Ideal S1x4096x1024 .f32) (x3 x4 : Vec Ideal S1x1024 .f32)
  (x5 x6 : Vec Ideal S1x1024x2816 .f32) (x7 x8 : Vec Ideal S1x4096x2816 .f32) (x9 : Vec Ideal S1x4096x1024 .f32)
  (a0 : S1x4096x1024.Idx → ℝ) (a1 : S1x1024x1024.Idx → ℝ) (a2 : S1x4096x1024.Idx → ℝ) (a3 a4 : S1x1024.Idx → ℝ)
  (a5 a6 : S1x1024x2816.Idx → ℝ) (a7 a8 : S1x4096x2816.Idx → ℝ) (a9 : S1x4096x1024.Idx → ℝ)
  (h0 : ∀ i, x0 i = (a0 i : EReal)) (h1 : ∀ i, x1 i = (a1 i : EReal)) (h2 : ∀ i, x2 i = (a2 i : EReal)) (h3 : ∀ i, x3 i = (a3 i : EReal))
  (h4 : ∀ i, x4 i = (a4 i : EReal)) (h5 : ∀ i, x5 i = (a5 i : EReal)) (h6 : ∀ i, x6 i = (a6 i : EReal)) (h7 : ∀ i, x7 i = (a7 i : EReal))
  (h8 : ∀ i, x8 i = (a8 i : EReal)) (h9 : ∀ i, x9 i = (a9 i : EReal))

section mixs
include h0 h1

theorem v1_eq (t : Fin 4096) (d : Fin 1024) : val_main_v1 (F := Ideal) x0 x1 (ix3 0 t d) = (mix a0 a1 t d : EReal) := by
  unfold val_main_v1 val_main_v0
  pointwise []
  simp only [h0, h1]
  exact sum_mul_coe _ _ _

theorem v9_eq (t : Fin 4096) : val_main_v9 (F := Ideal) x0 x1 (ix3 0 t 0) = (ms (mix a0 a1 t) : EReal) := by
  rw [← ms_eq (fun k => val_main_v1 (F := Ideal) x0 x1 (ix3 0 t k)) (mix a0 a1 t) (v1_eq x0 x1 a0 a1 h0 h1 t)]
  unfold val_main_v9 val_main_v8 val_main_v7 val_main_v6 val_main_v5 val_main_v4 val_main_v3
  generalize val_main_v1 (F := Ideal) x0 x1 = y
  pointwise [val_main_cst, val_main_cst_0, val_main_cst_1]

theorem v10_eq (t : Fin 4096) : val_main_v10 (F := Ideal) x0 x1 (ix3 0 t 0) = (rs (mix a0 a1 t) : EReal) := by
  have e : (rs (mix a0 a1 t) : EReal) = Ideal.rsqrt (ms (mix a0 a1 t) : EReal) := (rsqrt_pos (ms_pos _)).symm
  rw [e, ← v9_eq x0 x1 a0 a1 h0 h1 t]
  unfold val_main_v10
  generalize val_main_v9 (F := Ideal) x0 x1 = y
  pointwise []

theorem v15_eq (t : Fin 4096) (d : Fin 1024) : val_main_v15 (F := Ideal) x0 x1 (ix3 0 t d) = ((mix a0 a1 t d * rs (mix a0 a1 t) : ℝ) : EReal) := by
  rw [EReal.coe_mul, ← v1_eq x0 x1 a0 a1 h0 h1, ← v10_eq x0 x1 a0 a1 h0 h1]
  unfold val_main_v15 val_main_v14
  generalize val_main_v1 (F := Ideal) x0 x1 = y
  generalize val_main_v10 (F := Ideal) x0 x1 = z
  pointwise []

include h2 h3

theorem v19_eq (t : Fin 4096) (d : Fin 1024) : val_main_v19 (F := Ideal) x0 x1 x2 x3 (ix3 0 t d) = (x1r a0 a1 a2 a3 t d : EReal) := by
  unfold x1r
  rw [EReal.coe_add, EReal.coe_mul, ← v15_eq x0 x1 a0 a1 h0 h1, ← h2, ← h3]
  unfold val_main_v19 val_main_v18 val_main_v17 val_main_v16 val_main_v2
  generalize val_main_v15 (F := Ideal) x0 x1 = y
  pointwise []

theorem v27_eq (t : Fin 4096) : val_main_v27 (F := Ideal) x0 x1 x2 x3 (ix3 0 t 0) = (ms (x1r a0 a1 a2 a3 t) : EReal) := by
  rw [← ms_eq (fun k => val_main_v19 (F := Ideal) x0 x1 x2 x3 (ix3 0 t k)) _ (v19_eq x0 x1 x2 x3 a0 a1 a2 a3 h0 h1 h2 h3 t)]
  unfold val_main_v27 val_main_v26 val_main_v25 val_main_v24 val_main_v23 val_main_v22 val_main_v21
  generalize val_main_v19 (F := Ideal) x0 x1 x2 x3 = y
  pointwise [val_main_cst_3, val_main_cst_4, val_main_cst_5]

theorem v28_eq (t : Fin 4096) : val_main_v28 (F := Ideal) x0 x1 x2 x3 (ix3 0 t 0) = (rs (x1r a0 a1 a2 a3 t) : EReal) := by
  have e : (rs (x1r a0 a1 a2 a3 t) : EReal) = Ideal.rsqrt (ms (x1r a0 a1 a2 a3 t) : EReal) := (rsqrt_pos (ms_pos _)).symm
  rw [e, ← v27_eq x0 x1 x2 x3 a0 a1 a2 a3 h0 h1 h2 h3 t]
  unfold val_main_v28
  generalize val_main_v27 (F := Ideal) x0 x1 x2 x3 = y
  pointwise []

theorem v33_eq (t : Fin 4096) (d : Fin 1024) :
    val_main_v33 (F := Ideal) x0 x1 x2 x3 (ix3 0 t d) = ((x1r a0 a1 a2 a3 t d * rs (x1r a0 a1 a2 a3 t) : ℝ) : EReal) := by
  rw [EReal.coe_mul, ← v19_eq x0 x1 x2 x3 a0 a1 a2 a3 h0 h1 h2 h3, ← v28_eq x0 x1 x2 x3 a0 a1 a2 a3 h0 h1 h2 h3]
  unfold val_main_v33 val_main_v32
  generalize val_main_v19 (F := Ideal) x0 x1 x2 x3 = y
  generalize val_main_v28 (F := Ideal) x0 x1 x2 x3 = z
  pointwise []

include h4

/-- The first result: the gated unit's input. -/
theorem h2_eq (t : Fin 4096) (d : Fin 1024) : val_main_v124 (F := Ideal) x0 x1 x2 x3 x4 (ix2 t d) = (h2r a0 a1 a2 a3 a4 t d : EReal) := by
  have e : val_main_v118 (F := Ideal) x0 x1 x2 x3 x4 = val_main_v36 (F := Ideal) x0 x1 x2 x3 x4 := rfl
  unfold h2r
  rw [EReal.coe_mul, ← v33_eq x0 x1 x2 x3 a0 a1 a2 a3 h0 h1 h2 h3, ← h4]
  unfold val_main_v124 val_main_v123
  rw [e]
  unfold val_main_v36 val_main_v35 val_main_v34 val_main_v20
  generalize val_main_v33 (F := Ideal) x0 x1 x2 x3 = y
  pointwise []

end mixs

section back
include h5 h6 h7 h8

theorem v43_eq (t : Fin 4096) (d : Fin 1024) : val_main_v43 (F := Ideal) x5 x6 x7 x8 (ix3 0 t d) = (dh a5 a6 a7 a8 t d : EReal) := by
  unfold val_main_v43 val_main_v42 val_main_v41 val_main_v39 val_main_v37
  pointwise []
  simp only [h5, h6, h7, h8]
  unfold dh
  rw [sum_mul_coe, sum_mul_coe, ← EReal.coe_add, add_comm]

include h4

theorem v48_eq (t : Fin 4096) (d : Fin 1024) : val_main_v48 (F := Ideal) x4 x5 x6 x7 x8 (ix3 0 t d) = (dnf a4 a5 a6 a7 a8 t d : EReal) := by
  unfold dnf
  rw [EReal.coe_mul, ← v43_eq x5 x6 x7 x8 a5 a6 a7 a8 h5 h6 h7 h8, ← h4]
  unfold val_main_v48 val_main_v47 val_main_v34 val_main_v20
  generalize val_main_v43 (F := Ideal) x5 x6 x7 x8 = y
  pointwise []

include h0 h1 h2 h3

theorem v59_eq (t : Fin 4096) : val_main_v59 (F := Ideal) x0 x1 x2 x3 x4 x5 x6 x7 x8 (ix1 t) = (through (x1r a0 a1 a2 a3 t) (dnf a4 a5 a6 a7 a8 t) : EReal) := by
  unfold val_main_v59
  rw [rows_apply _ (val_main_cst_11 (F := Ideal)) (fun _ => Ideal.ofBits_zero_f32), ← through_eq]
  simp only [← v19_eq x0 x1 x2 x3 a0 a1 a2 a3 h0 h1 h2 h3, ← v48_eq x4 x5 x6 x7 x8 a4 a5 a6 a7 a8 h4 h5 h6 h7 h8,
    ← v27_eq x0 x1 x2 x3 a0 a1 a2 a3 h0 h1 h2 h3, ← v28_eq x0 x1 x2 x3 a0 a1 a2 a3 h0 h1 h2 h3]
  unfold val_main_v58 val_main_v57 val_main_v56 val_main_v52 val_main_v51 val_main_v50 val_main_v31 val_main_v30 val_main_v29
  generalize val_main_v19 (F := Ideal) x0 x1 x2 x3 = y
  generalize val_main_v48 (F := Ideal) x4 x5 x6 x7 x8 = z
  generalize val_main_v27 (F := Ideal) x0 x1 x2 x3 = u
  generalize val_main_v28 (F := Ideal) x0 x1 x2 x3 = v
  pointwise [val_main_cst_6, val_main_cst_9, val_main_cst_10]

include h9

theorem v65_eq (t : Fin 4096) (d : Fin 1024) :
    val_main_v65 (F := Ideal) x0 x1 x2 x3 x4 x5 x6 x7 x8 x9 (ix3 0 t d) = (dx1 a0 a1 a2 a3 a4 a5 a6 a7 a8 a9 t d : EReal) := by
  unfold dx1
  rw [EReal.coe_add, ← chain_add, ← h9]
  rw [← v19_eq x0 x1 x2 x3 a0 a1 a2 a3 h0 h1 h2 h3, ← v48_eq x4 x5 x6 x7 x8 a4 a5 a6 a7 a8 h4 h5 h6 h7 h8,
    ← v28_eq x0 x1 x2 x3 a0 a1 a2 a3 h0 h1 h2 h3, ← v59_eq x0 x1 x2 x3 x4 x5 x6 x7 x8 a0 a1 a2 a3 a4 a5 a6 a7 a8 h0 h1 h2 h3 h4 h5 h6 h7 h8]
  unfold val_main_v65 val_main_v64 val_main_v63 val_main_v62 val_main_v61 val_main_v60 val_main_v55 val_main_v54 val_main_v53
  generalize val_main_v19 (F := Ideal) x0 x1 x2 x3 = y
  generalize val_main_v48 (F := Ideal) x4 x5 x6 x7 x8 = z
  generalize val_main_v28 (F := Ideal) x0 x1 x2 x3 = v
  generalize val_main_v59 (F := Ideal) x0 x1 x2 x3 x4 x5 x6 x7 x8 = w
  pointwise []

/-- The second result: the residual stream's cotangent. -/
theorem dx1_eq (t : Fin 4096) (d : Fin 1024) :
    val_main_v125 (F := Ideal) x0 x1 x2 x3 x4 x5 x6 x7 x8 x9 (ix2 t d) = (dx1 a0 a1 a2 a3 a4 a5 a6 a7 a8 a9 t d : EReal) := by
  rw [← v65_eq x0 x1 x2 x3 x4 x5 x6 x7 x8 x9 a0 a1 a2 a3 a4 a5 a6 a7 a8 a9 h0 h1 h2 h3 h4 h5 h6 h7 h8 h9]
  unfold val_main_v125
  generalize val_main_v65 (F := Ideal) x0 x1 x2 x3 x4 x5 x6 x7 x8 x9 = y
  pointwise []

theorem v67_eq (t : Fin 4096) (d : Fin 1024) :
    val_main_v67 (F := Ideal) x0 x1 x2 x3 x4 x5 x6 x7 x8 x9 (ix3 0 t d) = (dx1 a0 a1 a2 a3 a4 a5 a6 a7 a8 a9 t d : EReal) := by
  rw [← v65_eq x0 x1 x2 x3 x4 x5 x6 x7 x8 x9 a0 a1 a2 a3 a4 a5 a6 a7 a8 a9 h0 h1 h2 h3 h4 h5 h6 h7 h8 h9]
  unfold val_main_v67
  generalize val_main_v65 (F := Ideal) x0 x1 x2 x3 x4 x5 x6 x7 x8 x9 = y
  pointwise []

theorem v72_eq (t : Fin 4096) (d : Fin 1024) :
    val_main_v72 (F := Ideal) x0 x1 x2 x3 x4 x5 x6 x7 x8 x9 (ix3 0 t d) = (dnm a0 a1 a2 a3 a4 a5 a6 a7 a8 a9 t d : EReal) := by
  unfold dnm
  rw [EReal.coe_mul, ← v67_eq x0 x1 x2 x3 x4 x5 x6 x7 x8 x9 a0 a1 a2 a3 a4 a5 a6 a7 a8 a9 h0 h1 h2 h3 h4 h5 h6 h7 h8 h9, ← h3]
  unfold val_main_v72 val_main_v71 val_main_v16 val_main_v2
  generalize val_main_v67 (F := Ideal) x0 x1 x2 x3 x4 x5 x6 x7 x8 x9 = y
  pointwise []

theorem v82_eq (t : Fin 4096) : val_main_v82 (F := Ideal) x0 x1 x2 x3 x4 x5 x6 x7 x8 x9 (ix1 t)
    = (through (mix a0 a1 t) (dnm a0 a1 a2 a3 a4 a5 a6 a7 a8 a9 t) : EReal) := by
  unfold val_main_v82
  rw [rows_apply _ (val_main_cst_16 (F := Ideal)) (fun _ => Ideal.ofBits_zero_f32), ← through_eq]
  simp only [← v1_eq x0 x1 a0 a1 h0 h1, ← v72_eq x0 x1 x2 x3 x4 x5 x6 x7 x8 x9 a0 a1 a2 a3 a4 a5 a6 a7 a8 a9 h0 h1 h2 h3 h4 h5 h6 h7 h8 h9,
    ← v9_eq x0 x1 a0 a1 h0 h1, ← v10_eq x0 x1 a0 a1 h0 h1]
  unfold val_main_v81 val_main_v80 val_main_v79 val_main_v76 val_main_v75 val_main_v74 val_main_v13 val_main_v12 val_main_v11
  generalize val_main_v1 (F := Ideal) x0 x1 = y
  generalize val_main_v72 (F := Ideal) x0 x1 x2 x3 x4 x5 x6 x7 x8 x9 = z
  generalize val_main_v9 (F := Ideal) x0 x1 = u
  generalize val_main_v10 (F := Ideal) x0 x1 = v
  pointwise [val_main_cst_2, val_main_cst_14, val_main_cst_15]

/-- The third result: the cotangent of the projected mixers' output. -/
theorem dmix_eq (t : Fin 4096) (d : Fin 1024) :
    val_main_v127 (F := Ideal) x0 x1 x2 x3 x4 x5 x6 x7 x8 x9 (ix2 t d) = (dmix a0 a1 a2 a3 a4 a5 a6 a7 a8 a9 t d : EReal) := by
  have e := chain_add 0 (mix a0 a1 t) (dnm a0 a1 a2 a3 a4 a5 a6 a7 a8 a9 t) d
  rw [zero_add, zero_add] at e
  unfold dmix
  rw [← e]
  rw [← v1_eq x0 x1 a0 a1 h0 h1, ← v72_eq x0 x1 x2 x3 x4 x5 x6 x7 x8 x9 a0 a1 a2 a3 a4 a5 a6 a7 a8 a9 h0 h1 h2 h3 h4 h5 h6 h7 h8 h9,
    ← v10_eq x0 x1 a0 a1 h0 h1, ← v82_eq x0 x1 x2 x3 x4 x5 x6 x7 x8 x9 a0 a1 a2 a3 a4 a5 a6 a7 a8 a9 h0 h1 h2 h3 h4 h5 h6 h7 h8 h9]
  unfold val_main_v127 val_main_v126 val_main_v88 val_main_v87 val_main_v86 val_main_v85 val_main_v84 val_main_v83 val_main_v78 val_main_v77
  generalize val_main_v1 (F := Ideal) x0 x1 = y
  generalize val_main_v72 (F := Ideal) x0 x1 x2 x3 x4 x5 x6 x7 x8 x9 = z
  generalize val_main_v10 (F := Ideal) x0 x1 = v
  generalize val_main_v82 (F := Ideal) x0 x1 x2 x3 x4 x5 x6 x7 x8 x9 = w
  pointwise []

/-- The fifth result: the mixers' output gain's gradient. -/
theorem dgm_eq (p : Fin 8) (q : Fin 128) : val_main_v129 (F := Ideal) x0 x1 x2 x3 x4 x5 x6 x7 x8 x9 (ix2 p q)
    = ((∑ t, mterm a0 a1 a2 a3 a4 a5 a6 a7 a8 a9 ⟨p.val * 128 + q.val, by omega⟩ t : ℝ) : EReal) := by
  rw [← sum_coe]
  unfold val_main_v129 val_main_v89
  pointwise []
  unfold val_main_v73
  rw [gain_apply _ (val_main_cst_13 (F := Ideal)) (fun _ => Ideal.ofBits_zero_f32)]
  simp only [mterm, EReal.coe_mul _ (mix _ _ _ _ * _), ← v15_eq x0 x1 a0 a1 h0 h1,
    ← v67_eq x0 x1 x2 x3 x4 x5 x6 x7 x8 x9 a0 a1 a2 a3 a4 a5 a6 a7 a8 a9 h0 h1 h2 h3 h4 h5 h6 h7 h8 h9]
  unfold val_main_v70 val_main_v69 val_main_v68
  generalize val_main_v15 (F := Ideal) x0 x1 = y
  generalize val_main_v67 (F := Ideal) x0 x1 x2 x3 x4 x5 x6 x7 x8 x9 = z
  pointwise [val_main_cst_12]
  exact Finset.sum_congr rfl fun t _ => mul_comm _ _

omit h4 h9

/-- The fourth result: the input gain's gradient. -/
theorem dgf_eq (p : Fin 8) (q : Fin 128) : val_main_v128 (F := Ideal) x0 x1 x2 x3 x5 x6 x7 x8 (ix2 p q)
    = ((∑ t, fterm a0 a1 a2 a3 a5 a6 a7 a8 ⟨p.val * 128 + q.val, by omega⟩ t : ℝ) : EReal) := by
  rw [← sum_coe]
  unfold val_main_v128 val_main_v66
  pointwise []
  unfold val_main_v49
  rw [gain_apply _ (val_main_cst_8 (F := Ideal)) (fun _ => Ideal.ofBits_zero_f32)]
  simp only [fterm, EReal.coe_mul _ (x1r _ _ _ _ _ _ * _), ← v33_eq x0 x1 x2 x3 a0 a1 a2 a3 h0 h1 h2 h3, ← v43_eq x5 x6 x7 x8 a5 a6 a7 a8 h5 h6 h7 h8]
  unfold val_main_v46 val_main_v45 val_main_v44
  generalize val_main_v33 (F := Ideal) x0 x1 x2 x3 = y
  generalize val_main_v43 (F := Ideal) x5 x6 x7 x8 = z
  pointwise [val_main_cst_7]
  exact Finset.sum_congr rfl fun t _ => mul_comm _ _

end back

end Cert.UpRefIdeal.Val
end
-- ==== Proof.UpForward.lean ====
/-
  The feed-forward norm's backward call over the forward call's saved arrays: what each of the five result arrays holds, as
  the reals of the forward lines' derivative.
-/
module

public import proofs.«01_k».proof.Proof.Tile
public import proofs.«01_k».proof.Proof.UpCases
public import proofs.«01_k».proof.Proof.UpRef

@[expose] public section

set_option maxRecDepth 16384

noncomputable section

namespace Cert.UpIdeal.Val

open Cert.UpIdeal Cert.UpIdeal.Gen Idealize.ShloMosaic Idealize.ShloMosaic.TcCoe
open Cert.Reals Cert.Norm
open Cert.UpRefIdeal.Val (mix x1r h2r dh dnf dx1 dnm dmix fterm mterm)
open scoped BigOperators

variable (m : (ℓ : Loc nD τ sig) → Buf (Elt Ideal) ℓ) (ρ : Dev nD → PrngReg) (c : Dev nD)

abbrev X0 : S1x4096x1024.Idx → EReal := m ((c : Thread nD τ).loc main_arg0)
abbrev X1 : S1x1024x1024.Idx → EReal := m ((c : Thread nD τ).loc main_arg1)
abbrev X2 : S1x4096x1024.Idx → EReal := m ((c : Thread nD τ).loc main_arg2)
abbrev X3 : S1x1024.Idx → EReal := m ((c : Thread nD τ).loc main_arg3)
abbrev X4 : S1x1024.Idx → EReal := m ((c : Thread nD τ).loc main_arg4)
abbrev X5 : S1x1024x2816.Idx → EReal := m ((c : Thread nD τ).loc main_arg5)
abbrev X6 : S1x1024x2816.Idx → EReal := m ((c : Thread nD τ).loc main_arg6)
abbrev X7 : S1x4096x2816.Idx → EReal := m ((c : Thread nD τ).loc main_arg7)
abbrev X8 : S1x4096x2816.Idx → EReal := m ((c : Thread nD τ).loc main_arg8)
abbrev X9 : S1x4096x1024.Idx → EReal := m ((c : Thread nD τ).loc main_arg9)

/-! ### What the two calls are entered with -/

theorem V1_v9 (t : Fin 4096) (d : Fin 1024) : (W1 m ρ c (Proc.devRef .tc main_v9) : S4096x1024.Idx → EReal) (ix2 t d) = X0 m c (ix3 0 t d) := by
  have e : (W1 m ρ c (Proc.devRef .tc main_v9) : S4096x1024.Idx → EReal) = truncf (F := Ideal) .bf16 (shapeCast S4096x1024 (X0 m c : FVec Ideal S1x4096x1024 .f32) shapeCasts_S1x4096x1024_S4096x1024) bitsLt_bf16_f32 := by
    unfold W1
    after_results_simp
    <;> rfl
  rw [e]
  pointwise []

theorem V1_v11 (k d : Fin 1024) : (W1 m ρ c (Proc.devRef .tc main_v11) : S1024x1024.Idx → EReal) (ix2 k d) = X1 m c (ix3 0 k d) := by
  have e : (W1 m ρ c (Proc.devRef .tc main_v11) : S1024x1024.Idx → EReal) = truncf (F := Ideal) .bf16 (shapeCast S1024x1024 (X1 m c : FVec Ideal S1x1024x1024 .f32) shapeCasts_S1x1024x1024_S1024x1024) bitsLt_bf16_f32 := by
    unfold W1
    after_results_simp
    <;> rfl
  rw [e]
  pointwise []

theorem V1_v12 (t : Fin 4096) (d : Fin 1024) : (W1 m ρ c (Proc.devRef .tc main_v12) : S4096x1024.Idx → EReal) (ix2 t d) = X2 m c (ix3 0 t d) := by
  have e : (W1 m ρ c (Proc.devRef .tc main_v12) : S4096x1024.Idx → EReal) = shapeCast S4096x1024 (X2 m c : FVec Ideal S1x4096x1024 .f32) shapeCasts_S1x4096x1024_S4096x1024 := by
    unfold W1
    after_results_simp
    <;> rfl
  rw [e]
  pointwise []

theorem V1_v3 (a : Fin 8) (b : Fin 352) (d : Fin 1024) : (W1 m ρ c (Proc.devRef .tc main_v3) : S8x352x1024.Idx → EReal) (ix3 a b d) = X5 m c (ix3 0 d ⟨a.val * 352 + b.val, by omega⟩) := by
  have e : (W1 m ρ c (Proc.devRef .tc main_v3) : S8x352x1024.Idx → EReal) = shapeCast S8x352x1024 (truncf (F := Ideal) .bf16 (transpose S2816x1024 [1, 0] (shapeCast S1024x2816 (X5 m c : FVec Ideal S1x1024x2816 .f32) shapeCasts_S1x1024x2816_S1024x2816) transposes_S1024x2816_S2816x1024_1_0) bitsLt_bf16_f32) shapeCasts_S2816x1024_S8x352x1024 := by
    unfold W1
    after_results_simp
    <;> rfl
  rw [e]
  pointwise []

theorem V1_v7 (a : Fin 8) (b : Fin 352) (d : Fin 1024) : (W1 m ρ c (Proc.devRef .tc main_v7) : S8x352x1024.Idx → EReal) (ix3 a b d) = X6 m c (ix3 0 d ⟨a.val * 352 + b.val, by omega⟩) := by
  have e : (W1 m ρ c (Proc.devRef .tc main_v7) : S8x352x1024.Idx → EReal) = shapeCast S8x352x1024 (truncf (F := Ideal) .bf16 (transpose S2816x1024 [1, 0] (shapeCast S1024x2816 (X6 m c : FVec Ideal S1x1024x2816 .f32) shapeCasts_S1x1024x2816_S1024x2816) transposes_S1024x2816_S2816x1024_1_0) bitsLt_bf16_f32) shapeCasts_S2816x1024_S8x352x1024 := by
    unfold W1
    after_results_simp
    <;> rfl
  rw [e]
  pointwise []

theorem V3_v15 (t : Fin 4096) (d : Fin 2816) : (W3 m ρ c (Proc.devRef .tc main_v15) : S4096x2816.Idx → EReal) (ix2 t d) = X7 m c (ix3 0 t d) := by
  have e : (W3 m ρ c (Proc.devRef .tc main_v15) : S4096x2816.Idx → EReal) = truncf (F := Ideal) .bf16 (shapeCast S4096x2816 (X7 m c : FVec Ideal S1x4096x2816 .f32) shapeCasts_S1x4096x2816_S4096x2816) bitsLt_bf16_f32 := by
    unfold W3
    after_results_simp
    <;> rw [W2_args m ρ c main_arg7 (by decide)]
    <;> rfl
  rw [e]
  pointwise []

theorem V3_v17 (t : Fin 4096) (d : Fin 2816) : (W3 m ρ c (Proc.devRef .tc main_v17) : S4096x2816.Idx → EReal) (ix2 t d) = X8 m c (ix3 0 t d) := by
  have e : (W3 m ρ c (Proc.devRef .tc main_v17) : S4096x2816.Idx → EReal) = truncf (F := Ideal) .bf16 (shapeCast S4096x2816 (X8 m c : FVec Ideal S1x4096x2816 .f32) shapeCasts_S1x4096x2816_S4096x2816) bitsLt_bf16_f32 := by
    unfold W3
    after_results_simp
    <;> rw [W2_args m ρ c main_arg8 (by decide)]
    <;> rfl
  rw [e]
  pointwise []

theorem V3_v18 (t : Fin 4096) (d : Fin 1024) : (W3 m ρ c (Proc.devRef .tc main_v18) : S4096x1024.Idx → EReal) (ix2 t d) = X9 m c (ix3 0 t d) := by
  have e : (W3 m ρ c (Proc.devRef .tc main_v18) : S4096x1024.Idx → EReal) = shapeCast S4096x1024 (X9 m c : FVec Ideal S1x4096x1024 .f32) shapeCasts_S1x4096x1024_S4096x1024 := by
    unfold W3
    after_results_simp
    <;> rw [W2_args m ρ c main_arg9 (by decide)]
    <;> rfl
  rw [e]
  pointwise []

theorem V3_v3 : W3 m ρ c (Proc.devRef .tc main_v3) = W1 m ρ c (Proc.devRef .tc main_v3) :=
  (W3_of m ρ c main_v3 (by decide)).trans (W2_of_ne m ρ c main_v3 (by decide))

theorem V3_v7 : W3 m ρ c (Proc.devRef .tc main_v7) = W1 m ρ c (Proc.devRef .tc main_v7) :=
  (W3_of m ρ c main_v7 (by decide)).trans (W2_of_ne m ρ c main_v7 (by decide))

/-! ### The forward call -/

/-- Row `r` of the forward call's tile `t` is token `1024 t + r`. -/
abbrev tok0 (t : Fin cfg0.N) (r : Fin 1024) : Fin 4096 := ⟨1024 * t.val + r.val, by have := t.isLt; have : cfg0.N = 4 := N_0; omega⟩
/-- Row `r` of the backward call's tile `t` is token `512 t + r`. -/
abbrev tok (t : Fin cfg1.N) (r : Fin 512) : Fin 4096 := ⟨512 * t.val + r.val, by have := t.isLt; have : cfg1.N = 8 := N_1; omega⟩

abbrev C0 (t : Fin cfg0.N) : Vec Ideal S1024x1024 .bf16 := iblk0 (V1 m ρ) c 0 t
abbrev C1 (t : Fin cfg0.N) : Vec Ideal S1024x1024 .bf16 := iblk0 (V1 m ρ) c 1 t
abbrev C2 (t : Fin cfg0.N) : Vec Ideal S1024x1024 .f32 := iblk0 (V1 m ρ) c 2 t
abbrev C3 (t : Fin cfg0.N) : Vec Ideal S1x1024 .f32 := iblk0 (V1 m ρ) c 3 t
abbrev C4 (t : Fin cfg0.N) : Vec Ideal S1x1024 .f32 := iblk0 (V1 m ρ) c 4 t

theorem idx0_0 : ∀ t : Fin grid0.N, win0_0.index t 0 = t.val ∧ win0_0.index t 1 = 0 := by decide +kernel
theorem idx0_1 : ∀ t : Fin grid0.N, win0_1.index t 0 = 0 ∧ win0_1.index t 1 = 0 := by decide +kernel
theorem idx0_2 : ∀ t : Fin grid0.N, win0_2.index t 0 = t.val ∧ win0_2.index t 1 = 0 := by decide +kernel
theorem idx0_3 : ∀ t : Fin grid0.N, win0_3.index t 0 = 0 ∧ win0_3.index t 1 = 0 := by decide +kernel
theorem idx0_4 : ∀ t : Fin grid0.N, win0_4.index t 0 = 0 ∧ win0_4.index t 1 = 0 := by decide +kernel
theorem idx0_5 : ∀ t : Fin grid0.N, win0_5.index t 0 = t.val ∧ win0_5.index t 1 = 0 := by decide +kernel
theorem idx0_6 : ∀ t : Fin grid0.N, win0_6.index t 0 = t.val ∧ win0_6.index t 1 = 0 := by decide +kernel
theorem idx0_7 : ∀ t : Fin grid0.N, win0_7.index t 0 = t.val ∧ win0_7.index t 1 = 0 := by decide +kernel
theorem idx1_0 : ∀ t : Fin grid1.N, win1_0.index t 0 = t.val ∧ win1_0.index t 1 = 0 := by decide +kernel
theorem idx1_1 : ∀ t : Fin grid1.N, win1_1.index t 0 = t.val ∧ win1_1.index t 1 = 0 := by decide +kernel
theorem idx1_2 : ∀ t : Fin grid1.N, win1_2.index t 0 = 0 ∧ win1_2.index t 1 = 0 ∧ win1_2.index t 2 = 0 := by decide +kernel
theorem idx1_3 : ∀ t : Fin grid1.N, win1_3.index t 0 = 0 ∧ win1_3.index t 1 = 0 ∧ win1_3.index t 2 = 0 := by decide +kernel
theorem idx1_4 : ∀ t : Fin grid1.N, win1_4.index t 0 = t.val ∧ win1_4.index t 1 = 0 := by decide +kernel
theorem idx1_5 : ∀ t : Fin grid1.N, win1_5.index t 0 = 0 ∧ win1_5.index t 1 = 0 := by decide +kernel
theorem idx1_6 : ∀ t : Fin grid1.N, win1_6.index t 0 = t.val ∧ win1_6.index t 1 = 0 := by decide +kernel
theorem idx1_7 : ∀ t : Fin grid1.N, win1_7.index t 0 = t.val ∧ win1_7.index t 1 = 0 := by decide +kernel
theorem idx1_8 : ∀ t : Fin grid1.N, win1_8.index t 0 = 0 ∧ win1_8.index t 1 = 0 := by decide +kernel
theorem idx1_9 : ∀ t : Fin grid1.N, win1_9.index t 0 = t.val ∧ win1_9.index t 1 = 0 := by decide +kernel
theorem idx1_10 : ∀ t : Fin grid1.N, win1_10.index t 0 = t.val ∧ win1_10.index t 1 = 0 := by decide +kernel
theorem idx1_11 : ∀ t : Fin grid1.N, win1_11.index t 0 = 0 ∧ win1_11.index t 1 = 0 := by decide +kernel
theorem idx1_12 : ∀ t : Fin grid1.N, win1_12.index t 0 = 0 ∧ win1_12.index t 1 = 0 := by decide +kernel

theorem C0_eq (t : Fin cfg0.N) (r : Fin 1024) (d : Fin 1024) : C0 m ρ c t (ix2 r d) = X0 m c (ix3 0 (tok0 t r) d) := by
  rw [← V1_v9 m ρ]
  unfold C0 iblk0
  rw [View.read_apply]
  show W1 m ρ c (Proc.devRef .tc main_v9) _ = _
  congr 1; funext a; apply Fin.ext
  match a with
  | ⟨0, _⟩ => exact tile_row (idx0_0 t).1
  | ⟨1, _⟩ => exact tile_col (idx0_0 t).2

theorem C1_eq (t : Fin cfg0.N) (r : Fin 1024) (d : Fin 1024) : C1 m ρ c t (ix2 r d) = X1 m c (ix3 0 r d) := by
  rw [← V1_v11 m ρ]
  unfold C1 iblk0
  rw [View.read_apply]
  show W1 m ρ c (Proc.devRef .tc main_v11) _ = _
  congr 1; funext a; apply Fin.ext
  match a with
  | ⟨0, _⟩ => exact tile_col (idx0_1 t).1
  | ⟨1, _⟩ => exact tile_col (idx0_1 t).2

theorem C2_eq (t : Fin cfg0.N) (r : Fin 1024) (d : Fin 1024) : C2 m ρ c t (ix2 r d) = X2 m c (ix3 0 (tok0 t r) d) := by
  rw [← V1_v12 m ρ]
  unfold C2 iblk0
  rw [View.read_apply]
  show W1 m ρ c (Proc.devRef .tc main_v12) _ = _
  congr 1; funext a; apply Fin.ext
  match a with
  | ⟨0, _⟩ => exact tile_row (idx0_2 t).1
  | ⟨1, _⟩ => exact tile_col (idx0_2 t).2

theorem C3_eq (t : Fin cfg0.N) (d : Fin 1024) : C3 m ρ c t (ix2 0 d) = X3 m c (ix2 0 d) := by
  unfold C3 iblk0
  rw [View.read_apply]
  show W1 m ρ c (Proc.devRef .tc main_arg3) _ = _
  rw [W1_args m ρ c main_arg3 (by decide)]
  congr 1; funext a; apply Fin.ext
  match a with
  | ⟨0, _⟩ => show win0_3.index t 0 * 1 + 1 * 0 = 0; rw [(idx0_3 t).1]
  | ⟨1, _⟩ => exact tile_col (idx0_3 t).2

theorem C4_eq (t : Fin cfg0.N) (d : Fin 1024) : C4 m ρ c t (ix2 0 d) = X4 m c (ix2 0 d) := by
  unfold C4 iblk0
  rw [View.read_apply]
  show W1 m ρ c (Proc.devRef .tc main_arg4) _ = _
  rw [W1_args m ρ c main_arg4 (by decide)]
  congr 1; funext a; apply Fin.ext
  match a with
  | ⟨0, _⟩ => show win0_4.index t 0 * 1 + 1 * 0 = 0; rw [(idx0_4 t).1]
  | ⟨1, _⟩ => exact tile_col (idx0_4 t).2

section forwardPayload
variable (v0 v2 : Vec Ideal S1024x1024 .bf16) (v6 : Vec Ideal S1024x1024 .f32) (v18 v33 : Vec Ideal S1x1024 .f32) (r : Fin 1024) (y z : Fin 1024 → ℝ)

theorem pay2_apply (d : Fin 1024) : k0_pay2 (F := Ideal) v0 v2 (ix2 r d) = ∑ k, v0 (ix2 r k) * v2 (ix2 k d) := by
  unfold k0_pay2
  pointwise []

theorem pay3_apply (hy : ∀ k, k0_pay2 (F := Ideal) v0 v2 (ix2 r k) = (y k : EReal)) (d : Fin 1024) :
    k0_pay3 (F := Ideal) v0 v2 v6 v18 (ix2 r d) = v6 (ix2 r d) + ((y d * rs y : ℝ) : EReal) * v18 (ix2 0 d) := by
  rw [EReal.coe_mul, ← rs_eq (fun k => k0_pay2 (F := Ideal) v0 v2 (ix2 r k)) y hy, ← hy]
  unfold k0_pay3
  generalize k0_pay2 (F := Ideal) v0 v2 = u
  pointwise []

theorem pay4_apply (hz : ∀ k, k0_pay3 (F := Ideal) v0 v2 v6 v18 (ix2 r k) = (z k : EReal)) (d : Fin 1024) :
    k0_pay1 (F := Ideal) (k0_pay4 v0 v2 v6 v18 v33) (ix2 r d) = ((z d * rs z : ℝ) : EReal) * v33 (ix2 0 d) := by
  rw [EReal.coe_mul, ← rs_eq (fun k => k0_pay3 (F := Ideal) v0 v2 v6 v18 (ix2 r k)) z hz, ← hz]
  unfold k0_pay1 k0_pay4
  generalize k0_pay3 (F := Ideal) v0 v2 v6 v18 = u
  pointwise []

end forwardPayload

variable (a0 : S1x4096x1024.Idx → ℝ) (a1 : S1x1024x1024.Idx → ℝ) (a2 : S1x4096x1024.Idx → ℝ) (a3 a4 : S1x1024.Idx → ℝ)
  (a5 a6 : S1x1024x2816.Idx → ℝ) (a7 a8 : S1x4096x2816.Idx → ℝ) (a9 : S1x4096x1024.Idx → ℝ)
  (h0 : ∀ i, X0 m c i = (a0 i : EReal)) (h1 : ∀ i, X1 m c i = (a1 i : EReal)) (h2 : ∀ i, X2 m c i = (a2 i : EReal)) (h3 : ∀ i, X3 m c i = (a3 i : EReal))
  (h4 : ∀ i, X4 m c i = (a4 i : EReal)) (h5 : ∀ i, X5 m c i = (a5 i : EReal)) (h6 : ∀ i, X6 m c i = (a6 i : EReal)) (h7 : ∀ i, X7 m c i = (a7 i : EReal))
  (h8 : ∀ i, X8 m c i = (a8 i : EReal)) (h9 : ∀ i, X9 m c i = (a9 i : EReal))

/-- The saved projection, the saved residual stream and the gated unit's input, as arrays. -/
def mixOut : S4096x1024.Idx → EReal := fun j => (mix a0 a1 (j 0) (j 1) : EReal)
def x1Out : S4096x1024.Idx → EReal := fun j => (x1r a0 a1 a2 a3 (j 0) (j 1) : EReal)
def h2Out : S4096x1024.Idx → EReal := fun j => (h2r a0 a1 a2 a3 a4 (j 0) (j 1) : EReal)
def dxOut : S4096x1024.Idx → EReal := fun j => (dx1 a0 a1 a2 a3 a4 a5 a6 a7 a8 a9 (j 0) (j 1) : EReal)
def dmOut : S4096x1024.Idx → EReal := fun j => (dmix a0 a1 a2 a3 a4 a5 a6 a7 a8 a9 (j 0) (j 1) : EReal)
/-- The two gains' gradients, in rows of 128. -/
def dgfOut : S8x128.Idx → EReal := fun j => ((∑ t, fterm a0 a1 a2 a3 a5 a6 a7 a8 ⟨(j 0).val * 128 + (j 1).val, by have h : (j 0).val < 8 := (j 0).isLt; have h' : (j 1).val < 128 := (j 1).isLt; omega⟩ t : ℝ) : EReal)
def dgmOut : S8x128.Idx → EReal := fun j => ((∑ t, mterm a0 a1 a2 a3 a4 a5 a6 a7 a8 a9 ⟨(j 0).val * 128 + (j 1).val, by have h : (j 0).val < 8 := (j 0).isLt; have h' : (j 1).val < 128 := (j 1).isLt; omega⟩ t : ℝ) : EReal)

section fwdTiles
include h0 h1

theorem tile_mix (t : Fin cfg0.N) (r d : Fin 1024) : k0_pay2 (F := Ideal) (C0 m ρ c t) (C1 m ρ c t) (ix2 r d) = (mix a0 a1 (tok0 t r) d : EReal) := by
  rw [pay2_apply]
  simp only [C0_eq, C1_eq, h0, h1]
  exact sum_mul_coe _ _ _

include h2 h3

theorem tile_x1 (t : Fin cfg0.N) (r d : Fin 1024) :
    k0_pay3 (F := Ideal) (C0 m ρ c t) (C1 m ρ c t) (C2 m ρ c t) (C3 m ρ c t) (ix2 r d) = (x1r a0 a1 a2 a3 (tok0 t r) d : EReal) := by
  rw [pay3_apply _ _ _ _ r (mix a0 a1 (tok0 t r)) (tile_mix m ρ c a0 a1 h0 h1 t r), C2_eq, C3_eq, h2, h3, ← EReal.coe_mul, ← EReal.coe_add]
  rfl

include h4

theorem tile_h2 (t : Fin cfg0.N) (r d : Fin 1024) :
    k0_pay1 (F := Ideal) (k0_pay4 (C0 m ρ c t) (C1 m ρ c t) (C2 m ρ c t) (C3 m ρ c t) (C4 m ρ c t)) (ix2 r d) = (h2r a0 a1 a2 a3 a4 (tok0 t r) d : EReal) := by
  rw [pay4_apply _ _ _ _ _ r (x1r a0 a1 a2 a3 (tok0 t r)) (tile_x1 m ρ c a0 a1 a2 a3 h0 h1 h2 h3 t r), C4_eq, h4, ← EReal.coe_mul]
  rfl

end fwdTiles

/-! ### The forward call's arrays -/

section fwdArrays
include h0 h1

theorem final0_5 : (dat0 (V1 m ρ) c).arrAt 5 cfg0.N = mixOut a0 a1 := by
  refine (dat0 (V1 m ρ) c).arrAt_eq_of_cover 5 (mixOut a0 a1) (fun t hf => ?_) fun i => ?_
  · funext j
    show (dat0 (V1 m ρ) c).after 5 t j = mixOut a0 a1 (((cfg0.win 5).blk t).view.emb j)
    rw [after0_5, out0_5_eq]
    obtain ⟨r, d, rfl⟩ : ∃ r d : Fin 1024, j = ix2 r d := ⟨_, _, eq_ix2 j⟩
    refine (tile_mix m ρ c a0 a1 h0 h1 t r d).trans ?_
    show mixOut a0 a1 (ix2 (tok0 t r) d) = _
    congr 1; funext a; apply Fin.ext
    match a with
    | ⟨0, _⟩ => exact (tile_row (idx0_5 t).1).symm
    | ⟨1, _⟩ => exact (tile_col (idx0_5 t).2).symm
  · have i0 : (i 0 : Nat) < 4096 := (i 0).isLt
    have i1 : (i 1 : Nat) < 1024 := (i 1).isLt
    have hN : cfg0.N = 4 := N_0
    let t : Fin cfg0.N := ⟨(i 0 : Nat) / 1024, by omega⟩
    refine ⟨t, flush0_5 t, mem_tile fun a => ?_⟩
    match a with
    | ⟨0, _⟩ => exact tile_div (Nat.succ_pos _) (idx0_5 t).1
    | ⟨1, _⟩ => exact tile_zero (idx0_5 t).2 i1

include h2 h3

theorem final0_6 : (dat0 (V1 m ρ) c).arrAt 6 cfg0.N = x1Out a0 a1 a2 a3 := by
  refine (dat0 (V1 m ρ) c).arrAt_eq_of_cover 6 (x1Out a0 a1 a2 a3) (fun t hf => ?_) fun i => ?_
  · funext j
    show (dat0 (V1 m ρ) c).after 6 t j = x1Out a0 a1 a2 a3 (((cfg0.win 6).blk t).view.emb j)
    rw [after0_6, out0_6_eq]
    obtain ⟨r, d, rfl⟩ : ∃ r d : Fin 1024, j = ix2 r d := ⟨_, _, eq_ix2 j⟩
    refine (tile_x1 m ρ c a0 a1 a2 a3 h0 h1 h2 h3 t r d).trans ?_
    show x1Out a0 a1 a2 a3 (ix2 (tok0 t r) d) = _
    congr 1; funext a; apply Fin.ext
    match a with
    | ⟨0, _⟩ => exact (tile_row (idx0_6 t).1).symm
    | ⟨1, _⟩ => exact (tile_col (idx0_6 t).2).symm
  · have i0 : (i 0 : Nat) < 4096 := (i 0).isLt
    have i1 : (i 1 : Nat) < 1024 := (i 1).isLt
    have hN : cfg0.N = 4 := N_0
    let t : Fin cfg0.N := ⟨(i 0 : Nat) / 1024, by omega⟩
    refine ⟨t, flush0_6 t, mem_tile fun a => ?_⟩
    match a with
    | ⟨0, _⟩ => exact tile_div (Nat.succ_pos _) (idx0_6 t).1
    | ⟨1, _⟩ => exact tile_zero (idx0_6 t).2 i1

include h4

theorem final0_7 : (dat0 (V1 m ρ) c).arrAt 7 cfg0.N = h2Out a0 a1 a2 a3 a4 := by
  refine (dat0 (V1 m ρ) c).arrAt_eq_of_cover 7 (h2Out a0 a1 a2 a3 a4) (fun t hf => ?_) fun i => ?_
  · funext j
    show (dat0 (V1 m ρ) c).after 7 t j = h2Out a0 a1 a2 a3 a4 (((cfg0.win 7).blk t).view.emb j)
    rw [after0_7, out0_7_eq]
    obtain ⟨r, d, rfl⟩ : ∃ r d : Fin 1024, j = ix2 r d := ⟨_, _, eq_ix2 j⟩
    refine (tile_h2 m ρ c a0 a1 a2 a3 a4 h0 h1 h2 h3 h4 t r d).trans ?_
    show h2Out a0 a1 a2 a3 a4 (ix2 (tok0 t r) d) = _
    congr 1; funext a; apply Fin.ext
    match a with
    | ⟨0, _⟩ => exact (tile_row (idx0_7 t).1).symm
    | ⟨1, _⟩ => exact (tile_col (idx0_7 t).2).symm
  · have i0 : (i 0 : Nat) < 4096 := (i 0).isLt
    have i1 : (i 1 : Nat) < 1024 := (i 1).isLt
    have hN : cfg0.N = 4 := N_0
    let t : Fin cfg0.N := ⟨(i 0 : Nat) / 1024, by omega⟩
    refine ⟨t, flush0_7 t, mem_tile fun a => ?_⟩
    match a with
    | ⟨0, _⟩ => exact tile_div (Nat.succ_pos _) (idx0_7 t).1
    | ⟨1, _⟩ => exact tile_zero (idx0_7 t).2 i1

end fwdArrays

end Cert.UpIdeal.Val
end
-- ==== Proof.UpKernel.lean ====
/-
  The feed-forward norm's backward call, after the forward call: the residual stream's cotangent, the projected mixers'
  output's cotangent and the two gains' gradients, as the reals of the derivative; and the run that leaves them.
-/
module

public import proofs.«01_k».proof.Proof.UpForward

@[expose] public section

set_option maxRecDepth 16384

noncomputable section

namespace Cert.UpIdeal.Val

open Cert.UpIdeal Cert.UpIdeal.Gen Idealize.ShloMosaic Idealize.ShloMosaic.TcCoe
open Cert.Reals Cert.Norm
open Cert.UpRefIdeal.Val (mix x1r h2r dh dnf dx1 dnm dmix fterm mterm)
open scoped BigOperators

variable (m : (ℓ : Loc nD τ sig) → Buf (Elt Ideal) ℓ) (ρ : Dev nD → PrngReg) (c : Dev nD)

/-! ### The backward call's tiles of the arrays it is entered with -/

theorem B0_eq (t : Fin cfg1.N) (r : Fin 512) (d : Fin 2816) : B0 (V3 m ρ) c t (ix2 r d) = X7 m c (ix3 0 (tok t r) d) := by
  rw [← V3_v15 m ρ]
  unfold B0 iblk1
  rw [View.read_apply]
  show W3 m ρ c (Proc.devRef .tc main_v15) _ = _
  congr 1; funext a; apply Fin.ext
  match a with
  | ⟨0, _⟩ => exact tile_row (idx1_0 t).1
  | ⟨1, _⟩ => exact tile_col (idx1_0 t).2

theorem B1_eq (t : Fin cfg1.N) (r : Fin 512) (d : Fin 2816) : B1 (V3 m ρ) c t (ix2 r d) = X8 m c (ix3 0 (tok t r) d) := by
  rw [← V3_v17 m ρ]
  unfold B1 iblk1
  rw [View.read_apply]
  show W3 m ρ c (Proc.devRef .tc main_v17) _ = _
  congr 1; funext a; apply Fin.ext
  match a with
  | ⟨0, _⟩ => exact tile_row (idx1_1 t).1
  | ⟨1, _⟩ => exact tile_col (idx1_1 t).2

theorem B6_eq (t : Fin cfg1.N) (r : Fin 512) (d : Fin 1024) : B6 (V3 m ρ) c t (ix2 r d) = X9 m c (ix3 0 (tok t r) d) := by
  rw [← V3_v18 m ρ]
  unfold B6 iblk1
  rw [View.read_apply]
  show W3 m ρ c (Proc.devRef .tc main_v18) _ = _
  congr 1; funext a; apply Fin.ext
  match a with
  | ⟨0, _⟩ => exact tile_row (idx1_6 t).1
  | ⟨1, _⟩ => exact tile_col (idx1_6 t).2

theorem B2_eq (t : Fin cfg1.N) (a : Fin 8) (b : Fin 352) (d : Fin 1024) : B2 (V3 m ρ) c t (ix3 a b d) = X5 m c (ix3 0 d ⟨a.val * 352 + b.val, by omega⟩) := by
  rw [← V1_v3 m ρ, ← V3_v3]
  unfold B2 iblk1
  rw [View.read_apply]
  show W3 m ρ c (Proc.devRef .tc main_v3) _ = _
  congr 1; funext e; apply Fin.ext
  match e with
  | ⟨0, _⟩ => exact tile_col (idx1_2 t).1
  | ⟨1, _⟩ => exact tile_col (idx1_2 t).2.1
  | ⟨2, _⟩ => exact tile_col (idx1_2 t).2.2

theorem B3_eq (t : Fin cfg1.N) (a : Fin 8) (b : Fin 352) (d : Fin 1024) : B3 (V3 m ρ) c t (ix3 a b d) = X6 m c (ix3 0 d ⟨a.val * 352 + b.val, by omega⟩) := by
  rw [← V1_v7 m ρ, ← V3_v7]
  unfold B3 iblk1
  rw [View.read_apply]
  show W3 m ρ c (Proc.devRef .tc main_v7) _ = _
  congr 1; funext e; apply Fin.ext
  match e with
  | ⟨0, _⟩ => exact tile_col (idx1_3 t).1
  | ⟨1, _⟩ => exact tile_col (idx1_3 t).2.1
  | ⟨2, _⟩ => exact tile_col (idx1_3 t).2.2

theorem B5_eq (t : Fin cfg1.N) (d : Fin 1024) : B5 (V3 m ρ) c t (ix2 0 d) = X4 m c (ix2 0 d) := by
  unfold B5 iblk1
  rw [View.read_apply]
  show W3 m ρ c (Proc.devRef .tc main_arg4) _ = _
  rw [W3_args m ρ c main_arg4 (by decide)]
  congr 1; funext a; apply Fin.ext
  match a with
  | ⟨0, _⟩ => show win1_5.index t 0 * 1 + 1 * 0 = 0; rw [(idx1_5 t).1]
  | ⟨1, _⟩ => exact tile_col (idx1_5 t).2

theorem B8_eq (t : Fin cfg1.N) (d : Fin 1024) : B8 (V3 m ρ) c t (ix2 0 d) = X3 m c (ix2 0 d) := by
  unfold B8 iblk1
  rw [View.read_apply]
  show W3 m ρ c (Proc.devRef .tc main_arg3) _ = _
  rw [W3_args m ρ c main_arg3 (by decide)]
  congr 1; funext a; apply Fin.ext
  match a with
  | ⟨0, _⟩ => show win1_8.index t 0 * 1 + 1 * 0 = 0; rw [(idx1_8 t).1]
  | ⟨1, _⟩ => exact tile_col (idx1_8 t).2

variable (a0 : S1x4096x1024.Idx → ℝ) (a1 : S1x1024x1024.Idx → ℝ) (a2 : S1x4096x1024.Idx → ℝ) (a3 a4 : S1x1024.Idx → ℝ)
  (a5 a6 : S1x1024x2816.Idx → ℝ) (a7 a8 : S1x4096x2816.Idx → ℝ) (a9 : S1x4096x1024.Idx → ℝ)
  (h0 : ∀ i, X0 m c i = (a0 i : EReal)) (h1 : ∀ i, X1 m c i = (a1 i : EReal)) (h2 : ∀ i, X2 m c i = (a2 i : EReal)) (h3 : ∀ i, X3 m c i = (a3 i : EReal))
  (h4 : ∀ i, X4 m c i = (a4 i : EReal)) (h5 : ∀ i, X5 m c i = (a5 i : EReal)) (h6 : ∀ i, X6 m c i = (a6 i : EReal)) (h7 : ∀ i, X7 m c i = (a7 i : EReal))
  (h8 : ∀ i, X8 m c i = (a8 i : EReal)) (h9 : ∀ i, X9 m c i = (a9 i : EReal))

section saved
include h0 h1

/-- The saved projection, as the backward call reads it. -/
theorem B7_eq (t : Fin cfg1.N) (r : Fin 512) (d : Fin 1024) : B7 (V3 m ρ) c t (ix2 r d) = (mix a0 a1 (tok t r) d : EReal) := by
  have e : (W3 m ρ c (Proc.devRef .tc main_v13_0) : S4096x1024.Idx → EReal) = mixOut a0 a1 :=
    (W3_of m ρ c main_v13_0 (by decide)).trans ((W2_arr m ρ c 5).trans (final0_5 m ρ c a0 a1 h0 h1))
  show _ = mixOut a0 a1 (ix2 (tok t r) d)
  rw [← e]
  unfold B7 iblk1
  rw [View.read_apply]
  show W3 m ρ c (Proc.devRef .tc main_v13_0) _ = _
  congr 1; funext a; apply Fin.ext
  match a with
  | ⟨0, _⟩ => exact tile_row (idx1_7 t).1
  | ⟨1, _⟩ => exact tile_col (idx1_7 t).2

include h2 h3

/-- The saved residual stream, as the backward call reads it. -/
theorem B4_eq (t : Fin cfg1.N) (r : Fin 512) (d : Fin 1024) : B4 (V3 m ρ) c t (ix2 r d) = (x1r a0 a1 a2 a3 (tok t r) d : EReal) := by
  have e : (W3 m ρ c (Proc.devRef .tc main_v13_1) : S4096x1024.Idx → EReal) = x1Out a0 a1 a2 a3 :=
    (W3_of m ρ c main_v13_1 (by decide)).trans ((W2_arr m ρ c 6).trans (final0_6 m ρ c a0 a1 a2 a3 h0 h1 h2 h3))
  show _ = x1Out a0 a1 a2 a3 (ix2 (tok t r) d)
  rw [← e]
  unfold B4 iblk1
  rw [View.read_apply]
  show W3 m ρ c (Proc.devRef .tc main_v13_1) _ = _
  congr 1; funext a; apply Fin.ext
  match a with
  | ⟨0, _⟩ => exact tile_row (idx1_4 t).1
  | ⟨1, _⟩ => exact tile_col (idx1_4 t).2

end saved

/-! ### The payloads at an index -/

section payloads
variable (w0 w1 : Vec Ideal S512x2816 .bf16) (w2 w3 : Vec Ideal S8x352x1024 .bf16) (w4 : Vec Ideal S512x1024 .f32) (w5 : Vec Ideal S1x1024 .f32)
  (w6 w7 : Vec Ideal S512x1024 .f32) (w8 : Vec Ideal S1x1024 .f32) (r : Fin 512) (x y z : Fin 1024 → ℝ)

theorem pay5_apply (d : Fin 1024) : k1_pay5 (F := Ideal) w0 w2 w1 w3 (ix2 r d)
    = (∑ n : Fin 2816, w0 (ix2 r n) * w2 (ix3 ⟨n.val / 352, by omega⟩ ⟨n.val % 352, by omega⟩ d))
      + ∑ n : Fin 2816, w1 (ix2 r n) * w3 (ix3 ⟨n.val / 352, by omega⟩ ⟨n.val % 352, by omega⟩ d) := by
  unfold k1_pay5
  pointwise []

theorem pay7_apply (hx : ∀ k, w4 (ix2 r k) = (x k : EReal)) : k1_pay7 (F := Ideal) w4 (ix2 r 0) = (rs x : EReal) := by
  rw [← rs_eq (fun k => w4 (ix2 r k)) x hx]
  unfold k1_pay7 k1_pay6
  pointwise []

theorem pay8_apply (hx : ∀ k, w4 (ix2 r k) = (x k : EReal)) (d : Fin 1024) : k1_pay8 (F := Ideal) w4 (ix2 r d) = (x d : EReal) * (rs x : EReal) := by
  rw [← pay7_apply w4 r x hx, ← hx]
  unfold k1_pay8 k1_pay6
  generalize k1_pay7 (F := Ideal) w4 = u
  pointwise []

theorem pay9_apply (d : Fin 1024) : k1_pay9 (F := Ideal) w0 w2 w1 w3 w5 (ix2 r d) = k1_pay5 (F := Ideal) w0 w2 w1 w3 (ix2 r d) * w5 (ix2 0 d) := by
  unfold k1_pay9
  generalize k1_pay5 (F := Ideal) w0 w2 w1 w3 = u
  pointwise []

theorem pay10_apply : k1_pay10 (F := Ideal) w0 w2 w1 w3 w4 w5 (ix2 r 0)
    = ∑ k, k1_pay9 (F := Ideal) w0 w2 w1 w3 w5 (ix2 r k) * k1_pay8 (F := Ideal) w4 (ix2 r k) := by
  unfold k1_pay10
  generalize k1_pay9 (F := Ideal) w0 w2 w1 w3 w5 = u
  generalize k1_pay8 (F := Ideal) w4 = v
  pointwise []

theorem pay12_apply (u7 : FVec Ideal S512x1 .f32) (u8 u9 : FVec Ideal S512x1024 .f32) (u10 : FVec Ideal S512x1 .f32) (d : Fin 1024) :
    k1_pay12 (F := Ideal) u7 u8 u9 u10 (k1_pay11 (F := Ideal)) w6 (ix2 r d)
      = w6 (ix2 r d) + u7 (ix2 r 0) * (u9 (ix2 r d) - u8 (ix2 r d) * Ideal.div (u10 (ix2 r 0)) (Ideal.ofBits .f32 0x44800000#32)) := by
  unfold k1_pay12 k1_pay11
  pointwise []

/-- The residual stream's cotangent at an index: what it was, plus the norm's gradient. -/
theorem tdx_apply (hx : ∀ k, w4 (ix2 r k) = (x k : EReal)) (hy : ∀ k, k1_pay5 (F := Ideal) w0 w2 w1 w3 (ix2 r k) * w5 (ix2 0 k) = (y k : EReal)) (d : Fin 1024) :
    tdx (F := Ideal) w0 w1 w2 w3 w4 w5 w6 (ix2 r d) = w6 (ix2 r d) + (grad x y d : EReal) := by
  unfold tdx
  rw [pay12_apply, pay7_apply w4 r x hx, pay10_apply, pay8_apply w4 r x hx]
  simp only [pay9_apply, hy, pay8_apply w4 r x hx]
  rw [grad_eq]

theorem pay15_apply (hx : ∀ k, w7 (ix2 r k) = (x k : EReal)) : k1_pay15 (F := Ideal) w7 (ix2 r 0) = (rs x : EReal) := by
  rw [← rs_eq (fun k => w7 (ix2 r k)) x hx]
  unfold k1_pay15 k1_pay14
  pointwise []

theorem pay16_apply (hx : ∀ k, w7 (ix2 r k) = (x k : EReal)) (d : Fin 1024) : k1_pay16 (F := Ideal) w7 (ix2 r d) = (x d : EReal) * (rs x : EReal) := by
  rw [← pay15_apply w7 r x hx, ← hx]
  unfold k1_pay16 k1_pay14
  generalize k1_pay15 (F := Ideal) w7 = u
  pointwise []

theorem pay17_apply (u7 : FVec Ideal S512x1 .f32) (u8 u9 : FVec Ideal S512x1024 .f32) (u10 u11 : FVec Ideal S512x1 .f32) (d : Fin 1024) :
    k1_pay17 (F := Ideal) u7 u8 u9 u10 u11 w6 w8 (ix2 r d) = k1_pay12 (F := Ideal) u7 u8 u9 u10 u11 w6 (ix2 r d) * w8 (ix2 0 d) := by
  unfold k1_pay17
  generalize k1_pay12 (F := Ideal) u7 u8 u9 u10 u11 w6 = u
  pointwise []

theorem pay18_apply (u7 : FVec Ideal S512x1 .f32) (u8 u9 : FVec Ideal S512x1024 .f32) (u10 u11 : FVec Ideal S512x1 .f32) (d : Fin 1024) :
    k1_pay18 (F := Ideal) u7 u8 u9 u10 u11 w6 w7 w8 (ix2 r d)
      = k1_pay17 (F := Ideal) u7 u8 u9 u10 u11 w6 w8 (ix2 r d) * k1_pay16 (F := Ideal) w7 (ix2 r d) := by
  unfold k1_pay18
  generalize k1_pay17 (F := Ideal) u7 u8 u9 u10 u11 w6 w8 = u
  generalize k1_pay16 (F := Ideal) w7 = v
  pointwise []

theorem pay1_apply (u15 : FVec Ideal S512x1 .f32) (u16 u17 u18 : FVec Ideal S512x1024 .f32) (d : Fin 1024) :
    k1_pay1 (F := Ideal) u15 u16 u17 u18 (ix2 r d)
      = u15 (ix2 r 0) * (u17 (ix2 r d) - u16 (ix2 r d) * Ideal.div (∑ k, u18 (ix2 r k)) (Ideal.ofBits .f32 0x44800000#32)) := by
  unfold k1_pay1
  pointwise []

/-- The projected mixers' output's cotangent at an index: the norm's gradient. -/
theorem tdm_apply (hx : ∀ k, w7 (ix2 r k) = (x k : EReal)) (hy : ∀ k, tdx (F := Ideal) w0 w1 w2 w3 w4 w5 w6 (ix2 r k) * w8 (ix2 0 k) = (y k : EReal)) (d : Fin 1024) :
    tdm (F := Ideal) w0 w1 w2 w3 w4 w5 w6 w7 w8 (ix2 r d) = (grad x y d : EReal) := by
  unfold tdm
  rw [pay1_apply, pay15_apply w7 r x hx, pay16_apply w7 r x hx]
  simp only [pay18_apply, pay17_apply, hy, pay16_apply w7 r x hx]
  rw [grad_eq]

variable (v15 v28 : FVec Ideal S512x1024 .f32) (v46 : Vec Ideal S8x128 .f32)

/-- One tile's sum over its rows, laid out in rows of 128. -/
theorem pay13_apply (p : Fin 8) (q : Fin 128) : k1_pay13 (F := Ideal) v15 v28 v46 (ix2 p q)
    = v46 (ix2 p q) + ∑ r : Fin 512, v15 (ix2 r ⟨p.val * 128 + q.val, by omega⟩) * v28 (ix2 r ⟨p.val * 128 + q.val, by omega⟩) := by
  unfold k1_pay13
  pointwise []
  congr 1
  split_ifs <;> exact Finset.sum_congr rfl fun x _ => congrArg (fun k => v15 (ix2 x k) * v28 (ix2 x k)) (Fin.ext (by dsimp only; omega))

theorem pay2r_apply (p : Fin 8) (q : Fin 128) : k1_pay2 (F := Ideal) v15 v28 v46 (ix2 p q)
    = v46 (ix2 p q) + ∑ r : Fin 512, v15 (ix2 r ⟨p.val * 128 + q.val, by omega⟩) * v28 (ix2 r ⟨p.val * 128 + q.val, by omega⟩) := by
  unfold k1_pay2
  pointwise []
  congr 1
  split_ifs <;> exact Finset.sum_congr rfl fun x _ => congrArg (fun k => v15 (ix2 x k) * v28 (ix2 x k)) (Fin.ext (by dsimp only; omega))

theorem pay3r_apply (p : Fin 8) (q : Fin 128) : k1_pay3 (F := Ideal) (ix2 p q) = 0 := by
  unfold k1_pay3
  pointwise []

theorem pay4r_apply (p : Fin 8) (q : Fin 128) : k1_pay4 (F := Ideal) (ix2 p q) = 0 := by
  unfold k1_pay4
  pointwise []

end payloads

/-! ### The tiles -/

section tiles
include h5 h6 h7 h8

theorem tile_dh (t : Fin cfg1.N) (r : Fin 512) (d : Fin 1024) :
    k1_pay5 (F := Ideal) (B0 (V3 m ρ) c t) (B2 (V3 m ρ) c t) (B1 (V3 m ρ) c t) (B3 (V3 m ρ) c t) (ix2 r d) = (dh a5 a6 a7 a8 (tok t r) d : EReal) := by
  rw [pay5_apply]
  simp only [B0_eq, B1_eq, B2_eq, B3_eq, h5, h6, h7, h8]
  unfold dh
  rw [EReal.coe_add, ← sum_coe, ← sum_coe]
  congr 1

include h0 h1 h2 h3 h4 h9

theorem tile_dx (t : Fin cfg1.N) (r : Fin 512) (d : Fin 1024) :
    Tdx (V3 m ρ) c t (ix2 r d) = (dx1 a0 a1 a2 a3 a4 a5 a6 a7 a8 a9 (tok t r) d : EReal) := by
  unfold Tdx
  rw [tdx_apply _ _ _ _ _ _ _ r (x1r a0 a1 a2 a3 (tok t r)) (dnf a4 a5 a6 a7 a8 (tok t r)) (B4_eq m ρ c a0 a1 a2 a3 h0 h1 h2 h3 t r)
    (fun k => by rw [tile_dh m ρ c a5 a6 a7 a8 h5 h6 h7 h8, B5_eq, h4, ← EReal.coe_mul]; rfl), B6_eq, h9, ← EReal.coe_add]
  rfl

theorem tile_dm (t : Fin cfg1.N) (r : Fin 512) (d : Fin 1024) :
    Tdm (V3 m ρ) c t (ix2 r d) = (dmix a0 a1 a2 a3 a4 a5 a6 a7 a8 a9 (tok t r) d : EReal) := by
  unfold Tdm
  rw [tdm_apply _ _ _ _ _ _ _ _ _ r (mix a0 a1 (tok t r)) (dnm a0 a1 a2 a3 a4 a5 a6 a7 a8 a9 (tok t r)) (B7_eq m ρ c a0 a1 h0 h1 t r)
    (fun k => by
      have e := tile_dx m ρ c a0 a1 a2 a3 a4 a5 a6 a7 a8 a9 h0 h1 h2 h3 h4 h5 h6 h7 h8 h9 t r k
      unfold Tdx at e
      rw [e, B8_eq, h3, ← EReal.coe_mul]; rfl)]
  rfl

theorem outs11 (p : Fin 8) (q : Fin 128) : ∀ (n : ℕ) (hn : n < cfg1.N),
    (outsAt1 (V3 m ρ) c n hn).2.2.1 (ix2 p q) = (upto (fterm a0 a1 a2 a3 a5 a6 a7 a8 ⟨p.val * 128 + q.val, by omega⟩) (512 * n + 512) : EReal)
  | 0, hn => by
    rw [point11_zero (V3 m ρ) c hn, pay13_apply, pay3r_apply, zero_add, upto_add _ _ _ (by norm_num), upto_zero, zero_add, ← sum_coe]
    refine Finset.sum_congr rfl fun r _ => ?_
    rw [tile_dh m ρ c a5 a6 a7 a8 h5 h6 h7 h8, pay8_apply _ r _ (B4_eq m ρ c a0 a1 a2 a3 h0 h1 h2 h3 ⟨0, hn⟩ r), ← EReal.coe_mul, ← EReal.coe_mul]
    rfl
  | n + 1, hn => by
    have hN : cfg1.N = 8 := N_1
    rw [point11_succ (V3 m ρ) c n hn, pay13_apply, outs11 p q n, show 512 * (n + 1) + 512 = (512 * n + 512) + 512 by ring, upto_add _ (512 * n + 512) _ (by omega), EReal.coe_add, ← sum_coe]
    refine congrArg _ (Finset.sum_congr rfl fun r _ => ?_)
    rw [tile_dh m ρ c a5 a6 a7 a8 h5 h6 h7 h8, pay8_apply _ r _ (B4_eq m ρ c a0 a1 a2 a3 h0 h1 h2 h3 ⟨n + 1, hn⟩ r), ← EReal.coe_mul, ← EReal.coe_mul]
    rfl

theorem outs12 (p : Fin 8) (q : Fin 128) : ∀ (n : ℕ) (hn : n < cfg1.N),
    (outsAt1 (V3 m ρ) c n hn).2.2.2 (ix2 p q) = (upto (mterm a0 a1 a2 a3 a4 a5 a6 a7 a8 a9 ⟨p.val * 128 + q.val, by omega⟩) (512 * n + 512) : EReal)
  | 0, hn => by
    rw [point12_zero (V3 m ρ) c hn, pay2r_apply, pay4r_apply, zero_add, upto_add _ _ _ (by norm_num), upto_zero, zero_add, ← sum_coe]
    refine Finset.sum_congr rfl fun r _ => ?_
    rw [tile_dx m ρ c a0 a1 a2 a3 a4 a5 a6 a7 a8 a9 h0 h1 h2 h3 h4 h5 h6 h7 h8 h9, pay16_apply _ r _ (B7_eq m ρ c a0 a1 h0 h1 ⟨0, hn⟩ r), ← EReal.coe_mul, ← EReal.coe_mul]
    rfl
  | n + 1, hn => by
    have hN : cfg1.N = 8 := N_1
    rw [point12_succ (V3 m ρ) c n hn, pay2r_apply, outs12 p q n, show 512 * (n + 1) + 512 = (512 * n + 512) + 512 by ring, upto_add _ (512 * n + 512) _ (by omega), EReal.coe_add, ← sum_coe]
    refine congrArg _ (Finset.sum_congr rfl fun r _ => ?_)
    rw [tile_dx m ρ c a0 a1 a2 a3 a4 a5 a6 a7 a8 a9 h0 h1 h2 h3 h4 h5 h6 h7 h8 h9, pay16_apply _ r _ (B7_eq m ρ c a0 a1 h0 h1 ⟨n + 1, hn⟩ r), ← EReal.coe_mul, ← EReal.coe_mul]
    rfl

/-! ### The backward call's arrays -/

theorem final1_9 : (dat1 (V3 m ρ) c).arrAt 9 cfg1.N = dxOut a0 a1 a2 a3 a4 a5 a6 a7 a8 a9 := by
  refine (dat1 (V3 m ρ) c).arrAt_eq_of_cover 9 (dxOut a0 a1 a2 a3 a4 a5 a6 a7 a8 a9) (fun t hf => ?_) fun i => ?_
  · funext j
    show (dat1 (V3 m ρ) c).after 9 t j = dxOut a0 a1 a2 a3 a4 a5 a6 a7 a8 a9 (((cfg1.win 9).blk t).view.emb j)
    rw [after1_9, point9]
    obtain ⟨r, d, rfl⟩ : ∃ (r : Fin 512) (d : Fin 1024), j = ix2 r d := ⟨_, _, eq_ix2 j⟩
    refine (tile_dx m ρ c a0 a1 a2 a3 a4 a5 a6 a7 a8 a9 h0 h1 h2 h3 h4 h5 h6 h7 h8 h9 t r d).trans ?_
    show dxOut a0 a1 a2 a3 a4 a5 a6 a7 a8 a9 (ix2 (tok t r) d) = _
    congr 1; funext a; apply Fin.ext
    match a with
    | ⟨0, _⟩ => exact (tile_row (idx1_9 t).1).symm
    | ⟨1, _⟩ => exact (tile_col (idx1_9 t).2).symm
  · have i0 : (i 0 : Nat) < 4096 := (i 0).isLt
    have i1 : (i 1 : Nat) < 1024 := (i 1).isLt
    have hN : cfg1.N = 8 := N_1
    let t : Fin cfg1.N := ⟨(i 0 : Nat) / 512, by omega⟩
    refine ⟨t, flush1_9 t, mem_tile fun a => ?_⟩
    match a with
    | ⟨0, _⟩ => exact tile_div (Nat.succ_pos _) (idx1_9 t).1
    | ⟨1, _⟩ => exact tile_zero (idx1_9 t).2 i1

theorem final1_10 : (dat1 (V3 m ρ) c).arrAt 10 cfg1.N = dmOut a0 a1 a2 a3 a4 a5 a6 a7 a8 a9 := by
  refine (dat1 (V3 m ρ) c).arrAt_eq_of_cover 10 (dmOut a0 a1 a2 a3 a4 a5 a6 a7 a8 a9) (fun t hf => ?_) fun i => ?_
  · funext j
    show (dat1 (V3 m ρ) c).after 10 t j = dmOut a0 a1 a2 a3 a4 a5 a6 a7 a8 a9 (((cfg1.win 10).blk t).view.emb j)
    rw [after1_10, point10]
    obtain ⟨r, d, rfl⟩ : ∃ (r : Fin 512) (d : Fin 1024), j = ix2 r d := ⟨_, _, eq_ix2 j⟩
    refine (tile_dm m ρ c a0 a1 a2 a3 a4 a5 a6 a7 a8 a9 h0 h1 h2 h3 h4 h5 h6 h7 h8 h9 t r d).trans ?_
    show dmOut a0 a1 a2 a3 a4 a5 a6 a7 a8 a9 (ix2 (tok t r) d) = _
    congr 1; funext a; apply Fin.ext
    match a with
    | ⟨0, _⟩ => exact (tile_row (idx1_10 t).1).symm
    | ⟨1, _⟩ => exact (tile_col (idx1_10 t).2).symm
  · have i0 : (i 0 : Nat) < 4096 := (i 0).isLt
    have i1 : (i 1 : Nat) < 1024 := (i 1).isLt
    have hN : cfg1.N = 8 := N_1
    let t : Fin cfg1.N := ⟨(i 0 : Nat) / 512, by omega⟩
    refine ⟨t, flush1_10 t, mem_tile fun a => ?_⟩
    match a with
    | ⟨0, _⟩ => exact tile_div (Nat.succ_pos _) (idx1_10 t).1
    | ⟨1, _⟩ => exact tile_zero (idx1_10 t).2 i1

theorem final1_11 : (dat1 (V3 m ρ) c).arrAt 11 cfg1.N = dgfOut a0 a1 a2 a3 a5 a6 a7 a8 := by
  have hN : cfg1.N = 8 := N_1
  refine (dat1 (V3 m ρ) c).arrAt_eq_of_cover 11 (dgfOut a0 a1 a2 a3 a5 a6 a7 a8) (fun t hf => ?_) fun i => ?_
  · have h7' : t.val = 7 := by have := (flush1_11 t).mp hf; have := t.isLt; omega
    funext j
    show (dat1 (V3 m ρ) c).after 11 t j = dgfOut a0 a1 a2 a3 a5 a6 a7 a8 (((cfg1.win 11).blk t).view.emb j)
    rw [after1_11]
    obtain ⟨p, q, rfl⟩ : ∃ (p : Fin 8) (q : Fin 128), j = ix2 p q := ⟨_, _, eq_ix2 j⟩
    have ej : ((cfg1.win 11).blk t).view.emb (ix2 p q) = (ix2 p q : S8x128.Idx) := by
      funext a; apply Fin.ext
      match a with
      | ⟨0, _⟩ => exact tile_col (idx1_11 t).1
      | ⟨1, _⟩ => exact tile_col (idx1_11 t).2
    rw [ej, outs11 m ρ c a0 a1 a2 a3 a4 a5 a6 a7 a8 a9 h0 h1 h2 h3 h4 h5 h6 h7 h8 h9 p q t.val t.isLt, h7', upto_all]
    rfl
  · have i0 : (i 0 : Nat) < 8 := (i 0).isLt
    have i1 : (i 1 : Nat) < 128 := (i 1).isLt
    let t : Fin cfg1.N := ⟨7, by omega⟩
    refine ⟨t, (flush1_11 t).mpr rfl, mem_tile fun a => ?_⟩
    match a with
    | ⟨0, _⟩ => exact tile_zero (idx1_11 t).1 i0
    | ⟨1, _⟩ => exact tile_zero (idx1_11 t).2 i1

theorem final1_12 : (dat1 (V3 m ρ) c).arrAt 12 cfg1.N = dgmOut a0 a1 a2 a3 a4 a5 a6 a7 a8 a9 := by
  have hN : cfg1.N = 8 := N_1
  refine (dat1 (V3 m ρ) c).arrAt_eq_of_cover 12 (dgmOut a0 a1 a2 a3 a4 a5 a6 a7 a8 a9) (fun t hf => ?_) fun i => ?_
  · have h7' : t.val = 7 := by have := (flush1_12 t).mp hf; have := t.isLt; omega
    funext j
    show (dat1 (V3 m ρ) c).after 12 t j = dgmOut a0 a1 a2 a3 a4 a5 a6 a7 a8 a9 (((cfg1.win 12).blk t).view.emb j)
    rw [after1_12]
    obtain ⟨p, q, rfl⟩ : ∃ (p : Fin 8) (q : Fin 128), j = ix2 p q := ⟨_, _, eq_ix2 j⟩
    have ej : ((cfg1.win 12).blk t).view.emb (ix2 p q) = (ix2 p q : S8x128.Idx) := by
      funext a; apply Fin.ext
      match a with
      | ⟨0, _⟩ => exact tile_col (idx1_12 t).1
      | ⟨1, _⟩ => exact tile_col (idx1_12 t).2
    rw [ej, outs12 m ρ c a0 a1 a2 a3 a4 a5 a6 a7 a8 a9 h0 h1 h2 h3 h4 h5 h6 h7 h8 h9 p q t.val t.isLt, h7', upto_all]
    rfl
  · have i0 : (i 0 : Nat) < 8 := (i 0).isLt
    have i1 : (i 1 : Nat) < 128 := (i 1).isLt
    let t : Fin cfg1.N := ⟨7, by omega⟩
    refine ⟨t, (flush1_12 t).mpr rfl, mem_tile fun a => ?_⟩
    match a with
    | ⟨0, _⟩ => exact tile_zero (idx1_12 t).1 i0
    | ⟨1, _⟩ => exact tile_zero (idx1_12 t).2 i1

end tiles

end Cert.UpIdeal.Val
end
-- ==== Proof.Up.lean ====
/-
  The feed-forward norm's backward call: its reference's frame and the equality of its five results with the derivative of
  the forward lines, on finite arguments.
-/
module

public import proofs.«01_k».proof.Defs
public import proofs.«01_k».proof.Proof.Gen.Up.Frame
public import proofs.«01_k».proof.Proof.Gen.Pre_finite_up
public import proofs.«01_k».proof.Proof.UpKernel
public import Idealize.ShloMosaic.Lib.Quiescent

@[expose] public section

noncomputable section

namespace Cert.UpProof

open Idealize.ShloMosaic Idealize.ShloMosaic.TcCoe Idealize.SL.Sem
open Cert.Reals

section run
open Cert.UpIdeal Cert.UpIdeal.Gen Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
variable {F : FTy → Type} [FloatOps F]
variable (m : (ℓ : Loc nD τ sig) → Buf (Elt F) ℓ) (ρ : Dev nD → PrngReg)

set_option backward.isDefEq.respectTransparency.types false in
/-- The two calls' run leaves every array that outlives them at the valuation the second call ends with. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end run

instance : Subsingleton (Cert.Pre_finite_up.S_).Idx := ⟨fun a b => funext fun k => k.elim0⟩

/-- The precondition, opened: ten arrays of reals. -/
theorem pre_reals (x0 : FVec Ideal Cert.Pre_finite_up.S1x4096x1024 .f32) (x1 : FVec Ideal Cert.Pre_finite_up.S1x1024x1024 .f32) (x2 : FVec Ideal Cert.Pre_finite_up.S1x4096x1024 .f32) (x3 : FVec Ideal Cert.Pre_finite_up.S1x1024 .f32) (x4 : FVec Ideal Cert.Pre_finite_up.S1x1024 .f32) (x5 : FVec Ideal Cert.Pre_finite_up.S1x1024x2816 .f32) (x6 : FVec Ideal Cert.Pre_finite_up.S1x1024x2816 .f32) (x7 : FVec Ideal Cert.Pre_finite_up.S1x4096x2816 .f32) (x8 : FVec Ideal Cert.Pre_finite_up.S1x4096x2816 .f32) (x9 : FVec Ideal Cert.Pre_finite_up.S1x4096x1024 .f32)
    (h : Cert.Pre_finite_up.fn (F := Ideal) x0 x1 x2 x3 x4 x5 x6 x7 x8 x9 = fun _ => 1#1) :
    (∃ r : Cert.Pre_finite_up.S1x4096x1024.Idx → ℝ, ∀ i, x0 i = (r i : EReal))
      ∧ (∃ r : Cert.Pre_finite_up.S1x1024x1024.Idx → ℝ, ∀ i, x1 i = (r i : EReal))
      ∧ (∃ r : Cert.Pre_finite_up.S1x4096x1024.Idx → ℝ, ∀ i, x2 i = (r i : EReal))
      ∧ (∃ r : Cert.Pre_finite_up.S1x1024.Idx → ℝ, ∀ i, x3 i = (r i : EReal))
      ∧ (∃ r : Cert.Pre_finite_up.S1x1024.Idx → ℝ, ∀ i, x4 i = (r i : EReal))
      ∧ (∃ r : Cert.Pre_finite_up.S1x1024x2816.Idx → ℝ, ∀ i, x5 i = (r i : EReal))
      ∧ (∃ r : Cert.Pre_finite_up.S1x1024x2816.Idx → ℝ, ∀ i, x6 i = (r i : EReal))
      ∧ (∃ r : Cert.Pre_finite_up.S1x4096x2816.Idx → ℝ, ∀ i, x7 i = (r i : EReal))
      ∧ (∃ r : Cert.Pre_finite_up.S1x4096x2816.Idx → ℝ, ∀ i, x8 i = (r i : EReal))
      ∧ (∃ r : Cert.Pre_finite_up.S1x4096x1024.Idx → ℝ, ∀ i, x9 i = (r i : EReal)) := by
  have e := congrFun h (fun a => a.elim0)
  obtain ⟨e, e9⟩ := IntOp.andi_eq_one.mp e
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_of_test _ _ (fun _ => rfl) (Host.reduce_andi_all _ _ _ _ _ e0),
    real_of_test _ _ (fun _ => rfl) (Host.reduce_andi_all _ _ _ _ _ e1),
    real_of_test _ _ (fun _ => rfl) (Host.reduce_andi_all _ _ _ _ _ e2),
    real_of_test _ _ (fun _ => rfl) (Host.reduce_andi_all _ _ _ _ _ e3),
    real_of_test _ _ (fun _ => rfl) (Host.reduce_andi_all _ _ _ _ _ e4),
    real_of_test _ _ (fun _ => rfl) (Host.reduce_andi_all _ _ _ _ _ e5),
    real_of_test _ _ (fun _ => rfl) (Host.reduce_andi_all _ _ _ _ _ e6),
    real_of_test _ _ (fun _ => rfl) (Host.reduce_andi_all _ _ _ _ _ e7),
    real_of_test _ _ (fun _ => rfl) (Host.reduce_andi_all _ _ _ _ _ e8),
    real_of_test _ _ (fun _ => rfl) (Host.reduce_andi_all _ _ _ _ _ e9)⟩

/-- The reference's frame. -/
theorem frame_ref : Cert.quiescent_UpRefIdeal := fun m ρ _ =>
  (θ_run Cert.UpRefIdeal.defs _ _).mono (fun r h => ⟨fun c => (h c).2.2.2.2.2, Idealize.ShloMosaic.sem_eq_zero_of_no_sems (by decide) r.2⟩)
    (Cert.UpRefIdeal.Value.run (F := Ideal) m ρ)

section value
open Cert.UpIdeal Cert.UpIdeal.Gen Cert.UpIdeal.Val

/-- The value: on finite arguments the five results are the gated unit's input and the derivative's four. -/
theorem value : Cert.algebraic_UpIdeal_UpRefIdeal_pre_finite_up := by
  intro m ρ m' ρ' hpre hagree
  have hr := fun c => pre_reals _ _ _ _ _ _ _ _ _ _ (hpre c)
  choose b0 b1 b2 b3 b4 b5 b6 b7 b8 b9 using hr
  choose a0 h0 using b0
  choose a1 h1 using b1
  choose a2 h2 using b2
  choose a3 h3 using b3
  choose a4 h4 using b4
  choose a5 h5 using b5
  choose a6 h6 using b6
  choose a7 h7 using b7
  choose a8 h8 using b8
  choose a9 h9 using b9
  refine ⟨fun c => h2Out (a0 c) (a1 c) (a2 c) (a3 c) (a4 c),
    fun c => dxOut (a0 c) (a1 c) (a2 c) (a3 c) (a4 c) (a5 c) (a6 c) (a7 c) (a8 c) (a9 c),
    fun c => dmOut (a0 c) (a1 c) (a2 c) (a3 c) (a4 c) (a5 c) (a6 c) (a7 c) (a8 c) (a9 c),
    fun c => dgfOut (a0 c) (a1 c) (a2 c) (a3 c) (a5 c) (a6 c) (a7 c) (a8 c),
    fun c => dgmOut (a0 c) (a1 c) (a2 c) (a3 c) (a4 c) (a5 c) (a6 c) (a7 c) (a8 c) (a9 c), ?_, ?_⟩
  · refine (θ_run defs _ _).mono (fun _ h c => ⟨
      (h c _ (mem_uc main_v13_2 (by decide))).trans (((W4_of_ne m ρ c main_v13_2 (by decide)).trans (W3_of m ρ c main_v13_2 (by decide))).trans (W2_arr m ρ c 7) |>.trans ?_),
      (h c _ (mem_uc main_v19_0 (by decide))).trans ((W4_arr m ρ c 9).trans ?_),
      (h c _ (mem_uc main_v19_1 (by decide))).trans ((W4_arr m ρ c 10).trans ?_),
      (h c _ (mem_uc main_v19_2 (by decide))).trans ((W4_arr m ρ c 11).trans ?_),
      (h c _ (mem_uc main_v19_3 (by decide))).trans ((W4_arr m ρ c 12).trans ?_),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩) (run_all (F := Ideal) m ρ)
    · exact final0_7 m ρ c _ _ _ _ _ (h0 c) (h1 c) (h2 c) (h3 c) (h4 c)
    · exact final1_9 m ρ c _ _ _ _ _ _ _ _ _ _ (h0 c) (h1 c) (h2 c) (h3 c) (h4 c) (h5 c) (h6 c) (h7 c) (h8 c) (h9 c)
    · exact final1_10 m ρ c _ _ _ _ _ _ _ _ _ _ (h0 c) (h1 c) (h2 c) (h3 c) (h4 c) (h5 c) (h6 c) (h7 c) (h8 c) (h9 c)
    · exact final1_11 m ρ c _ _ _ _ _ _ _ _ _ _ (h0 c) (h1 c) (h2 c) (h3 c) (h4 c) (h5 c) (h6 c) (h7 c) (h8 c) (h9 c)
    · exact final1_12 m ρ c _ _ _ _ _ _ _ _ _ _ (h0 c) (h1 c) (h2 c) (h3 c) (h4 c) (h5 c) (h6 c) (h7 c) (h8 c) (h9 c)
  · refine (θ_run Cert.UpRefIdeal.defs _ _).mono (fun _ h c => ⟨(h c).1.trans ?_, (h c).2.1.trans ?_, (h c).2.2.1.trans ?_, (h c).2.2.2.1.trans ?_, (h c).2.2.2.2.1.trans ?_, (h c).2.2.2.2.2⟩) (Cert.UpRefIdeal.Value.run (F := Ideal) m' ρ')
    · obtain ⟨e0, e1, e2, e3, e4, e5, e6, e7, e8, e9⟩ := hagree c
      rw [Cert.UpRefIdeal.Read.val_main_v124_eq, e0, e1, e2, e3, e4]
      funext j
      obtain ⟨t, d, rfl⟩ : ∃ (t : Fin 4096) (d : Fin 1024), j = ix2 t d := ⟨_, _, eq_ix2 j⟩
      exact Cert.UpRefIdeal.Val.h2_eq _ _ _ _ _ _ _ _ _ _ (h0 c) (h1 c) (h2 c) (h3 c) (h4 c) t d
    · obtain ⟨e0, e1, e2, e3, e4, e5, e6, e7, e8, e9⟩ := hagree c
      rw [Cert.UpRefIdeal.Read.val_main_v125_eq, e0, e1, e2, e3, e4, e5, e6, e7, e8, e9]
      funext j
      obtain ⟨t, d, rfl⟩ : ∃ (t : Fin 4096) (d : Fin 1024), j = ix2 t d := ⟨_, _, eq_ix2 j⟩
      exact Cert.UpRefIdeal.Val.dx1_eq _ _ _ _ _ _ _ _ _ _ _ _ _ _ _ _ _ _ _ _ (h0 c) (h1 c) (h2 c) (h3 c) (h4 c) (h5 c) (h6 c) (h7 c) (h8 c) (h9 c) t d
    · obtain ⟨e0, e1, e2, e3, e4, e5, e6, e7, e8, e9⟩ := hagree c
      rw [Cert.UpRefIdeal.Read.val_main_v127_eq, e0, e1, e2, e3, e4, e5, e6, e7, e8, e9]
      funext j
      obtain ⟨t, d, rfl⟩ : ∃ (t : Fin 4096) (d : Fin 1024), j = ix2 t d := ⟨_, _, eq_ix2 j⟩
      exact Cert.UpRefIdeal.Val.dmix_eq _ _ _ _ _ _ _ _ _ _ _ _ _ _ _ _ _ _ _ _ (h0 c) (h1 c) (h2 c) (h3 c) (h4 c) (h5 c) (h6 c) (h7 c) (h8 c) (h9 c) t d
    · obtain ⟨e0, e1, e2, e3, e4, e5, e6, e7, e8, e9⟩ := hagree c
      rw [Cert.UpRefIdeal.Read.val_main_v128_eq, e0, e1, e2, e3, e5, e6, e7, e8]
      funext j
      obtain ⟨p, q, rfl⟩ : ∃ (p : Fin 8) (q : Fin 128), j = ix2 p q := ⟨_, _, eq_ix2 j⟩
      exact Cert.UpRefIdeal.Val.dgf_eq _ _ _ _ _ _ _ _ _ _ _ _ _ _ _ _ (h0 c) (h1 c) (h2 c) (h3 c) (h5 c) (h6 c) (h7 c) (h8 c) p q
    · obtain ⟨e0, e1, e2, e3, e4, e5, e6, e7, e8, e9⟩ := hagree c
      rw [Cert.UpRefIdeal.Read.val_main_v129_eq, e0, e1, e2, e3, e4, e5, e6, e7, e8, e9]
      funext j
      obtain ⟨p, q, rfl⟩ : ∃ (p : Fin 8) (q : Fin 128), j = ix2 p q := ⟨_, _, eq_ix2 j⟩
      exact Cert.UpRefIdeal.Val.dgm_eq _ _ _ _ _ _ _ _ _ _ _ _ _ _ _ _ _ _ _ _ (h0 c) (h1 c) (h2 c) (h3 c) (h4 c) (h5 c) (h6 c) (h7 c) (h8 c) (h9 c) p q

end value

end Cert.UpProof
end
-- ==== Proof.Buffers.lean ====
module

public import Idealize.ShloMosaic.Lib.Pipeline.FrameBody
public import Idealize.ShloMosaic.Lib.Ring
public import Idealize.ShloMosaic.Lib.Tactic
public import Idealize.ShloMosaic.Lib.WordCmp

@[expose] public section

noncomputable section

/-! What a body's run says of the buffers it is handed. -/

namespace Cert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {F : FTy → Type} [FloatOps F] {sp : Space} {s : Shape} {e : EltTy}

local notation "𝕄" => MT nD τ sig Unit (Elt F) ℕ (UR sig nD τ) ℕ

/-- The buffer `m` holds `x`. -/
abbrev holds (c : Dev nD) (m : Memref sig .tc sp s e) (x : s.Idx → Elt F e) : sProp 𝕄 :=
  owns (c : Thread nD τ) m fullShare x

/-- The buffer `m` holds anything. -/
abbrev anyIn (c : Dev nD) (m : Memref sig .tc sp s e) : sProp 𝕄 := iprop(∃ d, holds c m d)

/-- The pieces `L` are stored in `m` over anything. -/
abbrev stored (c : Dev nD) (m : Memref sig .tc sp s e) (L : List (View.Piece (Elt F) s e)) : sProp 𝕄 :=
  iprop(∃ f, (m.view.loc (c : Thread nD τ) ↦[m.view.set]{fullShare} m.view.writes (Elt F) f L))

/-- The pieces `L` are stored in `m` over `x`. -/
abbrev storedOver (c : Dev nD) {m : Memref sig .tc sp s e} (h : m.IsWhole) (x : s.Idx → Elt F e)
    (L : List (View.Piece (Elt F) s e)) : sProp 𝕄 :=
  iprop(m.view.loc (c : Thread nD τ) ↦[m.view.set]{fullShare} m.view.writes (Elt F) (h.unread x) L)

/-- A buffer not written still holds what it held. -/
theorem hold_back (c : Dev nD) {m : Memref sig .tc sp s e} (h : m.IsWhole) (x : s.Idx → Elt F e) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

/-- A buffer holds something. -/
theorem hold_any (c : Dev nD) (m : Memref sig .tc sp s e) (f) :
    (m.view.loc (c : Thread nD τ) ↦[m.view.set]{fullShare} f : sProp 𝕄)
      ⊢ iprop(∃ d f, ⌜m.view.read (Elt F) f = d⌝ ∗ (m.view.loc (c : Thread nD τ) ↦[m.view.set]{fullShare} f)) := by
  iintro H; iexists _, _; isplitr; swap; · iexact H
  ipureintro; rfl

/-- A buffer whose stored pieces cover it holds what they spell. -/
theorem hold_written {c : Dev nD} {m : Memref sig .tc sp s e} {f} {L : List (View.Piece (Elt F) s e)}
    (h : ∀ y, ∃ p ∈ L, y ∈ p.1.set) :
    (m.view.loc (c : Thread nD τ) ↦[m.view.set]{fullShare} m.view.writes (Elt F) f L : sProp 𝕄)
      ⊢ owns (c : Thread nD τ) m fullShare (View.canon L) := by
  unfold owns; iintro H; iexists _; isplitr; swap; · iexact H
  ipureintro; exact View.read_writes_eq_canon _ _ _ h

section Windows

variable {Λ₀ : Labels} {cfg : Pipeline.Cfg sig Λ₀} {c : Dev nD}

/-- What a fetch puts in the buffer of window `w` at point `t`, the window's array holding `A`. -/
abbrev fetchedOf (cfg : Pipeline.Cfg sig Λ₀) (w : Fin cfg.W) (t : Fin cfg.N) (A : (cfg.win w).arr.view.ty.Contents (Elt F)) :
    (cfg.win w).block.Idx → Elt F (cfg.win w).elt :=
  (cfg.win w).fill (cfg.grid.coords t) (fun _ => Classical.choice inferInstance) (((cfg.win w).blk t).view.read (Elt F) A)

/-- An input window whose moved part is always the whole block holds its block at every point, fetched there or not. -/
theorem before_of (dat : Pipeline.Dat τ (Elt F) Unit ℕ (UR sig nD τ) ℕ cfg c) (w : Fin cfg.W)
    (hx : ∀ t a, (cfg.win w).xsize (cfg.grid.coords t) a = (cfg.win w).size a)
    (hw : (cfg.win w).isOut = false) (hidle : ∀ i, cfg.idle w i = false)
    (hclip : ∀ t t' : Fin cfg.N, (cfg.win w).index t = (cfg.win w).index t' →
      (cfg.win w).clip (cfg.grid.coords t) = (cfg.win w).clip (cfg.grid.coords t'))
    (hafter : ∀ t, dat.after w t = fetchedOf cfg w t (dat.A w)) (t : Fin cfg.N) (d) :
    dat.before w t d = dat.after w t := by
  rw [dat.before_in_eq_fetched w hw hidle hclip
    (fun t => by rw [hafter, fetchedOf, Pipeline.Window.cut_fill]; rfl) t d, hafter]
  funext j
  have hm : (cfg.win w).moved (cfg.grid.coords t) j = true :=
    ((cfg.win w).moved_iff _ j).mpr fun a => by rw [hx t a]; exact (j a).isLt
  unfold Pipeline.Dat.fetched fetchedOf Pipeline.Window.fill; rw [dif_pos hm, dif_pos hm]; rfl

end Windows

end Cert

end
-- ==== Proof.FwdArgs.lean ====
module

public import proofs.«01_k».proof.Proof.Gen.MixersIdeal.Skeleton
public import proofs.«01_k».proof.Proof.Gen.MixersIdeal.Points
public import proofs.«01_k».proof.Proof.Gen.MixersIdeal.Regions
public import proofs.«01_k».proof.Proof.Buffers

@[expose] public section

set_option maxRecDepth 16384

noncomputable section

namespace Cert.MixersIdeal.Fwd

open Cert.MixersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs the forward body is handed. -/
structure Args where
  arg1 : Memref sig .tc .vmem S128x512 .f32
  harg1 : arg1.IsWhole
  arg2 : Memref sig .tc .vmem S16x512 .f32
  harg2 : arg2.IsWhole
  arg3 : Memref sig .tc .vmem S128x512 .f32
  harg3 : arg3.IsWhole
  arg4 : Memref sig .tc .vmem S128x256 .f32
  harg4 : arg4.IsWhole
  arg5 : Memref sig .tc .vmem S128x256 .f32
  harg5 : arg5.IsWhole
  arg6 : Memref sig .tc .vmem S128x256 .f32
  harg6 : arg6.IsWhole
  arg7 : Memref sig .tc .vmem S128x256 .f32
  harg7 : arg7.IsWhole
  arg8 : Memref sig .tc .smem S32x8 .f32
  harg8 : arg8.IsWhole
  arg9 : Memref sig .tc .smem S1x8 .f32
  harg9 : arg9.IsWhole
  arg10 : Memref sig .tc .vmem S4x128x128 .bf16
  harg10 : arg10.IsWhole
  arg11 : Memref sig .tc .vmem S1x512 .f32
  harg11 : arg11.IsWhole
  arg12 : Memref sig .tc .vmem S128x1024 .bf16
  harg12 : arg12.IsWhole
  arg13 : Memref sig .tc .vmem S128x512 .bf16
  harg13 : arg13.IsWhole
  arg14 : Memref sig .tc .vmem S8x128x256 .bf16
  harg14 : arg14.IsWhole
  arg15 : Memref sig .tc .vmem S128x128 .f32
  harg15 : arg15.IsWhole
  arg16 : Memref sig .tc .vmem S144x512 .f32
  harg16 : arg16.IsWhole
  arg17 : Memref sig .tc .vmem S8x128x256 .f32
  harg17 : arg17.IsWhole
  arg18 : Memref sig .tc .vmem S8x128x256 .f32
  harg18 : arg18.IsWhole

/-- What the input windows hold. -/
structure Ins (F : FTy → Type) where
  x0 : Vec F S128x512 .f32
  x1 : Vec F S16x512 .f32
  x2 : Vec F S128x512 .f32
  x3 : Vec F S128x256 .f32
  x4 : Vec F S128x256 .f32
  x5 : Vec F S128x256 .f32
  x6 : Vec F S128x256 .f32
  x7 : Vec F S32x8 .f32
  x8 : Vec F S1x8 .f32
  x9 : Vec F S4x128x128 .bf16
  x10 : Vec F S1x512 .f32

/-- The printed body on the memrefs `a`. -/
abbrev body (i : grid0.Coords) (a : Args) :=
  cc0_mixers_fwd (F := F) i
    a.arg1 a.harg1 a.arg2 a.harg2 a.arg3 a.harg3 a.arg4 a.harg4 a.arg5 a.harg5 a.arg6 a.harg6 a.arg7 a.harg7
    a.arg8 a.harg8 a.arg9 a.harg9 a.arg10 a.harg10 a.arg11 a.harg11 a.arg12 a.harg12 a.arg13 a.harg13
    a.arg14 a.harg14 a.arg15 a.harg15 a.arg16 a.harg16 a.arg17 a.harg17 a.arg18 a.harg18

/-- The input windows, each holding its block. -/
abbrev ins (c : Dev nD) (a : Args) (x : Ins F) : sProp 𝕄 :=
  iprop(holds c a.arg1 x.x0 ∗ holds c a.arg2 x.x1 ∗
    holds c a.arg3 x.x2 ∗ holds c a.arg4 x.x3 ∗
    holds c a.arg5 x.x4 ∗ holds c a.arg6 x.x5 ∗
    holds c a.arg7 x.x6 ∗ holds c a.arg8 x.x7 ∗
    holds c a.arg9 x.x8 ∗ holds c a.arg10 x.x9 ∗
    holds c a.arg11 x.x10)

/-- The branch taken at the first point of the grid. -/
abbrev cond0 (i : grid0.Coords) : Prop := (Scalar.cmpi .ne (Scalar.extui (Scalar.cmpi .eq (BitVec.ofNat 32 (i 0).val) 0#32)) 0#32) = 1#1

/-- Every part of the body is its skeleton. -/
def parts (F : FTy → Type) [FloatOps F] := (⟨
    @k0_part78_eq_skeleton F _, @k0_part77_eq_skeleton F _, @k0_part76_eq_skeleton F _, @k0_part75_eq_skeleton F _, @k0_part74_eq_skeleton F _,
    @k0_part73_eq_skeleton F _, @k0_part72_eq_skeleton F _, @k0_part71_eq_skeleton F _, @k0_part70_eq_skeleton F _, @k0_part69_eq_skeleton F _,
    @k0_part68_eq_skeleton F _, @k0_part67_eq_skeleton F _, @k0_part66_eq_skeleton F _, @k0_part65_eq_skeleton F _, @k0_part64_eq_skeleton F _,
    @k0_part63_eq_skeleton F _, @k0_part62_eq_skeleton F _, @k0_part61_eq_skeleton F _, @k0_part60_eq_skeleton F _, @k0_part59_eq_skeleton F _,
    @k0_part58_eq_skeleton F _, @k0_part57_eq_skeleton F _, @k0_part56_eq_skeleton F _, @k0_part55_eq_skeleton F _, @k0_part54_eq_skeleton F _,
    @k0_part53_eq_skeleton F _, @k0_part52_eq_skeleton F _, @k0_part51_eq_skeleton F _, @k0_part50_eq_skeleton F _, @k0_part49_eq_skeleton F _,
    @k0_part48_eq_skeleton F _, @k0_part47_eq_skeleton F _, @k0_part46_eq_skeleton F _, @k0_part45_eq_skeleton F _, @k0_part44_eq_skeleton F _,
    @k0_part43_eq_skeleton F _, @k0_part42_eq_skeleton F _, @k0_part41_eq_skeleton F _, @k0_part40_eq_skeleton F _, @k0_part39_eq_skeleton F _,
    @k0_part38_eq_skeleton F _, @k0_part37_eq_skeleton F _, @k0_part36_eq_skeleton F _, @k0_part35_eq_skeleton F _, @k0_part34_eq_skeleton F _,
    @k0_part33_eq_skeleton F _, @k0_part32_eq_skeleton F _, @k0_part31_eq_skeleton F _, @k0_part30_eq_skeleton F _, @k0_part29_eq_skeleton F _,
    @k0_part28_eq_skeleton F _, @k0_part27_eq_skeleton F _, @k0_part26_eq_skeleton F _, @k0_part25_eq_skeleton F _, @k0_part24_eq_skeleton F _,
    @k0_part23_eq_skeleton F _, @k0_part22_eq_skeleton F _, @k0_part21_eq_skeleton F _, @k0_part20_eq_skeleton F _, @k0_part19_eq_skeleton F _,
    @k0_part18_eq_skeleton F _, @k0_part17_eq_skeleton F _, @k0_part16_eq_skeleton F _, @k0_part15_eq_skeleton F _, @k0_part14_eq_skeleton F _,
    @k0_part13_eq_skeleton F _, @k0_part12_eq_skeleton F _, @k0_part11_eq_skeleton F _, @k0_part10_eq_skeleton F _, @k0_part9_eq_skeleton F _,
    @k0_part8_eq_skeleton F _, @k0_part7_eq_skeleton F _, @k0_part6_eq_skeleton F _, @k0_part5_eq_skeleton F _, @k0_part4_eq_skeleton F _,
    @k0_part3_eq_skeleton F _, @k0_part2_eq_skeleton F _, @k0_part1_eq_skeleton F _⟩ :
  _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _)

end Cert.MixersIdeal.Fwd

end
-- ==== Proof.FwdRunA.lean ====
module

public import proofs.«01_k».proof.Proof.FwdArgs

@[expose] public section

set_option maxRecDepth 16384

noncomputable section

namespace Cert.MixersIdeal.Fwd

open Cert.MixersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body stores in case A, one list per buffer. -/
structure ListsA (F : FTy → Type) where
  out : List (View.Piece (Elt F) S128x1024 .bf16)
  pooled : List (View.Piece (Elt F) S128x512 .bf16)
  probs : List (View.Piece (Elt F) S8x128x256 .bf16)
  sink : List (View.Piece (Elt F) S128x128 .f32)
  bias : List (View.Piece (Elt F) S8x128x256 .f32)

set_option maxHeartbeats 6400000 in
/-- The forward body at the first point, which fills the band of biases. -/
noncomputable def runA (c : Dev nD) (i : grid0.Coords) (a : Args) (hc0 : cond0 i)
    (x : Ins F)  :
    { L : ListsA F // ∀ (E : Set ℕ) (K : PUnit → sProp 𝕄),
        iprop(ins c a x ∗ anyIn c a.arg12 ∗ anyIn c a.arg13 ∗ anyIn c a.arg14 ∗ anyIn c a.arg15 ∗ anyIn c a.arg16
          ∗ anyIn c a.arg17 ∗ anyIn c a.arg18
          ∗ (iprop(ins c a x ∗ stored c a.arg12 L.out ∗ stored c a.arg13 L.pooled ∗ stored c a.arg14 L.probs
            ∗ stored c a.arg15 L.sink ∗ anyIn c a.arg16 ∗ anyIn c a.arg17 ∗ stored c a.arg18 L.bias) -∗ K ⟨⟩))
          ⊢ wp frame (wpE (defs₀ (F := F)) Variants.none c none) E (body i a) K } := by
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18⟩ := a
  obtain ⟨x0, x1, x2, x3, x4, x5, x6, x7, x8, x9, x10⟩ := x
  refine ⟨⟨?_, ?_, ?_, ?_, ?_⟩, fun E K => ?run⟩
  case run =>
    dsimp only [body, ins, anyIn, holds, stored, storedOver]
    simp only [cc0_mixers_fwd_eq_skeleton]; unfold cc0_mixers_fwd_skel
    simp only [parts]
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩,
      ⟨%d12, %f12, -, H12⟩, ⟨%d13, %f13, -, H13⟩, ⟨%d14, %f14, -, H14⟩, ⟨%d15, %f15, -, H15⟩, ⟨%d16, %f16, -, H16⟩,
      ⟨%d17, %f17, -, H17⟩, ⟨%d18, %f18, -, H18⟩, Hk⟩
    obtain rfl := harg1.eq_unread hf1; obtain rfl := harg2.eq_unread hf2; obtain rfl := harg3.eq_unread hf3;
    obtain rfl := harg4.eq_unread hf4; obtain rfl := harg5.eq_unread hf5; obtain rfl := harg6.eq_unread hf6;
    obtain rfl := harg7.eq_unread hf7; obtain rfl := harg8.eq_unread hf8; obtain rfl := harg9.eq_unread hf9;
    obtain rfl := harg10.eq_unread hf10; obtain rfl := harg11.eq_unread hf11
    sl_exec (disch := first | sl_exact hc0)
    sl_step
    iapply Hk
    isplitl [H1 H2 H3 H4 H5 H6 H7 H8 H9 H10 H11]
    · isplitl [H1]; · iapply hold_back c harg1; iexact H1
      isplitl [H2]; · iapply hold_back c harg2; iexact H2
      isplitl [H3]; · iapply hold_back c harg3; iexact H3
      isplitl [H4]; · iapply hold_back c harg4; iexact H4
      isplitl [H5]; · iapply hold_back c harg5; iexact H5
      isplitl [H6]; · iapply hold_back c harg6; iexact H6
      isplitl [H7]; · iapply hold_back c harg7; iexact H7
      isplitl [H8]; · iapply hold_back c harg8; iexact H8
      isplitl [H9]; · iapply hold_back c harg9; iexact H9
      isplitl [H10]; · iapply hold_back c harg10; iexact H10
      iapply hold_back c harg11; iexact H11
    isplitl [H12]; · iexists _; iexact H12
    isplitl [H13]; · iexists _; iexact H13
    isplitl [H14]; · iexists _; iexact H14
    isplitl [H15]; · iexists _; iexact H15
    isplitl [H16]; · iapply hold_any; iexact H16
    isplitl [H17]; · iapply hold_any; iexact H17
    iexists _; iexact H18

end Cert.MixersIdeal.Fwd

end
-- ==== Proof.FwdRunB.lean ====
module

public import proofs.«01_k».proof.Proof.FwdArgs

@[expose] public section

set_option maxRecDepth 16384

noncomputable section

namespace Cert.MixersIdeal.Fwd

open Cert.MixersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body stores in case B, one list per buffer. -/
structure ListsB (F : FTy → Type) where
  out : List (View.Piece (Elt F) S128x1024 .bf16)
  pooled : List (View.Piece (Elt F) S128x512 .bf16)
  probs : List (View.Piece (Elt F) S8x128x256 .bf16)
  sink : List (View.Piece (Elt F) S128x128 .f32)

set_option maxHeartbeats 6400000 in
/-- The forward body at a later point, which reads the band of biases. -/
noncomputable def runB (c : Dev nD) (i : grid0.Coords) (a : Args) (hc0 : ¬cond0 i)
    (x : Ins F) (b : Vec F S8x128x256 .f32) :
    { L : ListsB F // ∀ (E : Set ℕ) (K : PUnit → sProp 𝕄),
        iprop(ins c a x ∗ anyIn c a.arg12 ∗ anyIn c a.arg13 ∗ anyIn c a.arg14 ∗ anyIn c a.arg15 ∗ anyIn c a.arg16
          ∗ anyIn c a.arg17 ∗ holds c a.arg18 b
          ∗ (iprop(ins c a x ∗ stored c a.arg12 L.out ∗ stored c a.arg13 L.pooled ∗ stored c a.arg14 L.probs
            ∗ stored c a.arg15 L.sink ∗ anyIn c a.arg16 ∗ anyIn c a.arg17 ∗ holds c a.arg18 b) -∗ K ⟨⟩))
          ⊢ wp frame (wpE (defs₀ (F := F)) Variants.none c none) E (body i a) K } := by
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18⟩ := a
  obtain ⟨x0, x1, x2, x3, x4, x5, x6, x7, x8, x9, x10⟩ := x
  refine ⟨⟨?_, ?_, ?_, ?_⟩, fun E K => ?run⟩
  case run =>
    dsimp only [body, ins, anyIn, holds, stored, storedOver]
    simp only [cc0_mixers_fwd_eq_skeleton]; unfold cc0_mixers_fwd_skel
    simp only [parts]
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩,
      ⟨%d12, %f12, -, H12⟩, ⟨%d13, %f13, -, H13⟩, ⟨%d14, %f14, -, H14⟩, ⟨%d15, %f15, -, H15⟩, ⟨%d16, %f16, -, H16⟩,
      ⟨%d17, %f17, -, H17⟩, ⟨%f18, %hf18, H18⟩, Hk⟩
    obtain rfl := harg1.eq_unread hf1; obtain rfl := harg2.eq_unread hf2; obtain rfl := harg3.eq_unread hf3;
    obtain rfl := harg4.eq_unread hf4; obtain rfl := harg5.eq_unread hf5; obtain rfl := harg6.eq_unread hf6;
    obtain rfl := harg7.eq_unread hf7; obtain rfl := harg8.eq_unread hf8; obtain rfl := harg9.eq_unread hf9;
    obtain rfl := harg10.eq_unread hf10; obtain rfl := harg11.eq_unread hf11;
    obtain rfl := harg18.eq_unread hf18
    sl_exec (disch := first | sl_exact hc0)
    sl_step
    iapply Hk
    isplitl [H1 H2 H3 H4 H5 H6 H7 H8 H9 H10 H11]
    · isplitl [H1]; · iapply hold_back c harg1; iexact H1
      isplitl [H2]; · iapply hold_back c harg2; iexact H2
      isplitl [H3]; · iapply hold_back c harg3; iexact H3
      isplitl [H4]; · iapply hold_back c harg4; iexact H4
      isplitl [H5]; · iapply hold_back c harg5; iexact H5
      isplitl [H6]; · iapply hold_back c harg6; iexact H6
      isplitl [H7]; · iapply hold_back c harg7; iexact H7
      isplitl [H8]; · iapply hold_back c harg8; iexact H8
      isplitl [H9]; · iapply hold_back c harg9; iexact H9
      isplitl [H10]; · iapply hold_back c harg10; iexact H10
      iapply hold_back c harg11; iexact H11
    isplitl [H12]; · iexists _; iexact H12
    isplitl [H13]; · iexists _; iexact H13
    isplitl [H14]; · iexists _; iexact H14
    isplitl [H15]; · iexists _; iexact H15
    isplitl [H16]; · iapply hold_any; iexact H16
    isplitl [H17]; · iapply hold_any; iexact H17
    iapply hold_back c harg18; iexact H18

end Cert.MixersIdeal.Fwd

end
-- ==== Proof.FwdDat.lean ====
module

public import proofs.«01_k».proof.Proof.FwdRunA
public import proofs.«01_k».proof.Proof.FwdRunB

@[expose] public section

set_option maxRecDepth 16384

noncomputable section

namespace Cert.MixersIdeal.Fwd

open Cert.MixersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- The unscoped buffers as the region finds them.
variable (V : (c : Dev nD) → (b : Ref sig .tc) → Buf (Elt F) ((c : Thread nD τ).loc b))

/-! ## What the input windows hold -/

/-- At every point the part of an input block that is moved is the whole block. -/
theorem xsize_in : ∀ w : Fin cfg0.W, ∀ t : Fin cfg0.N, ∀ a, (cfg0.win w).xsize (cfg0.grid.coords t) a = (cfg0.win w).size a := by
  decide +kernel

/-- Window `w`'s block at point `t`, read off its array. -/
def X (c : Dev nD) (w : Fin cfg0.W) (t : Fin cfg0.N) : (cfg0.win w).block.Idx → Elt F (cfg0.win w).elt :=
  (cfg0.win w).fill (cfg0.grid.coords t) (fun _ => Classical.choice inferInstance)
    (((cfg0.win w).blk t).view.read (Elt F) (V c (Pipeline.arrRef spec0 w)))

/-! ## The body's memrefs and blocks at a point -/

/-- The memrefs the body is handed at point `t`. -/
abbrev args (t : Fin cfg0.N) : Args where
  arg1 := win0_0.stage (cfg0.slots t 0)
  harg1 := hstage0_0 ((cfg0.slots t 0).cast nbuf0_0)
  arg2 := win0_1.stage (cfg0.slots t 1)
  harg2 := hstage0_1 ((cfg0.slots t 1).cast nbuf0_1)
  arg3 := win0_2.stage (cfg0.slots t 2)
  harg3 := hstage0_2 ((cfg0.slots t 2).cast nbuf0_2)
  arg4 := win0_3.stage (cfg0.slots t 3)
  harg4 := hstage0_3 ((cfg0.slots t 3).cast nbuf0_3)
  arg5 := win0_4.stage (cfg0.slots t 4)
  harg5 := hstage0_4 ((cfg0.slots t 4).cast nbuf0_4)
  arg6 := win0_5.stage (cfg0.slots t 5)
  harg6 := hstage0_5 ((cfg0.slots t 5).cast nbuf0_5)
  arg7 := win0_6.stage (cfg0.slots t 6)
  harg7 := hstage0_6 ((cfg0.slots t 6).cast nbuf0_6)
  arg8 := win0_7.stage (cfg0.slots t 7)
  harg8 := hstage0_7 ((cfg0.slots t 7).cast nbuf0_7)
  arg9 := win0_8.stage (cfg0.slots t 8)
  harg9 := hstage0_8 ((cfg0.slots t 8).cast nbuf0_8)
  arg10 := win0_9.stage (cfg0.slots t 9)
  harg10 := hstage0_9 ((cfg0.slots t 9).cast nbuf0_9)
  arg11 := win0_10.stage (cfg0.slots t 10)
  harg11 := hstage0_10 ((cfg0.slots t 10).cast nbuf0_10)
  arg12 := win0_11.stage (cfg0.slots t 11)
  harg12 := hstage0_11 ((cfg0.slots t 11).cast nbuf0_11)
  arg13 := win0_12.stage (cfg0.slots t 12)
  harg13 := hstage0_12 ((cfg0.slots t 12).cast nbuf0_12)
  arg14 := win0_13.stage (cfg0.slots t 13)
  harg14 := hstage0_13 ((cfg0.slots t 13).cast nbuf0_13)
  arg15 := win0_14.stage (cfg0.slots t 14)
  harg15 := hstage0_14 ((cfg0.slots t 14).cast nbuf0_14)
  arg16 := Memref.whole cc0_scratch0
  harg16 := Memref.isWhole_whole _
  arg17 := Memref.whole cc0_scratch1
  harg17 := Memref.isWhole_whole _
  arg18 := Memref.whole cc0_scratch2
  harg18 := Memref.isWhole_whole _

/-- The input blocks at point `t`. -/
abbrev blocks (c : Dev nD) (t : Fin cfg0.N) : Ins F where
  x0 := X V c 0 t
  x1 := X V c 1 t
  x2 := X V c 2 t
  x3 := X V c 3 t
  x4 := X V c 4 t
  x5 := X V c 5 t
  x6 := X V c 6 t
  x7 := X V c 7 t
  x8 := X V c 8 t
  x9 := X V c 9 t
  x10 := X V c 10 t

/-- The first branch is taken at the first point alone. -/
theorem cond0_iff : ∀ t : Fin cfg0.N, cond0 (grid0.coords t) ↔ t.val = 0 := by decide +kernel

/-- The first point. -/
abbrev t0 : Fin cfg0.N := ⟨0, by decide⟩

/-- The run at the first point. -/
abbrev rA (c : Dev nD) (t : Fin cfg0.N) (h : t.val = 0) :=
  runA (F := F) c (grid0.coords t) (args t) ((cond0_iff t).mpr h) (blocks V c t)

/-- The band of biases, as the first point leaves it. -/
def band (c : Dev nD) : Vec F S8x128x256 .f32 := View.canon (rA V c t0 rfl).1.bias

/-- The run at a later point. -/
abbrev rB (c : Dev nD) (t : Fin cfg0.N) (h : ¬t.val = 0) :=
  runB (F := F) c (grid0.coords t) (args t) (fun h' => h ((cond0_iff t).mp h')) (blocks V c t) (band V c)

/-- What the body leaves in the four outputs at point `t`. -/
def outs (c : Dev nD) (t : Fin cfg0.N) :
    Vec F S128x1024 .bf16 × Vec F S128x512 .bf16 × Vec F S8x128x256 .bf16 × Vec F S128x128 .f32 :=
  if h : t.val = 0 then
    (View.canon (rA V c t h).1.out, View.canon (rA V c t h).1.pooled, View.canon (rA V c t h).1.probs,
      View.canon (rA V c t h).1.sink)
  else
    (View.canon (rB V c t h).1.out, View.canon (rB V c t h).1.pooled, View.canon (rB V c t h).1.probs,
      View.canon (rB V c t h).1.sink)

/-! ## Every stored list covers its buffer -/

section
variable (c : Dev nD) (t : Fin cfg0.N)
theorem coverA_out (h : t.val = 0) : ∀ y, ∃ p ∈ (rA V c t h).1.out, y ∈ p.1.set :=
  View.cover_of_tiledL _ ![128, 128] (by sl_kernel_rfl)
theorem coverB_out (h : ¬t.val = 0) : ∀ y, ∃ p ∈ (rB V c t h).1.out, y ∈ p.1.set :=
  View.cover_of_tiledL _ ![128, 128] (by sl_kernel_rfl)
theorem coverA_pooled (h : t.val = 0) : ∀ y, ∃ p ∈ (rA V c t h).1.pooled, y ∈ p.1.set :=
  View.cover_of_tiledL _ ![128, 128] (by sl_kernel_rfl)
theorem coverB_pooled (h : ¬t.val = 0) : ∀ y, ∃ p ∈ (rB V c t h).1.pooled, y ∈ p.1.set :=
  View.cover_of_tiledL _ ![128, 128] (by sl_kernel_rfl)
theorem coverA_probs (h : t.val = 0) : ∀ y, ∃ p ∈ (rA V c t h).1.probs, y ∈ p.1.set :=
  View.cover_of_tiledL _ ![1, 32, 256] (by sl_kernel_rfl)
theorem coverB_probs (h : ¬t.val = 0) : ∀ y, ∃ p ∈ (rB V c t h).1.probs, y ∈ p.1.set :=
  View.cover_of_tiledL _ ![1, 32, 256] (by sl_kernel_rfl)
theorem coverA_sink (h : t.val = 0) : ∀ y, ∃ p ∈ (rA V c t h).1.sink, y ∈ p.1.set :=
  View.cover_of_tiledL _ ![128, 128] (by sl_kernel_rfl)
theorem coverB_sink (h : ¬t.val = 0) : ∀ y, ∃ p ∈ (rB V c t h).1.sink, y ∈ p.1.set :=
  View.cover_of_tiledL _ ![128, 128] (by sl_kernel_rfl)
theorem coverA_bias (h : t.val = 0) : ∀ y, ∃ p ∈ (rA V c t h).1.bias, y ∈ p.1.set :=
  View.cover_of_tiledL _ ![1, 128, 256] (by sl_kernel_rfl)
end

/-! ## The proof data -/

/-- Before a point: the two per-point scratch buffers at anything, the band of biases at anything before the first
    point and filled after it, the rest of the scoped buffers, and the generator register. -/
def Phi (c : Dev nD) (n : ℕ) : sProp 𝕄 :=
  iprop(anyIn c (Memref.whole cc0_scratch0 : Memref sig .tc .vmem S144x512 .f32)
    ∗ anyIn c (Memref.whole cc0_scratch1 : Memref sig .tc .vmem S8x128x256 .f32)
    ∗ (∃ d, ⌜0 < n → d = band V c⌝ ∗ holds c (Memref.whole cc0_scratch2 : Memref sig .tc .vmem S8x128x256 .f32) d)
    ∗ Pipeline.scopedRestBut (Ix := Unit) (Name := ℕ) (U := UR sig nD τ) (Lvl := ℕ) (Val := Elt F) spec0 c [cc0_scratch0, cc0_scratch1, cc0_scratch2]
    ∗ (∃ r, prngReg c r))

/-- The forward pipeline's proof data. -/
def dat (c : Dev nD) : Dat τ (Elt F) Unit ℕ (UR sig nD τ) ℕ cfg0 c where
  A w := V c (Pipeline.arrRef spec0 w)
  after w t := match w with
    | ⟨0, _⟩ => X V c 0 t
    | ⟨1, _⟩ => X V c 1 t
    | ⟨2, _⟩ => X V c 2 t
    | ⟨3, _⟩ => X V c 3 t
    | ⟨4, _⟩ => X V c 4 t
    | ⟨5, _⟩ => X V c 5 t
    | ⟨6, _⟩ => X V c 6 t
    | ⟨7, _⟩ => X V c 7 t
    | ⟨8, _⟩ => X V c 8 t
    | ⟨9, _⟩ => X V c 9 t
    | ⟨10, _⟩ => X V c 10 t
    | ⟨11, _⟩ => (outs V c t).1
    | ⟨12, _⟩ => (outs V c t).2.1
    | ⟨13, _⟩ => (outs V c t).2.2.1
    | ⟨14, _⟩ => (outs V c t).2.2.2
  Φ t := Phi V c t.val
  q w := Pipeline.shareOf spec0 w
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = Phi V c t.val := by
  dsimp only [dat]; exact Pipeline.Dat.Φ_castSucc (fun n _ => Phi V c n) t
theorem Phi_succ (c : Dev nD) (t : Fin cfg0.N) : (dat V c).Φ t.succ = Phi V c (t.val + 1) := by
  dsimp only [dat]; rw [Fin.val_succ]
/-- The body leaves an input block as it is, -/
theorem after_in (c : Dev nD) (w : Fin cfg0.W) (hw : (cfg0.win w).isOut = false) (t : Fin cfg0.N) :
    (dat V c).after w t = X V c w t := by
  fin_cases w <;> first | exact absurd hw (by decide) | rfl
/-- and finds it in the buffer. -/
theorem before_in (c : Dev nD) (w : Fin cfg0.W) (hw : (cfg0.win w).isOut = false) (t : Fin cfg0.N) (d) :
    (dat V c).before w t d = X V c w t := by
  refine (before_of (dat V c) w (xsize_in w) hw ?_ ?_ (after_in V c w hw) t d).trans (after_in V c w hw t)
  · clear d; fin_cases w <;> first | exact fun _ => rfl | exact absurd hw (by decide)
  · clear d; fin_cases w <;> first | exact fun _ _ _ => rfl | exact absurd hw (by decide) |
      exact fun t t' h => funext fun a => congrArg (fun n => Pipeline.Clip.of n _ (S4096x1280.size a)) (congrFun h a)
theorem after_11 (c : Dev nD) (t : Fin cfg0.N) : (dat V c).after 11 t = (outs V c t).1 := by dsimp only [dat]
theorem after_12 (c : Dev nD) (t : Fin cfg0.N) : (dat V c).after 12 t = (outs V c t).2.1 := by dsimp only [dat]
theorem after_13 (c : Dev nD) (t : Fin cfg0.N) : (dat V c).after 13 t = (outs V c t).2.2.1 := by dsimp only [dat]
theorem after_14 (c : Dev nD) (t : Fin cfg0.N) : (dat V c).after 14 t = (outs V c t).2.2.2 := by dsimp only [dat]

/-! ## The body's obligation -/

/-- What the body is called with at point `t`, window by window, -/
def bodyPre (c : Dev nD) (t : Fin cfg0.N) : sProp 𝕄 :=
  iprop((dat V c).Φ t.castSucc ∗ (dat V c).owesAt () t.castSucc
    ∗ (∃ d, holds c (args t).arg1 ((dat V c).before 0 t d)) ∗ (∃ d, holds c (args t).arg2 ((dat V c).before 1 t d))
    ∗ (∃ d, holds c (args t).arg3 ((dat V c).before 2 t d)) ∗ (∃ d, holds c (args t).arg4 ((dat V c).before 3 t d))
    ∗ (∃ d, holds c (args t).arg5 ((dat V c).before 4 t d)) ∗ (∃ d, holds c (args t).arg6 ((dat V c).before 5 t d))
    ∗ (∃ d, holds c (args t).arg7 ((dat V c).before 6 t d)) ∗ (∃ d, holds c (args t).arg8 ((dat V c).before 7 t d))
    ∗ (∃ d, holds c (args t).arg9 ((dat V c).before 8 t d)) ∗ (∃ d, holds c (args t).arg10 ((dat V c).before 9 t d))
    ∗ (∃ d, holds c (args t).arg11 ((dat V c).before 10 t d))
    ∗ (∃ d, holds c (args t).arg12 ((dat V c).before 11 t d))
    ∗ (∃ d, holds c (args t).arg13 ((dat V c).before 12 t d))
    ∗ (∃ d, holds c (args t).arg14 ((dat V c).before 13 t d))
    ∗ (∃ d, holds c (args t).arg15 ((dat V c).before 14 t d)))

/-- and what it returns. -/
def bodyPost (c : Dev nD) (t : Fin cfg0.N) : sProp 𝕄 :=
  iprop((dat V c).Φ t.succ ∗ (dat V c).owesAt () t.succ
    ∗ holds c (args t).arg1 ((dat V c).after 0 t) ∗ holds c (args t).arg2 ((dat V c).after 1 t)
    ∗ holds c (args t).arg3 ((dat V c).after 2 t) ∗ holds c (args t).arg4 ((dat V c).after 3 t)
    ∗ holds c (args t).arg5 ((dat V c).after 4 t) ∗ holds c (args t).arg6 ((dat V c).after 5 t)
    ∗ holds c (args t).arg7 ((dat V c).after 6 t) ∗ holds c (args t).arg8 ((dat V c).after 7 t)
    ∗ holds c (args t).arg9 ((dat V c).after 8 t) ∗ holds c (args t).arg10 ((dat V c).after 9 t)
    ∗ holds c (args t).arg11 ((dat V c).after 10 t) ∗ holds c (args t).arg12 ((dat V c).after 11 t)
    ∗ holds c (args t).arg13 ((dat V c).after 12 t) ∗ holds c (args t).arg14 ((dat V c).after 13 t)
    ∗ holds c (args t).arg15 ((dat V c).after 14 t))

set_option maxHeartbeats 2400000 in
/-- The body at any point, by the run of its case. -/
theorem sound_body (c : Dev nD) (t : Fin cfg0.N) :
    bodyPre V c t ⊢ wp frame (wpE (defs₀ (F := F)) Variants.none c none) Set.univ (bodyAt0 t) (fun _ => bodyPost V c t) := by
  unfold bodyPre bodyPost
  simp (disch := rfl) only [before_in, after_in]
  rw [Phi_castSucc, Phi_succ, show (dat V c).owesAt () t.succ = (dat V c).owesAt () t.castSucc from rfl,
    after_11, after_12, after_13, after_14]
  show _ ⊢ wp frame _ Set.univ (body (grid0.coords t) (args t)) _
  unfold Phi
  by_cases h0 : t.val = 0
  · rw [show outs V c t = (View.canon (rA V c t h0).1.out, View.canon (rA V c t h0).1.pooled, View.canon (rA V c t h0).1.probs, View.canon (rA V c t h0).1.sink) from dif_pos h0]
    dsimp only
    iintro ⟨⟨⟨%u0, Hu0⟩, ⟨%u1, Hu1⟩, ⟨%u2, %hu2, Hu2⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((rA V c t h0).2 Set.univ _)
    unfold ins
    isplitl [H0 H1 H2 H3 H4 H5 H6 H7 H8 H9 H10]; · iframel
    isplitl [H11]; · iexists _; iexact H11
    isplitl [H12]; · iexists _; iexact H12
    isplitl [H13]; · iexists _; iexact H13
    isplitl [H14]; · iexists _; iexact H14
    isplitl [Hu0]; · iexists _; iexact Hu0
    isplitl [Hu1]; · iexists _; iexact Hu1
    isplitl [Hu2]; · iexists _; iexact Hu2
    iintro ⟨⟨H0, H1, H2, H3, H4, H5, H6, H7, H8, H9, H10⟩, ⟨%e11, H11⟩, ⟨%e12, H12⟩, ⟨%e13, H13⟩, ⟨%e14, H14⟩, ⟨%e0, Hu0⟩, ⟨%e1, Hu1⟩, ⟨%e2, Hu2⟩⟩
    isplitl [Hu0 Hu1 Hu2 Hrest Hp]
    · isplitl [Hu0]; · iexists _; iexact Hu0
      isplitl [Hu1]; · iexists _; iexact Hu1
      isplitl [Hu2]
      · iexists (band V c); isplitr; · ipureintro; exact fun _ => rfl
        obtain rfl : t = t0 := Fin.ext h0
        iapply hold_written (coverA_bias V c t0 rfl); iexact Hu2
      iframel Hrest Hp
    iframel Ho H0 H1 H2 H3 H4 H5 H6 H7 H8 H9 H10
    isplitl [H11]; · iapply hold_written (coverA_out V c t h0); iexact H11
    isplitl [H12]; · iapply hold_written (coverA_pooled V c t h0); iexact H12
    isplitl [H13]; · iapply hold_written (coverA_probs V c t h0); iexact H13
    iapply hold_written (coverA_sink V c t h0); iexact H14
  · rw [show outs V c t = (View.canon (rB V c t h0).1.out, View.canon (rB V c t h0).1.pooled, View.canon (rB V c t h0).1.probs, View.canon (rB V c t h0).1.sink) from dif_neg h0]
    dsimp only
    iintro ⟨⟨⟨%u0, Hu0⟩, ⟨%u1, Hu1⟩, ⟨%u2, %hu2, Hu2⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    obtain rfl := hu2 (Nat.pos_of_ne_zero h0)
    iapply ((rB V c t h0).2 Set.univ _)
    unfold ins
    isplitl [H0 H1 H2 H3 H4 H5 H6 H7 H8 H9 H10]; · iframel
    isplitl [H11]; · iexists _; iexact H11
    isplitl [H12]; · iexists _; iexact H12
    isplitl [H13]; · iexists _; iexact H13
    isplitl [H14]; · iexists _; iexact H14
    isplitl [Hu0]; · iexists _; iexact Hu0
    isplitl [Hu1]; · iexists _; iexact Hu1
    isplitl [Hu2]; · iexact Hu2
    iintro ⟨⟨H0, H1, H2, H3, H4, H5, H6, H7, H8, H9, H10⟩, ⟨%e11, H11⟩, ⟨%e12, H12⟩, ⟨%e13, H13⟩, ⟨%e14, H14⟩, ⟨%e0, Hu0⟩, ⟨%e1, Hu1⟩, Hu2⟩
    isplitl [Hu0 Hu1 Hu2 Hrest Hp]
    · isplitl [Hu0]; · iexists _; iexact Hu0
      isplitl [Hu1]; · iexists _; iexact Hu1
      isplitl [Hu2]
      · iexists (band V c); isplitr; · ipureintro; exact fun _ => rfl
        iexact Hu2
      iframel Hrest Hp
    iframel Ho H0 H1 H2 H3 H4 H5 H6 H7 H8 H9 H10
    isplitl [H11]; · iapply hold_written (coverB_out V c t h0); iexact H11
    isplitl [H12]; · iapply hold_written (coverB_pooled V c t h0); iexact H12
    isplitl [H13]; · iapply hold_written (coverB_probs V c t h0); iexact H13
    iapply hold_written (coverB_sink V c t h0); iexact H14

/-- The library's body obligation at every point. -/
theorem obligation (c : Dev nD) : BodyObligation (dat (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body V c t) rfl .rfl fun _ => .rfl

end Regions

end Cert.MixersIdeal.Fwd

end
-- ==== Proof.BwdArgs.lean ====
module

public import proofs.«01_k».proof.Proof.Gen.MixersIdeal.Skeleton
public import proofs.«01_k».proof.Proof.Gen.MixersIdeal.Points
public import proofs.«01_k».proof.Proof.Gen.MixersIdeal.Regions
public import proofs.«01_k».proof.Proof.Buffers

@[expose] public section

set_option maxRecDepth 16384

noncomputable section

namespace Cert.MixersIdeal.Bwd

open Cert.MixersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs the backward body is handed. -/
structure Args where
  arg1 : Memref sig .tc .vmem S128x512 .f32
  harg1 : arg1.IsWhole
  arg2 : Memref sig .tc .vmem S128x256 .f32
  harg2 : arg2.IsWhole
  arg3 : Memref sig .tc .vmem S128x256 .f32
  harg3 : arg3.IsWhole
  arg4 : Memref sig .tc .vmem S128x1024 .f32
  harg4 : arg4.IsWhole
  arg5 : Memref sig .tc .vmem S128x512 .bf16
  harg5 : arg5.IsWhole
  arg6 : Memref sig .tc .vmem S8x128x256 .bf16
  harg6 : arg6.IsWhole
  arg7 : Memref sig .tc .vmem S128x128 .f32
  harg7 : arg7.IsWhole
  arg8 : Memref sig .tc .vmem S4x128x128 .bf16
  harg8 : arg8.IsWhole
  arg9 : Memref sig .tc .vmem S1x512 .f32
  harg9 : arg9.IsWhole
  arg10 : Memref sig .tc .vmem S128x256 .f32
  harg10 : arg10.IsWhole
  arg11 : Memref sig .tc .vmem S128x1280 .bf16
  harg11 : arg11.IsWhole
  arg12 : Memref sig .tc .vmem S8x128x256 .f32
  harg12 : arg12.IsWhole
  arg13 : Memref sig .tc .vmem S1x128 .f32
  harg13 : arg13.IsWhole
  arg14 : Memref sig .tc .vmem S4x128x128 .f32
  harg14 : arg14.IsWhole
  arg15 : Memref sig .tc .vmem S4x128 .f32
  harg15 : arg15.IsWhole
  arg16 : Memref sig .tc .smem S8x32 .f32
  harg16 : arg16.IsWhole
  arg17 : Memref sig .tc .vmem S144x512 .f32
  harg17 : arg17.IsWhole
  arg18 : Memref sig .tc .vmem S128x512 .f32
  harg18 : arg18.IsWhole
  arg19 : Memref sig .tc .vmem S128x512 .f32
  harg19 : arg19.IsWhole
  arg20 : Memref sig .tc .vmem S128x256 .f32
  harg20 : arg20.IsWhole
  arg21 : Memref sig .tc .vmem S8x128x256 .f32
  harg21 : arg21.IsWhole
  arg22 : Memref sig .tc .vmem S8x128x256 .bf16
  harg22 : arg22.IsWhole
  arg23 : Memref sig .tc .vmem S128x128 .f32
  harg23 : arg23.IsWhole

/-- What the input windows hold. -/
structure Ins (F : FTy → Type) where
  x0 : Vec F S128x512 .f32
  x1 : Vec F S128x256 .f32
  x2 : Vec F S128x256 .f32
  x3 : Vec F S128x1024 .f32
  x4 : Vec F S128x512 .bf16
  x5 : Vec F S8x128x256 .bf16
  x6 : Vec F S128x128 .f32
  x7 : Vec F S4x128x128 .bf16
  x8 : Vec F S1x512 .f32
  x9 : Vec F S128x256 .f32

/-- The printed body on the memrefs `a`. -/
abbrev body (i : grid1.Coords) (a : Args) :=
  cc1_mixers_bwd (F := F) i
    a.arg1 a.harg1 a.arg2 a.harg2 a.arg3 a.harg3 a.arg4 a.harg4 a.arg5 a.harg5 a.arg6 a.harg6 a.arg7 a.harg7
    a.arg8 a.harg8 a.arg9 a.harg9 a.arg10 a.harg10 a.arg11 a.harg11 a.arg12 a.harg12 a.arg13 a.harg13
    a.arg14 a.harg14 a.arg15 a.harg15 a.arg16 a.harg16 a.arg17 a.harg17 a.arg18 a.harg18 a.arg19 a.harg19
    a.arg20 a.harg20 a.arg21 a.harg21 a.arg22 a.harg22 a.arg23 a.harg23

/-- The input windows, each holding its block. -/
abbrev ins (c : Dev nD) (a : Args) (x : Ins F) : sProp 𝕄 :=
  iprop(holds c a.arg1 x.x0 ∗ holds c a.arg2 x.x1 ∗
    holds c a.arg3 x.x2 ∗ holds c a.arg4 x.x3 ∗
    holds c a.arg5 x.x4 ∗ holds c a.arg6 x.x5 ∗
    holds c a.arg7 x.x6 ∗ holds c a.arg8 x.x7 ∗
    holds c a.arg9 x.x8 ∗ holds c a.arg10 x.x9)

/-- What the body carries from point to point: the four accumulators and the four scratch buffers. -/
structure State (F : FTy → Type) where
  dbias : Vec F S8x128x256 .f32
  dsink : Vec F S1x128 .f32
  dwp : Vec F S4x128x128 .f32
  dsc : Vec F S4x128 .f32
  dbuf : Vec F S144x512 .f32
  cu : Vec F S128x512 .f32
  cq : Vec F S128x512 .f32
  ckv : Vec F S128x256 .f32

/-- Every part of the body is its skeleton. -/
def parts (F : FTy → Type) [FloatOps F] := (⟨
    @k1_part118_eq_skeleton F _, @k1_part117_eq_skeleton F _, @k1_part116_eq_skeleton F _, @k1_part115_eq_skeleton F _, @k1_part114_eq_skeleton F _,
    @k1_part113_eq_skeleton F _, @k1_part112_eq_skeleton F _, @k1_part111_eq_skeleton F _, @k1_part110_eq_skeleton F _, @k1_part109_eq_skeleton F _,
    @k1_part108_eq_skeleton F _, @k1_part107_eq_skeleton F _, @k1_part106_eq_skeleton F _, @k1_part105_eq_skeleton F _, @k1_part104_eq_skeleton F _,
    @k1_part103_eq_skeleton F _, @k1_part102_eq_skeleton F _, @k1_part101_eq_skeleton F _, @k1_part100_eq_skeleton F _, @k1_part99_eq_skeleton F _,
    @k1_part98_eq_skeleton F _, @k1_part97_eq_skeleton F _, @k1_part96_eq_skeleton F _, @k1_part95_eq_skeleton F _, @k1_part94_eq_skeleton F _,
    @k1_part93_eq_skeleton F _, @k1_part92_eq_skeleton F _, @k1_part91_eq_skeleton F _, @k1_part90_eq_skeleton F _, @k1_part89_eq_skeleton F _,
    @k1_part88_eq_skeleton F _, @k1_part87_eq_skeleton F _, @k1_part86_eq_skeleton F _, @k1_part85_eq_skeleton F _, @k1_part84_eq_skeleton F _,
    @k1_part83_eq_skeleton F _, @k1_part82_eq_skeleton F _, @k1_part81_eq_skeleton F _, @k1_part80_eq_skeleton F _, @k1_part79_eq_skeleton F _,
    @k1_part78_eq_skeleton F _, @k1_part77_eq_skeleton F _, @k1_part76_eq_skeleton F _, @k1_part75_eq_skeleton F _, @k1_part74_eq_skeleton F _,
    @k1_part73_eq_skeleton F _, @k1_part72_eq_skeleton F _, @k1_part71_eq_skeleton F _, @k1_part70_eq_skeleton F _, @k1_part69_eq_skeleton F _,
    @k1_part68_eq_skeleton F _, @k1_part67_eq_skeleton F _, @k1_part66_eq_skeleton F _, @k1_part65_eq_skeleton F _, @k1_part64_eq_skeleton F _,
    @k1_part63_eq_skeleton F _, @k1_part62_eq_skeleton F _, @k1_part61_eq_skeleton F _, @k1_part60_eq_skeleton F _, @k1_part59_eq_skeleton F _,
    @k1_part58_eq_skeleton F _, @k1_part57_eq_skeleton F _, @k1_part56_eq_skeleton F _, @k1_part55_eq_skeleton F _, @k1_part54_eq_skeleton F _,
    @k1_part53_eq_skeleton F _, @k1_part52_eq_skeleton F _, @k1_part51_eq_skeleton F _, @k1_part50_eq_skeleton F _, @k1_part49_eq_skeleton F _,
    @k1_part48_eq_skeleton F _, @k1_part47_eq_skeleton F _, @k1_part46_eq_skeleton F _, @k1_part45_eq_skeleton F _, @k1_part44_eq_skeleton F _,
    @k1_part43_eq_skeleton F _, @k1_part42_eq_skeleton F _, @k1_part41_eq_skeleton F _, @k1_part40_eq_skeleton F _, @k1_part39_eq_skeleton F _,
    @k1_part38_eq_skeleton F _, @k1_part37_eq_skeleton F _, @k1_part36_eq_skeleton F _, @k1_part35_eq_skeleton F _, @k1_part34_eq_skeleton F _,
    @k1_part33_eq_skeleton F _, @k1_part32_eq_skeleton F _, @k1_part31_eq_skeleton F _, @k1_part30_eq_skeleton F _, @k1_part29_eq_skeleton F _,
    @k1_part28_eq_skeleton F _, @k1_part27_eq_skeleton F _, @k1_part26_eq_skeleton F _, @k1_part25_eq_skeleton F _, @k1_part24_eq_skeleton F _,
    @k1_part23_eq_skeleton F _, @k1_part22_eq_skeleton F _, @k1_part21_eq_skeleton F _, @k1_part20_eq_skeleton F _, @k1_part19_eq_skeleton F _,
    @k1_part18_eq_skeleton F _, @k1_part17_eq_skeleton F _, @k1_part16_eq_skeleton F _, @k1_part15_eq_skeleton F _, @k1_part14_eq_skeleton F _,
    @k1_part13_eq_skeleton F _, @k1_part12_eq_skeleton F _, @k1_part11_eq_skeleton F _, @k1_part10_eq_skeleton F _, @k1_part9_eq_skeleton F _,
    @k1_part8_eq_skeleton F _, @k1_part7_eq_skeleton F _, @k1_part6_eq_skeleton F _, @k1_part5_eq_skeleton F _, @k1_part4_eq_skeleton F _,
    @k1_part3_eq_skeleton F _, @k1_part2_eq_skeleton F _, @k1_part1_eq_skeleton F _⟩ :
  _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _ ∧ _)

end Cert.MixersIdeal.Bwd

end
-- ==== Proof.BwdRunA.lean ====
module

public import proofs.«01_k».proof.Proof.BwdArgs

@[expose] public section

set_option maxRecDepth 16384

noncomputable section

namespace Cert.MixersIdeal.Bwd

open Cert.MixersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body stores in case A, one list per buffer. -/
structure ListsA (F : FTy → Type) where
  dproj : List (View.Piece (Elt F) S128x1280 .bf16)
  dbias : List (View.Piece (Elt F) S8x128x256 .f32)
  dsink : List (View.Piece (Elt F) S1x128 .f32)
  dwp : List (View.Piece (Elt F) S4x128x128 .f32)
  dsc : List (View.Piece (Elt F) S4x128 .f32)
  dbuf : List (View.Piece (Elt F) S144x512 .f32)
  cu : List (View.Piece (Elt F) S128x512 .f32)
  cq : List (View.Piece (Elt F) S128x512 .f32)
  ckv : List (View.Piece (Elt F) S128x256 .f32)

set_option maxHeartbeats 6400000 in
/-- The backward body at the first point, which clears what it carries. -/
noncomputable def runA (c : Dev nD) (i : grid1.Coords) (a : Args) (hc1 : k1_cond1 i = 1#1) (hc2 : k1_cond2 i = 1#1) (hc3 : ¬k1_cond3 i = 1#1)
    (x : Ins F)  :
    { L : ListsA F // ∀ (E : Set ℕ) (K : PUnit → sProp 𝕄),
        iprop(ins c a x ∗ anyIn c a.arg11 ∗ anyIn c a.arg12 ∗ anyIn c a.arg13 ∗ anyIn c a.arg14 ∗ anyIn c a.arg15
          ∗ anyIn c a.arg16 ∗ anyIn c a.arg17 ∗ anyIn c a.arg18 ∗ anyIn c a.arg19 ∗ anyIn c a.arg20
          ∗ anyIn c a.arg21 ∗ anyIn c a.arg22 ∗ anyIn c a.arg23
          ∗ (iprop(ins c a x ∗ stored c a.arg11 L.dproj ∗ stored c a.arg12 L.dbias ∗ stored c a.arg13 L.dsink
            ∗ stored c a.arg14 L.dwp ∗ stored c a.arg15 L.dsc ∗ anyIn c a.arg16 ∗ stored c a.arg17 L.dbuf
            ∗ stored c a.arg18 L.cu ∗ stored c a.arg19 L.cq ∗ stored c a.arg20 L.ckv ∗ anyIn c a.arg21
            ∗ anyIn c a.arg22 ∗ anyIn c a.arg23) -∗ K ⟨⟩))
          ⊢ wp frame (wpE (defs₀ (F := F)) Variants.none c none) E (body i a) K } := by
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23⟩ := a
  obtain ⟨x0, x1, x2, x3, x4, x5, x6, x7, x8, x9⟩ := x
  refine ⟨⟨?_, ?_, ?_, ?_, ?_, ?_, ?_, ?_, ?_⟩, fun E K => ?run⟩
  case run =>
    dsimp only [body, ins, anyIn, holds, stored, storedOver]
    simp only [cc1_mixers_bwd_eq_skeleton]; unfold cc1_mixers_bwd_skel
    simp only [parts]
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩,
      ⟨%d11, %f11, -, H11⟩, ⟨%d12, %f12, -, H12⟩, ⟨%d13, %f13, -, H13⟩, ⟨%d14, %f14, -, H14⟩, ⟨%d15, %f15, -, H15⟩,
      ⟨%d16, %f16, -, H16⟩, ⟨%d17, %f17, -, H17⟩, ⟨%d18, %f18, -, H18⟩, ⟨%d19, %f19, -, H19⟩, ⟨%d20, %f20, -, H20⟩,
      ⟨%d21, %f21, -, H21⟩, ⟨%d22, %f22, -, H22⟩, ⟨%d23, %f23, -, H23⟩, Hk⟩
    obtain rfl := harg1.eq_unread hf1; obtain rfl := harg2.eq_unread hf2; obtain rfl := harg3.eq_unread hf3;
    obtain rfl := harg4.eq_unread hf4; obtain rfl := harg5.eq_unread hf5; obtain rfl := harg6.eq_unread hf6;
    obtain rfl := harg7.eq_unread hf7; obtain rfl := harg8.eq_unread hf8; obtain rfl := harg9.eq_unread hf9;
    obtain rfl := harg10.eq_unread hf10
    sl_exec (disch := first | sl_exact hc1 | sl_exact hc2 | sl_exact hc3)
    sl_step
    iapply Hk
    isplitl [H1 H2 H3 H4 H5 H6 H7 H8 H9 H10]
    · isplitl [H1]; · iapply hold_back c harg1; iexact H1
      isplitl [H2]; · iapply hold_back c harg2; iexact H2
      isplitl [H3]; · iapply hold_back c harg3; iexact H3
      isplitl [H4]; · iapply hold_back c harg4; iexact H4
      isplitl [H5]; · iapply hold_back c harg5; iexact H5
      isplitl [H6]; · iapply hold_back c harg6; iexact H6
      isplitl [H7]; · iapply hold_back c harg7; iexact H7
      isplitl [H8]; · iapply hold_back c harg8; iexact H8
      isplitl [H9]; · iapply hold_back c harg9; iexact H9
      iapply hold_back c harg10; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iapply hold_any; iexact H16
    isplitl [H17]; · iexists _; iexact H17
    isplitl [H18]; · iexists _; iexact H18
    isplitl [H19]; · iexists _; iexact H19
    isplitl [H20]; · iexists _; iexact H20
    isplitl [H21]; · iapply hold_any; iexact H21
    isplitl [H22]; · iapply hold_any; iexact H22
    iapply hold_any; iexact H23

end Cert.MixersIdeal.Bwd

end
-- ==== Proof.BwdRunB.lean ====
module

public import proofs.«01_k».proof.Proof.BwdArgs

@[expose] public section

set_option maxRecDepth 16384

noncomputable section

namespace Cert.MixersIdeal.Bwd

open Cert.MixersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body stores in case B, one list per buffer. -/
structure ListsB (F : FTy → Type) where
  dproj : List (View.Piece (Elt F) S128x1280 .bf16)
  dbias : List (View.Piece (Elt F) S8x128x256 .f32)
  dsink : List (View.Piece (Elt F) S1x128 .f32)
  dwp : List (View.Piece (Elt F) S4x128x128 .f32)
  dsc : List (View.Piece (Elt F) S4x128 .f32)
  dbuf : List (View.Piece (Elt F) S144x512 .f32)
  cu : List (View.Piece (Elt F) S128x512 .f32)
  cq : List (View.Piece (Elt F) S128x512 .f32)
  ckv : List (View.Piece (Elt F) S128x256 .f32)

set_option maxHeartbeats 6400000 in
/-- The backward body at a later point before the last. -/
noncomputable def runB (c : Dev nD) (i : grid1.Coords) (a : Args) (hc1 : ¬k1_cond1 i = 1#1) (hc2 : k1_cond2 i = 1#1) (hc3 : ¬k1_cond3 i = 1#1)
    (x : Ins F) (s : State F) :
    { L : ListsB F // ∀ (E : Set ℕ) (K : PUnit → sProp 𝕄),
        iprop(ins c a x ∗ anyIn c a.arg11 ∗ holds c a.arg12 s.dbias ∗ holds c a.arg13 s.dsink
          ∗ holds c a.arg14 s.dwp ∗ holds c a.arg15 s.dsc ∗ anyIn c a.arg16 ∗ holds c a.arg17 s.dbuf
          ∗ holds c a.arg18 s.cu ∗ holds c a.arg19 s.cq ∗ holds c a.arg20 s.ckv ∗ anyIn c a.arg21 ∗ anyIn c a.arg22
          ∗ anyIn c a.arg23
          ∗ (iprop(ins c a x ∗ stored c a.arg11 L.dproj ∗ storedOver c a.harg12 s.dbias L.dbias
            ∗ storedOver c a.harg13 s.dsink L.dsink ∗ storedOver c a.harg14 s.dwp L.dwp
            ∗ storedOver c a.harg15 s.dsc L.dsc ∗ anyIn c a.arg16 ∗ storedOver c a.harg17 s.dbuf L.dbuf
            ∗ storedOver c a.harg18 s.cu L.cu ∗ storedOver c a.harg19 s.cq L.cq ∗ storedOver c a.harg20 s.ckv L.ckv
            ∗ anyIn c a.arg21 ∗ anyIn c a.arg22 ∗ anyIn c a.arg23) -∗ K ⟨⟩))
          ⊢ wp frame (wpE (defs₀ (F := F)) Variants.none c none) E (body i a) K } := by
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23⟩ := a
  obtain ⟨x0, x1, x2, x3, x4, x5, x6, x7, x8, x9⟩ := x
  obtain ⟨s_dbias, s_dsink, s_dwp, s_dsc, s_dbuf, s_cu, s_cq, s_ckv⟩ := s
  refine ⟨⟨?_, ?_, ?_, ?_, ?_, ?_, ?_, ?_, ?_⟩, fun E K => ?run⟩
  case run =>
    dsimp only [body, ins, anyIn, holds, stored, storedOver]
    simp only [cc1_mixers_bwd_eq_skeleton]; unfold cc1_mixers_bwd_skel
    simp only [parts]
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩,
      ⟨%d11, %f11, -, H11⟩, ⟨%f12, %hf12, H12⟩, ⟨%f13, %hf13, H13⟩, ⟨%f14, %hf14, H14⟩, ⟨%f15, %hf15, H15⟩,
      ⟨%d16, %f16, -, H16⟩, ⟨%f17, %hf17, H17⟩, ⟨%f18, %hf18, H18⟩, ⟨%f19, %hf19, H19⟩, ⟨%f20, %hf20, H20⟩,
      ⟨%d21, %f21, -, H21⟩, ⟨%d22, %f22, -, H22⟩, ⟨%d23, %f23, -, H23⟩, Hk⟩
    obtain rfl := harg1.eq_unread hf1; obtain rfl := harg2.eq_unread hf2; obtain rfl := harg3.eq_unread hf3;
    obtain rfl := harg4.eq_unread hf4; obtain rfl := harg5.eq_unread hf5; obtain rfl := harg6.eq_unread hf6;
    obtain rfl := harg7.eq_unread hf7; obtain rfl := harg8.eq_unread hf8; obtain rfl := harg9.eq_unread hf9;
    obtain rfl := harg10.eq_unread hf10; obtain rfl := harg12.eq_unread hf12;
    obtain rfl := harg13.eq_unread hf13; obtain rfl := harg14.eq_unread hf14;
    obtain rfl := harg15.eq_unread hf15; obtain rfl := harg17.eq_unread hf17;
    obtain rfl := harg18.eq_unread hf18; obtain rfl := harg19.eq_unread hf19;
    obtain rfl := harg20.eq_unread hf20
    sl_exec (disch := first | sl_exact hc1 | sl_exact hc2 | sl_exact hc3)
    sl_step
    iapply Hk
    isplitl [H1 H2 H3 H4 H5 H6 H7 H8 H9 H10]
    · isplitl [H1]; · iapply hold_back c harg1; iexact H1
      isplitl [H2]; · iapply hold_back c harg2; iexact H2
      isplitl [H3]; · iapply hold_back c harg3; iexact H3
      isplitl [H4]; · iapply hold_back c harg4; iexact H4
      isplitl [H5]; · iapply hold_back c harg5; iexact H5
      isplitl [H6]; · iapply hold_back c harg6; iexact H6
      isplitl [H7]; · iapply hold_back c harg7; iexact H7
      isplitl [H8]; · iapply hold_back c harg8; iexact H8
      isplitl [H9]; · iapply hold_back c harg9; iexact H9
      iapply hold_back c harg10; iexact H10
    isplitl [H11]; · iexists _; iexact H11
    isplitl [H12]; · iexact H12
    isplitl [H13]; · iexact H13
    isplitl [H14]; · iexact H14
    isplitl [H15]; · iexact H15
    isplitl [H16]; · iapply hold_any; iexact H16
    isplitl [H17]; · iexact H17
    isplitl [H18]; · iexact H18
    isplitl [H19]; · iexact H19
    isplitl [H20]; · iexact H20
    isplitl [H21]; · iapply hold_any; iexact H21
    isplitl [H22]; · iapply hold_any; iexact H22
    iapply hold_any; iexact H23

end Cert.MixersIdeal.Bwd

end
-- ==== Proof.BwdRunC.lean ====
module

public import proofs.«01_k».proof.Proof.BwdArgs

@[expose] public section

set_option maxRecDepth 16384

noncomputable section

namespace Cert.MixersIdeal.Bwd

open Cert.MixersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body stores in case C, one list per buffer. -/
structure ListsC (F : FTy → Type) where
  dproj : List (View.Piece (Elt F) S128x1280 .bf16)
  drb : List (View.Piece (Elt F) S8x32 .f32)

set_option maxHeartbeats 6400000 in
/-- The backward body at the last point, which writes the last block and sums the biases by bucket. -/
noncomputable def runC (c : Dev nD) (i : grid1.Coords) (a : Args) (hc1 : ¬k1_cond1 i = 1#1) (hc2 : ¬k1_cond2 i = 1#1) (hc3 : k1_cond3 i = 1#1)
    (x : Ins F) (s : State F) :
    { L : ListsC F // ∀ (E : Set ℕ) (K : PUnit → sProp 𝕄),
        iprop(ins c a x ∗ anyIn c a.arg11 ∗ holds c a.arg12 s.dbias ∗ holds c a.arg13 s.dsink
          ∗ holds c a.arg14 s.dwp ∗ holds c a.arg15 s.dsc ∗ anyIn c a.arg16 ∗ holds c a.arg17 s.dbuf
          ∗ holds c a.arg18 s.cu ∗ holds c a.arg19 s.cq ∗ holds c a.arg20 s.ckv ∗ anyIn c a.arg21 ∗ anyIn c a.arg22
          ∗ anyIn c a.arg23
          ∗ (iprop(ins c a x ∗ stored c a.arg11 L.dproj ∗ holds c a.arg12 s.dbias ∗ holds c a.arg13 s.dsink
            ∗ holds c a.arg14 s.dwp ∗ holds c a.arg15 s.dsc ∗ stored c a.arg16 L.drb ∗ anyIn c a.arg17
            ∗ anyIn c a.arg18 ∗ anyIn c a.arg19 ∗ anyIn c a.arg20 ∗ anyIn c a.arg21 ∗ anyIn c a.arg22
            ∗ anyIn c a.arg23) -∗ K ⟨⟩))
          ⊢ wp frame (wpE (defs₀ (F := F)) Variants.none c none) E (body i a) K } := by
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23⟩ := a
  obtain ⟨x0, x1, x2, x3, x4, x5, x6, x7, x8, x9⟩ := x
  obtain ⟨s_dbias, s_dsink, s_dwp, s_dsc, s_dbuf, s_cu, s_cq, s_ckv⟩ := s
  refine ⟨⟨?_, ?_⟩, fun E K => ?run⟩
  case run =>
    dsimp only [body, ins, anyIn, holds, stored, storedOver]
    simp only [cc1_mixers_bwd_eq_skeleton]; unfold cc1_mixers_bwd_skel
    simp only [parts]
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩,
      ⟨%d11, %f11, -, H11⟩, ⟨%f12, %hf12, H12⟩, ⟨%f13, %hf13, H13⟩, ⟨%f14, %hf14, H14⟩, ⟨%f15, %hf15, H15⟩,
      ⟨%d16, %f16, -, H16⟩, ⟨%f17, %hf17, H17⟩, ⟨%f18, %hf18, H18⟩, ⟨%f19, %hf19, H19⟩, ⟨%f20, %hf20, H20⟩,
      ⟨%d21, %f21, -, H21⟩, ⟨%d22, %f22, -, H22⟩, ⟨%d23, %f23, -, H23⟩, Hk⟩
    obtain rfl := harg1.eq_unread hf1; obtain rfl := harg2.eq_unread hf2; obtain rfl := harg3.eq_unread hf3;
    obtain rfl := harg4.eq_unread hf4; obtain rfl := harg5.eq_unread hf5; obtain rfl := harg6.eq_unread hf6;
    obtain rfl := harg7.eq_unread hf7; obtain rfl := harg8.eq_unread hf8; obtain rfl := harg9.eq_unread hf9;
    obtain rfl := harg10.eq_unread hf10; obtain rfl := harg12.eq_unread hf12;
    obtain rfl := harg13.eq_unread hf13; obtain rfl := harg14.eq_unread hf14;
    obtain rfl := harg15.eq_unread hf15; obtain rfl := harg17.eq_unread hf17;
    obtain rfl := harg18.eq_unread hf18; obtain rfl := harg19.eq_unread hf19;
    obtain rfl := harg20.eq_unread hf20
    sl_exec (disch := first | sl_exact hc1 | sl_exact hc2 | sl_exact hc3)
    sl_step
    iapply Hk
    isplitl [H1 H2 H3 H4 H5 H6 H7 H8 H9 H10]
    · isplitl [H1]; · iapply hold_back c harg1; iexact H1
      isplitl [H2]; · iapply hold_back c harg2; iexact H2
      isplitl [H3]; · iapply hold_back c harg3; iexact H3
      isplitl [H4]; · iapply hold_back c harg4; iexact H4
      isplitl [H5]; · iapply hold_back c harg5; iexact H5
      isplitl [H6]; · iapply hold_back c harg6; iexact H6
      isplitl [H7]; · iapply hold_back c harg7; iexact H7
      isplitl [H8]; · iapply hold_back c harg8; iexact H8
      isplitl [H9]; · iapply hold_back c harg9; iexact H9
      iapply hold_back c harg10; iexact H10
    isplitl [H11]; · iexists _; iexact H11
    isplitl [H12]; · iapply hold_back c harg12; iexact H12
    isplitl [H13]; · iapply hold_back c harg13; iexact H13
    isplitl [H14]; · iapply hold_back c harg14; iexact H14
    isplitl [H15]; · iapply hold_back c harg15; iexact H15
    isplitl [H16]; · iexists _; iexact H16
    isplitl [H17]; · iapply hold_any; iexact H17
    isplitl [H18]; · iapply hold_any; iexact H18
    isplitl [H19]; · iapply hold_any; iexact H19
    isplitl [H20]; · iapply hold_any; iexact H20
    isplitl [H21]; · iapply hold_any; iexact H21
    isplitl [H22]; · iapply hold_any; iexact H22
    iapply hold_any; iexact H23

end Cert.MixersIdeal.Bwd

end
-- ==== Proof.BwdDat.lean ====
module

public import proofs.«01_k».proof.Proof.BwdRunA
public import proofs.«01_k».proof.Proof.BwdRunB
public import proofs.«01_k».proof.Proof.BwdRunC

@[expose] public section

set_option maxRecDepth 16384

noncomputable section

namespace Cert.MixersIdeal.Bwd

open Cert.MixersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- The unscoped buffers as the region finds them.
variable (V : (c : Dev nD) → (b : Ref sig .tc) → Buf (Elt F) ((c : Thread nD τ).loc b))

/-! ## What the input windows hold -/

/-- At every point the part of an input block that is moved is the whole block. -/
theorem xsize_in : ∀ w : Fin cfg1.W, (cfg1.win w).isOut = false → ∀ t : Fin cfg1.N, ∀ a, (cfg1.win w).xsize (cfg1.grid.coords t) a = (cfg1.win w).size a := by
  decide +kernel

/-- Window `w`'s block at point `t`, read off its array. -/
def X (c : Dev nD) (w : Fin cfg1.W) (t : Fin cfg1.N) : (cfg1.win w).block.Idx → Elt F (cfg1.win w).elt :=
  (cfg1.win w).fill (cfg1.grid.coords t) (fun _ => Classical.choice inferInstance)
    (((cfg1.win w).blk t).view.read (Elt F) (V c (Pipeline.arrRef spec1 w)))

/-! ## The body's memrefs and blocks at a point -/

/-- The memrefs the body is handed at point `t`. -/
abbrev args (t : Fin cfg1.N) : Args where
  arg1 := win1_0.stage (cfg1.slots t 0)
  harg1 := hstage1_0 ((cfg1.slots t 0).cast nbuf1_0)
  arg2 := win1_1.stage (cfg1.slots t 1)
  harg2 := hstage1_1 ((cfg1.slots t 1).cast nbuf1_1)
  arg3 := win1_2.stage (cfg1.slots t 2)
  harg3 := hstage1_2 ((cfg1.slots t 2).cast nbuf1_2)
  arg4 := win1_3.stage (cfg1.slots t 3)
  harg4 := hstage1_3 ((cfg1.slots t 3).cast nbuf1_3)
  arg5 := win1_4.stage (cfg1.slots t 4)
  harg5 := hstage1_4 ((cfg1.slots t 4).cast nbuf1_4)
  arg6 := win1_5.stage (cfg1.slots t 5)
  harg6 := hstage1_5 ((cfg1.slots t 5).cast nbuf1_5)
  arg7 := win1_6.stage (cfg1.slots t 6)
  harg7 := hstage1_6 ((cfg1.slots t 6).cast nbuf1_6)
  arg8 := win1_7.stage (cfg1.slots t 7)
  harg8 := hstage1_7 ((cfg1.slots t 7).cast nbuf1_7)
  arg9 := win1_8.stage (cfg1.slots t 8)
  harg9 := hstage1_8 ((cfg1.slots t 8).cast nbuf1_8)
  arg10 := win1_9.stage (cfg1.slots t 9)
  harg10 := hstage1_9 ((cfg1.slots t 9).cast nbuf1_9)
  arg11 := win1_10.stage (cfg1.slots t 10)
  harg11 := hstage1_10 ((cfg1.slots t 10).cast nbuf1_10)
  arg12 := win1_11.stage (cfg1.slots t 11)
  harg12 := hstage1_11 ((cfg1.slots t 11).cast nbuf1_11)
  arg13 := win1_12.stage (cfg1.slots t 12)
  harg13 := hstage1_12 ((cfg1.slots t 12).cast nbuf1_12)
  arg14 := win1_13.stage (cfg1.slots t 13)
  harg14 := hstage1_13 ((cfg1.slots t 13).cast nbuf1_13)
  arg15 := win1_14.stage (cfg1.slots t 14)
  harg15 := hstage1_14 ((cfg1.slots t 14).cast nbuf1_14)
  arg16 := win1_15.stage (cfg1.slots t 15)
  harg16 := hstage1_15 ((cfg1.slots t 15).cast nbuf1_15)
  arg17 := Memref.whole cc1_scratch0
  harg17 := Memref.isWhole_whole _
  arg18 := Memref.whole cc1_scratch1
  harg18 := Memref.isWhole_whole _
  arg19 := Memref.whole cc1_scratch2
  harg19 := Memref.isWhole_whole _
  arg20 := Memref.whole cc1_scratch3
  harg20 := Memref.isWhole_whole _
  arg21 := Memref.whole cc1_scratch4
  harg21 := Memref.isWhole_whole _
  arg22 := Memref.whole cc1_scratch5
  harg22 := Memref.isWhole_whole _
  arg23 := Memref.whole cc1_scratch6
  harg23 := Memref.isWhole_whole _

/-- The input blocks at point `t`. -/
abbrev blocks (c : Dev nD) (t : Fin cfg1.N) : Ins F where
  x0 := X V c 0 t
  x1 := X V c 1 t
  x2 := X V c 2 t
  x3 := X V c 3 t
  x4 := X V c 4 t
  x5 := X V c 5 t
  x6 := X V c 6 t
  x7 := X V c 7 t
  x8 := X V c 8 t
  x9 := X V c 9 t

theorem lt33 (t : Fin cfg1.N) : t.val < 33 := Nat.lt_of_lt_of_eq t.isLt N_1

/-- The first branch is taken at the first point, -/
theorem cond1_iff : ∀ t : Fin cfg1.N, k1_cond1 (grid1.coords t) = 1#1 ↔ t.val = 0 := by decide +kernel
/-- the second at every point but the last, -/
theorem cond2_iff : ∀ t : Fin cfg1.N, k1_cond2 (grid1.coords t) = 1#1 ↔ t.val < 32 := by decide +kernel
/-- and the third at the last. -/
theorem cond3_iff : ∀ t : Fin cfg1.N, k1_cond3 (grid1.coords t) = 1#1 ↔ t.val = 32 := by decide +kernel

/-- The first point. -/
abbrev t0 : Fin cfg1.N := ⟨0, by decide⟩

/-- The run at the first point, -/
abbrev rA (c : Dev nD) (t : Fin cfg1.N) (h : t.val = 0) :=
  runA (F := F) c (grid1.coords t) (args t) ((cond1_iff t).mpr h) ((cond2_iff t).mpr (by omega))
    (fun h' => by have := (cond3_iff t).mp h'; omega) (blocks V c t)
/-- at a later point before the last, -/
abbrev rB (c : Dev nD) (t : Fin cfg1.N) (h : ¬t.val = 0) (h' : t.val < 32) (s : State F) :=
  runB (F := F) c (grid1.coords t) (args t) (fun e => h ((cond1_iff t).mp e)) ((cond2_iff t).mpr h')
    (fun e => by have := (cond3_iff t).mp e; omega) (blocks V c t) s
/-- and at the last. -/
abbrev rC (c : Dev nD) (t : Fin cfg1.N) (h : t.val = 32) (s : State F) :=
  runC (F := F) c (grid1.coords t) (args t) (fun e => by have := (cond1_iff t).mp e; omega)
    (fun e => by have := (cond2_iff t).mp e; omega) ((cond3_iff t).mpr h) (blocks V c t) s

/-- The state the first point's stores leave, -/
def State.ofA (L : ListsA F) : State F :=
  ⟨View.canon L.dbias, View.canon L.dsink, View.canon L.dwp, View.canon L.dsc, View.canon L.dbuf, View.canon L.cu, View.canon L.cq, View.canon L.ckv⟩
/-- and a later point's. -/
def State.ofB (L : ListsB F) : State F :=
  ⟨View.canon L.dbias, View.canon L.dsink, View.canon L.dwp, View.canon L.dsc, View.canon L.dbuf, View.canon L.cu, View.canon L.cq, View.canon L.ckv⟩

/-- The state after point `n`; the last point keeps it. -/
def state (c : Dev nD) : ℕ → State F
  | 0 => State.ofA (rA V c t0 rfl).1
  | n + 1 =>
    if h : n + 1 < 32 then State.ofB (rB V c ⟨n + 1, Nat.lt_of_lt_of_eq (by omega) N_1.symm⟩ (Nat.succ_ne_zero n) h (state c n)).1 else state c n

/-- The state before point `t`. -/
abbrev prev (c : Dev nD) (t : Fin cfg1.N) : State F := state V c (t.val - 1)

theorem state_first (c : Dev nD) (t : Fin cfg1.N) (h : t.val = 0) : state V c t.val = State.ofA (rA V c t h).1 := by
  obtain rfl : t = t0 := Fin.ext h
  rfl
theorem state_step (c : Dev nD) (t : Fin cfg1.N) (h : ¬t.val = 0) (h' : t.val < 32) :
    state V c t.val = State.ofB (rB V c t h h' (prev V c t)).1 := by
  obtain ⟨n, hn⟩ := t
  obtain _ | n := n
  · exact absurd rfl h
  · exact dif_pos h'
theorem state_last (c : Dev nD) (t : Fin cfg1.N) (h : t.val = 32) : state V c t.val = prev V c t := by
  obtain ⟨n, hn⟩ := t
  obtain rfl : n = 32 := h
  exact dif_neg (by decide)

/-- What the body leaves in the block of `dproj` at point `t`. -/
def dprojAt (c : Dev nD) (t : Fin cfg1.N) : Vec F S128x1280 .bf16 :=
  if h : t.val = 0 then View.canon (rA V c t h).1.dproj
  else if h' : t.val < 32 then View.canon (rB V c t h h' (prev V c t)).1.dproj
  else if h2 : t.val = 32 then View.canon (rC V c t h2 (prev V c t)).1.dproj
  else View.canon []

/-- What the last point leaves in the gradient of the relative bias. -/
def drbAt (c : Dev nD) (t : Fin cfg1.N) : Vec F S8x32 .f32 :=
  if h2 : t.val = 32 then View.canon (rC V c t h2 (prev V c t)).1.drb
  else View.canon []

/-! ## Every stored list covers its buffer -/

section
variable (c : Dev nD) (t : Fin cfg1.N)
theorem coverA_dproj (h) : ∀ y, ∃ p ∈ (rA V c t h).1.dproj, y ∈ p.1.set :=
  View.cover_of_tiledBy _ ![128, 128] (by sl_kernel_rfl)
theorem coverB_dproj (h h') (s) : ∀ y, ∃ p ∈ (rB V c t h h' s).1.dproj, y ∈ p.1.set :=
  View.cover_of_tiledBy _ ![128, 128] (by sl_kernel_rfl)
theorem coverA_dbias (h) : ∀ y, ∃ p ∈ (rA V c t h).1.dbias, y ∈ p.1.set :=
  View.cover_of_tiledBy _ ![1, 32, 256] (by sl_kernel_rfl)
theorem coverB_dbias (h h') (s) : ∀ y, ∃ p ∈ (rB V c t h h' s).1.dbias, y ∈ p.1.set :=
  View.cover_of_tiledBy _ ![1, 32, 256] (by sl_kernel_rfl)
theorem coverA_dsink (h) : ∀ y, ∃ p ∈ (rA V c t h).1.dsink, y ∈ p.1.set :=
  View.cover_of_tiledBy _ ![1, 128] (by sl_kernel_rfl)
theorem coverB_dsink (h h') (s) : ∀ y, ∃ p ∈ (rB V c t h h' s).1.dsink, y ∈ p.1.set :=
  View.cover_of_tiledBy _ ![1, 128] (by sl_kernel_rfl)
theorem coverA_dwp (h) : ∀ y, ∃ p ∈ (rA V c t h).1.dwp, y ∈ p.1.set :=
  View.cover_of_tiledBy _ ![1, 128, 128] (by sl_kernel_rfl)
theorem coverB_dwp (h h') (s) : ∀ y, ∃ p ∈ (rB V c t h h' s).1.dwp, y ∈ p.1.set :=
  View.cover_of_tiledBy _ ![1, 128, 128] (by sl_kernel_rfl)
theorem coverA_dsc (h) : ∀ y, ∃ p ∈ (rA V c t h).1.dsc, y ∈ p.1.set :=
  View.cover_of_tiledBy _ ![1, 128] (by sl_kernel_rfl)
theorem coverB_dsc (h h') (s) : ∀ y, ∃ p ∈ (rB V c t h h' s).1.dsc, y ∈ p.1.set :=
  View.cover_of_tiledBy _ ![1, 128] (by sl_kernel_rfl)
theorem coverA_dbuf (h) : ∀ y, ∃ p ∈ (rA V c t h).1.dbuf, y ∈ p.1.set :=
  View.cover_of_tiledBy _ ![16, 128] (by sl_kernel_rfl)
theorem coverB_dbuf (h h') (s) : ∀ y, ∃ p ∈ (rB V c t h h' s).1.dbuf, y ∈ p.1.set :=
  View.cover_of_tiledBy _ ![16, 128] (by sl_kernel_rfl)
theorem coverA_cu (h) : ∀ y, ∃ p ∈ (rA V c t h).1.cu, y ∈ p.1.set :=
  View.cover_of_tiledBy _ ![128, 128] (by sl_kernel_rfl)
theorem coverB_cu (h h') (s) : ∀ y, ∃ p ∈ (rB V c t h h' s).1.cu, y ∈ p.1.set :=
  View.cover_of_tiledBy _ ![128, 128] (by sl_kernel_rfl)
theorem coverA_cq (h) : ∀ y, ∃ p ∈ (rA V c t h).1.cq, y ∈ p.1.set :=
  View.cover_of_tiledBy _ ![128, 512] (by sl_kernel_rfl)
theorem coverB_cq (h h') (s) : ∀ y, ∃ p ∈ (rB V c t h h' s).1.cq, y ∈ p.1.set :=
  View.cover_of_tiledBy _ ![128, 512] (by sl_kernel_rfl)
theorem coverA_ckv (h) : ∀ y, ∃ p ∈ (rA V c t h).1.ckv, y ∈ p.1.set :=
  View.cover_of_tiledBy _ ![128, 256] (by sl_kernel_rfl)
theorem coverB_ckv (h h') (s) : ∀ y, ∃ p ∈ (rB V c t h h' s).1.ckv, y ∈ p.1.set :=
  View.cover_of_tiledBy _ ![128, 256] (by sl_kernel_rfl)
theorem coverC_dproj (h) (s) : ∀ y, ∃ p ∈ (rC V c t h s).1.dproj, y ∈ p.1.set :=
  View.cover_of_tiledBy _ ![128, 128] (by sl_kernel_rfl)
theorem coverC_drb (h) (s) : ∀ y, ∃ p ∈ (rC V c t h s).1.drb, y ∈ p.1.set :=
  View.cover_of_tiledBy _ ![1, 1] (by sl_kernel_rfl)
end

/-! ## The proof data -/

/-- Before point `n`: the four carried scratch buffers at the state the last point left, the three others at
    anything, the rest of the scoped buffers, and the generator register. -/
def Phi (c : Dev nD) (n : ℕ) : sProp 𝕄 :=
  iprop((∃ d, ⌜0 < n → n ≤ 32 → d = (state V c (n - 1)).dbuf⌝ ∗ holds c (Memref.whole cc1_scratch0 : Memref sig .tc .vmem S144x512 .f32) d)
    ∗ (∃ d, ⌜0 < n → n ≤ 32 → d = (state V c (n - 1)).cu⌝ ∗ holds c (Memref.whole cc1_scratch1 : Memref sig .tc .vmem S128x512 .f32) d)
    ∗ (∃ d, ⌜0 < n → n ≤ 32 → d = (state V c (n - 1)).cq⌝ ∗ holds c (Memref.whole cc1_scratch2 : Memref sig .tc .vmem S128x512 .f32) d)
    ∗ (∃ d, ⌜0 < n → n ≤ 32 → d = (state V c (n - 1)).ckv⌝ ∗ holds c (Memref.whole cc1_scratch3 : Memref sig .tc .vmem S128x256 .f32) d)
    ∗ anyIn c (Memref.whole cc1_scratch4 : Memref sig .tc .vmem S8x128x256 .f32)
    ∗ anyIn c (Memref.whole cc1_scratch5 : Memref sig .tc .vmem S8x128x256 .bf16)
    ∗ anyIn c (Memref.whole cc1_scratch6 : Memref sig .tc .vmem S128x128 .f32)
    ∗ Pipeline.scopedRestBut (Ix := Unit) (Name := ℕ) (U := UR sig nD τ) (Lvl := ℕ) (Val := Elt F) spec1 c
        [cc1_scratch0, cc1_scratch1, cc1_scratch2, cc1_scratch3, cc1_scratch4, cc1_scratch5, cc1_scratch6]
    ∗ (∃ r, prngReg c r))

/-- The backward pipeline's proof data. -/
def dat (c : Dev nD) : Dat τ (Elt F) Unit ℕ (UR sig nD τ) ℕ cfg1 c where
  A w := V c (Pipeline.arrRef spec1 w)
  after w t := match w with
    | ⟨0, _⟩ => X V c 0 t
    | ⟨1, _⟩ => X V c 1 t
    | ⟨2, _⟩ => X V c 2 t
    | ⟨3, _⟩ => X V c 3 t
    | ⟨4, _⟩ => X V c 4 t
    | ⟨5, _⟩ => X V c 5 t
    | ⟨6, _⟩ => X V c 6 t
    | ⟨7, _⟩ => X V c 7 t
    | ⟨8, _⟩ => X V c 8 t
    | ⟨9, _⟩ => X V c 9 t
    | ⟨10, _⟩ => dprojAt V c t
    | ⟨11, _⟩ => (state V c t.val).dbias
    | ⟨12, _⟩ => (state V c t.val).dsink
    | ⟨13, _⟩ => (state V c t.val).dwp
    | ⟨14, _⟩ => (state V c t.val).dsc
    | ⟨15, _⟩ => drbAt V c t
    | ⟨n + 16, h⟩ => (Nat.not_lt.mpr (Nat.le_add_left 16 n) h).elim
  Φ t := Phi V c t.val
  q w := Pipeline.shareOf spec1 w
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = Phi V c t.val := by
  dsimp only [dat]; exact Pipeline.Dat.Φ_castSucc (fun n _ => Phi V c n) t
theorem Phi_succ (c : Dev nD) (t : Fin cfg1.N) : (dat V c).Φ t.succ = Phi V c (t.val + 1) := by
  dsimp only [dat]; rw [Fin.val_succ]
/-- The body leaves an input block as it is, -/
theorem after_in (c : Dev nD) (w : Fin cfg1.W) (hw : (cfg1.win w).isOut = false) (t : Fin cfg1.N) :
    (dat V c).after w t = X V c w t := by
  fin_cases w <;> first | exact absurd hw (by decide) | rfl
/-- and finds it in the buffer. -/
theorem before_in (c : Dev nD) (w : Fin cfg1.W) (hw : (cfg1.win w).isOut = false) (t : Fin cfg1.N) (d) :
    (dat V c).before w t d = X V c w t := by
  refine (before_of (dat V c) w (xsize_in w hw) hw ?_ ?_ (after_in V c w hw) t d).trans (after_in V c w hw t)
  · clear d; fin_cases w <;> first | exact fun _ => rfl | exact absurd hw (by decide)
  · clear d; fin_cases w <;> first | exact fun _ _ _ => rfl | exact absurd hw (by decide) |
      exact fun t t' h => funext fun a => congrArg (fun n => Pipeline.Clip.of n _ (S4096x1280.size a)) (congrFun h a)
theorem after_10 (c : Dev nD) (t : Fin cfg1.N) : (dat V c).after 10 t = dprojAt V c t := by dsimp only [dat]
theorem after_11 (c : Dev nD) (t : Fin cfg1.N) : (dat V c).after 11 t = (state V c t.val).dbias := by dsimp only [dat]
theorem after_12 (c : Dev nD) (t : Fin cfg1.N) : (dat V c).after 12 t = (state V c t.val).dsink := by dsimp only [dat]
theorem after_13 (c : Dev nD) (t : Fin cfg1.N) : (dat V c).after 13 t = (state V c t.val).dwp := by dsimp only [dat]
theorem after_14 (c : Dev nD) (t : Fin cfg1.N) : (dat V c).after 14 t = (state V c t.val).dsc := by dsimp only [dat]
theorem after_15 (c : Dev nD) (t : Fin cfg1.N) : (dat V c).after 15 t = drbAt V c t := by dsimp only [dat]

/-! ## The accumulators between the points -/

/-- An output is never read in. -/
theorem fetch_out : ∀ w : Fin cfg1.W, 10 ≤ w.val → ∀ t, (cfg1.win w).fetch t = false := by decide +kernel
/-- The five outputs kept through the run are written back at the last point. -/
theorem flush_acc : ∀ w : Fin cfg1.W, 11 ≤ w.val → ∀ t : Fin cfg1.N, t.val < 32 → (cfg1.win w).flush t = false := by decide +kernel
theorem flush_acc_last : ∀ w : Fin cfg1.W, 11 ≤ w.val → ∀ t : Fin cfg1.N, t.val = 32 → (cfg1.win w).flush t = true := by decide +kernel
theorem xsize_out : ∀ w : Fin cfg1.W, 10 ≤ w.val → ∀ t a, (cfg1.win w).xsize (cfg1.grid.coords t) a = (cfg1.win w).size a := by
  decide +kernel
/-- The four accumulators are stored at every point but the last, -/
theorem idle_acc : ∀ w : Fin cfg1.W, 11 ≤ w.val → w.val ≤ 14 → ∀ t : Fin cfg1.N, t.val < 32 → cfg1.idle w (cfg1.grid.coords t) = false := by
  decide +kernel
/-- `dproj` at every point, -/
theorem idle_dproj : ∀ t : Fin cfg1.N, cfg1.idle 10 (cfg1.grid.coords t) = false := by decide +kernel
/-- and the gradient of the relative bias at the last alone. -/
theorem idle_drb : ∀ t : Fin cfg1.N, t.val < 32 → cfg1.idle 15 (cfg1.grid.coords t) = true := by decide +kernel

/-- An accumulator holds at a later point what the point before left. -/
theorem before_acc (c : Dev nD) (w : Fin cfg1.W) (h11 : 11 ≤ w.val) (h14 : w.val ≤ 14) (t : Fin cfg1.N) (ht : ¬t.val = 0) (d) :
    (dat V c).before w t d = (dat V c).after w ⟨t.val - 1, Nat.lt_of_le_of_lt (Nat.sub_le _ _) t.isLt⟩ := by
  have h32 : t.val - 1 < 32 := by have := lt33 t; omega
  rw [(dat V c).before_of_pos w t ht (fetch_out w (by omega) t), flush_acc w h11 _ h32, if_neg Bool.false_ne_true]
  unfold Dat.left; rw [idle_acc w h11 h14 _ h32]
  show (dat V c).kept w _ d = _
  unfold Dat.kept Pipeline.Window.fill; funext j
  rw [dif_pos (((cfg1.win w).moved_iff _ j).mpr fun a => by rw [xsize_out w (by omega) _ a]; exact (j a).isLt)]

/-- Nothing is stored in the gradient of the relative bias before the last point. -/
theorem before_drb (c : Dev nD) : ∀ (n : ℕ) (h : n < cfg1.N) (d), (dat V c).before 15 ⟨n, h⟩ d = d
  | 0, h, d => by unfold Dat.before; rw [fetch_out 15 (by decide)]; rfl
  | n + 1, h, d => by
    have h32 : n < 32 := by have := lt33 ⟨_, h⟩; simp only at this; omega
    rw [(dat V c).before_of_pos 15 _ (Nat.succ_ne_zero n) (fetch_out 15 (by decide) _),
      flush_acc 15 (by decide) _ (show n + 1 - 1 < 32 from h32), if_neg Bool.false_ne_true]
    unfold Dat.left; rw [idle_drb _ (show n + 1 - 1 < 32 from h32)]
    exact before_drb c n (by omega) d

theorem left_acc (c : Dev nD) (w : Fin cfg1.W) (h11 : 11 ≤ w.val) (h14 : w.val ≤ 14) (t : Fin cfg1.N) :
    (dat V c).leavesExact w t = holds c ((cfg1.win w).stage (cfg1.slots t w)) ((dat V c).after w t) := by
  unfold Dat.leavesExact
  by_cases h : t.val < 32
  · rw [idle_acc w h11 h14 t h]
  · rw [flush_acc_last w h11 t (by have := lt33 t; omega)]
    cases cfg1.idle w (cfg1.grid.coords t) <;> rfl
theorem left_dproj (c : Dev nD) (t : Fin cfg1.N) :
    (dat V c).leavesExact 10 t = holds c ((cfg1.win 10).stage (cfg1.slots t 10)) ((dat V c).after 10 t) := by
  unfold Dat.leavesExact; rw [idle_dproj]
theorem left_drb (c : Dev nD) (t : Fin cfg1.N) (h : t.val < 32) :
    (dat V c).leavesExact 15 t = iprop(∃ d, holds c ((cfg1.win 15).stage (cfg1.slots t 15)) ((dat V c).before 15 t d)) :=
  (dat V c).leavesExact_idle 15 t (idle_drb t h) (flush_acc 15 (by decide) t h)
theorem left_drb_last (c : Dev nD) (t : Fin cfg1.N) (h : t.val = 32) :
    (dat V c).leavesExact 15 t = holds c ((cfg1.win 15).stage (cfg1.slots t 15)) ((dat V c).after 15 t) := by
  unfold Dat.leavesExact
  rw [flush_acc_last 15 (by decide) t h]
  cases cfg1.idle 15 (cfg1.grid.coords t) <;> rfl

/-! ## The body's obligation -/

/-- What the body is called with at point `t`, window by window, -/
def bodyPre (c : Dev nD) (t : Fin cfg1.N) : sProp 𝕄 :=
  iprop((dat V c).Φ t.castSucc ∗ (dat V c).owesAt () t.castSucc
    ∗ (∃ d, holds c (args t).arg1 ((dat V c).before 0 t d)) ∗ (∃ d, holds c (args t).arg2 ((dat V c).before 1 t d))
    ∗ (∃ d, holds c (args t).arg3 ((dat V c).before 2 t d)) ∗ (∃ d, holds c (args t).arg4 ((dat V c).before 3 t d))
    ∗ (∃ d, holds c (args t).arg5 ((dat V c).before 4 t d)) ∗ (∃ d, holds c (args t).arg6 ((dat V c).before 5 t d))
    ∗ (∃ d, holds c (args t).arg7 ((dat V c).before 6 t d)) ∗ (∃ d, holds c (args t).arg8 ((dat V c).before 7 t d))
    ∗ (∃ d, holds c (args t).arg9 ((dat V c).before 8 t d)) ∗ (∃ d, holds c (args t).arg10 ((dat V c).before 9 t d))
    ∗ (∃ d, holds c (args t).arg11 ((dat V c).before 10 t d))
    ∗ (∃ d, holds c (args t).arg12 ((dat V c).before 11 t d))
    ∗ (∃ d, holds c (args t).arg13 ((dat V c).before 12 t d))
    ∗ (∃ d, holds c (args t).arg14 ((dat V c).before 13 t d))
    ∗ (∃ d, holds c (args t).arg15 ((dat V c).before 14 t d))
    ∗ (∃ d, holds c (args t).arg16 ((dat V c).before 15 t d)))

/-- and what it returns. -/
def bodyPost (c : Dev nD) (t : Fin cfg1.N) : sProp 𝕄 :=
  iprop((dat V c).Φ t.succ ∗ (dat V c).owesAt () t.succ
    ∗ holds c (args t).arg1 ((dat V c).after 0 t) ∗ holds c (args t).arg2 ((dat V c).after 1 t)
    ∗ holds c (args t).arg3 ((dat V c).after 2 t) ∗ holds c (args t).arg4 ((dat V c).after 3 t)
    ∗ holds c (args t).arg5 ((dat V c).after 4 t) ∗ holds c (args t).arg6 ((dat V c).after 5 t)
    ∗ holds c (args t).arg7 ((dat V c).after 6 t) ∗ holds c (args t).arg8 ((dat V c).after 7 t)
    ∗ holds c (args t).arg9 ((dat V c).after 8 t) ∗ holds c (args t).arg10 ((dat V c).after 9 t)
    ∗ (dat V c).leavesExact 10 t ∗ (dat V c).leavesExact 11 t ∗ (dat V c).leavesExact 12 t
    ∗ (dat V c).leavesExact 13 t ∗ (dat V c).leavesExact 14 t ∗ (dat V c).leavesExact 15 t)

set_option maxHeartbeats 2400000 in
/-- The body at the first point. -/
theorem sound_bodyA (c : Dev nD) (t : Fin cfg1.N) (h0 : t.val = 0) :
    bodyPre V c t ⊢ wp frame (wpE (defs₀ (F := F)) Variants.none c none) Set.univ (bodyAt1 t) (fun _ => bodyPost V c t) := by
  unfold bodyPre bodyPost
  simp (disch := rfl) only [before_in, after_in]
  rw [Phi_castSucc, Phi_succ, show (dat V c).owesAt () t.succ = (dat V c).owesAt () t.castSucc from rfl,
    left_dproj, left_drb V c t (by omega), after_10]
  simp (disch := decide) only [left_acc, after_11, after_12, after_13, after_14]
  show _ ⊢ wp frame _ Set.univ (body (grid1.coords t) (args t)) _
  unfold Phi
  rw [state_first V c t h0, show dprojAt V c t = View.canon (rA V c t h0).1.dproj from dif_pos h0]
  unfold State.ofA
  dsimp only
  iintro ⟨⟨⟨%u0, %hu0, Hu0⟩, ⟨%u1, %hu1, Hu1⟩, ⟨%u2, %hu2, Hu2⟩, ⟨%u3, %hu3, Hu3⟩, Hu4, Hu5, Hu6, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((rA V c t h0).2 Set.univ _)
  unfold ins
  isplitl [H0 H1 H2 H3 H4 H5 H6 H7 H8 H9]; · iframel
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [Hu0]; · iexists _; iexact Hu0
  isplitl [Hu1]; · iexists _; iexact Hu1
  isplitl [Hu2]; · iexists _; iexact Hu2
  isplitl [Hu3]; · iexists _; iexact Hu3
  iframel Hu4 Hu5 Hu6
  iintro ⟨⟨H0, H1, H2, H3, H4, H5, H6, H7, H8, H9⟩, ⟨%eH10, H10⟩, ⟨%eH11, H11⟩, ⟨%eH12, H12⟩, ⟨%eH13, H13⟩, ⟨%eH14, H14⟩, ⟨%eH15, H15⟩, ⟨%eHu0, Hu0⟩, ⟨%eHu1, Hu1⟩, ⟨%eHu2, Hu2⟩, ⟨%eHu3, Hu3⟩, Hu4, Hu5, Hu6⟩
  isplitl [Hu0 Hu1 Hu2 Hu3 Hu4 Hu5 Hu6 Hrest Hp]
  · isplitl [Hu0]
    · iexists (View.canon (rA V c t h0).1.dbuf); isplitr
      · ipureintro; exact fun _ _ => congrArg (·.dbuf) (state_first V c t h0).symm
      iapply hold_written (coverA_dbuf V c t h0); iexact Hu0
    isplitl [Hu1]
    · iexists (View.canon (rA V c t h0).1.cu); isplitr
      · ipureintro; exact fun _ _ => congrArg (·.cu) (state_first V c t h0).symm
      iapply hold_written (coverA_cu V c t h0); iexact Hu1
    isplitl [Hu2]
    · iexists (View.canon (rA V c t h0).1.cq); isplitr
      · ipureintro; exact fun _ _ => congrArg (·.cq) (state_first V c t h0).symm
      iapply hold_written (coverA_cq V c t h0); iexact Hu2
    isplitl [Hu3]
    · iexists (View.canon (rA V c t h0).1.ckv); isplitr
      · ipureintro; exact fun _ _ => congrArg (·.ckv) (state_first V c t h0).symm
      iapply hold_written (coverA_ckv V c t h0); iexact Hu3
    isplitl [Hu4]; · iexact Hu4
    isplitl [Hu5]; · iexact Hu5
    isplitl [Hu6]; · iexact Hu6
    iframel Hrest Hp
  iframel Ho H0 H1 H2 H3 H4 H5 H6 H7 H8 H9
  isplitl [H10]; · iapply hold_written (coverA_dproj V c t h0); iexact H10
  isplitl [H11]; · iapply hold_written (coverA_dbias V c t h0); iexact H11
  isplitl [H12]; · iapply hold_written (coverA_dsink V c t h0); iexact H12
  isplitl [H13]; · iapply hold_written (coverA_dwp V c t h0); iexact H13
  isplitl [H14]; · iapply hold_written (coverA_dsc V c t h0); iexact H14
  iexists _; rw [before_drb V c t.val t.isLt]; iexact H15

set_option maxHeartbeats 2400000 in
/-- The body at a later point before the last. -/
theorem sound_bodyB (c : Dev nD) (t : Fin cfg1.N) (h0 : ¬t.val = 0) (h1 : t.val < 32) :
    bodyPre V c t ⊢ wp frame (wpE (defs₀ (F := F)) Variants.none c none) Set.univ (bodyAt1 t) (fun _ => bodyPost V c t) := by
  unfold bodyPre bodyPost
  simp (disch := rfl) only [before_in, after_in]
  rw [Phi_castSucc, Phi_succ, show (dat V c).owesAt () t.succ = (dat V c).owesAt () t.castSucc from rfl,
    left_dproj, left_drb V c t (by omega), after_10]
  simp (disch := first | assumption | decide) only [left_acc, before_acc, after_11, after_12, after_13, after_14]
  show _ ⊢ wp frame _ Set.univ (body (grid1.coords t) (args t)) _
  unfold Phi
  rw [state_step V c t h0 h1, show dprojAt V c t = View.canon (rB V c t h0 h1 (prev V c t)).1.dproj from (dif_neg h0).trans (dif_pos h1)]
  unfold State.ofB
  dsimp only
  iintro ⟨⟨⟨%u0, %hu0, Hu0⟩, ⟨%u1, %hu1, Hu1⟩, ⟨%u2, %hu2, Hu2⟩, ⟨%u3, %hu3, Hu3⟩, Hu4, Hu5, Hu6, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hp : 0 < t.val := Nat.pos_of_ne_zero h0
  have hl : t.val ≤ 32 := by omega
  obtain rfl := hu0 hp hl
  obtain rfl := hu1 hp hl
  obtain rfl := hu2 hp hl
  obtain rfl := hu3 hp hl
  iapply ((rB V c t h0 h1 (prev V c t)).2 Set.univ _)
  unfold ins
  isplitl [H0 H1 H2 H3 H4 H5 H6 H7 H8 H9]; · iframel
  isplitl [H10]; · iexists _; iexact H10
  iframel H11 H12 H13 H14
  isplitl [H15]; · iexists _; iexact H15
  iframel Hu0 Hu1 Hu2 Hu3 Hu4 Hu5 Hu6
  iintro ⟨⟨H0, H1, H2, H3, H4, H5, H6, H7, H8, H9⟩, ⟨%eH10, H10⟩, H11, H12, H13, H14, ⟨%eH15, H15⟩, Hu0, Hu1, Hu2, Hu3, Hu4, Hu5, Hu6⟩
  isplitl [Hu0 Hu1 Hu2 Hu3 Hu4 Hu5 Hu6 Hrest Hp]
  · isplitl [Hu0]
    · iexists (View.canon (rB V c t h0 h1 (prev V c t)).1.dbuf); isplitr
      · ipureintro; exact fun _ _ => congrArg (·.dbuf) (state_step V c t h0 h1).symm
      iapply hold_written (coverB_dbuf V c t h0 h1 _); iexact Hu0
    isplitl [Hu1]
    · iexists (View.canon (rB V c t h0 h1 (prev V c t)).1.cu); isplitr
      · ipureintro; exact fun _ _ => congrArg (·.cu) (state_step V c t h0 h1).symm
      iapply hold_written (coverB_cu V c t h0 h1 _); iexact Hu1
    isplitl [Hu2]
    · iexists (View.canon (rB V c t h0 h1 (prev V c t)).1.cq); isplitr
      · ipureintro; exact fun _ _ => congrArg (·.cq) (state_step V c t h0 h1).symm
      iapply hold_written (coverB_cq V c t h0 h1 _); iexact Hu2
    isplitl [Hu3]
    · iexists (View.canon (rB V c t h0 h1 (prev V c t)).1.ckv); isplitr
      · ipureintro; exact fun _ _ => congrArg (·.ckv) (state_step V c t h0 h1).symm
      iapply hold_written (coverB_ckv V c t h0 h1 _); iexact Hu3
    isplitl [Hu4]; · iexact Hu4
    isplitl [Hu5]; · iexact Hu5
    isplitl [Hu6]; · iexact Hu6
    iframel Hrest Hp
  iframel Ho H0 H1 H2 H3 H4 H5 H6 H7 H8 H9
  isplitl [H10]; · iapply hold_written (coverB_dproj V c t h0 h1 _); iexact H10
  isplitl [H11]; · iapply hold_written (coverB_dbias V c t h0 h1 _); iexact H11
  isplitl [H12]; · iapply hold_written (coverB_dsink V c t h0 h1 _); iexact H12
  isplitl [H13]; · iapply hold_written (coverB_dwp V c t h0 h1 _); iexact H13
  isplitl [H14]; · iapply hold_written (coverB_dsc V c t h0 h1 _); iexact H14
  iexists _; rw [before_drb V c t.val t.isLt]; iexact H15

set_option maxHeartbeats 2400000 in
/-- The body at the last point. -/
theorem sound_bodyC (c : Dev nD) (t : Fin cfg1.N) (h2 : t.val = 32) :
    bodyPre V c t ⊢ wp frame (wpE (defs₀ (F := F)) Variants.none c none) Set.univ (bodyAt1 t) (fun _ => bodyPost V c t) := by
  have h0 : ¬t.val = 0 := by omega
  unfold bodyPre bodyPost
  simp (disch := rfl) only [before_in, after_in]
  rw [Phi_castSucc, Phi_succ, show (dat V c).owesAt () t.succ = (dat V c).owesAt () t.castSucc from rfl,
    left_dproj, left_drb_last V c t h2, after_10, after_15]
  simp (disch := first | assumption | decide) only [left_acc, before_acc, after_11, after_12, after_13, after_14]
  show _ ⊢ wp frame _ Set.univ (body (grid1.coords t) (args t)) _
  unfold Phi
  rw [state_last V c t h2,
    show dprojAt V c t = View.canon (rC V c t h2 (prev V c t)).1.dproj from (by
      unfold dprojAt; rw [dif_neg h0, dif_neg (by omega : ¬t.val < 32), dif_pos h2]),
    show drbAt V c t = View.canon (rC V c t h2 (prev V c t)).1.drb from dif_pos h2]
  dsimp only
  iintro ⟨⟨⟨%u0, %hu0, Hu0⟩, ⟨%u1, %hu1, Hu1⟩, ⟨%u2, %hu2, Hu2⟩, ⟨%u3, %hu3, Hu3⟩, Hu4, Hu5, Hu6, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hp : 0 < t.val := Nat.pos_of_ne_zero h0
  have hl : t.val ≤ 32 := by omega
  obtain rfl := hu0 hp hl
  obtain rfl := hu1 hp hl
  obtain rfl := hu2 hp hl
  obtain rfl := hu3 hp hl
  iapply ((rC V c t h2 (prev V c t)).2 Set.univ _)
  unfold ins
  isplitl [H0 H1 H2 H3 H4 H5 H6 H7 H8 H9]; · iframel
  isplitl [H10]; · iexists _; iexact H10
  iframel H11 H12 H13 H14
  isplitl [H15]; · iexists _; iexact H15
  iframel Hu0 Hu1 Hu2 Hu3 Hu4 Hu5 Hu6
  iintro ⟨⟨H0, H1, H2, H3, H4, H5, H6, H7, H8, H9⟩, ⟨%eH10, H10⟩, H11, H12, H13, H14, ⟨%eH15, H15⟩, ⟨%eHu0, Hu0⟩, ⟨%eHu1, Hu1⟩, ⟨%eHu2, Hu2⟩, ⟨%eHu3, Hu3⟩, Hu4, Hu5, Hu6⟩
  isplitl [Hu0 Hu1 Hu2 Hu3 Hu4 Hu5 Hu6 Hrest Hp]
  · isplitl [Hu0]; · iexists _; isplitr; swap; · iexact Hu0
                     ipureintro; intro _ h; omega
    isplitl [Hu1]; · iexists _; isplitr; swap; · iexact Hu1
                     ipureintro; intro _ h; omega
    isplitl [Hu2]; · iexists _; isplitr; swap; · iexact Hu2
                     ipureintro; intro _ h; omega
    isplitl [Hu3]; · iexists _; isplitr; swap; · iexact Hu3
                     ipureintro; intro _ h; omega
    isplitl [Hu4]; · iexact Hu4
    isplitl [Hu5]; · iexact Hu5
    isplitl [Hu6]; · iexact Hu6
    iframel Hrest Hp
  iframel Ho H0 H1 H2 H3 H4 H5 H6 H7 H8 H9
  isplitl [H10]; · iapply hold_written (coverC_dproj V c t h2 _); iexact H10
  iframel H11 H12 H13 H14
  iapply hold_written (coverC_drb V c t h2 _); iexact H15

/-- The library's body obligation at every point. -/
theorem obligation (c : Dev nD) : BodyObligation (dat (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  refine triple_restated (P := bodyPre V c t) (Q := fun _ => bodyPost V c t) ?_ rfl .rfl fun _ => .rfl
  by_cases h0 : t.val = 0
  · exact sound_bodyA V c t h0
  · by_cases h1 : t.val < 32
    · exact sound_bodyB V c t h0 h1
    · exact sound_bodyC V c t (by have := lt33 t; omega)

end Regions

end Cert.MixersIdeal.Bwd

end
-- ==== Proof.MixRun.lean ====
module

public import proofs.«01_k».proof.Proof.FwdDat
public import proofs.«01_k».proof.Proof.BwdDat
public import Idealize.ShloMosaic.Lib.Pipeline.RegionsLoop

@[expose] public section

set_option maxRecDepth 16384

noncomputable section

namespace Cert.MixersIdeal.Run

open Cert.MixersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the regions -/

/-- What the forward region finds. -/
abbrev E0 : (c : Dev nD) → (b : Ref sig .tc) → Buf (Elt F) ((c : Thread nD τ).loc b) := fun c b => V3 m c b

/-- What the forward region leaves: its outputs as its points wrote them, the rest as found. -/
def W4 (c : Dev nD) : Valuation τ sig (Elt F) :=
  Function.update (Function.update (Function.update (Function.update (V3 m c) main_v38_0 ((Fwd.dat (E0 m) c).arrAt 11 cfg0.N)) main_v38_1 ((Fwd.dat (E0 m) c).arrAt 12 cfg0.N)) main_v38_2 ((Fwd.dat (E0 m) c).arrAt 13 cfg0.N)) main_v38_3 ((Fwd.dat (E0 m) c).arrAt 14 cfg0.N)

/-- The forward region's outputs. -/
abbrev outRefs0 : List (Ref sig .tc) := [main_v38_0, main_v38_1, main_v38_2, main_v38_3]

theorem W4_of (c : Dev nD) (r : Ref sig .tc) (h : r ∉ outRefs0) : W4 m c r = V3 m c r := by
  unfold W4
  have hne : ∀ a ∈ outRefs0, (Proc.devRef .tc r : DevRef τ sig) ≠ Proc.devRef .tc a := fun a ha =>
    StableHlo.devRef_ne_of_ne fun e => h (e ▸ ha)
  iterate 4 rw [Function.update_of_ne (hne _ (by decide))]

/-- Each output as the region left it. -/
theorem W4_out (c : Dev nD) : W4 m c main_v38_0 = (Fwd.dat (E0 m) c).arrAt 11 cfg0.N
    ∧ W4 m c main_v38_1 = (Fwd.dat (E0 m) c).arrAt 12 cfg0.N
    ∧ W4 m c main_v38_2 = (Fwd.dat (E0 m) c).arrAt 13 cfg0.N
    ∧ W4 m c main_v38_3 = (Fwd.dat (E0 m) c).arrAt 14 cfg0.N := by
  unfold W4
  refine ⟨?_, ?_, ?_, ?_⟩
  all_goals
    repeat rw [Function.update_of_ne (StableHlo.devRef_ne_of_ne (by decide))]
    rw [Function.update_self]

/-- The region's arrays after its last point, window by window. -/
theorem hF0 (c : Dev nD) : ∀ w : Fin cfg0.W, (Fwd.dat (E0 m) c).arrAt w cfg0.N = W4 m c (Pipeline.arrRef spec0 w) := by
  have hin : ∀ w : Fin cfg0.W, (cfg0.win w).isOut = false → Pipeline.arrRef spec0 w ∉ outRefs0 := by decide
  intro w
  by_cases hw : (cfg0.win w).isOut = false
  · exact ((Fwd.dat (E0 m) c).arrAt_in w hw _).trans ((Fwd.A_eq (E0 m) c w).trans (W4_of m c _ (hin w hw)).symm)
  · have hk : w = 11 ∨ w = 12 ∨ w = 13 ∨ w = 14 := by revert hw; revert w; decide
    obtain ⟨h0, h1, h2, h3⟩ := W4_out m c
    rcases hk with rfl | rfl | rfl | rfl
    exacts [h0.symm, h1.symm, h2.symm, h3.symm]

theorem hrest0 (c : Dev nD) (b : Ref sig .tc) (hb : b ∉ Finset.univ.image (Pipeline.arrRef spec0)) : W4 m c b = V3 m c b := by
  have ho : ∀ a ∈ outRefs0, a ∈ Finset.univ.image (Pipeline.arrRef spec0) := by decide
  exact W4_of m c b fun h => hb (ho b h)

/-- What the backward region finds. -/
abbrev E1 : (c : Dev nD) → (b : Ref sig .tc) → Buf (Elt F) ((c : Thread nD τ).loc b) := fun c b => W4 m c b

/-- What the backward region leaves: its outputs as its points wrote them, the rest as found. -/
def W5 (c : Dev nD) : Valuation τ sig (Elt F) :=
  Function.update (Function.update (Function.update (Function.update (Function.update (Function.update (W4 m c) main_v39_0 ((Bwd.dat (E1 m) c).arrAt 10 cfg1.N)) main_v39_1 ((Bwd.dat (E1 m) c).arrAt 11 cfg1.N)) main_v39_2 ((Bwd.dat (E1 m) c).arrAt 12 cfg1.N)) main_v39_3 ((Bwd.dat (E1 m) c).arrAt 13 cfg1.N)) main_v39_4 ((Bwd.dat (E1 m) c).arrAt 14 cfg1.N)) main_v39_5 ((Bwd.dat (E1 m) c).arrAt 15 cfg1.N)

/-- The backward region's outputs. -/
abbrev outRefs1 : List (Ref sig .tc) := [main_v39_0, main_v39_1, main_v39_2, main_v39_3, main_v39_4, main_v39_5]

theorem W5_of (c : Dev nD) (r : Ref sig .tc) (h : r ∉ outRefs1) : W5 m c r = W4 m c r := by
  unfold W5
  have hne : ∀ a ∈ outRefs1, (Proc.devRef .tc r : DevRef τ sig) ≠ Proc.devRef .tc a := fun a ha =>
    StableHlo.devRef_ne_of_ne fun e => h (e ▸ ha)
  iterate 6 rw [Function.update_of_ne (hne _ (by decide))]

set_option maxHeartbeats 800000 in
/-- Each output as the region left it. -/
theorem W5_out (c : Dev nD) : W5 m c main_v39_0 = (Bwd.dat (E1 m) c).arrAt 10 cfg1.N
    ∧ W5 m c main_v39_1 = (Bwd.dat (E1 m) c).arrAt 11 cfg1.N
    ∧ W5 m c main_v39_2 = (Bwd.dat (E1 m) c).arrAt 12 cfg1.N
    ∧ W5 m c main_v39_3 = (Bwd.dat (E1 m) c).arrAt 13 cfg1.N
    ∧ W5 m c main_v39_4 = (Bwd.dat (E1 m) c).arrAt 14 cfg1.N
    ∧ W5 m c main_v39_5 = (Bwd.dat (E1 m) c).arrAt 15 cfg1.N := by
  unfold W5
  refine ⟨?_, ?_, ?_, ?_, ?_, ?_⟩
  all_goals
    repeat rw [Function.update_of_ne (StableHlo.devRef_ne_of_ne (by decide))]
    rw [Function.update_self]

/-- The region's arrays after its last point, window by window. -/
theorem hF1 (c : Dev nD) : ∀ w : Fin cfg1.W, (Bwd.dat (E1 m) c).arrAt w cfg1.N = W5 m c (Pipeline.arrRef spec1 w) := by
  have hin : ∀ w : Fin cfg1.W, (cfg1.win w).isOut = false → Pipeline.arrRef spec1 w ∉ outRefs1 := by decide
  intro w
  by_cases hw : (cfg1.win w).isOut = false
  · exact ((Bwd.dat (E1 m) c).arrAt_in w hw _).trans ((Bwd.A_eq (E1 m) c w).trans (W5_of m c _ (hin w hw)).symm)
  · have hk : w = 10 ∨ w = 11 ∨ w = 12 ∨ w = 13 ∨ w = 14 ∨ w = 15 := by revert hw; revert w; decide
    obtain ⟨h0, h1, h2, h3, h4, h5⟩ := W5_out m c
    rcases hk with rfl | rfl | rfl | rfl | rfl | rfl
    exacts [h0.symm, h1.symm, h2.symm, h3.symm, h4.symm, h5.symm]

theorem hrest1 (c : Dev nD) (b : Ref sig .tc) (hb : b ∉ Finset.univ.image (Pipeline.arrRef spec1)) : W5 m c b = W4 m c b := by
  have ho : ∀ a ∈ outRefs1, a ∈ Finset.univ.image (Pipeline.arrRef spec1) := by decide
  exact W5_of m c b fun h => hb (ho b h)

/-- What the last host operations leave. -/
abbrev W6 (c : Dev nD) : Valuation τ sig (Elt F) := StableHlo.after hostOps2 (W5 m c)

theorem W6_of (c : Dev nD) (r : Ref sig .tc) (h : r ∉ hostOps2_W) : W6 m c r = W5 m c r :=
  StableHlo.after_of_writes_sub hostOps2 _ hostOps2_writes h

theorem W6_v40 (c : Dev nD) : W6 m c main_v40 = extractStridedSlice S4096x512 ![0, 0] (W5 m c main_v39_0) slices_S4096x1280_S4096x512_0_0 := by
  unfold W6 hostOps2
  after_results_simp

theorem W6_v41 (c : Dev nD) : W6 m c main_v41 = extractStridedSlice S4096x512 ![0, 0] (W5 m c main_v38_0) slices_S4096x1024_S4096x512_0_0 := by
  unfold W6 hostOps2
  after_results_simp

/-! ## The regions as segments -/

/-- Both pipelines' proof data, each at what its region finds. -/
def pdats : (p : Fin 2) → (c : Dev nD) → Dat τ (Elt F) Unit ℕ (UR sig nD τ) ℕ (Pipeline.pin (pcfgs (F := F)) adm p) c
  | ⟨0, _⟩ => fun c => Fwd.dat (E0 m) c
  | ⟨1, _⟩ => fun c => Bwd.dat (E1 m) c
abbrev 𝒱₀ : Variants := Variants.none
/-- No core owes another anything. -/
abbrev L : GSem nD τ sig → Finset Unit := fun _ => ∅
abbrev lv : GSem nD τ sig → Unit → ℕ := fun _ _ => 0
/-- Beside the buffers: the generator register, and nothing owed. -/
abbrev R (c : Dev nD) : sProp 𝕄 := iprop((∃ r, prngReg c r) ∗ ∃ W, owes (c : Thread nD τ) (0 : CellTallies nD τ sig Unit) W)
/-- A host stretch over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the program leaves, beside nothing owed. -/
abbrev Tₙ (c : Dev nD) : sProp 𝕄 := iprop(StableHlo.held (c : Thread nD τ) (Pipeline.ucRefs τ sig) (W6 m c) ∗ ∃ r, prngReg c r)

/-- The scoped buffers of region 0 that are no staging buffer, one by one. -/
theorem scoped0 (c : Dev nD) : (Pipeline.scopedRest (Ix := Unit) (Name := ℕ) (U := UR sig nD τ) (Lvl := ℕ) (Val := Elt F) spec0 c : sProp 𝕄)
    = iprop((anyIn c (Memref.whole cc0_scratch0 : Memref sig .tc .vmem S144x512 .f32)
      ∗ anyIn c (Memref.whole cc0_scratch1 : Memref sig .tc .vmem S8x128x256 .f32)
      ∗ anyIn c (Memref.whole cc0_scratch2 : Memref sig .tc .vmem S8x128x256 .f32))
      ∗ Pipeline.scopedRestBut (Ix := Unit) (Name := ℕ) (U := UR sig nD τ) (Lvl := ℕ) (Val := Elt F) spec0 c [cc0_scratch0, cc0_scratch1, cc0_scratch2]) := by
  rw [scopedRest0_split]; simp only [anyIn, holds, owns_whole]

theorem Phi0_in (c : Dev nD) :
    iprop(Pipeline.scopedRest (Ix := Unit) (Name := ℕ) (U := UR sig nD τ) (Lvl := ℕ) (Val := Elt F) spec0 c ∗ ∃ r, prngReg c r)
      ⊢ (Fwd.Phi (E0 m) c 0 : sProp 𝕄) := by
  rw [scoped0]; unfold Fwd.Phi
  iintro ⟨⟨⟨Hu0, Hu1, ⟨%d2, Hu2⟩⟩, Hrest⟩, Hp⟩
  iframel Hu0 Hu1
  isplitl [Hu2]
  · iexists d2; isplitr; · ipureintro; exact fun h => absurd h (by decide)
    iexact Hu2
  iframel Hrest Hp

theorem Phi0_out (c : Dev nD) (n : ℕ) :
    (Fwd.Phi (E0 m) c n : sProp 𝕄)
      ⊢ iprop(Pipeline.scopedRest (Ix := Unit) (Name := ℕ) (U := UR sig nD τ) (Lvl := ℕ) (Val := Elt F) spec0 c ∗ ∃ r, prngReg c r) := by
  rw [scoped0]; unfold Fwd.Phi
  iintro ⟨Hu0, Hu1, Hu2, Hrest, Hp⟩
  isplitl [Hu0 Hu1 Hu2 Hrest]
  · isplitl [Hu0 Hu1 Hu2]
    · iframel Hu0 Hu1
      icases Hu2 with ⟨%d, -, Hu2⟩; iexists d; iexact Hu2
    iexact Hrest
  iexact Hp

set_option backward.isDefEq.respectTransparency.types false in
/-- The forward region: entered from every unscoped buffer as found, left with its outputs written. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Fwd.obligation (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs_shared (p := 0) (pcfgs (F := F)) adm (pdats m) winFacts₀0 sharedIn0 arr_whole0 c
      (fun _ _ => rfl) (E0 m c) (Fwd.A_eq (E0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframel Hp Hrest
  hin c := by
    rw [show (pdats m 0 c).Φ 0 = Fwd.Phi (E0 m) c 0 from rfl]
    iintro ⟨Hp, -, Hr⟩
    iapply (Phi0_in m c)
    iframel Hr Hp
  hout c := by
    rw [Pipeline.ownSems0_none, show (pdats m 0 c).Φ (Fin.last _) = Fwd.Phi (E0 m) c (Fin.last cfg0.N).val from rfl]
    iintro H
    ihave H' := (Phi0_out m c _) $$ H
    icases H' with ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      winFacts₀0 sharedIn0 arr_whole0 c (pdats m) (fun _ _ => rfl)
      (E0 m c) (fun b => W4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The scoped buffers of region 1 that are no staging buffer, one by one. -/
theorem scoped1 (c : Dev nD) : (Pipeline.scopedRest (Ix := Unit) (Name := ℕ) (U := UR sig nD τ) (Lvl := ℕ) (Val := Elt F) spec1 c : sProp 𝕄)
    = iprop((anyIn c (Memref.whole cc1_scratch0 : Memref sig .tc .vmem S144x512 .f32)
      ∗ anyIn c (Memref.whole cc1_scratch1 : Memref sig .tc .vmem S128x512 .f32)
      ∗ anyIn c (Memref.whole cc1_scratch2 : Memref sig .tc .vmem S128x512 .f32)
      ∗ anyIn c (Memref.whole cc1_scratch3 : Memref sig .tc .vmem S128x256 .f32)
      ∗ anyIn c (Memref.whole cc1_scratch4 : Memref sig .tc .vmem S8x128x256 .f32)
      ∗ anyIn c (Memref.whole cc1_scratch5 : Memref sig .tc .vmem S8x128x256 .bf16)
      ∗ anyIn c (Memref.whole cc1_scratch6 : Memref sig .tc .vmem S128x128 .f32))
      ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5, cc1_scratch6]) := by
  rw [scopedRest1_split]; simp only [anyIn, holds, owns_whole]

theorem Phi1_in (c : Dev nD) :
    iprop(Pipeline.scopedRest (Ix := Unit) (Name := ℕ) (U := UR sig nD τ) (Lvl := ℕ) (Val := Elt F) spec1 c ∗ ∃ r, prngReg c r)
      ⊢ (Bwd.Phi (E1 m) c 0 : sProp 𝕄) := by
  rw [scoped1]; unfold Bwd.Phi
  iintro ⟨⟨⟨⟨%d0, Hu0⟩, ⟨%d1, Hu1⟩, ⟨%d2, Hu2⟩, ⟨%d3, Hu3⟩, Hu4, Hu5, Hu6⟩, Hrest⟩, Hp⟩
  have hn (p : Prop) : 0 < 0 → p := fun h => absurd h (by decide)
  isplitl [Hu0]
  · iexists d0; isplitr; · ipureintro; exact hn _
    iexact Hu0
  isplitl [Hu1]
  · iexists d1; isplitr; · ipureintro; exact hn _
    iexact Hu1
  isplitl [Hu2]
  · iexists d2; isplitr; · ipureintro; exact hn _
    iexact Hu2
  isplitl [Hu3]
  · iexists d3; isplitr; · ipureintro; exact hn _
    iexact Hu3
  iframel Hu4 Hu5 Hu6 Hrest Hp

theorem Phi1_out (c : Dev nD) (n : ℕ) :
    (Bwd.Phi (E1 m) c n : sProp 𝕄)
      ⊢ iprop(Pipeline.scopedRest (Ix := Unit) (Name := ℕ) (U := UR sig nD τ) (Lvl := ℕ) (Val := Elt F) spec1 c ∗ ∃ r, prngReg c r) := by
  rw [scoped1]; unfold Bwd.Phi
  iintro ⟨⟨%d0, -, Hu0⟩, ⟨%d1, -, Hu1⟩, ⟨%d2, -, Hu2⟩, ⟨%d3, -, Hu3⟩, Hu4, Hu5, Hu6, Hrest, Hp⟩
  isplitl [Hu0 Hu1 Hu2 Hu3 Hu4 Hu5 Hu6 Hrest]
  · isplitl [Hu0 Hu1 Hu2 Hu3 Hu4 Hu5 Hu6]
    · isplitl [Hu0]; · iexists d0; iexact Hu0
      isplitl [Hu1]; · iexists d1; iexact Hu1
      isplitl [Hu2]; · iexists d2; iexact Hu2
      isplitl [Hu3]; · iexists d3; iexact Hu3
      iframel Hu4 Hu5 Hu6
    iexact Hrest
  iexact Hp

set_option backward.isDefEq.respectTransparency.types false in
/-- The backward region: entered from every unscoped buffer as found, left with its outputs written. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Bwd.obligation (E1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs_shared (p := 1) (pcfgs (F := F)) adm (pdats m) winFacts₀1 sharedIn1 arr_whole1 c
      (fun _ _ => rfl) (E1 m c) (Bwd.A_eq (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframel Hp Hrest
  hin c := by
    rw [show (pdats m 1 c).Φ 0 = Bwd.Phi (E1 m) c 0 from rfl]
    iintro ⟨Hp, -, Hr⟩
    iapply (Phi1_in m c)
    iframel Hr Hp
  hout c := by
    rw [Pipeline.ownSems0_none, show (pdats m 1 c).Φ (Fin.last _) = Bwd.Phi (E1 m) c (Fin.last cfg1.N).val from rfl]
    iintro H
    ihave H' := (Phi1_out m c _) $$ H
    icases H' with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      winFacts₀1 sharedIn1 arr_whole1 c (pdats m) (fun _ _ => rfl)
      (E1 m c) (fun b => W5 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The program's segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m), .region (reg1 m),
    .host (hseg hostOps2 hostOps2_sub hostOps2_fresh (W5 m)) ]

theorem main_run (c : Dev nD) : main (F := F) c = Pipeline.Seg.run (segs m) := (main_chain c).trans (by chain_rfl)

set_option backward.isDefEq.respectTransparency.types false in
/-- Every execution ends, every unscoped buffer at the last boundary's contents, every counter at zero. -/
theorem run_all : θ_run defs (onTc (τ := τ) (main (F := F))) ⟨m, fun _ => 0, ρ⟩ (fun r => (∀ c : Dev nD, ∀ b ∈ Pipeline.ucRefs τ sig,
      r.2.mem ((c : Thread nD τ).1, b) = W6 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun c => by
        show iprop(StableHlo.held (c : Thread nD τ) (Pipeline.ucRefs τ sig) (W6 m c) ∗ R c) ⊢ _
        iintro ⟨Hh, Hp, HO⟩
        isplitl [Hh Hp]; · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h hz => ⟨h, funext fun g => hz g (.inr (regions_no_unscoped g.2))⟩)

/-- A buffer no operation and no region writes ends as launched. -/
theorem W6_kept (c : Dev nD) (r : Ref sig .tc) (h0 : r ∉ hostOps0_W) (h1 : r ∉ hostOps0_1_W) (h2 : r ∉ hostOps0_2_W)
    (h3 : r ∉ outRefs0) (h4 : r ∉ outRefs1) (h5 : r ∉ hostOps2_W) : W6 m c r = m ((c : Thread nD τ).loc r) :=
  (W6_of m c r h5).trans <| (W5_of m c r h4).trans <| (W4_of m c r h3).trans <| (V3_of m c r h2).trans <| (V2_of m c r h1).trans <| (V1_of m c r h0).trans rfl

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c _ (mem_uc main_arg0 (by decide))).trans (W6_kept m c main_arg0 (by decide) (by decide) (by decide) (by decide) (by decide) (by decide)),
    (h.1 c _ (mem_uc main_arg1 (by decide))).trans (W6_kept m c main_arg1 (by decide) (by decide) (by decide) (by decide) (by decide) (by decide)),
    (h.1 c _ (mem_uc main_arg2 (by decide))).trans (W6_kept m c main_arg2 (by decide) (by decide) (by decide) (by decide) (by decide) (by decide)),
    (h.1 c _ (mem_uc main_arg3 (by decide))).trans (W6_kept m c main_arg3 (by decide) (by decide) (by decide) (by decide) (by decide) (by decide)),
    (h.1 c _ (mem_uc main_arg4 (by decide))).trans (W6_kept m c main_arg4 (by decide) (by decide) (by decide) (by decide) (by decide) (by decide)),
    (h.1 c _ (mem_uc main_arg5 (by decide))).trans (W6_kept m c main_arg5 (by decide) (by decide) (by decide) (by decide) (by decide) (by decide))⟩, h.2⟩) (run_all m ρ)

end Cert.MixersIdeal.Run

end
-- ==== Proof.MixLib.lean ====
/-
  How the mixers' two bodies' stores read: a load through a whole buffer, a buffer written piece by piece, and the count
  a trailing window divides by.
-/
module

public import proofs.«01_k».proof.Proof.Reals
public import Idealize.ShloMosaic.Lib.Pipeline.FrameBody
public import Idealize.ShloMosaic.Lib.WholeRead
public import Idealize.ShloMosaic.Lib.Pointwise
public import Idealize.ShloMosaic.Lib.Pipeline.Value

@[expose] public section

set_option maxRecDepth 16384

noncomputable section

namespace Cert.Mix

open Idealize.ShloMosaic Idealize.ShloMosaic.TcCoe
open Cert.Reals
open scoped BigOperators

section canon
variable {Val : EltTy → Type} [∀ e, Nonempty (Val e)] {s : Shape} {e : EltTy}

/-- Where the first pieces of a list cover, the later ones do not matter. -/
theorem canon_append (L M : List (View.Piece Val s e)) (y : s.Idx) (h : ∃ p ∈ L, y ∈ p.1.set) :
    View.canon (L ++ M) y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      show View.canon (p :: (L ++ M)) (p.1.emb x) = View.canon (p :: L) (p.1.emb x)
      rw [View.canon_cons_emb, View.canon_cons_emb]
    · show View.canon (p :: (L ++ M)) y = View.canon (p :: L) y
      rw [View.canon_cons_of_not_mem _ _ hm, View.canon_cons_of_not_mem _ _ hm]
      refine ih ?_
      obtain ⟨q, hq, hy⟩ := h
      rcases List.mem_cons.mp hq with rfl | hq
      · exact absurd hy hm
      · exact ⟨q, hq, hy⟩

end canon

/-- A column of naturals off a two-axis array, nothing outside it. -/
def at2 {n m : ℕ} {α : Type} [Zero α] (x : (⟨2, ![n, m]⟩ : Shape).Idx → α) (a b : ℕ) : α :=
  if h : a < n ∧ b < m then x (ix2 ⟨a, h.1⟩ ⟨b, h.2⟩) else 0

theorem at2_eq {n m : ℕ} {α : Type} [Zero α] (x : (⟨2, ![n, m]⟩ : Shape).Idx → α) (a : Fin n) (b : Fin m) : at2 x a.val b.val = x (ix2 a b) :=
  dif_pos ⟨a.isLt, b.isLt⟩

/-- The same for three axes. -/
def at3 {l n m : ℕ} {α : Type} [Zero α] (x : (⟨3, ![l, n, m]⟩ : Shape).Idx → α) (g a b : ℕ) : α :=
  if h : g < l ∧ a < n ∧ b < m then x (ix3 ⟨g, h.1⟩ ⟨a, h.2.1⟩ ⟨b, h.2.2⟩) else 0

theorem at3_eq {l n m : ℕ} {α : Type} [Zero α] (x : (⟨3, ![l, n, m]⟩ : Shape).Idx → α) (g : Fin l) (a : Fin n) (b : Fin m) :
    at3 x g.val a.val b.val = x (ix3 g a b) :=
  dif_pos ⟨g.isLt, a.isLt, b.isLt⟩

section reads
variable {sig : RefSig} {l n m p a b : ℕ}

/-- A load of a block of a whole buffer's contents, at one index. -/
theorem rd2 (M : Memref sig .tc .vmem ⟨2, ![n, m]⟩ .f32) (hM : M.IsWhole) (x : Vec Ideal ⟨2, ![n, m]⟩ .f32) (o1 o2 : ℕ) (inb) (r : Fin a) (d : Fin b) :
    View.readAt (Elt Ideal) M.view (Rect.unit (s := ⟨2, ![n, m]⟩) ![o1, o2] ![a, b] inb).toLoadRect (hM.unread x) (ix2 r d) = at2 (α := EReal) x (o1 + r.val) (o2 + d.val) := by
  have h0 : o1 + a ≤ n := inb 0
  have h1 : o2 + b ≤ m := inb 1
  refine (hM.readAt_unread _ _ _).trans (Eq.trans ?_ (at2_eq (α := EReal) x ⟨o1 + r.val, by omega⟩ ⟨o2 + d.val, by omega⟩).symm)
  congr 1; funext k; apply Fin.ext
  match k with
  | ⟨0, _⟩ => show o1 + 1 * r.val = o1 + r.val; omega
  | ⟨1, _⟩ => show o2 + 1 * d.val = o2 + d.val; omega

theorem rd2b (M : Memref sig .tc .vmem ⟨2, ![n, m]⟩ .bf16) (hM : M.IsWhole) (x : Vec Ideal ⟨2, ![n, m]⟩ .bf16) (o1 o2 : ℕ) (inb) (r : Fin a) (d : Fin b) :
    View.readAt (Elt Ideal) M.view (Rect.unit (s := ⟨2, ![n, m]⟩) ![o1, o2] ![a, b] inb).toLoadRect (hM.unread x) (ix2 r d) = at2 (α := EReal) x (o1 + r.val) (o2 + d.val) := by
  have h0 : o1 + a ≤ n := inb 0
  have h1 : o2 + b ≤ m := inb 1
  refine (hM.readAt_unread _ _ _).trans (Eq.trans ?_ (at2_eq (α := EReal) x ⟨o1 + r.val, by omega⟩ ⟨o2 + d.val, by omega⟩).symm)
  congr 1; funext k; apply Fin.ext
  match k with
  | ⟨0, _⟩ => show o1 + 1 * r.val = o1 + r.val; omega
  | ⟨1, _⟩ => show o2 + 1 * d.val = o2 + d.val; omega

theorem rd3 (M : Memref sig .tc .vmem ⟨3, ![l, n, m]⟩ .f32) (hM : M.IsWhole) (x : Vec Ideal ⟨3, ![l, n, m]⟩ .f32) (o1 o2 o3 : ℕ) (inb) (g : Fin p) (r : Fin a) (d : Fin b) :
    View.readAt (Elt Ideal) M.view (Rect.unit (s := ⟨3, ![l, n, m]⟩) ![o1, o2, o3] ![p, a, b] inb).toLoadRect (hM.unread x) (ix3 g r d)
      = at3 (α := EReal) x (o1 + g.val) (o2 + r.val) (o3 + d.val) := by
  have h0 : o1 + p ≤ l := inb 0
  have h1 : o2 + a ≤ n := inb 1
  have h2 : o3 + b ≤ m := inb 2
  refine (hM.readAt_unread _ _ _).trans (Eq.trans ?_ (at3_eq (α := EReal) x ⟨o1 + g.val, by omega⟩ ⟨o2 + r.val, by omega⟩ ⟨o3 + d.val, by omega⟩).symm)
  congr 1; funext k; apply Fin.ext
  match k with
  | ⟨0, _⟩ => show o1 + 1 * g.val = o1 + g.val; omega
  | ⟨1, _⟩ => show o2 + 1 * r.val = o2 + r.val; omega
  | ⟨2, _⟩ => show o3 + 1 * d.val = o3 + d.val; omega

theorem rd3b (M : Memref sig .tc .vmem ⟨3, ![l, n, m]⟩ .bf16) (hM : M.IsWhole) (x : Vec Ideal ⟨3, ![l, n, m]⟩ .bf16) (o1 o2 o3 : ℕ) (inb) (g : Fin p) (r : Fin a) (d : Fin b) :
    View.readAt (Elt Ideal) M.view (Rect.unit (s := ⟨3, ![l, n, m]⟩) ![o1, o2, o3] ![p, a, b] inb).toLoadRect (hM.unread x) (ix3 g r d)
      = at3 (α := EReal) x (o1 + g.val) (o2 + r.val) (o3 + d.val) := by
  have h0 : o1 + p ≤ l := inb 0
  have h1 : o2 + a ≤ n := inb 1
  have h2 : o3 + b ≤ m := inb 2
  refine (hM.readAt_unread _ _ _).trans (Eq.trans ?_ (at3_eq (α := EReal) x ⟨o1 + g.val, by omega⟩ ⟨o2 + r.val, by omega⟩ ⟨o3 + d.val, by omega⟩).symm)
  congr 1; funext k; apply Fin.ext
  match k with
  | ⟨0, _⟩ => show o1 + 1 * g.val = o1 + g.val; omega
  | ⟨1, _⟩ => show o2 + 1 * r.val = o2 + r.val; omega
  | ⟨2, _⟩ => show o3 + 1 * d.val = o3 + d.val; omega

end reads

/-- The whole number a window's count is computed as. -/
theorem count_toInt {n w : ℕ} (hn : n < 5000) (hw : w < 5000) :
    (if (BitVec.ofNat 32 n).slt (BitVec.ofNat 32 w) then BitVec.ofNat 32 n else BitVec.ofNat 32 w).toInt = (min n w : ℕ) := by
  have e : ∀ k : ℕ, k < 5000 → (BitVec.ofNat 32 k).toInt = (k : ℤ) := fun k hk => by
    rw [BitVec.toInt_eq_toNat_cond, BitVec.toNat_ofNat]; omega
  split
  · rename_i h
    rw [BitVec.slt_iff_toInt_lt, e n hn, e w hw] at h
    rw [e n hn, min_eq_left (by omega)]
  · rename_i h
    rw [BitVec.slt_iff_toInt_lt, e n hn, e w hw] at h
    rw [e w hw, min_eq_right (by omega)]

/-- A trailing window's mean minus the token itself: the window holds the last `w` tokens, or all of them where there are fewer. -/
def trail (u : ℕ → ℝ) (w T : ℕ) : ℝ :=
  (∑ k ∈ Finset.range w, if k ≤ T then u (T - k) else 0) / (min (T + 1) w : ℕ) - u T

/-- How that mean answers to a token: every window the token lies in gives its share, less the token's own part. -/
def lead (d : ℕ → ℝ) (w n T : ℕ) : ℝ :=
  (∑ k ∈ Finset.range w, if T + k < n then d (T + k) / (min (T + k + 1) w : ℕ) else 0) - d T

/-- What a pooled channel's gradient is: the cotangent times the scale, through the mixing weights. -/
def dpool (x1 : (⟨4, ![1, 4, 128, 128]⟩ : Shape).Idx → EReal) (x2 : (⟨2, ![1, 512]⟩ : Shape).Idx → EReal) (x5 : (⟨2, ![4096, 1024]⟩ : Shape).Idx → EReal)
    (g : Fin 4) (a : Fin 128) (T : ℕ) : EReal :=
  ∑ n : Fin 128, at2 (α := EReal) x5 T (128 * g.val + n.val) * at2 (α := EReal) x2 0 (128 * g.val + n.val) * x1 (ix4 0 g a n)

theorem at2_real {n m : ℕ} (x : (⟨2, ![n, m]⟩ : Shape).Idx → EReal) (hx : ∀ j, ∃ r : ℝ, x j = (r : EReal)) (a b : ℕ) : ∃ r : ℝ, at2 (α := EReal) x a b = (r : EReal) := by
  unfold at2
  split
  · exact hx _
  · exact ⟨0, rfl⟩

theorem dpool_coe {x1 x2 x5} (h1 : ∀ j, ∃ r : ℝ, x1 j = (r : EReal)) (h2 : ∀ j, ∃ r : ℝ, x2 j = (r : EReal)) (h5 : ∀ j, ∃ r : ℝ, x5 j = (r : EReal))
    (g : Fin 4) (a : Fin 128) (T : ℕ) : dpool x1 x2 x5 g a T = ((dpool x1 x2 x5 g a T).toReal : EReal) := by
  have h : ∃ r : ℝ, dpool x1 x2 x5 g a T = (r : EReal) := by
    have e5 := fun n : Fin 128 => at2_real x5 h5 T (128 * g.val + n.val)
    have e2 := fun n : Fin 128 => at2_real x2 h2 0 (128 * g.val + n.val)
    have e1 := fun n : Fin 128 => h1 (ix4 0 g a n)
    choose r5 h5 using e5
    choose r2 h2 using e2
    choose r1 h1 using e1
    refine ⟨∑ n, r5 n * r2 n * r1 n, ?_⟩
    unfold dpool
    rw [← sum_coe]
    exact Finset.sum_congr rfl fun n _ => by rw [h5, h2, h1, EReal.coe_mul, EReal.coe_mul]
  obtain ⟨r, e⟩ := h
  rw [e, EReal.toReal_coe]

/-- A sum over blocks of rows is the sum over the rows. -/
theorem sum_blocks {M : Type*} [AddCommMonoid M] (f : ℕ → M) (b n : ℕ) : ∑ s ∈ Finset.range n, ∑ r : Fin b, f (b * s + r.val) = ∑ T ∈ Finset.range (b * n), f T := by
  induction n with
  | zero => simp
  | succ n ih => rw [Finset.sum_range_succ, ih, Nat.mul_succ, Finset.sum_range_add, Finset.sum_range (fun r => f (b * n + r))]

end Cert.Mix
end
-- ==== Proof.PoolForward.lean ====
/-
  The forward call's pooled array: for every token and channel, the mean of a trailing window minus the token itself.
-/
module

public import proofs.«01_k».proof.Proof.Tile
public import proofs.«01_k».proof.Proof.MixRun
public import proofs.«01_k».proof.Proof.MixLib

@[expose] public section

set_option maxRecDepth 16384

noncomputable section

namespace Cert.MixersIdeal.Val

open Cert.MixersIdeal Cert.MixersIdeal.Gen Idealize.ShloMosaic Idealize.ShloMosaic.TcCoe
open Cert.Reals Cert.Mix
open scoped BigOperators

section payload
variable (c : Dev nD) (i : grid0.Coords) (arg1 : Memref sig .tc .vmem S128x512 .f32) (harg1 : arg1.IsWhole) (arg2 : Memref sig .tc .vmem S16x512 .f32)
  (harg2 : arg2.IsWhole) (arg16 : Memref sig .tc .vmem S144x512 .f32) (x0 : Vec Ideal S128x512 .f32) (x1 : Vec Ideal S16x512 .f32)

/-- The window buffer: sixteen rows of the block before, then the block. -/
def ubuf (a b : ℕ) : EReal := if a < 16 then (if 0 < (i 0).val then at2 (α := EReal) x1 a b else 0) else at2 (α := EReal) x0 (a - 16) b

theorem pay96_apply (a : Fin 16) (b : Fin 512) : k0_pay96 (F := Ideal) i x1 (ix2 a b) = if 0 < (i 0).val then (x1 (ix2 a b) : EReal) else 0 := by
  have hi : (i 0).val < 32 := (i 0).isLt
  have e : Scalar.cmpi .sgt (BitVec.ofNat 32 (i 0).val) 0#32 = if 0 < (i 0).val then 1#1 else 0#1 := by
    have : ∀ k : Fin 32, Scalar.cmpi .sgt (BitVec.ofNat 32 k.val) 0#32 = if 0 < k.val then 1#1 else 0#1 := by decide +kernel
    exact this ⟨_, hi⟩
  unfold k0_pay96
  dsimp only
  rw [e]
  split
  · pointwise []
  · pointwise []

theorem pay97_apply (a : Fin 128) (b : Fin 512) : k0_pay97 (F := Ideal) x0 (ix2 a b) = x0 (ix2 a b) := by
  unfold k0_pay97
  pointwise []

theorem ubuf_read (o1 o2 : ℕ) (inb) (r d : Fin 128) :
    arg16.view.readCov (Fwd.runB.sl.H16_2 (F := Ideal) c i arg1 harg1 arg2 harg2 x0 x1) (Rect.unit (s := S144x512) ![o1, o2] ![128, 128] inb).toLoadRect (ix2 r d)
      = ubuf i x0 x1 (o1 + r.val) (o2 + d.val) := by
  rw [View.readCov_eq_canon']
  have key : ∀ y : S144x512.Idx, View.canon (Fwd.runB.sl.H16_2 (F := Ideal) c i arg1 harg1 arg2 harg2 x0 x1) y = ubuf i x0 x1 (y 0).val (y 1).val := by
    intro y
    refine View.canon_apply_of_pieces (Val := Elt Ideal) (e := .f32) (fun y : S144x512.Idx => ubuf i x0 x1 (y 0).val (y 1).val) _ ?_ y ?_
    · unfold Fwd.runB.sl.H16_2
      intro p hp x
      simp only [List.mem_cons, List.not_mem_nil, or_false] at hp
      rcases hp with rfl | rfl
      · obtain ⟨a, b, rfl⟩ : ∃ (a : Fin 128) (b : Fin 512), x = ix2 a b := ⟨x 0, x 1, funext fun k => by fin_cases k <;> rfl⟩
        have e0 : ((Rect.unit (s := S144x512) ![16, 0] S128x512.size inb_S144x512_S128x512_16_0).emb (ix2 a b) 0).val = 16 + 1 * a.val := rfl
        have e1 : ((Rect.unit (s := S144x512) ![16, 0] S128x512.size inb_S144x512_S128x512_16_0).emb (ix2 a b) 1).val = 0 + 1 * b.val := rfl
        dsimp only
        rw [e0, e1]
        show k0_pay97 (F := Ideal) _ (ix2 a b) = _
        rw [pay97_apply, harg1.readAt_unread]
        unfold ubuf
        rw [if_neg (by omega), show 16 + 1 * a.val - 16 = a.val by omega, show 0 + 1 * b.val = b.val by omega, at2_eq]
        congr 1; funext k; apply Fin.ext
        match k with
        | ⟨0, _⟩ => show 0 + 1 * a.val = a.val; omega
        | ⟨1, _⟩ => show 0 + 1 * b.val = b.val; omega
      · obtain ⟨a, b, rfl⟩ : ∃ (a : Fin 16) (b : Fin 512), x = ix2 a b := ⟨x 0, x 1, funext fun k => by fin_cases k <;> rfl⟩
        show k0_pay96 (F := Ideal) i _ (ix2 a b) = ubuf i x0 x1 (0 + 1 * a.val) (0 + 1 * b.val)
        rw [pay96_apply, harg2.readAt_unread]
        unfold ubuf
        have ha := a.isLt
        rw [if_pos (show 0 + 1 * a.val < 16 by omega), show 0 + 1 * a.val = a.val by omega, show 0 + 1 * b.val = b.val by omega, at2_eq]
        congr 1; congr 1; funext k; apply Fin.ext
        match k with
        | ⟨0, _⟩ => show 0 + 1 * a.val = a.val; omega
        | ⟨1, _⟩ => show 0 + 1 * b.val = b.val; omega
    · have h0 : (y 0).val < 144 := (y 0).isLt
      have h1 : (y 1).val < 512 := (y 1).isLt
      unfold Fwd.runB.sl.H16_2
      by_cases h : (y 0).val < 16
      · refine ⟨_, List.mem_cons_of_mem _ (List.mem_singleton.mpr rfl), ?_⟩
        show y ∈ (Rect.unit (s := S144x512) ![0, 0] S16x512.size inb_S144x512_S16x512_0_0).set
        rw [Rect.mem_set_unit]
        intro a
        match a with
        | ⟨0, _⟩ => show 0 ≤ (y 0).val ∧ (y 0).val < 0 + 16; omega
        | ⟨1, _⟩ => show 0 ≤ (y 1).val ∧ (y 1).val < 0 + 512; omega
      · refine ⟨_, List.mem_cons_self, ?_⟩
        show y ∈ (Rect.unit (s := S144x512) ![16, 0] S128x512.size inb_S144x512_S128x512_16_0).set
        rw [Rect.mem_set_unit]
        intro a
        match a with
        | ⟨0, _⟩ => show 16 ≤ (y 0).val ∧ (y 0).val < 16 + 128; omega
        | ⟨1, _⟩ => show 0 ≤ (y 1).val ∧ (y 1).val < 0 + 512; omega
  refine (key _).trans ?_
  show ubuf i x0 x1 (o1 + 1 * r.val) (o2 + 1 * d.val) = _
  rw [one_mul, one_mul]

/-- A trailing window's sum over the buffer, at row `r` of the block and column `b`. -/
def wsum (w r b : ℕ) : EReal := ∑ k ∈ Finset.range w, ubuf i x0 x1 (16 - k + r) b
/-- One over the count. -/
def icount (w r : ℕ) : EReal := Ideal.div 1
  (((if (BitVec.ofNat 32 ((i 0).val * 128 + r + 1)).slt (BitVec.ofNat 32 w) then BitVec.ofNat 32 ((i 0).val * 128 + r + 1) else BitVec.ofNat 32 w).toInt : ℝ) : EReal)

theorem count_word (r : ℕ) : BitVec.ofNat 32 (i 0).val * 128#32 + BitVec.ofNat 32 r + 1#32 = BitVec.ofNat 32 ((i 0).val * 128 + r + 1) := by
  rw [BitVec.ofNat_add, BitVec.ofNat_add, BitVec.ofNat_mul]

theorem pool1 (r d : Fin 128) : Fwd.runB.sl.r_1 (F := Ideal) c i arg1 harg1 arg2 harg2 arg16 x0 x1 (ix2 r d)
    = wsum i x0 x1 4 r.val (128 + d.val) * icount i 4 r.val - ubuf i x0 x1 (16 + r.val) (128 + d.val) := by
  have e : ∀ v0 v1 v2 v3 v4 : Vec Ideal S128x128 .f32, k0_pay100 (F := Ideal) (BitVec.ofNat 32 (i 0).val) v0 v1 v2 v3 v4 (ix2 r d)
      = (v0 (ix2 r d) + v1 (ix2 r d) + v2 (ix2 r d) + v3 (ix2 r d)) * icount i 4 r.val - v4 (ix2 r d) := by
    intro v0 v1 v2 v3 v4
    unfold k0_pay100 icount
    rw [← count_word]
    pointwise []
    rfl
  show k0_pay100 (F := Ideal) _ _ _ _ _ _ (ix2 r d) = _
  rw [e]
  simp only [Fwd.runB.sl.v42, Fwd.runB.sl.v43, Fwd.runB.sl.v45, Fwd.runB.sl.v47, ubuf_read, wsum, Finset.sum_range_succ, Finset.sum_range_zero, zero_add, Nat.reduceSub, Nat.sub_zero]

/-- The third group's block. -/
abbrev pool2v : Vec Ideal S128x128 .bf16 :=
  k0_pay104 (Fwd.runB.sl.r_2 (F := Ideal) c i arg1 harg1 arg2 harg2 arg16 x0 x1) (Fwd.runB.sl.r_3 i) (Fwd.runB.sl.v74 c i arg1 harg1 arg2 harg2 arg16 x0 x1)

theorem pool2 (r d : Fin 128) : pool2v c i arg1 harg1 arg2 harg2 arg16 x0 x1 (ix2 r d)
    = wsum i x0 x1 8 r.val (256 + d.val) * icount i 8 r.val - ubuf i x0 x1 (16 + r.val) (256 + d.val) := by
  have e : ∀ v0 v1 v2 v3 v4 v5 v6 v7 v8 : Vec Ideal S128x128 .f32, k0_pay104 (F := Ideal) (k0_pay102 v0 v1 v2 v3 v4 v5 v6 v7) (k0_pay103 (BitVec.ofNat 32 (i 0).val)) v8 (ix2 r d)
      = (v0 (ix2 r d) + v1 (ix2 r d) + v2 (ix2 r d) + v3 (ix2 r d) + v4 (ix2 r d) + v5 (ix2 r d) + v6 (ix2 r d) + v7 (ix2 r d)) * icount i 8 r.val - v8 (ix2 r d) := by
    intro v0 v1 v2 v3 v4 v5 v6 v7 v8
    unfold k0_pay104 k0_pay102 k0_pay103 icount
    rw [← count_word]
    pointwise []
    rfl
  show k0_pay104 (F := Ideal) (k0_pay102 _ _ _ _ _ _ _ _) (k0_pay103 (BitVec.ofNat 32 (i 0).val)) _ (ix2 r d) = _
  rw [e]
  simp only [Fwd.runB.sl.v74, Fwd.runB.sl.v75, Fwd.runB.sl.v77, Fwd.runB.sl.v79, Fwd.runB.sl.v81, Fwd.runB.sl.v83, Fwd.runB.sl.v85, Fwd.runB.sl.v87, ubuf_read, wsum, Finset.sum_range_succ, Finset.sum_range_zero, zero_add, Nat.reduceSub, Nat.sub_zero]

theorem pool3 (r d : Fin 128) : Fwd.runB.sl.r_5 (F := Ideal) c i arg1 harg1 arg2 harg2 arg16 x0 x1 (ix2 r d)
    = wsum i x0 x1 16 r.val (384 + d.val) * icount i 16 r.val - ubuf i x0 x1 (16 + r.val) (384 + d.val) := by
  have e : ∀ v0 v1 v2 v3 v4 v5 v6 v7 v8 v9 v10 v11 v12 v13 v14 v15 v16 : Vec Ideal S128x128 .f32, k0_pay107 (F := Ideal) (BitVec.ofNat 32 (i 0).val) (k0_pay106 v0 v1 v2 v3 v4 v5 v6) v7 v8 v9 v10 v11 v12 v13 v14 v15 v16 (ix2 r d)
      = (v0 (ix2 r d) + v1 (ix2 r d) + v2 (ix2 r d) + v3 (ix2 r d) + v4 (ix2 r d) + v5 (ix2 r d) + v6 (ix2 r d) + v7 (ix2 r d) + v8 (ix2 r d) + v9 (ix2 r d) + v10 (ix2 r d) + v11 (ix2 r d) + v12 (ix2 r d) + v13 (ix2 r d) + v14 (ix2 r d) + v15 (ix2 r d)) * icount i 16 r.val - v16 (ix2 r d) := by
    intro v0 v1 v2 v3 v4 v5 v6 v7 v8 v9 v10 v11 v12 v13 v14 v15 v16
    unfold k0_pay107 k0_pay106 icount
    rw [← count_word]
    pointwise []
    rfl
  show k0_pay107 (F := Ideal) (BitVec.ofNat 32 (i 0).val) (k0_pay106 _ _ _ _ _ _ _ ) _ _ _ _ _ _ _ _ _ _ (ix2 r d) = _
  rw [e]
  simp only [Fwd.runB.sl.v114, Fwd.runB.sl.v115, Fwd.runB.sl.v117, Fwd.runB.sl.v119, Fwd.runB.sl.v121, Fwd.runB.sl.v123, Fwd.runB.sl.v125, Fwd.runB.sl.v127, Fwd.runB.sl.v129, Fwd.runB.sl.v131, Fwd.runB.sl.v133, Fwd.runB.sl.v135, Fwd.runB.sl.v137, Fwd.runB.sl.v139, Fwd.runB.sl.v141, Fwd.runB.sl.v143, ubuf_read, wsum, Finset.sum_range_succ, Finset.sum_range_zero, zero_add, Nat.reduceSub, Nat.sub_zero]

theorem pool0 (r d : Fin 128) : Fwd.runB.sl.r (F := Ideal) c i arg1 harg1 arg2 harg2 arg16 x0 x1 (ix2 r d)
    = wsum i x0 x1 2 r.val (0 + d.val) * icount i 2 r.val - ubuf i x0 x1 (16 + r.val) (0 + d.val) := by
  have e : ∀ v14 v15 v30 : Vec Ideal S128x128 .f32, k0_pay98 (F := Ideal) i v14 v15 v30 (ix2 r d) = (v14 (ix2 r d) + v15 (ix2 r d)) * icount i 2 r.val - v30 (ix2 r d) := by
    intro v14 v15 v30
    unfold k0_pay98 icount
    rw [← count_word]
    pointwise []
    rfl
  show k0_pay98 (F := Ideal) i _ _ _ (ix2 r d) = _
  rw [e]
  simp only [Fwd.runB.sl.v14, Fwd.runB.sl.v15, ubuf_read, wsum, Finset.sum_range_succ, Finset.sum_range_zero, zero_add, Nat.reduceSub, Nat.sub_zero]

/-- The window of a column: 2, 4, 8, 16 for the four groups of 128. -/
def wid (b : ℕ) : ℕ := 2 ^ (b / 128 + 1)

/-- The pooled block. -/
def pblk (r b : ℕ) : EReal := wsum i x0 x1 (wid b) r b * icount i (wid b) r - ubuf i x0 x1 (16 + r) b

/-- The stores of the pooled block. -/
abbrev poolPieces : List (View.Piece (Elt Ideal) S128x512 .bf16) :=
  [⟨Rect.unit ![0, 384] S128x128.size inb_S128x512_S128x128_0_384, Fwd.runB.sl.r_5 c i arg1 harg1 arg2 harg2 arg16 x0 x1⟩,
    ⟨Rect.unit ![0, 256] S128x128.size inb_S128x512_S128x128_0_256, pool2v c i arg1 harg1 arg2 harg2 arg16 x0 x1⟩,
    ⟨Rect.unit ![0, 128] S128x128.size inb_S128x512_S128x128_0_128, Fwd.runB.sl.r_1 c i arg1 harg1 arg2 harg2 arg16 x0 x1⟩,
    ⟨Rect.unit ![0, 0] S128x128.size inb_S128x512_S128x128_0_0, Fwd.runB.sl.r c i arg1 harg1 arg2 harg2 arg16 x0 x1⟩]

/-- A store of one group's block, read at the column it goes to. -/
theorem piece_pblk (o : ℕ) (ho : o = 0 ∨ o = 128 ∨ o = 256 ∨ o = 384) (v : Vec Ideal S128x128 .bf16) (inb)
    (hv : ∀ r d : Fin 128, v (ix2 r d) = wsum i x0 x1 (2 ^ (o / 128 + 1)) r.val (o + d.val) * icount i (2 ^ (o / 128 + 1)) r.val - ubuf i x0 x1 (16 + r.val) (o + d.val))
    (x : S128x128.Idx) : v x = pblk i x0 x1 (((Rect.unit (s := S128x512) ![0, o] S128x128.size inb).emb x) 0).val (((Rect.unit (s := S128x512) ![0, o] S128x128.size inb).emb x) 1).val := by
  obtain ⟨r, d, rfl⟩ : ∃ (r d : Fin 128), x = ix2 r d := ⟨x 0, x 1, funext fun k => by fin_cases k <;> rfl⟩
  refine (hv r d).trans ?_
  show _ = pblk i x0 x1 (0 + 1 * r.val) (o + 1 * d.val)
  have hd := d.isLt
  have e : (o + d.val) / 128 = o / 128 := by omega
  rw [show 0 + 1 * r.val = r.val by omega, show o + 1 * d.val = o + d.val by omega]
  unfold pblk wid
  rw [e]

theorem pieces_read (y : S128x512.Idx) :
    View.canon (poolPieces c i arg1 harg1 arg2 harg2 arg16 x0 x1) y = pblk i x0 x1 (y 0).val (y 1).val := by
  refine View.canon_apply_of_pieces (Val := Elt Ideal) (e := .bf16) (fun y : S128x512.Idx => pblk i x0 x1 (y 0).val (y 1).val) _ ?_ y ?_
  · intro p hp x
    simp only [poolPieces, List.mem_cons, List.not_mem_nil, or_false] at hp
    rcases hp with rfl | rfl | rfl | rfl
    · exact piece_pblk i x0 x1 384 (by omega) _ inb_S128x512_S128x128_0_384 (pool3 c i arg1 harg1 arg2 harg2 arg16 x0 x1) x
    · exact piece_pblk i x0 x1 256 (by omega) _ inb_S128x512_S128x128_0_256 (pool2 c i arg1 harg1 arg2 harg2 arg16 x0 x1) x
    · exact piece_pblk i x0 x1 128 (by omega) _ inb_S128x512_S128x128_0_128 (pool1 c i arg1 harg1 arg2 harg2 arg16 x0 x1) x
    · exact piece_pblk i x0 x1 0 (by omega) _ inb_S128x512_S128x128_0_0 (pool0 c i arg1 harg1 arg2 harg2 arg16 x0 x1) x
  · exact View.cover_of_tiledL (s := S128x512) (poolPieces c i arg1 harg1 arg2 harg2 arg16 x0 x1) S128x128.size (by sl_kernel_rfl) y

end payload

section blocks
variable (m : (ℓ : Loc nD τ sig) → Buf (Elt Ideal) ℓ) (c : Dev nD)

abbrev X0 : S4096x1280.Idx → EReal := m ((c : Thread nD τ).loc main_arg0)
abbrev X1 : S1x4x128x128.Idx → EReal := m ((c : Thread nD τ).loc main_arg1)
abbrev X2 : S1x512.Idx → EReal := m ((c : Thread nD τ).loc main_arg2)
abbrev X3 : S32x8.Idx → EReal := m ((c : Thread nD τ).loc main_arg3)
abbrev X4 : S1x8.Idx → EReal := m ((c : Thread nD τ).loc main_arg4)
abbrev X5 : S4096x1024.Idx → EReal := m ((c : Thread nD τ).loc main_arg5)

theorem V3_kept (r : Ref sig .tc) (h0 : r ∉ hostOps0_W) (h1 : r ∉ hostOps0_1_W) (h2 : r ∉ hostOps0_2_W) : V3 (F := Ideal) m c r = m ((c : Thread nD τ).loc r) := by
  exact ((V3_of m c r h2).trans ((V2_of m c r h1).trans (V1_of m c r h0)))

theorem idx0_0 : ∀ t : Fin grid0.N, win0_0.index t 0 = t.val ∧ win0_0.index t 1 = 0 := by decide +kernel
theorem idx0_1 : ∀ t : Fin grid0.N, win0_1.index t 0 = 8 * t.val - 1 ∧ win0_1.index t 1 = 0 := by decide +kernel
theorem idx0_12 : ∀ t : Fin grid0.N, win0_12.index t 0 = t.val ∧ win0_12.index t 1 = 0 := by decide +kernel
theorem coord0 : ∀ t : Fin grid0.N, ((grid0.coords t) 0).val = t.val := by decide +kernel
theorem lt32 (t : Fin cfg0.N) : t.val < 32 := Nat.lt_of_lt_of_eq t.isLt N_0

/-- An input window's block at point `t`, at the index its array is read at. -/
theorem X_read (V : (c : Dev nD) → (b : Ref sig .tc) → Buf (Elt Ideal) ((c : Thread nD τ).loc b)) (w : Fin cfg0.W) (t : Fin cfg0.N) (j : (cfg0.win w).block.Idx) :
    ∃ j' : ((cfg0.win w).xblock (cfg0.grid.coords t)).Idx, (∀ a, (j' a).val = (j a).val) ∧
      Fwd.X V c w t j = ((cfg0.win w).blk t).view.read (Elt Ideal) (V c (Pipeline.arrRef spec0 w)) j' := by
  have hm : (cfg0.win w).moved (cfg0.grid.coords t) j = true :=
    ((cfg0.win w).moved_iff _ j).mpr fun a => by rw [Fwd.xsize_in w t a]; exact (j a).isLt
  unfold Fwd.X Pipeline.Window.fill
  rw [dif_pos hm]
  exact ⟨_, fun a => rfl, rfl⟩

theorem u_blk (t : Fin cfg0.N) (r : Fin 128) (b : Fin 512) :
    Fwd.X (Run.E0 m) c 0 t (ix2 r b) = X0 m c (ix2 ⟨128 * t.val + r.val, by have := lt32 t; omega⟩ ⟨b.val, by omega⟩) := by
  obtain ⟨j', hj, e⟩ := X_read c (Run.E0 m) 0 t (ix2 r b)
  rw [e, View.read_apply]
  show V3 m c main_arg0 _ = _
  rw [V3_kept m c main_arg0 (by decide) (by decide) (by decide)]
  congr 1; funext a; apply Fin.ext
  match a with
  | ⟨0, _⟩ => exact tile_row_at (idx0_0 t).1 (hj 0)
  | ⟨1, _⟩ => exact tile_col_at (idx0_0 t).2 (hj 1)

theorem halo_blk (t : Fin cfg0.N) (ht : 0 < t.val) (r : Fin 16) (b : Fin 512) :
    Fwd.X (Run.E0 m) c 1 t (ix2 r b) = X0 m c (ix2 ⟨128 * t.val + r.val - 16, by have := lt32 t; omega⟩ ⟨b.val, by omega⟩) := by
  obtain ⟨j', hj, e⟩ := X_read c (Run.E0 m) 1 t (ix2 r b)
  rw [e, View.read_apply]
  show V3 m c main_arg0 _ = _
  rw [V3_kept m c main_arg0 (by decide) (by decide) (by decide)]
  congr 1; funext a; apply Fin.ext
  match a with
  | ⟨0, _⟩ => show win0_1.index t 0 * 16 + 1 * (j' 0).val = 128 * t.val + r.val - 16; rw [(idx0_1 t).1, hj 0]; show (8 * t.val - 1) * 16 + 1 * r.val = _; omega
  | ⟨1, _⟩ => exact tile_col_at (idx0_1 t).2 (hj 1)

/-- The first columns of the projection, as reals by token and column. -/
def U (T b : ℕ) : ℝ := (at2 (α := EReal) (X0 m c) T b).toReal

variable (hX : ∀ j, ∃ r : ℝ, X0 m c j = (r : EReal))
include hX

theorem U_coe (T b : ℕ) : at2 (α := EReal) (X0 m c) T b = (U m c T b : EReal) := by
  unfold U at2
  split
  · obtain ⟨r, e⟩ := hX (ix2 ⟨T, by omega⟩ ⟨b, by omega⟩)
    rw [e, EReal.toReal_coe]
  · simp

theorem ubuf_U (t : Fin cfg0.N) (k r b : ℕ) (hk : k ≤ 16) (hr : r < 128) (hb : b < 512) :
    ubuf (grid0.coords t) (Fwd.X (Run.E0 m) c 0 t) (Fwd.X (Run.E0 m) c 1 t) (16 - k + r) b
      = ((if k ≤ 128 * t.val + r then U m c (128 * t.val + r - k) b else 0 : ℝ) : EReal) := by
  have ht := lt32 t
  unfold ubuf
  rw [coord0 t]
  by_cases h : 16 - k + r < 16
  · rw [if_pos h]
    by_cases h0 : 0 < t.val
    · rw [if_pos h0, if_pos (by omega), ← U_coe m c hX]
      refine (at2_eq (α := EReal) (Fwd.X (Run.E0 m) c 1 t) ⟨16 - k + r, h⟩ ⟨b, hb⟩).trans ?_
      rw [halo_blk m c t h0]
      refine Eq.trans ?_ (at2_eq (α := EReal) (X0 m c) ⟨128 * t.val + r - k, by omega⟩ ⟨b, by omega⟩).symm
      congr 1; funext a; apply Fin.ext
      match a with
      | ⟨0, _⟩ => show 128 * t.val + (16 - k + r) - 16 = 128 * t.val + r - k; omega
      | ⟨1, _⟩ => rfl
    · rw [if_neg h0, if_neg (by omega)]; rfl
  · rw [if_neg h, if_pos (by omega), ← U_coe m c hX]
    refine (at2_eq (α := EReal) (Fwd.X (Run.E0 m) c 0 t) ⟨16 - k + r - 16, by omega⟩ ⟨b, hb⟩).trans ?_
    rw [u_blk m c t]
    refine Eq.trans ?_ (at2_eq (α := EReal) (X0 m c) ⟨128 * t.val + r - k, by omega⟩ ⟨b, by omega⟩).symm
    congr 1; funext a; apply Fin.ext
    match a with
    | ⟨0, _⟩ => show 128 * t.val + (16 - k + r - 16) = 128 * t.val + r - k; omega
    | ⟨1, _⟩ => rfl

theorem wid_mem {b : ℕ} (hb : b < 512) : 0 < wid b ∧ wid b ≤ 16 := by
  have h : b / 128 = 0 ∨ b / 128 = 1 ∨ b / 128 = 2 ∨ b / 128 = 3 := by omega
  unfold wid
  rcases h with h | h | h | h <;> rw [h] <;> decide

theorem pblk_U (t : Fin cfg0.N) (r b : ℕ) (hr : r < 128) (hb : b < 512) :
    pblk (grid0.coords t) (Fwd.X (Run.E0 m) c 0 t) (Fwd.X (Run.E0 m) c 1 t) r b
      = (trail (fun T => U m c T b) (wid b) (128 * t.val + r) : EReal) := by
  obtain ⟨w0, w16⟩ := wid_mem m c hX hb
  have ht := lt32 t
  have e1 : wsum (grid0.coords t) (Fwd.X (Run.E0 m) c 0 t) (Fwd.X (Run.E0 m) c 1 t) (wid b) r b
      = ((∑ k ∈ Finset.range (wid b), if k ≤ 128 * t.val + r then U m c (128 * t.val + r - k) b else 0 : ℝ) : EReal) := by
    unfold wsum
    rw [← sum_coe]
    refine Finset.sum_congr rfl fun k hk => ?_
    have := Finset.mem_range.mp hk
    exact ubuf_U m c hX t k r b (by omega) hr hb
  have e2 : icount (grid0.coords t) (wid b) r = ((1 / (min (128 * t.val + r + 1) (wid b) : ℕ) : ℝ) : EReal) := by
    unfold icount
    rw [coord0 t, count_toInt (by omega) (by omega)]
    rw [show (1 : EReal) = ((1 : ℝ) : EReal) from rfl]
    rw [show t.val * 128 + r + 1 = 128 * t.val + r + 1 by ring]
    have hp : 0 < min (128 * t.val + r + 1) (wid b) := by omega
    exact div_coe_coe 1 (by exact_mod_cast hp.ne')
  unfold pblk trail
  rw [e1, e2, ubuf_U m c hX t 0 r b (by omega) hr hb, if_pos (Nat.zero_le _), Nat.sub_zero, ← EReal.coe_mul, ← EReal.coe_sub, mul_one_div]

/-- The pooled array. -/
def poolOut : S4096x512.Idx → EReal := fun j => (trail (fun T => U m c T (j 1).val) (wid (j 1).val) (j 0).val : EReal)

theorem outs_pooled (t : Fin cfg0.N) (r : Fin 128) (b : Fin 512) :
    (Fwd.outs (Run.E0 m) c t).2.1 (ix2 r b) = (trail (fun T => U m c T b.val) (wid b.val) (128 * t.val + r.val) : EReal) := by
  refine Eq.trans ?_ (pblk_U m c hX t r.val b.val r.isLt b.isLt)
  unfold Fwd.outs
  by_cases h : t.val = 0
  · rw [dif_pos h]
    exact pieces_read c (grid0.coords t) (Fwd.args t).arg1 (Fwd.args t).harg1 (Fwd.args t).arg2 (Fwd.args t).harg2 (Fwd.args t).arg16 (Fwd.X (Run.E0 m) c 0 t) (Fwd.X (Run.E0 m) c 1 t) (ix2 r b)
  · rw [dif_neg h]
    exact pieces_read c (grid0.coords t) (Fwd.args t).arg1 (Fwd.args t).harg1 (Fwd.args t).arg2 (Fwd.args t).harg2 (Fwd.args t).arg16 (Fwd.X (Run.E0 m) c 0 t) (Fwd.X (Run.E0 m) c 1 t) (ix2 r b)

theorem final_pooled : Run.W4 m c main_v38_1 = poolOut m c := by
  rw [(Run.W4_out ..).2.1]
  refine (Fwd.dat (Run.E0 m) c).arrAt_eq_of_cover 12 (poolOut m c) (fun t hf => ?_) fun i => ?_
  · funext j
    show (Fwd.dat (Run.E0 m) c).after 12 t j = poolOut m c (((cfg0.win 12).blk t).view.emb j)
    rw [Fwd.after_12]
    obtain ⟨r, d, rfl⟩ : ∃ (r : Fin 128) (d : Fin 512), j = ix2 r d := ⟨_, _, eq_ix2 j⟩
    refine (outs_pooled m c hX t r d).trans ?_
    have e0 : ((((cfg0.win 12).blk t).view.emb (ix2 r d)) 0).val = 128 * t.val + r.val := by
      show win0_12.index t 0 * 128 + 1 * r.val = _; rw [(idx0_12 t).1]; ring
    have e1 : ((((cfg0.win 12).blk t).view.emb (ix2 r d)) 1).val = d.val := by
      show win0_12.index t 1 * 512 + 1 * d.val = _; rw [(idx0_12 t).2]; ring
    show _ = (trail (fun T => U m c T ((((cfg0.win 12).blk t).view.emb (ix2 r d)) 1).val) (wid ((((cfg0.win 12).blk t).view.emb (ix2 r d)) 1).val) ((((cfg0.win 12).blk t).view.emb (ix2 r d)) 0).val : EReal)
    rw [e0, e1]
  · have i0 : (i 0 : Nat) < 4096 := (i 0).isLt
    have i1 : (i 1 : Nat) < 512 := (i 1).isLt
    have hN : cfg0.N = 32 := N_0
    let t : Fin cfg0.N := ⟨(i 0 : Nat) / 128, by omega⟩
    refine ⟨t, flush0_12 t, mem_tile fun a => ?_⟩
    match a with
    | ⟨0, _⟩ => exact tile_div (Nat.succ_pos _) (idx0_12 t).1
    | ⟨1, _⟩ => exact tile_zero (idx0_12 t).2 i1

end blocks
end Cert.MixersIdeal.Val
end
-- ==== Proof.PoolBack.lean ====
/-
  The backward call's two pooling gradients: each block of tokens adds its part of `dw_pool` and of `dpool_scale`.
-/
module

public import proofs.«01_k».proof.Proof.PoolForward

@[expose] public section

set_option maxRecDepth 16384

noncomputable section

namespace Cert.MixersIdeal.Val

open Cert.MixersIdeal Cert.MixersIdeal.Gen Idealize.ShloMosaic Idealize.ShloMosaic.TcCoe
open Cert.Reals Cert.Mix
open scoped BigOperators

/-- The backward grid's point of a number. -/
def pt (s : ℕ) : Fin cfg1.N := ⟨s % 33, Nat.lt_of_lt_of_eq (Nat.mod_lt _ (by decide)) N_1.symm⟩

section payload
variable (c : Dev nD) (arg4 : Memref sig .tc .vmem S128x1024 .f32) (harg4 : arg4.IsWhole) (arg5 : Memref sig .tc .vmem S128x512 .bf16) (harg5 : arg5.IsWhole)
  (arg8 : Memref sig .tc .vmem S4x128x128 .bf16) (harg8 : arg8.IsWhole) (arg9 : Memref sig .tc .vmem S1x512 .f32) (harg9 : arg9.IsWhole)
  (arg14 : Memref sig .tc .vmem S4x128x128 .f32) (harg14 : arg14.IsWhole) (arg15 : Memref sig .tc .vmem S4x128 .f32) (harg15 : arg15.IsWhole)
  (x3 : Vec Ideal S128x1024 .f32) (x4 : Vec Ideal S128x512 .bf16) (x7 : Vec Ideal S4x128x128 .bf16) (x8 : Vec Ideal S1x512 .f32)
  (sw : Vec Ideal S4x128x128 .f32) (ss : Vec Ideal S4x128 .f32)

/-- One block's part of `dw_pool`. -/
def wPart (g a d : ℕ) : EReal := ∑ r : Fin 128, at2 (α := EReal) x4 r.val (128 * g + a) * (at2 (α := EReal) x3 r.val (128 * g + d) * at2 (α := EReal) x8 0 (128 * g + d))
/-- One block's part of `dpool_scale`. -/
def sPart (g d : ℕ) : EReal := ∑ r : Fin 128, at2 (α := EReal) x3 r.val (128 * g + d) * ∑ k : Fin 128, at2 (α := EReal) x4 r.val (128 * g + k.val) * at3 (α := EReal) x7 g k.val d

/-- One group's store of `dw_pool`: what was there and the group's product. -/
def gW (g : ℕ) (i4 : ∀ a, (![0, 128 * g] : Fin 2 → Nat) a + S128x128.size a ≤ S128x1024.size a)
    (i5 : ∀ a, (![0, 128 * g] : Fin 2 → Nat) a + S128x128.size a ≤ S128x512.size a) (i9 : ∀ a, (![0, 128 * g] : Fin 2 → Nat) a + S1x128.size a ≤ S1x512.size a) (acc : Vec Ideal S1x128x128 .f32) : Vec Ideal S1x128x128 .f32 :=
  shapeCast S1x128x128 (addf (F := Ideal) (shapeCast S128x128 acc shapeCasts_S1x128x128_S128x128)
    (matmul (F := Ideal) (φ₁ := .bf16) (φ₂ := .bf16) dot_S128x128_S128x128_S128x128_0_0_1_1_n_n none
      (shapeCast (α := EReal) S128x128 (View.readAt (Elt Ideal) arg5.view (Rect.unit (s := S128x512) ![0, 128 * g] S128x128.size i5).toLoadRect (harg5.unread x4)) shapeCasts_S128x128_S128x128)
      (truncf (F := Ideal) .bf16 (mulf (F := Ideal) (View.readAt (Elt Ideal) arg4.view (Rect.unit (s := S128x1024) ![0, 128 * g] S128x128.size i4).toLoadRect (harg4.unread x3))
        (broadcastTo S128x128 (View.readAt (Elt Ideal) arg9.view (Rect.unit (s := S1x512) ![0, 128 * g] S1x128.size i9).toLoadRect (harg9.unread x8)) broadcasts_S1x128_S128x128)) bitsLt_bf16_f32)
      (constant (F := Ideal) S128x128 .f32 0#32))) shapeCasts_S128x128_S1x128x128

theorem gW_apply (g : ℕ) (i4 : ∀ a, (![0, 128 * g] : Fin 2 → Nat) a + S128x128.size a ≤ S128x1024.size a)
    (i5 : ∀ a, (![0, 128 * g] : Fin 2 → Nat) a + S128x128.size a ≤ S128x512.size a) (i9 : ∀ a, (![0, 128 * g] : Fin 2 → Nat) a + S1x128.size a ≤ S1x512.size a) (acc : Vec Ideal S1x128x128 .f32) (z : Fin 1) (a d : Fin 128) :
    gW arg4 harg4 arg5 harg5 arg9 harg9 x3 x4 x8 g i4 i5 i9 acc (ix3 z a d) = acc (ix3 0 a d) + wPart x3 x4 x8 g a.val d.val := by
  unfold gW wPart
  pointwise []
  simp only [rd2, rd2b, zero_add, Fin.val_zero]

/-- The sum over rows of a block times a product, added to what was there. -/
def rowSum (A : Vec Ideal S128x128 .f32) (B C : Vec Ideal S128x128 .bf16) (acc : Vec Ideal S1x128 .f32) : Vec Ideal S1x128 .f32 :=
  addf (F := Ideal) (shapeCast S1x128 acc shapeCasts_S1x128_S1x128)
    (shapeCast S1x128 (multiReduction (F := Ideal) FKind.add [0] S128
      (mulf (F := Ideal) A (matmul (F := Ideal) (φ₁ := .bf16) (φ₂ := .bf16) dot_S128x128_S128x128_S128x128_1_0_0_1_n_n none B C (constant (F := Ideal) S128x128 .f32 0#32)))
      0#32 reduces_S128x128_S128 (.inl rfl) rfl) shapeCasts_S128_S1x128)

theorem rowSum_apply (A : Vec Ideal S128x128 .f32) (B C : Vec Ideal S128x128 .bf16) (acc : Vec Ideal S1x128 .f32) (z : Fin 1) (d : Fin 128) :
    rowSum A B C acc (ix2 z d) = acc (ix2 0 d) + ∑ r : Fin 128, (A (ix2 r d) * ∑ k : Fin 128, B (ix2 r k) * C (ix2 k d) : EReal) := by
  unfold rowSum
  pointwise []
  obtain rfl : z = 0 := Subsingleton.elim _ _
  rfl

theorem cast3 (v : S1x128x128.Idx → EReal) (k d : Fin 128) : shapeCast (α := EReal) S128x128 v shapeCasts_S1x128x128_S128x128 (ix2 k d) = v (ix3 0 k d) := by
  pointwise []

/-- One group's store of `dpool_scale`. -/
def gS (g : ℕ) (i4 : ∀ a, (![0, 128 * g] : Fin 2 → Nat) a + S128x128.size a ≤ S128x1024.size a)
    (i5 : ∀ a, (![0, 128 * g] : Fin 2 → Nat) a + S128x128.size a ≤ S128x512.size a) (i8 : ∀ a, (![g, 0, 0] : Fin 3 → Nat) a + S1x128x128.size a ≤ S4x128x128.size a) (acc : Vec Ideal S1x128 .f32) : Vec Ideal S1x128 .f32 :=
  rowSum (View.readAt (Elt Ideal) arg4.view (Rect.unit (s := S128x1024) ![0, 128 * g] S128x128.size i4).toLoadRect (harg4.unread x3))
    (shapeCast (α := EReal) S128x128 (View.readAt (Elt Ideal) arg5.view (Rect.unit (s := S128x512) ![0, 128 * g] S128x128.size i5).toLoadRect (harg5.unread x4)) shapeCasts_S128x128_S128x128)
    (shapeCast (α := EReal) S128x128 (View.readAt (Elt Ideal) arg8.view (Rect.unit (s := S4x128x128) ![g, 0, 0] S1x128x128.size i8).toLoadRect (harg8.unread x7)) shapeCasts_S1x128x128_S128x128)
    acc

theorem gS_apply (g : ℕ) (i4 : ∀ a, (![0, 128 * g] : Fin 2 → Nat) a + S128x128.size a ≤ S128x1024.size a)
    (i5 : ∀ a, (![0, 128 * g] : Fin 2 → Nat) a + S128x128.size a ≤ S128x512.size a) (i8 : ∀ a, (![g, 0, 0] : Fin 3 → Nat) a + S1x128x128.size a ≤ S4x128x128.size a) (acc : Vec Ideal S1x128 .f32) (z : Fin 1) (d : Fin 128) :
    gS arg4 harg4 arg5 harg5 arg8 harg8 x3 x4 x7 g i4 i5 i8 acc (ix2 z d) = acc (ix2 0 d) + sPart x3 x4 x7 g d.val := by
  unfold gS sPart
  rw [rowSum_apply]
  congr 1
  refine Finset.sum_congr rfl fun r _ => ?_
  congr 1
  · refine (rd2 (a := 128) (b := 128) arg4 harg4 x3 0 (128 * g) i4 r d).trans ?_
    rw [zero_add]
  · refine Finset.sum_congr rfl fun k _ => ?_
    congr 1
    · pointwise []
      refine (rd2b (a := 128) (b := 128) arg5 harg5 x4 0 (128 * g) i5 r k).trans ?_
      rw [zero_add]
    · refine (cast3 _ k d).trans ?_
      refine (rd3b (p := 1) (a := 128) (b := 128) arg8 harg8 x7 g 0 0 i8 0 k d).trans ?_
      simp only [Fin.val_zero, zero_add, add_zero]

/-- The four groups' stores of `dw_pool`, over what each group found there. -/
abbrev wPieces (acc : Fin 4 → Vec Ideal S1x128x128 .f32) : List (View.Piece (Elt Ideal) S4x128x128 .f32) :=
  [⟨Rect.unit ![3, 0, 0] S1x128x128.size inb_S4x128x128_S1x128x128_3_0_0, gW arg4 harg4 arg5 harg5 arg9 harg9 x3 x4 x8 3 inb_S128x1024_S128x128_0_384 inb_S128x512_S128x128_0_384 inb_S1x512_S1x128_0_384 (acc 3)⟩,
    ⟨Rect.unit ![2, 0, 0] S1x128x128.size inb_S4x128x128_S1x128x128_2_0_0, gW arg4 harg4 arg5 harg5 arg9 harg9 x3 x4 x8 2 inb_S128x1024_S128x128_0_256 inb_S128x512_S128x128_0_256 inb_S1x512_S1x128_0_256 (acc 2)⟩,
    ⟨Rect.unit ![1, 0, 0] S1x128x128.size inb_S4x128x128_S1x128x128_1_0_0, gW arg4 harg4 arg5 harg5 arg9 harg9 x3 x4 x8 1 inb_S128x1024_S128x128_0_128 inb_S128x512_S128x128_0_128 inb_S1x512_S1x128_0_128 (acc 1)⟩,
    ⟨Rect.unit ![0, 0, 0] S1x128x128.size inb_S4x128x128_S1x128x128_0_0_0, gW arg4 harg4 arg5 harg5 arg9 harg9 x3 x4 x8 0 inb_S128x1024_S128x128_0_0 inb_S128x512_S128x128_0_0 inb_S1x512_S1x128_0_0 (acc 0)⟩]

theorem wPieces_read (acc : Fin 4 → Vec Ideal S1x128x128 .f32) (Z : ℕ → ℕ → ℕ → EReal) (hZ : ∀ g a d, acc g (ix3 0 a d) = Z g.val a.val d.val)
    (M : List (View.Piece (Elt Ideal) S4x128x128 .f32)) (y : S4x128x128.Idx) :
    View.canon (wPieces arg4 harg4 arg5 harg5 arg9 harg9 x3 x4 x8 acc ++ M) y
      = Z (y 0).val (y 1).val (y 2).val + wPart x3 x4 x8 (y 0).val (y 1).val (y 2).val := by
  have hcov := View.cover_of_tiledBy (s := S4x128x128) (wPieces arg4 harg4 arg5 harg5 arg9 harg9 x3 x4 x8 acc) ![1, 128, 128] (by sl_kernel_rfl) y
  rw [canon_append _ _ _ hcov]
  refine View.canon_apply_of_pieces (Val := Elt Ideal) (e := .f32) (fun y : S4x128x128.Idx => Z (y 0).val (y 1).val (y 2).val + wPart x3 x4 x8 (y 0).val (y 1).val (y 2).val) _ ?_ y hcov
  have key : ∀ (g : Fin 4) (i4) (i5) (i9) (i : ∀ a, (![g.val, 0, 0] : Fin 3 → Nat) a + S1x128x128.size a ≤ S4x128x128.size a) (x : S1x128x128.Idx),
      gW arg4 harg4 arg5 harg5 arg9 harg9 x3 x4 x8 g.val i4 i5 i9 (acc g) x
        = (fun y : S4x128x128.Idx => Z (y 0).val (y 1).val (y 2).val + wPart x3 x4 x8 (y 0).val (y 1).val (y 2).val) ((Rect.unit (s := S4x128x128) ![g.val, 0, 0] S1x128x128.size i).emb x) := by
    intro g i4 i5 i9 i x
    obtain ⟨z, a, d, rfl⟩ : ∃ (z : Fin 1) (a d : Fin 128), x = ix3 z a d := ⟨x 0, x 1, x 2, funext fun k => by fin_cases k <;> rfl⟩
    rw [gW_apply, hZ]
    have e0 : g.val + 1 * z.val = g.val := by omega
    have e1 : 0 + 1 * a.val = a.val := by omega
    have e2 : 0 + 1 * d.val = d.val := by omega
    show _ = Z (g.val + 1 * z.val) (0 + 1 * a.val) (0 + 1 * d.val) + wPart x3 x4 x8 (g.val + 1 * z.val) (0 + 1 * a.val) (0 + 1 * d.val)
    rw [e0, e1, e2]
  intro p hp x
  simp only [wPieces, List.mem_cons, List.not_mem_nil, or_false] at hp
  rcases hp with rfl | rfl | rfl | rfl
  · exact key 3 _ _ _ inb_S4x128x128_S1x128x128_3_0_0 x
  · exact key 2 _ _ _ inb_S4x128x128_S1x128x128_2_0_0 x
  · exact key 1 _ _ _ inb_S4x128x128_S1x128x128_1_0_0 x
  · exact key 0 _ _ _ inb_S4x128x128_S1x128x128_0_0_0 x

/-- The four groups' stores of `dpool_scale`. -/
abbrev sPieces (acc : Fin 4 → Vec Ideal S1x128 .f32) : List (View.Piece (Elt Ideal) S4x128 .f32) :=
  [⟨Rect.unit ![3, 0] S1x128.size inb_S4x128_S1x128_3_0, gS arg4 harg4 arg5 harg5 arg8 harg8 x3 x4 x7 3 inb_S128x1024_S128x128_0_384 inb_S128x512_S128x128_0_384 inb_S4x128x128_S1x128x128_3_0_0 (acc 3)⟩,
    ⟨Rect.unit ![2, 0] S1x128.size inb_S4x128_S1x128_2_0, gS arg4 harg4 arg5 harg5 arg8 harg8 x3 x4 x7 2 inb_S128x1024_S128x128_0_256 inb_S128x512_S128x128_0_256 inb_S4x128x128_S1x128x128_2_0_0 (acc 2)⟩,
    ⟨Rect.unit ![1, 0] S1x128.size inb_S4x128_S1x128_1_0, gS arg4 harg4 arg5 harg5 arg8 harg8 x3 x4 x7 1 inb_S128x1024_S128x128_0_128 inb_S128x512_S128x128_0_128 inb_S4x128x128_S1x128x128_1_0_0 (acc 1)⟩,
    ⟨Rect.unit ![0, 0] S1x128.size inb_S4x128_S1x128_0_0, gS arg4 harg4 arg5 harg5 arg8 harg8 x3 x4 x7 0 inb_S128x1024_S128x128_0_0 inb_S128x512_S128x128_0_0 inb_S4x128x128_S1x128x128_0_0_0 (acc 0)⟩]

theorem sPieces_read (acc : Fin 4 → Vec Ideal S1x128 .f32) (Z : ℕ → ℕ → EReal) (hZ : ∀ g d, acc g (ix2 0 d) = Z g.val d.val)
    (M : List (View.Piece (Elt Ideal) S4x128 .f32)) (y : S4x128.Idx) :
    View.canon (sPieces arg4 harg4 arg5 harg5 arg8 harg8 x3 x4 x7 acc ++ M) y = Z (y 0).val (y 1).val + sPart x3 x4 x7 (y 0).val (y 1).val := by
  have hcov := View.cover_of_tiledBy (s := S4x128) (sPieces arg4 harg4 arg5 harg5 arg8 harg8 x3 x4 x7 acc) ![1, 128] (by sl_kernel_rfl) y
  rw [canon_append _ _ _ hcov]
  refine View.canon_apply_of_pieces (Val := Elt Ideal) (e := .f32) (fun y : S4x128.Idx => Z (y 0).val (y 1).val + sPart x3 x4 x7 (y 0).val (y 1).val) _ ?_ y hcov
  have key : ∀ (g : Fin 4) (i4) (i5) (i8) (i : ∀ a, (![g.val, 0] : Fin 2 → Nat) a + S1x128.size a ≤ S4x128.size a) (x : S1x128.Idx),
      gS arg4 harg4 arg5 harg5 arg8 harg8 x3 x4 x7 g.val i4 i5 i8 (acc g) x
        = (fun y : S4x128.Idx => Z (y 0).val (y 1).val + sPart x3 x4 x7 (y 0).val (y 1).val) ((Rect.unit (s := S4x128) ![g.val, 0] S1x128.size i).emb x) := by
    intro g i4 i5 i8 i x
    obtain ⟨z, d, rfl⟩ : ∃ (z : Fin 1) (d : Fin 128), x = ix2 z d := ⟨x 0, x 1, funext fun k => by fin_cases k <;> rfl⟩
    rw [gS_apply, hZ]
    have e0 : g.val + 1 * z.val = g.val := by omega
    have e2 : 0 + 1 * d.val = d.val := by omega
    show _ = Z (g.val + 1 * z.val) (0 + 1 * d.val) + sPart x3 x4 x7 (g.val + 1 * z.val) (0 + 1 * d.val)
    rw [e0, e2]
  intro p hp x
  simp only [sPieces, List.mem_cons, List.not_mem_nil, or_false] at hp
  rcases hp with rfl | rfl | rfl | rfl
  · exact key 3 _ _ _ inb_S4x128_S1x128_3_0 x
  · exact key 2 _ _ _ inb_S4x128_S1x128_2_0 x
  · exact key 1 _ _ _ inb_S4x128_S1x128_1_0 x
  · exact key 0 _ _ _ inb_S4x128_S1x128_0_0 x

/-! ### At the first point both accumulators are found empty -/

theorem z14_1 (y : S4x128x128.Idx) : View.canon (Bwd.runA.sl.H14_1 (F := Ideal)) y = 0 := by
  refine View.canon_apply_of_pieces (Val := Elt Ideal) (e := .f32) (fun _ => (0 : EReal)) _ ?_ y (View.cover_of_tiledBy _ ![4, 128, 128] (by sl_kernel_rfl) y)
  unfold Bwd.runA.sl.H14_1
  intro p hp x
  obtain rfl := List.mem_singleton.mp hp
  show k1_pay2 (F := Ideal) x = 0
  unfold k1_pay2
  pointwise []

theorem z15_1 (y : S4x128.Idx) : View.canon (Bwd.runA.sl.H15_1 (F := Ideal)) y = 0 := by
  refine View.canon_apply_of_pieces (Val := Elt Ideal) (e := .f32) (fun _ => (0 : EReal)) _ ?_ y (View.cover_of_tiledBy _ ![4, 128] (by sl_kernel_rfl) y)
  unfold Bwd.runA.sl.H15_1
  intro p hp x
  obtain rfl := List.mem_singleton.mp hp
  show k1_pay3 (F := Ideal) x = 0
  unfold k1_pay3
  pointwise []

theorem skip14 (g : ℕ) (i : ∀ a, (![g, 0, 0] : Fin 3 → Nat) a + S1x128x128.size a ≤ S4x128x128.size a) (v : Vec Ideal S1x128x128 .f32)
    (L : List (View.Piece (Elt Ideal) S4x128x128 .f32)) (y : S4x128x128.Idx) (hy : g < (y 0).val) :
    View.canon ((⟨Rect.unit (s := S4x128x128) ![g, 0, 0] S1x128x128.size i, v⟩ : View.Piece (Elt Ideal) S4x128x128 .f32) :: L) y = View.canon L y := by
  refine View.canon_cons_of_not_mem _ _ fun hm => ?_
  have hm' : y ∈ (Rect.unit (s := S4x128x128) ![g, 0, 0] S1x128x128.size i).set := hm
  rw [Rect.mem_set_unit] at hm'
  have h : g ≤ (y 0).val ∧ (y 0).val < g + 1 := hm' 0
  omega

theorem skip15 (g : ℕ) (i : ∀ a, (![g, 0] : Fin 2 → Nat) a + S1x128.size a ≤ S4x128.size a) (v : Vec Ideal S1x128 .f32)
    (L : List (View.Piece (Elt Ideal) S4x128 .f32)) (y : S4x128.Idx) (hy : g < (y 0).val) :
    View.canon ((⟨Rect.unit (s := S4x128) ![g, 0] S1x128.size i, v⟩ : View.Piece (Elt Ideal) S4x128 .f32) :: L) y = View.canon L y := by
  refine View.canon_cons_of_not_mem _ _ fun hm => ?_
  have hm' : y ∈ (Rect.unit (s := S4x128) ![g, 0] S1x128.size i).set := hm
  rw [Rect.mem_set_unit] at hm'
  have h : g ≤ (y 0).val ∧ (y 0).val < g + 1 := hm' 0
  omega

/-- What each group finds in `dw_pool` at the first point. -/
def accA14 : Fin 4 → Vec Ideal S1x128x128 .f32 := ![Bwd.runA.sl.v27 c arg14, Bwd.runA.sl.v86 c arg4 harg4 arg5 harg5 arg9 harg9 arg14 x3 x4 x8,
  Bwd.runA.sl.v149 c arg4 harg4 arg5 harg5 arg9 harg9 arg14 x3 x4 x8, Bwd.runA.sl.v220 c arg4 harg4 arg5 harg5 arg9 harg9 arg14 x3 x4 x8]

theorem accA14_zero (g : Fin 4) (a d : Fin 128) : accA14 c arg4 harg4 arg5 harg5 arg9 harg9 arg14 x3 x4 x8 g (ix3 0 a d) = 0 := by
  match g with
  | 0 =>
    show Bwd.runA.sl.v27 (F := Ideal) c arg14 (ix3 0 a d) = 0
    unfold Bwd.runA.sl.v27
    rw [View.readCov_eq_canon']
    exact z14_1 _
  | 1 =>
    show Bwd.runA.sl.v86 (F := Ideal) c arg4 harg4 arg5 harg5 arg9 harg9 arg14 x3 x4 x8 (ix3 0 a d) = 0
    unfold Bwd.runA.sl.v86
    rw [View.readCov_eq_canon']
    unfold Bwd.runA.sl.H14_2
    exact (skip14 0 _ _ _ _ (Nat.lt_of_lt_of_le (by decide : 0 < 1) (Nat.le_add_right _ _))).trans (z14_1 _)
  | 2 =>
    show Bwd.runA.sl.v149 (F := Ideal) c arg4 harg4 arg5 harg5 arg9 harg9 arg14 x3 x4 x8 (ix3 0 a d) = 0
    unfold Bwd.runA.sl.v149
    rw [View.readCov_eq_canon']
    unfold Bwd.runA.sl.H14_3 Bwd.runA.sl.H14_2
    exact (skip14 1 _ _ _ _ (Nat.lt_of_lt_of_le (by decide : 1 < 2) (Nat.le_add_right _ _))).trans ((skip14 0 _ _ _ _ (Nat.lt_of_lt_of_le (by decide : 0 < 2) (Nat.le_add_right _ _))).trans (z14_1 _))
  | 3 =>
    show Bwd.runA.sl.v220 (F := Ideal) c arg4 harg4 arg5 harg5 arg9 harg9 arg14 x3 x4 x8 (ix3 0 a d) = 0
    unfold Bwd.runA.sl.v220
    rw [View.readCov_eq_canon']
    unfold Bwd.runA.sl.H14_4 Bwd.runA.sl.H14_3 Bwd.runA.sl.H14_2
    exact (skip14 2 _ _ _ _ (Nat.lt_of_lt_of_le (by decide : 2 < 3) (Nat.le_add_right _ _))).trans ((skip14 1 _ _ _ _ (Nat.lt_of_lt_of_le (by decide : 1 < 3) (Nat.le_add_right _ _))).trans ((skip14 0 _ _ _ _ (Nat.lt_of_lt_of_le (by decide : 0 < 3) (Nat.le_add_right _ _))).trans (z14_1 _)))

/-- What each group finds in `dpool_scale` at the first point. -/
def accA15 : Fin 4 → Vec Ideal S1x128 .f32 := ![Bwd.runA.sl.v16 c arg15, Bwd.runA.sl.v75 c arg4 harg4 arg5 harg5 arg8 harg8 arg15 x3 x4 x7,
  Bwd.runA.sl.v138 c arg4 harg4 arg5 harg5 arg8 harg8 arg15 x3 x4 x7, Bwd.runA.sl.v209 c arg4 harg4 arg5 harg5 arg8 harg8 arg15 x3 x4 x7]

theorem accA15_zero (g : Fin 4) (d : Fin 128) : accA15 c arg4 harg4 arg5 harg5 arg8 harg8 arg15 x3 x4 x7 g (ix2 0 d) = 0 := by
  match g with
  | 0 =>
    show Bwd.runA.sl.v16 (F := Ideal) c arg15 (ix2 0 d) = 0
    unfold Bwd.runA.sl.v16
    rw [View.readCov_eq_canon']
    exact z15_1 _
  | 1 =>
    show Bwd.runA.sl.v75 (F := Ideal) c arg4 harg4 arg5 harg5 arg8 harg8 arg15 x3 x4 x7 (ix2 0 d) = 0
    unfold Bwd.runA.sl.v75
    rw [View.readCov_eq_canon']
    unfold Bwd.runA.sl.H15_2
    exact (skip15 0 _ _ _ _ (Nat.lt_of_lt_of_le (by decide : 0 < 1) (Nat.le_add_right _ _))).trans (z15_1 _)
  | 2 =>
    show Bwd.runA.sl.v138 (F := Ideal) c arg4 harg4 arg5 harg5 arg8 harg8 arg15 x3 x4 x7 (ix2 0 d) = 0
    unfold Bwd.runA.sl.v138
    rw [View.readCov_eq_canon']
    unfold Bwd.runA.sl.H15_3 Bwd.runA.sl.H15_2
    exact (skip15 1 _ _ _ _ (Nat.lt_of_lt_of_le (by decide : 1 < 2) (Nat.le_add_right _ _))).trans ((skip15 0 _ _ _ _ (Nat.lt_of_lt_of_le (by decide : 0 < 2) (Nat.le_add_right _ _))).trans (z15_1 _))
  | 3 =>
    show Bwd.runA.sl.v209 (F := Ideal) c arg4 harg4 arg5 harg5 arg8 harg8 arg15 x3 x4 x7 (ix2 0 d) = 0
    unfold Bwd.runA.sl.v209
    rw [View.readCov_eq_canon']
    unfold Bwd.runA.sl.H15_4 Bwd.runA.sl.H15_3 Bwd.runA.sl.H15_2
    exact (skip15 2 _ _ _ _ (Nat.lt_of_lt_of_le (by decide : 2 < 3) (Nat.le_add_right _ _))).trans ((skip15 1 _ _ _ _ (Nat.lt_of_lt_of_le (by decide : 1 < 3) (Nat.le_add_right _ _))).trans ((skip15 0 _ _ _ _ (Nat.lt_of_lt_of_le (by decide : 0 < 3) (Nat.le_add_right _ _))).trans (z15_1 _)))

/-- What each group finds in the two accumulators at a later point. -/
def accB14 : Fin 4 → Vec Ideal S1x128x128 .f32 := ![View.readAt (Elt Ideal) arg14.view (Rect.unit (s := S4x128x128) ![0, 0, 0] S1x128x128.size inb_S4x128x128_S1x128x128_0_0_0).toLoadRect (harg14.unread sw),
  Bwd.runB.sl.v86 c arg14 harg14 sw, Bwd.runB.sl.v149 c arg14 harg14 sw, Bwd.runB.sl.v220 c arg14 harg14 sw]
def accB15 : Fin 4 → Vec Ideal S1x128 .f32 := ![View.readAt (Elt Ideal) arg15.view (Rect.unit (s := S4x128) ![0, 0] S1x128.size inb_S4x128_S1x128_0_0).toLoadRect (harg15.unread ss),
  Bwd.runB.sl.v75 c arg15 harg15 ss, Bwd.runB.sl.v138 c arg15 harg15 ss, Bwd.runB.sl.v209 c arg15 harg15 ss]

theorem accB14_eq (g : Fin 4) (a d : Fin 128) : accB14 c arg14 harg14 sw g (ix3 0 a d) = at3 (α := EReal) sw g.val a.val d.val := by
  have key : ∀ (o : ℕ) (i : ∀ a, (![o, 0, 0] : Fin 3 → Nat) a + S1x128x128.size a ≤ S4x128x128.size a),
      View.readAt (Elt Ideal) arg14.view (Rect.unit (s := S4x128x128) ![o, 0, 0] S1x128x128.size i).toLoadRect (harg14.unread sw) (ix3 (0 : Fin 1) a d) = at3 (α := EReal) sw o a.val d.val := by
    intro o i
    refine (rd3 (p := 1) (a := 128) (b := 128) arg14 harg14 sw o 0 0 i 0 a d).trans ?_
    simp only [Fin.val_zero, zero_add, add_zero]
  match g with
  | 0 => exact key 0 _
  | 1 => exact key 1 inb_S4x128x128_S1x128x128_1_0_0
  | 2 => exact key 2 inb_S4x128x128_S1x128x128_2_0_0
  | 3 => exact key 3 inb_S4x128x128_S1x128x128_3_0_0

theorem accB15_eq (g : Fin 4) (d : Fin 128) : accB15 c arg15 harg15 ss g (ix2 0 d) = at2 (α := EReal) ss g.val d.val := by
  have key : ∀ (o : ℕ) (i : ∀ a, (![o, 0] : Fin 2 → Nat) a + S1x128.size a ≤ S4x128.size a),
      View.readAt (Elt Ideal) arg15.view (Rect.unit (s := S4x128) ![o, 0] S1x128.size i).toLoadRect (harg15.unread ss) (ix2 (0 : Fin 1) d) = at2 (α := EReal) ss o d.val := by
    intro o i
    refine (rd2 (a := 1) (b := 128) arg15 harg15 ss o 0 i 0 d).trans ?_
    simp only [Fin.val_zero, zero_add, add_zero]
  match g with
  | 0 => exact key 0 _
  | 1 => exact key 1 inb_S4x128_S1x128_1_0
  | 2 => exact key 2 inb_S4x128_S1x128_2_0
  | 3 => exact key 3 inb_S4x128_S1x128_3_0

end payload

section points
variable (V : (c : Dev nD) → (b : Ref sig .tc) → Buf (Elt Ideal) ((c : Thread nD τ).loc b)) (c : Dev nD)

theorem rA_dwp (t : Fin cfg1.N) (h) : (Bwd.rA V c t h).1.dwp = wPieces (Bwd.args t).arg4 (Bwd.args t).harg4 (Bwd.args t).arg5 (Bwd.args t).harg5 (Bwd.args t).arg9 (Bwd.args t).harg9
    (Bwd.X V c 3 t) (Bwd.X V c 4 t) (Bwd.X V c 8 t) (accA14 c (Bwd.args t).arg4 (Bwd.args t).harg4 (Bwd.args t).arg5 (Bwd.args t).harg5 (Bwd.args t).arg9 (Bwd.args t).harg9 (Bwd.args t).arg14
      (Bwd.X V c 3 t) (Bwd.X V c 4 t) (Bwd.X V c 8 t)) ++ Bwd.runA.sl.H14_1 := rfl

theorem rB_dwp (t : Fin cfg1.N) (h) (h') (s) : (Bwd.rB V c t h h' s).1.dwp = wPieces (Bwd.args t).arg4 (Bwd.args t).harg4 (Bwd.args t).arg5 (Bwd.args t).harg5 (Bwd.args t).arg9 (Bwd.args t).harg9
    (Bwd.X V c 3 t) (Bwd.X V c 4 t) (Bwd.X V c 8 t) (accB14 c (Bwd.args t).arg14 (Bwd.args t).harg14 s.dwp) ++ [] := rfl

theorem rA_dsc (t : Fin cfg1.N) (h) : (Bwd.rA V c t h).1.dsc = sPieces (Bwd.args t).arg4 (Bwd.args t).harg4 (Bwd.args t).arg5 (Bwd.args t).harg5 (Bwd.args t).arg8 (Bwd.args t).harg8
    (Bwd.X V c 3 t) (Bwd.X V c 4 t) (Bwd.X V c 7 t) (accA15 c (Bwd.args t).arg4 (Bwd.args t).harg4 (Bwd.args t).arg5 (Bwd.args t).harg5 (Bwd.args t).arg8 (Bwd.args t).harg8 (Bwd.args t).arg15
      (Bwd.X V c 3 t) (Bwd.X V c 4 t) (Bwd.X V c 7 t)) ++ Bwd.runA.sl.H15_1 := rfl

theorem rB_dsc (t : Fin cfg1.N) (h) (h') (s) : (Bwd.rB V c t h h' s).1.dsc = sPieces (Bwd.args t).arg4 (Bwd.args t).harg4 (Bwd.args t).arg5 (Bwd.args t).harg5 (Bwd.args t).arg8 (Bwd.args t).harg8
    (Bwd.X V c 3 t) (Bwd.X V c 4 t) (Bwd.X V c 7 t) (accB15 c (Bwd.args t).arg15 (Bwd.args t).harg15 s.dsc) ++ [] := rfl

theorem ofB_dwp (L : Bwd.ListsB Ideal) : (Bwd.State.ofB L).dwp = View.canon L.dwp := rfl
theorem ofB_dsc (L : Bwd.ListsB Ideal) : (Bwd.State.ofB L).dsc = View.canon L.dsc := rfl

/-- `dw_pool` after the first blocks is the sum of their parts. -/
theorem state_dwp (n : ℕ) (hn : n < 32) (y : S4x128x128.Idx) : (Bwd.state V c n).dwp y
    = ∑ s ∈ Finset.range (n + 1), wPart (Bwd.X V c 3 (pt s)) (Bwd.X V c 4 (pt s)) (Bwd.X V c 8 (pt s)) (y 0).val (y 1).val (y 2).val := by
  induction n generalizing y with
  | zero =>
    have h0 : (pt 0).val = 0 := rfl
    rw [Finset.sum_range_one, show Bwd.state V c 0 = _ from Bwd.state_first V c (pt 0) h0]
    show View.canon (Bwd.rA V c (pt 0) h0).1.dwp y = _
    rw [rA_dwp]
    refine (wPieces_read _ _ _ _ _ _ _ _ _ _ (fun _ _ _ => 0) (fun g a d => accA14_zero c _ _ _ _ _ _ _ _ _ _ g a d) _ y).trans ?_
    rw [zero_add]
  | succ n ih =>
    have e : (pt (n + 1)).val = n + 1 := Nat.mod_eq_of_lt (by omega)
    rw [Finset.sum_range_succ, ← ih (by omega)]
    have h0 : ¬(pt (n + 1)).val = 0 := by rw [e]; exact Nat.succ_ne_zero n
    have h1 : (pt (n + 1)).val < 32 := by rw [e]; exact hn
    rw [(congrArg (Bwd.state V c) e).symm.trans (Bwd.state_step V c (pt (n + 1)) h0 h1)]
    rw [ofB_dwp, rB_dwp]
    refine (wPieces_read _ _ _ _ _ _ _ _ _ _ (fun g a d => at3 (α := EReal) (Bwd.prev V c (pt (n + 1))).dwp g a d) (fun g a d => accB14_eq c _ _ _ g a d) _ y).trans ?_
    refine congrArg (· + _) ?_
    refine (at3_eq (α := EReal) (Bwd.prev V c (pt (n + 1))).dwp (y 0) (y 1) (y 2)).trans ?_
    have ep : Bwd.prev V c (pt (n + 1)) = Bwd.state V c n := by unfold Bwd.prev; rw [e]; rfl
    rw [ep]
    congr 1; funext k; fin_cases k <;> rfl

theorem state_dsc (n : ℕ) (hn : n < 32) (y : S4x128.Idx) : (Bwd.state V c n).dsc y
    = ∑ s ∈ Finset.range (n + 1), sPart (Bwd.X V c 3 (pt s)) (Bwd.X V c 4 (pt s)) (Bwd.X V c 7 (pt s)) (y 0).val (y 1).val := by
  induction n generalizing y with
  | zero =>
    have h0 : (pt 0).val = 0 := rfl
    rw [Finset.sum_range_one, show Bwd.state V c 0 = _ from Bwd.state_first V c (pt 0) h0]
    show View.canon (Bwd.rA V c (pt 0) h0).1.dsc y = _
    rw [rA_dsc]
    refine (sPieces_read _ _ _ _ _ _ _ _ _ _ (fun _ _ => 0) (fun g d => accA15_zero c _ _ _ _ _ _ _ _ _ _ g d) _ y).trans ?_
    rw [zero_add]
  | succ n ih =>
    have e : (pt (n + 1)).val = n + 1 := Nat.mod_eq_of_lt (by omega)
    rw [Finset.sum_range_succ, ← ih (by omega)]
    have h0 : ¬(pt (n + 1)).val = 0 := by rw [e]; exact Nat.succ_ne_zero n
    have h1 : (pt (n + 1)).val < 32 := by rw [e]; exact hn
    rw [(congrArg (Bwd.state V c) e).symm.trans (Bwd.state_step V c (pt (n + 1)) h0 h1)]
    rw [ofB_dsc, rB_dsc]
    refine (sPieces_read _ _ _ _ _ _ _ _ _ _ (fun g d => at2 (α := EReal) (Bwd.prev V c (pt (n + 1))).dsc g d) (fun g d => accB15_eq c _ _ _ g d) _ y).trans ?_
    refine congrArg (· + _) ?_
    refine (at2_eq (α := EReal) (Bwd.prev V c (pt (n + 1))).dsc (y 0) (y 1)).trans ?_
    have ep : Bwd.prev V c (pt (n + 1)) = Bwd.state V c n := by unfold Bwd.prev; rw [e]; rfl
    rw [ep]
    congr 1; funext k; fin_cases k <;> rfl

end points
end Cert.MixersIdeal.Val
end
-- ==== Proof.PoolKernel.lean ====
/-
  The two pooling gradients the kernel returns, as sums over the tokens.
-/
module

public import proofs.«01_k».proof.Proof.PoolBack

@[expose] public section

set_option maxRecDepth 16384

noncomputable section

namespace Cert.MixersIdeal.Val

open Cert.MixersIdeal Cert.MixersIdeal.Gen Idealize.ShloMosaic Idealize.ShloMosaic.TcCoe
open Cert.Reals Cert.Mix
open scoped BigOperators

/-- An input window's block of the backward call at point `t`, at the index its array is read at. -/
theorem X1_read (c : Dev nD) (V : (c : Dev nD) → (b : Ref sig .tc) → Buf (Elt Ideal) ((c : Thread nD τ).loc b)) (w : Fin cfg1.W) (hw : (cfg1.win w).isOut = false) (t : Fin cfg1.N) (j : (cfg1.win w).block.Idx) :
    ∃ j' : ((cfg1.win w).xblock (cfg1.grid.coords t)).Idx, (∀ a, (j' a).val = (j a).val) ∧
      Bwd.X V c w t j = ((cfg1.win w).blk t).view.read (Elt Ideal) (V c (Pipeline.arrRef spec1 w)) j' := by
  have hm : (cfg1.win w).moved (cfg1.grid.coords t) j = true :=
    ((cfg1.win w).moved_iff _ j).mpr fun a => by rw [Bwd.xsize_in w hw t a]; exact (j a).isLt
  unfold Bwd.X Pipeline.Window.fill
  rw [dif_pos hm]
  exact ⟨_, fun a => rfl, rfl⟩

variable (m : (ℓ : Loc nD τ sig) → Buf (Elt Ideal) ℓ) (c : Dev nD)

theorem W4_kept (r : Ref sig .tc) (h : r ∉ Run.outRefs0) (h0 : r ∉ hostOps0_W) (h1 : r ∉ hostOps0_1_W) (h2 : r ∉ hostOps0_2_W) :
    Run.W4 (F := Ideal) m c r = m ((c : Thread nD τ).loc r) :=
  (Run.W4_of m c r h).trans (V3_kept m c r h0 h1 h2)

theorem idx1_3 : ∀ t : Fin grid1.N, win1_3.index t 0 = min t.val 31 ∧ win1_3.index t 1 = 0 := by decide +kernel
theorem idx1_4 : ∀ t : Fin grid1.N, win1_4.index t 0 = min t.val 31 ∧ win1_4.index t 1 = 0 := by decide +kernel
theorem idx1_7 : ∀ t : Fin grid1.N, ∀ a, win1_7.index t a = 0 := by decide +kernel
theorem idx1_8 : ∀ t : Fin grid1.N, ∀ a, win1_8.index t a = 0 := by decide +kernel
theorem idx1_13 : ∀ t : Fin grid1.N, ∀ a, win1_13.index t a = 0 := by decide +kernel
theorem idx1_14 : ∀ t : Fin grid1.N, ∀ a, win1_14.index t a = 0 := by decide +kernel

theorem pt_val {s : ℕ} (hs : s < 33) : (pt s).val = s := Nat.mod_eq_of_lt hs

theorem dcat_blk (s : ℕ) (hs : s < 32) (r b : ℕ) (hr : r < 128) :
    at2 (α := EReal) (Bwd.X (Run.E1 m) c 3 (pt s)) r b = at2 (α := EReal) (X5 m c) (128 * s + r) b := by
  unfold at2
  by_cases hb : b < 1024
  · rw [dif_pos ⟨hr, hb⟩, dif_pos ⟨by omega, hb⟩]
    obtain ⟨j', hj, e⟩ := X1_read c (Run.E1 m) 3 rfl (pt s) (ix2 ⟨r, hr⟩ ⟨b, hb⟩)
    refine e.trans ?_
    rw [View.read_apply]
    show Run.W4 m c main_arg5 _ = _
    rw [W4_kept m c main_arg5 (by decide) (by decide) (by decide) (by decide)]
    congr 1; funext a; apply Fin.ext
    match a with
    | ⟨0, _⟩ => show win1_3.index (pt s) 0 * 128 + 1 * (j' 0).val = 128 * s + r; rw [(idx1_3 _).1, hj 0, pt_val (by omega)]; show min s 31 * 128 + 1 * r = _; omega
    | ⟨1, _⟩ => exact tile_col_at (idx1_3 _).2 (hj 1)
  · rw [dif_neg (by omega), dif_neg (by omega)]

theorem pooled_blk (s : ℕ) (hs : s < 32) (r b : ℕ) (hr : r < 128) (hX : ∀ j, ∃ r : ℝ, X0 m c j = (r : EReal)) :
    at2 (α := EReal) (Bwd.X (Run.E1 m) c 4 (pt s)) r b = at2 (α := EReal) (poolOut m c) (128 * s + r) b := by
  unfold at2
  by_cases hb : b < 512
  · rw [dif_pos ⟨hr, hb⟩, dif_pos ⟨by omega, hb⟩]
    obtain ⟨j', hj, e⟩ := X1_read c (Run.E1 m) 4 rfl (pt s) (ix2 ⟨r, hr⟩ ⟨b, hb⟩)
    refine e.trans ?_
    rw [View.read_apply]
    show Run.W4 m c main_v38_1 _ = _
    rw [final_pooled m c hX]
    congr 1; funext a; apply Fin.ext
    match a with
    | ⟨0, _⟩ => show win1_4.index (pt s) 0 * 128 + 1 * (j' 0).val = 128 * s + r; rw [(idx1_4 _).1, hj 0, pt_val (by omega)]; show min s 31 * 128 + 1 * r = _; omega
    | ⟨1, _⟩ => exact tile_col_at (idx1_4 _).2 (hj 1)
  · rw [dif_neg (by omega), dif_neg (by omega)]

theorem scale_blk (s : ℕ) (b : ℕ) : at2 (α := EReal) (Bwd.X (Run.E1 m) c 8 (pt s)) 0 b = at2 (α := EReal) (X2 m c) 0 b := by
  unfold at2
  by_cases hb : b < 512
  · rw [dif_pos ⟨by decide, hb⟩, dif_pos ⟨by decide, hb⟩]
    obtain ⟨j', hj, e⟩ := X1_read c (Run.E1 m) 8 rfl (pt s) (ix2 ⟨0, by decide⟩ ⟨b, hb⟩)
    refine e.trans ?_
    rw [View.read_apply]
    show Run.W4 m c main_arg2 _ = _
    rw [W4_kept m c main_arg2 (by decide) (by decide) (by decide) (by decide)]
    congr 1; funext a; apply Fin.ext
    match a with
    | ⟨0, _⟩ => exact tile_col_at (idx1_8 _ 0) (hj 0)
    | ⟨1, _⟩ => exact tile_col_at (idx1_8 _ 1) (hj 1)
  · rw [dif_neg (by omega), dif_neg (by omega)]

theorem V3_v37 (g : Fin 4) (k d : Fin 128) : (V3 (F := Ideal) m c main_v37 : S4x128x128.Idx → EReal) (ix3 g k d) = X1 m c (ix4 0 g k d) := by
  have e : (V3 (F := Ideal) m c main_v37 : S4x128x128.Idx → EReal) = truncf (F := Ideal) .bf16 (shapeCast S4x128x128 (X1 m c : FVec Ideal S1x4x128x128 .f32) shapeCasts_S1x4x128x128_S4x128x128) bitsLt_bf16_f32 := by
    have e1 : V2 (F := Ideal) m c main_arg1 = X1 m c := (V2_of m c main_arg1 (by decide)).trans (V1_of m c main_arg1 (by decide))
    rw [← e1]
    unfold V3
    after_results_simp
    rfl
  rw [e]
  pointwise []

theorem w_blk (s : ℕ) (g k d : ℕ) (hg : g < 4) (hk : k < 128) (hd : d < 128) :
    at3 (α := EReal) (Bwd.X (Run.E1 m) c 7 (pt s)) g k d = X1 m c (ix4 0 ⟨g, hg⟩ ⟨k, hk⟩ ⟨d, hd⟩) := by
  unfold at3
  rw [dif_pos ⟨hg, hk, hd⟩]
  obtain ⟨j', hj, e⟩ := X1_read c (Run.E1 m) 7 rfl (pt s) (ix3 ⟨g, hg⟩ ⟨k, hk⟩ ⟨d, hd⟩)
  refine e.trans ?_
  rw [View.read_apply]
  refine Eq.trans ?_ (V3_v37 m c ⟨g, hg⟩ ⟨k, hk⟩ ⟨d, hd⟩)
  show Run.W4 m c main_v37 _ = _
  rw [Run.W4_of m c main_v37 (by decide)]
  congr 1; funext a; apply Fin.ext
  match a with
  | ⟨0, _⟩ => exact tile_col_at (idx1_7 _ 0) (hj 0)
  | ⟨1, _⟩ => exact tile_col_at (idx1_7 _ 1) (hj 1)
  | ⟨2, _⟩ => exact tile_col_at (idx1_7 _ 2) (hj 2)

/-- The pooled array, read by group and channel. -/
abbrev pool (T g a : ℕ) : EReal := at2 (α := EReal) (poolOut m c) T (128 * g + a)
/-- The cotangent of the pooled half. -/
abbrev dout (T g a : ℕ) : EReal := at2 (α := EReal) (X5 m c) T (128 * g + a)

/-- The gradient of `w_pool`. -/
def dwOut : S4x128x128.Idx → EReal := fun y => ∑ T ∈ Finset.range 4096, pool m c T (y 0).val (y 1).val * (dout m c T (y 0).val (y 2).val * at2 (α := EReal) (X2 m c) 0 (128 * (y 0).val + (y 2).val))
/-- The gradient of `pool_scale`. -/
def dsOut : S4x128.Idx → EReal := fun y => ∑ T ∈ Finset.range 4096, dout m c T (y 0).val (y 1).val * ∑ k : Fin 128, pool m c T (y 0).val k.val * X1 m c (ix4 0 (y 0) k (y 1))

variable (hX : ∀ j, ∃ r : ℝ, X0 m c j = (r : EReal))
include hX

theorem state_dw (y : S4x128x128.Idx) : (Bwd.state (Run.E1 m) c 31).dwp y = dwOut m c y := by
  rw [state_dwp _ _ 31 (by decide)]
  unfold dwOut
  rw [show (4096 : ℕ) = 128 * (31 + 1) from rfl, ← sum_blocks]
  refine Finset.sum_congr rfl fun s hs => ?_
  have hs' : s < 32 := Finset.mem_range.mp hs
  unfold wPart
  refine Finset.sum_congr rfl fun r _ => ?_
  rw [pooled_blk m c s hs' _ _ r.isLt hX, dcat_blk m c s hs' _ _ r.isLt, scale_blk]

theorem state_ds (y : S4x128.Idx) : (Bwd.state (Run.E1 m) c 31).dsc y = dsOut m c y := by
  rw [state_dsc _ _ 31 (by decide)]
  unfold dsOut
  rw [show (4096 : ℕ) = 128 * (31 + 1) from rfl, ← sum_blocks]
  refine Finset.sum_congr rfl fun s hs => ?_
  have hs' : s < 32 := Finset.mem_range.mp hs
  unfold sPart
  refine Finset.sum_congr rfl fun r _ => ?_
  rw [dcat_blk m c s hs' _ _ r.isLt]
  congr 1
  refine Finset.sum_congr rfl fun k _ => ?_
  rw [pooled_blk m c s hs' _ _ r.isLt hX, w_blk m c s _ _ _ (y 0).isLt k.isLt (y 1).isLt]
  rfl

theorem last_state (t : Fin cfg1.N) (h : t.val = 32) : Bwd.state (Run.E1 m) c t.val = Bwd.state (Run.E1 m) c 31 := by
  rw [Bwd.state_last _ c t h]
  unfold Bwd.prev
  rw [h]

theorem flush_at {t : Fin cfg1.N} {w : Fin cfg1.W} (hw : 11 ≤ w.val) (hf : (cfg1.win w).flush t = true) : t.val = 32 := by
  by_contra hne
  have : t.val < 33 := Nat.lt_of_lt_of_eq t.isLt N_1
  rw [Bwd.flush_acc w hw t (by omega)] at hf
  exact Bool.false_ne_true hf

theorem final_dw : Run.W5 m c main_v39_3 = dwOut m c := by
  rw [(Run.W5_out ..).2.2.2.1]
  refine (Bwd.dat (Run.E1 m) c).arrAt_eq_of_cover 13 (dwOut m c) (fun t hf => ?_) fun i => ?_
  · funext j
    show (Bwd.dat (Run.E1 m) c).after 13 t j = dwOut m c (((cfg1.win 13).blk t).view.emb j)
    rw [Bwd.after_13, last_state m c hX t (flush_at m c hX (by decide) hf), state_dw m c hX]
    congr 1; funext a; apply Fin.ext
    match a with
    | ⟨0, _⟩ => show (j 0).val = win1_13.index t 0 * 4 + 1 * (j 0).val; rw [idx1_13 t 0]; ring
    | ⟨1, _⟩ => show (j 1).val = win1_13.index t 1 * 128 + 1 * (j 1).val; rw [idx1_13 t 1]; ring
    | ⟨2, _⟩ => show (j 2).val = win1_13.index t 2 * 128 + 1 * (j 2).val; rw [idx1_13 t 2]; ring
  · have i0 : (i 0 : Nat) < 4 := (i 0).isLt
    have i1 : (i 1 : Nat) < 128 := (i 1).isLt
    have i2 : (i 2 : Nat) < 128 := (i 2).isLt
    refine ⟨pt 32, Bwd.flush_acc_last 13 (by decide) (pt 32) rfl, mem_tile fun a => ?_⟩
    match a with
    | ⟨0, _⟩ => show win1_13.index (pt 32) 0 * 4 ≤ (i 0 : Nat) ∧ (i 0 : Nat) < win1_13.index (pt 32) 0 * 4 + 4; rw [idx1_13 _ 0]; omega
    | ⟨1, _⟩ => show win1_13.index (pt 32) 1 * 128 ≤ (i 1 : Nat) ∧ (i 1 : Nat) < win1_13.index (pt 32) 1 * 128 + 128; rw [idx1_13 _ 1]; omega
    | ⟨2, _⟩ => show win1_13.index (pt 32) 2 * 128 ≤ (i 2 : Nat) ∧ (i 2 : Nat) < win1_13.index (pt 32) 2 * 128 + 128; rw [idx1_13 _ 2]; omega

theorem final_ds : Run.W5 m c main_v39_4 = dsOut m c := by
  rw [(Run.W5_out ..).2.2.2.2.1]
  refine (Bwd.dat (Run.E1 m) c).arrAt_eq_of_cover 14 (dsOut m c) (fun t hf => ?_) fun i => ?_
  · funext j
    show (Bwd.dat (Run.E1 m) c).after 14 t j = dsOut m c (((cfg1.win 14).blk t).view.emb j)
    rw [Bwd.after_14, last_state m c hX t (flush_at m c hX (by decide) hf), state_ds m c hX]
    congr 1; funext a; apply Fin.ext
    match a with
    | ⟨0, _⟩ => show (j 0).val = win1_14.index t 0 * 4 + 1 * (j 0).val; rw [idx1_14 t 0]; ring
    | ⟨1, _⟩ => show (j 1).val = win1_14.index t 1 * 128 + 1 * (j 1).val; rw [idx1_14 t 1]; ring
  · have i0 : (i 0 : Nat) < 4 := (i 0).isLt
    have i1 : (i 1 : Nat) < 128 := (i 1).isLt
    refine ⟨pt 32, Bwd.flush_acc_last 14 (by decide) (pt 32) rfl, mem_tile fun a => ?_⟩
    match a with
    | ⟨0, _⟩ => show win1_14.index (pt 32) 0 * 4 ≤ (i 0 : Nat) ∧ (i 0 : Nat) < win1_14.index (pt 32) 0 * 4 + 4; rw [idx1_14 _ 0]; omega
    | ⟨1, _⟩ => show win1_14.index (pt 32) 1 * 128 ≤ (i 1 : Nat) ∧ (i 1 : Nat) < win1_14.index (pt 32) 1 * 128 + 128; rw [idx1_14 _ 1]; omega

end Cert.MixersIdeal.Val
end
-- ==== Proof.DuBack.lean ====
/-
  The backward call's gradient of the pooled channels: a window of scaled rows, kept from one block of tokens to the next.
-/
module

public import proofs.«01_k».proof.Proof.PoolKernel
public import Idealize.ShloMosaic.Lib.WritesUnit

@[expose] public section

set_option maxRecDepth 16384

noncomputable section

namespace Cert.MixersIdeal.Val

open Cert.MixersIdeal Cert.MixersIdeal.Gen Idealize.ShloMosaic Idealize.ShloMosaic.TcCoe
open Cert.Reals Cert.Mix
open scoped BigOperators

theorem inbC {R r C o n : ℕ} (h : r ≤ R) (hn : n + 128 ≤ C) : ∀ a : Fin 2, (![0, n] : Fin 2 → Nat) a + (![r, 128] : Fin 2 → Nat) a ≤ (![R, C] : Fin 2 → Nat) a := by
  intro a
  match a with
  | ⟨0, _⟩ => show 0 + r ≤ R; omega
  | ⟨1, _⟩ => show n + 128 ≤ C; omega
theorem inbR {r o n : ℕ} (h : o + r ≤ 144) (hn : n < 4) : ∀ a : Fin 2, (![o, 128 * n] : Fin 2 → Nat) a + (![r, 128] : Fin 2 → Nat) a ≤ (![144, 512] : Fin 2 → Nat) a := by
  intro a
  match a with
  | ⟨0, _⟩ => show o + r ≤ 144; omega
  | ⟨1, _⟩ => show 128 * n + 128 ≤ 512; omega
theorem inb8 {n : ℕ} (hn : n < 4) : ∀ a : Fin 3, (![n, 0, 0] : Fin 3 → Nat) a + S1x128x128.size a ≤ S4x128x128.size a := by
  intro a
  match a with
  | ⟨0, _⟩ => show n + 1 ≤ 4; omega
  | ⟨1, _⟩ => show 0 + 128 ≤ 128; omega
  | ⟨2, _⟩ => show 0 + 128 ≤ 128; omega

section payload
variable (i : grid1.Coords) (arg4 : Memref sig .tc .vmem S128x1024 .f32) (harg4 : arg4.IsWhole)
  (arg8 : Memref sig .tc .vmem S4x128x128 .bf16) (harg8 : arg8.IsWhole) (arg9 : Memref sig .tc .vmem S1x512 .f32) (harg9 : arg9.IsWhole)
  (arg17 : Memref sig .tc .vmem S144x512 .f32) (harg17 : arg17.IsWhole) (arg18 : Memref sig .tc .vmem S128x512 .f32) (harg18 : arg18.IsWhole)
  (x3 : Vec Ideal S128x1024 .f32) (x7 : Vec Ideal S4x128x128 .bf16) (x8 : Vec Ideal S1x512 .f32)
  (sb : Vec Ideal S144x512 .f32) (su : Vec Ideal S128x512 .f32)

/-- The cotangent of a pooled channel, by row of the block and column. -/
def pPart (r b : ℕ) : EReal :=
  ∑ n : Fin 128, at2 (α := EReal) x3 r (128 * (b / 128) + n.val) * at2 (α := EReal) x8 0 (128 * (b / 128) + n.val) * at3 (α := EReal) x7 (b / 128) (b % 128) n.val

/-- One group's product. -/
def gP (g : ℕ) (hg : g < 4) : Vec Ideal S128x128 .f32 :=
  matmul (F := Ideal) (φ₁ := .bf16) (φ₂ := .bf16) dot_S128x128_S128x128_S128x128_1_1_0_0_n_n none
    (truncf (F := Ideal) .bf16 (mulf (F := Ideal) (View.readAt (Elt Ideal) arg4.view (Rect.unit (s := S128x1024) ![0, 128 * g] S128x128.size (inbC (R := 128) (r := 128) (o := 0) (by omega) (by omega))).toLoadRect (harg4.unread x3))
      (broadcastTo S128x128 (View.readAt (Elt Ideal) arg9.view (Rect.unit (s := S1x512) ![0, 128 * g] S1x128.size (inbC (R := 1) (r := 1) (o := 0) (by omega) (by omega))).toLoadRect (harg9.unread x8)) broadcasts_S1x128_S128x128)) bitsLt_bf16_f32)
    (shapeCast (α := EReal) S128x128 (View.readAt (Elt Ideal) arg8.view (Rect.unit (s := S4x128x128) ![g, 0, 0] S1x128x128.size (inb8 hg)).toLoadRect (harg8.unread x7)) shapeCasts_S1x128x128_S128x128)
    (constant (F := Ideal) S128x128 .f32 0#32)

theorem nt_apply (A B : Vec Ideal S128x128 .bf16) (r d : Fin 128) :
    matmul (F := Ideal) (φ₁ := .bf16) (φ₂ := .bf16) dot_S128x128_S128x128_S128x128_1_1_0_0_n_n none A B (constant (F := Ideal) S128x128 .f32 0#32) (ix2 r d)
      = ∑ n : Fin 128, (A (ix2 r n) * B (ix2 d n) : EReal) := by
  pointwise []

theorem gP_apply (g : ℕ) (hg : g < 4) (r d : Fin 128) : gP arg4 harg4 arg8 harg8 arg9 harg9 x3 x7 x8 g hg (ix2 r d) = pPart x3 x7 x8 r.val (128 * g + d.val) := by
  have hd := d.isLt
  unfold gP pPart
  rw [nt_apply, show (128 * g + d.val) / 128 = g by omega, show (128 * g + d.val) % 128 = d.val by omega]
  refine Finset.sum_congr rfl fun n _ => congrArg₂ (· * ·) ?_ ?_
  · have e : ∀ (A : Vec Ideal S128x128 .f32) (B : Vec Ideal S1x128 .f32), truncf (F := Ideal) .bf16 (mulf (F := Ideal) (φ := .f32) A (broadcastTo S128x128 B broadcasts_S1x128_S128x128)) bitsLt_bf16_f32 (ix2 r n)
        = (A (ix2 r n) * B (ix2 0 n) : EReal) := by
      intro A B
      pointwise []
    refine (e _ _).trans (congrArg₂ (· * ·) ?_ ?_)
    · refine (rd2 (a := 128) (b := 128) arg4 harg4 x3 0 (128 * g) _ r n).trans ?_
      rw [zero_add]
    · refine (rd2 (a := 1) (b := 128) arg9 harg9 x8 0 (128 * g) _ 0 n).trans ?_
      rfl
  · refine (cast3 _ d n).trans ?_
    refine (rd3b (p := 1) (a := 128) (b := 128) arg8 harg8 x7 g 0 0 _ 0 d n).trans ?_
    simp only [Fin.val_zero, zero_add, add_zero]

/-- One over the count, for a block of rows. -/
def cntV (w : ℕ) : Vec Ideal S128x1 .f32 :=
  divf (F := Ideal) (φ := .f32) (broadcast S128x1 (Scalar.ofBits (F := Ideal) .f32 0x3F800000#32))
    (sitofp (F := Ideal) .f32 (minsi (addi (addi (broadcast S128x1 (Scalar.muli (BitVec.ofNat 32 (i 0).val) 128#32)) (iota .tc S128x1 32 [0] iota_S128x1_d0_w32)) (broadcast S128x1 1#32))
      (broadcast S128x1 (BitVec.ofNat 32 w))))

def icount1 (w r : ℕ) : EReal := Ideal.div 1
  (((if (BitVec.ofNat 32 ((i 0).val * 128 + r + 1)).slt (BitVec.ofNat 32 w) then BitVec.ofNat 32 ((i 0).val * 128 + r + 1) else BitVec.ofNat 32 w).toInt : ℝ) : EReal)

theorem cntV_apply (w : ℕ) (r : Fin 128) (z : Fin 1) : cntV i w (ix2 r z) = icount1 i w r.val := by
  unfold cntV icount1
  rw [BitVec.ofNat_add, BitVec.ofNat_add, BitVec.ofNat_mul]
  pointwise []
  rfl

/-- One group's scaled rows. -/
def gSc (g : ℕ) (hg : g < 4) : Vec Ideal S128x128 .f32 :=
  mulf (F := Ideal) (φ := .f32) (gP arg4 harg4 arg8 harg8 arg9 harg9 x3 x7 x8 g hg) (broadcastTo S128x128 (cntV i (2 ^ (g + 1))) broadcasts_S128x1_S128x128)

/-- A scaled row, by row of the block and column. -/
def sRow (r b : ℕ) : EReal := pPart x3 x7 x8 r b * icount1 i (wid b) r

theorem gSc_apply (g : ℕ) (hg : g < 4) (r d : Fin 128) : gSc i arg4 harg4 arg8 harg8 arg9 harg9 x3 x7 x8 g hg (ix2 r d) = sRow i x3 x7 x8 r.val (128 * g + d.val) := by
  have hd := d.isLt
  unfold gSc sRow wid
  rw [show (128 * g + d.val) / 128 = g by omega, ← gP_apply arg4 harg4 arg8 harg8 arg9 harg9 x3 x7 x8 g hg r d, ← cntV_apply i _ r 0]
  pointwise []

/-- The first rows of a group's block, stored under the block before, -/
abbrev topP (g : ℕ) (hg : g < 4) : View.Piece (Elt Ideal) S144x512 .f32 :=
  ⟨Rect.unit (s := S144x512) ![128, 128 * g] S16x128.size (inbR (by omega) hg),
    shapeCast S16x128 (extractStridedSlice S16x128 ![0, 0] (gSc i arg4 harg4 arg8 harg8 arg9 harg9 x3 x7 x8 g hg) slices_S128x128_o0_0_S16x128) shapeCasts_S16x128_S16x128⟩
/-- and the block, stored in its place. -/
abbrev botP (g : ℕ) (hg : g < 4) : View.Piece (Elt Ideal) S144x512 .f32 :=
  ⟨Rect.unit (s := S144x512) ![0, 128 * g] S128x128.size (inbR (by omega) hg), shapeCast S128x128 (gSc i arg4 harg4 arg8 harg8 arg9 harg9 x3 x7 x8 g hg) shapeCasts_S128x128_S128x128⟩

/-- The stores of the first groups. -/
def bufPre : (n : ℕ) → n ≤ 4 → List (View.Piece (Elt Ideal) S144x512 .f32)
  | 0, _ => []
  | n + 1, h => botP i arg4 harg4 arg8 harg8 arg9 harg9 x3 x7 x8 n h :: topP i arg4 harg4 arg8 harg8 arg9 harg9 x3 x7 x8 n h :: bufPre n (by omega)

/-- What the stores leave, by row and column. -/
def bufVal (y : S144x512.Idx) : EReal := sRow i x3 x7 x8 (if (y 0).val < 128 then (y 0).val else (y 0).val - 128) (y 1).val

theorem bufPre_val (n : ℕ) (h : n ≤ 4) : ∀ p ∈ bufPre i arg4 harg4 arg8 harg8 arg9 harg9 x3 x7 x8 n h, ∀ x, p.2 x = bufVal i x3 x7 x8 (p.1.emb x) := by
  induction n with
  | zero => intro p hp; exact absurd hp List.not_mem_nil
  | succ n ih =>
    intro p hp x
    rcases List.mem_cons.mp hp with rfl | hp
    · obtain ⟨r, d, rfl⟩ : ∃ (r d : Fin 128), x = ix2 r d := ⟨x 0, x 1, funext fun k => by fin_cases k <;> rfl⟩
      have e : shapeCast S128x128 (gSc i arg4 harg4 arg8 harg8 arg9 harg9 x3 x7 x8 n h) shapeCasts_S128x128_S128x128 (ix2 r d) = gSc i arg4 harg4 arg8 harg8 arg9 harg9 x3 x7 x8 n h (ix2 r d) := by
        pointwise []
      refine e.trans ((gSc_apply i arg4 harg4 arg8 harg8 arg9 harg9 x3 x7 x8 n h r d).trans ?_)
      show _ = sRow i x3 x7 x8 (if 0 + 1 * r.val < 128 then 0 + 1 * r.val else 0 + 1 * r.val - 128) (128 * n + 1 * d.val)
      have := r.isLt
      rw [if_pos (by omega), show 0 + 1 * r.val = r.val by omega, one_mul]
    rcases List.mem_cons.mp hp with rfl | hp
    · obtain ⟨r, d, rfl⟩ : ∃ (r : Fin 16) (d : Fin 128), x = ix2 r d := ⟨x 0, x 1, funext fun k => by fin_cases k <;> rfl⟩
      have e : shapeCast S16x128 (extractStridedSlice S16x128 ![0, 0] (gSc i arg4 harg4 arg8 harg8 arg9 harg9 x3 x7 x8 n h) slices_S128x128_o0_0_S16x128) shapeCasts_S16x128_S16x128 (ix2 r d)
          = gSc i arg4 harg4 arg8 harg8 arg9 harg9 x3 x7 x8 n h (ix2 ⟨r.val, by omega⟩ d) := by
        pointwise []
      refine e.trans ((gSc_apply i arg4 harg4 arg8 harg8 arg9 harg9 x3 x7 x8 n h _ d).trans ?_)
      show _ = sRow i x3 x7 x8 (if 128 + 1 * r.val < 128 then 128 + 1 * r.val else 128 + 1 * r.val - 128) (128 * n + 1 * d.val)
      rw [if_neg (by omega), show 128 + 1 * r.val - 128 = r.val by omega, one_mul]
    · exact ih _ p hp x

theorem bufPre_read (M : List (View.Piece (Elt Ideal) S144x512 .f32)) (y : S144x512.Idx) :
    View.canon (bufPre i arg4 harg4 arg8 harg8 arg9 harg9 x3 x7 x8 4 (by omega) ++ M) y = bufVal i x3 x7 x8 y := by
  have hcov := View.cover_of_tiledBy (s := S144x512) (bufPre i arg4 harg4 arg8 harg8 arg9 harg9 x3 x7 x8 4 (by omega)) ![16, 128] (by sl_kernel_rfl) y
  rw [canon_append _ _ _ hcov]
  exact View.canon_apply_of_pieces (Val := Elt Ideal) (e := .f32) (bufVal i x3 x7 x8) _ (bufPre_val i arg4 harg4 arg8 harg8 arg9 harg9 x3 x7 x8 4 _) y hcov

/-- A later column is not touched by the earlier groups' stores. -/
theorem bufPre_far (n : ℕ) (h : n ≤ 4) (y : S144x512.Idx) (hy : 128 * n ≤ (y 1).val) :
    arg17.view.read (Elt Ideal) (arg17.view.writes (Elt Ideal) (harg17.unread sb) (bufPre i arg4 harg4 arg8 harg8 arg9 harg9 x3 x7 x8 n h)) y = sb y := by
  induction n with
  | zero => exact congrFun (harg17.read_unread sb) y
  | succ n ih =>
    refine (View.read_writes_cons_unit_of_not_mem arg17.view _ _ _ _ y rfl 1 (Or.inr ?_)).trans ((View.read_writes_cons_unit_of_not_mem arg17.view _ _ _ _ y rfl 1 (Or.inr ?_)).trans (ih (by omega) (by omega)))
    · show 128 * n + 128 ≤ (y 1).val; omega
    · show 128 * n + 128 ≤ (y 1).val; omega

/-- A later block's window: the rows kept from the block before, then the first rows of this one. -/
theorem win_read (n : ℕ) (h : n < 4) (k : ℕ) (inb) (r d : Fin 128) :
    View.readAt (Elt Ideal) arg17.view (Rect.unit (s := S144x512) ![k, 128 * n] S128x128.size inb).toLoadRect
        (arg17.view.writes (Elt Ideal) (harg17.unread sb) (topP i arg4 harg4 arg8 harg8 arg9 harg9 x3 x7 x8 n h :: bufPre i arg4 harg4 arg8 harg8 arg9 harg9 x3 x7 x8 n (by omega))) (ix2 r d)
      = if k + r.val < 128 then at2 (α := EReal) sb (k + r.val) (128 * n + d.val) else sRow i x3 x7 x8 (k + r.val - 128) (128 * n + d.val) := by
  have hk : k + 128 ≤ 144 := inb 0
  have hd := d.isLt
  have hr := r.isLt
  rw [View.readAt_apply]
  have e : (Rect.unit (s := S144x512) ![k, 128 * n] S128x128.size inb).toLoadRect.idx (ix2 r d) = ix2 (⟨k + r.val, by omega⟩ : Fin 144) (⟨128 * n + d.val, by omega⟩ : Fin 512) := by
    funext a; apply Fin.ext
    match a with
    | ⟨0, _⟩ => show k + 1 * r.val = k + r.val; omega
    | ⟨1, _⟩ => show 128 * n + 1 * d.val = 128 * n + d.val; omega
  rw [e]
  by_cases hc : k + r.val < 128
  · rw [if_pos hc]
    refine (View.read_writes_cons_unit_of_not_mem arg17.view _ _ _ _ _ rfl 0 (Or.inl ?_)).trans ((bufPre_far i arg4 harg4 arg8 harg8 arg9 harg9 arg17 harg17 x3 x7 x8 sb n (by omega) _ ?_).trans
      (at2_eq (α := EReal) sb ⟨k + r.val, by omega⟩ ⟨128 * n + d.val, by omega⟩).symm)
    · exact hc
    · show 128 * n ≤ 128 * n + d.val; omega
  · rw [if_neg hc]
    refine (View.read_writes_cons_unit_of_mem arg17.view _ _ _ _ _ (ix2 (⟨k + r.val - 128, by omega⟩ : Fin 16) d) rfl ?_).trans ?_
    · intro a
      match a with
      | ⟨0, _⟩ => show k + r.val = 128 + (k + r.val - 128); omega
      | ⟨1, _⟩ => rfl
    · have := bufPre_val i arg4 harg4 arg8 harg8 arg9 harg9 x3 x7 x8 (n + 1) h _ (List.mem_cons_of_mem _ List.mem_cons_self) (ix2 (⟨k + r.val - 128, by omega⟩ : Fin 16) d)
      refine this.trans ?_
      show sRow i x3 x7 x8 (if 128 + 1 * (k + r.val - 128) < 128 then 128 + 1 * (k + r.val - 128) else 128 + 1 * (k + r.val - 128) - 128) (128 * n + 1 * d.val) = _
      rw [if_neg (by omega), show 128 + 1 * (k + r.val - 128) - 128 = k + r.val - 128 by omega, one_mul]

/-- The last point's window: the rows kept, then zeros. -/
theorem winC_read (n : ℕ) (h : n < 4) (k : ℕ) (inb) (r d : Fin 128) :
    View.readAt (Elt Ideal) arg17.view (Rect.unit (s := S144x512) ![k, 128 * n] S128x128.size inb).toLoadRect
        (arg17.view.writes (Elt Ideal) (harg17.unread sb) (Bwd.runC.sl.H17_1 (F := Ideal))) (ix2 r d)
      = if k + r.val < 128 then at2 (α := EReal) sb (k + r.val) (128 * n + d.val) else 0 := by
  have hk : k + 128 ≤ 144 := inb 0
  have hd := d.isLt
  have hr := r.isLt
  rw [View.readAt_apply]
  have e : (Rect.unit (s := S144x512) ![k, 128 * n] S128x128.size inb).toLoadRect.idx (ix2 r d) = ix2 (⟨k + r.val, by omega⟩ : Fin 144) (⟨128 * n + d.val, by omega⟩ : Fin 512) := by
    funext a; apply Fin.ext
    match a with
    | ⟨0, _⟩ => show k + 1 * r.val = k + r.val; omega
    | ⟨1, _⟩ => show 128 * n + 1 * d.val = 128 * n + d.val; omega
  rw [e]
  unfold Bwd.runC.sl.H17_1
  by_cases hc : k + r.val < 128
  · rw [if_pos hc]
    exact (View.read_writes_cons_unit_of_not_mem arg17.view _ _ _ _ _ rfl 0 (Or.inl hc)).trans ((congrFun (harg17.read_unread sb) _).trans
      (at2_eq (α := EReal) sb ⟨k + r.val, by omega⟩ ⟨128 * n + d.val, by omega⟩).symm)
  · rw [if_neg hc]
    refine (View.read_writes_cons_unit_of_mem arg17.view _ _ _ _ _ (ix2 (⟨k + r.val - 128, by omega⟩ : Fin 16) (⟨128 * n + d.val, by omega⟩ : Fin 512)) rfl ?_).trans ?_
    · intro a
      match a with
      | ⟨0, _⟩ => show k + r.val = 128 + (k + r.val - 128); omega
      | ⟨1, _⟩ => show 128 * n + d.val = 0 + (128 * n + d.val); omega
    · unfold k1_pay368
      pointwise []

/-- The first `n + 1` windows, added from the left. -/
def winSum (R0 : Vec Ideal S128x128 .f32) (R : ℕ → Vec Ideal S128x128 .f32) : ℕ → Vec Ideal S128x128 .f32
  | 0 => R0
  | n + 1 => addf (F := Ideal) (φ := .f32) (winSum R0 R n) (R (n + 1))

theorem winSum_apply (R0 : Vec Ideal S128x128 .f32) (R : ℕ → Vec Ideal S128x128 .f32) (f : ℕ → EReal) (r d : Fin 128) (h0 : R0 (ix2 r d) = f 0) (n : ℕ) (hR : ∀ k, k ≤ n → R k (ix2 r d) = f k) :
    winSum R0 R n (ix2 r d) = ∑ k ∈ Finset.range (n + 1), f k := by
  induction n with
  | zero => rw [Finset.sum_range_one]; exact h0
  | succ n ih =>
    rw [Finset.sum_range_succ, ← ih (fun k hk => hR k (by omega)), ← hR (n + 1) (le_refl _)]
    rfl

/-- One group's store of the gradient, over the buffer's stores `L`. -/
abbrev duPiece (L : List (View.Piece (Elt Ideal) S144x512 .f32)) (g : ℕ) (hg : g < 4) : View.Piece (Elt Ideal) S128x1280 .bf16 :=
  ⟨Rect.unit (s := S128x1280) ![0, 128 * g] S128x128.size (inbC (R := 128) (r := 128) (o := 0) (by omega) (by omega)),
    truncf (F := Ideal) .bf16 (addf (F := Ideal) (φ := .f32)
      (winSum (View.readAt (Elt Ideal) arg17.view (Rect.unit (s := S144x512) ![0, 128 * g] S128x128.size (inbR (by omega) hg)).toLoadRect (harg17.unread sb))
        (fun k => View.readAt (Elt Ideal) arg17.view (Rect.unit (s := S144x512) ![k % 17, 128 * g] S128x128.size (inbR (by omega) hg)).toLoadRect (arg17.view.writes (Elt Ideal) (harg17.unread sb) L))
        (2 ^ (g + 1) - 1))
      (View.readAt (Elt Ideal) arg18.view (Rect.unit (s := S128x512) ![0, 128 * g] S128x128.size (inbC (R := 128) (r := 128) (o := 0) (by omega) (by omega))).toLoadRect (harg18.unread su))) bitsLt_bf16_f32⟩

/-- What a store of the gradient holds, the window's rows being `D`. -/
def duVal (D : ℕ → ℕ → EReal) (r b : ℕ) : EReal := (∑ k ∈ Finset.range (wid b), D (k + r) b) + at2 (α := EReal) su r b

theorem duPiece_val (L : List (View.Piece (Elt Ideal) S144x512 .f32)) (g : ℕ) (hg : g < 4) (D : ℕ → ℕ → EReal)
    (h0 : ∀ r b, r < 128 → D r b = at2 (α := EReal) sb r b)
    (hD : ∀ (k : ℕ) (inb) (r d : Fin 128), View.readAt (Elt Ideal) arg17.view (Rect.unit (s := S144x512) ![k, 128 * g] S128x128.size inb).toLoadRect (arg17.view.writes (Elt Ideal) (harg17.unread sb) L) (ix2 r d)
      = D (k + r.val) (128 * g + d.val)) (x : S128x128.Idx) :
    (duPiece arg17 harg17 arg18 harg18 sb su L g hg).2 x = duVal su D (((duPiece arg17 harg17 arg18 harg18 sb su L g hg).1.emb x) 0).val (((duPiece arg17 harg17 arg18 harg18 sb su L g hg).1.emb x) 1).val := by
  obtain ⟨r, d, rfl⟩ : ∃ (r d : Fin 128), x = ix2 r d := ⟨x 0, x 1, funext fun k => by fin_cases k <;> rfl⟩
  have hd := d.isLt
  show _ = duVal su D (0 + 1 * r.val) (128 * g + 1 * d.val)
  rw [show 0 + 1 * r.val = r.val by omega, one_mul]
  unfold duVal wid
  rw [show (128 * g + d.val) / 128 = g by omega]
  have hw : 2 ^ (g + 1) = (2 ^ (g + 1) - 1) + 1 := by have := Nat.one_le_two_pow (n := g + 1); omega
  have hw16 : 2 ^ (g + 1) ≤ 2 ^ 4 := Nat.pow_le_pow_right (by decide) (by omega)
  rw [hw]
  refine congrArg₂ (· + ·) (winSum_apply _ _ (fun k => D (k + r.val) (128 * g + d.val)) r d ?_ _ fun k hk => ?_) ?_
  · refine (rd2 (a := 128) (b := 128) arg17 harg17 sb 0 (128 * g) _ r d).trans ?_
    rw [h0 _ _ (by omega)]
  · have e : k % 17 = k := Nat.mod_eq_of_lt (by omega)
    exact (hD (k % 17) _ r d).trans (by rw [e])
  · refine (rd2 (a := 128) (b := 128) arg18 harg18 su 0 (128 * g) _ r d).trans ?_
    rw [zero_add]

/-- The negated product, kept for the next point. -/
abbrev cuP (g : ℕ) (hg : g < 4) : View.Piece (Elt Ideal) S128x512 .f32 :=
  ⟨Rect.unit (s := S128x512) ![0, 128 * g] S128x128.size (inbC (R := 128) (r := 128) (o := 0) (by omega) (by omega)),
    shapeCast S128x128 (subf (F := Ideal) (φ := .f32) (broadcast S128x128 (Scalar.ofBits (F := Ideal) .f32 0x00000000#32)) (gP arg4 harg4 arg8 harg8 arg9 harg9 x3 x7 x8 g hg)) shapeCasts_S128x128_S128x128⟩

abbrev cuPieces : List (View.Piece (Elt Ideal) S128x512 .f32) :=
  [cuP arg4 harg4 arg8 harg8 arg9 harg9 x3 x7 x8 3 (by decide), cuP arg4 harg4 arg8 harg8 arg9 harg9 x3 x7 x8 2 (by decide),
    cuP arg4 harg4 arg8 harg8 arg9 harg9 x3 x7 x8 1 (by decide), cuP arg4 harg4 arg8 harg8 arg9 harg9 x3 x7 x8 0 (by decide)]

theorem cuPieces_read (M : List (View.Piece (Elt Ideal) S128x512 .f32)) (y : S128x512.Idx) :
    View.canon (cuPieces arg4 harg4 arg8 harg8 arg9 harg9 x3 x7 x8 ++ M) y = 0 - pPart x3 x7 x8 (y 0).val (y 1).val := by
  have hcov := View.cover_of_tiledBy (s := S128x512) (cuPieces arg4 harg4 arg8 harg8 arg9 harg9 x3 x7 x8) ![128, 128] (by sl_kernel_rfl) y
  rw [canon_append _ _ _ hcov]
  refine View.canon_apply_of_pieces (Val := Elt Ideal) (e := .f32) (fun y : S128x512.Idx => 0 - pPart x3 x7 x8 (y 0).val (y 1).val) _ ?_ y hcov
  have key : ∀ (g : ℕ) (hg : g < 4) (x : S128x128.Idx), (cuP arg4 harg4 arg8 harg8 arg9 harg9 x3 x7 x8 g hg).2 x
      = (fun y : S128x512.Idx => 0 - pPart x3 x7 x8 (y 0).val (y 1).val) ((cuP arg4 harg4 arg8 harg8 arg9 harg9 x3 x7 x8 g hg).1.emb x) := by
    intro g hg x
    obtain ⟨r, d, rfl⟩ : ∃ (r d : Fin 128), x = ix2 r d := ⟨x 0, x 1, funext fun k => by fin_cases k <;> rfl⟩
    show _ = 0 - pPart x3 x7 x8 (0 + 1 * r.val) (128 * g + 1 * d.val)
    rw [show 0 + 1 * r.val = r.val by omega, one_mul, ← gP_apply arg4 harg4 arg8 harg8 arg9 harg9 x3 x7 x8 g hg r d]
    show shapeCast S128x128 (subf (F := Ideal) (φ := .f32) (broadcast S128x128 (Scalar.ofBits (F := Ideal) .f32 0x00000000#32)) (gP arg4 harg4 arg8 harg8 arg9 harg9 x3 x7 x8 g hg)) shapeCasts_S128x128_S128x128 (ix2 r d) = _
    pointwise []
  intro p hp x
  simp only [cuPieces, List.mem_cons, List.not_mem_nil, or_false] at hp
  rcases hp with rfl | rfl | rfl | rfl
  · exact key 3 _ x
  · exact key 2 _ x
  · exact key 1 _ x
  · exact key 0 _ x

/-- The stores of the gradient: the attention's columns, then the four groups'. -/
theorem du_read (A B) (P : (g : ℕ) → g < 4 → View.Piece (Elt Ideal) S128x1280 .bf16) (hP : ∀ g hg, (P g hg).1 = Rect.unit (s := S128x1280) ![0, 128 * g] S128x128.size (inbC (R := 128) (r := 128) (o := 0) (by omega) (by omega)))
    (D : ℕ → ℕ → EReal) (hD : ∀ g hg x, (P g hg).2 x = duVal su D (((P g hg).1.emb x) 0).val (((P g hg).1.emb x) 1).val) (y : S128x1280.Idx) (hy : (y 1).val < 512) :
    View.canon ((⟨Rect.unit (s := S128x1280) ![0, 1024] S128x256.size inb_S128x1280_S128x256_0_1024, A⟩ : View.Piece (Elt Ideal) S128x1280 .bf16)
      :: ⟨Rect.unit (s := S128x1280) ![0, 512] S128x512.size inb_S128x1280_S128x512_0_512, B⟩ :: [P 3 (by decide), P 2 (by decide), P 1 (by decide), P 0 (by decide)]) y
      = duVal su D (y 0).val (y 1).val := by
  rw [View.canon_cons_of_not_mem _ _ (by
      intro hm
      have hm' : y ∈ (Rect.unit (s := S128x1280) ![0, 1024] S128x256.size inb_S128x1280_S128x256_0_1024).set := hm
      rw [Rect.mem_set_unit] at hm'
      have h : 1024 ≤ (y 1).val ∧ (y 1).val < 1024 + 256 := hm' 1
      omega),
    View.canon_cons_of_not_mem _ _ (by
      intro hm
      have hm' : y ∈ (Rect.unit (s := S128x1280) ![0, 512] S128x512.size inb_S128x1280_S128x512_0_512).set := hm
      rw [Rect.mem_set_unit] at hm'
      have h : 512 ≤ (y 1).val ∧ (y 1).val < 512 + 512 := hm' 1
      omega)]
  refine View.canon_apply_of_pieces (Val := Elt Ideal) (e := .bf16) (fun y : S128x1280.Idx => duVal su D (y 0).val (y 1).val) _ ?_ y ?_
  · intro p hp x
    simp only [List.mem_cons, List.not_mem_nil, or_false] at hp
    rcases hp with rfl | rfl | rfl | rfl <;> exact hD _ _ x
  · have h0 : (y 0).val < 128 := (y 0).isLt
    have mem : ∀ g hg, 128 * g ≤ (y 1).val → (y 1).val < 128 * g + 128 → y ∈ (P g hg).1.set := by
      intro g hg h1 h2
      rw [hP, Rect.mem_set_unit]
      intro a
      match a with
      | ⟨0, _⟩ => show 0 ≤ (y 0).val ∧ (y 0).val < 0 + 128; omega
      | ⟨1, _⟩ => exact ⟨h1, h2⟩
    rcases (by omega : (y 1).val / 128 = 0 ∨ (y 1).val / 128 = 1 ∨ (y 1).val / 128 = 2 ∨ (y 1).val / 128 = 3) with h | h | h | h
    · exact ⟨P 0 (by decide), by simp, mem 0 _ (by omega) (by omega)⟩
    · exact ⟨P 1 (by decide), by simp, mem 1 _ (by omega) (by omega)⟩
    · exact ⟨P 2 (by decide), by simp, mem 2 _ (by omega) (by omega)⟩
    · exact ⟨P 3 (by decide), by simp, mem 3 _ (by omega) (by omega)⟩

end payload

section points
variable (V : (c : Dev nD) → (b : Ref sig .tc) → Buf (Elt Ideal) ((c : Thread nD τ).loc b)) (c : Dev nD)

/-- The stores before a group's window is read at a later point. -/
abbrev preB (t : Fin cfg1.N) (g : ℕ) (hg : g < 4) : List (View.Piece (Elt Ideal) S144x512 .f32) :=
  topP (grid1.coords t) (Bwd.args t).arg4 (Bwd.args t).harg4 (Bwd.args t).arg8 (Bwd.args t).harg8 (Bwd.args t).arg9 (Bwd.args t).harg9 (Bwd.X V c 3 t) (Bwd.X V c 7 t) (Bwd.X V c 8 t) g hg
    :: bufPre (grid1.coords t) (Bwd.args t).arg4 (Bwd.args t).harg4 (Bwd.args t).arg8 (Bwd.args t).harg8 (Bwd.args t).arg9 (Bwd.args t).harg9 (Bwd.X V c 3 t) (Bwd.X V c 7 t) (Bwd.X V c 8 t) g (by omega)

theorem rA_dbuf (t : Fin cfg1.N) (h) : ∃ M, (Bwd.rA V c t h).1.dbuf = bufPre (grid1.coords t) (Bwd.args t).arg4 (Bwd.args t).harg4 (Bwd.args t).arg8 (Bwd.args t).harg8 (Bwd.args t).arg9 (Bwd.args t).harg9
    (Bwd.X V c 3 t) (Bwd.X V c 7 t) (Bwd.X V c 8 t) 4 (by omega) ++ M := ⟨_, rfl⟩
theorem rB_dbuf (t : Fin cfg1.N) (h) (h') (s) : ∃ M, (Bwd.rB V c t h h' s).1.dbuf = bufPre (grid1.coords t) (Bwd.args t).arg4 (Bwd.args t).harg4 (Bwd.args t).arg8 (Bwd.args t).harg8 (Bwd.args t).arg9 (Bwd.args t).harg9
    (Bwd.X V c 3 t) (Bwd.X V c 7 t) (Bwd.X V c 8 t) 4 (by omega) ++ M := ⟨_, rfl⟩
theorem rA_cu (t : Fin cfg1.N) (h) : ∃ M, (Bwd.rA V c t h).1.cu = cuPieces (Bwd.args t).arg4 (Bwd.args t).harg4 (Bwd.args t).arg8 (Bwd.args t).harg8 (Bwd.args t).arg9 (Bwd.args t).harg9
    (Bwd.X V c 3 t) (Bwd.X V c 7 t) (Bwd.X V c 8 t) ++ M := ⟨_, rfl⟩
theorem rB_cu (t : Fin cfg1.N) (h) (h') (s) : ∃ M, (Bwd.rB V c t h h' s).1.cu = cuPieces (Bwd.args t).arg4 (Bwd.args t).harg4 (Bwd.args t).arg8 (Bwd.args t).harg8 (Bwd.args t).arg9 (Bwd.args t).harg9
    (Bwd.X V c 3 t) (Bwd.X V c 7 t) (Bwd.X V c 8 t) ++ M := ⟨_, rfl⟩

theorem rB_du (t : Fin cfg1.N) (h) (h') (s) : ∃ A B, (Bwd.rB V c t h h' s).1.dproj
    = ⟨Rect.unit (s := S128x1280) ![0, 1024] S128x256.size inb_S128x1280_S128x256_0_1024, A⟩ :: ⟨Rect.unit (s := S128x1280) ![0, 512] S128x512.size inb_S128x1280_S128x512_0_512, B⟩
      :: [duPiece (Bwd.args t).arg17 (Bwd.args t).harg17 (Bwd.args t).arg18 (Bwd.args t).harg18 s.dbuf s.cu (preB V c t 3 (by decide)) 3 (by decide),
        duPiece (Bwd.args t).arg17 (Bwd.args t).harg17 (Bwd.args t).arg18 (Bwd.args t).harg18 s.dbuf s.cu (preB V c t 2 (by decide)) 2 (by decide),
        duPiece (Bwd.args t).arg17 (Bwd.args t).harg17 (Bwd.args t).arg18 (Bwd.args t).harg18 s.dbuf s.cu (preB V c t 1 (by decide)) 1 (by decide),
        duPiece (Bwd.args t).arg17 (Bwd.args t).harg17 (Bwd.args t).arg18 (Bwd.args t).harg18 s.dbuf s.cu (preB V c t 0 (by decide)) 0 (by decide)] := ⟨_, _, rfl⟩
theorem rC_du (t : Fin cfg1.N) (h) (s) : ∃ A B, (Bwd.rC V c t h s).1.dproj
    = ⟨Rect.unit (s := S128x1280) ![0, 1024] S128x256.size inb_S128x1280_S128x256_0_1024, A⟩ :: ⟨Rect.unit (s := S128x1280) ![0, 512] S128x512.size inb_S128x1280_S128x512_0_512, B⟩
      :: [duPiece (Bwd.args t).arg17 (Bwd.args t).harg17 (Bwd.args t).arg18 (Bwd.args t).harg18 s.dbuf s.cu (Bwd.runC.sl.H17_1) 3 (by decide),
        duPiece (Bwd.args t).arg17 (Bwd.args t).harg17 (Bwd.args t).arg18 (Bwd.args t).harg18 s.dbuf s.cu (Bwd.runC.sl.H17_1) 2 (by decide),
        duPiece (Bwd.args t).arg17 (Bwd.args t).harg17 (Bwd.args t).arg18 (Bwd.args t).harg18 s.dbuf s.cu (Bwd.runC.sl.H17_1) 1 (by decide),
        duPiece (Bwd.args t).arg17 (Bwd.args t).harg17 (Bwd.args t).arg18 (Bwd.args t).harg18 s.dbuf s.cu (Bwd.runC.sl.H17_1) 0 (by decide)] := ⟨_, _, rfl⟩

end points
end Cert.MixersIdeal.Val
end
-- ==== Proof.DuKernel.lean ====
/-
  The gradient of the pooled channels the kernel returns, as a sum over the tokens ahead.
-/
module

public import proofs.«01_k».proof.Proof.DuBack

@[expose] public section

set_option maxRecDepth 16384

noncomputable section

namespace Cert.MixersIdeal.Val

open Cert.MixersIdeal Cert.MixersIdeal.Gen Idealize.ShloMosaic Idealize.ShloMosaic.TcCoe
open Cert.Reals Cert.Mix
open scoped BigOperators

theorem coord1 : ∀ t : Fin grid1.N, ((grid1.coords t) 0).val = t.val := by decide +kernel
theorem idx1_10 : ∀ t : Fin grid1.N, win1_10.index t 0 = t.val - 1 ∧ win1_10.index t 1 = 0 := by decide +kernel
theorem flush1_10 : ∀ t : Fin cfg1.N, (cfg1.win 10).flush t = true ↔ 0 < t.val := by decide +kernel

section points
variable (V : (c : Dev nD) → (b : Ref sig .tc) → Buf (Elt Ideal) ((c : Thread nD τ).loc b)) (c : Dev nD)

theorem prev_eq (n : ℕ) (h : n + 1 < 33) : Bwd.prev V c (pt (n + 1)) = Bwd.state V c n := by
  unfold Bwd.prev
  rw [pt_val h]
  rfl

theorem state_dbuf (n : ℕ) (hn : n < 32) (y : S144x512.Idx) :
    (Bwd.state V c n).dbuf y = bufVal (grid1.coords (pt n)) (Bwd.X V c 3 (pt n)) (Bwd.X V c 7 (pt n)) (Bwd.X V c 8 (pt n)) y := by
  cases n with
  | zero =>
    have h0 : (pt 0).val = 0 := rfl
    rw [show Bwd.state V c 0 = _ from Bwd.state_first V c (pt 0) h0]
    show View.canon (Bwd.rA V c (pt 0) h0).1.dbuf y = _
    obtain ⟨M, e⟩ := rA_dbuf V c (pt 0) h0
    rw [e]
    exact bufPre_read _ _ _ _ _ _ _ _ _ _ _ y
  | succ n =>
    have e : (pt (n + 1)).val = n + 1 := pt_val (by omega)
    have h0 : ¬(pt (n + 1)).val = 0 := by rw [e]; exact Nat.succ_ne_zero n
    have h1 : (pt (n + 1)).val < 32 := by rw [e]; exact hn
    rw [(congrArg (Bwd.state V c) e).symm.trans (Bwd.state_step V c (pt (n + 1)) h0 h1)]
    show View.canon (Bwd.rB V c (pt (n + 1)) h0 h1 (Bwd.prev V c (pt (n + 1)))).1.dbuf y = _
    obtain ⟨M, e⟩ := rB_dbuf V c (pt (n + 1)) h0 h1 (Bwd.prev V c (pt (n + 1)))
    rw [e]
    exact bufPre_read _ _ _ _ _ _ _ _ _ _ _ y

theorem state_cu (n : ℕ) (hn : n < 32) (y : S128x512.Idx) :
    (Bwd.state V c n).cu y = 0 - pPart (Bwd.X V c 3 (pt n)) (Bwd.X V c 7 (pt n)) (Bwd.X V c 8 (pt n)) (y 0).val (y 1).val := by
  cases n with
  | zero =>
    have h0 : (pt 0).val = 0 := rfl
    rw [show Bwd.state V c 0 = _ from Bwd.state_first V c (pt 0) h0]
    show View.canon (Bwd.rA V c (pt 0) h0).1.cu y = _
    obtain ⟨M, e⟩ := rA_cu V c (pt 0) h0
    rw [e]
    exact cuPieces_read _ _ _ _ _ _ _ _ _ _ y
  | succ n =>
    have e : (pt (n + 1)).val = n + 1 := pt_val (by omega)
    have h0 : ¬(pt (n + 1)).val = 0 := by rw [e]; exact Nat.succ_ne_zero n
    have h1 : (pt (n + 1)).val < 32 := by rw [e]; exact hn
    rw [(congrArg (Bwd.state V c) e).symm.trans (Bwd.state_step V c (pt (n + 1)) h0 h1)]
    show View.canon (Bwd.rB V c (pt (n + 1)) h0 h1 (Bwd.prev V c (pt (n + 1)))).1.cu y = _
    obtain ⟨M, e⟩ := rB_cu V c (pt (n + 1)) h0 h1 (Bwd.prev V c (pt (n + 1)))
    rw [e]
    exact cuPieces_read _ _ _ _ _ _ _ _ _ _ y

/-- What a later point leaves in the first columns: the window over the rows kept and the next, and what was kept of the product. -/
theorem du_at (n : ℕ) (hn : n < 32) (y : S128x1280.Idx) (hy : (y 1).val < 512) :
    Bwd.dprojAt V c (pt (n + 1)) y = duVal (Bwd.state V c n).cu (fun r b => if r < 128 then at2 (α := EReal) (Bwd.state V c n).dbuf r b
      else if n + 1 < 32 then sRow (grid1.coords (pt (n + 1))) (Bwd.X V c 3 (pt (n + 1))) (Bwd.X V c 7 (pt (n + 1))) (Bwd.X V c 8 (pt (n + 1))) (r - 128) b else 0) (y 0).val (y 1).val := by
  have e : (pt (n + 1)).val = n + 1 := pt_val (by omega)
  have h0 : ¬(pt (n + 1)).val = 0 := by rw [e]; exact Nat.succ_ne_zero n
  have ep := prev_eq V c n (by omega)
  unfold Bwd.dprojAt
  rw [dif_neg h0, ep]
  by_cases h1 : n + 1 < 32
  · rw [dif_pos (by rw [e]; exact h1)]
    obtain ⟨A, B, eq⟩ := rB_du V c (pt (n + 1)) h0 (by rw [e]; exact h1) (Bwd.state V c n)
    rw [eq]
    refine du_read (Bwd.state V c n).cu A B (fun g hg => duPiece (Bwd.args (pt (n + 1))).arg17 (Bwd.args (pt (n + 1))).harg17 (Bwd.args (pt (n + 1))).arg18 (Bwd.args (pt (n + 1))).harg18
      (Bwd.state V c n).dbuf (Bwd.state V c n).cu (preB V c (pt (n + 1)) g hg) g hg) (fun _ _ => rfl) _ (fun g hg x => duPiece_val _ _ _ _ _ _ _ g hg _ ?_ ?_ x) y hy
    · intro r b hr; rw [if_pos hr]
    · intro k inb r d
      rw [if_pos h1]
      exact win_read _ _ _ _ _ _ _ _ _ _ _ _ _ g hg k inb r d
  · rw [dif_neg (by rw [e]; exact h1), dif_pos (by rw [e]; omega)]
    obtain ⟨A, B, eq⟩ := rC_du V c (pt (n + 1)) (by rw [e]; omega) (Bwd.state V c n)
    rw [eq]
    refine du_read (Bwd.state V c n).cu A B (fun g hg => duPiece (Bwd.args (pt (n + 1))).arg17 (Bwd.args (pt (n + 1))).harg17 (Bwd.args (pt (n + 1))).arg18 (Bwd.args (pt (n + 1))).harg18
      (Bwd.state V c n).dbuf (Bwd.state V c n).cu (Bwd.runC.sl.H17_1) g hg) (fun _ _ => rfl) _ (fun g hg x => duPiece_val _ _ _ _ _ _ _ g hg _ ?_ ?_ x) y hy
    · intro r b hr; rw [if_pos hr]
    · intro k inb r d
      rw [if_neg h1]
      exact winC_read _ _ _ g hg k inb r d
end points

variable (m : (ℓ : Loc nD τ sig) → Buf (Elt Ideal) ℓ) (c : Dev nD)

/-- The cotangent of the pooled channels, by token and column. -/
def dpo (b T : ℕ) : EReal := dpool (X1 m c) (X2 m c) (X5 m c) ⟨b / 128 % 4, Nat.mod_lt _ (by decide)⟩ ⟨b % 128, Nat.mod_lt _ (by decide)⟩ T
abbrev dpR (b T : ℕ) : ℝ := (dpo m c b T).toReal

theorem pPart_dpo (s : ℕ) (hs : s < 32) (r b : ℕ) (hr : r < 128) (hb : b < 512) :
    pPart (Bwd.X (Run.E1 m) c 3 (pt s)) (Bwd.X (Run.E1 m) c 7 (pt s)) (Bwd.X (Run.E1 m) c 8 (pt s)) r b = dpo m c b (128 * s + r) := by
  have hg : b / 128 < 4 := by omega
  have eg : b / 128 % 4 = b / 128 := Nat.mod_eq_of_lt hg
  unfold pPart dpo dpool
  refine Finset.sum_congr rfl fun n _ => ?_
  rw [dcat_blk m c s hs _ _ hr, scale_blk, w_blk m c s _ _ _ hg (Nat.mod_lt _ (by decide)) n.isLt]
  dsimp only
  simp only [eg]

variable (h1 : ∀ j, ∃ r : ℝ, X1 m c j = (r : EReal)) (h2 : ∀ j, ∃ r : ℝ, X2 m c j = (r : EReal)) (h5 : ∀ j, ∃ r : ℝ, X5 m c j = (r : EReal))
include h1 h2 h5

theorem dpo_coe (b T : ℕ) : dpo m c b T = (dpR m c b T : EReal) := dpool_coe h1 h2 h5 _ _ T

theorem sRow_dpo (s : ℕ) (hs : s < 32) (r b : ℕ) (hr : r < 128) (hb : b < 512) :
    sRow (grid1.coords (pt s)) (Bwd.X (Run.E1 m) c 3 (pt s)) (Bwd.X (Run.E1 m) c 7 (pt s)) (Bwd.X (Run.E1 m) c 8 (pt s)) r b
      = ((dpR m c b (128 * s + r) / (min (128 * s + r + 1) (wid b) : ℕ) : ℝ) : EReal) := by
  have hw : 0 < wid b := by unfold wid; positivity
  have hw16 : wid b ≤ 2 ^ 4 := Nat.pow_le_pow_right (by decide) (by omega)
  have e2 : icount1 (grid1.coords (pt s)) (wid b) r = ((1 / (min (128 * s + r + 1) (wid b) : ℕ) : ℝ) : EReal) := by
    unfold icount1
    rw [coord1, pt_val (by omega), count_toInt (by omega) (by omega), show s * 128 + r + 1 = 128 * s + r + 1 by ring]
    rw [show (1 : EReal) = ((1 : ℝ) : EReal) from rfl]
    have hp : 0 < min (128 * s + r + 1) (wid b) := by omega
    exact div_coe_coe 1 (by exact_mod_cast hp.ne')
  unfold sRow
  rw [pPart_dpo m c s hs r b hr hb, dpo_coe m c h1 h2 h5, e2, ← EReal.coe_mul, mul_one_div]

theorem du_lead (n : ℕ) (hn : n < 32) (y : S128x1280.Idx) (hy : (y 1).val < 512) :
    Bwd.dprojAt (Run.E1 m) c (pt (n + 1)) y = (lead (dpR m c (y 1).val) (wid (y 1).val) 4096 (128 * n + (y 0).val) : EReal) := by
  have hr : (y 0).val < 128 := (y 0).isLt
  have hw16 : wid (y 1).val ≤ 2 ^ 4 := Nat.pow_le_pow_right (by decide) (by omega)
  rw [du_at _ c n hn y hy]
  unfold duVal lead
  rw [EReal.coe_sub, sub_eq_add_neg, ← sum_coe]
  refine congrArg₂ (· + ·) (Finset.sum_congr rfl fun k hk => ?_) ?_
  · have hk' := Finset.mem_range.mp hk
    dsimp only
    by_cases hc : k + (y 0).val < 128
    · rw [if_pos hc, if_pos (by omega)]
      refine (at2_eq (α := EReal) (Bwd.state (Run.E1 m) c n).dbuf ⟨k + (y 0).val, by omega⟩ ⟨(y 1).val, hy⟩).trans ?_
      rw [state_dbuf _ c n hn]
      unfold bufVal
      show sRow _ _ _ _ (if k + (y 0).val < 128 then k + (y 0).val else k + (y 0).val - 128) (y 1).val = _
      rw [if_pos hc, sRow_dpo m c h1 h2 h5 n hn _ _ hc hy, show 128 * n + (k + (y 0).val) = 128 * n + (y 0).val + k by ring]
    · rw [if_neg hc]
      by_cases h : n + 1 < 32
      · rw [if_pos h, if_pos (by omega), sRow_dpo m c h1 h2 h5 (n + 1) h _ _ (by omega) hy, show 128 * (n + 1) + (k + (y 0).val - 128) = 128 * n + (y 0).val + k by omega]
      · rw [if_neg h, if_neg (by omega)]; rfl
  · refine (at2_eq (α := EReal) (Bwd.state (Run.E1 m) c n).cu ⟨(y 0).val, hr⟩ ⟨(y 1).val, hy⟩).trans ?_
    rw [state_cu _ c n hn]
    show 0 - pPart _ _ _ (y 0).val (y 1).val = _
    rw [pPart_dpo m c n hn _ _ hr hy, dpo_coe m c h1 h2 h5, zero_sub]

/-- The gradient of the projection: its first columns in closed form, the attention's as the call leaves them. -/
def dprojOut : S4096x1280.Idx → EReal := fun j =>
  if (j 1).val < 512 then (lead (dpR m c (j 1).val) (wid (j 1).val) 4096 (j 0).val : EReal)
  else Bwd.dprojAt (Run.E1 m) c (pt ((j 0).val / 128 + 1)) (ix2 (⟨(j 0).val % 128, Nat.mod_lt _ (by decide)⟩ : Fin 128) (⟨(j 1).val, (j 1).isLt⟩ : Fin 1280))

theorem final_dproj : Run.W5 m c main_v39_0 = dprojOut m c := by
  rw [(Run.W5_out ..).1]
  refine (Bwd.dat (Run.E1 m) c).arrAt_eq_of_cover 10 (dprojOut m c) (fun t hf => ?_) fun i => ?_
  · have ht := (flush1_10 t).mp hf
    have h33 := Bwd.lt33 t
    funext j
    show (Bwd.dat (Run.E1 m) c).after 10 t j = dprojOut m c (((cfg1.win 10).blk t).view.emb j)
    rw [Bwd.after_10]
    obtain ⟨r, d, rfl⟩ : ∃ (r : Fin 128) (d : Fin 1280), j = ix2 r d := ⟨_, _, eq_ix2 j⟩
    obtain ⟨n, hn, rfl⟩ : ∃ n, n < 32 ∧ t = pt (n + 1) := ⟨t.val - 1, by omega, Fin.ext (by rw [pt_val (by omega)]; omega)⟩
    have e0 : ((((cfg1.win 10).blk (pt (n + 1))).view.emb (ix2 r d)) 0).val = 128 * n + r.val := by
      show win1_10.index (pt (n + 1)) 0 * 128 + 1 * r.val = _; rw [(idx1_10 _).1, pt_val (by omega)]; show n * 128 + 1 * r.val = _; ring
    have e1 : ((((cfg1.win 10).blk (pt (n + 1))).view.emb (ix2 r d)) 1).val = d.val := by
      show win1_10.index (pt (n + 1)) 1 * 1280 + 1 * d.val = _; rw [(idx1_10 _).2]; ring
    have key : ∀ j : S4096x1280.Idx, (j 0).val = 128 * n + r.val → (j 1).val = d.val → Bwd.dprojAt (Run.E1 m) c (pt (n + 1)) (ix2 r d) = dprojOut m c j := by
      intro j h0 h1'
      have hr := r.isLt
      unfold dprojOut
      by_cases hd : (j 1).val < 512
      · rw [if_pos hd, h0, h1']
        exact du_lead m c h1 h2 h5 n hn (ix2 r d) (h1' ▸ hd)
      · rw [if_neg hd]
        have ep : pt ((j 0).val / 128 + 1) = pt (n + 1) := congrArg pt (by rw [h0]; omega)
        have er : (⟨(j 0).val % 128, Nat.mod_lt _ (by decide)⟩ : Fin 128) = r := Fin.ext (show (j 0).val % 128 = r.val by rw [h0]; omega)
        have ed : (⟨(j 1).val, (j 1).isLt⟩ : Fin 1280) = d := Fin.ext h1'
        exact (congrArg₂ (Bwd.dprojAt (Run.E1 m) c) ep (congrArg₂ ix2 er ed)).symm
    exact key _ e0 e1
  · have i0 : (i 0 : Nat) < 4096 := (i 0).isLt
    have i1 : (i 1 : Nat) < 1280 := (i 1).isLt
    have hv : (pt ((i 0 : Nat) / 128 + 1)).val = (i 0 : Nat) / 128 + 1 := pt_val (by omega)
    generalize pt ((i 0 : Nat) / 128 + 1) = t at hv
    refine ⟨t, (flush1_10 _).mpr (by rw [hv]; omega), mem_tile fun a => ?_⟩
    match a with
    | ⟨0, _⟩ => show win1_10.index t 0 * 128 ≤ (i 0 : Nat) ∧ (i 0 : Nat) < win1_10.index t 0 * 128 + 128; rw [(idx1_10 _).1, hv]; omega
    | ⟨1, _⟩ => show win1_10.index t 1 * 1280 ≤ (i 1 : Nat) ∧ (i 1 : Nat) < win1_10.index t 1 * 1280 + 1280; rw [(idx1_10 _).2]; omega

end Cert.MixersIdeal.Val
end
-- ==== Proof.CatKernel.lean ====
/-
  The pooled half of the forward call's output: the pooled tokens through the mixing weights, scaled.
-/
module

public import proofs.«01_k».proof.Proof.DuBack

@[expose] public section

set_option maxRecDepth 16384

noncomputable section

namespace Cert.MixersIdeal.Val

open Cert.MixersIdeal Cert.MixersIdeal.Gen Idealize.ShloMosaic Idealize.ShloMosaic.TcCoe
open Cert.Reals Cert.Mix
open scoped BigOperators

section payload
variable (c : Dev nD) (i : grid0.Coords) (arg1 : Memref sig .tc .vmem S128x512 .f32) (harg1 : arg1.IsWhole) (arg2 : Memref sig .tc .vmem S16x512 .f32)
  (harg2 : arg2.IsWhole) (arg10 : Memref sig .tc .vmem S4x128x128 .bf16) (harg10 : arg10.IsWhole) (arg11 : Memref sig .tc .vmem S1x512 .f32) (harg11 : arg11.IsWhole)
  (arg16 : Memref sig .tc .vmem S144x512 .f32) (x0 : Vec Ideal S128x512 .f32) (x1 : Vec Ideal S16x512 .f32) (x9 : Vec Ideal S4x128x128 .bf16) (x10 : Vec Ideal S1x512 .f32)

/-- One group's store of the output, from the group's pooled block. -/
abbrev catPiece (P : Vec Ideal S128x128 .bf16) (g : ℕ) (hg : g < 4) : View.Piece (Elt Ideal) S128x1024 .bf16 :=
  ⟨Rect.unit (s := S128x1024) ![0, 128 * g] S128x128.size (inbC (R := 128) (r := 128) (o := 0) (by omega) (by omega)),
    k0_pay99 (F := Ideal) P (View.readAt (Elt Ideal) arg10.view (Rect.unit (s := S4x128x128) ![g, 0, 0] S1x128x128.size (inb8 hg)).toLoadRect (harg10.unread x9))
      (View.readAt (Elt Ideal) arg11.view (Rect.unit (s := S1x512) ![0, 128 * g] S1x128.size (inbC (R := 1) (r := 1) (o := 0) (by omega) (by omega))).toLoadRect (harg11.unread x10))⟩

/-- What the store holds, by row of the block and column. -/
def catVal (r b : ℕ) : EReal :=
  (∑ n : Fin 128, pblk i x0 x1 r (128 * (b / 128) + n.val) * at3 (α := EReal) x9 (b / 128) n.val (b % 128)) * at2 (α := EReal) x10 0 b

theorem catPiece_val (P : Vec Ideal S128x128 .bf16) (g : ℕ) (hg : g < 4) (hP : ∀ r d : Fin 128, P (ix2 r d) = pblk i x0 x1 r.val (128 * g + d.val)) (x : S128x128.Idx) :
    (catPiece arg10 harg10 arg11 harg11 x9 x10 P g hg).2 x = catVal i x0 x1 x9 x10 (((catPiece arg10 harg10 arg11 harg11 x9 x10 P g hg).1.emb x) 0).val
      (((catPiece arg10 harg10 arg11 harg11 x9 x10 P g hg).1.emb x) 1).val := by
  obtain ⟨r, d, rfl⟩ : ∃ (r d : Fin 128), x = ix2 r d := ⟨x 0, x 1, funext fun k => by fin_cases k <;> rfl⟩
  show _ = catVal i x0 x1 x9 x10 (0 + 1 * r.val) (128 * g + 1 * d.val)
  have hd := d.isLt
  have e : ∀ (A : Vec Ideal S1x128x128 .bf16) (B : Vec Ideal S1x128 .f32), k0_pay99 (F := Ideal) P A B (ix2 r d)
      = ((∑ n : Fin 128, P (ix2 r n) * A (ix3 0 n d)) * B (ix2 0 d) : EReal) := by
    intro A B
    unfold k0_pay99
    pointwise []
  refine (e _ _).trans ?_
  rw [show 0 + 1 * r.val = r.val by omega, show 128 * g + 1 * d.val = 128 * g + d.val by omega]
  unfold catVal
  rw [show (128 * g + d.val) / 128 = g by omega, show (128 * g + d.val) % 128 = d.val by omega]
  refine congrArg₂ (· * ·) (Finset.sum_congr rfl fun n _ => congrArg₂ (· * ·) (hP r n) ?_) ?_
  · refine (rd3b (p := 1) (a := 128) (b := 128) arg10 harg10 x9 g 0 0 _ 0 n d).trans ?_
    simp only [Fin.val_zero, zero_add, add_zero]
  · exact rd2 (a := 1) (b := 128) arg11 harg11 x10 0 (128 * g) _ 0 d

/-- A store of later columns does not hold an earlier one. -/
theorem far_read (o : ℕ) (inb) (A : Vec Ideal S128x128 .bf16) (L : List (View.Piece (Elt Ideal) S128x1024 .bf16)) (y : S128x1024.Idx) (hy : (y 1).val < o) :
    View.canon ((⟨Rect.unit (s := S128x1024) ![0, o] S128x128.size inb, A⟩ : View.Piece (Elt Ideal) S128x1024 .bf16) :: L) y = View.canon L y := by
  refine View.canon_cons_of_not_mem _ _ fun hm => ?_
  have hm' : y ∈ (Rect.unit (s := S128x1024) ![0, o] S128x128.size inb).set := hm
  rw [Rect.mem_set_unit] at hm'
  have h : o ≤ (y 1).val ∧ (y 1).val < o + 128 := hm' 1
  omega

/-- The pooled columns of the output are read off the four groups' stores. -/
theorem cat_read (A0 A1 A2 A3 : Vec Ideal S128x128 .bf16) (P : (g : ℕ) → g < 4 → View.Piece (Elt Ideal) S128x1024 .bf16)
    (hP : ∀ g hg, (P g hg).1 = Rect.unit (s := S128x1024) ![0, 128 * g] S128x128.size (inbC (R := 128) (r := 128) (o := 0) (by omega) (by omega)))
    (f : ℕ → ℕ → EReal) (hf : ∀ g hg x, (P g hg).2 x = f (((P g hg).1.emb x) 0).val (((P g hg).1.emb x) 1).val) (y : S128x1024.Idx) (hy : (y 1).val < 512) :
    View.canon ((⟨Rect.unit (s := S128x1024) ![0, 896] S128x128.size inb_S128x1024_S128x128_0_896, A3⟩ : View.Piece (Elt Ideal) S128x1024 .bf16)
      :: ⟨Rect.unit (s := S128x1024) ![0, 768] S128x128.size inb_S128x1024_S128x128_0_768, A2⟩
      :: ⟨Rect.unit (s := S128x1024) ![0, 640] S128x128.size inb_S128x1024_S128x128_0_640, A1⟩
      :: ⟨Rect.unit (s := S128x1024) ![0, 512] S128x128.size inb_S128x1024_S128x128_0_512, A0⟩
      :: [P 3 (by decide), P 2 (by decide), P 1 (by decide), P 0 (by decide)]) y = f (y 0).val (y 1).val := by
  rw [far_read 896 _ A3 _ y (by omega), far_read 768 _ A2 _ y (by omega), far_read 640 _ A1 _ y (by omega), far_read 512 _ A0 _ y (by omega)]
  refine View.canon_apply_of_pieces (Val := Elt Ideal) (e := .bf16) (fun y : S128x1024.Idx => f (y 0).val (y 1).val) _ ?_ y ?_
  · intro p hp x
    simp only [List.mem_cons, List.not_mem_nil, or_false] at hp
    rcases hp with rfl | rfl | rfl | rfl <;> exact hf _ _ x
  · have h0 : (y 0).val < 128 := (y 0).isLt
    have mem : ∀ g hg, (y 1).val / 128 = g → y ∈ (P g hg).1.set := by
      intro g hg h
      rw [hP, Rect.mem_set_unit]
      intro a
      match a with
      | ⟨0, _⟩ => show 0 ≤ (y 0).val ∧ (y 0).val < 0 + 128; omega
      | ⟨1, _⟩ => show 128 * g ≤ (y 1).val ∧ (y 1).val < 128 * g + 128; omega
    rcases (by omega : (y 1).val / 128 = 0 ∨ (y 1).val / 128 = 1 ∨ (y 1).val / 128 = 2 ∨ (y 1).val / 128 = 3) with h | h | h | h
    · exact ⟨P 0 (by decide), by simp, mem 0 _ h⟩
    · exact ⟨P 1 (by decide), by simp, mem 1 _ h⟩
    · exact ⟨P 2 (by decide), by simp, mem 2 _ h⟩
    · exact ⟨P 3 (by decide), by simp, mem 3 _ h⟩

/-- The groups' pooled blocks. -/
abbrev poolV : ℕ → Vec Ideal S128x128 .bf16
  | 0 => Fwd.runB.sl.r c i arg1 harg1 arg2 harg2 arg16 x0 x1
  | 1 => Fwd.runB.sl.r_1 c i arg1 harg1 arg2 harg2 arg16 x0 x1
  | 2 => pool2v c i arg1 harg1 arg2 harg2 arg16 x0 x1
  | _ => Fwd.runB.sl.r_5 c i arg1 harg1 arg2 harg2 arg16 x0 x1

theorem poolV_pblk (g : ℕ) (hg : g < 4) (r d : Fin 128) : poolV c i arg1 harg1 arg2 harg2 arg16 x0 x1 g (ix2 r d) = pblk i x0 x1 r.val (128 * g + d.val) := by
  have hd := d.isLt
  unfold pblk wid
  rw [show (128 * g + d.val) / 128 = g by omega]
  match g, hg with
  | 0, _ => exact pool0 c i arg1 harg1 arg2 harg2 arg16 x0 x1 r d
  | 1, _ => exact pool1 c i arg1 harg1 arg2 harg2 arg16 x0 x1 r d
  | 2, _ => exact pool2 c i arg1 harg1 arg2 harg2 arg16 x0 x1 r d
  | 3, _ => exact pool3 c i arg1 harg1 arg2 harg2 arg16 x0 x1 r d

end payload

variable (m : (ℓ : Loc nD τ sig) → Buf (Elt Ideal) ℓ) (c : Dev nD)

section points
variable (V : (c : Dev nD) → (b : Ref sig .tc) → Buf (Elt Ideal) ((c : Thread nD τ).loc b))

abbrev catG (t : Fin cfg0.N) (g : ℕ) (hg : g < 4) : View.Piece (Elt Ideal) S128x1024 .bf16 :=
  catPiece (Fwd.args t).arg10 (Fwd.args t).harg10 (Fwd.args t).arg11 (Fwd.args t).harg11 (Fwd.X V c 9 t) (Fwd.X V c 10 t)
    (poolV c (grid0.coords t) (Fwd.args t).arg1 (Fwd.args t).harg1 (Fwd.args t).arg2 (Fwd.args t).harg2 (Fwd.args t).arg16 (Fwd.X V c 0 t) (Fwd.X V c 1 t) g) g hg

abbrev catL (t : Fin cfg0.N) (A0 A1 A2 A3 : Vec Ideal S128x128 .bf16) : List (View.Piece (Elt Ideal) S128x1024 .bf16) :=
  ⟨Rect.unit (s := S128x1024) ![0, 896] S128x128.size inb_S128x1024_S128x128_0_896, A3⟩
      :: ⟨Rect.unit (s := S128x1024) ![0, 768] S128x128.size inb_S128x1024_S128x128_0_768, A2⟩
      :: ⟨Rect.unit (s := S128x1024) ![0, 640] S128x128.size inb_S128x1024_S128x128_0_640, A1⟩
      :: ⟨Rect.unit (s := S128x1024) ![0, 512] S128x128.size inb_S128x1024_S128x128_0_512, A0⟩
      :: [catG c V t 3 (by decide), catG c V t 2 (by decide), catG c V t 1 (by decide), catG c V t 0 (by decide)]

theorem rA_cat (t : Fin cfg0.N) (h) : ∃ A0 A1 A2 A3, (Fwd.rA V c t h).1.out = catL c V t A0 A1 A2 A3 := ⟨_, _, _, _, rfl⟩
theorem rB_cat (t : Fin cfg0.N) (h) : ∃ A0 A1 A2 A3, (Fwd.rB V c t h).1.out = catL c V t A0 A1 A2 A3 := ⟨_, _, _, _, rfl⟩

theorem outs_cat (t : Fin cfg0.N) (y : S128x1024.Idx) (hy : (y 1).val < 512) :
    (Fwd.outs V c t).1 y = catVal (grid0.coords t) (Fwd.X V c 0 t) (Fwd.X V c 1 t) (Fwd.X V c 9 t) (Fwd.X V c 10 t) (y 0).val (y 1).val := by
  have key := fun A0 A1 A2 A3 => cat_read A0 A1 A2 A3 (catG c V t) (fun _ _ => rfl) (catVal (grid0.coords t) (Fwd.X V c 0 t) (Fwd.X V c 1 t) (Fwd.X V c 9 t) (Fwd.X V c 10 t))
    (fun g hg x => catPiece_val _ _ _ _ _ _ _ _ _ _ g hg (poolV_pblk _ _ _ _ _ _ _ _ _ g hg) x) y hy
  unfold Fwd.outs
  by_cases h : t.val = 0
  · rw [dif_pos h]
    obtain ⟨A0, A1, A2, A3, e⟩ := rA_cat c V t h
    show View.canon (Fwd.rA V c t h).1.out y = _
    rw [e]
    exact key A0 A1 A2 A3
  · rw [dif_neg h]
    obtain ⟨A0, A1, A2, A3, e⟩ := rB_cat c V t h
    show View.canon (Fwd.rB V c t h).1.out y = _
    rw [e]
    exact key A0 A1 A2 A3
end points

theorem idx0_9 : ∀ (t : Fin cfg0.N) (a : Fin 3), win0_9.index t a = 0 := (by decide +kernel : ∀ (t : Fin grid0.N) (a : Fin 3), win0_9.index t a = 0)
theorem idx0_10 : ∀ (t : Fin cfg0.N) (a : Fin 2), win0_10.index t a = 0 := (by decide +kernel : ∀ (t : Fin grid0.N) (a : Fin 2), win0_10.index t a = 0)
theorem idx0_11 : ∀ t : Fin grid0.N, win0_11.index t 0 = t.val ∧ win0_11.index t 1 = 0 := by decide +kernel

theorem scale_fwd (t : Fin cfg0.N) (b : Fin 512) : at2 (α := EReal) (Fwd.X (Run.E0 m) c 10 t) 0 b.val = X2 m c (ix2 0 b) := by
  refine (at2_eq (α := EReal) (Fwd.X (Run.E0 m) c 10 t) (⟨0, by decide⟩ : Fin 1) b).trans ?_
  obtain ⟨j', hj, e⟩ := X_read c (Run.E0 m) 10 t (ix2 ⟨0, by decide⟩ b)
  refine e.trans ?_
  rw [View.read_apply]
  show V3 (F := Ideal) m c main_arg2 _ = _
  rw [V3_kept m c main_arg2 (by decide) (by decide) (by decide)]
  congr 1; funext a; apply Fin.ext
  match a with
  | ⟨0, _⟩ => exact tile_col_at (idx0_10 _ 0) (hj 0)
  | ⟨1, _⟩ => exact tile_col_at (idx0_10 _ 1) (hj 1)

theorem w_fwd (t : Fin cfg0.N) (g : Fin 4) (k d : Fin 128) : at3 (α := EReal) (Fwd.X (Run.E0 m) c 9 t) g.val k.val d.val = X1 m c (ix4 0 g k d) := by
  refine (at3_eq (α := EReal) (Fwd.X (Run.E0 m) c 9 t) g k d).trans ?_
  obtain ⟨j', hj, e⟩ := X_read c (Run.E0 m) 9 t (ix3 g k d)
  refine e.trans ?_
  rw [View.read_apply]
  refine Eq.trans ?_ (V3_v37 m c g k d)
  show V3 (F := Ideal) m c main_v37 _ = _
  congr 1; funext a; apply Fin.ext
  match a with
  | ⟨0, _⟩ => exact tile_col_at (idx0_9 _ 0) (hj 0)
  | ⟨1, _⟩ => exact tile_col_at (idx0_9 _ 1) (hj 1)
  | ⟨2, _⟩ => exact tile_col_at (idx0_9 _ 2) (hj 2)

/-- The output: its pooled columns in closed form, the attention's as the call leaves them. -/
def catOut : S4096x1024.Idx → EReal := fun j =>
  if h : (j 1).val < 512 then
    (∑ n : Fin 128, pool m c (j 0).val ((j 1).val / 128) n.val * X1 m c (ix4 0 (⟨(j 1).val / 128, by omega⟩ : Fin 4) n (⟨(j 1).val % 128, Nat.mod_lt _ (by decide)⟩ : Fin 128)))
      * X2 m c (ix2 (0 : Fin 1) (⟨(j 1).val, h⟩ : Fin 512))
  else if ht : (j 0).val / 128 < cfg0.N then
    (Fwd.outs (Run.E0 m) c ⟨(j 0).val / 128, ht⟩).1 (ix2 (⟨(j 0).val % 128, Nat.mod_lt _ (by decide)⟩ : Fin 128) (⟨(j 1).val, (j 1).isLt⟩ : Fin 1024))
  else 0

variable (hX : ∀ j, ∃ r : ℝ, X0 m c j = (r : EReal))
include hX

theorem cat_at (t : Fin cfg0.N) (r : Fin 128) (d : Fin 1024) (j : S4096x1024.Idx) (h0 : (j 0).val = 128 * t.val + r.val) (h1 : (j 1).val = d.val) :
    (Fwd.outs (Run.E0 m) c t).1 (ix2 r d) = catOut m c j := by
  have hr := r.isLt
  have ht := lt32 t
  unfold catOut
  by_cases hd : (j 1).val < 512
  · rw [dif_pos hd, outs_cat c _ t (ix2 r d) (h1 ▸ hd)]
    show catVal _ _ _ _ _ r.val d.val = _
    unfold catVal
    have eb : d.val = (j 1).val := h1.symm
    rw [eb]
    refine congrArg₂ (· * ·) (Finset.sum_congr rfl fun n _ => congrArg₂ (· * ·) ?_ ?_) (scale_fwd m c t ⟨(j 1).val, hd⟩)
    · have hn := n.isLt
      rw [pblk_U m c hX t r.val _ hr (by omega)]
      refine Eq.trans ?_ (at2_eq (α := EReal) (poolOut m c) (⟨(j 0).val, (j 0).isLt⟩ : Fin 4096) (⟨128 * ((j 1).val / 128) + n.val, by omega⟩ : Fin 512)).symm
      unfold poolOut
      rw [← h0]
      rfl
    · exact w_fwd m c t ⟨(j 1).val / 128, by omega⟩ n ⟨(j 1).val % 128, Nat.mod_lt _ (by decide)⟩
  · have et : (j 0).val / 128 = t.val := by omega
    rw [dif_neg hd, dif_pos (by rw [et]; exact t.isLt)]
    have ep : t = ⟨(j 0).val / 128, by rw [et]; exact t.isLt⟩ := Fin.ext et.symm
    have er : r = (⟨(j 0).val % 128, Nat.mod_lt _ (by decide)⟩ : Fin 128) := Fin.ext (show r.val = (j 0).val % 128 by rw [h0]; omega)
    have ed : d = (⟨(j 1).val, (j 1).isLt⟩ : Fin 1024) := Fin.ext h1.symm
    exact congrArg₂ (fun t y => (Fwd.outs (Run.E0 m) c t).1 y) ep (congrArg₂ ix2 er ed)

theorem final_cat : Run.W4 m c main_v38_0 = catOut m c := by
  rw [(Run.W4_out ..).1]
  refine (Fwd.dat (Run.E0 m) c).arrAt_eq_of_cover 11 (catOut m c) (fun t hf => ?_) fun i => ?_
  · funext j
    show (Fwd.dat (Run.E0 m) c).after 11 t j = catOut m c (((cfg0.win 11).blk t).view.emb j)
    rw [Fwd.after_11]
    obtain ⟨r, d, rfl⟩ : ∃ (r : Fin 128) (d : Fin 1024), j = ix2 r d := ⟨_, _, eq_ix2 j⟩
    have e0 : ((((cfg0.win 11).blk t).view.emb (ix2 r d)) 0).val = 128 * t.val + r.val := by
      show win0_11.index t 0 * 128 + 1 * r.val = _; rw [(idx0_11 t).1]; ring
    have e1 : ((((cfg0.win 11).blk t).view.emb (ix2 r d)) 1).val = d.val := by
      show win0_11.index t 1 * 1024 + 1 * d.val = _; rw [(idx0_11 t).2]; ring
    exact cat_at m c hX t r d _ e0 e1
  · have i0 : (i 0 : Nat) < 4096 := (i 0).isLt
    have i1 : (i 1 : Nat) < 1024 := (i 1).isLt
    have hN : cfg0.N = 32 := N_0
    obtain ⟨t, ht⟩ : ∃ t : Fin cfg0.N, t.val = (i 0 : Nat) / 128 := ⟨⟨(i 0 : Nat) / 128, by omega⟩, rfl⟩
    refine ⟨t, flush0_11 t, mem_tile fun a => ?_⟩
    match a with
    | ⟨0, _⟩ => show win0_11.index t 0 * 128 ≤ (i 0 : Nat) ∧ (i 0 : Nat) < win0_11.index t 0 * 128 + 128; rw [(idx0_11 t).1, ht]; omega
    | ⟨1, _⟩ => show win0_11.index t 1 * 1024 ≤ (i 1 : Nat) ∧ (i 1 : Nat) < win0_11.index t 1 * 1024 + 1024; rw [(idx0_11 t).2]; omega

end Cert.MixersIdeal.Val
end
-- ==== Proof.PoolRef.lean ====
/-
  The pooling's part of the reference: the running sum over the tokens, the means of the trailing windows it gives, and the
  two gradients of the mixing weights and their scale.
-/
module

public import proofs.«01_k».proof.Proof.MixLib
public import proofs.«01_k».proof.Proof.Norm
public import proofs.«01_k».proof.Proof.Gen.MixersRefIdeal.Read
public import Idealize.ShloMosaic.Lib.TwoAxisContraction

@[expose] public section

set_option maxRecDepth 16384

noncomputable section

namespace Cert.MixersRefIdeal.Val

open Idealize.ShloMosaic Idealize.ShloMosaic.TcCoe
open Idealize.ShloMosaic.ValueIdx (contrEquiv2 contrEquiv2_symm_val0 contrEquiv2_symm_val1 sum_contr2)
open Cert.MixersRefIdeal Cert.MixersRefIdeal.Gen Cert.MixersRefIdeal.Read Cert.Reals Cert.Norm Cert.Mix
open scoped BigOperators

/-! ### Sums -/

theorem foldl_add {α : Type} {M : Type*} [AddCommMonoid M] (f : α → M) (l : List α) (v : M) : l.foldl (fun r n => r + f n) v = v + (l.map f).sum := by
  induction l generalizing v with
  | nil => simp
  | cons a l ih => rw [List.foldl_cons, ih, List.map_cons, List.sum_cons, add_assoc]

/-- A window of the whole length, padded low by one less, holds what is up to its place. -/
theorem sum_window {M : Type*} [AddCommMonoid M] (f : ℕ → M) (n T : ℕ) (hT : T ≤ n) :
    ∑ k ∈ Finset.range (n + 1), (if n ≤ T + k ∧ T + k - n < n + 1 then f (T + k - n) else 0) = ∑ s ∈ Finset.range (T + 1), f s := by
  rw [← Finset.sum_filter]
  refine Finset.sum_nbij' (fun k => T + k - n) (fun s => n + s - T) ?_ ?_ ?_ ?_ ?_ <;> intro k hk <;>
    simp only [Finset.mem_filter, Finset.mem_range] at * <;> omega

/-- The same padded high holds what is from its place on. -/
theorem sum_window_high {M : Type*} [AddCommMonoid M] (f : ℕ → M) (n T : ℕ) :
    ∑ k ∈ Finset.range (n + 1), (if 0 ≤ T + k ∧ T + k - 0 < n + 1 then f (T + k - 0) else 0) = ∑ s ∈ Finset.Ico T (n + 1), f s := by
  rw [← Finset.sum_filter]
  refine Finset.sum_nbij' (fun k => T + k) (fun s => s - T) ?_ ?_ ?_ ?_ ?_ <;> intro k hk <;>
    simp only [Finset.mem_filter, Finset.mem_range, Finset.mem_Ico, Nat.sub_zero] at * <;> omega

/-- The sums up to a place and up to `w` before it differ by a window. -/
theorem sum_lag (u : ℕ → ℝ) (w T : ℕ) :
    (∑ s ∈ Finset.range (T + 1), u s) - (if w ≤ T then ∑ s ∈ Finset.range (T - w + 1), u s else 0)
      = ∑ k ∈ Finset.range w, if k ≤ T then u (T - k) else 0 := by
  induction w with
  | zero => simp
  | succ w ih =>
    rw [Finset.sum_range_succ (fun k => if k ≤ T then u (T - k) else 0) w, ← ih]
    by_cases h : w + 1 ≤ T
    · have e : T - w + 1 = (T - (w + 1) + 1) + 1 := by omega
      rw [if_pos h, if_pos (by omega), if_pos (by omega), e, Finset.sum_range_succ u (T - (w + 1) + 1), show T - (w + 1) + 1 = T - w by omega]; ring
    · rw [if_neg h]
      by_cases h' : w ≤ T
      · have : T = w := by omega
        subst this; simp
      · rw [if_neg h', if_neg h']; ring

/-- The mean of a trailing window, from the running sums. -/
theorem mean_eq (u : ℕ → ℝ) (w T : ℕ) (hw : 0 < w) (d : EReal)
    (hd : d = if w ≤ T then ((∑ s ∈ Finset.range (T - w + 1), u s : ℝ) : EReal) else 0) :
    Ideal.div (((∑ s ∈ Finset.range (T + 1), u s : ℝ) : EReal) - d) (min (((1 : ℝ) : EReal) + ((T : ℝ) : EReal)) ((w : ℝ) : EReal)) - (u T : EReal) = (trail u w T : EReal) := by
  have hm : min (((1 : ℝ) : EReal) + ((T : ℝ) : EReal)) ((w : ℝ) : EReal) = (((min (T + 1) w : ℕ) : ℝ) : EReal) := by
    rw [← EReal.coe_add, ← EReal.coe_strictMono.monotone.map_min, Nat.cast_min]; congr 2; push_cast; ring
  have hd' : d = ((if w ≤ T then ∑ s ∈ Finset.range (T - w + 1), u s else 0 : ℝ) : EReal) := by rw [hd]; split <;> simp
  have h0 : ((min (T + 1) w : ℕ) : ℝ) ≠ 0 := by have : 0 < min (T + 1) w := by omega
                                                positivity
  rw [hm, hd', ← EReal.coe_sub, sum_lag, div_coe_coe _ h0, ← EReal.coe_sub]; rfl

/-! ### The running sum -/

/-- Where a position of the window lies. -/
def place (n : ℕ) (q : Fin (⟨4, ![1, n + 1, 1, 1]⟩ : Shape).numel) : (⟨4, ![1, n + 1, 1, 1]⟩ : Shape).Idx :=
  (⟨4, ![1, n + 1, 1, 1]⟩ : Shape).rowMajor.symm q

/-- A running sum along the second of four axes, as it prints: a window of the axis' whole length, padded. -/
theorem window_read {n lo hi G A : ℕ} (x : (⟨4, ![1, n + 1, G, A]⟩ : Shape).Idx → EReal) (z : EReal) (hz : z = 0)
    (h : (⟨4, ![1, n + 1, G, A]⟩ : Shape).ReduceWindows ![1, n + 1, 1, 1] ![1, 1, 1, 1] ![0, lo, 0, 0] ![0, hi, 0, 0] ⟨4, ![1, n + 1, G, A]⟩)
    (f : ℕ → EReal) (T : Fin (n + 1)) (g : Fin G) (a : Fin A) (hf : ∀ s : Fin (n + 1), x (ix4 0 s g a) = f s.val) :
    Ideal.hostReduceWindowAdd ![1, n + 1, 1, 1] ![1, 1, 1, 1] ![0, lo, 0, 0] ![0, hi, 0, 0] h x z (ix4 0 T g a)
      = ∑ k ∈ Finset.range (n + 1), if lo ≤ T.val + k ∧ T.val + k - lo < n + 1 then f (T.val + k - lo) else 0 := by
  subst hz
  have hT := T.isLt; have hg := g.isLt; have ha := a.isLt
  have hn : (⟨4, ![1, n + 1, 1, 1]⟩ : Shape).numel = n + 1 := by simp [Shape.numel, Fin.prod_univ_succ]
  have hq : ∀ q : Fin (⟨4, ![1, n + 1, 1, 1]⟩ : Shape).numel, ((⟨4, ![1, n + 1, 1, 1]⟩ : Shape).rowMajor.symm q 1).val = q.val
      ∧ ((⟨4, ![1, n + 1, 1, 1]⟩ : Shape).rowMajor.symm q 2).val = 0 ∧ ((⟨4, ![1, n + 1, 1, 1]⟩ : Shape).rowMajor.symm q 3).val = 0
      ∧ ((⟨4, ![1, n + 1, 1, 1]⟩ : Shape).rowMajor.symm q 0).val = 0 := fun q => by
    have e := Shape.rowMajor_val_four ((⟨4, ![1, n + 1, 1, 1]⟩ : Shape).rowMajor.symm q)
    rw [Equiv.apply_symm_apply] at e
    have h0 : ((⟨4, ![1, n + 1, 1, 1]⟩ : Shape).rowMajor.symm q 0).val < 1 := ((⟨4, ![1, n + 1, 1, 1]⟩ : Shape).rowMajor.symm q 0).isLt
    have h2 : ((⟨4, ![1, n + 1, 1, 1]⟩ : Shape).rowMajor.symm q 2).val < 1 := ((⟨4, ![1, n + 1, 1, 1]⟩ : Shape).rowMajor.symm q 2).isLt
    have h3 : ((⟨4, ![1, n + 1, 1, 1]⟩ : Shape).rowMajor.symm q 3).val < 1 := ((⟨4, ![1, n + 1, 1, 1]⟩ : Shape).rowMajor.symm q 3).isLt
    have e0 := Nat.lt_one_iff.mp h0
    have e2 := Nat.lt_one_iff.mp h2
    have e3 := Nat.lt_one_iff.mp h3
    rw [e0, e2, e3] at e
    refine ⟨?_, e2, e3, e0⟩
    rw [e]; show _ = ((0 * (n + 1) + _) * 1 + 0) * 1 + 0
    omega
  unfold Ideal.hostReduceWindowAdd Host.reduceWindow
  dsimp only
  rw [foldl_add, zero_add, ← Fin.sum_univ_def, Finset.sum_range]
  refine (Fin.sum_congr' _ hn.symm).symm.trans (Finset.sum_congr rfl fun k _ => ?_)
  obtain ⟨q1, q2, q3, q0⟩ := hq (Fin.cast hn.symm k)
  change (place n (Fin.cast hn.symm k) 0).val = 0 at q0
  change (place n (Fin.cast hn.symm k) 1).val = k.val at q1
  change (place n (Fin.cast hn.symm k) 2).val = 0 at q2
  change (place n (Fin.cast hn.symm k) 3).val = 0 at q3
  by_cases hk : lo ≤ T.val + k.val ∧ T.val + k.val - lo < n + 1
  · rw [if_pos hk, dif_pos]
    · refine (congrArg x (funext fun b => Fin.ext ?_)).trans (hf ⟨T.val + k.val - lo, hk.2⟩)
      match b with
      | ⟨0, _⟩ => show 0 * 1 + (place n (Fin.cast hn.symm k) 0).val - 0 = 0; rw [q0]
      | ⟨1, _⟩ => show T.val * 1 + (place n (Fin.cast hn.symm k) 1).val - lo = T.val + k.val - lo; rw [q1]; simp
      | ⟨2, _⟩ => show g.val * 1 + (place n (Fin.cast hn.symm k) 2).val - 0 = g.val; rw [q2]; simp
      | ⟨3, _⟩ => show a.val * 1 + (place n (Fin.cast hn.symm k) 3).val - 0 = a.val; rw [q3]; simp
    · intro b
      have := k.isLt
      match b with
      | ⟨0, _⟩ => show 0 ≤ 0 * 1 + (place n (Fin.cast hn.symm k) 0).val ∧ 0 * 1 + (place n (Fin.cast hn.symm k) 0).val - 0 < 1; rw [q0]; omega
      | ⟨1, _⟩ => show lo ≤ T.val * 1 + (place n (Fin.cast hn.symm k) 1).val ∧ T.val * 1 + (place n (Fin.cast hn.symm k) 1).val - lo < n + 1; rw [q1]; simp; omega
      | ⟨2, _⟩ => show 0 ≤ g.val * 1 + (place n (Fin.cast hn.symm k) 2).val ∧ g.val * 1 + (place n (Fin.cast hn.symm k) 2).val - 0 < G; rw [q2]; omega
      | ⟨3, _⟩ => show 0 ≤ a.val * 1 + (place n (Fin.cast hn.symm k) 3).val ∧ a.val * 1 + (place n (Fin.cast hn.symm k) 3).val - 0 < A; rw [q3]; omega
  · rw [if_neg hk, dif_neg]
    intro hin
    have h1 := hin 1
    change lo ≤ T.val * 1 + (place n (Fin.cast hn.symm k) 1).val ∧ T.val * 1 + (place n (Fin.cast hn.symm k) 1).val - lo < n + 1 at h1
    rw [q1] at h1; simp at h1; omega

section pool
variable (x0 : (⟨S4096x1280, .f32⟩ : BufTy).Contents (Elt Ideal))

/-- Column `b` of the projection, as reals. -/
def col (b T : ℕ) : ℝ := (at2 (α := EReal) x0 T b).toReal

theorem col_coe (hx : ∀ j, ∃ r : ℝ, x0 j = (r : EReal)) (b T : ℕ) : at2 (α := EReal) x0 T b = (col x0 b T : EReal) := by
  unfold col at2
  split
  · obtain ⟨r, hr⟩ := hx (ix2 ⟨T, by omega⟩ ⟨b, by omega⟩); rw [hr, EReal.toReal_coe]
  · simp

theorem v10_read (T : Fin 4096) (g : Fin 4) (a : Fin 128) : val_main_v10 (F := Ideal) x0 (ix4 0 T g a) = at2 (α := EReal) x0 T.val (128 * g.val + a.val) := by
  have hT := T.isLt; have hg := g.isLt; have ha := a.isLt
  refine (val_main_v10_apply x0 _).trans ((val_main_v1_apply x0 _).trans ((val_main_v0_apply x0 _).trans (Eq.trans ?_
    (at2_eq (α := EReal) x0 T ⟨128 * g.val + a.val, by omega⟩).symm)))
  congr 1; funext k; apply Fin.ext
  match k with
  | ⟨0, _⟩ => show (((0 * 4096 + T.val) * 4 + g.val) * 128 + a.val) / 512 % 4096 = T.val; omega
  | ⟨1, _⟩ => show (((0 * 4096 + T.val) * 4 + g.val) * 128 + a.val) % 512 = 128 * g.val + a.val; omega

theorem v11_read (hx : ∀ j, ∃ r : ℝ, x0 j = (r : EReal)) (T : Fin 4096) (g : Fin 4) (a : Fin 128) :
    val_main_v11 (F := Ideal) x0 (ix4 0 T g a) = ((∑ s ∈ Finset.range (T.val + 1), col x0 (128 * g.val + a.val) s : ℝ) : EReal) := by
  have hT := T.isLt
  have hv : val_main_call0_call0_v0 (F := Ideal) (Shape.Idx.first h_S_) = (0 : EReal) := by
    unfold val_main_call0_call0_v0; pointwise [val_main_call0_call0_cst]
  unfold val_main_v11
  simp only [Host.reduceWindowAdd]
  rw [← sum_coe, ← sum_window _ 4095 T.val (by omega)]
  exact window_read (n := 4095) (G := 4) (A := 128) _ _ hv _ (fun s => ((col x0 (128 * g.val + a.val) s : ℝ) : EReal)) T g a
    (fun s => (v10_read x0 s g a).trans (col_coe x0 hx _ _))

/-! ### The means -/

theorem ofBits_2 : Ideal.ofBits .f32 0x40000000#32 = ((2 : ℕ) : ℝ) := by simp [Ideal.ofBits, Ideal.ieee, -EReal.coe_mul]; norm_num

theorem ofBits_4 : Ideal.ofBits .f32 0x40800000#32 = ((4 : ℕ) : ℝ) := by simp [Ideal.ofBits, Ideal.ieee, -EReal.coe_mul]; norm_num

theorem ofBits_8 : Ideal.ofBits .f32 0x41000000#32 = ((8 : ℕ) : ℝ) := by simp [Ideal.ofBits, Ideal.ieee, -EReal.coe_mul]; norm_num

theorem ofBits_16 : Ideal.ofBits .f32 0x41800000#32 = ((16 : ℕ) : ℝ) := by simp [Ideal.ofBits, Ideal.ieee, -EReal.coe_mul]; norm_num

theorem pos_eq (T : Fin 4096) : (1 : EReal) + FloatOps.sitofp (F := Ideal) .f32 (BitVec.ofNat 32 T.val) = ((1 : ℝ) : EReal) + ((T.val : ℝ) : EReal) := by
  have hT := T.isLt
  have e : (BitVec.ofNat 32 T.val).toInt = (T.val : ℤ) := by rw [BitVec.toInt_eq_toNat_cond, BitVec.toNat_ofNat]; omega
  show (1 : EReal) + (((BitVec.ofNat 32 T.val).toInt : ℝ) : EReal) = _
  rw [e]; rfl

/-- One window's mean minus the token, off the running sum. -/
theorem window_eq (hx : ∀ j, ∃ r : ℝ, x0 j = (r : EReal)) (c : S1x4096x4x128.Idx → EReal)
    (hc : ∀ (T : Fin 4096) (g : Fin 4) (a : Fin 128), c (ix4 0 T g a) = ((∑ s ∈ Finset.range (T.val + 1), col x0 (128 * g.val + a.val) s : ℝ) : EReal))
    (T : Fin 4096) (g : Fin 4) (a : Fin 128) (w : ℕ) (hw : 0 < w) (p : ¬ T.val < w → T.val - w < 4096) :
    Ideal.div (c (ix4 0 T g a) - if h : T.val < w then 0 else c (ix4 0 ⟨T.val - w, p h⟩ g a))
      (min ((1 : EReal) + FloatOps.sitofp (F := Ideal) .f32 (BitVec.ofNat 32 T.val)) ((w : ℝ) : EReal)) - at2 (α := EReal) x0 T.val (128 * g.val + a.val)
      = (trail (col x0 (128 * g.val + a.val)) w T.val : EReal) := by
  rw [pos_eq, hc, col_coe x0 hx]
  refine mean_eq (col x0 (128 * g.val + a.val)) w T.val hw _ ?_
  by_cases h : T.val < w
  · rw [dif_pos h, if_neg (by omega)]
  · rw [dif_neg h, if_pos (by omega), hc]

/-- The array `v` holds the means of group `g`. -/
abbrev mean (v : S1x4096x128.Idx → EReal) (g : Fin 4) (w : ℕ) (T : Fin 4096) (a : Fin 128) : Prop :=
  v (ix3 0 T a) - at2 (α := EReal) x0 T.val (128 * g.val + a.val) = (trail (col x0 (128 * g.val + a.val)) w T.val : EReal)

section means
variable (hx : ∀ j, ∃ r : ℝ, x0 j = (r : EReal)) (T : Fin 4096) (a : Fin 128)
include hx

theorem v26_read : mean x0 (val_main_v26 (F := Ideal) x0) 0 2 T a := by
  have hc := v11_read x0 hx
  unfold mean val_main_v26 val_main_v25 val_main_v24 val_main_v23 val_main_v22 val_main_v19 val_main_v18 val_main_v16 val_main_v15
  generalize val_main_v11 (F := Ideal) x0 = c at *
  pointwise [val_main_v21, val_main_cst_2, val_main_v17, val_main_cst_0, val_main_v14, val_main_v13, val_main_cst, val_main_v12]
  rw [ofBits_2]
  have h := window_eq x0 hx c hc T 0 a 2 (by decide) (fun _ => by have := T.isLt; omega)
  rw [show 128 * ((0 : Fin 4)).val + a.val = a.val from by simp] at h
  exact h

theorem v38_read : mean x0 (val_main_v38 (F := Ideal) x0) 1 4 T a := by
  have hc := v11_read x0 hx
  unfold mean val_main_v38 val_main_v37 val_main_v36 val_main_v35 val_main_v34 val_main_v31 val_main_v30 val_main_v28 val_main_v27
  generalize val_main_v11 (F := Ideal) x0 = c at *
  pointwise [val_main_v33, val_main_cst_5, val_main_v29, val_main_cst_3, val_main_v14, val_main_v13, val_main_cst, val_main_v12]
  rw [ofBits_4]
  exact window_eq x0 hx c hc T 1 a 4 (by decide) _

theorem v50_read : mean x0 (val_main_v50 (F := Ideal) x0) 2 8 T a := by
  have hc := v11_read x0 hx
  unfold mean val_main_v50 val_main_v49 val_main_v48 val_main_v47 val_main_v46 val_main_v43 val_main_v42 val_main_v40 val_main_v39
  generalize val_main_v11 (F := Ideal) x0 = c at *
  pointwise [val_main_v45, val_main_cst_8, val_main_v41, val_main_cst_6, val_main_v14, val_main_v13, val_main_cst, val_main_v12]
  rw [ofBits_8]
  exact window_eq x0 hx c hc T 2 a 8 (by decide) _

theorem v62_read : mean x0 (val_main_v62 (F := Ideal) x0) 3 16 T a := by
  have hc := v11_read x0 hx
  unfold mean val_main_v62 val_main_v61 val_main_v60 val_main_v59 val_main_v58 val_main_v55 val_main_v54 val_main_v52 val_main_v51
  generalize val_main_v11 (F := Ideal) x0 = c at *
  pointwise [val_main_v57, val_main_cst_11, val_main_v53, val_main_cst_9, val_main_v14, val_main_v13, val_main_cst, val_main_v12]
  rw [ofBits_16]
  exact window_eq x0 hx c hc T 3 a 16 (by decide) _

end means

theorem v68_read (hx : ∀ j, ∃ r : ℝ, x0 j = (r : EReal)) (T : Fin 4096) (g : Fin 4) (a : Fin 128) :
    val_main_v68 (F := Ideal) x0 (ix4 0 T g a) = (trail (col x0 (128 * g.val + a.val)) (2 ^ (g.val + 1)) T.val : EReal) := by
  have h0 := v26_read x0 hx T a
  have h1 := v38_read x0 hx T a
  have h2 := v50_read x0 hx T a
  have h3 := v62_read x0 hx T a
  show val_main_v67 (F := Ideal) x0 (ix4 0 T g a) - val_main_v10 (F := Ideal) x0 (ix4 0 T g a) = _
  rw [v10_read]
  unfold val_main_v67 val_main_v66 val_main_v65 val_main_v64 val_main_v63
  generalize val_main_v26 (F := Ideal) x0 = c0 at *
  generalize val_main_v38 (F := Ideal) x0 = c1 at *
  generalize val_main_v50 (F := Ideal) x0 = c2 at *
  generalize val_main_v62 (F := Ideal) x0 = c3 at *
  pointwise []
  match g with
  | ⟨0, _⟩ => exact h0
  | ⟨1, _⟩ => exact h1
  | ⟨2, _⟩ => exact h2
  | ⟨3, _⟩ => exact h3

/-! ### The two gradients -/

variable (x1 : (⟨S1x4x128x128, .f32⟩ : BufTy).Contents (Elt Ideal)) (x2 : (⟨S1x512, .f32⟩ : BufTy).Contents (Elt Ideal))
  (x5 : (⟨S4096x1024, .f32⟩ : BufTy).Contents (Elt Ideal))

/-- The pooled tokens, by group. -/
def pooledR (T : ℕ) (g a : ℕ) : EReal := (trail (col x0 (128 * g + a)) (2 ^ (g + 1)) T : EReal)

theorem two_axes (y : FVec Ideal S4x128x1x4096 .f32) (z : FVec Ideal S1x4096x4x128 .f32) (g : Fin 4) (n k : Fin 128) :
    Host.dotGeneral dot_S4x128x1x4096_S1x4096x4x128_S4x128x128_23_01_1_3_0_2 none y z (ix3 g n k) = ∑ T : Fin 4096, y (ix4 g n 0 T) * z (ix4 0 T g k) := by
  simp only [Host.dotGeneral]
  rw [Ideal.dotGeneral_apply, sum_contr2 dot_S4x128x1x4096_S1x4096x4x128_S4x128x128_23_01_1_3_0_2 1 4096 rfl rfl rfl, Fin.sum_univ_one]
  refine Finset.sum_congr rfl fun T _ => ?_
  have h0 := contrEquiv2_symm_val0 dot_S4x128x1x4096_S1x4096x4x128_S4x128x128_23_01_1_3_0_2 1 4096 rfl rfl rfl (0, T)
  have h1 := contrEquiv2_symm_val1 dot_S4x128x1x4096_S1x4096x4x128_S4x128x128_23_01_1_3_0_2 1 4096 rfl rfl rfl (0, T)
  congr 1
  · congr 1; funext b; apply Fin.ext
    match b with
    | ⟨0, _⟩ => rfl
    | ⟨1, _⟩ => rfl
    | ⟨2, _⟩ => exact h0
    | ⟨3, _⟩ => exact h1
  · congr 1; funext b; apply Fin.ext
    match b with
    | ⟨0, _⟩ => exact h0
    | ⟨1, _⟩ => exact h1
    | ⟨2, _⟩ => rfl
    | ⟨3, _⟩ => rfl

theorem v289_read (g : Fin 4) (n : Fin 128) (T : Fin 4096) :
    val_main_v289 (F := Ideal) x2 x5 (ix4 g n 0 T) = at2 (α := EReal) x5 T.val (128 * g.val + n.val) * at2 (α := EReal) x2 0 (128 * g.val + n.val) := by
  have e5 := at2_eq (α := EReal) x5 T ⟨128 * g.val + n.val, by have := g.isLt; have := n.isLt; omega⟩
  have e2 := at2_eq (α := EReal) x2 0 ⟨128 * g.val + n.val, by have := g.isLt; have := n.isLt; omega⟩
  pointwise [val_main_v289, val_main_v288, val_main_v286, val_main_v208, val_main_v207, val_main_v285, val_main_v72, val_main_v9]
  simp only [mul_comm g.val 128]
  exact (congrArg₂ (· * ·) e5 e2).symm

theorem dw_read (hx : ∀ j, ∃ r : ℝ, x0 j = (r : EReal)) (g : Fin 4) (a b : Fin 128) :
    val_main_v358 (F := Ideal) x0 x2 x5 (ix3 g a b) = ∑ T ∈ Finset.range 4096, pooledR x0 T g.val a.val
      * (at2 (α := EReal) x5 T (128 * g.val + b.val) * at2 (α := EReal) x2 0 (128 * g.val + b.val)) := by
  refine (val_main_v358_apply x0 x2 x5 _).trans ((val_main_v346_apply x0 x2 x5 _).trans ((val_main_v293_apply x0 x2 x5 _).trans ?_))
  have hg := g.isLt; have ha := a.isLt; have hb := b.isLt
  refine (congrArg (val_main_v292 (F := Ideal) x0 x2 x5) (?_ : _ = ix3 g b a)).trans ?_
  · funext k; apply Fin.ext
    match k with
    | ⟨0, _⟩ => show ((g.val * 128 + a.val) * 128 + b.val) / 16384 % 4 = g.val; omega
    | ⟨1, _⟩ => show ((g.val * 128 + a.val) * 128 + b.val) % 128 = b.val; omega
    | ⟨2, _⟩ => show ((g.val * 128 + a.val) * 128 + b.val) / 128 % 128 = a.val; omega
  unfold val_main_v292
  rw [two_axes, Finset.sum_range]
  exact Finset.sum_congr rfl fun T _ => by rw [v289_read, v68_read x0 hx, mul_comm]; rfl

theorem scale_sum (y : FVec Ideal S1x1x512 .f32) (z : FVec Ideal S_ .f32) (hz : ∀ i, z i = 0) (d : Fin 512) :
    Host.reduceAdd y z reducesTo_S1x1x512_S512_d0_1 h_S_ (ix1 d) = y (ix3 0 0 d) := by
  simp only [Host.reduceAdd, Ideal.hostReduceAdd_def]
  rw [hostReduceAdd_one _ _ _ _ _ (drop_gain _ d), hz, zero_add]

theorem v8_read (g : Fin 4) (k a : Fin 128) : val_main_v8 (F := Ideal) x1 (ix3 g k a) = x1 (ix4 0 g k a) := by
  pointwise [val_main_v8]

/-- The pooled tokens through the mixing weights. -/
theorem v71_read (hx : ∀ j, ∃ r : ℝ, x0 j = (r : EReal)) (T : Fin 4096) (g : Fin 4) (a : Fin 128) :
    val_main_v71 (F := Ideal) x0 x1 (ix3 0 T ⟨128 * g.val + a.val, by omega⟩) = ∑ k : Fin 128, pooledR x0 T g.val k.val * x1 (ix4 0 g k a) := by
  have hg := g.isLt; have ha := a.isLt; have hT := T.isLt
  refine (val_main_v71_apply x0 x1 _).trans ((val_main_v70_apply x0 x1 _).trans ((val_main_v69_apply x0 x1 _).trans ?_))
  refine Finset.sum_congr rfl fun k _ => ?_
  rw [mul_comm]
  refine congrArg₂ (· * ·) (Eq.trans ?_ (v68_read x0 hx T g k)) ((congrArg (val_main_v8 (F := Ideal) x1) (?_ : _ = ix3 g k a)).trans (v8_read x1 g k a))
  · congr 1; funext b; apply Fin.ext
    match b with
    | ⟨0, _⟩ => rfl
    | ⟨1, _⟩ => show ((0 * 4096 + T.val) * 512 + (128 * g.val + a.val)) / 512 % 4096 = T.val; omega
    | ⟨2, _⟩ => show ((0 * 4096 + T.val) * 512 + (128 * g.val + a.val)) / 128 % 4 = g.val; omega
    | ⟨3, _⟩ => rfl
  · funext b; apply Fin.ext
    match b with
    | ⟨0, _⟩ => show ((0 * 4096 + T.val) * 512 + (128 * g.val + a.val)) / 128 % 4 = g.val; omega
    | ⟨1, _⟩ => rfl
    | ⟨2, _⟩ => show ((0 * 4096 + T.val) * 512 + (128 * g.val + a.val)) % 128 = a.val; omega

theorem ds_read (hx : ∀ j, ∃ r : ℝ, x0 j = (r : EReal)) (g : Fin 4) (a : Fin 128) :
    val_main_v359 (F := Ideal) x0 x1 x5 (ix2 g a) = ∑ T ∈ Finset.range 4096, at2 (α := EReal) x5 T (128 * g.val + a.val)
      * ∑ k : Fin 128, pooledR x0 T g.val k.val * x1 (ix4 0 g k a) := by
  have hg := g.isLt; have ha := a.isLt
  have hz : ∀ i, val_main_cst_56 (F := Ideal) i = (0 : EReal) := fun i => by pointwise [val_main_cst_56]
  have hz' : val_main_cst_55 (F := Ideal) (Shape.Idx.first h_S_) = (0 : EReal) := by pointwise [val_main_cst_55]
  refine (val_main_v359_apply x0 x1 x5 _).trans ((val_main_v345_apply x0 x1 x5 _).trans ?_)
  refine (congrArg (val_main_v287 (F := Ideal) x0 x1 x5) (?_ : _ = ix1 ⟨128 * g.val + a.val, by omega⟩)).trans ?_
  · funext k; apply Fin.ext
    match k with
    | ⟨0, _⟩ => show (g.val * 128 + a.val) % 512 = 128 * g.val + a.val; omega
  unfold val_main_v287
  rw [scale_sum _ _ hz]
  refine (val_main_v284_apply x0 x1 x5 _).trans ((val_main_v283_apply x0 x1 x5 _).trans ?_)
  rw [hz', zero_add, Finset.sum_range]
  refine Finset.sum_congr rfl fun T _ => ?_
  have hT := T.isLt
  refine (congrArg (val_main_v282 (F := Ideal) x0 x1 x5) (?_ : _ = ix3 0 T ⟨128 * g.val + a.val, by omega⟩)).trans ?_
  · funext k; apply Fin.ext
    match k with
    | ⟨0, _⟩ => rfl
    | ⟨1, _⟩ => rfl
    | ⟨2, _⟩ => show ((0 * 1 + 0) * 512 + (128 * g.val + a.val)) % 512 = 128 * g.val + a.val; omega
  refine (val_main_v282_apply x0 x1 x5 _).trans ?_
  show val_main_v71 (F := Ideal) x0 x1 _ * val_main_v208 (F := Ideal) x5 _ = _
  rw [mul_comm]
  congr 1
  · refine (val_main_v208_apply x5 _).trans ((val_main_v207_apply x5 _).trans (Eq.trans ?_ (at2_eq (α := EReal) x5 T ⟨128 * g.val + a.val, by omega⟩).symm))
    congr 1; funext k; apply Fin.ext
    match k with
    | ⟨0, _⟩ => rfl
    | ⟨1, _⟩ => rfl
  · exact v71_read x0 x1 hx T g a

end pool
end Cert.MixersRefIdeal.Val
end
-- ==== Proof.DuRef.lean ====
/-
  The reference's gradient of the pooled tokens: the cotangent through the mixing weights, and back through the running
  sums, whose differences are the windows each token lies in.
-/
module

public import proofs.«01_k».proof.Proof.PoolRef

@[expose] public section

set_option maxRecDepth 16384

noncomputable section

namespace Cert.MixersRefIdeal.Val

open Idealize.ShloMosaic Idealize.ShloMosaic.TcCoe
open Cert.MixersRefIdeal Cert.MixersRefIdeal.Gen Cert.MixersRefIdeal.Read Cert.Reals Cert.Norm Cert.Mix
open scoped BigOperators

/-- From a place on, a sum less the sum `w` later is the window from the place. -/
theorem sum_ahead (q : ℕ → ℝ) (w N T : ℕ) :
    ∑ s ∈ Finset.Ico T N, (q s + if s + w < N then -q (s + w) else 0) = ∑ k ∈ Finset.range w, if T + k < N then q (T + k) else 0 := by
  have R : ∑ s ∈ Finset.Ico T N, (if s + w < N then -q (s + w) else 0) = -∑ s ∈ Finset.Ico (T + w) N, q s := by
    rw [← Finset.sum_filter, ← Finset.sum_neg_distrib]
    refine Finset.sum_nbij' (· + w) (· - w) ?_ ?_ ?_ ?_ ?_ <;> intro k hk <;>
      simp only [Finset.mem_filter, Finset.mem_Ico] at * <;> first | omega | rfl
  rw [Finset.sum_add_distrib, R]
  clear R
  induction w with
  | zero => simp
  | succ w ih =>
    rw [Finset.sum_range_succ, ← ih]
    by_cases h : T + w < N
    · rw [if_pos h, Finset.sum_eq_sum_Ico_succ_bot h, ← add_assoc T w 1]; ring
    · rw [if_neg h, Finset.Ico_eq_empty_of_le (show N ≤ T + w by omega), Finset.Ico_eq_empty_of_le (show N ≤ T + (w + 1) by omega)]; simp

/-- One group's share of a token. -/
def share (D : ℕ → ℝ) (w T : ℕ) : ℝ := D T / (min (T + 1) w : ℕ)

theorem share_eq (D : ℕ → ℝ) (w T : ℕ) (hw : 0 < w) (hT : T < 4096) :
    Ideal.div ((D T : ℝ) : EReal) (min ((1 : EReal) + FloatOps.sitofp (F := Ideal) .f32 (BitVec.ofNat 32 T)) ((w : ℝ) : EReal)) = (share D w T : EReal) := by
  have hm : min (((1 : ℝ) : EReal) + ((T : ℝ) : EReal)) ((w : ℝ) : EReal) = (((min (T + 1) w : ℕ) : ℝ) : EReal) := by
    rw [← EReal.coe_add, ← EReal.coe_strictMono.monotone.map_min, Nat.cast_min]; congr 2; push_cast; ring
  have h0 : ((min (T + 1) w : ℕ) : ℝ) ≠ 0 := by have : 0 < min (T + 1) w := by omega
                                                positivity
  rw [pos_eq ⟨T, hT⟩, hm, div_coe_coe _ h0]; rfl

/-- What the running sum's gradient holds at a token: its share, less that of the token a window later. -/
abbrev part (D : Fin 4 → Fin 128 → ℕ → ℝ) (g : Fin 4) (a : Fin 128) (w T : ℕ) : EReal := ((share (D g a) w T + if T + w < 4096 then -share (D g a) w (T + w) else 0 : ℝ) : EReal)

theorem part_close (D : Fin 4 → Fin 128 → ℕ → ℝ) (g : Fin 4) (a : Fin 128) (w n T : ℕ) (hw : 0 < w) (hn : n + w = 4096) (hT : T < 4096) (x : EReal) (y : T < n → EReal)
    (hx : x = (D g a T : EReal)) (hy : ∀ h, y h = (D g a (w + T) : EReal)) :
    Ideal.div x (min ((1 : EReal) + FloatOps.sitofp (F := Ideal) .f32 (BitVec.ofNat 32 T)) ((w : ℝ) : EReal))
      + (if h : T < n then -Ideal.div (y h) (min ((1 : EReal) + FloatOps.sitofp (F := Ideal) .f32 (BitVec.ofNat 32 (w + T))) ((w : ℝ) : EReal)) else 0) = part D g a w T := by
  unfold part
  rw [hx, share_eq _ w T hw hT, EReal.coe_add]
  refine congrArg (_ + ·) ?_
  by_cases h : T < n
  · rw [dif_pos h, if_pos (by omega), hy, share_eq _ w (w + T) hw (by omega), add_comm w T, EReal.coe_neg]
  · rw [dif_neg h, if_neg (by omega)]; rfl

section du
variable (x1 : (⟨S1x4x128x128, .f32⟩ : BufTy).Contents (Elt Ideal)) (x2 : (⟨S1x512, .f32⟩ : BufTy).Contents (Elt Ideal))
  (x5 : (⟨S4096x1024, .f32⟩ : BufTy).Contents (Elt Ideal))

theorem v291_read (T : Fin 4096) (g : Fin 4) (a : Fin 128) : val_main_v291 (F := Ideal) x1 x2 x5 (ix4 0 T g a) = dpool x1 x2 x5 g a T.val := by
  refine (val_main_v291_apply x1 x2 x5 _).trans ((val_main_v290_apply x1 x2 x5 _).trans (Finset.sum_congr rfl fun n _ => ?_))
  refine congrArg₂ (· * ·) ((congrArg (val_main_v289 (F := Ideal) x2 x5) (?_ : _ = ix4 g n 0 T)).trans (v289_read x2 x5 g n T))
    ((congrArg (val_main_v8 (F := Ideal) x1) (?_ : _ = ix3 g a n)).trans (v8_read x1 g a n))
  · funext b; fin_cases b <;> rfl
  · funext b; fin_cases b <;> rfl

variable (D : Fin 4 → Fin 128 → ℕ → ℝ) (hD : ∀ (T : Fin 4096) (g : Fin 4) (a : Fin 128), val_main_v291 (F := Ideal) x1 x2 x5 (ix4 0 T g a) = (D g a T.val : EReal))
include hD

theorem v309_read (T : Fin 4096) (a : Fin 128) : val_main_v309 (F := Ideal) x1 x2 x5 (ix3 0 T a) = part D 3 a 16 T.val := by
  unfold val_main_v309 val_main_v308 val_main_v307 val_main_v305 val_main_v304 val_main_v303 val_main_v302 val_main_v301
  generalize val_main_v291 (F := Ideal) x1 x2 x5 = c at *
  pointwise [val_main_v59, val_main_v58, val_main_v57, val_main_cst_11, val_main_cst_57, val_main_v14, val_main_v13, val_main_cst, val_main_v12]
  rw [ofBits_16]
  exact part_close D 3 a 16 4080 T.val (by decide) rfl T.isLt _ (fun h => c (ix4 0 ⟨16 + T.val, by omega⟩ 3 a)) (hD T 3 a) (fun h => hD ⟨16 + T.val, by omega⟩ 3 a)

theorem v318_read (T : Fin 4096) (a : Fin 128) : val_main_v318 (F := Ideal) x1 x2 x5 (ix3 0 T a) = part D 2 a 8 T.val := by
  unfold val_main_v318 val_main_v317 val_main_v316 val_main_v314 val_main_v313 val_main_v312 val_main_v300 val_main_v299
  generalize val_main_v291 (F := Ideal) x1 x2 x5 = c at *
  pointwise [val_main_v47, val_main_v46, val_main_v45, val_main_cst_8, val_main_cst_59, val_main_v14, val_main_v13, val_main_cst, val_main_v12]
  rw [ofBits_8]
  exact part_close D 2 a 8 4088 T.val (by decide) rfl T.isLt _ (fun h => c (ix4 0 ⟨8 + T.val, by omega⟩ 2 a)) (hD T 2 a) (fun h => hD ⟨8 + T.val, by omega⟩ 2 a)

theorem v328_read (T : Fin 4096) (a : Fin 128) : val_main_v328 (F := Ideal) x1 x2 x5 (ix3 0 T a) = part D 1 a 4 T.val := by
  unfold val_main_v328 val_main_v327 val_main_v326 val_main_v324 val_main_v323 val_main_v322 val_main_v298 val_main_v297
  generalize val_main_v291 (F := Ideal) x1 x2 x5 = c at *
  pointwise [val_main_v35, val_main_v34, val_main_v33, val_main_cst_5, val_main_cst_61, val_main_v14, val_main_v13, val_main_cst, val_main_v12]
  rw [ofBits_4]
  exact part_close D 1 a 4 4092 T.val (by decide) rfl T.isLt _ (fun h => c (ix4 0 ⟨4 + T.val, by omega⟩ 1 a)) (hD T 1 a) (fun h => hD ⟨4 + T.val, by omega⟩ 1 a)

theorem v338_read (T : Fin 4096) (a : Fin 128) : val_main_v338 (F := Ideal) x1 x2 x5 (ix3 0 T a) = part D 0 a 2 T.val := by
  unfold val_main_v338 val_main_v337 val_main_v336 val_main_v334 val_main_v333 val_main_v332 val_main_v296 val_main_v295
  generalize val_main_v291 (F := Ideal) x1 x2 x5 = c at *
  pointwise [val_main_v23, val_main_v22, val_main_v21, val_main_cst_2, val_main_cst_63, val_main_v14, val_main_v13, val_main_cst, val_main_v12]
  rw [ofBits_2]
  exact part_close D 0 a 2 4094 T.val (by decide) rfl T.isLt _ (fun h => c (ix4 0 ⟨2 + T.val, by omega⟩ 0 a)) (hD T 0 a) (fun h => hD ⟨2 + T.val, by omega⟩ 0 a)

/-- Before the running sum: every group's part. -/
theorem v341_read (T : Fin 4096) (g : Fin 4) (a : Fin 128) : val_main_v341 (F := Ideal) x1 x2 x5 (ix4 0 T g a) = part D g a (2 ^ (g.val + 1)) T.val := by
  have h0 := v338_read x1 x2 x5 D hD T a
  have h1 := v328_read x1 x2 x5 D hD T a
  have h2 := v318_read x1 x2 x5 D hD T a
  have h3 := v309_read x1 x2 x5 D hD T a
  unfold val_main_v341 val_main_v331 val_main_v321 val_main_v340 val_main_v339 val_main_v330 val_main_v329 val_main_v320 val_main_v319 val_main_v311 val_main_v310
  generalize val_main_v338 (F := Ideal) x1 x2 x5 = c0 at *
  generalize val_main_v328 (F := Ideal) x1 x2 x5 = c1 at *
  generalize val_main_v318 (F := Ideal) x1 x2 x5 = c2 at *
  generalize val_main_v309 (F := Ideal) x1 x2 x5 = c3 at *
  pointwise [val_main_cst_58, val_main_cst_60, val_main_cst_62, val_main_cst_64]
  match g with
  | ⟨0, _⟩ => exact (by simp : _ = c0 (ix3 0 T a)).trans h0
  | ⟨1, _⟩ => exact (by simp : _ = c1 (ix3 0 T a)).trans h1
  | ⟨2, _⟩ => exact (by simp : _ = c2 (ix3 0 T a)).trans h2
  | ⟨3, _⟩ => exact (by simp : _ = c3 (ix3 0 T a)).trans h3

/-- The gradient of the pooled tokens: the tokens ahead whose windows hold them, less their own. -/
theorem v343_read (T : Fin 4096) (g : Fin 4) (a : Fin 128) : val_main_v343 (F := Ideal) x1 x2 x5 (ix4 0 T g a) = (lead (D g a) (2 ^ (g.val + 1)) 4096 T.val : EReal) := by
  have h291 := hD T g a
  have h := v341_read x1 x2 x5 D hD
  have hT := T.isLt
  have hv : val_main_call4_call0_v0 (F := Ideal) (Shape.Idx.first h_S_) = (0 : EReal) := by
    unfold val_main_call4_call0_v0; pointwise [val_main_call4_call0_cst]
  have e : val_main_v342 (F := Ideal) x1 x2 x5 (ix4 0 T g a) = ((∑ s ∈ Finset.Ico T.val 4096, (share (D g a) (2 ^ (g.val + 1)) s
      + if s + 2 ^ (g.val + 1) < 4096 then -share (D g a) (2 ^ (g.val + 1)) (s + 2 ^ (g.val + 1)) else 0) : ℝ) : EReal) := by
    unfold val_main_v342
    simp only [Host.reduceWindowAdd]
    rw [← sum_coe, ← sum_window_high _ 4095 T.val]
    exact window_read (n := 4095) (lo := 0) (hi := 4095) (G := 4) (A := 128) _ _ hv _ (fun s => part D g a (2 ^ (g.val + 1)) s) T g a (fun s => h s g a)
  show -val_main_v291 (F := Ideal) x1 x2 x5 (ix4 0 T g a) + val_main_v342 (F := Ideal) x1 x2 x5 (ix4 0 T g a) = _
  rw [h291, e, sum_ahead, ← EReal.coe_neg, ← EReal.coe_add, add_comm, ← sub_eq_add_neg]
  rfl

theorem v344_read (T : Fin 4096) (g : Fin 4) (a : Fin 128) (b : Fin 512) (hb : b.val = 128 * g.val + a.val) :
    val_main_v344 (F := Ideal) x1 x2 x5 (ix3 0 T b) = (lead (D g a) (2 ^ (g.val + 1)) 4096 T.val : EReal) := by
  refine (val_main_v344_apply x1 x2 x5 _).trans ((congrArg (val_main_v343 (F := Ideal) x1 x2 x5) (?_ : _ = ix4 0 T g a)).trans (v343_read x1 x2 x5 D hD T g a))
  have hT := T.isLt; have hg := g.isLt; have ha := a.isLt
  funext k; apply Fin.ext
  match k with
  | ⟨0, _⟩ => rfl
  | ⟨1, _⟩ => show ((0 * 4096 + T.val) * 512 + b.val) / 512 % 4096 = T.val; omega
  | ⟨2, _⟩ => show ((0 * 4096 + T.val) * 512 + b.val) / 128 % 4 = g.val; omega
  | ⟨3, _⟩ => show ((0 * 4096 + T.val) * 512 + b.val) % 128 = a.val; omega

variable (x0 : (⟨S4096x1280, .f32⟩ : BufTy).Contents (Elt Ideal)) (x3 : (⟨S32x8, .f32⟩ : BufTy).Contents (Elt Ideal)) (x4 : (⟨S1x8, .f32⟩ : BufTy).Contents (Elt Ideal))

/-- The first columns of the projection's gradient are the pooled tokens'. -/
theorem v356_read (T : Fin 4096) (g : Fin 4) (a : Fin 128) (b : Fin 1280) (hb : b.val = 128 * g.val + a.val) :
    val_main_v356 (F := Ideal) x0 x1 x2 x3 x4 x5 (ix3 0 T b) = (lead (D g a) (2 ^ (g.val + 1)) 4096 T.val : EReal) := by
  have hg := g.isLt; have ha := a.isLt
  have hb5 : b.val < 512 := by omega
  have h := v344_read x1 x2 x5 D hD T g a ⟨b.val, hb5⟩ hb
  unfold val_main_v356 val_main_v355 val_main_v354 val_main_v353 val_main_v351 val_main_v350 val_main_v348
  generalize val_main_v344 (F := Ideal) x1 x2 x5 = c at *
  generalize val_main_v352 (F := Ideal) x0 x3 x4 x5 = c1
  generalize val_main_v349 (F := Ideal) x0 x3 x4 x5 = c2
  generalize val_main_v347 (F := Ideal) x0 x3 x4 x5 = c3
  pointwise [val_main_cst_65, val_main_cst_66, val_main_cst_67, val_main_cst_68]
  rw [dif_neg (by omega), dif_neg (by omega), dif_neg (by omega), dif_pos hb5, zero_add, zero_add, zero_add]
  exact h

theorem du_read (T : Fin 4096) (g : Fin 4) (a : Fin 128) (b : Fin 512) (hb : b.val = 128 * g.val + a.val) :
    val_main_v361 (F := Ideal) x0 x1 x2 x3 x4 x5 (ix2 T b) = (lead (D g a) (2 ^ (g.val + 1)) 4096 T.val : EReal) := by
  show val_main_v360 (F := Ideal) x0 x1 x2 x3 x4 x5 (ix2 T b) = _
  refine (val_main_v360_apply x0 x1 x2 x3 x4 x5 _).trans ((val_main_v357_apply x0 x1 x2 x3 x4 x5 _).trans ?_)
  rw [show val_main_cst_69 (F := Ideal) (Shape.Idx.first h_S_) = (0 : EReal) by pointwise [val_main_cst_69], zero_add, Fin.sum_univ_one]
  refine (congrArg (val_main_v356 (F := Ideal) x0 x1 x2 x3 x4 x5) (?_ : _ = ix3 0 T (⟨b.val, by omega⟩ : Fin 1280))).trans (v356_read x1 x2 x5 D hD x0 x3 x4 T g a _ hb)
  funext k; fin_cases k <;> rfl

end du
end Cert.MixersRefIdeal.Val
end
-- ==== Proof.CatRef.lean ====
/-
  The reference's forward output, its pooled columns: the pooled tokens through the mixing weights, scaled.
-/
module

public import proofs.«01_k».proof.Proof.PoolRef

@[expose] public section

set_option maxRecDepth 16384

noncomputable section

namespace Cert.MixersRefIdeal.Val

open Cert.MixersRefIdeal Cert.MixersRefIdeal.Gen Cert.MixersRefIdeal.Read Idealize.ShloMosaic Idealize.ShloMosaic.TcCoe
open Cert.Reals Cert.Mix
open scoped BigOperators

variable (x0 : FVec Ideal S4096x1280 .f32) (x1 : FVec Ideal S1x4x128x128 .f32) (x2 : FVec Ideal S1x512 .f32) (x3 : FVec Ideal S32x8 .f32) (x4 : FVec Ideal S1x8 .f32)

theorem v73_read (T : Fin 4096) (b : Fin 512) : val_main_v73 (F := Ideal) x2 (ix3 0 T b) = x2 (ix2 0 b) := by
  refine (val_main_v73_apply (F := Ideal) x2 (ix3 0 T b)).trans ((val_main_v72_apply (F := Ideal) x2 _).trans ((val_main_v9_apply (F := Ideal) x2 _).trans (congrArg x2 ?_)))
  funext k; apply Fin.ext
  match k with
  | ⟨0, _⟩ => rfl
  | ⟨1, _⟩ => exact Nat.mod_eq_of_lt b.isLt

/-- The output's first columns are its first part. -/
theorem concat_left (A B : FVec Ideal S1x4096x512 .f32) (T : Fin 4096) (b : Fin 512) :
    concatenate S1x4096x1024 2 [⟨S1x4096x512, A⟩, ⟨S1x4096x512, B⟩] concatenates_S1x4096x512_S1x4096x512_S1x4096x1024_d2 (ix3 0 T (⟨b.val, by omega⟩ : Fin 1024)) = A (ix3 0 T b) :=
  concatenate_pair_apply_left (t := S1x4096x1024) 2 A B concatenates_S1x4096x512_S1x4096x512_S1x4096x1024_d2 _ rfl (ix3 0 T b) (fun k => by fin_cases k <;> rfl)

theorem cat_read (hx : ∀ j, ∃ r : ℝ, x0 j = (r : EReal)) (T : Fin 4096) (g : Fin 4) (a : Fin 128) (b : Fin 512) (hb : b.val = 128 * g.val + a.val) :
    val_main_v363 (F := Ideal) x0 x1 x2 x3 x4 (ix2 T b) = (∑ k : Fin 128, pooledR x0 T g.val k.val * x1 (ix4 0 g k a)) * x2 (ix2 0 b) := by
  have hT := T.isLt; have hg := g.isLt; have ha := a.isLt
  have hl : 128 * g.val + a.val < 512 := by omega
  obtain rfl : b = ⟨128 * g.val + a.val, hl⟩ := Fin.ext hb
  refine (val_main_v363_apply (F := Ideal) x0 x1 x2 x3 x4 _).trans ((val_main_v362_apply (F := Ideal) x0 x1 x2 x3 x4 _).trans ((val_main_v206_apply (F := Ideal) x0 x1 x2 x3 x4 _).trans ?_))
  refine (congrArg (val_main_v205 (F := Ideal) x0 x1 x2 x3 x4) (?_ : _ = ix3 0 T (⟨128 * g.val + a.val, by omega⟩ : Fin 1024))).trans ?_
  · funext k; apply Fin.ext
    match k with
    | ⟨0, _⟩ => rfl
    | ⟨1, _⟩ => show (T.val * 1024 + (128 * g.val + a.val)) / 1024 % 4096 = T.val; omega
    | ⟨2, _⟩ => show (T.val * 1024 + (128 * g.val + a.val)) % 1024 = 128 * g.val + a.val; omega
  refine Eq.trans (b := val_main_v74 (F := Ideal) x0 x1 x2 (ix3 0 T ⟨128 * g.val + a.val, by omega⟩)) ?_ ?_
  · unfold val_main_v205
    exact concat_left _ _ T ⟨128 * g.val + a.val, hl⟩
  refine (val_main_v74_apply (F := Ideal) x0 x1 x2 _).trans ?_
  exact congrArg₂ (· * ·) (v71_read x0 x1 hx T g a) (v73_read x2 T _)

end Cert.MixersRefIdeal.Val
end
-- ==== Proof.Mixers.lean ====
/-
  The two mixers' forward and backward calls: the three frames, and the equality of the pooled output, of the mixing weights'
  gradient, their scale's and the pooled tokens' with the forward lines and their derivative, on finite arguments.
-/
module

public import proofs.«01_k».proof.Defs
public import proofs.«01_k».proof.Proof.Gen.Mixers
public import proofs.«01_k».proof.Proof.Gen.Pre_finite_mixers
public import proofs.«01_k».proof.Proof.DuKernel
public import proofs.«01_k».proof.Proof.CatKernel
public import proofs.«01_k».proof.Proof.DuRef
public import proofs.«01_k».proof.Proof.CatRef
public import Idealize.ShloMosaic.Lib.Quiescent

@[expose] public section

set_option maxRecDepth 65536

noncomputable section

namespace Cert.MixersProof

open Idealize.ShloMosaic Idealize.ShloMosaic.TcCoe Idealize.SL.Sem
open Cert.Reals Cert.Mix
open scoped BigOperators

instance : Subsingleton (Cert.Pre_finite_mixers.S_).Idx := ⟨fun a b => funext fun k => k.elim0⟩

/-- The precondition, opened: the projection, the mixing weights, their scale and the cotangent hold reals. -/
theorem pre_reals (x0 : FVec Ideal Cert.Pre_finite_mixers.S4096x1280 .f32) (x1 : FVec Ideal Cert.Pre_finite_mixers.S1x4x128x128 .f32)
    (x2 : FVec Ideal Cert.Pre_finite_mixers.S1x512 .f32) (x3 : FVec Ideal Cert.Pre_finite_mixers.S32x8 .f32) (x4 : FVec Ideal Cert.Pre_finite_mixers.S1x8 .f32)
    (x5 : FVec Ideal Cert.Pre_finite_mixers.S4096x1024 .f32)
    (h : Cert.Pre_finite_mixers.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x5 i = (r : EReal)) := by
  have e := congrFun h (fun a => a.elim0)
  obtain ⟨e, e5⟩ := IntOp.andi_eq_one.mp e
  obtain ⟨e, e2⟩ := IntOp.andi_eq_one.mp e
  obtain ⟨e0, e1⟩ := IntOp.andi_eq_one.mp e
  have fin : ∀ {s : Shape} (x : FVec Ideal s .f32), (∃ r : s.Idx → ℝ, ∀ i, x i = (r i : EReal)) → ∀ i, ∃ r : ℝ, x i = (r : EReal) := fun x ⟨r, hr⟩ i => ⟨r i, hr i⟩
  exact ⟨fin _ (real_of_test _ _ (fun _ => rfl) (Host.reduce_andi_all _ _ _ _ _ e0)), fin _ (real_of_test _ _ (fun _ => rfl) (Host.reduce_andi_all _ _ _ _ _ e1)),
    fin _ (real_of_test _ _ (fun _ => rfl) (Host.reduce_andi_all _ _ _ _ _ e2)), fin _ (real_of_test _ _ (fun _ => rfl) (Host.reduce_andi_all _ _ _ _ _ e5))⟩

/-- The kernel's text and the idealized one are the same, so they say the same at machine floats. -/
theorem texts_eq : Cert.quiescent_Mixers = ∀ (m : (ℓ : Loc Cert.MixersIdeal.nD Cert.MixersIdeal.τ Cert.MixersIdeal.sig) → Buf (Elt Bits) ℓ)
    (g : Dev Cert.MixersIdeal.nD → PrngReg), True →
    θ_run (Cert.MixersIdeal.defs (F := Bits)) (onTc (τ := Cert.MixersIdeal.τ) (Cert.MixersIdeal.main (F := Bits))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5))
      ∧ r.2.sem = fun _ => 0) := by
  sl_kernel_rfl

/-- The kernel's frame: the idealized text's run, read at machine floats. -/
theorem frame : Cert.quiescent_Mixers := texts_eq.mpr fun m ρ _ => Cert.MixersIdeal.Run.frame (F := Bits) m ρ

/-- The idealized kernel's frame. -/
theorem frame_ideal : Cert.quiescent_MixersIdeal := fun m ρ _ => Cert.MixersIdeal.Run.frame (F := Ideal) m ρ

/-- The reference's frame. -/
theorem frame_ref : Cert.quiescent_MixersRefIdeal := fun m ρ _ =>
  (θ_run Cert.MixersRefIdeal.defs _ _).mono (fun r h => ⟨fun c => (h c).2.2.2.2, Idealize.ShloMosaic.sem_eq_zero_of_no_sems (by decide) r.2⟩)
    (Cert.MixersRefIdeal.Value.run (F := Ideal) m ρ)

section value
open Cert.MixersIdeal Cert.MixersIdeal.Gen Cert.MixersIdeal.Val

/-- The two programs' pooled tokens are the same. -/
theorem pool_eq (m : (ℓ : Loc nD τ sig) → Buf (Elt Ideal) ℓ) (c : Dev nD) (T : ℕ) (hT : T < 4096) (g : Fin 4) (a : Fin 128) :
    pool m c T g.val a.val = Cert.MixersRefIdeal.Val.pooledR (X0 m c) T g.val a.val := by
  have hg := g.isLt; have ha := a.isLt
  have e : (128 * g.val + a.val) / 128 = g.val := by omega
  refine (at2_eq (α := EReal) (poolOut m c) ⟨T, hT⟩ ⟨128 * g.val + a.val, by omega⟩).trans ?_
  show (trail _ (2 ^ ((128 * g.val + a.val) / 128 + 1)) T : EReal) = (trail _ (2 ^ (g.val + 1)) T : EReal)
  rw [e]; rfl

/-- The pooled tokens' gradient: the sum over the tokens ahead, column by column. -/
def duOut (m : (ℓ : Loc nD τ sig) → Buf (Elt Ideal) ℓ) (c : Dev nD) : S4096x512.Idx → EReal := fun j =>
  (lead (dpR m c (j 1).val) (wid (j 1).val) 4096 (j 0).val : EReal)

/-- The pooled columns of the forward output. -/
def mixOut (m : (ℓ : Loc nD τ sig) → Buf (Elt Ideal) ℓ) (c : Dev nD) : S4096x512.Idx → EReal := fun j =>
  (∑ n : Fin 128, pool m c (j 0).val ((j 1).val / 128) n.val * X1 m c (ix4 0 (⟨(j 1).val / 128, by have : (j 1).val < 512 := (j 1).isLt; omega⟩ : Fin 4) n (⟨(j 1).val % 128, Nat.mod_lt _ (by decide)⟩ : Fin 128)))
    * X2 m c (ix2 (0 : Fin 1) (⟨(j 1).val, (j 1).isLt⟩ : Fin 512))

theorem W6_du (m : (ℓ : Loc nD τ sig) → Buf (Elt Ideal) ℓ) (c : Dev nD) (h1 : ∀ j, ∃ r : ℝ, X1 m c j = (r : EReal)) (h2 : ∀ j, ∃ r : ℝ, X2 m c j = (r : EReal))
    (h5 : ∀ j, ∃ r : ℝ, X5 m c j = (r : EReal)) : Run.W6 m c main_v40 = duOut m c := by
  rw [Run.W6_v40, final_dproj m c h1 h2 h5]
  funext j
  obtain ⟨T, b, rfl⟩ : ∃ (T : Fin 4096) (b : Fin 512), j = ix2 T b := ⟨_, _, eq_ix2 j⟩
  have hb := b.isLt
  refine (extractStridedSlice_apply (s := S4096x1280) (t := S4096x512) ![0, 0] _ slices_S4096x1280_S4096x512_0_0 (ix2 T b) (ix2 T ⟨b.val, by omega⟩) ?_).trans ?_
  · intro a
    match a with
    | ⟨0, _⟩ => show T.val = 0 + T.val; omega
    | ⟨1, _⟩ => show b.val = 0 + b.val; omega
  · unfold dprojOut
    exact if_pos hb

theorem W6_mix (m : (ℓ : Loc nD τ sig) → Buf (Elt Ideal) ℓ) (c : Dev nD) (h0 : ∀ j, ∃ r : ℝ, X0 m c j = (r : EReal)) : Run.W6 m c main_v41 = mixOut m c := by
  rw [Run.W6_v41, Run.W5_of m c main_v38_0 (by decide), final_cat m c h0]
  funext j
  obtain ⟨T, b, rfl⟩ : ∃ (T : Fin 4096) (b : Fin 512), j = ix2 T b := ⟨_, _, eq_ix2 j⟩
  have hb := b.isLt
  refine (extractStridedSlice_apply (s := S4096x1024) (t := S4096x512) ![0, 0] _ slices_S4096x1024_S4096x512_0_0 (ix2 T b) (ix2 T ⟨b.val, by omega⟩) ?_).trans ?_
  · intro a
    match a with
    | ⟨0, _⟩ => show T.val = 0 + T.val; omega
    | ⟨1, _⟩ => show b.val = 0 + b.val; omega
  · unfold catOut
    exact dif_pos hb

/-- A column by its group. -/
theorem col (b : Fin 512) : ∃ (g : Fin 4) (a : Fin 128), b.val = 128 * g.val + a.val :=
  ⟨⟨b.val / 128, by have := b.isLt; omega⟩, ⟨b.val % 128, Nat.mod_lt _ (by decide)⟩, by show b.val = 128 * (b.val / 128) + b.val % 128; omega⟩

theorem du_eq (m : (ℓ : Loc nD τ sig) → Buf (Elt Ideal) ℓ) (c : Dev nD) (h1 : ∀ j, ∃ r : ℝ, X1 m c j = (r : EReal)) (h2 : ∀ j, ∃ r : ℝ, X2 m c j = (r : EReal))
    (h5 : ∀ j, ∃ r : ℝ, X5 m c j = (r : EReal)) :
    Cert.MixersRefIdeal.Read.val_main_v361 (F := Ideal) (X0 m c) (X1 m c) (X2 m c) (X3 m c) (X4 m c) (X5 m c) = duOut m c := by
  funext j
  obtain ⟨T, b, rfl⟩ : ∃ (T : Fin 4096) (b : Fin 512), j = ix2 T b := ⟨_, _, eq_ix2 j⟩
  obtain ⟨g, a, hb⟩ := col b
  have hg := g.isLt; have ha := a.isLt
  refine (Cert.MixersRefIdeal.Val.du_read (X1 m c) (X2 m c) (X5 m c) (fun g a T => (dpool (X1 m c) (X2 m c) (X5 m c) g a T).toReal)
    (fun T g a => (Cert.MixersRefIdeal.Val.v291_read (X1 m c) (X2 m c) (X5 m c) T g a).trans (dpool_coe h1 h2 h5 g a T.val)) (X0 m c) (X3 m c) (X4 m c) T g a b hb).trans ?_
  have eg : b.val / 128 = g.val := by omega
  have ea : b.val % 128 = a.val := by omega
  show _ = (lead (fun T => (dpool (X1 m c) (X2 m c) (X5 m c) ⟨b.val / 128 % 4, _⟩ ⟨b.val % 128, _⟩ T).toReal) (2 ^ (b.val / 128 + 1)) 4096 T.val : EReal)
  have e1 : (⟨b.val / 128 % 4, Nat.mod_lt _ (by decide)⟩ : Fin 4) = g := Fin.ext (by show b.val / 128 % 4 = g.val; omega)
  have e2 : (⟨b.val % 128, Nat.mod_lt _ (by decide)⟩ : Fin 128) = a := Fin.ext ea
  rw [e1, e2, eg]

theorem mix_eq (m : (ℓ : Loc nD τ sig) → Buf (Elt Ideal) ℓ) (c : Dev nD) (h0 : ∀ j, ∃ r : ℝ, X0 m c j = (r : EReal)) :
    Cert.MixersRefIdeal.Read.val_main_v363 (F := Ideal) (X0 m c) (X1 m c) (X2 m c) (X3 m c) (X4 m c) = mixOut m c := by
  funext j
  obtain ⟨T, b, rfl⟩ : ∃ (T : Fin 4096) (b : Fin 512), j = ix2 T b := ⟨_, _, eq_ix2 j⟩
  obtain ⟨g, a, hb⟩ := col b
  have hg := g.isLt; have ha := a.isLt; have hbl := b.isLt
  refine (Cert.MixersRefIdeal.Val.cat_read (X0 m c) (X1 m c) (X2 m c) (X3 m c) (X4 m c) h0 T g a b hb).trans ?_
  show _ = (∑ n : Fin 128, pool m c T.val (b.val / 128) n.val * X1 m c (ix4 0 (⟨b.val / 128, by omega⟩ : Fin 4) n (⟨b.val % 128, Nat.mod_lt _ (by decide)⟩ : Fin 128))) * X2 m c (ix2 (0 : Fin 1) b)
  have e1 : (⟨b.val / 128, by omega⟩ : Fin 4) = g := Fin.ext (by show b.val / 128 = g.val; omega)
  have e2 : (⟨b.val % 128, Nat.mod_lt _ (by decide)⟩ : Fin 128) = a := Fin.ext (by show b.val % 128 = a.val; omega)
  rw [e1, e2, show b.val / 128 = g.val by omega]
  refine congrArg (· * _) (Finset.sum_congr rfl fun k _ => ?_)
  rw [pool_eq m c T.val T.isLt g k]

/-- The value: on finite arguments the four results are the forward lines' and their derivative's. -/
theorem value : Cert.algebraic_MixersIdeal_MixersRefIdeal_pre_finite_mixers := by
  intro m ρ m' ρ' hpre hagree
  have hr := fun c => pre_reals _ _ _ _ _ _ (hpre c)
  have hX := fun c => (hr c).1
  have h1 := fun c => (hr c).2.1
  have h2 := fun c => (hr c).2.2.1
  have h5 := fun c => (hr c).2.2.2
  refine ⟨fun c => dwOut m c, fun c => dsOut m c, fun c => duOut m c, fun c => mixOut m c, ?_, ?_⟩
  · refine (θ_run defs _ _).mono (fun _ h c => ⟨
      (h.1 c _ (Run.mem_uc main_v39_3 (by decide))).trans ((Run.W6_of m c main_v39_3 (by decide)).trans (final_dw m c (hX c))),
      (h.1 c _ (Run.mem_uc main_v39_4 (by decide))).trans ((Run.W6_of m c main_v39_4 (by decide)).trans (final_ds m c (hX c))),
      (h.1 c _ (Run.mem_uc main_v40 (by decide))).trans (W6_du m c (h1 c) (h2 c) (h5 c)),
      (h.1 c _ (Run.mem_uc main_v41 (by decide))).trans (W6_mix m c (hX c)),
      (h.1 c _ (Run.mem_uc main_arg0 (by decide))).trans (Run.W6_kept m c main_arg0 (by decide) (by decide) (by decide) (by decide) (by decide) (by decide)),
      (h.1 c _ (Run.mem_uc main_arg1 (by decide))).trans (Run.W6_kept m c main_arg1 (by decide) (by decide) (by decide) (by decide) (by decide) (by decide)),
      (h.1 c _ (Run.mem_uc main_arg2 (by decide))).trans (Run.W6_kept m c main_arg2 (by decide) (by decide) (by decide) (by decide) (by decide) (by decide)),
      (h.1 c _ (Run.mem_uc main_arg3 (by decide))).trans (Run.W6_kept m c main_arg3 (by decide) (by decide) (by decide) (by decide) (by decide) (by decide)),
      (h.1 c _ (Run.mem_uc main_arg4 (by decide))).trans (Run.W6_kept m c main_arg4 (by decide) (by decide) (by decide) (by decide) (by decide) (by decide)),
      (h.1 c _ (Run.mem_uc main_arg5 (by decide))).trans (Run.W6_kept m c main_arg5 (by decide) (by decide) (by decide) (by decide) (by decide) (by decide))⟩)
      (Run.run_all (F := Ideal) m ρ)
  · refine (θ_run Cert.MixersRefIdeal.defs _ _).mono (fun _ h c => ⟨(h c).1.trans ?_, (h c).2.1.trans ?_, (h c).2.2.1.trans ?_, (h c).2.2.2.1.trans ?_, (h c).2.2.2.2⟩)
      (Cert.MixersRefIdeal.Value.run (F := Ideal) m' ρ')
    · obtain ⟨e0, e1, e2, e3, e4, e5⟩ := hagree c
      rw [Cert.MixersRefIdeal.Read.val_main_v358_eq]
      change Cert.MixersRefIdeal.Read.val_main_v358 (F := Ideal) (m' ((c.tc : Thread Cert.MixersRefIdeal.nD Cert.MixersRefIdeal.τ).loc Cert.MixersRefIdeal.main_arg0)) (m' ((c.tc : Thread Cert.MixersRefIdeal.nD Cert.MixersRefIdeal.τ).loc Cert.MixersRefIdeal.main_arg2))
        (m' ((c.tc : Thread Cert.MixersRefIdeal.nD Cert.MixersRefIdeal.τ).loc Cert.MixersRefIdeal.main_arg5)) = _
      rw [e0, e2, e5]
      funext j
      obtain ⟨g, a, b, rfl⟩ : ∃ (g : Fin 4) (a b : Fin 128), j = ix3 g a b := ⟨_, _, _, eq_ix3 j⟩
      refine (Cert.MixersRefIdeal.Val.dw_read (X0 m c) (X2 m c) (X5 m c) (hX c) g a b).trans (Finset.sum_congr rfl fun T hT => ?_)
      rw [← pool_eq m c T (Finset.mem_range.mp hT) g a]; rfl
    · obtain ⟨e0, e1, e2, e3, e4, e5⟩ := hagree c
      rw [Cert.MixersRefIdeal.Read.val_main_v359_eq]
      change Cert.MixersRefIdeal.Read.val_main_v359 (F := Ideal) (m' ((c.tc : Thread Cert.MixersRefIdeal.nD Cert.MixersRefIdeal.τ).loc Cert.MixersRefIdeal.main_arg0)) (m' ((c.tc : Thread Cert.MixersRefIdeal.nD Cert.MixersRefIdeal.τ).loc Cert.MixersRefIdeal.main_arg1))
        (m' ((c.tc : Thread Cert.MixersRefIdeal.nD Cert.MixersRefIdeal.τ).loc Cert.MixersRefIdeal.main_arg5)) = _
      rw [e0, e1, e5]
      funext j
      obtain ⟨g, a, rfl⟩ : ∃ (g : Fin 4) (a : Fin 128), j = ix2 g a := ⟨_, _, eq_ix2 j⟩
      refine (Cert.MixersRefIdeal.Val.ds_read (X0 m c) (X1 m c) (X5 m c) (hX c) g a).trans (Finset.sum_congr rfl fun T hT => ?_)
      refine congrArg (_ * ·) (Finset.sum_congr rfl fun k _ => ?_)
      rw [← pool_eq m c T (Finset.mem_range.mp hT) g k]; rfl
    · obtain ⟨e0, e1, e2, e3, e4, e5⟩ := hagree c
      rw [Cert.MixersRefIdeal.Read.val_main_v361_eq]
      change Cert.MixersRefIdeal.Read.val_main_v361 (F := Ideal) (m' ((c.tc : Thread Cert.MixersRefIdeal.nD Cert.MixersRefIdeal.τ).loc Cert.MixersRefIdeal.main_arg0))
        (m' ((c.tc : Thread Cert.MixersRefIdeal.nD Cert.MixersRefIdeal.τ).loc Cert.MixersRefIdeal.main_arg1))
        (m' ((c.tc : Thread Cert.MixersRefIdeal.nD Cert.MixersRefIdeal.τ).loc Cert.MixersRefIdeal.main_arg2))
        (m' ((c.tc : Thread Cert.MixersRefIdeal.nD Cert.MixersRefIdeal.τ).loc Cert.MixersRefIdeal.main_arg3))
        (m' ((c.tc : Thread Cert.MixersRefIdeal.nD Cert.MixersRefIdeal.τ).loc Cert.MixersRefIdeal.main_arg4))
        (m' ((c.tc : Thread Cert.MixersRefIdeal.nD Cert.MixersRefIdeal.τ).loc Cert.MixersRefIdeal.main_arg5)) = _
      rw [e0, e1, e2, e3, e4, e5]
      exact du_eq m c (h1 c) (h2 c) (h5 c)
    · obtain ⟨e0, e1, e2, e3, e4, e5⟩ := hagree c
      rw [Cert.MixersRefIdeal.Read.val_main_v363_eq]
      change Cert.MixersRefIdeal.Read.val_main_v363 (F := Ideal) (m' ((c.tc : Thread Cert.MixersRefIdeal.nD Cert.MixersRefIdeal.τ).loc Cert.MixersRefIdeal.main_arg0))
        (m' ((c.tc : Thread Cert.MixersRefIdeal.nD Cert.MixersRefIdeal.τ).loc Cert.MixersRefIdeal.main_arg1))
        (m' ((c.tc : Thread Cert.MixersRefIdeal.nD Cert.MixersRefIdeal.τ).loc Cert.MixersRefIdeal.main_arg2))
        (m' ((c.tc : Thread Cert.MixersRefIdeal.nD Cert.MixersRefIdeal.τ).loc Cert.MixersRefIdeal.main_arg3))
        (m' ((c.tc : Thread Cert.MixersRefIdeal.nD Cert.MixersRefIdeal.τ).loc Cert.MixersRefIdeal.main_arg4)) = _
      rw [e0, e1, e2, e3, e4]
      exact mix_eq m c (hX c)

end value

end Cert.MixersProof
end
-- ==== Proof.GateFwd.lean ====
/-
  The forward call of the gated unit: what it computes and leaves, point by point.
-/
module

public import proofs.«01_k».proof.Proof.Gen.GateIdeal.Skeleton
public import proofs.«01_k».proof.Proof.Gen.GateIdeal.Points
public import proofs.«01_k».proof.Proof.Gen.GateIdeal.Regions
public import proofs.«01_k».proof.Proof.Buffers

@[expose] public section

set_option maxRecDepth 16384

noncomputable section

namespace Cert.GateIdeal.Fwd

open Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs the forward body is handed. -/
structure Args where
  arg2 : Memref sig .tc .vmem S1024x1024 .bf16
  harg2 : arg2.IsWhole
  arg3 : Memref sig .tc .vmem S4x352x1024 .bf16
  harg3 : arg3.IsWhole
  arg4 : Memref sig .tc .vmem S4x352x1024 .bf16
  harg4 : arg4.IsWhole
  arg5 : Memref sig .tc .vmem S1024x1408 .bf16
  harg5 : arg5.IsWhole
  arg6 : Memref sig .tc .vmem S1024x1408 .bf16
  harg6 : arg6.IsWhole
  arg7 : Memref sig .tc .vmem S1024x1408 .bf16
  harg7 : arg7.IsWhole

/-- The printed body on the memrefs `a`. -/
abbrev body (i : grid0.Coords) (a : Args) :=
  cc0_ffn_up (F := F) i a.arg2 a.harg2 a.arg3 a.harg3 a.arg4 a.harg4 a.arg5 a.harg5 a.arg6 a.harg6 a.arg7 a.harg7

/-- The pieces the body stores, one list per output. -/
structure Lists (F : FTy → Type) where
  gate : List (View.Piece (Elt F) S1024x1408 .bf16)
  up : List (View.Piece (Elt F) S1024x1408 .bf16)
  act : List (View.Piece (Elt F) S1024x1408 .bf16)

set_option maxHeartbeats 1600000 in
/-- The body's run. -/
noncomputable def run (c : Dev nD) (i : grid0.Coords) (a : Args) (x0 : Vec F S1024x1024 .bf16) (x1 x2 : Vec F S4x352x1024 .bf16) :
    { L : Lists F // ∀ (E : Set ℕ) (K : PUnit → sProp 𝕄),
        iprop(holds c a.arg2 x0 ∗ holds c a.arg3 x1 ∗ holds c a.arg4 x2
          ∗ anyIn c a.arg5 ∗ anyIn c a.arg6 ∗ anyIn c a.arg7
          ∗ (iprop(holds c a.arg2 x0 ∗ holds c a.arg3 x1 ∗ holds c a.arg4 x2 ∗ stored c a.arg5 L.gate
            ∗ stored c a.arg6 L.up ∗ stored c a.arg7 L.act) -∗ K ⟨⟩))
          ⊢ wp frame (wpE (defs₀ (F := F)) Variants.none c none) E (body i a) K } := by
  obtain ⟨arg2, harg2, arg3, harg3, arg4, harg4, arg5, harg5, arg6, harg6, arg7, harg7⟩ := a
  refine ⟨⟨?_, ?_, ?_⟩, fun E K => ?run⟩
  case run =>
    dsimp only [body, anyIn, holds, stored, storedOver]
    simp only [cc0_ffn_up_eq_skeleton]; unfold cc0_ffn_up_skel
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf2; obtain rfl := harg3.eq_unread hf3; obtain rfl := harg4.eq_unread hf4
    sl_exec
    sl_step
    iapply Hk
    isplitl [H2]; · iapply hold_back c harg2; iexact H2
    isplitl [H3]; · iapply hold_back c harg3; iexact H3
    isplitl [H4]; · iapply hold_back c harg4; iexact H4
    isplitl [H5]; · iexists _; iexact H5
    isplitl [H6]; · iexists _; iexact H6
    iexists _; iexact H7

section Regions

-- The unscoped buffers as the region finds them.
variable (V : (c : Dev nD) → (b : Ref sig .tc) → Buf (Elt F) ((c : Thread nD τ).loc b))

/-- At every point the part of a block that is moved is the whole block. -/
theorem xsize_all : ∀ w : Fin cfg0.W, ∀ t : Fin cfg0.N, ∀ a, (cfg0.win w).xsize (cfg0.grid.coords t) a = (cfg0.win w).size a := by
  decide +kernel

/-- Window `w`'s block at point `t`, read off its array. -/
def X (c : Dev nD) (w : Fin cfg0.W) (t : Fin cfg0.N) : (cfg0.win w).block.Idx → Elt F (cfg0.win w).elt :=
  (cfg0.win w).fill (cfg0.grid.coords t) (fun _ => Classical.choice inferInstance)
    (((cfg0.win w).blk t).view.read (Elt F) (V c (Pipeline.arrRef spec0 w)))

/-- The memrefs the body is handed at point `t`. -/
abbrev args (t : Fin cfg0.N) : Args where
  arg2 := win0_0.stage (cfg0.slots t 0)
  harg2 := hstage0_0 ((cfg0.slots t 0).cast nbuf0_0)
  arg3 := win0_1.stage (cfg0.slots t 1)
  harg3 := hstage0_1 ((cfg0.slots t 1).cast nbuf0_1)
  arg4 := win0_2.stage (cfg0.slots t 2)
  harg4 := hstage0_2 ((cfg0.slots t 2).cast nbuf0_2)
  arg5 := win0_3.stage (cfg0.slots t 3)
  harg5 := hstage0_3 ((cfg0.slots t 3).cast nbuf0_3)
  arg6 := win0_4.stage (cfg0.slots t 4)
  harg6 := hstage0_4 ((cfg0.slots t 4).cast nbuf0_4)
  arg7 := win0_5.stage (cfg0.slots t 5)
  harg7 := hstage0_5 ((cfg0.slots t 5).cast nbuf0_5)

/-- The run at point `t`. -/
abbrev rA (c : Dev nD) (t : Fin cfg0.N) := run (F := F) c (grid0.coords t) (args t) (X V c 0 t) (X V c 1 t) (X V c 2 t)

section
variable (c : Dev nD) (t : Fin cfg0.N)
theorem cover_gate : ∀ y, ∃ p ∈ (rA V c t).1.gate, y ∈ p.1.set :=
  View.cover_of_tiledL _ ![1024, 1408] (by sl_kernel_rfl)
theorem cover_up : ∀ y, ∃ p ∈ (rA V c t).1.up, y ∈ p.1.set :=
  View.cover_of_tiledL _ ![1024, 1408] (by sl_kernel_rfl)
theorem cover_act : ∀ y, ∃ p ∈ (rA V c t).1.act, y ∈ p.1.set :=
  View.cover_of_tiledL _ ![1024, 1408] (by sl_kernel_rfl)
end

/-- Before a point: the scoped buffers that are no staging buffer, and the generator register. -/
def Phi (c : Dev nD) : sProp 𝕄 :=
  iprop(Pipeline.scopedRest (Ix := Unit) (Name := ℕ) (U := UR sig nD τ) (Lvl := ℕ) (Val := Elt F) spec0 c ∗ (∃ r, prngReg c r))

/-- The forward pipeline's proof data. -/
def dat (c : Dev nD) : Dat τ (Elt F) Unit ℕ (UR sig nD τ) ℕ cfg0 c where
  A w := V c (Pipeline.arrRef spec0 w)
  after w t := match w with
    | ⟨0, _⟩ => X V c 0 t
    | ⟨1, _⟩ => X V c 1 t
    | ⟨2, _⟩ => X V c 2 t
    | ⟨3, _⟩ => View.canon (rA V c t).1.gate
    | ⟨4, _⟩ => View.canon (rA V c t).1.up
    | ⟨5, _⟩ => View.canon (rA V c t).1.act
    | ⟨n + 6, h⟩ => (Nat.not_lt.mpr (Nat.le_add_left 6 n) h).elim
  Φ _ := Phi c
  q w := Pipeline.shareOf spec0 w
  owed _ := 0

theorem A_eq (c : Dev nD) (w : Fin cfg0.W) : (dat V c).A w = V c (Pipeline.arrRef spec0 w) := by dsimp only [dat]
/-- The body leaves an input block as it is, -/
theorem after_in (c : Dev nD) (w : Fin cfg0.W) (hw : (cfg0.win w).isOut = false) (t : Fin cfg0.N) :
    (dat V c).after w t = X V c w t := by
  fin_cases w <;> first | exact absurd hw (by decide) | rfl
/-- and finds it in the buffer. -/
theorem before_in (c : Dev nD) (w : Fin cfg0.W) (hw : (cfg0.win w).isOut = false) (t : Fin cfg0.N) (d) :
    (dat V c).before w t d = X V c w t := by
  refine (before_of (dat V c) w (xsize_all w) hw ?_ ?_ (after_in V c w hw) t d).trans (after_in V c w hw t)
  · clear d; fin_cases w <;> first | exact fun _ => rfl | exact absurd hw (by decide)
  · clear d; fin_cases w <;> first | exact fun _ _ _ => rfl | exact absurd hw (by decide)
theorem after_3 (c : Dev nD) (t : Fin cfg0.N) : (dat V c).after 3 t = View.canon (rA V c t).1.gate := by dsimp only [dat]
theorem after_4 (c : Dev nD) (t : Fin cfg0.N) : (dat V c).after 4 t = View.canon (rA V c t).1.up := by dsimp only [dat]
theorem after_5 (c : Dev nD) (t : Fin cfg0.N) : (dat V c).after 5 t = View.canon (rA V c t).1.act := by dsimp only [dat]

/-- What the body is called with at point `t`, window by window, -/
def bodyPre (c : Dev nD) (t : Fin cfg0.N) : sProp 𝕄 :=
  iprop(Phi c ∗ (dat V c).owesAt () t.castSucc
    ∗ (∃ d, holds c (args t).arg2 ((dat V c).before 0 t d)) ∗ (∃ d, holds c (args t).arg3 ((dat V c).before 1 t d))
    ∗ (∃ d, holds c (args t).arg4 ((dat V c).before 2 t d)) ∗ (∃ d, holds c (args t).arg5 ((dat V c).before 3 t d))
    ∗ (∃ d, holds c (args t).arg6 ((dat V c).before 4 t d)) ∗ (∃ d, holds c (args t).arg7 ((dat V c).before 5 t d)))

/-- and what it returns. -/
def bodyPost (c : Dev nD) (t : Fin cfg0.N) : sProp 𝕄 :=
  iprop(Phi c ∗ (dat V c).owesAt () t.succ
    ∗ holds c (args t).arg2 ((dat V c).after 0 t) ∗ holds c (args t).arg3 ((dat V c).after 1 t)
    ∗ holds c (args t).arg4 ((dat V c).after 2 t) ∗ holds c (args t).arg5 ((dat V c).after 3 t)
    ∗ holds c (args t).arg6 ((dat V c).after 4 t) ∗ holds c (args t).arg7 ((dat V c).after 5 t))

set_option maxHeartbeats 2400000 in
/-- The body at any point, by its run. -/
theorem sound_body (c : Dev nD) (t : Fin cfg0.N) :
    bodyPre V c t ⊢ wp frame (wpE (defs₀ (F := F)) Variants.none c none) Set.univ (bodyAt0 t) (fun _ => bodyPost V c t) := by
  unfold bodyPre bodyPost
  simp (disch := rfl) only [before_in, after_in]
  rw [show (dat V c).owesAt () t.succ = (dat V c).owesAt () t.castSucc from rfl, after_3, after_4, after_5]
  show _ ⊢ wp frame _ Set.univ (body (grid0.coords t) (args t)) _
  iintro ⟨Hphi, Ho, ⟨%d2, H2⟩, ⟨%d3, H3⟩, ⟨%d4, H4⟩, ⟨%d5, H5⟩, ⟨%d6, H6⟩, ⟨%d7, H7⟩⟩
  iapply ((rA V c t).2 Set.univ _)
  iframel H2 H3 H4
  isplitl [H5]; · iexists _; iexact H5
  isplitl [H6]; · iexists _; iexact H6
  isplitl [H7]; · iexists _; iexact H7
  iintro ⟨H2, H3, H4, ⟨%e5, H5⟩, ⟨%e6, H6⟩, ⟨%e7, H7⟩⟩
  iframel Hphi Ho H2 H3 H4
  isplitl [H5]; · iapply hold_written (cover_gate V c t); iexact H5
  isplitl [H6]; · iapply hold_written (cover_up V c t); iexact H6
  iapply hold_written (cover_act V c t); iexact H7

/-- The library's body obligation at every point. -/
theorem obligation (c : Dev nD) : BodyObligation (dat (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body V c t) rfl .rfl fun _ => .rfl

end Regions

end Cert.GateIdeal.Fwd

end
-- ==== Proof.GateRuns.lean ====
/-
  The backward body of the gated unit: its memrefs and its run at a first, a middle and a last point of a column tile.
-/
module

public import proofs.«01_k».proof.Proof.Gen.GateIdeal.Skeleton
public import proofs.«01_k».proof.Proof.Gen.GateIdeal.Points
public import proofs.«01_k».proof.Proof.Gen.GateIdeal.Regions
public import proofs.«01_k».proof.Proof.Buffers

@[expose] public section

set_option maxRecDepth 16384

noncomputable section

namespace Cert.GateIdeal.Bwd

open Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs the backward body is handed. -/
structure Args where
  arg2 : Memref sig .tc .vmem S512x1024 .bf16
  harg2 : arg2.IsWhole
  arg3 : Memref sig .tc .vmem S4x352x1024 .bf16
  harg3 : arg3.IsWhole
  arg4 : Memref sig .tc .vmem S512x1408 .bf16
  harg4 : arg4.IsWhole
  arg5 : Memref sig .tc .vmem S512x1408 .bf16
  harg5 : arg5.IsWhole
  arg6 : Memref sig .tc .vmem S512x1024 .bf16
  harg6 : arg6.IsWhole
  arg7 : Memref sig .tc .vmem S512x1408 .bf16
  harg7 : arg7.IsWhole
  arg8 : Memref sig .tc .vmem S512x1408 .bf16
  harg8 : arg8.IsWhole
  arg9 : Memref sig .tc .vmem S2x2x352x1024 .bf16
  harg9 : arg9.IsWhole
  arg10 : Memref sig .tc .vmem S2x2x352x1024 .bf16
  harg10 : arg10.IsWhole
  arg11 : Memref sig .tc .vmem S2x1408x1024 .f32
  harg11 : arg11.IsWhole

/-- What the input windows hold. -/
structure Ins (F : FTy → Type) where
  x0 : Vec F S512x1024 .bf16
  x1 : Vec F S4x352x1024 .bf16
  x2 : Vec F S512x1408 .bf16
  x3 : Vec F S512x1408 .bf16
  x4 : Vec F S512x1024 .bf16

/-- The printed body on the memrefs `a`. -/
abbrev body (i : grid1.Coords) (a : Args) :=
  cc1_ffn_down_bwd (F := F) i a.arg2 a.harg2 a.arg3 a.harg3 a.arg4 a.harg4 a.arg5 a.harg5 a.arg6 a.harg6 a.arg7 a.harg7 a.arg8 a.harg8 a.arg9 a.harg9 a.arg10 a.harg10 a.arg11 a.harg11

/-- The input windows, each holding its block. -/
abbrev ins (c : Dev nD) (a : Args) (x : Ins F) : sProp 𝕄 :=
  iprop(holds c a.arg2 x.x0 ∗ holds c a.arg3 x.x1 ∗ holds c a.arg4 x.x2 ∗ holds c a.arg5 x.x3 ∗ holds c a.arg6 x.x4)

/-- The sums are cleared where the token tile is the first. -/
abbrev cond1 (i : grid1.Coords) : Prop := (Scalar.cmpi .ne (Scalar.extui (Scalar.cmpi .eq (BitVec.ofNat 32 (i 1).val) 0#32)) 0#32) = 1#1

/-- The pieces the body stores, one list per buffer. -/
structure Lists (F : FTy → Type) where
  dgate : List (View.Piece (Elt F) S512x1408 .bf16)
  dup : List (View.Piece (Elt F) S512x1408 .bf16)
  acc : List (View.Piece (Elt F) S2x1408x1024 .f32)

/-- The pieces it stores at the last token tile. -/
structure ListsC (F : FTy → Type) extends Lists F where
  dwg : List (View.Piece (Elt F) S2x2x352x1024 .bf16)
  dwu : List (View.Piece (Elt F) S2x2x352x1024 .bf16)

set_option maxHeartbeats 3200000 in
/-- The body's run at the first token tile: the sums start from zero. -/
noncomputable def runA (c : Dev nD) (i : grid1.Coords) (a : Args) (hc1 : cond1 i) (hc2 : ¬k1_cond2 i = 1#1) (x : Ins F) :
    { L : Lists F // ∀ (E : Set ℕ) (K : PUnit → sProp 𝕄),
        iprop(ins c a x ∗ anyIn c a.arg7 ∗ anyIn c a.arg8 ∗ anyIn c a.arg11
          ∗ (iprop(ins c a x ∗ stored c a.arg7 L.dgate ∗ stored c a.arg8 L.dup ∗ stored c a.arg11 L.acc) -∗ K ⟨⟩))
          ⊢ wp frame (wpE (defs₀ (F := F)) Variants.none c none) E (body i a) K } := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  refine ⟨⟨?_, ?_, ?_⟩, fun E K => ?run⟩
  case run =>
    dsimp only [body, ins, anyIn, holds, stored, storedOver]
    simp only [cc1_ffn_down_bwd_eq_skeleton]; unfold cc1_ffn_down_bwd_skel
    simp only [k1_part2_eq_skeleton, k1_part1_eq_skeleton]
    unfold owns
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d11, %f11, -, H11⟩, Hk⟩
    obtain rfl := harg2.eq_unread hf2; obtain rfl := harg3.eq_unread hf3; obtain rfl := harg4.eq_unread hf4; obtain rfl := harg5.eq_unread hf5; obtain rfl := harg6.eq_unread hf6
    sl_exec (disch := first | sl_exact hc1 | sl_exact hc2)
    sl_step
    iapply Hk
    isplitl [H2 H3 H4 H5 H6]
    · isplitl [H2]; · iapply hold_back c harg2; iexact H2
      isplitl [H3]; · iapply hold_back c harg3; iexact H3
      isplitl [H4]; · iapply hold_back c harg4; iexact H4
      isplitl [H5]; · iapply hold_back c harg5; iexact H5
      iapply hold_back c harg6; iexact H6
    isplitl [H7]; · iexists _; iexact H7
    isplitl [H8]; · iexists _; iexact H8
    iexists _; iexact H11

set_option maxHeartbeats 3200000 in
/-- The body's run at a middle token tile: the sums go on from `s`. -/
noncomputable def runB (c : Dev nD) (i : grid1.Coords) (a : Args) (hc1 : ¬cond1 i) (hc2 : ¬k1_cond2 i = 1#1) (x : Ins F) (s : Vec F S2x1408x1024 .f32) :
    { L : Lists F // ∀ (E : Set ℕ) (K : PUnit → sProp 𝕄),
        iprop(ins c a x ∗ anyIn c a.arg7 ∗ anyIn c a.arg8 ∗ holds c a.arg11 s
          ∗ (iprop(ins c a x ∗ stored c a.arg7 L.dgate ∗ stored c a.arg8 L.dup ∗ stored c a.arg11 L.acc) -∗ K ⟨⟩))
          ⊢ wp frame (wpE (defs₀ (F := F)) Variants.none c none) E (body i a) K } := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  refine ⟨⟨?_, ?_, ?_⟩, fun E K => ?run⟩
  case run =>
    dsimp only [body, ins, anyIn, holds, stored, storedOver]
    simp only [cc1_ffn_down_bwd_eq_skeleton]; unfold cc1_ffn_down_bwd_skel
    simp only [k1_part2_eq_skeleton, k1_part1_eq_skeleton]
    unfold owns
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg11.eq_unread hf11
    sl_exec (disch := first | sl_exact hc1 | sl_exact hc2)
    sl_step
    iapply Hk
    isplitl [H2 H3 H4 H5 H6]
    · isplitl [H2]; · iapply hold_back c harg2; iexact H2
      isplitl [H3]; · iapply hold_back c harg3; iexact H3
      isplitl [H4]; · iapply hold_back c harg4; iexact H4
      isplitl [H5]; · iapply hold_back c harg5; iexact H5
      iapply hold_back c harg6; iexact H6
    isplitl [H7]; · iexists _; iexact H7
    isplitl [H8]; · iexists _; iexact H8
    iexists _; iexact H11

set_option maxHeartbeats 3200000 in
/-- The body's run at the last token tile: the sums go on from `s` and are written out. -/
noncomputable def runC (c : Dev nD) (i : grid1.Coords) (a : Args) (hc1 : ¬cond1 i) (hc2 : k1_cond2 i = 1#1) (x : Ins F) (s : Vec F S2x1408x1024 .f32) :
    { L : ListsC F // ∀ (E : Set ℕ) (K : PUnit → sProp 𝕄),
        iprop(ins c a x ∗ anyIn c a.arg7 ∗ anyIn c a.arg8 ∗ anyIn c a.arg9 ∗ anyIn c a.arg10 ∗ holds c a.arg11 s
          ∗ (iprop(ins c a x ∗ stored c a.arg7 L.dgate ∗ stored c a.arg8 L.dup ∗ stored c a.arg9 L.dwg
            ∗ stored c a.arg10 L.dwu ∗ stored c a.arg11 L.acc) -∗ K ⟨⟩))
          ⊢ wp frame (wpE (defs₀ (F := F)) Variants.none c none) E (body i a) K } := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  refine ⟨⟨⟨?_, ?_, ?_⟩, ?_, ?_⟩, fun E K => ?run⟩
  case run =>
    dsimp only [body, ins, anyIn, holds, stored, storedOver]
    simp only [cc1_ffn_down_bwd_eq_skeleton]; unfold cc1_ffn_down_bwd_skel
    simp only [k1_part2_eq_skeleton, k1_part1_eq_skeleton]
    unfold owns
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg11.eq_unread hf11
    sl_exec (disch := first | sl_exact hc1 | sl_exact hc2)
    sl_step
    iapply Hk
    isplitl [H2 H3 H4 H5 H6]
    · isplitl [H2]; · iapply hold_back c harg2; iexact H2
      isplitl [H3]; · iapply hold_back c harg3; iexact H3
      isplitl [H4]; · iapply hold_back c harg4; iexact H4
      isplitl [H5]; · iapply hold_back c harg5; iexact H5
      iapply hold_back c harg6; iexact H6
    isplitl [H7]; · iexists _; iexact H7
    isplitl [H8]; · iexists _; iexact H8
    isplitl [H9]; · iexists _; iexact H9
    isplitl [H10]; · iexists _; iexact H10
    iexists _; iexact H11

end Cert.GateIdeal.Bwd

end
-- ==== Proof.GateDat.lean ====
/-
  The backward call of the gated unit: the two sums carried along the token tiles, and what each point leaves.
-/
module

public import proofs.«01_k».proof.Proof.GateRuns

@[expose] public section

set_option maxRecDepth 16384

noncomputable section

namespace Cert.GateIdeal.Bwd

open Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- The unscoped buffers as the region finds them.
variable (V : (c : Dev nD) → (b : Ref sig .tc) → Buf (Elt F) ((c : Thread nD τ).loc b))

/-- At every point the part of a block that is moved is the whole block. -/
theorem xsize_all : ∀ w : Fin cfg1.W, ∀ t : Fin cfg1.N, ∀ a, (cfg1.win w).xsize (cfg1.grid.coords t) a = (cfg1.win w).size a := by
  decide +kernel

/-- Window `w`'s block at point `t`, read off its array. -/
def X (c : Dev nD) (w : Fin cfg1.W) (t : Fin cfg1.N) : (cfg1.win w).block.Idx → Elt F (cfg1.win w).elt :=
  (cfg1.win w).fill (cfg1.grid.coords t) (fun _ => Classical.choice inferInstance)
    (((cfg1.win w).blk t).view.read (Elt F) (V c (Pipeline.arrRef spec1 w)))

/-- The memrefs the body is handed at point `t`. -/
abbrev args (t : Fin cfg1.N) : Args where
  arg2 := win1_0.stage (cfg1.slots t 0)
  harg2 := hstage1_0 ((cfg1.slots t 0).cast nbuf1_0)
  arg3 := win1_1.stage (cfg1.slots t 1)
  harg3 := hstage1_1 ((cfg1.slots t 1).cast nbuf1_1)
  arg4 := win1_2.stage (cfg1.slots t 2)
  harg4 := hstage1_2 ((cfg1.slots t 2).cast nbuf1_2)
  arg5 := win1_3.stage (cfg1.slots t 3)
  harg5 := hstage1_3 ((cfg1.slots t 3).cast nbuf1_3)
  arg6 := win1_4.stage (cfg1.slots t 4)
  harg6 := hstage1_4 ((cfg1.slots t 4).cast nbuf1_4)
  arg7 := win1_5.stage (cfg1.slots t 5)
  harg7 := hstage1_5 ((cfg1.slots t 5).cast nbuf1_5)
  arg8 := win1_6.stage (cfg1.slots t 6)
  harg8 := hstage1_6 ((cfg1.slots t 6).cast nbuf1_6)
  arg9 := win1_7.stage (cfg1.slots t 7)
  harg9 := hstage1_7 ((cfg1.slots t 7).cast nbuf1_7)
  arg10 := win1_8.stage (cfg1.slots t 8)
  harg10 := hstage1_8 ((cfg1.slots t 8).cast nbuf1_8)
  arg11 := Memref.whole cc1_scratch0
  harg11 := Memref.isWhole_whole _

/-- The input blocks at point `t`. -/
abbrev blocks (c : Dev nD) (t : Fin cfg1.N) : Ins F where
  x0 := X V c 0 t
  x1 := X V c 1 t
  x2 := X V c 2 t
  x3 := X V c 3 t
  x4 := X V c 4 t

theorem cond1_iff : ∀ t : Fin cfg1.N, cond1 (grid1.coords t) ↔ t.val % 8 = 0 := by decide +kernel
theorem cond2_iff : ∀ t : Fin cfg1.N, k1_cond2 (grid1.coords t) = 1#1 ↔ t.val % 8 = 7 := by decide +kernel

/-- The run at a first token tile, -/
abbrev rA (c : Dev nD) (t : Fin cfg1.N) (h : t.val % 8 = 0) :=
  runA (F := F) c (grid1.coords t) (args t) ((cond1_iff t).mpr h) (fun e => by have := (cond2_iff t).mp e; omega) (blocks V c t)
/-- at a middle one, -/
abbrev rB (c : Dev nD) (t : Fin cfg1.N) (h : ¬t.val % 8 = 0) (h' : ¬t.val % 8 = 7) (s : Vec F S2x1408x1024 .f32) :=
  runB (F := F) c (grid1.coords t) (args t) (fun e => h ((cond1_iff t).mp e)) (fun e => h' ((cond2_iff t).mp e)) (blocks V c t) s
/-- and at a last one. -/
abbrev rC (c : Dev nD) (t : Fin cfg1.N) (h : t.val % 8 = 7) (s : Vec F S2x1408x1024 .f32) :=
  runC (F := F) c (grid1.coords t) (args t) (fun e => by have := (cond1_iff t).mp e; omega) ((cond2_iff t).mpr h) (blocks V c t) s

/-- The sums a point leaves, from those it found. -/
def step (c : Dev nD) (t : Fin cfg1.N) (s : Vec F S2x1408x1024 .f32) : Vec F S2x1408x1024 .f32 :=
  if h : t.val % 8 = 0 then View.canon (rA V c t h).1.acc
  else if h' : t.val % 8 = 7 then View.canon (rC V c t h' s).1.acc
  else View.canon (rB V c t h h' s).1.acc

/-- The sums after point `n`. -/
def acc (c : Dev nD) : ℕ → Vec F S2x1408x1024 .f32
  | 0 => step V c ⟨0, by decide⟩ (View.canon [])
  | n + 1 => if h : n + 1 < cfg1.N then step V c ⟨n + 1, h⟩ (acc c n) else acc c n

/-- The sums before point `t`, where it is no first token tile. -/
abbrev prev (c : Dev nD) (t : Fin cfg1.N) : Vec F S2x1408x1024 .f32 := acc V c (t.val - 1)

theorem acc_first (c : Dev nD) (t : Fin cfg1.N) (h : t.val % 8 = 0) : acc V c t.val = View.canon (rA V c t h).1.acc := by
  obtain ⟨n, hn⟩ := t
  obtain _ | n := n
  · rw [acc]; unfold step; rw [dif_pos h]
  · rw [acc, dif_pos hn]; unfold step; rw [dif_pos h]
theorem acc_step (c : Dev nD) (t : Fin cfg1.N) (h : ¬t.val % 8 = 0) : acc V c t.val = step V c t (prev V c t) := by
  obtain ⟨n, hn⟩ := t
  obtain _ | n := n
  · exact absurd rfl h
  · exact dif_pos hn
theorem acc_mid (c : Dev nD) (t : Fin cfg1.N) (h : ¬t.val % 8 = 0) (h' : ¬t.val % 8 = 7) :
    acc V c t.val = View.canon (rB V c t h h' (prev V c t)).1.acc :=
  (acc_step V c t h).trans ((dif_neg h).trans (dif_neg h'))
theorem acc_last (c : Dev nD) (t : Fin cfg1.N) (h' : t.val % 8 = 7) :
    acc V c t.val = View.canon (rC V c t h' (prev V c t)).1.acc :=
  (acc_step V c t (by omega)).trans ((dif_neg (by omega)).trans (dif_pos h'))

/-- What the body leaves in the four outputs at point `t`; the last two are stored at a last token tile alone. -/
def dgateAt (c : Dev nD) (t : Fin cfg1.N) : Vec F S512x1408 .bf16 :=
  if h : t.val % 8 = 0 then View.canon (rA V c t h).1.dgate
  else if h' : t.val % 8 = 7 then View.canon (rC V c t h' (prev V c t)).1.dgate
  else View.canon (rB V c t h h' (prev V c t)).1.dgate
def dupAt (c : Dev nD) (t : Fin cfg1.N) : Vec F S512x1408 .bf16 :=
  if h : t.val % 8 = 0 then View.canon (rA V c t h).1.dup
  else if h' : t.val % 8 = 7 then View.canon (rC V c t h' (prev V c t)).1.dup
  else View.canon (rB V c t h h' (prev V c t)).1.dup
def dwgAt (c : Dev nD) (t : Fin cfg1.N) : Vec F S2x2x352x1024 .bf16 :=
  if h' : t.val % 8 = 7 then View.canon (rC V c t h' (prev V c t)).1.dwg else View.canon []
def dwuAt (c : Dev nD) (t : Fin cfg1.N) : Vec F S2x2x352x1024 .bf16 :=
  if h' : t.val % 8 = 7 then View.canon (rC V c t h' (prev V c t)).1.dwu else View.canon []

/-! ## Every stored list covers its buffer -/

section
variable (c : Dev nD) (t : Fin cfg1.N)
theorem coverA_dgate (h) : ∀ y, ∃ p ∈ (rA V c t h).1.dgate, y ∈ p.1.set :=
  View.cover_of_tiledBy _ ![512, 1408] (by sl_kernel_rfl)
theorem coverA_dup (h) : ∀ y, ∃ p ∈ (rA V c t h).1.dup, y ∈ p.1.set :=
  View.cover_of_tiledBy _ ![512, 1408] (by sl_kernel_rfl)
theorem coverA_acc (h) : ∀ y, ∃ p ∈ (rA V c t h).1.acc, y ∈ p.1.set :=
  View.cover_of_tiledBy _ ![1, 1408, 1024] (by sl_kernel_rfl)
theorem coverB_dgate (h h' s) : ∀ y, ∃ p ∈ (rB V c t h h' s).1.dgate, y ∈ p.1.set :=
  View.cover_of_tiledBy _ ![512, 1408] (by sl_kernel_rfl)
theorem coverB_dup (h h' s) : ∀ y, ∃ p ∈ (rB V c t h h' s).1.dup, y ∈ p.1.set :=
  View.cover_of_tiledBy _ ![512, 1408] (by sl_kernel_rfl)
theorem coverB_acc (h h' s) : ∀ y, ∃ p ∈ (rB V c t h h' s).1.acc, y ∈ p.1.set :=
  View.cover_of_tiledBy _ ![1, 1408, 1024] (by sl_kernel_rfl)
theorem coverC_dgate (h s) : ∀ y, ∃ p ∈ (rC V c t h s).1.dgate, y ∈ p.1.set :=
  View.cover_of_tiledBy _ ![512, 1408] (by sl_kernel_rfl)
theorem coverC_dup (h s) : ∀ y, ∃ p ∈ (rC V c t h s).1.dup, y ∈ p.1.set :=
  View.cover_of_tiledBy _ ![512, 1408] (by sl_kernel_rfl)
theorem coverC_acc (h s) : ∀ y, ∃ p ∈ (rC V c t h s).1.acc, y ∈ p.1.set :=
  View.cover_of_tiledBy _ ![1, 1408, 1024] (by sl_kernel_rfl)
theorem coverC_dwg (h s) : ∀ y, ∃ p ∈ (rC V c t h s).1.dwg, y ∈ p.1.set :=
  View.cover_of_tiledBy _ ![1, 1, 352, 1024] (by sl_kernel_rfl)
theorem coverC_dwu (h s) : ∀ y, ∃ p ∈ (rC V c t h s).1.dwu, y ∈ p.1.set :=
  View.cover_of_tiledBy _ ![1, 1, 352, 1024] (by sl_kernel_rfl)
end

/-! ## The proof data -/

/-- Before point `n`: the sums the last point left, unless the next clears them; the rest of the scoped buffers, and the
    generator register. -/
def Phi (c : Dev nD) (n : ℕ) : sProp 𝕄 :=
  iprop((∃ d, ⌜¬n % 8 = 0 → d = acc V c (n - 1)⌝ ∗ holds c (Memref.whole cc1_scratch0 : Memref sig .tc .vmem S2x1408x1024 .f32) d)
    ∗ Pipeline.scopedRestBut (Ix := Unit) (Name := ℕ) (U := UR sig nD τ) (Lvl := ℕ) (Val := Elt F) spec1 c [cc1_scratch0]
    ∗ (∃ r, prngReg c r))

/-- The backward pipeline's proof data. -/
def dat (c : Dev nD) : Dat τ (Elt F) Unit ℕ (UR sig nD τ) ℕ cfg1 c where
  A w := V c (Pipeline.arrRef spec1 w)
  after w t := match w with
    | ⟨0, _⟩ => X V c 0 t
    | ⟨1, _⟩ => X V c 1 t
    | ⟨2, _⟩ => X V c 2 t
    | ⟨3, _⟩ => X V c 3 t
    | ⟨4, _⟩ => X V c 4 t
    | ⟨5, _⟩ => dgateAt V c t
    | ⟨6, _⟩ => dupAt V c t
    | ⟨7, _⟩ => dwgAt V c t
    | ⟨8, _⟩ => dwuAt V c t
    | ⟨n + 9, h⟩ => (Nat.not_lt.mpr (Nat.le_add_left 9 n) h).elim
  Φ t := Phi V c t.val
  q w := Pipeline.shareOf spec1 w
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = Phi V c t.val := by
  dsimp only [dat]; exact Pipeline.Dat.Φ_castSucc (fun n _ => Phi V c n) t
theorem Phi_succ (c : Dev nD) (t : Fin cfg1.N) : (dat V c).Φ t.succ = Phi V c (t.val + 1) := by
  dsimp only [dat]; rw [Fin.val_succ]
/-- The body leaves an input block as it is, -/
theorem after_in (c : Dev nD) (w : Fin cfg1.W) (hw : (cfg1.win w).isOut = false) (t : Fin cfg1.N) :
    (dat V c).after w t = X V c w t := by
  fin_cases w <;> first | exact absurd hw (by decide) | rfl
/-- and finds it in the buffer. -/
theorem before_in (c : Dev nD) (w : Fin cfg1.W) (hw : (cfg1.win w).isOut = false) (t : Fin cfg1.N) (d) :
    (dat V c).before w t d = X V c w t := by
  refine (before_of (dat V c) w (xsize_all w) hw ?_ ?_ (after_in V c w hw) t d).trans (after_in V c w hw t)
  · clear d; fin_cases w <;> first | exact fun _ => rfl | exact absurd hw (by decide)
  · clear d; fin_cases w <;> first | exact fun _ _ _ => rfl | exact absurd hw (by decide)
theorem after_5 (c : Dev nD) (t : Fin cfg1.N) : (dat V c).after 5 t = dgateAt V c t := by dsimp only [dat]
theorem after_6 (c : Dev nD) (t : Fin cfg1.N) : (dat V c).after 6 t = dupAt V c t := by dsimp only [dat]
theorem after_7 (c : Dev nD) (t : Fin cfg1.N) : (dat V c).after 7 t = dwgAt V c t := by dsimp only [dat]
theorem after_8 (c : Dev nD) (t : Fin cfg1.N) : (dat V c).after 8 t = dwuAt V c t := by dsimp only [dat]

/-- The two weights' gradients are stored at a last token tile alone, and written back there alone. -/
theorem idle_dw : ∀ w : Fin cfg1.W, 7 ≤ w.val → ∀ t : Fin cfg1.N, ¬t.val % 8 = 7 → cfg1.idle w (cfg1.grid.coords t) = true := by decide +kernel
theorem flush_dw : ∀ w : Fin cfg1.W, 7 ≤ w.val → ∀ t : Fin cfg1.N, ¬t.val % 8 = 7 → (cfg1.win w).flush t = false := by decide +kernel
theorem flush_dw_last : ∀ w : Fin cfg1.W, 7 ≤ w.val → ∀ t : Fin cfg1.N, t.val % 8 = 7 → (cfg1.win w).flush t = true := by decide +kernel

theorem left_dw (c : Dev nD) (w : Fin cfg1.W) (h7 : 7 ≤ w.val) (t : Fin cfg1.N) (h : ¬t.val % 8 = 7) :
    (dat V c).leavesExact w t = iprop(∃ d, holds c ((cfg1.win w).stage (cfg1.slots t w)) ((dat V c).before w t d)) :=
  (dat V c).leavesExact_idle w t (idle_dw w h7 t h) (flush_dw w h7 t h)
theorem left_dw_last (c : Dev nD) (w : Fin cfg1.W) (h7 : 7 ≤ w.val) (t : Fin cfg1.N) (h : t.val % 8 = 7) :
    (dat V c).leavesExact w t = holds c ((cfg1.win w).stage (cfg1.slots t w)) ((dat V c).after w t) := by
  unfold Dat.leavesExact
  rw [flush_dw_last w h7 t h]
  cases cfg1.idle w (cfg1.grid.coords t) <;> rfl

/-! ## The body's obligation -/

/-- What the body is called with at point `t`, window by window, -/
def bodyPre (c : Dev nD) (t : Fin cfg1.N) : sProp 𝕄 :=
  iprop((dat V c).Φ t.castSucc ∗ (dat V c).owesAt () t.castSucc
    ∗ (∃ d, holds c (args t).arg2 ((dat V c).before 0 t d)) ∗ (∃ d, holds c (args t).arg3 ((dat V c).before 1 t d))
    ∗ (∃ d, holds c (args t).arg4 ((dat V c).before 2 t d)) ∗ (∃ d, holds c (args t).arg5 ((dat V c).before 3 t d))
    ∗ (∃ d, holds c (args t).arg6 ((dat V c).before 4 t d)) ∗ (∃ d, holds c (args t).arg7 ((dat V c).before 5 t d))
    ∗ (∃ d, holds c (args t).arg8 ((dat V c).before 6 t d)) ∗ (∃ d, holds c (args t).arg9 ((dat V c).before 7 t d))
    ∗ (∃ d, holds c (args t).arg10 ((dat V c).before 8 t d)))

/-- and what it returns. -/
def bodyPost (c : Dev nD) (t : Fin cfg1.N) : sProp 𝕄 :=
  iprop((dat V c).Φ t.succ ∗ (dat V c).owesAt () t.succ
    ∗ holds c (args t).arg2 ((dat V c).after 0 t) ∗ holds c (args t).arg3 ((dat V c).after 1 t)
    ∗ holds c (args t).arg4 ((dat V c).after 2 t) ∗ holds c (args t).arg5 ((dat V c).after 3 t)
    ∗ holds c (args t).arg6 ((dat V c).after 4 t) ∗ holds c (args t).arg7 ((dat V c).after 5 t)
    ∗ holds c (args t).arg8 ((dat V c).after 6 t) ∗ (dat V c).leavesExact 7 t ∗ (dat V c).leavesExact 8 t)

set_option maxHeartbeats 2400000 in
/-- The body at a first token tile. -/
theorem sound_bodyA (c : Dev nD) (t : Fin cfg1.N) (h : t.val % 8 = 0) :
    bodyPre V c t ⊢ wp frame (wpE (defs₀ (F := F)) Variants.none c none) Set.univ (bodyAt1 t) (fun _ => bodyPost V c t) := by
  unfold bodyPre bodyPost
  simp (disch := rfl) only [before_in, after_in]
  rw [Phi_castSucc, Phi_succ, show (dat V c).owesAt () t.succ = (dat V c).owesAt () t.castSucc from rfl,
    left_dw V c 7 (by decide) t (by omega), left_dw V c 8 (by decide) t (by omega),
    after_5, after_6,
    show dgateAt V c t = View.canon (rA V c t h).1.dgate from dif_pos h,
    show dupAt V c t = View.canon (rA V c t h).1.dup from dif_pos h]
  show _ ⊢ wp frame _ Set.univ (body (grid1.coords t) (args t)) _
  unfold Phi
  iintro ⟨⟨⟨%u, %hu, Hu⟩, Hrest, Hp⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((rA V c t h).2 Set.univ _)
  unfold ins
  isplitl [H2 H3 H4 H5 H6]; · iframel
  isplitl [H7]; · iexists _; iexact H7
  isplitl [H8]; · iexists _; iexact H8
  isplitl [Hu]; · iexists _; iexact Hu
  iintro ⟨⟨H2, H3, H4, H5, H6⟩, ⟨%e7, H7⟩, ⟨%e8, H8⟩, ⟨%eu, Hu⟩⟩
  isplitl [Hu Hrest Hp]
  · isplitl [Hu]
    · iexists (View.canon (rA V c t h).1.acc); isplitr
      · ipureintro; intro _; rw [show t.val + 1 - 1 = t.val from rfl, acc_first V c t h]
      iapply hold_written (coverA_acc V c t h); iexact Hu
    iframel Hrest Hp
  iframel Ho H2 H3 H4 H5 H6
  isplitl [H7]; · iapply hold_written (coverA_dgate V c t h); iexact H7
  isplitl [H8]; · iapply hold_written (coverA_dup V c t h); iexact H8
  isplitl [H9]; · iexists _; iexact H9
  iexists _; iexact H10

set_option maxHeartbeats 2400000 in
/-- The body at a middle token tile. -/
theorem sound_bodyB (c : Dev nD) (t : Fin cfg1.N) (h : ¬t.val % 8 = 0) (h' : ¬t.val % 8 = 7) :
    bodyPre V c t ⊢ wp frame (wpE (defs₀ (F := F)) Variants.none c none) Set.univ (bodyAt1 t) (fun _ => bodyPost V c t) := by
  unfold bodyPre bodyPost
  simp (disch := rfl) only [before_in, after_in]
  rw [Phi_castSucc, Phi_succ, show (dat V c).owesAt () t.succ = (dat V c).owesAt () t.castSucc from rfl,
    left_dw V c 7 (by decide) t h', left_dw V c 8 (by decide) t h',
    after_5, after_6,
    show dgateAt V c t = View.canon (rB V c t h h' (prev V c t)).1.dgate from (dif_neg h).trans (dif_neg h'),
    show dupAt V c t = View.canon (rB V c t h h' (prev V c t)).1.dup from (dif_neg h).trans (dif_neg h')]
  show _ ⊢ wp frame _ Set.univ (body (grid1.coords t) (args t)) _
  unfold Phi
  iintro ⟨⟨⟨%u, %hu, Hu⟩, Hrest, Hp⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hu h
  iapply ((rB V c t h h' (prev V c t)).2 Set.univ _)
  unfold ins
  isplitl [H2 H3 H4 H5 H6]; · iframel
  isplitl [H7]; · iexists _; iexact H7
  isplitl [H8]; · iexists _; iexact H8
  isplitl [Hu]; · iexact Hu
  iintro ⟨⟨H2, H3, H4, H5, H6⟩, ⟨%e7, H7⟩, ⟨%e8, H8⟩, ⟨%eu, Hu⟩⟩
  isplitl [Hu Hrest Hp]
  · isplitl [Hu]
    · iexists (View.canon (rB V c t h h' (prev V c t)).1.acc); isplitr
      · ipureintro; intro _; rw [show t.val + 1 - 1 = t.val from rfl, acc_mid V c t h h']
      iapply hold_written (coverB_acc V c t h h' _); iexact Hu
    iframel Hrest Hp
  iframel Ho H2 H3 H4 H5 H6
  isplitl [H7]; · iapply hold_written (coverB_dgate V c t h h' _); iexact H7
  isplitl [H8]; · iapply hold_written (coverB_dup V c t h h' _); iexact H8
  isplitl [H9]; · iexists _; iexact H9
  iexists _; iexact H10

set_option maxHeartbeats 2400000 in
/-- The body at a last token tile. -/
theorem sound_bodyC (c : Dev nD) (t : Fin cfg1.N) (h : t.val % 8 = 7) :
    bodyPre V c t ⊢ wp frame (wpE (defs₀ (F := F)) Variants.none c none) Set.univ (bodyAt1 t) (fun _ => bodyPost V c t) := by
  unfold bodyPre bodyPost
  simp (disch := rfl) only [before_in, after_in]
  rw [Phi_castSucc, Phi_succ, show (dat V c).owesAt () t.succ = (dat V c).owesAt () t.castSucc from rfl,
    left_dw_last V c 7 (by decide) t h, left_dw_last V c 8 (by decide) t h,
    after_7, after_8, show dwgAt V c t = View.canon (rC V c t h (prev V c t)).1.dwg from dif_pos h,
    show dwuAt V c t = View.canon (rC V c t h (prev V c t)).1.dwu from dif_pos h,
    after_5, after_6,
    show dgateAt V c t = View.canon (rC V c t h (prev V c t)).1.dgate from (dif_neg (by omega)).trans (dif_pos h),
    show dupAt V c t = View.canon (rC V c t h (prev V c t)).1.dup from (dif_neg (by omega)).trans (dif_pos h)]
  show _ ⊢ wp frame _ Set.univ (body (grid1.coords t) (args t)) _
  unfold Phi
  iintro ⟨⟨⟨%u, %hu, Hu⟩, Hrest, Hp⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hu (by omega)
  iapply ((rC V c t h (prev V c t)).2 Set.univ _)
  unfold ins
  isplitl [H2 H3 H4 H5 H6]; · iframel
  isplitl [H7]; · iexists _; iexact H7
  isplitl [H8]; · iexists _; iexact H8
  isplitl [H9]; · iexists _; iexact H9
  isplitl [H10]; · iexists _; iexact H10
  isplitl [Hu]; · iexact Hu
  iintro ⟨⟨H2, H3, H4, H5, H6⟩, ⟨%e7, H7⟩, ⟨%e8, H8⟩, ⟨%e9, H9⟩, ⟨%e10, H10⟩, ⟨%eu, Hu⟩⟩
  isplitl [Hu Hrest Hp]
  · isplitl [Hu]
    · iexists (View.canon (rC V c t h (prev V c t)).1.acc); isplitr
      · ipureintro; intro _; rw [show t.val + 1 - 1 = t.val from rfl, acc_last V c t h]
      iapply hold_written (coverC_acc V c t h _); iexact Hu
    iframel Hrest Hp
  iframel Ho H2 H3 H4 H5 H6
  isplitl [H7]; · iapply hold_written (coverC_dgate V c t h _); iexact H7
  isplitl [H8]; · iapply hold_written (coverC_dup V c t h _); iexact H8
  isplitl [H9]; · iapply hold_written (coverC_dwg V c t h _); iexact H9
  iapply hold_written (coverC_dwu V c t h _); iexact H10

/-- The library's body obligation at every point. -/
theorem obligation (c : Dev nD) : BodyObligation (dat (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  refine triple_restated (P := bodyPre V c t) (Q := fun _ => bodyPost V c t) ?_ rfl .rfl fun _ => .rfl
  by_cases h : t.val % 8 = 0
  · exact sound_bodyA V c t h
  · by_cases h' : t.val % 8 = 7
    · exact sound_bodyC V c t h'
    · exact sound_bodyB V c t h h'

end Regions

end Cert.GateIdeal.Bwd

end
-- ==== Proof.GateRun.lean ====
/-
  The gated unit: the launch of the forward and the backward call, and the frame.
-/
module

public import proofs.«01_k».proof.Proof.GateFwd
public import proofs.«01_k».proof.Proof.GateDat
public import Idealize.ShloMosaic.Lib.Pipeline.RegionsLoop

@[expose] public section

set_option maxRecDepth 16384

noncomputable section

namespace Cert.GateIdeal.Run

open Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the regions -/

/-- What the forward region finds. -/
abbrev E0 : (c : Dev nD) → (b : Ref sig .tc) → Buf (Elt F) ((c : Thread nD τ).loc b) := fun c b => V1 m c b

/-- What the forward region leaves: its outputs as its points wrote them, the rest as found. -/
def W2 (c : Dev nD) : Valuation τ sig (Elt F) :=
  Function.update (Function.update (Function.update (V1 m c) main_v13_0 ((Fwd.dat (E0 m) c).arrAt 3 cfg0.N)) main_v13_1 ((Fwd.dat (E0 m) c).arrAt 4 cfg0.N)) main_v13_2 ((Fwd.dat (E0 m) c).arrAt 5 cfg0.N)

/-- The forward region's outputs. -/
abbrev outRefs0 : List (Ref sig .tc) := [main_v13_0, main_v13_1, main_v13_2]

theorem W2_of (c : Dev nD) (r : Ref sig .tc) (h : r ∉ outRefs0) : W2 m c r = V1 m c r := by
  unfold W2
  have hne : ∀ a ∈ outRefs0, (Proc.devRef .tc r : DevRef τ sig) ≠ Proc.devRef .tc a := fun a ha =>
    StableHlo.devRef_ne_of_ne fun e => h (e ▸ ha)
  iterate 3 rw [Function.update_of_ne (hne _ (by decide))]

/-- Each output as the region left it. -/
theorem W2_out (c : Dev nD) : W2 m c main_v13_0 = (Fwd.dat (E0 m) c).arrAt 3 cfg0.N
    ∧ W2 m c main_v13_1 = (Fwd.dat (E0 m) c).arrAt 4 cfg0.N
    ∧ W2 m c main_v13_2 = (Fwd.dat (E0 m) c).arrAt 5 cfg0.N := by
  unfold W2
  refine ⟨?_, ?_, ?_⟩
  all_goals
    repeat rw [Function.update_of_ne (StableHlo.devRef_ne_of_ne (by decide))]
    rw [Function.update_self]

/-- The region's arrays after its last point, window by window. -/
theorem hF0 (c : Dev nD) : ∀ w : Fin cfg0.W, (Fwd.dat (E0 m) c).arrAt w cfg0.N = W2 m c (Pipeline.arrRef spec0 w) := by
  have hin : ∀ w : Fin cfg0.W, (cfg0.win w).isOut = false → Pipeline.arrRef spec0 w ∉ outRefs0 := by decide
  intro w
  by_cases hw : (cfg0.win w).isOut = false
  · exact ((Fwd.dat (E0 m) c).arrAt_in w hw _).trans ((Fwd.A_eq (E0 m) c w).trans (W2_of m c _ (hin w hw)).symm)
  · have hk : w = 3 ∨ w = 4 ∨ w = 5 := by revert hw; revert w; decide
    rcases hk with rfl | rfl | rfl
    · exact (W2_out m c).1.symm
    · exact (W2_out m c).2.1.symm
    · exact (W2_out m c).2.2.symm

theorem hrest0 (c : Dev nD) (b : Ref sig .tc) (hb : b ∉ Finset.univ.image (Pipeline.arrRef spec0)) : W2 m c b = V1 m c b := by
  have ho : ∀ a ∈ outRefs0, a ∈ Finset.univ.image (Pipeline.arrRef spec0) := by decide
  exact W2_of m c b fun h => hb (ho b h)

/-- What the host stretch between the regions leaves. -/
abbrev W3 (c : Dev nD) : Valuation τ sig (Elt F) := StableHlo.after hostOps1 (W2 m c)
/-- What the backward region finds. -/
abbrev E1 : (c : Dev nD) → (b : Ref sig .tc) → Buf (Elt F) ((c : Thread nD τ).loc b) := fun c b => W3 m c b

/-- What the backward region leaves: its outputs as its points wrote them, the rest as found. -/
def W4 (c : Dev nD) : Valuation τ sig (Elt F) :=
  Function.update (Function.update (Function.update (Function.update (W3 m c) main_v16_0 ((Bwd.dat (E1 m) c).arrAt 5 cfg1.N)) main_v16_1 ((Bwd.dat (E1 m) c).arrAt 6 cfg1.N)) main_v16_2 ((Bwd.dat (E1 m) c).arrAt 7 cfg1.N)) main_v16_3 ((Bwd.dat (E1 m) c).arrAt 8 cfg1.N)

/-- The backward region's outputs. -/
abbrev outRefs1 : List (Ref sig .tc) := [main_v16_0, main_v16_1, main_v16_2, main_v16_3]

theorem W4_of (c : Dev nD) (r : Ref sig .tc) (h : r ∉ outRefs1) : W4 m c r = W3 m c r := by
  unfold W4
  have hne : ∀ a ∈ outRefs1, (Proc.devRef .tc r : DevRef τ sig) ≠ Proc.devRef .tc a := fun a ha =>
    StableHlo.devRef_ne_of_ne fun e => h (e ▸ ha)
  iterate 4 rw [Function.update_of_ne (hne _ (by decide))]

/-- Each output as the region left it. -/
theorem W4_out (c : Dev nD) : W4 m c main_v16_0 = (Bwd.dat (E1 m) c).arrAt 5 cfg1.N
    ∧ W4 m c main_v16_1 = (Bwd.dat (E1 m) c).arrAt 6 cfg1.N
    ∧ W4 m c main_v16_2 = (Bwd.dat (E1 m) c).arrAt 7 cfg1.N
    ∧ W4 m c main_v16_3 = (Bwd.dat (E1 m) c).arrAt 8 cfg1.N := by
  unfold W4
  refine ⟨?_, ?_, ?_, ?_⟩
  all_goals
    repeat rw [Function.update_of_ne (StableHlo.devRef_ne_of_ne (by decide))]
    rw [Function.update_self]

/-- The region's arrays after its last point, window by window. -/
theorem hF1 (c : Dev nD) : ∀ w : Fin cfg1.W, (Bwd.dat (E1 m) c).arrAt w cfg1.N = W4 m c (Pipeline.arrRef spec1 w) := by
  have hin : ∀ w : Fin cfg1.W, (cfg1.win w).isOut = false → Pipeline.arrRef spec1 w ∉ outRefs1 := by decide
  intro w
  by_cases hw : (cfg1.win w).isOut = false
  · exact ((Bwd.dat (E1 m) c).arrAt_in w hw _).trans ((Bwd.A_eq (E1 m) c w).trans (W4_of m c _ (hin w hw)).symm)
  · have hk : w = 5 ∨ w = 6 ∨ w = 7 ∨ w = 8 := by revert hw; revert w; decide
    rcases hk with rfl | rfl | rfl | rfl
    · exact (W4_out m c).1.symm
    · exact (W4_out m c).2.1.symm
    · exact (W4_out m c).2.2.1.symm
    · exact (W4_out m c).2.2.2.symm

theorem hrest1 (c : Dev nD) (b : Ref sig .tc) (hb : b ∉ Finset.univ.image (Pipeline.arrRef spec1)) : W4 m c b = W3 m c b := by
  have ho : ∀ a ∈ outRefs1, a ∈ Finset.univ.image (Pipeline.arrRef spec1) := by decide
  exact W4_of m c b fun h => hb (ho b h)

/-! ## The regions as segments -/

theorem winFacts₀0 : Pipeline.WinFacts₀ spec0 := by decide
theorem winFacts₀1 : Pipeline.WinFacts₀ spec1 := by decide
theorem sharedIn0 : Pipeline.SharedIn spec0 := by decide
theorem sharedIn1 : Pipeline.SharedIn spec1 := by decide

/-- Both pipelines' proof data, each at what its region finds. -/
def pdats : (p : Fin 2) → (c : Dev nD) → Dat τ (Elt F) Unit ℕ (UR sig nD τ) ℕ (Pipeline.pin (pcfgs (F := F)) adm p) c
  | ⟨0, _⟩ => fun c => Fwd.dat (E0 m) c
  | ⟨1, _⟩ => fun c => Bwd.dat (E1 m) c
abbrev 𝒱₀ : Variants := Variants.none
/-- No core owes another anything. -/
abbrev L : GSem nD τ sig → Finset Unit := fun _ => ∅
abbrev lv : GSem nD τ sig → Unit → ℕ := fun _ _ => 0
/-- Beside the buffers: the generator register, and nothing owed. -/
abbrev R (c : Dev nD) : sProp 𝕄 := iprop((∃ r, prngReg c r) ∗ ∃ W, owes (c : Thread nD τ) (0 : CellTallies nD τ sig Unit) W)
/-- A host stretch over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the last region leaves, beside nothing owed. -/
abbrev Tₙ (c : Dev nD) : sProp 𝕄 := iprop(StableHlo.held (c : Thread nD τ) (Pipeline.ucRefs τ sig) (W4 m c) ∗ ∃ r, prngReg c r)

set_option backward.isDefEq.respectTransparency.types false in
/-- The forward region: entered from every unscoped buffer as found, left with its outputs written. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Fwd.obligation (E0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs_shared (p := 0) (pcfgs (F := F)) adm (pdats m) winFacts₀0 sharedIn0 arr_whole0 c
      (fun _ _ => rfl) (E0 m c) (Fwd.A_eq (E0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Fwd.Phi c from rfl]
    iintro ⟨Hp, -, Hr⟩
    unfold Fwd.Phi
    isplitl [Hr]; · iexact Hr
    iexact Hp
  hout c := by
    rw [Pipeline.ownSems0_none, show (pdats m 0 c).Φ (Fin.last _) = Fwd.Phi c from rfl]
    iintro H
    unfold Fwd.Phi; icases H with ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      winFacts₀0 sharedIn0 arr_whole0 c (pdats m) (fun _ _ => rfl)
      (E0 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The scoped buffers of the backward region that are no staging buffer: the two sums, and the rest. -/
theorem scoped1 (c : Dev nD) : (Pipeline.scopedRest (Ix := Unit) (Name := ℕ) (U := UR sig nD τ) (Lvl := ℕ) (Val := Elt F) spec1 c : sProp 𝕄)
    = iprop(anyIn c (Memref.whole cc1_scratch0 : Memref sig .tc .vmem S2x1408x1024 .f32)
      ∗ Pipeline.scopedRestBut (Ix := Unit) (Name := ℕ) (U := UR sig nD τ) (Lvl := ℕ) (Val := Elt F) spec1 c [cc1_scratch0]) := by
  rw [show Pipeline.scopedRest (Ix := Unit) (Name := ℕ) (U := UR sig nD τ) (Lvl := ℕ) (Val := Elt F) spec1 c = _ from
    Pipeline.scopedRest_split_of_list spec1 c [cc1_scratch0] (by decide) (by decide)]
  simp only [anyIn, holds, owns_whole]
  rfl

theorem Phi1_in (c : Dev nD) :
    iprop(Pipeline.scopedRest (Ix := Unit) (Name := ℕ) (U := UR sig nD τ) (Lvl := ℕ) (Val := Elt F) spec1 c ∗ ∃ r, prngReg c r)
      ⊢ (Bwd.Phi (E1 m) c 0 : sProp 𝕄) := by
  rw [scoped1]; unfold Bwd.Phi
  iintro ⟨⟨⟨%d, Hu⟩, Hrest⟩, Hp⟩
  isplitl [Hu]
  · iexists d; isplitr; · ipureintro; intro h; exact absurd rfl h
    iexact Hu
  isplitl [Hrest]; · iexact Hrest
  iexact Hp

theorem Phi1_out (c : Dev nD) (n : ℕ) :
    (Bwd.Phi (E1 m) c n : sProp 𝕄)
      ⊢ iprop(Pipeline.scopedRest (Ix := Unit) (Name := ℕ) (U := UR sig nD τ) (Lvl := ℕ) (Val := Elt F) spec1 c ∗ ∃ r, prngReg c r) := by
  rw [scoped1]; unfold Bwd.Phi
  iintro ⟨⟨%d, -, Hu⟩, Hrest, Hp⟩
  isplitl [Hu Hrest]
  · isplitl [Hu]; · iexists d; iexact Hu
    iexact Hrest
  iexact Hp

set_option backward.isDefEq.respectTransparency.types false in
/-- The backward region: entered from every unscoped buffer as found, left with its outputs written. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Bwd.obligation (E1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs_shared (p := 1) (pcfgs (F := F)) adm (pdats m) winFacts₀1 sharedIn1 arr_whole1 c
      (fun _ _ => rfl) (E1 m c) (Bwd.A_eq (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Bwd.Phi (E1 m) c 0 from rfl]
    iintro ⟨Hp, -, Hr⟩
    iapply (Phi1_in m c)
    isplitl [Hr]; · iexact Hr
    iexact Hp
  hout c := by
    rw [Pipeline.ownSems0_none, show (pdats m 1 c).Φ (Fin.last _) = Bwd.Phi (E1 m) c (Fin.last cfg1.N).val from rfl]
    iintro H
    ihave H' := (Phi1_out m c _) $$ H; icases H' with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      winFacts₀1 sharedIn1 arr_whole1 c (pdats m) (fun _ _ => rfl)
      (E1 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's segments in order. -/
abbrev segs : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (W2 m)), .region (reg1 m) ]

theorem main_run (c : Dev nD) : main (F := F) c = Pipeline.Seg.run (segs m) := (main_chain c).trans (by chain_rfl)

set_option backward.isDefEq.respectTransparency.types false in
/-- Every execution ends, every unscoped buffer at the last boundary's contents, every counter at zero. -/
theorem run_all : θ_run defs (onTc (τ := τ) (main (F := F))) ⟨m, fun _ => 0, ρ⟩ (fun r => (∀ c : Dev nD, ∀ b ∈ Pipeline.ucRefs τ sig,
      r.2.mem ((c : Thread nD τ).1, b) = W4 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (regions_no_unscoped g.2))⟩)

/-- A buffer no operation and no region writes ends as launched. -/
theorem W4_kept (c : Dev nD) (r : Ref sig .tc) (h0 : r ∉ hostOps0_W) (h1 : r ∉ outRefs0) (h2 : r ∉ hostOps1_W)
    (h3 : r ∉ outRefs1) : W4 m c r = m ((c : Thread nD τ).loc r) :=
  (W4_of m c r h3).trans <| (StableHlo.after_of_writes_sub hostOps1 _ hostOps1_writes h2).trans <| (W2_of m c r h1).trans <| (V1_of m c r h0).trans rfl

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c _ (mem_uc main_arg0 (by decide))).trans (W4_kept m c main_arg0 (by decide) (by decide) (by decide) (by decide)),
    (h.1 c _ (mem_uc main_arg1 (by decide))).trans (W4_kept m c main_arg1 (by decide) (by decide) (by decide) (by decide)),
    (h.1 c _ (mem_uc main_arg2 (by decide))).trans (W4_kept m c main_arg2 (by decide) (by decide) (by decide) (by decide)),
    (h.1 c _ (mem_uc main_arg3 (by decide))).trans (W4_kept m c main_arg3 (by decide) (by decide) (by decide) (by decide)),
    (h.1 c _ (mem_uc main_arg4 (by decide))).trans (W4_kept m c main_arg4 (by decide) (by decide) (by decide) (by decide))⟩, h.2⟩) (run_all m ρ)

end Cert.GateIdeal.Run

end
-- ==== Proof.GateStep.lean ====
/-
  What one point of the gated unit's two calls leaves in its buffers, read off the lists of the stores.
-/
module

public import proofs.«01_k».proof.Proof.GateRun
public import proofs.«01_k».proof.Proof.Reals
public import Idealize.ShloMosaic.Lib.WholeRead
public import Idealize.ShloMosaic.Lib.Pointwise
public import Idealize.ShloMosaic.Lib.Pipeline.Value

@[expose] public section

set_option maxRecDepth 16384

noncomputable section

namespace Cert.GateIdeal.Val

open Cert.GateIdeal Cert.GateIdeal.Gen Idealize.ShloMosaic Idealize.ShloMosaic.TcCoe
open Cert.Reals
open scoped BigOperators

/-- A load of a whole buffer reads what it holds. -/
theorem read_full {S : Shape} {e : EltTy} (a : Memref sig .tc .vmem S e) (ha : a.IsWhole) {off : Fin S.rank → Nat} (h : off = fun _ => 0)
    (inb : ∀ k, off k + S.size k ≤ S.size k) (x : S.Idx → Elt Ideal e) :
    View.readAt (Elt Ideal) a.view (Rect.unit off S.size inb).toLoadRect (ha.unread x) = x := by
  subst h
  funext j
  exact (ha.readAt_unread x _ j).trans (congrArg x (funext fun k => Fin.ext (by show 0 + 1 * (j k).val = (j k).val; omega)))

theorem z2 : (![0, 0] : Fin 2 → Nat) = fun _ => 0 := by decide
theorem z3 : (![0, 0, 0] : Fin 3 → Nat) = fun _ => 0 := by decide

/-! ### The forward call -/

section forward
variable (c : Dev nD) (i : grid0.Coords) (a : Fwd.Args) (x0 : Vec Ideal S1024x1024 .bf16) (x1 x2 : Vec Ideal S4x352x1024 .bf16)

theorem run_gate : View.canon (Fwd.run c i a x0 x1 x2).1.gate = k0_pay4 x0 x1 := by
  obtain ⟨arg2, harg2, arg3, harg3, arg4, harg4, arg5, harg5, arg6, harg6, arg7, harg7⟩ := a
  refine (View.canon_unit_zero (Val := Elt Ideal) (S := S1024x1408) (e := .bf16) z2 inb_S1024x1408_S1024x1408_0_0 _).trans ?_
  exact congr (congrArg k0_pay4 (read_full arg2 harg2 z2 inb_S1024x1024_S1024x1024_0_0 x0)) (read_full arg3 harg3 z3 inb_S4x352x1024_S4x352x1024_0_0_0 x1)

theorem run_up : View.canon (Fwd.run c i a x0 x1 x2).1.up = k0_pay5 x0 x2 := by
  obtain ⟨arg2, harg2, arg3, harg3, arg4, harg4, arg5, harg5, arg6, harg6, arg7, harg7⟩ := a
  refine (View.canon_unit_zero (Val := Elt Ideal) (S := S1024x1408) (e := .bf16) z2 inb_S1024x1408_S1024x1408_0_0 _).trans ?_
  exact congr (congrArg k0_pay5 (read_full arg2 harg2 z2 inb_S1024x1024_S1024x1024_0_0 x0)) (read_full arg4 harg4 z3 inb_S4x352x1024_S4x352x1024_0_0_0 x2)

theorem run_act : View.canon (Fwd.run c i a x0 x1 x2).1.act = k0_pay6 x0 x1 x2 := by
  obtain ⟨arg2, harg2, arg3, harg3, arg4, harg4, arg5, harg5, arg6, harg6, arg7, harg7⟩ := a
  refine (View.canon_unit_zero (Val := Elt Ideal) (S := S1024x1408) (e := .bf16) z2 inb_S1024x1408_S1024x1408_0_0 _).trans ?_
  exact congr (congr (congrArg k0_pay6 (read_full arg2 harg2 z2 inb_S1024x1024_S1024x1024_0_0 x0)) (read_full arg3 harg3 z3 inb_S4x352x1024_S4x352x1024_0_0_0 x1))
    (read_full arg4 harg4 z3 inb_S4x352x1024_S4x352x1024_0_0_0 x2)

theorem k0_pay2_apply (r : Fin 1024) (f : Fin 1408) :
    k0_pay2 (F := Ideal) x0 x1 (ix2 r f) = ∑ k : Fin 1024, x0 (ix2 r k) * x1 (ix3 ⟨f.val / 352, by omega⟩ ⟨f.val % 352, by omega⟩ k) := by
  unfold k0_pay2 k0_pay1
  pointwise []

theorem k0_pay3_apply (r : Fin 1024) (f : Fin 1408) :
    k0_pay3 (F := Ideal) x0 x1 (ix2 r f) = ∑ k : Fin 1024, x0 (ix2 r k) * x1 (ix3 ⟨f.val / 352, by omega⟩ ⟨f.val % 352, by omega⟩ k) := by
  unfold k0_pay3 k0_pay1
  pointwise []

theorem k0_pay4_apply (r : Fin 1024) (f : Fin 1408) : k0_pay4 (F := Ideal) x0 x1 (ix2 r f) = k0_pay2 (F := Ideal) x0 x1 (ix2 r f) := by
  unfold k0_pay4
  generalize k0_pay2 (F := Ideal) x0 x1 = u
  pointwise []

theorem k0_pay5_apply (r : Fin 1024) (f : Fin 1408) : k0_pay5 (F := Ideal) x0 x1 (ix2 r f) = k0_pay3 (F := Ideal) x0 x1 (ix2 r f) := by
  unfold k0_pay5
  generalize k0_pay3 (F := Ideal) x0 x1 = u
  pointwise []

/-- The logistic of an entry. -/
def sigE (x : EReal) : EReal := Ideal.div 1 (1 + Ideal.exp (0 - x))

theorem k0_pay6_apply (r : Fin 1024) (f : Fin 1408) :
    k0_pay6 (F := Ideal) x0 x1 x2 (ix2 r f) = k0_pay2 (F := Ideal) x0 x1 (ix2 r f) * sigE (k0_pay2 (F := Ideal) x0 x1 (ix2 r f)) * k0_pay3 (F := Ideal) x0 x2 (ix2 r f) := by
  unfold k0_pay6
  generalize k0_pay2 (F := Ideal) x0 x1 = u
  generalize k0_pay3 (F := Ideal) x0 x2 = v
  unfold sigE
  pointwise []

end forward

/-! ### The backward call -/

section backward
variable (x : Bwd.Ins Ideal) (s : Vec Ideal S2x1408x1024 .f32)

theorem k1_pay15_apply (v3 : Vec Ideal S512x1024 .bf16) (v5 : Vec Ideal S4x352x1024 .bf16) (r : Fin 512) (f : Fin 1408) :
    k1_pay15 (F := Ideal) v3 v5 (ix2 r f) = ∑ k : Fin 1024, v3 (ix2 r k) * v5 (ix3 ⟨f.val / 352, by omega⟩ ⟨f.val % 352, by omega⟩ k) := by
  unfold k1_pay15
  pointwise []

theorem k1_pay18_apply (v3 : Vec Ideal S512x1024 .bf16) (v5 : Vec Ideal S4x352x1024 .bf16) (v9 v19 : Vec Ideal S512x1408 .bf16) (r : Fin 512) (f : Fin 1408) :
    k1_pay18 (F := Ideal) v3 v5 v9 v19 (ix2 r f)
      = k1_pay15 (F := Ideal) v3 v5 (ix2 r f) * v19 (ix2 r f) * (sigE (v9 (ix2 r f)) * (1 + v9 (ix2 r f) * (1 - sigE (v9 (ix2 r f))))) := by
  unfold k1_pay18 k1_pay17 k1_pay16 sigE
  generalize k1_pay15 (F := Ideal) v3 v5 = u
  pointwise []

theorem k1_pay19_apply (v3 : Vec Ideal S512x1024 .bf16) (v5 : Vec Ideal S4x352x1024 .bf16) (v9 : Vec Ideal S512x1408 .bf16) (r : Fin 512) (f : Fin 1408) :
    k1_pay19 (F := Ideal) v3 v5 v9 (ix2 r f) = k1_pay15 (F := Ideal) v3 v5 (ix2 r f) * (v9 (ix2 r f) * sigE (v9 (ix2 r f))) := by
  unfold k1_pay19 k1_pay17 k1_pay16 sigE
  generalize k1_pay15 (F := Ideal) v3 v5 = u
  pointwise []

theorem k1_pay1_apply (v30 : FVec Ideal S512x1408 .bf16) (v36 : Vec Ideal S1x1408x1024 .f32) (v38 : Vec Ideal S512x1024 .bf16) (f : Fin 1408) (d : Fin 1024) :
    k1_pay1 (F := Ideal) v30 v36 v38 (ix3 0 f d) = v36 (ix3 0 f d) + ∑ r : Fin 512, v30 (ix2 r f) * v38 (ix2 r d) := by
  unfold k1_pay1
  pointwise []

theorem k1_pay2_apply (v30 : FVec Ideal S512x1408 .bf16) (v36 : Vec Ideal S1x1408x1024 .f32) (v38 : Vec Ideal S512x1024 .bf16) (f : Fin 1408) (d : Fin 1024) :
    k1_pay2 (F := Ideal) v30 v36 v38 (ix3 0 f d) = v36 (ix3 0 f d) + ∑ r : Fin 512, v30 (ix2 r f) * v38 (ix2 r d) := by
  unfold k1_pay2
  pointwise []

/-- The tile's two gradients. -/
abbrev dgP : FVec Ideal S512x1408 .bf16 := k1_pay18 x.x0 x.x1 x.x2 x.x3
abbrev duP : FVec Ideal S512x1408 .bf16 := k1_pay19 x.x0 x.x1 x.x2

variable (c : Dev nD) (i : grid1.Coords) (a : Bwd.Args)

theorem run_dgate : (∀ h1 h2, View.canon (Bwd.runA c i a h1 h2 x).1.dgate = dgP x) ∧ (∀ h1 h2, View.canon (Bwd.runB c i a h1 h2 x s).1.dgate = dgP x)
    ∧ ∀ h1 h2, View.canon (Bwd.runC c i a h1 h2 x s).1.dgate = dgP x := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  have e := congr (congr (congr (congrArg k1_pay18 (read_full arg2 harg2 z2 inb_S512x1024_S512x1024_0_0 x0)) (read_full arg3 harg3 z3 inb_S4x352x1024_S4x352x1024_0_0_0 x1))
    (read_full arg4 harg4 z2 inb_S512x1408_S512x1408_0_0 x2)) (read_full arg5 harg5 z2 inb_S512x1408_S512x1408_0_0 x3)
  refine ⟨fun _ _ => ?_, fun _ _ => ?_, fun _ _ => ?_⟩ <;>
    exact (View.canon_unit_zero (Val := Elt Ideal) (S := S512x1408) (e := .bf16) z2 inb_S512x1408_S512x1408_0_0 _).trans e

section r1
variable (arg2 : Memref sig .tc .vmem S512x1024 .bf16) (harg2 : arg2.IsWhole) (arg3 : Memref sig .tc .vmem S4x352x1024 .bf16) (harg3 : arg3.IsWhole)
  (arg4 : Memref sig .tc .vmem S512x1408 .bf16) (harg4 : arg4.IsWhole) (x0 : Vec Ideal S512x1024 .bf16) (x1 : Vec Ideal S4x352x1024 .bf16) (x2 : Vec Ideal S512x1408 .bf16)

theorem read_r1 : k1_pay19 (View.readAt (Elt Ideal) arg2.view (Rect.unit ![0, 0] S512x1024.size inb_S512x1024_S512x1024_0_0).toLoadRect (harg2.unread x0))
    (View.readAt (Elt Ideal) arg3.view (Rect.unit ![0, 0, 0] S4x352x1024.size inb_S4x352x1024_S4x352x1024_0_0_0).toLoadRect (harg3.unread x1))
    (View.readAt (Elt Ideal) arg4.view (Rect.unit ![0, 0] S512x1408.size inb_S512x1408_S512x1408_0_0).toLoadRect (harg4.unread x2)) = k1_pay19 x0 x1 x2 := by
  rw [read_full _ _ z2, read_full _ _ z3, read_full _ _ z2]

theorem runA_r1 : Bwd.runA.sl.r_1 (F := Ideal) c arg2 harg2 arg3 harg3 arg4 harg4 x0 x1 x2 = k1_pay19 x0 x1 x2 := by
  unfold Bwd.runA.sl.r_1; apply read_r1
theorem runB_r1 : Bwd.runB.sl.r_1 (F := Ideal) c arg2 harg2 arg3 harg3 arg4 harg4 x0 x1 x2 = k1_pay19 x0 x1 x2 := by
  unfold Bwd.runB.sl.r_1; apply read_r1
theorem runC_r1 : Bwd.runC.sl.r_1 (F := Ideal) c arg2 harg2 arg3 harg3 arg4 harg4 x0 x1 x2 = k1_pay19 x0 x1 x2 := by
  unfold Bwd.runC.sl.r_1; apply read_r1
end r1

theorem run_dup : (∀ h1 h2, View.canon (Bwd.runA c i a h1 h2 x).1.dup = duP x) ∧ (∀ h1 h2, View.canon (Bwd.runB c i a h1 h2 x s).1.dup = duP x)
    ∧ ∀ h1 h2, View.canon (Bwd.runC c i a h1 h2 x s).1.dup = duP x := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  have e := fun v => View.canon_unit_zero (Val := Elt Ideal) (S := S512x1408) (e := .bf16) z2 inb_S512x1408_S512x1408_0_0 v
  exact ⟨fun _ _ => (e _).trans (runA_r1 ..), fun _ _ => (e _).trans (runB_r1 ..), fun _ _ => (e _).trans (runC_r1 ..)⟩

/-- The two stores into the sums, over what they held. -/
abbrev accPieces (s0 s1 : Vec Ideal S1x1408x1024 .f32) : List (View.Piece (Elt Ideal) S2x1408x1024 .f32) :=
  [⟨Rect.unit ![1, 0, 0] ![1, 1408, 1024] inb_S2x1408x1024_S1x1408x1024_1_0_0, k1_pay2 (duP x) s1 x.x4⟩,
    ⟨Rect.unit ![0, 0, 0] ![1, 1408, 1024] inb_S2x1408x1024_S1x1408x1024_0_0_0, k1_pay1 (dgP x) s0 x.x4⟩]

theorem skip1 (v : Vec Ideal S1x1408x1024 .f32) (L : List (View.Piece (Elt Ideal) S2x1408x1024 .f32)) (y : S2x1408x1024.Idx) (hy : (y 0).val < 1) :
    View.canon ((⟨Rect.unit (s := S2x1408x1024) ![1, 0, 0] ![1, 1408, 1024] inb_S2x1408x1024_S1x1408x1024_1_0_0, v⟩ : View.Piece (Elt Ideal) S2x1408x1024 .f32) :: L) y = View.canon L y := by
  refine View.canon_cons_of_not_mem _ _ fun hm => ?_
  have hm' : y ∈ (Rect.unit (s := S2x1408x1024) ![1, 0, 0] ![1, 1408, 1024] inb_S2x1408x1024_S1x1408x1024_1_0_0).set := hm
  rw [Rect.mem_set_unit] at hm'
  have h : 1 ≤ (y 0).val ∧ (y 0).val < 1 + 1 := hm' 0
  omega

theorem emb0 (f : Fin 1408) (d : Fin 1024) : (ix3 (0 : Fin 2) f d : S2x1408x1024.Idx) = (Rect.unit (s := S2x1408x1024) ![0, 0, 0] ![1, 1408, 1024] inb_S2x1408x1024_S1x1408x1024_0_0_0).emb (ix3 (0 : Fin 1) f d : S1x1408x1024.Idx) := by
  funext a; apply Fin.ext
  match a with
  | ⟨0, _⟩ => rfl
  | ⟨1, _⟩ => show f.val = 0 + 1 * f.val; omega
  | ⟨2, _⟩ => show d.val = 0 + 1 * d.val; omega

theorem emb1 (f : Fin 1408) (d : Fin 1024) : (ix3 (1 : Fin 2) f d : S2x1408x1024.Idx) = (Rect.unit (s := S2x1408x1024) ![1, 0, 0] ![1, 1408, 1024] inb_S2x1408x1024_S1x1408x1024_1_0_0).emb (ix3 (0 : Fin 1) f d : S1x1408x1024.Idx) := by
  funext a; apply Fin.ext
  match a with
  | ⟨0, _⟩ => rfl
  | ⟨1, _⟩ => show f.val = 0 + 1 * f.val; omega
  | ⟨2, _⟩ => show d.val = 0 + 1 * d.val; omega

theorem head0 (v : Vec Ideal S1x1408x1024 .f32) (L : List (View.Piece (Elt Ideal) S2x1408x1024 .f32)) (f : Fin 1408) (d : Fin 1024) :
    View.canon ((⟨Rect.unit (s := S2x1408x1024) ![0, 0, 0] ![1, 1408, 1024] inb_S2x1408x1024_S1x1408x1024_0_0_0, v⟩ : View.Piece (Elt Ideal) S2x1408x1024 .f32) :: L) (ix3 (0 : Fin 2) f d) = v (ix3 0 f d) := by
  rw [emb0]
  exact View.canon_cons_emb (Val := Elt Ideal) (e := .f32) _ _ _ _

theorem head1 (v : Vec Ideal S1x1408x1024 .f32) (L : List (View.Piece (Elt Ideal) S2x1408x1024 .f32)) (f : Fin 1408) (d : Fin 1024) :
    View.canon ((⟨Rect.unit (s := S2x1408x1024) ![1, 0, 0] ![1, 1408, 1024] inb_S2x1408x1024_S1x1408x1024_1_0_0, v⟩ : View.Piece (Elt Ideal) S2x1408x1024 .f32) :: L) (ix3 (1 : Fin 2) f d) = v (ix3 0 f d) := by
  rw [emb1]
  exact View.canon_cons_emb (Val := Elt Ideal) (e := .f32) _ _ _ _

theorem accPieces_0 (s0 s1 : Vec Ideal S1x1408x1024 .f32) (L : List (View.Piece (Elt Ideal) S2x1408x1024 .f32)) (f : Fin 1408) (d : Fin 1024) :
    View.canon (accPieces x s0 s1 ++ L) (ix3 (0 : Fin 2) f d) = s0 (ix3 0 f d) + ∑ r : Fin 512, dgP x (ix2 r f) * x.x4 (ix2 r d) := by
  unfold accPieces
  rw [List.cons_append, List.cons_append, List.nil_append, skip1 _ _ _ Nat.one_pos, head0, k1_pay1_apply]

theorem accPieces_1 (s0 s1 : Vec Ideal S1x1408x1024 .f32) (L : List (View.Piece (Elt Ideal) S2x1408x1024 .f32)) (f : Fin 1408) (d : Fin 1024) :
    View.canon (accPieces x s0 s1 ++ L) (ix3 (1 : Fin 2) f d) = s1 (ix3 0 f d) + ∑ r : Fin 512, duP x (ix2 r f) * x.x4 (ix2 r d) := by
  unfold accPieces
  rw [List.cons_append, List.cons_append, List.nil_append, head1, k1_pay2_apply]

end backward
end Cert.GateIdeal.Val
end
-- ==== Proof.GateAcc.lean ====
/-
  The two sums of the gated unit's backward call after one point, and the four pieces a last token tile writes from each.
-/
module

public import proofs.«01_k».proof.Proof.GateStep

@[expose] public section

set_option maxRecDepth 16384

noncomputable section

namespace Cert.GateIdeal.Val

open Cert.GateIdeal Cert.GateIdeal.Gen Idealize.ShloMosaic Idealize.ShloMosaic.TcCoe
open scoped BigOperators

section accs
variable (c : Dev nD)
  (arg2 : Memref sig .tc .vmem S512x1024 .bf16) (harg2 : arg2.IsWhole) (arg3 : Memref sig .tc .vmem S4x352x1024 .bf16) (harg3 : arg3.IsWhole)
  (arg4 : Memref sig .tc .vmem S512x1408 .bf16) (harg4 : arg4.IsWhole) (arg5 : Memref sig .tc .vmem S512x1408 .bf16) (harg5 : arg5.IsWhole)
  (arg6 : Memref sig .tc .vmem S512x1024 .bf16) (harg6 : arg6.IsWhole) (arg11 : Memref sig .tc .vmem S2x1408x1024 .f32) (harg11 : arg11.IsWhole)
  (x0 : Vec Ideal S512x1024 .bf16) (x1 : Vec Ideal S4x352x1024 .bf16) (x2 x3 : Vec Ideal S512x1408 .bf16) (x4 : Vec Ideal S512x1024 .bf16)
  (s : Vec Ideal S2x1408x1024 .f32)

theorem runA_r : Bwd.runA.sl.r (F := Ideal) c arg2 harg2 arg3 harg3 arg4 harg4 arg5 harg5 x0 x1 x2 x3 = k1_pay18 x0 x1 x2 x3 := by
  unfold Bwd.runA.sl.r
  exact congr (congr (congr (congrArg k1_pay18 (read_full arg2 harg2 z2 inb_S512x1024_S512x1024_0_0 x0)) (read_full arg3 harg3 z3 inb_S4x352x1024_S4x352x1024_0_0_0 x1))
    (read_full arg4 harg4 z2 inb_S512x1408_S512x1408_0_0 x2)) (read_full arg5 harg5 z2 inb_S512x1408_S512x1408_0_0 x3)
theorem runB_r : Bwd.runB.sl.r (F := Ideal) c arg2 harg2 arg3 harg3 arg4 harg4 arg5 harg5 x0 x1 x2 x3 = k1_pay18 x0 x1 x2 x3 := by
  unfold Bwd.runB.sl.r
  exact congr (congr (congr (congrArg k1_pay18 (read_full arg2 harg2 z2 inb_S512x1024_S512x1024_0_0 x0)) (read_full arg3 harg3 z3 inb_S4x352x1024_S4x352x1024_0_0_0 x1))
    (read_full arg4 harg4 z2 inb_S512x1408_S512x1408_0_0 x2)) (read_full arg5 harg5 z2 inb_S512x1408_S512x1408_0_0 x3)
theorem runC_r : Bwd.runC.sl.r (F := Ideal) c arg2 harg2 arg3 harg3 arg4 harg4 arg5 harg5 x0 x1 x2 x3 = k1_pay18 x0 x1 x2 x3 := by
  unfold Bwd.runC.sl.r
  exact congr (congr (congr (congrArg k1_pay18 (read_full arg2 harg2 z2 inb_S512x1024_S512x1024_0_0 x0)) (read_full arg3 harg3 z3 inb_S4x352x1024_S4x352x1024_0_0_0 x1))
    (read_full arg4 harg4 z2 inb_S512x1408_S512x1408_0_0 x2)) (read_full arg5 harg5 z2 inb_S512x1408_S512x1408_0_0 x3)

/-- The two slabs of the sums as they are loaded. -/
abbrev slab0 : Vec Ideal S1x1408x1024 .f32 :=
  View.readAt (Elt Ideal) arg11.view (Rect.unit (s := S2x1408x1024) ![0, 0, 0] ![1, 1408, 1024] inb_S2x1408x1024_S1x1408x1024_0_0_0).toLoadRect (harg11.unread s)
abbrev slab1 : Vec Ideal S1x1408x1024 .f32 :=
  View.readAt (Elt Ideal) arg11.view (Rect.unit (s := S2x1408x1024) ![1, 0, 0] ![1, 1408, 1024] inb_S2x1408x1024_S1x1408x1024_1_0_0).toLoadRect (harg11.unread s)

theorem slab0_apply (f : Fin 1408) (d : Fin 1024) : slab0 arg11 harg11 s (ix3 0 f d) = s (ix3 0 f d) :=
  (harg11.readAt_unread s _ _).trans (congrArg s (emb0 f d).symm)
theorem slab1_apply (f : Fin 1408) (d : Fin 1024) : slab1 arg11 harg11 s (ix3 0 f d) = s (ix3 1 f d) :=
  (harg11.readAt_unread s _ _).trans (congrArg s (emb1 f d).symm)

/-- The pieces from the values a run names. -/
abbrev rawPieces (r r1 : FVec Ideal S512x1408 .bf16) (s0 s1 : Vec Ideal S1x1408x1024 .f32) (h : Vec Ideal S512x1024 .bf16) : List (View.Piece (Elt Ideal) S2x1408x1024 .f32) :=
  [⟨Rect.unit ![1, 0, 0] ![1, 1408, 1024] inb_S2x1408x1024_S1x1408x1024_1_0_0, k1_pay2 r1 s1 h⟩,
    ⟨Rect.unit ![0, 0, 0] ![1, 1408, 1024] inb_S2x1408x1024_S1x1408x1024_0_0_0, k1_pay1 r s0 h⟩]

theorem rawPieces_eq (r r1 : FVec Ideal S512x1408 .bf16) (s0 s1 : Vec Ideal S1x1408x1024 .f32) (h : Vec Ideal S512x1024 .bf16)
    (hr : r = k1_pay18 x0 x1 x2 x3) (hr1 : r1 = k1_pay19 x0 x1 x2) (hh : h = x4) : rawPieces r r1 s0 s1 h = accPieces ⟨x0, x1, x2, x3, x4⟩ s0 s1 := by
  subst hr hr1 hh
  rfl

theorem runB_acc_list (i : grid1.Coords) (a7 ha7 a8 ha8 a9 ha9 a10 ha10 h1 h2) :
    (Bwd.runB (F := Ideal) c i ⟨arg2, harg2, arg3, harg3, arg4, harg4, arg5, harg5, arg6, harg6, a7, ha7, a8, ha8, a9, ha9, a10, ha10, arg11, harg11⟩ h1 h2 ⟨x0, x1, x2, x3, x4⟩ s).1.acc
      = accPieces ⟨x0, x1, x2, x3, x4⟩ (slab0 arg11 harg11 s) (slab1 arg11 harg11 s) ++ [] := by
  rw [List.append_nil]
  refine Eq.trans (b := rawPieces (Bwd.runB.sl.r (F := Ideal) c arg2 harg2 arg3 harg3 arg4 harg4 arg5 harg5 x0 x1 x2 x3) (Bwd.runB.sl.r_1 (F := Ideal) c arg2 harg2 arg3 harg3 arg4 harg4 x0 x1 x2)
    (slab0 arg11 harg11 s) (slab1 arg11 harg11 s) (View.readAt (Elt Ideal) arg6.view (Rect.unit ![0, 0] S512x1024.size inb_S512x1024_S512x1024_0_0).toLoadRect (harg6.unread x4))) (by sl_kernel_rfl) ?_
  exact rawPieces_eq _ _ _ _ _ _ _ _ _ _ (runB_r c _ _ _ _ _ _ _ _ _ _ _ _) (runB_r1 c _ _ _ _ _ _ _ _ _) (read_full arg6 harg6 z2 inb_S512x1024_S512x1024_0_0 x4)

theorem runC_H (h6 : Vec Ideal S512x1024 .bf16 := x4) :
    Bwd.runC.sl.H11_2 (F := Ideal) c s arg2 harg2 arg3 harg3 arg4 harg4 arg5 harg5 arg6 harg6 arg11 harg11 x0 x1 x2 x3 x4
      = accPieces ⟨x0, x1, x2, x3, x4⟩ (slab0 arg11 harg11 s) (slab1 arg11 harg11 s) ++ [] := by
  rw [List.append_nil]
  refine Eq.trans (b := rawPieces (Bwd.runC.sl.r (F := Ideal) c arg2 harg2 arg3 harg3 arg4 harg4 arg5 harg5 x0 x1 x2 x3) (Bwd.runC.sl.r_1 (F := Ideal) c arg2 harg2 arg3 harg3 arg4 harg4 x0 x1 x2)
    (slab0 arg11 harg11 s) (slab1 arg11 harg11 s) (View.readAt (Elt Ideal) arg6.view (Rect.unit ![0, 0] S512x1024.size inb_S512x1024_S512x1024_0_0).toLoadRect (harg6.unread x4))) (by sl_kernel_rfl) ?_
  exact rawPieces_eq _ _ _ _ _ _ _ _ _ _ (runC_r c _ _ _ _ _ _ _ _ _ _ _ _) (runC_r1 c _ _ _ _ _ _ _ _ _) (read_full arg6 harg6 z2 inb_S512x1024_S512x1024_0_0 x4)

theorem z11_1 (y : S2x1408x1024.Idx) : View.canon (Bwd.runA.sl.H11_1 (F := Ideal)) y = 0 := by
  refine View.canon_apply_of_pieces (Val := Elt Ideal) (e := .f32) (fun _ => (0 : EReal)) _ ?_ y (View.cover_of_tiledBy _ ![2, 1408, 1024] (by sl_kernel_rfl) y)
  unfold Bwd.runA.sl.H11_1
  intro p hp x
  obtain rfl := List.mem_singleton.mp hp
  show k1_pay14 (F := Ideal) x = 0
  unfold k1_pay14
  pointwise []

theorem runA_v36 (f : Fin 1408) (d : Fin 1024) : Bwd.runA.sl.v36 (F := Ideal) c arg11 (ix3 0 f d) = 0 := by
  unfold Bwd.runA.sl.v36
  rw [View.readCov_eq_canon']
  exact z11_1 _

theorem skip0 (v : Vec Ideal S1x1408x1024 .f32) (L : List (View.Piece (Elt Ideal) S2x1408x1024 .f32)) (y : S2x1408x1024.Idx) (hy : 1 ≤ (y 0).val) :
    View.canon ((⟨Rect.unit (s := S2x1408x1024) ![0, 0, 0] ![1, 1408, 1024] inb_S2x1408x1024_S1x1408x1024_0_0_0, v⟩ : View.Piece (Elt Ideal) S2x1408x1024 .f32) :: L) y = View.canon L y := by
  refine View.canon_cons_of_not_mem _ _ fun hm => ?_
  have hm' : y ∈ (Rect.unit (s := S2x1408x1024) ![0, 0, 0] ![1, 1408, 1024] inb_S2x1408x1024_S1x1408x1024_0_0_0).set := hm
  rw [Rect.mem_set_unit] at hm'
  have h : 0 ≤ (y 0).val ∧ (y 0).val < 0 + 1 := hm' 0
  omega

theorem runA_v45 (f : Fin 1408) (d : Fin 1024) :
    Bwd.runA.sl.v45 (F := Ideal) c arg2 harg2 arg3 harg3 arg4 harg4 arg5 harg5 arg6 harg6 arg11 x0 x1 x2 x3 x4 (ix3 0 f d) = 0 := by
  unfold Bwd.runA.sl.v45
  rw [View.readCov_eq_canon']
  unfold Bwd.runA.sl.H11_2
  exact (skip0 _ _ _ (Nat.le_add_right _ _)).trans (z11_1 _)

theorem runA_acc_list (i : grid1.Coords) (a7 ha7 a8 ha8 a9 ha9 a10 ha10 h1 h2) :
    (Bwd.runA (F := Ideal) c i ⟨arg2, harg2, arg3, harg3, arg4, harg4, arg5, harg5, arg6, harg6, a7, ha7, a8, ha8, a9, ha9, a10, ha10, arg11, harg11⟩ h1 h2 ⟨x0, x1, x2, x3, x4⟩).1.acc
      = accPieces ⟨x0, x1, x2, x3, x4⟩ (Bwd.runA.sl.v36 (F := Ideal) c arg11) (Bwd.runA.sl.v45 (F := Ideal) c arg2 harg2 arg3 harg3 arg4 harg4 arg5 harg5 arg6 harg6 arg11 x0 x1 x2 x3 x4)
        ++ Bwd.runA.sl.H11_1 (F := Ideal) := by
  refine Eq.trans (b := rawPieces (Bwd.runA.sl.r (F := Ideal) c arg2 harg2 arg3 harg3 arg4 harg4 arg5 harg5 x0 x1 x2 x3) (Bwd.runA.sl.r_1 (F := Ideal) c arg2 harg2 arg3 harg3 arg4 harg4 x0 x1 x2)
    (Bwd.runA.sl.v36 (F := Ideal) c arg11) (Bwd.runA.sl.v45 (F := Ideal) c arg2 harg2 arg3 harg3 arg4 harg4 arg5 harg5 arg6 harg6 arg11 x0 x1 x2 x3 x4)
    (View.readAt (Elt Ideal) arg6.view (Rect.unit ![0, 0] S512x1024.size inb_S512x1024_S512x1024_0_0).toLoadRect (harg6.unread x4)) ++ Bwd.runA.sl.H11_1 (F := Ideal)) rfl ?_
  exact congrArg (· ++ Bwd.runA.sl.H11_1 (F := Ideal)) (rawPieces_eq _ _ _ _ _ _ _ _ _ _ (runA_r c _ _ _ _ _ _ _ _ _ _ _ _) (runA_r1 c _ _ _ _ _ _ _ _ _) (read_full arg6 harg6 z2 inb_S512x1024_S512x1024_0_0 x4))

end accs

section points
variable (x : Bwd.Ins Ideal) (s : Vec Ideal S2x1408x1024 .f32) (c : Dev nD) (i : grid1.Coords) (a : Bwd.Args)

theorem runA_acc_0 (h1 h2) (f : Fin 1408) (d : Fin 1024) : View.canon (Bwd.runA c i a h1 h2 x).1.acc (ix3 0 f d) = ∑ r : Fin 512, dgP x (ix2 r f) * x.x4 (ix2 r d) := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  rw [runA_acc_list, accPieces_0, runA_v36, zero_add]
theorem runA_acc_1 (h1 h2) (f : Fin 1408) (d : Fin 1024) : View.canon (Bwd.runA c i a h1 h2 x).1.acc (ix3 1 f d) = ∑ r : Fin 512, duP x (ix2 r f) * x.x4 (ix2 r d) := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  rw [runA_acc_list, accPieces_1, runA_v45, zero_add]
theorem runB_acc_0 (h1 h2) (f : Fin 1408) (d : Fin 1024) : View.canon (Bwd.runB c i a h1 h2 x s).1.acc (ix3 0 f d) = s (ix3 0 f d) + ∑ r : Fin 512, dgP x (ix2 r f) * x.x4 (ix2 r d) := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  rw [runB_acc_list, accPieces_0, slab0_apply]
theorem runB_acc_1 (h1 h2) (f : Fin 1408) (d : Fin 1024) : View.canon (Bwd.runB c i a h1 h2 x s).1.acc (ix3 1 f d) = s (ix3 1 f d) + ∑ r : Fin 512, duP x (ix2 r f) * x.x4 (ix2 r d) := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  rw [runB_acc_list, accPieces_1, slab1_apply]
theorem runC_acc_0 (h1 h2) (f : Fin 1408) (d : Fin 1024) : View.canon (Bwd.runC c i a h1 h2 x s).1.acc (ix3 0 f d) = s (ix3 0 f d) + ∑ r : Fin 512, dgP x (ix2 r f) * x.x4 (ix2 r d) := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  show View.canon (Bwd.runC.sl.H11_2 (F := Ideal) c s arg2 harg2 arg3 harg3 arg4 harg4 arg5 harg5 arg6 harg6 arg11 harg11 x0 x1 x2 x3 x4) _ = _
  rw [runC_H, accPieces_0, slab0_apply]
theorem runC_acc_1 (h1 h2) (f : Fin 1408) (d : Fin 1024) : View.canon (Bwd.runC c i a h1 h2 x s).1.acc (ix3 1 f d) = s (ix3 1 f d) + ∑ r : Fin 512, duP x (ix2 r f) * x.x4 (ix2 r d) := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  show View.canon (Bwd.runC.sl.H11_2 (F := Ideal) c s arg2 harg2 arg3 harg3 arg4 harg4 arg5 harg5 arg6 harg6 arg11 harg11 x0 x1 x2 x3 x4) _ = _
  rw [runC_H, accPieces_1, slab1_apply]

/-- A slab cut into the rows of each core and chip. -/
theorem k1_pay8_apply (v : Vec Ideal S1x1408x1024 .f32) (n : Fin 352) (d : Fin 1024) : k1_pay8 (F := Ideal) v (ix4 0 0 n d) = v (ix3 0 ⟨n.val, by omega⟩ d) := by
  unfold k1_pay8 k1_pay7
  pointwise []
theorem k1_pay9_apply (v : Vec Ideal S1x1408x1024 .f32) (n : Fin 352) (d : Fin 1024) : k1_pay9 (F := Ideal) v (ix4 0 0 n d) = v (ix3 0 ⟨352 + n.val, by omega⟩ d) := by
  unfold k1_pay9 k1_pay7
  pointwise []
theorem k1_pay10_apply (v : Vec Ideal S1x1408x1024 .f32) (n : Fin 352) (d : Fin 1024) : k1_pay10 (F := Ideal) v (ix4 0 0 n d) = v (ix3 0 ⟨704 + n.val, by omega⟩ d) := by
  unfold k1_pay10 k1_pay7
  pointwise []
theorem k1_pay11_apply (v : Vec Ideal S1x1408x1024 .f32) (n : Fin 352) (d : Fin 1024) : k1_pay11 (F := Ideal) v (ix4 0 0 n d) = v (ix3 0 ⟨1056 + n.val, by omega⟩ d) := by
  unfold k1_pay11 k1_pay7
  pointwise []
theorem k1_pay3_apply (v : Vec Ideal S1x1408x1024 .f32) (n : Fin 352) (d : Fin 1024) : k1_pay3 (F := Ideal) (k1_pay13 v) (ix4 0 0 n d) = v (ix3 0 ⟨n.val, by omega⟩ d) := by
  unfold k1_pay3 k1_pay13 k1_pay12
  pointwise []
theorem k1_pay4_apply (v : Vec Ideal S1x1408x1024 .f32) (n : Fin 352) (d : Fin 1024) : k1_pay4 (F := Ideal) (k1_pay12 v) (ix4 0 0 n d) = v (ix3 0 ⟨352 + n.val, by omega⟩ d) := by
  unfold k1_pay4 k1_pay12
  pointwise []
theorem k1_pay5_apply (v : Vec Ideal S1x1408x1024 .f32) (n : Fin 352) (d : Fin 1024) : k1_pay5 (F := Ideal) (k1_pay12 v) (ix4 0 0 n d) = v (ix3 0 ⟨704 + n.val, by omega⟩ d) := by
  unfold k1_pay5 k1_pay12
  pointwise []
theorem k1_pay6_apply (v : Vec Ideal S1x1408x1024 .f32) (n : Fin 352) (d : Fin 1024) : k1_pay6 (F := Ideal) (k1_pay12 v) (ix4 0 0 n d) = v (ix3 0 ⟨1056 + n.val, by omega⟩ d) := by
  unfold k1_pay6 k1_pay12
  pointwise []

/-- The row of the sums that core `a` and chip `b` take at `n`. -/
abbrev slotRow (a b n : ℕ) : ℕ := (b * 2 + a) * 352 + n

/-- What a slab's pieces hold at an index. -/
def cut4 (v : Vec Ideal S1x1408x1024 .f32) (y : S2x2x352x1024.Idx) : EReal :=
  v (ix3 0 ⟨slotRow (y 0).val (y 1).val (y 2).val, by
    have h0 : (y 0).val < 2 := (y 0).isLt; have h1 : (y 1).val < 2 := (y 1).isLt; have h2 : (y 2).val < 352 := (y 2).isLt
    show ((y 1).val * 2 + (y 0).val) * 352 + (y 2).val < 1408; omega⟩ ⟨(y 3).val, (y 3).isLt⟩)

theorem piece4 (v : Vec Ideal S1x1408x1024 .f32) (p : Vec Ideal S1x1x352x1024 .bf16) (a b : ℕ) (inb : ∀ k, (![a, b, 0, 0] : Fin 4 → Nat) k + S1x1x352x1024.size k ≤ S2x2x352x1024.size k)
    (ha : a < 2) (hb : b < 2) (hp : ∀ (n : Fin 352) (d : Fin 1024), p (ix4 0 0 n d) = v (ix3 0 ⟨slotRow a b n.val, by show (b * 2 + a) * 352 + n.val < 1408; omega⟩ d))
    (x : S1x1x352x1024.Idx) : p x = cut4 v ((Rect.unit (s := S2x2x352x1024) ![a, b, 0, 0] S1x1x352x1024.size inb).emb x) := by
  obtain ⟨z, w, n, d, rfl⟩ : ∃ (z w : Fin 1) (n : Fin 352) (d : Fin 1024), x = ix4 z w n d := ⟨_, _, _, _, eq_ix4 x⟩
  obtain rfl := Subsingleton.elim z 0
  obtain rfl := Subsingleton.elim w 0
  rw [hp]
  unfold cut4
  congr 2
  · apply Fin.ext
    show (b * 2 + a) * 352 + n.val = ((b + 1 * 0) * 2 + (a + 1 * 0)) * 352 + (0 + 1 * n.val)
    omega
  · apply Fin.ext
    show d.val = 0 + 1 * d.val
    omega

theorem cut_canon (v : Vec Ideal S1x1408x1024 .f32) (p11 p01 p10 p00 : Vec Ideal S1x1x352x1024 .bf16)
    (h11 : ∀ (n : Fin 352) (d : Fin 1024), p11 (ix4 0 0 n d) = v (ix3 0 ⟨1056 + n.val, by omega⟩ d))
    (h01 : ∀ (n : Fin 352) (d : Fin 1024), p01 (ix4 0 0 n d) = v (ix3 0 ⟨704 + n.val, by omega⟩ d))
    (h10 : ∀ (n : Fin 352) (d : Fin 1024), p10 (ix4 0 0 n d) = v (ix3 0 ⟨352 + n.val, by omega⟩ d))
    (h00 : ∀ (n : Fin 352) (d : Fin 1024), p00 (ix4 0 0 n d) = v (ix3 0 ⟨n.val, by omega⟩ d)) (y : S2x2x352x1024.Idx) :
    View.canon ([⟨Rect.unit (s := S2x2x352x1024) ![1, 1, 0, 0] S1x1x352x1024.size inb_S2x2x352x1024_S1x1x352x1024_1_1_0_0, p11⟩,
      ⟨Rect.unit (s := S2x2x352x1024) ![0, 1, 0, 0] S1x1x352x1024.size inb_S2x2x352x1024_S1x1x352x1024_0_1_0_0, p01⟩,
      ⟨Rect.unit (s := S2x2x352x1024) ![1, 0, 0, 0] S1x1x352x1024.size inb_S2x2x352x1024_S1x1x352x1024_1_0_0_0, p10⟩,
      ⟨Rect.unit (s := S2x2x352x1024) ![0, 0, 0, 0] S1x1x352x1024.size inb_S2x2x352x1024_S1x1x352x1024_0_0_0_0, p00⟩] : List (View.Piece (Elt Ideal) S2x2x352x1024 .bf16)) y = cut4 v y := by
  refine View.canon_apply_of_pieces (Val := Elt Ideal) (e := .bf16) (cut4 v) _ ?_ y (View.cover_of_tiledBy _ ![1, 1, 352, 1024] (by sl_kernel_rfl) y)
  intro p hp x
  simp only [List.mem_cons, List.not_mem_nil, or_false] at hp
  rcases hp with rfl | rfl | rfl | rfl
  · exact piece4 v p11 1 1 inb_S2x2x352x1024_S1x1x352x1024_1_1_0_0 (by decide) (by decide) (fun n d => h11 n d) x
  · refine piece4 v p01 0 1 inb_S2x2x352x1024_S1x1x352x1024_0_1_0_0 (by decide) (by decide) (fun n d => h01 n d) x
  · refine piece4 v p10 1 0 inb_S2x2x352x1024_S1x1x352x1024_1_0_0_0 (by decide) (by decide) (fun n d => h10 n d) x
  · refine piece4 v p00 0 0 inb_S2x2x352x1024_S1x1x352x1024_0_0_0_0 (by decide) (by decide) (fun n d => (h00 n d).trans (congrArg v (congrArg (fun q => ix3 0 q d) (Fin.ext (by show n.val = (0 * 2 + 0) * 352 + n.val; omega))))) x

theorem runC_dwg (h1 h2) (y : S2x2x352x1024.Idx) : View.canon (Bwd.runC c i a h1 h2 x s).1.dwg y
    = cut4 (fun j : S1x1408x1024.Idx => View.canon (Bwd.runC c i a h1 h2 x s).1.acc (ix3 0 (j 1) (j 2))) y := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  have hv : Bwd.runC.sl.v57 (F := Ideal) c s arg2 harg2 arg3 harg3 arg4 harg4 arg5 harg5 arg6 harg6 arg11 harg11 x0 x1 x2 x3 x4
      = fun j : S1x1408x1024.Idx => View.canon (Bwd.runC.sl.H11_2 (F := Ideal) c s arg2 harg2 arg3 harg3 arg4 harg4 arg5 harg5 arg6 harg6 arg11 harg11 x0 x1 x2 x3 x4) (ix3 0 (j 1) (j 2)) := by
    unfold Bwd.runC.sl.v57
    rw [View.readCov_eq_canon']
    funext j
    obtain ⟨z, f, d, rfl⟩ : ∃ (z : Fin 1) (f : Fin 1408) (d : Fin 1024), j = ix3 z f d := ⟨_, _, _, eq_ix3 j⟩
    obtain rfl := Subsingleton.elim z 0
    exact congrArg _ (emb0 f d).symm
  show _ = cut4 (fun j : S1x1408x1024.Idx => View.canon (Bwd.runC.sl.H11_2 (F := Ideal) c s arg2 harg2 arg3 harg3 arg4 harg4 arg5 harg5 arg6 harg6 arg11 harg11 x0 x1 x2 x3 x4) (ix3 0 (j 1) (j 2))) y
  rw [← hv]
  exact cut_canon _ _ _ _ _ (k1_pay11_apply _) (k1_pay10_apply _) (k1_pay9_apply _) (k1_pay8_apply _) y

theorem runC_dwu (h1 h2) (y : S2x2x352x1024.Idx) : View.canon (Bwd.runC c i a h1 h2 x s).1.dwu y
    = cut4 (fun j : S1x1408x1024.Idx => View.canon (Bwd.runC c i a h1 h2 x s).1.acc (ix3 1 (j 1) (j 2))) y := by
  obtain ⟨arg2, harg2, arg3, harg3, arg4, harg4, arg5, harg5, arg6, harg6, arg7, harg7, arg8, harg8, arg9, harg9, arg10, harg10, arg11, harg11⟩ := a
  obtain ⟨x0, x1, x2, x3, x4⟩ := x
  have hv : Bwd.runC.sl.v84 (F := Ideal) c s arg2 harg2 arg3 harg3 arg4 harg4 arg5 harg5 arg6 harg6 arg11 harg11 x0 x1 x2 x3 x4
      = fun j : S1x1408x1024.Idx => View.canon (Bwd.runC.sl.H11_2 (F := Ideal) c s arg2 harg2 arg3 harg3 arg4 harg4 arg5 harg5 arg6 harg6 arg11 harg11 x0 x1 x2 x3 x4) (ix3 1 (j 1) (j 2)) := by
    unfold Bwd.runC.sl.v84
    rw [View.readCov_eq_canon']
    funext j
    obtain ⟨z, f, d, rfl⟩ : ∃ (z : Fin 1) (f : Fin 1408) (d : Fin 1024), j = ix3 z f d := ⟨_, _, _, eq_ix3 j⟩
    obtain rfl := Subsingleton.elim z 0
    exact congrArg _ (emb1 f d).symm
  show _ = cut4 (fun j : S1x1408x1024.Idx => View.canon (Bwd.runC.sl.H11_2 (F := Ideal) c s arg2 harg2 arg3 harg3 arg4 harg4 arg5 harg5 arg6 harg6 arg11 harg11 x0 x1 x2 x3 x4) (ix3 1 (j 1) (j 2))) y
  rw [← hv]
  exact cut_canon _ _ _ _ _ (k1_pay6_apply _) (k1_pay5_apply _) (k1_pay4_apply _) (k1_pay3_apply _) y

end points
end Cert.GateIdeal.Val
end
-- ==== Proof.GateRef.lean ====
/-
  The gated unit and its derivative as the reference computes them, read at an index: the two projections, the gate's
  sigmoid, the three cotangents and the two weights' gradients.
-/
module

public import proofs.«01_k».proof.Proof.Gen.GateRefIdeal.Read
public import proofs.«01_k».proof.Proof.Reals
public import Idealize.ShloMosaic.Lib.TwoAxisContraction
public import Idealize.ShloMosaic.Lib.Pointwise

@[expose] public section

set_option maxRecDepth 16384

noncomputable section

namespace Cert.GateRefIdeal.Val

open Cert.GateRefIdeal Cert.GateRefIdeal.Gen Cert.GateRefIdeal.Read Idealize.ShloMosaic Idealize.ShloMosaic.TcCoe
open Cert.Reals
open Idealize.ShloMosaic.ValueIdx (contrEquiv2 contrEquiv2_symm_val0 contrEquiv2_symm_val1 sum_contr2)
open scoped BigOperators

/-! ### The reals -/

/-- The logistic function. -/
def sg (x : ℝ) : ℝ := 1 / (1 + Real.exp (-x))

theorem sg_eq (x : ℝ) : Ideal.div 1 (1 + Ideal.exp (-(x : EReal))) = (sg x : EReal) := by
  have h : (1 + Real.exp (-x)) ≠ 0 := by positivity
  rw [← EReal.coe_neg, Ideal.exp_coe, ← EReal.coe_one, ← EReal.coe_add, div_coe_coe _ h]
  rfl

section reals
variable (a0 : S1x4096x1024.Idx → ℝ) (a1 a2 : S1x1024x2816.Idx → ℝ) (a3 : S1x2816x1024.Idx → ℝ) (a4 : S1x4096x1024.Idx → ℝ)

/-- A projection of the input: the gate's with its weight, the unit's value with the other. -/
def pr (t : Fin 4096) (f : Fin 2816) : ℝ := ∑ k : Fin 1024, a0 (ix3 0 t k) * a1 (ix3 0 k f)

/-- The activation. -/
def actr (t : Fin 4096) (f : Fin 2816) : ℝ := pr a0 a1 t f * sg (pr a0 a1 t f) * pr a0 a2 t f

/-- The activation's cotangent. -/
def dar (t : Fin 4096) (f : Fin 2816) : ℝ := ∑ k : Fin 1024, a4 (ix3 0 t k) * a3 (ix3 0 f k)

/-- The gate's cotangent. -/
def dgr (t : Fin 4096) (f : Fin 2816) : ℝ :=
  dar a3 a4 t f * pr a0 a2 t f * (sg (pr a0 a1 t f) * (1 + pr a0 a1 t f * (1 - sg (pr a0 a1 t f))))

/-- The value's cotangent. -/
def dur (t : Fin 4096) (f : Fin 2816) : ℝ := dar a3 a4 t f * (pr a0 a1 t f * sg (pr a0 a1 t f))

/-- A weight's gradient, from the cotangent `e`. -/
def dwr (e : Fin 4096 → Fin 2816 → ℝ) (f : Fin 2816) (d : Fin 1024) : ℝ := ∑ t : Fin 4096, e t f * a0 (ix3 0 t d)

end reals

/-- The weight's row a slot of the sharded layout holds. -/
def rowOf (a : Fin 2) (b : Fin 4) (n : Fin 352) : Fin 2816 := ⟨(b.val * 2 + a.val) * 352 + n.val, by omega⟩

/-! ### The reference, stage by stage -/

variable (x0 : Vec Ideal S1x4096x1024 .f32) (x1 x2 : Vec Ideal S1x1024x2816 .f32) (x3 : Vec Ideal S1x2816x1024 .f32) (x4 : Vec Ideal S1x4096x1024 .f32)
  (a0 : S1x4096x1024.Idx → ℝ) (a1 a2 : S1x1024x2816.Idx → ℝ) (a3 : S1x2816x1024.Idx → ℝ) (a4 : S1x4096x1024.Idx → ℝ)
  (h0 : ∀ i, x0 i = (a0 i : EReal)) (h1 : ∀ i, x1 i = (a1 i : EReal)) (h2 : ∀ i, x2 i = (a2 i : EReal)) (h3 : ∀ i, x3 i = (a3 i : EReal))
  (h4 : ∀ i, x4 i = (a4 i : EReal))

section one
include h0 h1

theorem v1_eq (t : Fin 4096) (f : Fin 2816) : val_main_v1 (F := Ideal) x0 x1 (ix3 0 t f) = (pr a0 a1 t f : EReal) := by
  unfold val_main_v1 val_main_v0
  pointwise []
  simp only [h0, h1]
  exact sum_mul_coe _ _ _

theorem v4_2_eq (t : Fin 4096) (f : Fin 2816) : val_main_v4_2 (F := Ideal) x0 x1 (ix3 0 t f) = (sg (pr a0 a1 t f) : EReal) := by
  rw [← sg_eq, ← v1_eq x0 x1 a0 a1 h0 h1]
  unfold val_main_v4_2 val_main_call0_v4 val_main_call0_v3 val_main_call0_v2 val_main_call0_v1 val_main_call0_v0
  generalize val_main_v1 (F := Ideal) x0 x1 = y
  pointwise [val_main_call0_cst, val_main_call0_cst_0]

theorem v4_1_eq (t : Fin 4096) (f : Fin 2816) :
    val_main_v4_1 (F := Ideal) x0 x1 (ix3 0 t f) = ((sg (pr a0 a1 t f) * (1 - sg (pr a0 a1 t f)) : ℝ) : EReal) := by
  rw [EReal.coe_mul, EReal.coe_sub, EReal.coe_one, ← v4_2_eq x0 x1 a0 a1 h0 h1]
  unfold val_main_v4_1 val_main_call0_v7 val_main_call0_v6
  generalize val_main_v4_2 (F := Ideal) x0 x1 = y
  pointwise [val_main_call0_cst_1]

theorem v4_0_eq (t : Fin 4096) (f : Fin 2816) :
    val_main_v4_0 (F := Ideal) x0 x1 (ix3 0 t f) = ((pr a0 a1 t f * sg (pr a0 a1 t f) : ℝ) : EReal) := by
  rw [EReal.coe_mul, ← v4_2_eq x0 x1 a0 a1 h0 h1, ← v1_eq x0 x1 a0 a1 h0 h1]
  unfold val_main_v4_0
  generalize val_main_v4_2 (F := Ideal) x0 x1 = y
  generalize val_main_v1 (F := Ideal) x0 x1 = z
  pointwise []

end one

section two
include h3 h4

theorem v8_eq (t : Fin 4096) (f : Fin 2816) : val_main_v8 (F := Ideal) x3 x4 (ix3 0 t f) = (dar a3 a4 t f : EReal) := by
  unfold val_main_v8 val_main_v6
  pointwise []
  simp only [h3, h4]
  exact sum_mul_coe _ _ _

include h0 h1

theorem v9_eq (t : Fin 4096) (f : Fin 2816) : val_main_v9 (F := Ideal) x0 x1 x3 x4 (ix3 0 t f) = (dur a0 a1 a3 a4 t f : EReal) := by
  unfold dur
  rw [EReal.coe_mul, ← v8_eq x3 x4 a3 a4 h3 h4, ← v4_0_eq x0 x1 a0 a1 h0 h1, mul_comm]
  unfold val_main_v9
  generalize val_main_v4_0 (F := Ideal) x0 x1 = y
  generalize val_main_v8 (F := Ideal) x3 x4 = z
  pointwise []

include h2

theorem v11_eq (t : Fin 4096) (f : Fin 2816) : val_main_v11 (F := Ideal) x0 x1 x2 x3 x4 (ix3 0 t f) = (dgr a0 a1 a2 a3 a4 t f : EReal) := by
  have e : dgr a0 a1 a2 a3 a4 t f = (dar a3 a4 t f * pr a0 a2 t f) * sg (pr a0 a1 t f)
      + pr a0 a1 t f * (dar a3 a4 t f * pr a0 a2 t f) * (sg (pr a0 a1 t f) * (1 - sg (pr a0 a1 t f))) := by unfold dgr; ring
  have hv3 : val_main_v3 (F := Ideal) x0 x2 = val_main_v1 (F := Ideal) x0 x2 := rfl
  rw [e, EReal.coe_add, EReal.coe_mul, EReal.coe_mul _ (_ * _), EReal.coe_mul (pr a0 a1 t f), EReal.coe_mul (dar a3 a4 t f),
    ← v8_eq x3 x4 a3 a4 h3 h4, ← v4_1_eq x0 x1 a0 a1 h0 h1, ← v4_2_eq x0 x1 a0 a1 h0 h1, ← v1_eq x0 x1 a0 a1 h0 h1, ← v1_eq x0 x2 a0 a2 h0 h2, ← hv3]
  unfold val_main_v11 val_main_call1_v2 val_main_call1_v1 val_main_call1_v0 val_main_v10
  generalize val_main_v4_1 (F := Ideal) x0 x1 = y
  generalize val_main_v4_2 (F := Ideal) x0 x1 = y'
  generalize val_main_v1 (F := Ideal) x0 x1 = z
  generalize val_main_v3 (F := Ideal) x0 x2 = z'
  generalize val_main_v8 (F := Ideal) x3 x4 = u
  pointwise []

end two

/-- A two-axis product of an array of cotangents with the input is the weight's gradient. -/
theorem dw_apply (y : FVec Ideal S1x4096x2816 .f32) (e : Fin 4096 → Fin 2816 → ℝ) (hy : ∀ t f, y (ix3 0 t f) = (e t f : EReal))
    (h0 : ∀ i, x0 i = (a0 i : EReal)) (f : Fin 2816) (d : Fin 1024) :
    Host.dotGeneral (φ₂ := .f32) dot_S1x4096x2816_S1x4096x1024_S2816x1024_01_01_2_2_n_n none y x0 (ix2 f d) = (dwr a0 e f d : EReal) := by
  simp only [Host.dotGeneral]
  rw [Ideal.dotGeneral_apply, sum_contr2 dot_S1x4096x2816_S1x4096x1024_S2816x1024_01_01_2_2_n_n 1 4096 rfl rfl rfl, Fin.sum_univ_one, dwr, ← sum_mul_coe]
  refine Finset.sum_congr rfl fun T _ => ?_
  have q0 := contrEquiv2_symm_val0 dot_S1x4096x2816_S1x4096x1024_S2816x1024_01_01_2_2_n_n 1 4096 rfl rfl rfl (0, T)
  have q1 := contrEquiv2_symm_val1 dot_S1x4096x2816_S1x4096x1024_S2816x1024_01_01_2_2_n_n 1 4096 rfl rfl rfl (0, T)
  rw [← hy, ← h0]
  congr 1
  · congr 1; funext b; apply Fin.ext
    match b with
    | ⟨0, _⟩ => exact q0
    | ⟨1, _⟩ => exact q1
    | ⟨2, _⟩ => rfl
  · congr 1; funext b; apply Fin.ext
    match b with
    | ⟨0, _⟩ => exact q0
    | ⟨1, _⟩ => exact q1
    | ⟨2, _⟩ => rfl

/-! ### The results -/

section results
include h0 h1 h2

/-- The first result: the activation. -/
theorem act_eq (t : Fin 4096) (f : Fin 2816) : val_main_v33 (F := Ideal) x0 x1 x2 (ix2 t f) = (actr a0 a1 a2 t f : EReal) := by
  have e : val_main_v30 (F := Ideal) x0 x1 = val_main_v4_0 (F := Ideal) x0 x1 := rfl
  have hv3 : val_main_v3 (F := Ideal) x0 x2 = val_main_v1 (F := Ideal) x0 x2 := rfl
  unfold actr
  rw [EReal.coe_mul, ← v4_0_eq x0 x1 a0 a1 h0 h1, ← v1_eq x0 x2 a0 a2 h0 h2, ← hv3]
  unfold val_main_v33 val_main_v32 val_main_v31
  rw [e]
  generalize val_main_v4_0 (F := Ideal) x0 x1 = y
  generalize val_main_v3 (F := Ideal) x0 x2 = z
  pointwise []

include h3 h4

/-- The second: the gate's cotangent. -/
theorem dgate_eq (t : Fin 4096) (f : Fin 2816) : val_main_v35 (F := Ideal) x0 x1 x2 x3 x4 (ix2 t f) = (dgr a0 a1 a2 a3 a4 t f : EReal) := by
  rw [← v11_eq x0 x1 x2 x3 x4 a0 a1 a2 a3 a4 h0 h1 h2 h3 h4]
  unfold val_main_v35 val_main_v34
  generalize val_main_v11 (F := Ideal) x0 x1 x2 x3 x4 = y
  pointwise []

omit h2 in
/-- The third: the value's. -/
theorem dup_eq (t : Fin 4096) (f : Fin 2816) : val_main_v37 (F := Ideal) x0 x1 x3 x4 (ix2 t f) = (dur a0 a1 a3 a4 t f : EReal) := by
  rw [← v9_eq x0 x1 x3 x4 a0 a1 a3 a4 h0 h1 h3 h4]
  unfold val_main_v37 val_main_v36
  generalize val_main_v9 (F := Ideal) x0 x1 x3 x4 = y
  pointwise []

/-- The fourth: the gate's weight's gradient. -/
theorem dwg_eq (a : Fin 2) (b : Fin 4) (n : Fin 352) (d : Fin 1024) : val_main_v42 (F := Ideal) x0 x1 x2 x3 x4 (ix4 a b n d)
    = (dwr a0 (dgr a0 a1 a2 a3 a4) (rowOf a b n) d : EReal) := by
  have e : val_main_v23 (F := Ideal) x0 x1 x2 x3 x4 = val_main_v11 (F := Ideal) x0 x1 x2 x3 x4 := rfl
  rw [← dw_apply x0 a0 (val_main_v11 (F := Ideal) x0 x1 x2 x3 x4) _ (v11_eq x0 x1 x2 x3 x4 a0 a1 a2 a3 a4 h0 h1 h2 h3 h4) h0]
  unfold val_main_v42 val_main_v41 val_main_v40 val_main_v39 val_main_v38 val_main_v29 val_main_v28 val_main_v27
  rw [e]
  generalize Host.dotGeneral (F := Ideal) (φ₂ := .f32) dot_S1x4096x2816_S1x4096x1024_S2816x1024_01_01_2_2_n_n none (val_main_v11 (F := Ideal) x0 x1 x2 x3 x4) x0 = y
  pointwise []
  congr 2
  apply Fin.ext
  show b.val * 704 + a.val * 352 + n.val = (b.val * 2 + a.val) * 352 + n.val
  ring

omit h2 in
/-- The fifth: the value's weight's gradient. -/
theorem dwu_eq (a : Fin 2) (b : Fin 4) (n : Fin 352) (d : Fin 1024) : val_main_v47 (F := Ideal) x0 x1 x3 x4 (ix4 a b n d)
    = (dwr a0 (dur a0 a1 a3 a4) (rowOf a b n) d : EReal) := by
  have e : val_main_v21 (F := Ideal) x0 x1 x3 x4 = val_main_v9 (F := Ideal) x0 x1 x3 x4 := rfl
  rw [← dw_apply x0 a0 (val_main_v9 (F := Ideal) x0 x1 x3 x4) _ (v9_eq x0 x1 x3 x4 a0 a1 a3 a4 h0 h1 h3 h4) h0]
  unfold val_main_v47 val_main_v46 val_main_v45 val_main_v44 val_main_v43 val_main_v26 val_main_v25 val_main_v24
  rw [e]
  generalize Host.dotGeneral (F := Ideal) (φ₂ := .f32) dot_S1x4096x2816_S1x4096x1024_S2816x1024_01_01_2_2_n_n none (val_main_v9 (F := Ideal) x0 x1 x3 x4) x0 = y
  pointwise []
  congr 2
  apply Fin.ext
  show b.val * 704 + a.val * 352 + n.val = (b.val * 2 + a.val) * 352 + n.val
  ring

end results

end Cert.GateRefIdeal.Val

end
-- ==== Proof.GateForward.lean ====
/-
  The gated unit's forward call: the gate, the value and the activation it leaves, as the reals of the reference's lines.
-/
module

public import proofs.«01_k».proof.Proof.Tile
public import proofs.«01_k».proof.Proof.GateAcc
public import proofs.«01_k».proof.Proof.GateRef

@[expose] public section

set_option maxRecDepth 16384

noncomputable section

namespace Cert.GateIdeal.Val

open Cert.GateIdeal Cert.GateIdeal.Gen Cert.GateIdeal.Run Idealize.ShloMosaic Idealize.ShloMosaic.TcCoe
open Cert.Reals
open Cert.GateRefIdeal.Val (sg sg_eq pr actr dar dgr dur dwr rowOf)
open scoped BigOperators

variable (m : (ℓ : Loc nD τ sig) → Buf (Elt Ideal) ℓ) (c : Dev nD)

abbrev X0 : S1x4096x1024.Idx → EReal := m ((c : Thread nD τ).loc main_arg0)
abbrev X1 : S1x1024x2816.Idx → EReal := m ((c : Thread nD τ).loc main_arg1)
abbrev X2 : S1x1024x2816.Idx → EReal := m ((c : Thread nD τ).loc main_arg2)
abbrev X3 : S1x2816x1024.Idx → EReal := m ((c : Thread nD τ).loc main_arg3)
abbrev X4 : S1x4096x1024.Idx → EReal := m ((c : Thread nD τ).loc main_arg4)

/-! ### What the two calls are entered with -/

theorem V1_v12 (t : Fin 4096) (d : Fin 1024) : (V1 m c (Proc.devRef .tc main_v12) : S4096x1024.Idx → EReal) (ix2 t d) = X0 m c (ix3 0 t d) := by
  have e : (V1 m c (Proc.devRef .tc main_v12) : S4096x1024.Idx → EReal)
      = truncf (F := Ideal) .bf16 (shapeCast S4096x1024 (X0 m c : FVec Ideal S1x4096x1024 .f32) shapeCasts_S1x4096x1024_S4096x1024) bitsLt_bf16_f32 := by
    unfold V1
    after_results_simp
    <;> rfl
  rw [e]
  pointwise []

theorem V1_v3 (a : Fin 8) (b : Fin 352) (d : Fin 1024) : (V1 m c (Proc.devRef .tc main_v3) : S8x352x1024.Idx → EReal) (ix3 a b d) = X1 m c (ix3 0 d ⟨a.val * 352 + b.val, by omega⟩) := by
  have e : (V1 m c (Proc.devRef .tc main_v3) : S8x352x1024.Idx → EReal) = shapeCast S8x352x1024 (truncf (F := Ideal) .bf16 (transpose S2816x1024 [1, 0]
      (shapeCast S1024x2816 (X1 m c : FVec Ideal S1x1024x2816 .f32) shapeCasts_S1x1024x2816_S1024x2816) transposes_S1024x2816_S2816x1024_1_0) bitsLt_bf16_f32) shapeCasts_S2816x1024_S8x352x1024 := by
    unfold V1
    after_results_simp
    <;> rfl
  rw [e]
  pointwise []

theorem V1_v7 (a : Fin 8) (b : Fin 352) (d : Fin 1024) : (V1 m c (Proc.devRef .tc main_v7) : S8x352x1024.Idx → EReal) (ix3 a b d) = X2 m c (ix3 0 d ⟨a.val * 352 + b.val, by omega⟩) := by
  have e : (V1 m c (Proc.devRef .tc main_v7) : S8x352x1024.Idx → EReal) = shapeCast S8x352x1024 (truncf (F := Ideal) .bf16 (transpose S2816x1024 [1, 0]
      (shapeCast S1024x2816 (X2 m c : FVec Ideal S1x1024x2816 .f32) shapeCasts_S1x1024x2816_S1024x2816) transposes_S1024x2816_S2816x1024_1_0) bitsLt_bf16_f32) shapeCasts_S2816x1024_S8x352x1024 := by
    unfold V1
    after_results_simp
    <;> rfl
  rw [e]
  pointwise []

theorem V1_v10 (a : Fin 8) (b : Fin 352) (d : Fin 1024) : (V1 m c (Proc.devRef .tc main_v10) : S8x352x1024.Idx → EReal) (ix3 a b d) = X3 m c (ix3 0 ⟨a.val * 352 + b.val, by omega⟩ d) := by
  have e : (V1 m c (Proc.devRef .tc main_v10) : S8x352x1024.Idx → EReal) = shapeCast S8x352x1024 (truncf (F := Ideal) .bf16
      (shapeCast S2816x1024 (X3 m c : FVec Ideal S1x2816x1024 .f32) shapeCasts_S1x2816x1024_S2816x1024) bitsLt_bf16_f32) shapeCasts_S2816x1024_S8x352x1024 := by
    unfold V1
    after_results_simp
    <;> rfl
  rw [e]
  pointwise []

theorem W3_of (r : Ref sig .tc) (h : r ∉ hostOps1_W) : W3 m c r = W2 m c r :=
  StableHlo.after_of_writes_sub hostOps1 _ hostOps1_writes h

theorem W2_arg4 : (W2 m c (Proc.devRef .tc main_arg4) : S1x4096x1024.Idx → EReal) = X4 m c :=
  (W2_of m c main_arg4 (by decide)).trans (V1_of m c main_arg4 (by decide))

theorem V3_v15 (t : Fin 4096) (d : Fin 1024) : (W3 m c (Proc.devRef .tc main_v15) : S4096x1024.Idx → EReal) (ix2 t d) = X4 m c (ix3 0 t d) := by
  have e : (W3 m c (Proc.devRef .tc main_v15) : S4096x1024.Idx → EReal)
      = truncf (F := Ideal) .bf16 (shapeCast S4096x1024 (X4 m c : FVec Ideal S1x4096x1024 .f32) shapeCasts_S1x4096x1024_S4096x1024) bitsLt_bf16_f32 := by
    rw [← W2_arg4]
    unfold W3
    after_results_simp
    <;> rfl
  rw [e]
  pointwise []

/-! ### The forward call's blocks -/

theorem lt8 (t : Fin cfg0.N) : t.val < 8 := by have := t.isLt; have : cfg0.N = 8 := N_0; omega

/-- The token of a tile's row, and the column of a tile's column. -/
abbrev tok0 (t : Fin cfg0.N) (r : Fin 1024) : Fin 4096 := ⟨1024 * (t.val % 4) + r.val, by omega⟩
abbrev ff0 (t : Fin cfg0.N) (f : Fin 1408) : Fin 2816 := ⟨1408 * (t.val / 4) + f.val, by have := lt8 t; omega⟩

theorem idx0_0 : ∀ t : Fin grid0.N, win0_0.index t 0 = t.val % 4 ∧ win0_0.index t 1 = 0 := by decide +kernel
theorem idx0_1 : ∀ t : Fin grid0.N, win0_1.index t 0 = t.val / 4 ∧ win0_1.index t 1 = 0 ∧ win0_1.index t 2 = 0 := by decide +kernel
theorem idx0_2 : ∀ t : Fin grid0.N, win0_2.index t 0 = t.val / 4 ∧ win0_2.index t 1 = 0 ∧ win0_2.index t 2 = 0 := by decide +kernel
theorem idx0_3 : ∀ t : Fin grid0.N, win0_3.index t 0 = t.val % 4 ∧ win0_3.index t 1 = t.val / 4 := by decide +kernel
theorem idx0_4 : ∀ t : Fin grid0.N, win0_4.index t 0 = t.val % 4 ∧ win0_4.index t 1 = t.val / 4 := by decide +kernel

theorem X_read0 (V : (c : Dev nD) → (b : Ref sig .tc) → Buf (Elt Ideal) ((c : Thread nD τ).loc b)) (w : Fin cfg0.W) (t : Fin cfg0.N) (j : (cfg0.win w).block.Idx) :
    ∃ j' : ((cfg0.win w).xblock (cfg0.grid.coords t)).Idx, (∀ a, (j' a).val = (j a).val) ∧
      Fwd.X V c w t j = ((cfg0.win w).blk t).view.read (Elt Ideal) (V c (Pipeline.arrRef spec0 w)) j' := by
  have hm : (cfg0.win w).moved (cfg0.grid.coords t) j = true :=
    ((cfg0.win w).moved_iff _ j).mpr fun a => by rw [Fwd.xsize_all w t a]; exact (j a).isLt
  unfold Fwd.X Pipeline.Window.fill
  rw [dif_pos hm]
  exact ⟨_, fun a => rfl, rfl⟩

theorem h_blk0 (t : Fin cfg0.N) (r k : Fin 1024) : Fwd.X (E0 m) c 0 t (ix2 r k) = X0 m c (ix3 0 (tok0 t r) k) := by
  obtain ⟨j', hj, e⟩ := X_read0 c (E0 m) 0 t (ix2 r k)
  rw [e, View.read_apply, ← V1_v12]
  show V1 m c main_v12 _ = _
  congr 1; funext a; apply Fin.ext
  match a with
  | ⟨0, _⟩ => exact tile_row_at (idx0_0 t).1 (hj 0)
  | ⟨1, _⟩ => exact tile_col_at (idx0_0 t).2 (hj 1)

theorem wg_blk0 (t : Fin cfg0.N) (f : Fin 1408) (k : Fin 1024) :
    Fwd.X (E0 m) c 1 t (ix3 ⟨f.val / 352, by omega⟩ ⟨f.val % 352, by omega⟩ k) = X1 m c (ix3 0 k (ff0 t f)) := by
  have ht := lt8 t
  have ei : ff0 t f = ⟨(4 * (t.val / 4) + f.val / 352) * 352 + f.val % 352, by omega⟩ := by apply Fin.ext; show 1408 * (t.val / 4) + f.val = (4 * (t.val / 4) + f.val / 352) * 352 + f.val % 352; omega
  rw [ei]
  refine Eq.trans ?_ (V1_v3 m c ⟨4 * (t.val / 4) + f.val / 352, by omega⟩ ⟨f.val % 352, by omega⟩ k)
  obtain ⟨j', hj, e⟩ := X_read0 c (E0 m) 1 t (ix3 ⟨f.val / 352, by omega⟩ ⟨f.val % 352, by omega⟩ k)
  rw [e, View.read_apply]
  show V1 m c main_v3 _ = _
  congr 1; funext a; apply Fin.ext
  match a with
  | ⟨0, _⟩ => exact tile_row_at (idx0_1 t).1 (hj 0)
  | ⟨1, _⟩ => exact tile_col_at (idx0_1 t).2.1 (hj 1)
  | ⟨2, _⟩ => exact tile_col_at (idx0_1 t).2.2 (hj 2)

theorem wu_blk0 (t : Fin cfg0.N) (f : Fin 1408) (k : Fin 1024) :
    Fwd.X (E0 m) c 2 t (ix3 ⟨f.val / 352, by omega⟩ ⟨f.val % 352, by omega⟩ k) = X2 m c (ix3 0 k (ff0 t f)) := by
  have ht := lt8 t
  have ei : ff0 t f = ⟨(4 * (t.val / 4) + f.val / 352) * 352 + f.val % 352, by omega⟩ := by apply Fin.ext; show 1408 * (t.val / 4) + f.val = (4 * (t.val / 4) + f.val / 352) * 352 + f.val % 352; omega
  rw [ei]
  refine Eq.trans ?_ (V1_v7 m c ⟨4 * (t.val / 4) + f.val / 352, by omega⟩ ⟨f.val % 352, by omega⟩ k)
  obtain ⟨j', hj, e⟩ := X_read0 c (E0 m) 2 t (ix3 ⟨f.val / 352, by omega⟩ ⟨f.val % 352, by omega⟩ k)
  rw [e, View.read_apply]
  show V1 m c main_v7 _ = _
  congr 1; funext a; apply Fin.ext
  match a with
  | ⟨0, _⟩ => exact tile_row_at (idx0_2 t).1 (hj 0)
  | ⟨1, _⟩ => exact tile_col_at (idx0_2 t).2.1 (hj 1)
  | ⟨2, _⟩ => exact tile_col_at (idx0_2 t).2.2 (hj 2)

/-! ### The forward call's arrays -/

theorem sigE_coe (x : ℝ) : sigE (x : EReal) = (sg x : EReal) := by
  unfold sigE
  rw [zero_sub, sg_eq]

/-- An array of reals by token and column. -/
def tabOut (e : Fin 4096 → Fin 2816 → ℝ) : S4096x2816.Idx → EReal := fun i => (e (i 0) (i 1) : EReal)

variable (a0 : S1x4096x1024.Idx → ℝ) (a1 a2 : S1x1024x2816.Idx → ℝ) (h0 : ∀ i, X0 m c i = (a0 i : EReal)) (h1 : ∀ i, X1 m c i = (a1 i : EReal))
  (h2 : ∀ i, X2 m c i = (a2 i : EReal))

include h0 in
theorem pr_gate (h1 : ∀ i, X1 m c i = (a1 i : EReal)) (t : Fin cfg0.N) (r : Fin 1024) (f : Fin 1408) :
    k0_pay2 (F := Ideal) (Fwd.X (E0 m) c 0 t) (Fwd.X (E0 m) c 1 t) (ix2 r f) = (pr a0 a1 (tok0 t r) (ff0 t f) : EReal) := by
  refine (k0_pay2_apply _ _ r f).trans ?_
  unfold pr
  rw [← sum_mul_coe]
  refine Finset.sum_congr rfl fun k _ => ?_
  rw [h_blk0, wg_blk0, h0, h1]

include h0 in
theorem pr_up (h2 : ∀ i, X2 m c i = (a2 i : EReal)) (t : Fin cfg0.N) (r : Fin 1024) (f : Fin 1408) :
    k0_pay3 (F := Ideal) (Fwd.X (E0 m) c 0 t) (Fwd.X (E0 m) c 2 t) (ix2 r f) = (pr a0 a2 (tok0 t r) (ff0 t f) : EReal) := by
  refine (k0_pay3_apply _ _ r f).trans ?_
  unfold pr
  rw [← sum_mul_coe]
  refine Finset.sum_congr rfl fun k _ => ?_
  rw [h_blk0, wu_blk0, h0, h2]

/-- A point of the forward grid whose tile holds an index. -/
def pt0 (i : S4096x2816.Idx) : Fin cfg0.N := ⟨4 * ((i 1).val / 1408) + (i 0).val / 1024, by
  have h0 : (i 0).val < 4096 := (i 0).isLt
  have h1 : (i 1).val < 2816 := (i 1).isLt
  have : cfg0.N = 8 := N_0
  omega⟩

theorem pt0_spec (i : S4096x2816.Idx) : (pt0 i).val % 4 = (i 0).val / 1024 ∧ (pt0 i).val / 4 = (i 1).val / 1408 := by
  have h0 : (i 0).val < 4096 := (i 0).isLt
  unfold pt0
  constructor
  · show (4 * ((i 1).val / 1408) + (i 0).val / 1024) % 4 = _; omega
  · show (4 * ((i 1).val / 1408) + (i 0).val / 1024) / 4 = _; omega

include h0 h1 in
theorem final0_3 : (Fwd.dat (E0 m) c).arrAt 3 cfg0.N = tabOut (pr a0 a1) := by
  refine (Fwd.dat (E0 m) c).arrAt_eq_of_cover 3 (tabOut (pr a0 a1)) (fun t hf => ?_) fun i => ?_
  · funext j
    show (Fwd.dat (E0 m) c).after 3 t j = tabOut (pr a0 a1) (((cfg0.win 3).blk t).view.emb j)
    rw [Fwd.after_3, run_gate]
    obtain ⟨r, f, rfl⟩ : ∃ (r : Fin 1024) (f : Fin 1408), j = ix2 r f := ⟨_, _, eq_ix2 j⟩
    refine ((k0_pay4_apply _ _ r f).trans (pr_gate m c a0 a1 h0 h1 t r f)).trans ?_
    show tabOut (pr a0 a1) (ix2 (tok0 t r) (ff0 t f)) = _
    congr 1; funext a; apply Fin.ext
    match a with
    | ⟨0, _⟩ => exact (tile_row (idx0_3 t).1).symm
    | ⟨1, _⟩ => exact (tile_row (idx0_3 t).2).symm
  · refine ⟨pt0 i, flush0_3 _, mem_tile fun a => ?_⟩
    obtain ⟨e0, e1⟩ := pt0_spec i
    match a with
    | ⟨0, _⟩ => exact tile_div (Nat.succ_pos _) ((idx0_3 _).1.trans e0)
    | ⟨1, _⟩ => exact tile_div (Nat.succ_pos _) ((idx0_3 _).2.trans e1)

include h0 h2 in
theorem final0_4 : (Fwd.dat (E0 m) c).arrAt 4 cfg0.N = tabOut (pr a0 a2) := by
  refine (Fwd.dat (E0 m) c).arrAt_eq_of_cover 4 (tabOut (pr a0 a2)) (fun t hf => ?_) fun i => ?_
  · funext j
    show (Fwd.dat (E0 m) c).after 4 t j = tabOut (pr a0 a2) (((cfg0.win 4).blk t).view.emb j)
    rw [Fwd.after_4, run_up]
    obtain ⟨r, f, rfl⟩ : ∃ (r : Fin 1024) (f : Fin 1408), j = ix2 r f := ⟨_, _, eq_ix2 j⟩
    refine ((k0_pay5_apply _ _ r f).trans (pr_up m c a0 a2 h0 h2 t r f)).trans ?_
    show tabOut (pr a0 a2) (ix2 (tok0 t r) (ff0 t f)) = _
    congr 1; funext a; apply Fin.ext
    match a with
    | ⟨0, _⟩ => exact (tile_row (idx0_4 t).1).symm
    | ⟨1, _⟩ => exact (tile_row (idx0_4 t).2).symm
  · refine ⟨pt0 i, flush0_4 _, mem_tile fun a => ?_⟩
    obtain ⟨e0, e1⟩ := pt0_spec i
    match a with
    | ⟨0, _⟩ => exact tile_div (Nat.succ_pos _) ((idx0_4 _).1.trans e0)
    | ⟨1, _⟩ => exact tile_div (Nat.succ_pos _) ((idx0_4 _).2.trans e1)

theorem idx0_5 : ∀ t : Fin grid0.N, win0_5.index t 0 = t.val % 4 ∧ win0_5.index t 1 = t.val / 4 := by decide +kernel

include h0 h1 h2 in
theorem final0_5 : (Fwd.dat (E0 m) c).arrAt 5 cfg0.N = tabOut (actr a0 a1 a2) := by
  refine (Fwd.dat (E0 m) c).arrAt_eq_of_cover 5 (tabOut (actr a0 a1 a2)) (fun t hf => ?_) fun i => ?_
  · funext j
    show (Fwd.dat (E0 m) c).after 5 t j = tabOut (actr a0 a1 a2) (((cfg0.win 5).blk t).view.emb j)
    rw [Fwd.after_5, run_act]
    obtain ⟨r, f, rfl⟩ : ∃ (r : Fin 1024) (f : Fin 1408), j = ix2 r f := ⟨_, _, eq_ix2 j⟩
    have e : k0_pay6 (F := Ideal) (Fwd.X (E0 m) c 0 t) (Fwd.X (E0 m) c 1 t) (Fwd.X (E0 m) c 2 t) (ix2 r f) = (actr a0 a1 a2 (tok0 t r) (ff0 t f) : EReal) := by
      refine (k0_pay6_apply _ _ _ r f).trans ?_
      rw [pr_gate m c a0 a1 h0 h1, pr_up m c a0 a2 h0 h2, sigE_coe]
      unfold actr
      rw [EReal.coe_mul, EReal.coe_mul]
    refine e.trans ?_
    show tabOut (actr a0 a1 a2) (ix2 (tok0 t r) (ff0 t f)) = _
    congr 1; funext a; apply Fin.ext
    match a with
    | ⟨0, _⟩ => exact (tile_row (idx0_5 t).1).symm
    | ⟨1, _⟩ => exact (tile_row (idx0_5 t).2).symm
  · refine ⟨pt0 i, flush0_5 _, mem_tile fun a => ?_⟩
    obtain ⟨e0, e1⟩ := pt0_spec i
    match a with
    | ⟨0, _⟩ => exact tile_div (Nat.succ_pos _) ((idx0_5 _).1.trans e0)
    | ⟨1, _⟩ => exact tile_div (Nat.succ_pos _) ((idx0_5 _).2.trans e1)

end Cert.GateIdeal.Val

end
-- ==== Proof.GateKernel.lean ====
/-
  The gated unit's backward call over the forward call's saved arrays: the two cotangents and the two weights' gradients, as
  the reals of the reference's lines.
-/
module

public import proofs.«01_k».proof.Proof.GateForward

@[expose] public section

set_option maxRecDepth 16384

noncomputable section

namespace Cert.GateIdeal.Val

open Cert.GateIdeal Cert.GateIdeal.Gen Cert.GateIdeal.Run Idealize.ShloMosaic Idealize.ShloMosaic.TcCoe
open Cert.Reals
open Cert.GateRefIdeal.Val (sg sg_eq pr actr dar dgr dur dwr rowOf)
open scoped BigOperators

variable (m : (ℓ : Loc nD τ sig) → Buf (Elt Ideal) ℓ) (c : Dev nD)

/-! ### The blocks -/

theorem lt16 (t : Fin cfg1.N) : t.val < 16 := by have := t.isLt; have : cfg1.N = 16 := N_1; omega

/-- The token of a tile's row, and the column of a tile's column, at point `n`. -/
abbrev tok1 (n : ℕ) (r : Fin 512) : Fin 4096 := ⟨512 * (n % 8) + r.val, by omega⟩
abbrev ff1 (n : ℕ) (f : Fin 1408) : Fin 2816 := ⟨1408 * (n / 8 % 2) + f.val, by omega⟩

theorem idx1_0 : ∀ t : Fin grid1.N, win1_0.index t 0 = t.val % 8 ∧ win1_0.index t 1 = 0 := by decide +kernel
theorem idx1_1 : ∀ t : Fin grid1.N, win1_1.index t 0 = t.val / 8 % 2 ∧ win1_1.index t 1 = 0 ∧ win1_1.index t 2 = 0 := by decide +kernel
theorem idx1_2 : ∀ t : Fin grid1.N, win1_2.index t 0 = t.val % 8 ∧ win1_2.index t 1 = t.val / 8 % 2 := by decide +kernel
theorem idx1_3 : ∀ t : Fin grid1.N, win1_3.index t 0 = t.val % 8 ∧ win1_3.index t 1 = t.val / 8 % 2 := by decide +kernel
theorem idx1_4 : ∀ t : Fin grid1.N, win1_4.index t 0 = t.val % 8 ∧ win1_4.index t 1 = 0 := by decide +kernel
theorem idx1_5 : ∀ t : Fin grid1.N, win1_5.index t 0 = t.val % 8 ∧ win1_5.index t 1 = t.val / 8 % 2 := by decide +kernel
theorem idx1_6 : ∀ t : Fin grid1.N, win1_6.index t 0 = t.val % 8 ∧ win1_6.index t 1 = t.val / 8 % 2 := by decide +kernel
theorem idx1_7 : ∀ t : Fin grid1.N, win1_7.index t 0 = 0 ∧ win1_7.index t 1 = t.val / 8 % 2 ∧ win1_7.index t 2 = 0 ∧ win1_7.index t 3 = 0 := by decide +kernel
theorem idx1_8 : ∀ t : Fin grid1.N, win1_8.index t 0 = 0 ∧ win1_8.index t 1 = t.val / 8 % 2 ∧ win1_8.index t 2 = 0 ∧ win1_8.index t 3 = 0 := by decide +kernel

theorem X_read1 (V : (c : Dev nD) → (b : Ref sig .tc) → Buf (Elt Ideal) ((c : Thread nD τ).loc b)) (w : Fin cfg1.W) (t : Fin cfg1.N) (j : (cfg1.win w).block.Idx) :
    ∃ j' : ((cfg1.win w).xblock (cfg1.grid.coords t)).Idx, (∀ a, (j' a).val = (j a).val) ∧
      Bwd.X V c w t j = ((cfg1.win w).blk t).view.read (Elt Ideal) (V c (Pipeline.arrRef spec1 w)) j' := by
  have hm : (cfg1.win w).moved (cfg1.grid.coords t) j = true :=
    ((cfg1.win w).moved_iff _ j).mpr fun a => by rw [Bwd.xsize_all w t a]; exact (j a).isLt
  unfold Bwd.X Pipeline.Window.fill
  rw [dif_pos hm]
  exact ⟨_, fun a => rfl, rfl⟩

theorem df_blk1 (t : Fin cfg1.N) (r : Fin 512) (k : Fin 1024) : Bwd.X (E1 m) c 0 t (ix2 r k) = X4 m c (ix3 0 (tok1 t.val r) k) := by
  obtain ⟨j', hj, e⟩ := X_read1 c (E1 m) 0 t (ix2 r k)
  rw [e, View.read_apply, ← V3_v15]
  show W3 m c main_v15 _ = _
  congr 1; funext a; apply Fin.ext
  match a with
  | ⟨0, _⟩ => exact tile_row_at (idx1_0 t).1 (hj 0)
  | ⟨1, _⟩ => exact tile_col_at (idx1_0 t).2 (hj 1)

theorem W3_v10 : W3 m c (Proc.devRef .tc main_v10) = V1 m c (Proc.devRef .tc main_v10) := (W3_of m c main_v10 (by decide)).trans (W2_of m c main_v10 (by decide))
theorem W3_v12 : W3 m c (Proc.devRef .tc main_v12) = V1 m c (Proc.devRef .tc main_v12) := (W3_of m c main_v12 (by decide)).trans (W2_of m c main_v12 (by decide))

theorem wd_blk1 (t : Fin cfg1.N) (f : Fin 1408) (k : Fin 1024) :
    Bwd.X (E1 m) c 1 t (ix3 ⟨f.val / 352, by omega⟩ ⟨f.val % 352, by omega⟩ k) = X3 m c (ix3 0 (ff1 t.val f) k) := by
  have ei : ff1 t.val f = ⟨(4 * (t.val / 8 % 2) + f.val / 352) * 352 + f.val % 352, by omega⟩ := by apply Fin.ext; show 1408 * (t.val / 8 % 2) + f.val = (4 * (t.val / 8 % 2) + f.val / 352) * 352 + f.val % 352; omega
  rw [ei]
  refine Eq.trans ?_ (V1_v10 m c ⟨4 * (t.val / 8 % 2) + f.val / 352, by omega⟩ ⟨f.val % 352, by omega⟩ k)
  obtain ⟨j', hj, e⟩ := X_read1 c (E1 m) 1 t (ix3 ⟨f.val / 352, by omega⟩ ⟨f.val % 352, by omega⟩ k)
  rw [e, View.read_apply]
  show W3 m c main_v10 _ = _
  rw [W3_v10]
  congr 1; funext a; apply Fin.ext
  match a with
  | ⟨0, _⟩ => exact tile_row_at (idx1_1 t).1 (hj 0)
  | ⟨1, _⟩ => exact tile_col_at (idx1_1 t).2.1 (hj 1)
  | ⟨2, _⟩ => exact tile_col_at (idx1_1 t).2.2 (hj 2)

theorem h_blk1 (t : Fin cfg1.N) (r : Fin 512) (k : Fin 1024) : Bwd.X (E1 m) c 4 t (ix2 r k) = X0 m c (ix3 0 (tok1 t.val r) k) := by
  obtain ⟨j', hj, e⟩ := X_read1 c (E1 m) 4 t (ix2 r k)
  rw [e, View.read_apply, ← V1_v12]
  show W3 m c main_v12 _ = _
  rw [W3_v12]
  congr 1; funext a; apply Fin.ext
  match a with
  | ⟨0, _⟩ => exact tile_row_at (idx1_4 t).1 (hj 0)
  | ⟨1, _⟩ => exact tile_col_at (idx1_4 t).2 (hj 1)

variable (a0 : S1x4096x1024.Idx → ℝ) (a1 a2 : S1x1024x2816.Idx → ℝ) (a3 : S1x2816x1024.Idx → ℝ) (a4 : S1x4096x1024.Idx → ℝ)
  (h0 : ∀ i, X0 m c i = (a0 i : EReal)) (h1 : ∀ i, X1 m c i = (a1 i : EReal)) (h2 : ∀ i, X2 m c i = (a2 i : EReal))
  (h3 : ∀ i, X3 m c i = (a3 i : EReal)) (h4 : ∀ i, X4 m c i = (a4 i : EReal))

include h0 h1 in
theorem gate_blk1 (t : Fin cfg1.N) (r : Fin 512) (f : Fin 1408) : Bwd.X (E1 m) c 2 t (ix2 r f) = (pr a0 a1 (tok1 t.val r) (ff1 t.val f) : EReal) := by
  have ew : (W3 m c (Proc.devRef .tc main_v13_0) : S4096x2816.Idx → EReal) = tabOut (pr a0 a1) :=
    ((W3_of m c main_v13_0 (by decide)).trans (W2_out m c).1).trans (final0_3 m c a0 a1 h0 h1)
  obtain ⟨j', hj, e⟩ := X_read1 c (E1 m) 2 t (ix2 r f)
  rw [e, View.read_apply]
  show W3 m c main_v13_0 _ = tabOut (pr a0 a1) (ix2 (tok1 t.val r) (ff1 t.val f))
  rw [ew]
  congr 1; funext a; apply Fin.ext
  match a with
  | ⟨0, _⟩ => exact tile_row_at (idx1_2 t).1 (hj 0)
  | ⟨1, _⟩ => exact tile_row_at (idx1_2 t).2 (hj 1)

include h0 h2 in
theorem up_blk1 (t : Fin cfg1.N) (r : Fin 512) (f : Fin 1408) : Bwd.X (E1 m) c 3 t (ix2 r f) = (pr a0 a2 (tok1 t.val r) (ff1 t.val f) : EReal) := by
  have ew : (W3 m c (Proc.devRef .tc main_v13_1) : S4096x2816.Idx → EReal) = tabOut (pr a0 a2) :=
    ((W3_of m c main_v13_1 (by decide)).trans (W2_out m c).2.1).trans (final0_4 m c a0 a2 h0 h2)
  obtain ⟨j', hj, e⟩ := X_read1 c (E1 m) 3 t (ix2 r f)
  rw [e, View.read_apply]
  show W3 m c main_v13_1 _ = tabOut (pr a0 a2) (ix2 (tok1 t.val r) (ff1 t.val f))
  rw [ew]
  congr 1; funext a; apply Fin.ext
  match a with
  | ⟨0, _⟩ => exact tile_row_at (idx1_3 t).1 (hj 0)
  | ⟨1, _⟩ => exact tile_row_at (idx1_3 t).2 (hj 1)

/-! ### The two cotangents -/

include h3 h4 in
theorem da_tile (t : Fin cfg1.N) (r : Fin 512) (f : Fin 1408) :
    k1_pay15 (F := Ideal) (Bwd.X (E1 m) c 0 t) (Bwd.X (E1 m) c 1 t) (ix2 r f) = (dar a3 a4 (tok1 t.val r) (ff1 t.val f) : EReal) := by
  refine (k1_pay15_apply _ _ r f).trans ?_
  unfold dar
  rw [← sum_mul_coe]
  refine Finset.sum_congr rfl fun k _ => ?_
  rw [df_blk1, wd_blk1, h4, h3]

include h0 h1 h2 h3 h4 in
theorem dg_tile (t : Fin cfg1.N) (r : Fin 512) (f : Fin 1408) :
    dgP (Bwd.blocks (E1 m) c t) (ix2 r f) = (dgr a0 a1 a2 a3 a4 (tok1 t.val r) (ff1 t.val f) : EReal) := by
  refine (k1_pay18_apply _ _ _ _ r f).trans ?_
  have eg : (Bwd.blocks (E1 m) c t).x2 (ix2 r f) = (pr a0 a1 (tok1 t.val r) (ff1 t.val f) : EReal) := gate_blk1 m c a0 a1 h0 h1 t r f
  have eu : (Bwd.blocks (E1 m) c t).x3 (ix2 r f) = (pr a0 a2 (tok1 t.val r) (ff1 t.val f) : EReal) := up_blk1 m c a0 a2 h0 h2 t r f
  rw [da_tile m c a3 a4 h3 h4, eg, eu, sigE_coe]
  unfold dgr
  rw [EReal.coe_mul, EReal.coe_mul, EReal.coe_mul, EReal.coe_add, EReal.coe_mul, EReal.coe_sub, EReal.coe_one]

include h0 h1 h3 h4 in
theorem du_tile (t : Fin cfg1.N) (r : Fin 512) (f : Fin 1408) :
    duP (Bwd.blocks (E1 m) c t) (ix2 r f) = (dur a0 a1 a3 a4 (tok1 t.val r) (ff1 t.val f) : EReal) := by
  refine (k1_pay19_apply _ _ _ r f).trans ?_
  have eg : (Bwd.blocks (E1 m) c t).x2 (ix2 r f) = (pr a0 a1 (tok1 t.val r) (ff1 t.val f) : EReal) := gate_blk1 m c a0 a1 h0 h1 t r f
  rw [da_tile m c a3 a4 h3 h4, eg, sigE_coe]
  unfold dur
  rw [EReal.coe_mul, EReal.coe_mul]

theorem dgateAt_eq (V : (c : Dev nD) → (b : Ref sig .tc) → Buf (Elt Ideal) ((c : Thread nD τ).loc b)) (t : Fin cfg1.N) :
    Bwd.dgateAt V c t = dgP (Bwd.blocks V c t) := by
  unfold Bwd.dgateAt
  split
  · exact (run_dgate _ (fun _ => (0 : EReal)) ..).1 ..
  · split
    · exact (run_dgate ..).2.2 ..
    · exact (run_dgate ..).2.1 ..

theorem dupAt_eq (V : (c : Dev nD) → (b : Ref sig .tc) → Buf (Elt Ideal) ((c : Thread nD τ).loc b)) (t : Fin cfg1.N) :
    Bwd.dupAt V c t = duP (Bwd.blocks V c t) := by
  unfold Bwd.dupAt
  split
  · exact (run_dup _ (fun _ => (0 : EReal)) ..).1 ..
  · split
    · exact (run_dup ..).2.2 ..
    · exact (run_dup ..).2.1 ..

/-- A point of the backward grid whose tile holds an index. -/
def pt1 (i : S4096x2816.Idx) : Fin cfg1.N := ⟨8 * ((i 1).val / 1408) + (i 0).val / 512, by
  have h0 : (i 0).val < 4096 := (i 0).isLt
  have h1 : (i 1).val < 2816 := (i 1).isLt
  have : cfg1.N = 16 := N_1
  omega⟩

theorem pt1_spec (i : S4096x2816.Idx) : (pt1 i).val % 8 = (i 0).val / 512 ∧ (pt1 i).val / 8 % 2 = (i 1).val / 1408 := by
  have h0 : (i 0).val < 4096 := (i 0).isLt
  have h1 : (i 1).val < 2816 := (i 1).isLt
  unfold pt1
  constructor
  · show (8 * ((i 1).val / 1408) + (i 0).val / 512) % 8 = _; omega
  · show (8 * ((i 1).val / 1408) + (i 0).val / 512) / 8 % 2 = _; omega

include h0 h1 h2 h3 h4 in
theorem final1_5 : (Bwd.dat (E1 m) c).arrAt 5 cfg1.N = tabOut (dgr a0 a1 a2 a3 a4) := by
  refine (Bwd.dat (E1 m) c).arrAt_eq_of_cover 5 (tabOut (dgr a0 a1 a2 a3 a4)) (fun t hf => ?_) fun i => ?_
  · funext j
    show (Bwd.dat (E1 m) c).after 5 t j = tabOut (dgr a0 a1 a2 a3 a4) (((cfg1.win 5).blk t).view.emb j)
    rw [Bwd.after_5, dgateAt_eq]
    obtain ⟨r, f, rfl⟩ : ∃ (r : Fin 512) (f : Fin 1408), j = ix2 r f := ⟨_, _, eq_ix2 j⟩
    refine (dg_tile m c a0 a1 a2 a3 a4 h0 h1 h2 h3 h4 t r f).trans ?_
    show tabOut (dgr a0 a1 a2 a3 a4) (ix2 (tok1 t.val r) (ff1 t.val f)) = _
    congr 1; funext a; apply Fin.ext
    match a with
    | ⟨0, _⟩ => exact (tile_row (idx1_5 t).1).symm
    | ⟨1, _⟩ => exact (tile_row (idx1_5 t).2).symm
  · refine ⟨pt1 i, flush1_5 _, mem_tile fun a => ?_⟩
    obtain ⟨e0, e1⟩ := pt1_spec i
    match a with
    | ⟨0, _⟩ => exact tile_div (Nat.succ_pos _) ((idx1_5 _).1.trans e0)
    | ⟨1, _⟩ => exact tile_div (Nat.succ_pos _) ((idx1_5 _).2.trans e1)

include h0 h1 h3 h4 in
theorem final1_6 : (Bwd.dat (E1 m) c).arrAt 6 cfg1.N = tabOut (dur a0 a1 a3 a4) := by
  refine (Bwd.dat (E1 m) c).arrAt_eq_of_cover 6 (tabOut (dur a0 a1 a3 a4)) (fun t hf => ?_) fun i => ?_
  · funext j
    show (Bwd.dat (E1 m) c).after 6 t j = tabOut (dur a0 a1 a3 a4) (((cfg1.win 6).blk t).view.emb j)
    rw [Bwd.after_6, dupAt_eq]
    obtain ⟨r, f, rfl⟩ : ∃ (r : Fin 512) (f : Fin 1408), j = ix2 r f := ⟨_, _, eq_ix2 j⟩
    refine (du_tile m c a0 a1 a3 a4 h0 h1 h3 h4 t r f).trans ?_
    show tabOut (dur a0 a1 a3 a4) (ix2 (tok1 t.val r) (ff1 t.val f)) = _
    congr 1; funext a; apply Fin.ext
    match a with
    | ⟨0, _⟩ => exact (tile_row (idx1_6 t).1).symm
    | ⟨1, _⟩ => exact (tile_row (idx1_6 t).2).symm
  · refine ⟨pt1 i, flush1_6 _, mem_tile fun a => ?_⟩
    obtain ⟨e0, e1⟩ := pt1_spec i
    match a with
    | ⟨0, _⟩ => exact tile_div (Nat.succ_pos _) ((idx1_6 _).1.trans e0)
    | ⟨1, _⟩ => exact tile_div (Nat.succ_pos _) ((idx1_6 _).2.trans e1)

/-! ### The two sums along the tokens -/

/-- A running sum over a tile's eight points: started at the first, continued at the others. -/
theorem run_sum (s : ℕ → EReal) (g : ℕ → ℕ → ℝ) (hg : ∀ n, ¬(n + 1) % 8 = 0 → g n = g (n + 1))
    (hs0 : ∀ n < 16, n % 8 = 0 → s n = ((∑ k ∈ Finset.range 512, g n (512 * (n % 8) + k) : ℝ) : EReal))
    (hs1 : ∀ n, n + 1 < 16 → ¬(n + 1) % 8 = 0 → s (n + 1) = s n + ((∑ k ∈ Finset.range 512, g (n + 1) (512 * ((n + 1) % 8) + k) : ℝ) : EReal)) :
    ∀ n < 16, s n = ((∑ T ∈ Finset.range (512 * (n % 8) + 512), g n T : ℝ) : EReal) := by
  have first : ∀ n < 16, n % 8 = 0 → s n = ((∑ T ∈ Finset.range (512 * (n % 8) + 512), g n T : ℝ) : EReal) := by
    intro n hn h
    rw [hs0 n hn h, h]
    simp only [Nat.mul_zero, Nat.zero_add]
  intro n
  induction n with
  | zero => intro hn; exact first 0 hn rfl
  | succ n ih =>
    intro hn
    by_cases h : (n + 1) % 8 = 0
    · exact first _ hn h
    · rw [hs1 n hn h, ih (by omega), hg n h, ← EReal.coe_add, show 512 * ((n + 1) % 8) = 512 * (n % 8) + 512 by omega]
      exact congrArg _ (Finset.sum_range_add _ _ _).symm

/-- A token's term of a weight's gradient. -/
def term (e : Fin 4096 → Fin 2816 → ℝ) (f : Fin 1408) (d : Fin 1024) (n T : ℕ) : ℝ :=
  if h : T < 4096 then e ⟨T, h⟩ (ff1 n f) * a0 (ix3 0 ⟨T, h⟩ d) else 0

theorem term_next (e : Fin 4096 → Fin 2816 → ℝ) (f : Fin 1408) (d : Fin 1024) (n : ℕ) (h : ¬(n + 1) % 8 = 0) : term a0 e f d n = term a0 e f d (n + 1) := by
  have ef : ff1 n f = ff1 (n + 1) f := by apply Fin.ext; show 1408 * (n / 8 % 2) + f.val = 1408 * ((n + 1) / 8 % 2) + f.val; omega
  funext T
  unfold term
  rw [ef]

theorem term_all (e : Fin 4096 → Fin 2816 → ℝ) (f : Fin 1408) (d : Fin 1024) (n : ℕ) (h : n % 8 = 7) :
    (∑ T ∈ Finset.range (512 * (n % 8) + 512), term a0 e f d n T) = dwr a0 e (ff1 n f) d := by
  rw [h, show 512 * 7 + 512 = 4096 from rfl, Finset.sum_range]
  unfold dwr term
  refine Finset.sum_congr rfl fun T _ => ?_
  rw [dif_pos T.isLt]

include h0 in
theorem point_sum (P : Vec Ideal S512x1408 .bf16) (e : Fin 4096 → Fin 2816 → ℝ) (t : Fin cfg1.N)
    (hP : ∀ r f, P (ix2 r f) = (e (tok1 t.val r) (ff1 t.val f) : EReal)) (f : Fin 1408) (d : Fin 1024) :
    ∑ r : Fin 512, P (ix2 r f) * (Bwd.X (E1 m) c 4 t : Vec Ideal S512x1024 .bf16) (ix2 r d)
      = ((∑ k ∈ Finset.range 512, term a0 e f d t.val (512 * (t.val % 8) + k) : ℝ) : EReal) := by
  rw [Finset.sum_range, ← sum_coe]
  refine Finset.sum_congr rfl fun r _ => ?_
  rw [hP, h_blk1, h0, ← EReal.coe_mul]
  congr 1
  unfold term
  rw [dif_pos (show 512 * (t.val % 8) + r.val < 4096 by omega)]

theorem lt_N1 {n : ℕ} (h : n < 16) : n < cfg1.N := by have : cfg1.N = 16 := N_1; omega

include h0 h1 h2 h3 h4 in
theorem acc_gate (n : ℕ) (hn : n < 16) (f : Fin 1408) (d : Fin 1024) :
    Bwd.acc (E1 m) c n (ix3 0 f d) = ((∑ T ∈ Finset.range (512 * (n % 8) + 512), term a0 (dgr a0 a1 a2 a3 a4) f d n T : ℝ) : EReal) := by
  have hp : ∀ t : Fin cfg1.N, ∑ r : Fin 512, dgP (Bwd.blocks (E1 m) c t) (ix2 r f) * (Bwd.blocks (E1 m) c t).x4 (ix2 r d)
      = ((∑ k ∈ Finset.range 512, term a0 (dgr a0 a1 a2 a3 a4) f d t.val (512 * (t.val % 8) + k) : ℝ) : EReal) := fun t =>
    point_sum m c a0 h0 _ _ t (fun r f => dg_tile m c a0 a1 a2 a3 a4 h0 h1 h2 h3 h4 t r f) f d
  refine run_sum (fun n => Bwd.acc (E1 m) c n (ix3 0 f d)) (term a0 (dgr a0 a1 a2 a3 a4) f d) (fun n => term_next a0 _ f d n) (fun n hn h => ?_) (fun n hn h => ?_) n hn
  · refine (congrFun (Bwd.acc_first (E1 m) c ⟨n, lt_N1 hn⟩ h) _).trans ((runA_acc_0 ..).trans (hp ⟨n, lt_N1 hn⟩))
  · by_cases h' : (n + 1) % 8 = 7
    · refine (congrFun (Bwd.acc_last (E1 m) c ⟨n + 1, lt_N1 hn⟩ h') _).trans ((runC_acc_0 ..).trans ?_)
      rw [hp]; rfl
    · refine (congrFun (Bwd.acc_mid (E1 m) c ⟨n + 1, lt_N1 hn⟩ h h') _).trans ((runB_acc_0 ..).trans ?_)
      rw [hp]; rfl

include h0 h1 h3 h4 in
theorem acc_up (n : ℕ) (hn : n < 16) (f : Fin 1408) (d : Fin 1024) :
    Bwd.acc (E1 m) c n (ix3 1 f d) = ((∑ T ∈ Finset.range (512 * (n % 8) + 512), term a0 (dur a0 a1 a3 a4) f d n T : ℝ) : EReal) := by
  have hp : ∀ t : Fin cfg1.N, ∑ r : Fin 512, duP (Bwd.blocks (E1 m) c t) (ix2 r f) * (Bwd.blocks (E1 m) c t).x4 (ix2 r d)
      = ((∑ k ∈ Finset.range 512, term a0 (dur a0 a1 a3 a4) f d t.val (512 * (t.val % 8) + k) : ℝ) : EReal) := fun t =>
    point_sum m c a0 h0 _ _ t (fun r f => du_tile m c a0 a1 a3 a4 h0 h1 h3 h4 t r f) f d
  refine run_sum (fun n => Bwd.acc (E1 m) c n (ix3 1 f d)) (term a0 (dur a0 a1 a3 a4) f d) (fun n => term_next a0 _ f d n) (fun n hn h => ?_) (fun n hn h => ?_) n hn
  · refine (congrFun (Bwd.acc_first (E1 m) c ⟨n, lt_N1 hn⟩ h) _).trans ((runA_acc_1 ..).trans (hp ⟨n, lt_N1 hn⟩))
  · by_cases h' : (n + 1) % 8 = 7
    · refine (congrFun (Bwd.acc_last (E1 m) c ⟨n + 1, lt_N1 hn⟩ h') _).trans ((runC_acc_1 ..).trans ?_)
      rw [hp]; rfl
    · refine (congrFun (Bwd.acc_mid (E1 m) c ⟨n + 1, lt_N1 hn⟩ h h') _).trans ((runB_acc_1 ..).trans ?_)
      rw [hp]; rfl

/-! ### The two weights' gradients -/

/-- A weight's gradient in the sharded layout. -/
def dwOut (e : Fin 4096 → Fin 2816 → ℝ) : S2x4x352x1024.Idx → EReal := fun i => (dwr a0 e (rowOf (i 0) (i 1) (i 2)) (i 3) : EReal)

include h0 h1 h2 h3 h4 in
theorem dwg_tile (t : Fin cfg1.N) (h : t.val % 8 = 7) (a b : Fin 2) (n : Fin 352) (d : Fin 1024) :
    Bwd.dwgAt (E1 m) c t (ix4 a b n d) = (dwr a0 (dgr a0 a1 a2 a3 a4) (ff1 t.val ⟨slotRow a b n, by unfold slotRow; omega⟩) d : EReal) := by
  unfold Bwd.dwgAt
  rw [dif_pos h]
  refine (runC_dwg ..).trans ?_
  have e := Bwd.acc_last (E1 m) c t h
  rw [← e]
  rw [← term_all a0 _ _ d t.val h, ← acc_gate m c a0 a1 a2 a3 a4 h0 h1 h2 h3 h4 t.val (lt16 t)]
  rfl

include h0 h1 h3 h4 in
theorem dwu_tile (t : Fin cfg1.N) (h : t.val % 8 = 7) (a b : Fin 2) (n : Fin 352) (d : Fin 1024) :
    Bwd.dwuAt (E1 m) c t (ix4 a b n d) = (dwr a0 (dur a0 a1 a3 a4) (ff1 t.val ⟨slotRow a b n, by unfold slotRow; omega⟩) d : EReal) := by
  unfold Bwd.dwuAt
  rw [dif_pos h]
  refine (runC_dwu ..).trans ?_
  have e := Bwd.acc_last (E1 m) c t h
  rw [← e]
  rw [← term_all a0 _ _ d t.val h, ← acc_up m c a0 a1 a3 a4 h0 h1 h3 h4 t.val (lt16 t)]
  rfl

/-- The last point of the tile that holds an index of the sharded layout. -/
def ptw (i : S2x4x352x1024.Idx) : Fin cfg1.N := ⟨8 * ((i 1).val / 2) + 7, by
  have h1 : (i 1).val < 4 := (i 1).isLt
  have : cfg1.N = 16 := N_1
  omega⟩

theorem ptw_spec (i : S2x4x352x1024.Idx) : (ptw i).val % 8 = 7 ∧ (ptw i).val / 8 % 2 = (i 1).val / 2 := by
  have h1 : (i 1).val < 4 := (i 1).isLt
  unfold ptw
  constructor
  · show (8 * ((i 1).val / 2) + 7) % 8 = _; omega
  · show (8 * ((i 1).val / 2) + 7) / 8 % 2 = _; omega

theorem dwOut_at (e : Fin 4096 → Fin 2816 → ℝ) (k : ℕ) (a b : Fin 2) (n : Fin 352) (d : Fin 1024) (i : S2x4x352x1024.Idx)
    (e0 : (i 0).val = a.val) (e1 : (i 1).val = k / 8 % 2 * 2 + b.val) (e2 : (i 2).val = n.val) (e3 : (i 3).val = d.val) :
    (dwr a0 e (ff1 k ⟨slotRow a b n, by unfold slotRow; omega⟩) d : EReal) = dwOut a0 e i := by
  unfold dwOut
  have er : ff1 k ⟨slotRow a b n, by unfold slotRow; omega⟩ = rowOf (i 0) (i 1) (i 2) := by
    apply Fin.ext
    show 1408 * (k / 8 % 2) + slotRow a b n = ((i 1).val * 2 + (i 0).val) * 352 + (i 2).val
    rw [e0, e1, e2]
    unfold slotRow
    ring
  have ed : d = i 3 := Fin.ext e3.symm
  rw [er, ← ed]

include h0 h1 h2 h3 h4 in
theorem final1_7 : (Bwd.dat (E1 m) c).arrAt 7 cfg1.N = dwOut a0 (dgr a0 a1 a2 a3 a4) := by
  refine (Bwd.dat (E1 m) c).arrAt_eq_of_cover 7 (dwOut a0 (dgr a0 a1 a2 a3 a4)) (fun t hf => ?_) fun i => ?_
  · have h7 := (flush1_7 t).mp hf
    funext j
    show (Bwd.dat (E1 m) c).after 7 t j = dwOut a0 (dgr a0 a1 a2 a3 a4) (((cfg1.win 7).blk t).view.emb j)
    rw [Bwd.after_7]
    obtain ⟨a, b, n, d, rfl⟩ : ∃ (a b : Fin 2) (n : Fin 352) (d : Fin 1024), j = ix4 a b n d := ⟨_, _, _, _, eq_ix4 j⟩
    refine (dwg_tile m c a0 a1 a2 a3 a4 h0 h1 h2 h3 h4 t h7 a b n d).trans (dwOut_at a0 _ t.val a b n d _ ?_ ?_ ?_ ?_)
    · show win1_7.index t 0 * 2 + 1 * a.val = _; rw [(idx1_7 t).1]; ring
    · show win1_7.index t 1 * 2 + 1 * b.val = _; rw [(idx1_7 t).2.1]; ring
    · show win1_7.index t 2 * 352 + 1 * n.val = _; rw [(idx1_7 t).2.2.1]; ring
    · show win1_7.index t 3 * 1024 + 1 * d.val = _; rw [(idx1_7 t).2.2.2]; ring
  · obtain ⟨e0, e1⟩ := ptw_spec i
    have i0 : (i 0 : Nat) < 2 := (i 0).isLt
    have i1 : (i 1 : Nat) < 4 := (i 1).isLt
    have i2 : (i 2 : Nat) < 352 := (i 2).isLt
    have i3 : (i 3 : Nat) < 1024 := (i 3).isLt
    refine ⟨ptw i, (flush1_7 _).mpr e0, mem_tile fun a => ?_⟩
    match a with
    | ⟨0, _⟩ => exact tile_zero (idx1_7 _).1 i0
    | ⟨1, _⟩ => exact tile_div (Nat.succ_pos _) ((idx1_7 _).2.1.trans e1)
    | ⟨2, _⟩ => exact tile_zero (idx1_7 _).2.2.1 i2
    | ⟨3, _⟩ => exact tile_zero (idx1_7 _).2.2.2 i3

include h0 h1 h3 h4 in
theorem final1_8 : (Bwd.dat (E1 m) c).arrAt 8 cfg1.N = dwOut a0 (dur a0 a1 a3 a4) := by
  refine (Bwd.dat (E1 m) c).arrAt_eq_of_cover 8 (dwOut a0 (dur a0 a1 a3 a4)) (fun t hf => ?_) fun i => ?_
  · have h7 := (flush1_8 t).mp hf
    funext j
    show (Bwd.dat (E1 m) c).after 8 t j = dwOut a0 (dur a0 a1 a3 a4) (((cfg1.win 8).blk t).view.emb j)
    rw [Bwd.after_8]
    obtain ⟨a, b, n, d, rfl⟩ : ∃ (a b : Fin 2) (n : Fin 352) (d : Fin 1024), j = ix4 a b n d := ⟨_, _, _, _, eq_ix4 j⟩
    refine (dwu_tile m c a0 a1 a3 a4 h0 h1 h3 h4 t h7 a b n d).trans (dwOut_at a0 _ t.val a b n d _ ?_ ?_ ?_ ?_)
    · show win1_8.index t 0 * 2 + 1 * a.val = _; rw [(idx1_8 t).1]; ring
    · show win1_8.index t 1 * 2 + 1 * b.val = _; rw [(idx1_8 t).2.1]; ring
    · show win1_8.index t 2 * 352 + 1 * n.val = _; rw [(idx1_8 t).2.2.1]; ring
    · show win1_8.index t 3 * 1024 + 1 * d.val = _; rw [(idx1_8 t).2.2.2]; ring
  · obtain ⟨e0, e1⟩ := ptw_spec i
    have i0 : (i 0 : Nat) < 2 := (i 0).isLt
    have i1 : (i 1 : Nat) < 4 := (i 1).isLt
    have i2 : (i 2 : Nat) < 352 := (i 2).isLt
    have i3 : (i 3 : Nat) < 1024 := (i 3).isLt
    refine ⟨ptw i, (flush1_8 _).mpr e0, mem_tile fun a => ?_⟩
    match a with
    | ⟨0, _⟩ => exact tile_zero (idx1_8 _).1 i0
    | ⟨1, _⟩ => exact tile_div (Nat.succ_pos _) ((idx1_8 _).2.1.trans e1)
    | ⟨2, _⟩ => exact tile_zero (idx1_8 _).2.2.1 i2
    | ⟨3, _⟩ => exact tile_zero (idx1_8 _).2.2.2 i3

end Cert.GateIdeal.Val

end
-- ==== Proof.Gate.lean ====
/-
  The gated unit's backward call: the three frames, and the equality of its five results with the forward lines' gated
  activation and the derivative's four, on finite arguments.
-/
module

public import proofs.«01_k».proof.Defs
public import proofs.«01_k».proof.Proof.Gen.Gate
public import proofs.«01_k».proof.Proof.Gen.Pre_finite_down
public import proofs.«01_k».proof.Proof.GateKernel
public import Idealize.ShloMosaic.Lib.Quiescent

@[expose] public section

set_option maxRecDepth 65536

noncomputable section

namespace Cert.GateProof

open Idealize.ShloMosaic Idealize.ShloMosaic.TcCoe Idealize.SL.Sem
open Cert.Reals
open scoped BigOperators

instance : Subsingleton (Cert.Pre_finite_down.S_).Idx := ⟨fun a b => funext fun k => k.elim0⟩

/-- The precondition, opened: five arrays of reals. -/
theorem pre_reals (x0 : FVec Ideal Cert.Pre_finite_down.S1x4096x1024 .f32) (x1 : FVec Ideal Cert.Pre_finite_down.S1x1024x2816 .f32)
    (x2 : FVec Ideal Cert.Pre_finite_down.S1x1024x2816 .f32) (x3 : FVec Ideal Cert.Pre_finite_down.S1x2816x1024 .f32)
    (x4 : FVec Ideal Cert.Pre_finite_down.S1x4096x1024 .f32) (h : Cert.Pre_finite_down.fn (F := Ideal) x0 x1 x2 x3 x4 = fun _ => 1#1) :
    (∃ r : Cert.Pre_finite_down.S1x4096x1024.Idx → ℝ, ∀ i, x0 i = (r i : EReal))
      ∧ (∃ r : Cert.Pre_finite_down.S1x1024x2816.Idx → ℝ, ∀ i, x1 i = (r i : EReal))
      ∧ (∃ r : Cert.Pre_finite_down.S1x1024x2816.Idx → ℝ, ∀ i, x2 i = (r i : EReal))
      ∧ (∃ r : Cert.Pre_finite_down.S1x2816x1024.Idx → ℝ, ∀ i, x3 i = (r i : EReal))
      ∧ (∃ r : Cert.Pre_finite_down.S1x4096x1024.Idx → ℝ, ∀ i, x4 i = (r i : EReal)) := by
  have e := congrFun h (fun a => a.elim0)
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_of_test _ _ (fun _ => rfl) (Host.reduce_andi_all _ _ _ _ _ e0),
    real_of_test _ _ (fun _ => rfl) (Host.reduce_andi_all _ _ _ _ _ e1),
    real_of_test _ _ (fun _ => rfl) (Host.reduce_andi_all _ _ _ _ _ e2),
    real_of_test _ _ (fun _ => rfl) (Host.reduce_andi_all _ _ _ _ _ e3),
    real_of_test _ _ (fun _ => rfl) (Host.reduce_andi_all _ _ _ _ _ e4)⟩

/-- The kernel's text and the idealized one are the same, so they say the same at machine floats. -/
theorem texts_eq : Cert.quiescent_Gate = ∀ (m : (ℓ : Loc Cert.GateIdeal.nD Cert.GateIdeal.τ Cert.GateIdeal.sig) → Buf (Elt Bits) ℓ)
    (g : Dev Cert.GateIdeal.nD → PrngReg), True →
    θ_run (Cert.GateIdeal.defs (F := Bits)) (onTc (τ := Cert.GateIdeal.τ) (Cert.GateIdeal.main (F := Bits))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0) := by
  sl_kernel_rfl

/-- The kernel's frame: the idealized text's run, read at machine floats. -/
theorem frame : Cert.quiescent_Gate := texts_eq.mpr fun m ρ _ => Cert.GateIdeal.Run.frame (F := Bits) m ρ

/-- The idealized kernel's frame. -/
theorem frame_ideal : Cert.quiescent_GateIdeal := fun m ρ _ => Cert.GateIdeal.Run.frame (F := Ideal) m ρ

/-- The reference's frame. -/
theorem frame_ref : Cert.quiescent_GateRefIdeal := fun m ρ _ =>
  (θ_run Cert.GateRefIdeal.defs _ _).mono (fun r h => ⟨fun c => (h c).2.2.2.2.2, Idealize.ShloMosaic.sem_eq_zero_of_no_sems (by decide) r.2⟩)
    (Cert.GateRefIdeal.Value.run (F := Ideal) m ρ)

section value
open Cert.GateIdeal Cert.GateIdeal.Gen Cert.GateIdeal.Val
open Cert.GateRefIdeal.Val (pr actr dgr dur dwr act_eq dgate_eq dup_eq dwg_eq dwu_eq)

/-- The value: on finite arguments the five results are the gated activation and the derivative's four. -/
theorem value : Cert.algebraic_GateIdeal_GateRefIdeal_pre_finite_down := by
  intro m ρ m' ρ' hpre hagree
  have hr := fun c => pre_reals _ _ _ _ _ (hpre c)
  choose b0 b1 b2 b3 b4 using hr
  choose a0 h0 using b0
  choose a1 h1 using b1
  choose a2 h2 using b2
  choose a3 h3 using b3
  choose a4 h4 using b4
  refine ⟨fun c => tabOut (actr (a0 c) (a1 c) (a2 c)), fun c => tabOut (dgr (a0 c) (a1 c) (a2 c) (a3 c) (a4 c)),
    fun c => tabOut (dur (a0 c) (a1 c) (a3 c) (a4 c)), fun c => dwOut (a0 c) (dgr (a0 c) (a1 c) (a2 c) (a3 c) (a4 c)),
    fun c => dwOut (a0 c) (dur (a0 c) (a1 c) (a3 c) (a4 c)), ?_, ?_⟩
  · refine (θ_run defs _ _).mono (fun _ h c => ⟨
      (h.1 c _ (Run.mem_uc main_v13_2 (by decide))).trans (((Run.W4_of m c main_v13_2 (by decide)).trans (W3_of m c main_v13_2 (by decide))).trans (Run.W2_out m c).2.2 |>.trans ?_),
      (h.1 c _ (Run.mem_uc main_v16_0 (by decide))).trans ((Run.W4_out m c).1.trans ?_),
      (h.1 c _ (Run.mem_uc main_v16_1 (by decide))).trans ((Run.W4_out m c).2.1.trans ?_),
      (h.1 c _ (Run.mem_uc main_v16_2 (by decide))).trans ((Run.W4_out m c).2.2.1.trans ?_),
      (h.1 c _ (Run.mem_uc main_v16_3 (by decide))).trans ((Run.W4_out m c).2.2.2.trans ?_),
      (h.1 c _ (Run.mem_uc main_arg0 (by decide))).trans (Run.W4_kept m c main_arg0 (by decide) (by decide) (by decide) (by decide)),
      (h.1 c _ (Run.mem_uc main_arg1 (by decide))).trans (Run.W4_kept m c main_arg1 (by decide) (by decide) (by decide) (by decide)),
      (h.1 c _ (Run.mem_uc main_arg2 (by decide))).trans (Run.W4_kept m c main_arg2 (by decide) (by decide) (by decide) (by decide)),
      (h.1 c _ (Run.mem_uc main_arg3 (by decide))).trans (Run.W4_kept m c main_arg3 (by decide) (by decide) (by decide) (by decide)),
      (h.1 c _ (Run.mem_uc main_arg4 (by decide))).trans (Run.W4_kept m c main_arg4 (by decide) (by decide) (by decide) (by decide))⟩)
      (Run.run_all (F := Ideal) m ρ)
    · exact final0_5 m c _ _ _ (h0 c) (h1 c) (h2 c)
    · exact final1_5 m c _ _ _ _ _ (h0 c) (h1 c) (h2 c) (h3 c) (h4 c)
    · exact final1_6 m c _ _ _ _ (h0 c) (h1 c) (h3 c) (h4 c)
    · exact final1_7 m c _ _ _ _ _ (h0 c) (h1 c) (h2 c) (h3 c) (h4 c)
    · exact final1_8 m c _ _ _ _ (h0 c) (h1 c) (h3 c) (h4 c)
  · refine (θ_run Cert.GateRefIdeal.defs _ _).mono (fun _ h c => ⟨(h c).1.trans ?_, (h c).2.1.trans ?_, (h c).2.2.1.trans ?_, (h c).2.2.2.1.trans ?_,
      (h c).2.2.2.2.1.trans ?_, (h c).2.2.2.2.2⟩) (Cert.GateRefIdeal.Value.run (F := Ideal) m' ρ')
    · obtain ⟨e0, e1, e2, e3, e4⟩ := hagree c
      rw [Cert.GateRefIdeal.Read.val_main_v33_eq, e0, e1, e2]
      funext j
      obtain ⟨t, f, rfl⟩ : ∃ (t : Fin 4096) (f : Fin 2816), j = ix2 t f := ⟨_, _, eq_ix2 j⟩
      exact act_eq _ _ _ _ _ _ (h0 c) (h1 c) (h2 c) t f
    · obtain ⟨e0, e1, e2, e3, e4⟩ := hagree c
      rw [Cert.GateRefIdeal.Read.val_main_v35_eq, e0, e1, e2, e3, e4]
      funext j
      obtain ⟨t, f, rfl⟩ : ∃ (t : Fin 4096) (f : Fin 2816), j = ix2 t f := ⟨_, _, eq_ix2 j⟩
      exact dgate_eq _ _ _ _ _ _ _ _ _ _ (h0 c) (h1 c) (h2 c) (h3 c) (h4 c) t f
    · obtain ⟨e0, e1, e2, e3, e4⟩ := hagree c
      rw [Cert.GateRefIdeal.Read.val_main_v37_eq, e0, e1, e3, e4]
      funext j
      obtain ⟨t, f, rfl⟩ : ∃ (t : Fin 4096) (f : Fin 2816), j = ix2 t f := ⟨_, _, eq_ix2 j⟩
      exact dup_eq _ _ _ _ _ _ _ _ (h0 c) (h1 c) (h3 c) (h4 c) t f
    · obtain ⟨e0, e1, e2, e3, e4⟩ := hagree c
      rw [Cert.GateRefIdeal.Read.val_main_v42_eq, e0, e1, e2, e3, e4]
      funext j
      obtain ⟨a, b, n, d, rfl⟩ : ∃ (a : Fin 2) (b : Fin 4) (n : Fin 352) (d : Fin 1024), j = ix4 a b n d := ⟨_, _, _, _, eq_ix4 j⟩
      exact dwg_eq _ _ _ _ _ _ _ _ _ _ (h0 c) (h1 c) (h2 c) (h3 c) (h4 c) a b n d
    · obtain ⟨e0, e1, e2, e3, e4⟩ := hagree c
      rw [Cert.GateRefIdeal.Read.val_main_v47_eq, e0, e1, e3, e4]
      funext j
      obtain ⟨a, b, n, d, rfl⟩ : ∃ (a : Fin 2) (b : Fin 4) (n : Fin 352) (d : Fin 1024), j = ix4 a b n d := ⟨_, _, _, _, eq_ix4 j⟩
      exact dwu_eq _ _ _ _ _ _ _ _ (h0 c) (h1 c) (h3 c) (h4 c) a b n d

end value

end Cert.GateProof
end
-- ==== Proof.lean ====
module

public import proofs.«01_k».proof.Defs
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Pre_finite_inproj
public import proofs.«01_k».proof.Proof.Inproj
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_finite_loss
public import proofs.«01_k».proof.Proof.Loss
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_finite_up
public import proofs.«01_k».proof.Proof.Up
public import proofs.«01_k».proof.Proof.Gen.Mixers
public import proofs.«01_k».proof.Proof.Gen.Mixers.Skeleton
public import proofs.«01_k».proof.Proof.Gen.Mixers.Launch
public import proofs.«01_k».proof.Proof.Gen.Mixers.Points
public import proofs.«01_k».proof.Proof.Gen.Mixers.Regions
public import proofs.«01_k».proof.Proof.Gen.MixersIdeal
public import proofs.«01_k».proof.Proof.Gen.MixersIdeal.Skeleton
public import proofs.«01_k».proof.Proof.Gen.MixersIdeal.Launch
public import proofs.«01_k».proof.Proof.Gen.MixersIdeal.Points
public import proofs.«01_k».proof.Proof.Gen.MixersIdeal.Regions
public import proofs.«01_k».proof.Proof.Gen.MixersRefIdeal
public import proofs.«01_k».proof.Proof.Gen.MixersRefIdeal.Run
public import proofs.«01_k».proof.Proof.Gen.MixersRefIdeal.Read
public import proofs.«01_k».proof.Proof.Gen.Pre_finite_mixers
public import proofs.«01_k».proof.Proof.Mixers
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Regions
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Regions
public import proofs.«01_k».proof.Proof.Gen.GateRefIdeal
public import proofs.«01_k».proof.Proof.Gen.GateRefIdeal.Run
public import proofs.«01_k».proof.Proof.Gen.GateRefIdeal.Read
public import proofs.«01_k».proof.Proof.Gen.Pre_finite_down
public import proofs.«01_k».proof.Proof.Gate
public import Idealize.ShloMosaic.Adequacy
public import Idealize.ShloMosaic.Init

@[expose] public section

noncomputable section

namespace Cert.Proof

open Idealize.ShloMosaic Idealize.SL.Sem

theorem claim : Cert.Claim := ⟨Cert.Inproj.Gen.facts, Cert.InprojIdeal.Gen.facts, Cert.InprojRefIdeal.Gen.facts, Cert.Loss.Gen.facts, Cert.LossIdeal.Gen.facts, Cert.LossRefIdeal.Gen.facts, Cert.Up.Gen.facts, Cert.UpIdeal.Gen.facts, Cert.UpRefIdeal.Gen.facts, Cert.Mixers.Gen.facts, Cert.MixersIdeal.Gen.facts, Cert.MixersRefIdeal.Gen.facts, Cert.Gate.Gen.facts, Cert.GateIdeal.Gen.facts, Cert.GateRefIdeal.Gen.facts, Cert.Pre_finite_inproj.Gen.facts, Cert.Pre_finite_loss.Gen.facts, Cert.Pre_finite_up.Gen.facts, Cert.Pre_finite_mixers.Gen.facts, Cert.Pre_finite_down.Gen.facts,
  fun m ρ _ => Cert.Inproj.Gen.frame m ρ,
  fun m ρ _ => Cert.InprojIdeal.Gen.frame m ρ,
  fun m ρ _ => Cert.InprojIdeal.Gen.frame m ρ,
  Cert.InprojProof.frame_ref,
  fun m ρ _ => Cert.InprojProof.frame_ref m ρ trivial,
  fun m ρ _ => Cert.Loss.Gen.frame m ρ,
  fun m ρ _ => Cert.LossIdeal.Gen.frame m ρ,
  fun m ρ _ => Cert.LossIdeal.Gen.frame m ρ,
  Cert.LossProof.frame_ref,
  fun m ρ _ => Cert.LossProof.frame_ref m ρ trivial,
  fun m ρ _ => Cert.Up.Gen.frame m ρ,
  fun m ρ _ => Cert.UpIdeal.Gen.frame m ρ,
  fun m ρ _ => Cert.UpIdeal.Gen.frame m ρ,
  Cert.UpProof.frame_ref,
  fun m ρ _ => Cert.UpProof.frame_ref m ρ trivial,
  fun m ρ _ => Cert.MixersProof.frame m ρ trivial,
  fun m ρ _ => Cert.MixersProof.frame_ideal m ρ trivial,
  fun m ρ _ => Cert.MixersProof.frame_ideal m ρ trivial,
  Cert.MixersProof.frame_ref,
  fun m ρ _ => Cert.MixersProof.frame_ref m ρ trivial,
  fun m ρ _ => Cert.GateProof.frame m ρ trivial,
  fun m ρ _ => Cert.GateProof.frame_ideal m ρ trivial,
  fun m ρ _ => Cert.GateProof.frame_ideal m ρ trivial,
  Cert.GateProof.frame_ref,
  fun m ρ _ => Cert.GateProof.frame_ref m ρ trivial,
  trivial,
  Cert.InprojProof.value,
  trivial,
  Cert.LossProof.value,
  trivial,
  Cert.UpProof.value,
  trivial,
  Cert.MixersProof.value,
  trivial,
  Cert.GateProof.value⟩

end Cert.Proof

end
